-- ==== Defs.lean ====
def Pre_Din (m : (ℓ : Loc Cert.Din.nD Cert.Din.τ Cert.Din.sig) → Buf (Elt Bits) ℓ) : Prop :=
  True

def Pre_DinIdeal (m : (ℓ : Loc Cert.DinIdeal.nD Cert.DinIdeal.τ Cert.DinIdeal.sig) → Buf (Elt Ideal) ℓ) : Prop :=
  True

def Pre_DinRefIdeal (m : (ℓ : Loc Cert.DinRefIdeal.nD Cert.DinRefIdeal.τ Cert.DinRefIdeal.sig) → Buf (Elt Ideal) ℓ) : Prop :=
  True

def Pre_Ffn (m : (ℓ : Loc Cert.Ffn.nD Cert.Ffn.τ Cert.Ffn.sig) → Buf (Elt Bits) ℓ) : Prop :=
  True

def Pre_FfnIdeal (m : (ℓ : Loc Cert.FfnIdeal.nD Cert.FfnIdeal.τ Cert.FfnIdeal.sig) → Buf (Elt Ideal) ℓ) : Prop :=
  True

def Pre_FfnIdeal_ffn_finite [hPre_ffn_finite : Cert.Pre_ffn_finite.Facts] (m : (ℓ : Loc Cert.FfnIdeal.nD Cert.FfnIdeal.τ Cert.FfnIdeal.sig) → Buf (Elt Ideal) ℓ) : Prop :=
  ∀ c : Dev Cert.FfnIdeal.nD,
    (Cert.Pre_ffn_finite.fn (F := Ideal) (m ((c.tc : Thread Cert.FfnIdeal.nD Cert.FfnIdeal.τ).loc Cert.FfnIdeal.main_arg0)) (m ((c.tc : Thread Cert.FfnIdeal.nD Cert.FfnIdeal.τ).loc Cert.FfnIdeal.main_arg1)) (m ((c.tc : Thread Cert.FfnIdeal.nD Cert.FfnIdeal.τ).loc Cert.FfnIdeal.main_arg2)) (m ((c.tc : Thread Cert.FfnIdeal.nD Cert.FfnIdeal.τ).loc Cert.FfnIdeal.main_arg3)) (m ((c.tc : Thread Cert.FfnIdeal.nD Cert.FfnIdeal.τ).loc Cert.FfnIdeal.main_arg4)) (m ((c.tc : Thread Cert.FfnIdeal.nD Cert.FfnIdeal.τ).loc Cert.FfnIdeal.main_arg5)) (m ((c.tc : Thread Cert.FfnIdeal.nD Cert.FfnIdeal.τ).loc Cert.FfnIdeal.main_arg6)) (m ((c.tc : Thread Cert.FfnIdeal.nD Cert.FfnIdeal.τ).loc Cert.FfnIdeal.main_arg7))).1 = (fun _ => 1#1)
    ∧ (Cert.Pre_ffn_finite.fn (F := Ideal) (m ((c.tc : Thread Cert.FfnIdeal.nD Cert.FfnIdeal.τ).loc Cert.FfnIdeal.main_arg0)) (m ((c.tc : Thread Cert.FfnIdeal.nD Cert.FfnIdeal.τ).loc Cert.FfnIdeal.main_arg1)) (m ((c.tc : Thread Cert.FfnIdeal.nD Cert.FfnIdeal.τ).loc Cert.FfnIdeal.main_arg2)) (m ((c.tc : Thread Cert.FfnIdeal.nD Cert.FfnIdeal.τ).loc Cert.FfnIdeal.main_arg3)) (m ((c.tc : Thread Cert.FfnIdeal.nD Cert.FfnIdeal.τ).loc Cert.FfnIdeal.main_arg4)) (m ((c.tc : Thread Cert.FfnIdeal.nD Cert.FfnIdeal.τ).loc Cert.FfnIdeal.main_arg5)) (m ((c.tc : Thread Cert.FfnIdeal.nD Cert.FfnIdeal.τ).loc Cert.FfnIdeal.main_arg6)) (m ((c.tc : Thread Cert.FfnIdeal.nD Cert.FfnIdeal.τ).loc Cert.FfnIdeal.main_arg7))).2.1 = (fun _ => 1#1)
    ∧ (Cert.Pre_ffn_finite.fn (F := Ideal) (m ((c.tc : Thread Cert.FfnIdeal.nD Cert.FfnIdeal.τ).loc Cert.FfnIdeal.main_arg0)) (m ((c.tc : Thread Cert.FfnIdeal.nD Cert.FfnIdeal.τ).loc Cert.FfnIdeal.main_arg1)) (m ((c.tc : Thread Cert.FfnIdeal.nD Cert.FfnIdeal.τ).loc Cert.FfnIdeal.main_arg2)) (m ((c.tc : Thread Cert.FfnIdeal.nD Cert.FfnIdeal.τ).loc Cert.FfnIdeal.main_arg3)) (m ((c.tc : Thread Cert.FfnIdeal.nD Cert.FfnIdeal.τ).loc Cert.FfnIdeal.main_arg4)) (m ((c.tc : Thread Cert.FfnIdeal.nD Cert.FfnIdeal.τ).loc Cert.FfnIdeal.main_arg5)) (m ((c.tc : Thread Cert.FfnIdeal.nD Cert.FfnIdeal.τ).loc Cert.FfnIdeal.main_arg6)) (m ((c.tc : Thread Cert.FfnIdeal.nD Cert.FfnIdeal.τ).loc Cert.FfnIdeal.main_arg7))).2.2.1 = (fun _ => 1#1)
    ∧ (Cert.Pre_ffn_finite.fn (F := Ideal) (m ((c.tc : Thread Cert.FfnIdeal.nD Cert.FfnIdeal.τ).loc Cert.FfnIdeal.main_arg0)) (m ((c.tc : Thread Cert.FfnIdeal.nD Cert.FfnIdeal.τ).loc Cert.FfnIdeal.main_arg1)) (m ((c.tc : Thread Cert.FfnIdeal.nD Cert.FfnIdeal.τ).loc Cert.FfnIdeal.main_arg2)) (m ((c.tc : Thread Cert.FfnIdeal.nD Cert.FfnIdeal.τ).loc Cert.FfnIdeal.main_arg3)) (m ((c.tc : Thread Cert.FfnIdeal.nD Cert.FfnIdeal.τ).loc Cert.FfnIdeal.main_arg4)) (m ((c.tc : Thread Cert.FfnIdeal.nD Cert.FfnIdeal.τ).loc Cert.FfnIdeal.main_arg5)) (m ((c.tc : Thread Cert.FfnIdeal.nD Cert.FfnIdeal.τ).loc Cert.FfnIdeal.main_arg6)) (m ((c.tc : Thread Cert.FfnIdeal.nD Cert.FfnIdeal.τ).loc Cert.FfnIdeal.main_arg7))).2.2.2.1 = (fun _ => 1#1)
    ∧ (Cert.Pre_ffn_finite.fn (F := Ideal) (m ((c.tc : Thread Cert.FfnIdeal.nD Cert.FfnIdeal.τ).loc Cert.FfnIdeal.main_arg0)) (m ((c.tc : Thread Cert.FfnIdeal.nD Cert.FfnIdeal.τ).loc Cert.FfnIdeal.main_arg1)) (m ((c.tc : Thread Cert.FfnIdeal.nD Cert.FfnIdeal.τ).loc Cert.FfnIdeal.main_arg2)) (m ((c.tc : Thread Cert.FfnIdeal.nD Cert.FfnIdeal.τ).loc Cert.FfnIdeal.main_arg3)) (m ((c.tc : Thread Cert.FfnIdeal.nD Cert.FfnIdeal.τ).loc Cert.FfnIdeal.main_arg4)) (m ((c.tc : Thread Cert.FfnIdeal.nD Cert.FfnIdeal.τ).loc Cert.FfnIdeal.main_arg5)) (m ((c.tc : Thread Cert.FfnIdeal.nD Cert.FfnIdeal.τ).loc Cert.FfnIdeal.main_arg6)) (m ((c.tc : Thread Cert.FfnIdeal.nD Cert.FfnIdeal.τ).loc Cert.FfnIdeal.main_arg7))).2.2.2.2.1 = (fun _ => 1#1)
    ∧ (Cert.Pre_ffn_finite.fn (F := Ideal) (m ((c.tc : Thread Cert.FfnIdeal.nD Cert.FfnIdeal.τ).loc Cert.FfnIdeal.main_arg0)) (m ((c.tc : Thread Cert.FfnIdeal.nD Cert.FfnIdeal.τ).loc Cert.FfnIdeal.main_arg1)) (m ((c.tc : Thread Cert.FfnIdeal.nD Cert.FfnIdeal.τ).loc Cert.FfnIdeal.main_arg2)) (m ((c.tc : Thread Cert.FfnIdeal.nD Cert.FfnIdeal.τ).loc Cert.FfnIdeal.main_arg3)) (m ((c.tc : Thread Cert.FfnIdeal.nD Cert.FfnIdeal.τ).loc Cert.FfnIdeal.main_arg4)) (m ((c.tc : Thread Cert.FfnIdeal.nD Cert.FfnIdeal.τ).loc Cert.FfnIdeal.main_arg5)) (m ((c.tc : Thread Cert.FfnIdeal.nD Cert.FfnIdeal.τ).loc Cert.FfnIdeal.main_arg6)) (m ((c.tc : Thread Cert.FfnIdeal.nD Cert.FfnIdeal.τ).loc Cert.FfnIdeal.main_arg7))).2.2.2.2.2.1 = (fun _ => 1#1)
    ∧ (Cert.Pre_ffn_finite.fn (F := Ideal) (m ((c.tc : Thread Cert.FfnIdeal.nD Cert.FfnIdeal.τ).loc Cert.FfnIdeal.main_arg0)) (m ((c.tc : Thread Cert.FfnIdeal.nD Cert.FfnIdeal.τ).loc Cert.FfnIdeal.main_arg1)) (m ((c.tc : Thread Cert.FfnIdeal.nD Cert.FfnIdeal.τ).loc Cert.FfnIdeal.main_arg2)) (m ((c.tc : Thread Cert.FfnIdeal.nD Cert.FfnIdeal.τ).loc Cert.FfnIdeal.main_arg3)) (m ((c.tc : Thread Cert.FfnIdeal.nD Cert.FfnIdeal.τ).loc Cert.FfnIdeal.main_arg4)) (m ((c.tc : Thread Cert.FfnIdeal.nD Cert.FfnIdeal.τ).loc Cert.FfnIdeal.main_arg5)) (m ((c.tc : Thread Cert.FfnIdeal.nD Cert.FfnIdeal.τ).loc Cert.FfnIdeal.main_arg6)) (m ((c.tc : Thread Cert.FfnIdeal.nD Cert.FfnIdeal.τ).loc Cert.FfnIdeal.main_arg7))).2.2.2.2.2.2.1 = (fun _ => 1#1)
    ∧ (Cert.Pre_ffn_finite.fn (F := Ideal) (m ((c.tc : Thread Cert.FfnIdeal.nD Cert.FfnIdeal.τ).loc Cert.FfnIdeal.main_arg0)) (m ((c.tc : Thread Cert.FfnIdeal.nD Cert.FfnIdeal.τ).loc Cert.FfnIdeal.main_arg1)) (m ((c.tc : Thread Cert.FfnIdeal.nD Cert.FfnIdeal.τ).loc Cert.FfnIdeal.main_arg2)) (m ((c.tc : Thread Cert.FfnIdeal.nD Cert.FfnIdeal.τ).loc Cert.FfnIdeal.main_arg3)) (m ((c.tc : Thread Cert.FfnIdeal.nD Cert.FfnIdeal.τ).loc Cert.FfnIdeal.main_arg4)) (m ((c.tc : Thread Cert.FfnIdeal.nD Cert.FfnIdeal.τ).loc Cert.FfnIdeal.main_arg5)) (m ((c.tc : Thread Cert.FfnIdeal.nD Cert.FfnIdeal.τ).loc Cert.FfnIdeal.main_arg6)) (m ((c.tc : Thread Cert.FfnIdeal.nD Cert.FfnIdeal.τ).loc Cert.FfnIdeal.main_arg7))).2.2.2.2.2.2.2 = (fun _ => 1#1)

def Pre_FfnRefIdeal (m : (ℓ : Loc Cert.FfnRefIdeal.nD Cert.FfnRefIdeal.τ Cert.FfnRefIdeal.sig) → Buf (Elt Ideal) ℓ) : Prop :=
  True

def Pre_FfnRefIdeal_ffn_finite [hPre_ffn_finite : Cert.Pre_ffn_finite.Facts] (m : (ℓ : Loc Cert.FfnRefIdeal.nD Cert.FfnRefIdeal.τ Cert.FfnRefIdeal.sig) → Buf (Elt Ideal) ℓ) : Prop :=
  ∀ c : Dev Cert.FfnRefIdeal.nD,
    (Cert.Pre_ffn_finite.fn (F := Ideal) (m ((c.tc : Thread Cert.FfnRefIdeal.nD Cert.FfnRefIdeal.τ).loc Cert.FfnRefIdeal.main_arg0)) (m ((c.tc : Thread Cert.FfnRefIdeal.nD Cert.FfnRefIdeal.τ).loc Cert.FfnRefIdeal.main_arg1)) (m ((c.tc : Thread Cert.FfnRefIdeal.nD Cert.FfnRefIdeal.τ).loc Cert.FfnRefIdeal.main_arg2)) (m ((c.tc : Thread Cert.FfnRefIdeal.nD Cert.FfnRefIdeal.τ).loc Cert.FfnRefIdeal.main_arg3)) (m ((c.tc : Thread Cert.FfnRefIdeal.nD Cert.FfnRefIdeal.τ).loc Cert.FfnRefIdeal.main_arg4)) (m ((c.tc : Thread Cert.FfnRefIdeal.nD Cert.FfnRefIdeal.τ).loc Cert.FfnRefIdeal.main_arg5)) (m ((c.tc : Thread Cert.FfnRefIdeal.nD Cert.FfnRefIdeal.τ).loc Cert.FfnRefIdeal.main_arg6)) (m ((c.tc : Thread Cert.FfnRefIdeal.nD Cert.FfnRefIdeal.τ).loc Cert.FfnRefIdeal.main_arg7))).1 = (fun _ => 1#1)
    ∧ (Cert.Pre_ffn_finite.fn (F := Ideal) (m ((c.tc : Thread Cert.FfnRefIdeal.nD Cert.FfnRefIdeal.τ).loc Cert.FfnRefIdeal.main_arg0)) (m ((c.tc : Thread Cert.FfnRefIdeal.nD Cert.FfnRefIdeal.τ).loc Cert.FfnRefIdeal.main_arg1)) (m ((c.tc : Thread Cert.FfnRefIdeal.nD Cert.FfnRefIdeal.τ).loc Cert.FfnRefIdeal.main_arg2)) (m ((c.tc : Thread Cert.FfnRefIdeal.nD Cert.FfnRefIdeal.τ).loc Cert.FfnRefIdeal.main_arg3)) (m ((c.tc : Thread Cert.FfnRefIdeal.nD Cert.FfnRefIdeal.τ).loc Cert.FfnRefIdeal.main_arg4)) (m ((c.tc : Thread Cert.FfnRefIdeal.nD Cert.FfnRefIdeal.τ).loc Cert.FfnRefIdeal.main_arg5)) (m ((c.tc : Thread Cert.FfnRefIdeal.nD Cert.FfnRefIdeal.τ).loc Cert.FfnRefIdeal.main_arg6)) (m ((c.tc : Thread Cert.FfnRefIdeal.nD Cert.FfnRefIdeal.τ).loc Cert.FfnRefIdeal.main_arg7))).2.1 = (fun _ => 1#1)
    ∧ (Cert.Pre_ffn_finite.fn (F := Ideal) (m ((c.tc : Thread Cert.FfnRefIdeal.nD Cert.FfnRefIdeal.τ).loc Cert.FfnRefIdeal.main_arg0)) (m ((c.tc : Thread Cert.FfnRefIdeal.nD Cert.FfnRefIdeal.τ).loc Cert.FfnRefIdeal.main_arg1)) (m ((c.tc : Thread Cert.FfnRefIdeal.nD Cert.FfnRefIdeal.τ).loc Cert.FfnRefIdeal.main_arg2)) (m ((c.tc : Thread Cert.FfnRefIdeal.nD Cert.FfnRefIdeal.τ).loc Cert.FfnRefIdeal.main_arg3)) (m ((c.tc : Thread Cert.FfnRefIdeal.nD Cert.FfnRefIdeal.τ).loc Cert.FfnRefIdeal.main_arg4)) (m ((c.tc : Thread Cert.FfnRefIdeal.nD Cert.FfnRefIdeal.τ).loc Cert.FfnRefIdeal.main_arg5)) (m ((c.tc : Thread Cert.FfnRefIdeal.nD Cert.FfnRefIdeal.τ).loc Cert.FfnRefIdeal.main_arg6)) (m ((c.tc : Thread Cert.FfnRefIdeal.nD Cert.FfnRefIdeal.τ).loc Cert.FfnRefIdeal.main_arg7))).2.2.1 = (fun _ => 1#1)
    ∧ (Cert.Pre_ffn_finite.fn (F := Ideal) (m ((c.tc : Thread Cert.FfnRefIdeal.nD Cert.FfnRefIdeal.τ).loc Cert.FfnRefIdeal.main_arg0)) (m ((c.tc : Thread Cert.FfnRefIdeal.nD Cert.FfnRefIdeal.τ).loc Cert.FfnRefIdeal.main_arg1)) (m ((c.tc : Thread Cert.FfnRefIdeal.nD Cert.FfnRefIdeal.τ).loc Cert.FfnRefIdeal.main_arg2)) (m ((c.tc : Thread Cert.FfnRefIdeal.nD Cert.FfnRefIdeal.τ).loc Cert.FfnRefIdeal.main_arg3)) (m ((c.tc : Thread Cert.FfnRefIdeal.nD Cert.FfnRefIdeal.τ).loc Cert.FfnRefIdeal.main_arg4)) (m ((c.tc : Thread Cert.FfnRefIdeal.nD Cert.FfnRefIdeal.τ).loc Cert.FfnRefIdeal.main_arg5)) (m ((c.tc : Thread Cert.FfnRefIdeal.nD Cert.FfnRefIdeal.τ).loc Cert.FfnRefIdeal.main_arg6)) (m ((c.tc : Thread Cert.FfnRefIdeal.nD Cert.FfnRefIdeal.τ).loc Cert.FfnRefIdeal.main_arg7))).2.2.2.1 = (fun _ => 1#1)
    ∧ (Cert.Pre_ffn_finite.fn (F := Ideal) (m ((c.tc : Thread Cert.FfnRefIdeal.nD Cert.FfnRefIdeal.τ).loc Cert.FfnRefIdeal.main_arg0)) (m ((c.tc : Thread Cert.FfnRefIdeal.nD Cert.FfnRefIdeal.τ).loc Cert.FfnRefIdeal.main_arg1)) (m ((c.tc : Thread Cert.FfnRefIdeal.nD Cert.FfnRefIdeal.τ).loc Cert.FfnRefIdeal.main_arg2)) (m ((c.tc : Thread Cert.FfnRefIdeal.nD Cert.FfnRefIdeal.τ).loc Cert.FfnRefIdeal.main_arg3)) (m ((c.tc : Thread Cert.FfnRefIdeal.nD Cert.FfnRefIdeal.τ).loc Cert.FfnRefIdeal.main_arg4)) (m ((c.tc : Thread Cert.FfnRefIdeal.nD Cert.FfnRefIdeal.τ).loc Cert.FfnRefIdeal.main_arg5)) (m ((c.tc : Thread Cert.FfnRefIdeal.nD Cert.FfnRefIdeal.τ).loc Cert.FfnRefIdeal.main_arg6)) (m ((c.tc : Thread Cert.FfnRefIdeal.nD Cert.FfnRefIdeal.τ).loc Cert.FfnRefIdeal.main_arg7))).2.2.2.2.1 = (fun _ => 1#1)
    ∧ (Cert.Pre_ffn_finite.fn (F := Ideal) (m ((c.tc : Thread Cert.FfnRefIdeal.nD Cert.FfnRefIdeal.τ).loc Cert.FfnRefIdeal.main_arg0)) (m ((c.tc : Thread Cert.FfnRefIdeal.nD Cert.FfnRefIdeal.τ).loc Cert.FfnRefIdeal.main_arg1)) (m ((c.tc : Thread Cert.FfnRefIdeal.nD Cert.FfnRefIdeal.τ).loc Cert.FfnRefIdeal.main_arg2)) (m ((c.tc : Thread Cert.FfnRefIdeal.nD Cert.FfnRefIdeal.τ).loc Cert.FfnRefIdeal.main_arg3)) (m ((c.tc : Thread Cert.FfnRefIdeal.nD Cert.FfnRefIdeal.τ).loc Cert.FfnRefIdeal.main_arg4)) (m ((c.tc : Thread Cert.FfnRefIdeal.nD Cert.FfnRefIdeal.τ).loc Cert.FfnRefIdeal.main_arg5)) (m ((c.tc : Thread Cert.FfnRefIdeal.nD Cert.FfnRefIdeal.τ).loc Cert.FfnRefIdeal.main_arg6)) (m ((c.tc : Thread Cert.FfnRefIdeal.nD Cert.FfnRefIdeal.τ).loc Cert.FfnRefIdeal.main_arg7))).2.2.2.2.2.1 = (fun _ => 1#1)
    ∧ (Cert.Pre_ffn_finite.fn (F := Ideal) (m ((c.tc : Thread Cert.FfnRefIdeal.nD Cert.FfnRefIdeal.τ).loc Cert.FfnRefIdeal.main_arg0)) (m ((c.tc : Thread Cert.FfnRefIdeal.nD Cert.FfnRefIdeal.τ).loc Cert.FfnRefIdeal.main_arg1)) (m ((c.tc : Thread Cert.FfnRefIdeal.nD Cert.FfnRefIdeal.τ).loc Cert.FfnRefIdeal.main_arg2)) (m ((c.tc : Thread Cert.FfnRefIdeal.nD Cert.FfnRefIdeal.τ).loc Cert.FfnRefIdeal.main_arg3)) (m ((c.tc : Thread Cert.FfnRefIdeal.nD Cert.FfnRefIdeal.τ).loc Cert.FfnRefIdeal.main_arg4)) (m ((c.tc : Thread Cert.FfnRefIdeal.nD Cert.FfnRefIdeal.τ).loc Cert.FfnRefIdeal.main_arg5)) (m ((c.tc : Thread Cert.FfnRefIdeal.nD Cert.FfnRefIdeal.τ).loc Cert.FfnRefIdeal.main_arg6)) (m ((c.tc : Thread Cert.FfnRefIdeal.nD Cert.FfnRefIdeal.τ).loc Cert.FfnRefIdeal.main_arg7))).2.2.2.2.2.2.1 = (fun _ => 1#1)
    ∧ (Cert.Pre_ffn_finite.fn (F := Ideal) (m ((c.tc : Thread Cert.FfnRefIdeal.nD Cert.FfnRefIdeal.τ).loc Cert.FfnRefIdeal.main_arg0)) (m ((c.tc : Thread Cert.FfnRefIdeal.nD Cert.FfnRefIdeal.τ).loc Cert.FfnRefIdeal.main_arg1)) (m ((c.tc : Thread Cert.FfnRefIdeal.nD Cert.FfnRefIdeal.τ).loc Cert.FfnRefIdeal.main_arg2)) (m ((c.tc : Thread Cert.FfnRefIdeal.nD Cert.FfnRefIdeal.τ).loc Cert.FfnRefIdeal.main_arg3)) (m ((c.tc : Thread Cert.FfnRefIdeal.nD Cert.FfnRefIdeal.τ).loc Cert.FfnRefIdeal.main_arg4)) (m ((c.tc : Thread Cert.FfnRefIdeal.nD Cert.FfnRefIdeal.τ).loc Cert.FfnRefIdeal.main_arg5)) (m ((c.tc : Thread Cert.FfnRefIdeal.nD Cert.FfnRefIdeal.τ).loc Cert.FfnRefIdeal.main_arg6)) (m ((c.tc : Thread Cert.FfnRefIdeal.nD Cert.FfnRefIdeal.τ).loc Cert.FfnRefIdeal.main_arg7))).2.2.2.2.2.2.2 = (fun _ => 1#1)

def Pre_Table (m : (ℓ : Loc Cert.Table.nD Cert.Table.τ Cert.Table.sig) → Buf (Elt Bits) ℓ) : Prop :=
  True

def Pre_TableIdeal (m : (ℓ : Loc Cert.TableIdeal.nD Cert.TableIdeal.τ Cert.TableIdeal.sig) → Buf (Elt Ideal) ℓ) : Prop :=
  True

def Pre_TableRefIdeal (m : (ℓ : Loc Cert.TableRefIdeal.nD Cert.TableRefIdeal.τ Cert.TableRefIdeal.sig) → Buf (Elt Ideal) ℓ) : Prop :=
  True

def Pre_Back (m : (ℓ : Loc Cert.Back.nD Cert.Back.τ Cert.Back.sig) → Buf (Elt Bits) ℓ) : Prop :=
  True

def Pre_BackIdeal (m : (ℓ : Loc Cert.BackIdeal.nD Cert.BackIdeal.τ Cert.BackIdeal.sig) → Buf (Elt Ideal) ℓ) : Prop :=
  True

def Pre_BackIdeal_back_finite [hPre_back_finite : Cert.Pre_back_finite.Facts] (m : (ℓ : Loc Cert.BackIdeal.nD Cert.BackIdeal.τ Cert.BackIdeal.sig) → Buf (Elt Ideal) ℓ) : Prop :=
  ∀ c : Dev Cert.BackIdeal.nD,
    (Cert.Pre_back_finite.fn (F := Ideal) (m ((c.tc : Thread Cert.BackIdeal.nD Cert.BackIdeal.τ).loc Cert.BackIdeal.main_arg0)) (m ((c.tc : Thread Cert.BackIdeal.nD Cert.BackIdeal.τ).loc Cert.BackIdeal.main_arg1)) (m ((c.tc : Thread Cert.BackIdeal.nD Cert.BackIdeal.τ).loc Cert.BackIdeal.main_arg2)) (m ((c.tc : Thread Cert.BackIdeal.nD Cert.BackIdeal.τ).loc Cert.BackIdeal.main_arg3)) (m ((c.tc : Thread Cert.BackIdeal.nD Cert.BackIdeal.τ).loc Cert.BackIdeal.main_arg4)) (m ((c.tc : Thread Cert.BackIdeal.nD Cert.BackIdeal.τ).loc Cert.BackIdeal.main_arg5)) (m ((c.tc : Thread Cert.BackIdeal.nD Cert.BackIdeal.τ).loc Cert.BackIdeal.main_arg6)) (m ((c.tc : Thread Cert.BackIdeal.nD Cert.BackIdeal.τ).loc Cert.BackIdeal.main_arg7)) (m ((c.tc : Thread Cert.BackIdeal.nD Cert.BackIdeal.τ).loc Cert.BackIdeal.main_arg8)) (m ((c.tc : Thread Cert.BackIdeal.nD Cert.BackIdeal.τ).loc Cert.BackIdeal.main_arg9)) (m ((c.tc : Thread Cert.BackIdeal.nD Cert.BackIdeal.τ).loc Cert.BackIdeal.main_arg10))).1 = (fun _ => 1#1)
    ∧ (Cert.Pre_back_finite.fn (F := Ideal) (m ((c.tc : Thread Cert.BackIdeal.nD Cert.BackIdeal.τ).loc Cert.BackIdeal.main_arg0)) (m ((c.tc : Thread Cert.BackIdeal.nD Cert.BackIdeal.τ).loc Cert.BackIdeal.main_arg1)) (m ((c.tc : Thread Cert.BackIdeal.nD Cert.BackIdeal.τ).loc Cert.BackIdeal.main_arg2)) (m ((c.tc : Thread Cert.BackIdeal.nD Cert.BackIdeal.τ).loc Cert.BackIdeal.main_arg3)) (m ((c.tc : Thread Cert.BackIdeal.nD Cert.BackIdeal.τ).loc Cert.BackIdeal.main_arg4)) (m ((c.tc : Thread Cert.BackIdeal.nD Cert.BackIdeal.τ).loc Cert.BackIdeal.main_arg5)) (m ((c.tc : Thread Cert.BackIdeal.nD Cert.BackIdeal.τ).loc Cert.BackIdeal.main_arg6)) (m ((c.tc : Thread Cert.BackIdeal.nD Cert.BackIdeal.τ).loc Cert.BackIdeal.main_arg7)) (m ((c.tc : Thread Cert.BackIdeal.nD Cert.BackIdeal.τ).loc Cert.BackIdeal.main_arg8)) (m ((c.tc : Thread Cert.BackIdeal.nD Cert.BackIdeal.τ).loc Cert.BackIdeal.main_arg9)) (m ((c.tc : Thread Cert.BackIdeal.nD Cert.BackIdeal.τ).loc Cert.BackIdeal.main_arg10))).2.1 = (fun _ => 1#1)
    ∧ (Cert.Pre_back_finite.fn (F := Ideal) (m ((c.tc : Thread Cert.BackIdeal.nD Cert.BackIdeal.τ).loc Cert.BackIdeal.main_arg0)) (m ((c.tc : Thread Cert.BackIdeal.nD Cert.BackIdeal.τ).loc Cert.BackIdeal.main_arg1)) (m ((c.tc : Thread Cert.BackIdeal.nD Cert.BackIdeal.τ).loc Cert.BackIdeal.main_arg2)) (m ((c.tc : Thread Cert.BackIdeal.nD Cert.BackIdeal.τ).loc Cert.BackIdeal.main_arg3)) (m ((c.tc : Thread Cert.BackIdeal.nD Cert.BackIdeal.τ).loc Cert.BackIdeal.main_arg4)) (m ((c.tc : Thread Cert.BackIdeal.nD Cert.BackIdeal.τ).loc Cert.BackIdeal.main_arg5)) (m ((c.tc : Thread Cert.BackIdeal.nD Cert.BackIdeal.τ).loc Cert.BackIdeal.main_arg6)) (m ((c.tc : Thread Cert.BackIdeal.nD Cert.BackIdeal.τ).loc Cert.BackIdeal.main_arg7)) (m ((c.tc : Thread Cert.BackIdeal.nD Cert.BackIdeal.τ).loc Cert.BackIdeal.main_arg8)) (m ((c.tc : Thread Cert.BackIdeal.nD Cert.BackIdeal.τ).loc Cert.BackIdeal.main_arg9)) (m ((c.tc : Thread Cert.BackIdeal.nD Cert.BackIdeal.τ).loc Cert.BackIdeal.main_arg10))).2.2.1 = (fun _ => 1#1)
    ∧ (Cert.Pre_back_finite.fn (F := Ideal) (m ((c.tc : Thread Cert.BackIdeal.nD Cert.BackIdeal.τ).loc Cert.BackIdeal.main_arg0)) (m ((c.tc : Thread Cert.BackIdeal.nD Cert.BackIdeal.τ).loc Cert.BackIdeal.main_arg1)) (m ((c.tc : Thread Cert.BackIdeal.nD Cert.BackIdeal.τ).loc Cert.BackIdeal.main_arg2)) (m ((c.tc : Thread Cert.BackIdeal.nD Cert.BackIdeal.τ).loc Cert.BackIdeal.main_arg3)) (m ((c.tc : Thread Cert.BackIdeal.nD Cert.BackIdeal.τ).loc Cert.BackIdeal.main_arg4)) (m ((c.tc : Thread Cert.BackIdeal.nD Cert.BackIdeal.τ).loc Cert.BackIdeal.main_arg5)) (m ((c.tc : Thread Cert.BackIdeal.nD Cert.BackIdeal.τ).loc Cert.BackIdeal.main_arg6)) (m ((c.tc : Thread Cert.BackIdeal.nD Cert.BackIdeal.τ).loc Cert.BackIdeal.main_arg7)) (m ((c.tc : Thread Cert.BackIdeal.nD Cert.BackIdeal.τ).loc Cert.BackIdeal.main_arg8)) (m ((c.tc : Thread Cert.BackIdeal.nD Cert.BackIdeal.τ).loc Cert.BackIdeal.main_arg9)) (m ((c.tc : Thread Cert.BackIdeal.nD Cert.BackIdeal.τ).loc Cert.BackIdeal.main_arg10))).2.2.2.1 = (fun _ => 1#1)
    ∧ (Cert.Pre_back_finite.fn (F := Ideal) (m ((c.tc : Thread Cert.BackIdeal.nD Cert.BackIdeal.τ).loc Cert.BackIdeal.main_arg0)) (m ((c.tc : Thread Cert.BackIdeal.nD Cert.BackIdeal.τ).loc Cert.BackIdeal.main_arg1)) (m ((c.tc : Thread Cert.BackIdeal.nD Cert.BackIdeal.τ).loc Cert.BackIdeal.main_arg2)) (m ((c.tc : Thread Cert.BackIdeal.nD Cert.BackIdeal.τ).loc Cert.BackIdeal.main_arg3)) (m ((c.tc : Thread Cert.BackIdeal.nD Cert.BackIdeal.τ).loc Cert.BackIdeal.main_arg4)) (m ((c.tc : Thread Cert.BackIdeal.nD Cert.BackIdeal.τ).loc Cert.BackIdeal.main_arg5)) (m ((c.tc : Thread Cert.BackIdeal.nD Cert.BackIdeal.τ).loc Cert.BackIdeal.main_arg6)) (m ((c.tc : Thread Cert.BackIdeal.nD Cert.BackIdeal.τ).loc Cert.BackIdeal.main_arg7)) (m ((c.tc : Thread Cert.BackIdeal.nD Cert.BackIdeal.τ).loc Cert.BackIdeal.main_arg8)) (m ((c.tc : Thread Cert.BackIdeal.nD Cert.BackIdeal.τ).loc Cert.BackIdeal.main_arg9)) (m ((c.tc : Thread Cert.BackIdeal.nD Cert.BackIdeal.τ).loc Cert.BackIdeal.main_arg10))).2.2.2.2.1 = (fun _ => 1#1)
    ∧ (Cert.Pre_back_finite.fn (F := Ideal) (m ((c.tc : Thread Cert.BackIdeal.nD Cert.BackIdeal.τ).loc Cert.BackIdeal.main_arg0)) (m ((c.tc : Thread Cert.BackIdeal.nD Cert.BackIdeal.τ).loc Cert.BackIdeal.main_arg1)) (m ((c.tc : Thread Cert.BackIdeal.nD Cert.BackIdeal.τ).loc Cert.BackIdeal.main_arg2)) (m ((c.tc : Thread Cert.BackIdeal.nD Cert.BackIdeal.τ).loc Cert.BackIdeal.main_arg3)) (m ((c.tc : Thread Cert.BackIdeal.nD Cert.BackIdeal.τ).loc Cert.BackIdeal.main_arg4)) (m ((c.tc : Thread Cert.BackIdeal.nD Cert.BackIdeal.τ).loc Cert.BackIdeal.main_arg5)) (m ((c.tc : Thread Cert.BackIdeal.nD Cert.BackIdeal.τ).loc Cert.BackIdeal.main_arg6)) (m ((c.tc : Thread Cert.BackIdeal.nD Cert.BackIdeal.τ).loc Cert.BackIdeal.main_arg7)) (m ((c.tc : Thread Cert.BackIdeal.nD Cert.BackIdeal.τ).loc Cert.BackIdeal.main_arg8)) (m ((c.tc : Thread Cert.BackIdeal.nD Cert.BackIdeal.τ).loc Cert.BackIdeal.main_arg9)) (m ((c.tc : Thread Cert.BackIdeal.nD Cert.BackIdeal.τ).loc Cert.BackIdeal.main_arg10))).2.2.2.2.2.1 = (fun _ => 1#1)
    ∧ (Cert.Pre_back_finite.fn (F := Ideal) (m ((c.tc : Thread Cert.BackIdeal.nD Cert.BackIdeal.τ).loc Cert.BackIdeal.main_arg0)) (m ((c.tc : Thread Cert.BackIdeal.nD Cert.BackIdeal.τ).loc Cert.BackIdeal.main_arg1)) (m ((c.tc : Thread Cert.BackIdeal.nD Cert.BackIdeal.τ).loc Cert.BackIdeal.main_arg2)) (m ((c.tc : Thread Cert.BackIdeal.nD Cert.BackIdeal.τ).loc Cert.BackIdeal.main_arg3)) (m ((c.tc : Thread Cert.BackIdeal.nD Cert.BackIdeal.τ).loc Cert.BackIdeal.main_arg4)) (m ((c.tc : Thread Cert.BackIdeal.nD Cert.BackIdeal.τ).loc Cert.BackIdeal.main_arg5)) (m ((c.tc : Thread Cert.BackIdeal.nD Cert.BackIdeal.τ).loc Cert.BackIdeal.main_arg6)) (m ((c.tc : Thread Cert.BackIdeal.nD Cert.BackIdeal.τ).loc Cert.BackIdeal.main_arg7)) (m ((c.tc : Thread Cert.BackIdeal.nD Cert.BackIdeal.τ).loc Cert.BackIdeal.main_arg8)) (m ((c.tc : Thread Cert.BackIdeal.nD Cert.BackIdeal.τ).loc Cert.BackIdeal.main_arg9)) (m ((c.tc : Thread Cert.BackIdeal.nD Cert.BackIdeal.τ).loc Cert.BackIdeal.main_arg10))).2.2.2.2.2.2.1 = (fun _ => 1#1)
    ∧ (Cert.Pre_back_finite.fn (F := Ideal) (m ((c.tc : Thread Cert.BackIdeal.nD Cert.BackIdeal.τ).loc Cert.BackIdeal.main_arg0)) (m ((c.tc : Thread Cert.BackIdeal.nD Cert.BackIdeal.τ).loc Cert.BackIdeal.main_arg1)) (m ((c.tc : Thread Cert.BackIdeal.nD Cert.BackIdeal.τ).loc Cert.BackIdeal.main_arg2)) (m ((c.tc : Thread Cert.BackIdeal.nD Cert.BackIdeal.τ).loc Cert.BackIdeal.main_arg3)) (m ((c.tc : Thread Cert.BackIdeal.nD Cert.BackIdeal.τ).loc Cert.BackIdeal.main_arg4)) (m ((c.tc : Thread Cert.BackIdeal.nD Cert.BackIdeal.τ).loc Cert.BackIdeal.main_arg5)) (m ((c.tc : Thread Cert.BackIdeal.nD Cert.BackIdeal.τ).loc Cert.BackIdeal.main_arg6)) (m ((c.tc : Thread Cert.BackIdeal.nD Cert.BackIdeal.τ).loc Cert.BackIdeal.main_arg7)) (m ((c.tc : Thread Cert.BackIdeal.nD Cert.BackIdeal.τ).loc Cert.BackIdeal.main_arg8)) (m ((c.tc : Thread Cert.BackIdeal.nD Cert.BackIdeal.τ).loc Cert.BackIdeal.main_arg9)) (m ((c.tc : Thread Cert.BackIdeal.nD Cert.BackIdeal.τ).loc Cert.BackIdeal.main_arg10))).2.2.2.2.2.2.2.1 = (fun _ => 1#1)
    ∧ (Cert.Pre_back_finite.fn (F := Ideal) (m ((c.tc : Thread Cert.BackIdeal.nD Cert.BackIdeal.τ).loc Cert.BackIdeal.main_arg0)) (m ((c.tc : Thread Cert.BackIdeal.nD Cert.BackIdeal.τ).loc Cert.BackIdeal.main_arg1)) (m ((c.tc : Thread Cert.BackIdeal.nD Cert.BackIdeal.τ).loc Cert.BackIdeal.main_arg2)) (m ((c.tc : Thread Cert.BackIdeal.nD Cert.BackIdeal.τ).loc Cert.BackIdeal.main_arg3)) (m ((c.tc : Thread Cert.BackIdeal.nD Cert.BackIdeal.τ).loc Cert.BackIdeal.main_arg4)) (m ((c.tc : Thread Cert.BackIdeal.nD Cert.BackIdeal.τ).loc Cert.BackIdeal.main_arg5)) (m ((c.tc : Thread Cert.BackIdeal.nD Cert.BackIdeal.τ).loc Cert.BackIdeal.main_arg6)) (m ((c.tc : Thread Cert.BackIdeal.nD Cert.BackIdeal.τ).loc Cert.BackIdeal.main_arg7)) (m ((c.tc : Thread Cert.BackIdeal.nD Cert.BackIdeal.τ).loc Cert.BackIdeal.main_arg8)) (m ((c.tc : Thread Cert.BackIdeal.nD Cert.BackIdeal.τ).loc Cert.BackIdeal.main_arg9)) (m ((c.tc : Thread Cert.BackIdeal.nD Cert.BackIdeal.τ).loc Cert.BackIdeal.main_arg10))).2.2.2.2.2.2.2.2.1 = (fun _ => 1#1)
    ∧ (Cert.Pre_back_finite.fn (F := Ideal) (m ((c.tc : Thread Cert.BackIdeal.nD Cert.BackIdeal.τ).loc Cert.BackIdeal.main_arg0)) (m ((c.tc : Thread Cert.BackIdeal.nD Cert.BackIdeal.τ).loc Cert.BackIdeal.main_arg1)) (m ((c.tc : Thread Cert.BackIdeal.nD Cert.BackIdeal.τ).loc Cert.BackIdeal.main_arg2)) (m ((c.tc : Thread Cert.BackIdeal.nD Cert.BackIdeal.τ).loc Cert.BackIdeal.main_arg3)) (m ((c.tc : Thread Cert.BackIdeal.nD Cert.BackIdeal.τ).loc Cert.BackIdeal.main_arg4)) (m ((c.tc : Thread Cert.BackIdeal.nD Cert.BackIdeal.τ).loc Cert.BackIdeal.main_arg5)) (m ((c.tc : Thread Cert.BackIdeal.nD Cert.BackIdeal.τ).loc Cert.BackIdeal.main_arg6)) (m ((c.tc : Thread Cert.BackIdeal.nD Cert.BackIdeal.τ).loc Cert.BackIdeal.main_arg7)) (m ((c.tc : Thread Cert.BackIdeal.nD Cert.BackIdeal.τ).loc Cert.BackIdeal.main_arg8)) (m ((c.tc : Thread Cert.BackIdeal.nD Cert.BackIdeal.τ).loc Cert.BackIdeal.main_arg9)) (m ((c.tc : Thread Cert.BackIdeal.nD Cert.BackIdeal.τ).loc Cert.BackIdeal.main_arg10))).2.2.2.2.2.2.2.2.2.1 = (fun _ => 1#1)
    ∧ (Cert.Pre_back_finite.fn (F := Ideal) (m ((c.tc : Thread Cert.BackIdeal.nD Cert.BackIdeal.τ).loc Cert.BackIdeal.main_arg0)) (m ((c.tc : Thread Cert.BackIdeal.nD Cert.BackIdeal.τ).loc Cert.BackIdeal.main_arg1)) (m ((c.tc : Thread Cert.BackIdeal.nD Cert.BackIdeal.τ).loc Cert.BackIdeal.main_arg2)) (m ((c.tc : Thread Cert.BackIdeal.nD Cert.BackIdeal.τ).loc Cert.BackIdeal.main_arg3)) (m ((c.tc : Thread Cert.BackIdeal.nD Cert.BackIdeal.τ).loc Cert.BackIdeal.main_arg4)) (m ((c.tc : Thread Cert.BackIdeal.nD Cert.BackIdeal.τ).loc Cert.BackIdeal.main_arg5)) (m ((c.tc : Thread Cert.BackIdeal.nD Cert.BackIdeal.τ).loc Cert.BackIdeal.main_arg6)) (m ((c.tc : Thread Cert.BackIdeal.nD Cert.BackIdeal.τ).loc Cert.BackIdeal.main_arg7)) (m ((c.tc : Thread Cert.BackIdeal.nD Cert.BackIdeal.τ).loc Cert.BackIdeal.main_arg8)) (m ((c.tc : Thread Cert.BackIdeal.nD Cert.BackIdeal.τ).loc Cert.BackIdeal.main_arg9)) (m ((c.tc : Thread Cert.BackIdeal.nD Cert.BackIdeal.τ).loc Cert.BackIdeal.main_arg10))).2.2.2.2.2.2.2.2.2.2 = (fun _ => 1#1)

def Pre_BackRefIdeal (m : (ℓ : Loc Cert.BackRefIdeal.nD Cert.BackRefIdeal.τ Cert.BackRefIdeal.sig) → Buf (Elt Ideal) ℓ) : Prop :=
  True

def Pre_BackRefIdeal_back_finite [hPre_back_finite : Cert.Pre_back_finite.Facts] (m : (ℓ : Loc Cert.BackRefIdeal.nD Cert.BackRefIdeal.τ Cert.BackRefIdeal.sig) → Buf (Elt Ideal) ℓ) : Prop :=
  ∀ c : Dev Cert.BackRefIdeal.nD,
    (Cert.Pre_back_finite.fn (F := Ideal) (m ((c.tc : Thread Cert.BackRefIdeal.nD Cert.BackRefIdeal.τ).loc Cert.BackRefIdeal.main_arg0)) (m ((c.tc : Thread Cert.BackRefIdeal.nD Cert.BackRefIdeal.τ).loc Cert.BackRefIdeal.main_arg1)) (m ((c.tc : Thread Cert.BackRefIdeal.nD Cert.BackRefIdeal.τ).loc Cert.BackRefIdeal.main_arg2)) (m ((c.tc : Thread Cert.BackRefIdeal.nD Cert.BackRefIdeal.τ).loc Cert.BackRefIdeal.main_arg3)) (m ((c.tc : Thread Cert.BackRefIdeal.nD Cert.BackRefIdeal.τ).loc Cert.BackRefIdeal.main_arg4)) (m ((c.tc : Thread Cert.BackRefIdeal.nD Cert.BackRefIdeal.τ).loc Cert.BackRefIdeal.main_arg5)) (m ((c.tc : Thread Cert.BackRefIdeal.nD Cert.BackRefIdeal.τ).loc Cert.BackRefIdeal.main_arg6)) (m ((c.tc : Thread Cert.BackRefIdeal.nD Cert.BackRefIdeal.τ).loc Cert.BackRefIdeal.main_arg7)) (m ((c.tc : Thread Cert.BackRefIdeal.nD Cert.BackRefIdeal.τ).loc Cert.BackRefIdeal.main_arg8)) (m ((c.tc : Thread Cert.BackRefIdeal.nD Cert.BackRefIdeal.τ).loc Cert.BackRefIdeal.main_arg9)) (m ((c.tc : Thread Cert.BackRefIdeal.nD Cert.BackRefIdeal.τ).loc Cert.BackRefIdeal.main_arg10))).1 = (fun _ => 1#1)
    ∧ (Cert.Pre_back_finite.fn (F := Ideal) (m ((c.tc : Thread Cert.BackRefIdeal.nD Cert.BackRefIdeal.τ).loc Cert.BackRefIdeal.main_arg0)) (m ((c.tc : Thread Cert.BackRefIdeal.nD Cert.BackRefIdeal.τ).loc Cert.BackRefIdeal.main_arg1)) (m ((c.tc : Thread Cert.BackRefIdeal.nD Cert.BackRefIdeal.τ).loc Cert.BackRefIdeal.main_arg2)) (m ((c.tc : Thread Cert.BackRefIdeal.nD Cert.BackRefIdeal.τ).loc Cert.BackRefIdeal.main_arg3)) (m ((c.tc : Thread Cert.BackRefIdeal.nD Cert.BackRefIdeal.τ).loc Cert.BackRefIdeal.main_arg4)) (m ((c.tc : Thread Cert.BackRefIdeal.nD Cert.BackRefIdeal.τ).loc Cert.BackRefIdeal.main_arg5)) (m ((c.tc : Thread Cert.BackRefIdeal.nD Cert.BackRefIdeal.τ).loc Cert.BackRefIdeal.main_arg6)) (m ((c.tc : Thread Cert.BackRefIdeal.nD Cert.BackRefIdeal.τ).loc Cert.BackRefIdeal.main_arg7)) (m ((c.tc : Thread Cert.BackRefIdeal.nD Cert.BackRefIdeal.τ).loc Cert.BackRefIdeal.main_arg8)) (m ((c.tc : Thread Cert.BackRefIdeal.nD Cert.BackRefIdeal.τ).loc Cert.BackRefIdeal.main_arg9)) (m ((c.tc : Thread Cert.BackRefIdeal.nD Cert.BackRefIdeal.τ).loc Cert.BackRefIdeal.main_arg10))).2.1 = (fun _ => 1#1)
    ∧ (Cert.Pre_back_finite.fn (F := Ideal) (m ((c.tc : Thread Cert.BackRefIdeal.nD Cert.BackRefIdeal.τ).loc Cert.BackRefIdeal.main_arg0)) (m ((c.tc : Thread Cert.BackRefIdeal.nD Cert.BackRefIdeal.τ).loc Cert.BackRefIdeal.main_arg1)) (m ((c.tc : Thread Cert.BackRefIdeal.nD Cert.BackRefIdeal.τ).loc Cert.BackRefIdeal.main_arg2)) (m ((c.tc : Thread Cert.BackRefIdeal.nD Cert.BackRefIdeal.τ).loc Cert.BackRefIdeal.main_arg3)) (m ((c.tc : Thread Cert.BackRefIdeal.nD Cert.BackRefIdeal.τ).loc Cert.BackRefIdeal.main_arg4)) (m ((c.tc : Thread Cert.BackRefIdeal.nD Cert.BackRefIdeal.τ).loc Cert.BackRefIdeal.main_arg5)) (m ((c.tc : Thread Cert.BackRefIdeal.nD Cert.BackRefIdeal.τ).loc Cert.BackRefIdeal.main_arg6)) (m ((c.tc : Thread Cert.BackRefIdeal.nD Cert.BackRefIdeal.τ).loc Cert.BackRefIdeal.main_arg7)) (m ((c.tc : Thread Cert.BackRefIdeal.nD Cert.BackRefIdeal.τ).loc Cert.BackRefIdeal.main_arg8)) (m ((c.tc : Thread Cert.BackRefIdeal.nD Cert.BackRefIdeal.τ).loc Cert.BackRefIdeal.main_arg9)) (m ((c.tc : Thread Cert.BackRefIdeal.nD Cert.BackRefIdeal.τ).loc Cert.BackRefIdeal.main_arg10))).2.2.1 = (fun _ => 1#1)
    ∧ (Cert.Pre_back_finite.fn (F := Ideal) (m ((c.tc : Thread Cert.BackRefIdeal.nD Cert.BackRefIdeal.τ).loc Cert.BackRefIdeal.main_arg0)) (m ((c.tc : Thread Cert.BackRefIdeal.nD Cert.BackRefIdeal.τ).loc Cert.BackRefIdeal.main_arg1)) (m ((c.tc : Thread Cert.BackRefIdeal.nD Cert.BackRefIdeal.τ).loc Cert.BackRefIdeal.main_arg2)) (m ((c.tc : Thread Cert.BackRefIdeal.nD Cert.BackRefIdeal.τ).loc Cert.BackRefIdeal.main_arg3)) (m ((c.tc : Thread Cert.BackRefIdeal.nD Cert.BackRefIdeal.τ).loc Cert.BackRefIdeal.main_arg4)) (m ((c.tc : Thread Cert.BackRefIdeal.nD Cert.BackRefIdeal.τ).loc Cert.BackRefIdeal.main_arg5)) (m ((c.tc : Thread Cert.BackRefIdeal.nD Cert.BackRefIdeal.τ).loc Cert.BackRefIdeal.main_arg6)) (m ((c.tc : Thread Cert.BackRefIdeal.nD Cert.BackRefIdeal.τ).loc Cert.BackRefIdeal.main_arg7)) (m ((c.tc : Thread Cert.BackRefIdeal.nD Cert.BackRefIdeal.τ).loc Cert.BackRefIdeal.main_arg8)) (m ((c.tc : Thread Cert.BackRefIdeal.nD Cert.BackRefIdeal.τ).loc Cert.BackRefIdeal.main_arg9)) (m ((c.tc : Thread Cert.BackRefIdeal.nD Cert.BackRefIdeal.τ).loc Cert.BackRefIdeal.main_arg10))).2.2.2.1 = (fun _ => 1#1)
    ∧ (Cert.Pre_back_finite.fn (F := Ideal) (m ((c.tc : Thread Cert.BackRefIdeal.nD Cert.BackRefIdeal.τ).loc Cert.BackRefIdeal.main_arg0)) (m ((c.tc : Thread Cert.BackRefIdeal.nD Cert.BackRefIdeal.τ).loc Cert.BackRefIdeal.main_arg1)) (m ((c.tc : Thread Cert.BackRefIdeal.nD Cert.BackRefIdeal.τ).loc Cert.BackRefIdeal.main_arg2)) (m ((c.tc : Thread Cert.BackRefIdeal.nD Cert.BackRefIdeal.τ).loc Cert.BackRefIdeal.main_arg3)) (m ((c.tc : Thread Cert.BackRefIdeal.nD Cert.BackRefIdeal.τ).loc Cert.BackRefIdeal.main_arg4)) (m ((c.tc : Thread Cert.BackRefIdeal.nD Cert.BackRefIdeal.τ).loc Cert.BackRefIdeal.main_arg5)) (m ((c.tc : Thread Cert.BackRefIdeal.nD Cert.BackRefIdeal.τ).loc Cert.BackRefIdeal.main_arg6)) (m ((c.tc : Thread Cert.BackRefIdeal.nD Cert.BackRefIdeal.τ).loc Cert.BackRefIdeal.main_arg7)) (m ((c.tc : Thread Cert.BackRefIdeal.nD Cert.BackRefIdeal.τ).loc Cert.BackRefIdeal.main_arg8)) (m ((c.tc : Thread Cert.BackRefIdeal.nD Cert.BackRefIdeal.τ).loc Cert.BackRefIdeal.main_arg9)) (m ((c.tc : Thread Cert.BackRefIdeal.nD Cert.BackRefIdeal.τ).loc Cert.BackRefIdeal.main_arg10))).2.2.2.2.1 = (fun _ => 1#1)
    ∧ (Cert.Pre_back_finite.fn (F := Ideal) (m ((c.tc : Thread Cert.BackRefIdeal.nD Cert.BackRefIdeal.τ).loc Cert.BackRefIdeal.main_arg0)) (m ((c.tc : Thread Cert.BackRefIdeal.nD Cert.BackRefIdeal.τ).loc Cert.BackRefIdeal.main_arg1)) (m ((c.tc : Thread Cert.BackRefIdeal.nD Cert.BackRefIdeal.τ).loc Cert.BackRefIdeal.main_arg2)) (m ((c.tc : Thread Cert.BackRefIdeal.nD Cert.BackRefIdeal.τ).loc Cert.BackRefIdeal.main_arg3)) (m ((c.tc : Thread Cert.BackRefIdeal.nD Cert.BackRefIdeal.τ).loc Cert.BackRefIdeal.main_arg4)) (m ((c.tc : Thread Cert.BackRefIdeal.nD Cert.BackRefIdeal.τ).loc Cert.BackRefIdeal.main_arg5)) (m ((c.tc : Thread Cert.BackRefIdeal.nD Cert.BackRefIdeal.τ).loc Cert.BackRefIdeal.main_arg6)) (m ((c.tc : Thread Cert.BackRefIdeal.nD Cert.BackRefIdeal.τ).loc Cert.BackRefIdeal.main_arg7)) (m ((c.tc : Thread Cert.BackRefIdeal.nD Cert.BackRefIdeal.τ).loc Cert.BackRefIdeal.main_arg8)) (m ((c.tc : Thread Cert.BackRefIdeal.nD Cert.BackRefIdeal.τ).loc Cert.BackRefIdeal.main_arg9)) (m ((c.tc : Thread Cert.BackRefIdeal.nD Cert.BackRefIdeal.τ).loc Cert.BackRefIdeal.main_arg10))).2.2.2.2.2.1 = (fun _ => 1#1)
    ∧ (Cert.Pre_back_finite.fn (F := Ideal) (m ((c.tc : Thread Cert.BackRefIdeal.nD Cert.BackRefIdeal.τ).loc Cert.BackRefIdeal.main_arg0)) (m ((c.tc : Thread Cert.BackRefIdeal.nD Cert.BackRefIdeal.τ).loc Cert.BackRefIdeal.main_arg1)) (m ((c.tc : Thread Cert.BackRefIdeal.nD Cert.BackRefIdeal.τ).loc Cert.BackRefIdeal.main_arg2)) (m ((c.tc : Thread Cert.BackRefIdeal.nD Cert.BackRefIdeal.τ).loc Cert.BackRefIdeal.main_arg3)) (m ((c.tc : Thread Cert.BackRefIdeal.nD Cert.BackRefIdeal.τ).loc Cert.BackRefIdeal.main_arg4)) (m ((c.tc : Thread Cert.BackRefIdeal.nD Cert.BackRefIdeal.τ).loc Cert.BackRefIdeal.main_arg5)) (m ((c.tc : Thread Cert.BackRefIdeal.nD Cert.BackRefIdeal.τ).loc Cert.BackRefIdeal.main_arg6)) (m ((c.tc : Thread Cert.BackRefIdeal.nD Cert.BackRefIdeal.τ).loc Cert.BackRefIdeal.main_arg7)) (m ((c.tc : Thread Cert.BackRefIdeal.nD Cert.BackRefIdeal.τ).loc Cert.BackRefIdeal.main_arg8)) (m ((c.tc : Thread Cert.BackRefIdeal.nD Cert.BackRefIdeal.τ).loc Cert.BackRefIdeal.main_arg9)) (m ((c.tc : Thread Cert.BackRefIdeal.nD Cert.BackRefIdeal.τ).loc Cert.BackRefIdeal.main_arg10))).2.2.2.2.2.2.1 = (fun _ => 1#1)
    ∧ (Cert.Pre_back_finite.fn (F := Ideal) (m ((c.tc : Thread Cert.BackRefIdeal.nD Cert.BackRefIdeal.τ).loc Cert.BackRefIdeal.main_arg0)) (m ((c.tc : Thread Cert.BackRefIdeal.nD Cert.BackRefIdeal.τ).loc Cert.BackRefIdeal.main_arg1)) (m ((c.tc : Thread Cert.BackRefIdeal.nD Cert.BackRefIdeal.τ).loc Cert.BackRefIdeal.main_arg2)) (m ((c.tc : Thread Cert.BackRefIdeal.nD Cert.BackRefIdeal.τ).loc Cert.BackRefIdeal.main_arg3)) (m ((c.tc : Thread Cert.BackRefIdeal.nD Cert.BackRefIdeal.τ).loc Cert.BackRefIdeal.main_arg4)) (m ((c.tc : Thread Cert.BackRefIdeal.nD Cert.BackRefIdeal.τ).loc Cert.BackRefIdeal.main_arg5)) (m ((c.tc : Thread Cert.BackRefIdeal.nD Cert.BackRefIdeal.τ).loc Cert.BackRefIdeal.main_arg6)) (m ((c.tc : Thread Cert.BackRefIdeal.nD Cert.BackRefIdeal.τ).loc Cert.BackRefIdeal.main_arg7)) (m ((c.tc : Thread Cert.BackRefIdeal.nD Cert.BackRefIdeal.τ).loc Cert.BackRefIdeal.main_arg8)) (m ((c.tc : Thread Cert.BackRefIdeal.nD Cert.BackRefIdeal.τ).loc Cert.BackRefIdeal.main_arg9)) (m ((c.tc : Thread Cert.BackRefIdeal.nD Cert.BackRefIdeal.τ).loc Cert.BackRefIdeal.main_arg10))).2.2.2.2.2.2.2.1 = (fun _ => 1#1)
    ∧ (Cert.Pre_back_finite.fn (F := Ideal) (m ((c.tc : Thread Cert.BackRefIdeal.nD Cert.BackRefIdeal.τ).loc Cert.BackRefIdeal.main_arg0)) (m ((c.tc : Thread Cert.BackRefIdeal.nD Cert.BackRefIdeal.τ).loc Cert.BackRefIdeal.main_arg1)) (m ((c.tc : Thread Cert.BackRefIdeal.nD Cert.BackRefIdeal.τ).loc Cert.BackRefIdeal.main_arg2)) (m ((c.tc : Thread Cert.BackRefIdeal.nD Cert.BackRefIdeal.τ).loc Cert.BackRefIdeal.main_arg3)) (m ((c.tc : Thread Cert.BackRefIdeal.nD Cert.BackRefIdeal.τ).loc Cert.BackRefIdeal.main_arg4)) (m ((c.tc : Thread Cert.BackRefIdeal.nD Cert.BackRefIdeal.τ).loc Cert.BackRefIdeal.main_arg5)) (m ((c.tc : Thread Cert.BackRefIdeal.nD Cert.BackRefIdeal.τ).loc Cert.BackRefIdeal.main_arg6)) (m ((c.tc : Thread Cert.BackRefIdeal.nD Cert.BackRefIdeal.τ).loc Cert.BackRefIdeal.main_arg7)) (m ((c.tc : Thread Cert.BackRefIdeal.nD Cert.BackRefIdeal.τ).loc Cert.BackRefIdeal.main_arg8)) (m ((c.tc : Thread Cert.BackRefIdeal.nD Cert.BackRefIdeal.τ).loc Cert.BackRefIdeal.main_arg9)) (m ((c.tc : Thread Cert.BackRefIdeal.nD Cert.BackRefIdeal.τ).loc Cert.BackRefIdeal.main_arg10))).2.2.2.2.2.2.2.2.1 = (fun _ => 1#1)
    ∧ (Cert.Pre_back_finite.fn (F := Ideal) (m ((c.tc : Thread Cert.BackRefIdeal.nD Cert.BackRefIdeal.τ).loc Cert.BackRefIdeal.main_arg0)) (m ((c.tc : Thread Cert.BackRefIdeal.nD Cert.BackRefIdeal.τ).loc Cert.BackRefIdeal.main_arg1)) (m ((c.tc : Thread Cert.BackRefIdeal.nD Cert.BackRefIdeal.τ).loc Cert.BackRefIdeal.main_arg2)) (m ((c.tc : Thread Cert.BackRefIdeal.nD Cert.BackRefIdeal.τ).loc Cert.BackRefIdeal.main_arg3)) (m ((c.tc : Thread Cert.BackRefIdeal.nD Cert.BackRefIdeal.τ).loc Cert.BackRefIdeal.main_arg4)) (m ((c.tc : Thread Cert.BackRefIdeal.nD Cert.BackRefIdeal.τ).loc Cert.BackRefIdeal.main_arg5)) (m ((c.tc : Thread Cert.BackRefIdeal.nD Cert.BackRefIdeal.τ).loc Cert.BackRefIdeal.main_arg6)) (m ((c.tc : Thread Cert.BackRefIdeal.nD Cert.BackRefIdeal.τ).loc Cert.BackRefIdeal.main_arg7)) (m ((c.tc : Thread Cert.BackRefIdeal.nD Cert.BackRefIdeal.τ).loc Cert.BackRefIdeal.main_arg8)) (m ((c.tc : Thread Cert.BackRefIdeal.nD Cert.BackRefIdeal.τ).loc Cert.BackRefIdeal.main_arg9)) (m ((c.tc : Thread Cert.BackRefIdeal.nD Cert.BackRefIdeal.τ).loc Cert.BackRefIdeal.main_arg10))).2.2.2.2.2.2.2.2.2.1 = (fun _ => 1#1)
    ∧ (Cert.Pre_back_finite.fn (F := Ideal) (m ((c.tc : Thread Cert.BackRefIdeal.nD Cert.BackRefIdeal.τ).loc Cert.BackRefIdeal.main_arg0)) (m ((c.tc : Thread Cert.BackRefIdeal.nD Cert.BackRefIdeal.τ).loc Cert.BackRefIdeal.main_arg1)) (m ((c.tc : Thread Cert.BackRefIdeal.nD Cert.BackRefIdeal.τ).loc Cert.BackRefIdeal.main_arg2)) (m ((c.tc : Thread Cert.BackRefIdeal.nD Cert.BackRefIdeal.τ).loc Cert.BackRefIdeal.main_arg3)) (m ((c.tc : Thread Cert.BackRefIdeal.nD Cert.BackRefIdeal.τ).loc Cert.BackRefIdeal.main_arg4)) (m ((c.tc : Thread Cert.BackRefIdeal.nD Cert.BackRefIdeal.τ).loc Cert.BackRefIdeal.main_arg5)) (m ((c.tc : Thread Cert.BackRefIdeal.nD Cert.BackRefIdeal.τ).loc Cert.BackRefIdeal.main_arg6)) (m ((c.tc : Thread Cert.BackRefIdeal.nD Cert.BackRefIdeal.τ).loc Cert.BackRefIdeal.main_arg7)) (m ((c.tc : Thread Cert.BackRefIdeal.nD Cert.BackRefIdeal.τ).loc Cert.BackRefIdeal.main_arg8)) (m ((c.tc : Thread Cert.BackRefIdeal.nD Cert.BackRefIdeal.τ).loc Cert.BackRefIdeal.main_arg9)) (m ((c.tc : Thread Cert.BackRefIdeal.nD Cert.BackRefIdeal.τ).loc Cert.BackRefIdeal.main_arg10))).2.2.2.2.2.2.2.2.2.2 = (fun _ => 1#1)

def Pre_MixFwd (m : (ℓ : Loc Cert.MixFwd.nD Cert.MixFwd.τ Cert.MixFwd.sig) → Buf (Elt Bits) ℓ) : Prop :=
  True

def Pre_MixFwdIdeal (m : (ℓ : Loc Cert.MixFwdIdeal.nD Cert.MixFwdIdeal.τ Cert.MixFwdIdeal.sig) → Buf (Elt Ideal) ℓ) : Prop :=
  True

def Pre_MixFwdIdeal_mix_finite [hPre_mix_finite : Cert.Pre_mix_finite.Facts] (m : (ℓ : Loc Cert.MixFwdIdeal.nD Cert.MixFwdIdeal.τ Cert.MixFwdIdeal.sig) → Buf (Elt Ideal) ℓ) : Prop :=
  ∀ c : Dev Cert.MixFwdIdeal.nD,
    (Cert.Pre_mix_finite.fn (F := Ideal) (m ((c.tc : Thread Cert.MixFwdIdeal.nD Cert.MixFwdIdeal.τ).loc Cert.MixFwdIdeal.main_arg0)) (m ((c.tc : Thread Cert.MixFwdIdeal.nD Cert.MixFwdIdeal.τ).loc Cert.MixFwdIdeal.main_arg1)) (m ((c.tc : Thread Cert.MixFwdIdeal.nD Cert.MixFwdIdeal.τ).loc Cert.MixFwdIdeal.main_arg2)) (m ((c.tc : Thread Cert.MixFwdIdeal.nD Cert.MixFwdIdeal.τ).loc Cert.MixFwdIdeal.main_arg3)) (m ((c.tc : Thread Cert.MixFwdIdeal.nD Cert.MixFwdIdeal.τ).loc Cert.MixFwdIdeal.main_arg4)) (m ((c.tc : Thread Cert.MixFwdIdeal.nD Cert.MixFwdIdeal.τ).loc Cert.MixFwdIdeal.main_arg5)) (m ((c.tc : Thread Cert.MixFwdIdeal.nD Cert.MixFwdIdeal.τ).loc Cert.MixFwdIdeal.main_arg6)) (m ((c.tc : Thread Cert.MixFwdIdeal.nD Cert.MixFwdIdeal.τ).loc Cert.MixFwdIdeal.main_arg7)) (m ((c.tc : Thread Cert.MixFwdIdeal.nD Cert.MixFwdIdeal.τ).loc Cert.MixFwdIdeal.main_arg8))).1 = (fun _ => 1#1)
    ∧ (Cert.Pre_mix_finite.fn (F := Ideal) (m ((c.tc : Thread Cert.MixFwdIdeal.nD Cert.MixFwdIdeal.τ).loc Cert.MixFwdIdeal.main_arg0)) (m ((c.tc : Thread Cert.MixFwdIdeal.nD Cert.MixFwdIdeal.τ).loc Cert.MixFwdIdeal.main_arg1)) (m ((c.tc : Thread Cert.MixFwdIdeal.nD Cert.MixFwdIdeal.τ).loc Cert.MixFwdIdeal.main_arg2)) (m ((c.tc : Thread Cert.MixFwdIdeal.nD Cert.MixFwdIdeal.τ).loc Cert.MixFwdIdeal.main_arg3)) (m ((c.tc : Thread Cert.MixFwdIdeal.nD Cert.MixFwdIdeal.τ).loc Cert.MixFwdIdeal.main_arg4)) (m ((c.tc : Thread Cert.MixFwdIdeal.nD Cert.MixFwdIdeal.τ).loc Cert.MixFwdIdeal.main_arg5)) (m ((c.tc : Thread Cert.MixFwdIdeal.nD Cert.MixFwdIdeal.τ).loc Cert.MixFwdIdeal.main_arg6)) (m ((c.tc : Thread Cert.MixFwdIdeal.nD Cert.MixFwdIdeal.τ).loc Cert.MixFwdIdeal.main_arg7)) (m ((c.tc : Thread Cert.MixFwdIdeal.nD Cert.MixFwdIdeal.τ).loc Cert.MixFwdIdeal.main_arg8))).2.1 = (fun _ => 1#1)
    ∧ (Cert.Pre_mix_finite.fn (F := Ideal) (m ((c.tc : Thread Cert.MixFwdIdeal.nD Cert.MixFwdIdeal.τ).loc Cert.MixFwdIdeal.main_arg0)) (m ((c.tc : Thread Cert.MixFwdIdeal.nD Cert.MixFwdIdeal.τ).loc Cert.MixFwdIdeal.main_arg1)) (m ((c.tc : Thread Cert.MixFwdIdeal.nD Cert.MixFwdIdeal.τ).loc Cert.MixFwdIdeal.main_arg2)) (m ((c.tc : Thread Cert.MixFwdIdeal.nD Cert.MixFwdIdeal.τ).loc Cert.MixFwdIdeal.main_arg3)) (m ((c.tc : Thread Cert.MixFwdIdeal.nD Cert.MixFwdIdeal.τ).loc Cert.MixFwdIdeal.main_arg4)) (m ((c.tc : Thread Cert.MixFwdIdeal.nD Cert.MixFwdIdeal.τ).loc Cert.MixFwdIdeal.main_arg5)) (m ((c.tc : Thread Cert.MixFwdIdeal.nD Cert.MixFwdIdeal.τ).loc Cert.MixFwdIdeal.main_arg6)) (m ((c.tc : Thread Cert.MixFwdIdeal.nD Cert.MixFwdIdeal.τ).loc Cert.MixFwdIdeal.main_arg7)) (m ((c.tc : Thread Cert.MixFwdIdeal.nD Cert.MixFwdIdeal.τ).loc Cert.MixFwdIdeal.main_arg8))).2.2 = (fun _ => 1#1)

def Pre_MixFwdRefIdeal (m : (ℓ : Loc Cert.MixFwdRefIdeal.nD Cert.MixFwdRefIdeal.τ Cert.MixFwdRefIdeal.sig) → Buf (Elt Ideal) ℓ) : Prop :=
  True

def Pre_MixFwdRefIdeal_mix_finite [hPre_mix_finite : Cert.Pre_mix_finite.Facts] (m : (ℓ : Loc Cert.MixFwdRefIdeal.nD Cert.MixFwdRefIdeal.τ Cert.MixFwdRefIdeal.sig) → Buf (Elt Ideal) ℓ) : Prop :=
  ∀ c : Dev Cert.MixFwdRefIdeal.nD,
    (Cert.Pre_mix_finite.fn (F := Ideal) (m ((c.tc : Thread Cert.MixFwdRefIdeal.nD Cert.MixFwdRefIdeal.τ).loc Cert.MixFwdRefIdeal.main_arg0)) (m ((c.tc : Thread Cert.MixFwdRefIdeal.nD Cert.MixFwdRefIdeal.τ).loc Cert.MixFwdRefIdeal.main_arg1)) (m ((c.tc : Thread Cert.MixFwdRefIdeal.nD Cert.MixFwdRefIdeal.τ).loc Cert.MixFwdRefIdeal.main_arg2)) (m ((c.tc : Thread Cert.MixFwdRefIdeal.nD Cert.MixFwdRefIdeal.τ).loc Cert.MixFwdRefIdeal.main_arg3)) (m ((c.tc : Thread Cert.MixFwdRefIdeal.nD Cert.MixFwdRefIdeal.τ).loc Cert.MixFwdRefIdeal.main_arg4)) (m ((c.tc : Thread Cert.MixFwdRefIdeal.nD Cert.MixFwdRefIdeal.τ).loc Cert.MixFwdRefIdeal.main_arg5)) (m ((c.tc : Thread Cert.MixFwdRefIdeal.nD Cert.MixFwdRefIdeal.τ).loc Cert.MixFwdRefIdeal.main_arg6)) (m ((c.tc : Thread Cert.MixFwdRefIdeal.nD Cert.MixFwdRefIdeal.τ).loc Cert.MixFwdRefIdeal.main_arg7)) (m ((c.tc : Thread Cert.MixFwdRefIdeal.nD Cert.MixFwdRefIdeal.τ).loc Cert.MixFwdRefIdeal.main_arg8))).1 = (fun _ => 1#1)
    ∧ (Cert.Pre_mix_finite.fn (F := Ideal) (m ((c.tc : Thread Cert.MixFwdRefIdeal.nD Cert.MixFwdRefIdeal.τ).loc Cert.MixFwdRefIdeal.main_arg0)) (m ((c.tc : Thread Cert.MixFwdRefIdeal.nD Cert.MixFwdRefIdeal.τ).loc Cert.MixFwdRefIdeal.main_arg1)) (m ((c.tc : Thread Cert.MixFwdRefIdeal.nD Cert.MixFwdRefIdeal.τ).loc Cert.MixFwdRefIdeal.main_arg2)) (m ((c.tc : Thread Cert.MixFwdRefIdeal.nD Cert.MixFwdRefIdeal.τ).loc Cert.MixFwdRefIdeal.main_arg3)) (m ((c.tc : Thread Cert.MixFwdRefIdeal.nD Cert.MixFwdRefIdeal.τ).loc Cert.MixFwdRefIdeal.main_arg4)) (m ((c.tc : Thread Cert.MixFwdRefIdeal.nD Cert.MixFwdRefIdeal.τ).loc Cert.MixFwdRefIdeal.main_arg5)) (m ((c.tc : Thread Cert.MixFwdRefIdeal.nD Cert.MixFwdRefIdeal.τ).loc Cert.MixFwdRefIdeal.main_arg6)) (m ((c.tc : Thread Cert.MixFwdRefIdeal.nD Cert.MixFwdRefIdeal.τ).loc Cert.MixFwdRefIdeal.main_arg7)) (m ((c.tc : Thread Cert.MixFwdRefIdeal.nD Cert.MixFwdRefIdeal.τ).loc Cert.MixFwdRefIdeal.main_arg8))).2.1 = (fun _ => 1#1)
    ∧ (Cert.Pre_mix_finite.fn (F := Ideal) (m ((c.tc : Thread Cert.MixFwdRefIdeal.nD Cert.MixFwdRefIdeal.τ).loc Cert.MixFwdRefIdeal.main_arg0)) (m ((c.tc : Thread Cert.MixFwdRefIdeal.nD Cert.MixFwdRefIdeal.τ).loc Cert.MixFwdRefIdeal.main_arg1)) (m ((c.tc : Thread Cert.MixFwdRefIdeal.nD Cert.MixFwdRefIdeal.τ).loc Cert.MixFwdRefIdeal.main_arg2)) (m ((c.tc : Thread Cert.MixFwdRefIdeal.nD Cert.MixFwdRefIdeal.τ).loc Cert.MixFwdRefIdeal.main_arg3)) (m ((c.tc : Thread Cert.MixFwdRefIdeal.nD Cert.MixFwdRefIdeal.τ).loc Cert.MixFwdRefIdeal.main_arg4)) (m ((c.tc : Thread Cert.MixFwdRefIdeal.nD Cert.MixFwdRefIdeal.τ).loc Cert.MixFwdRefIdeal.main_arg5)) (m ((c.tc : Thread Cert.MixFwdRefIdeal.nD Cert.MixFwdRefIdeal.τ).loc Cert.MixFwdRefIdeal.main_arg6)) (m ((c.tc : Thread Cert.MixFwdRefIdeal.nD Cert.MixFwdRefIdeal.τ).loc Cert.MixFwdRefIdeal.main_arg7)) (m ((c.tc : Thread Cert.MixFwdRefIdeal.nD Cert.MixFwdRefIdeal.τ).loc Cert.MixFwdRefIdeal.main_arg8))).2.2 = (fun _ => 1#1)

def Pre_Outp (m : (ℓ : Loc Cert.Outp.nD Cert.Outp.τ Cert.Outp.sig) → Buf (Elt Bits) ℓ) : Prop :=
  True

def Pre_OutpIdeal (m : (ℓ : Loc Cert.OutpIdeal.nD Cert.OutpIdeal.τ Cert.OutpIdeal.sig) → Buf (Elt Ideal) ℓ) : Prop :=
  True

def Pre_OutpRefIdeal (m : (ℓ : Loc Cert.OutpRefIdeal.nD Cert.OutpRefIdeal.τ Cert.OutpRefIdeal.sig) → Buf (Elt Ideal) ℓ) : Prop :=
  True

def Pre_Inp (m : (ℓ : Loc Cert.Inp.nD Cert.Inp.τ Cert.Inp.sig) → Buf (Elt Bits) ℓ) : Prop :=
  True

def Pre_InpIdeal (m : (ℓ : Loc Cert.InpIdeal.nD Cert.InpIdeal.τ Cert.InpIdeal.sig) → Buf (Elt Ideal) ℓ) : Prop :=
  True

def Pre_InpRefIdeal (m : (ℓ : Loc Cert.InpRefIdeal.nD Cert.InpRefIdeal.τ Cert.InpRefIdeal.sig) → Buf (Elt Ideal) ℓ) : Prop :=
  True

def Pre_Bias (m : (ℓ : Loc Cert.Bias.nD Cert.Bias.τ Cert.Bias.sig) → Buf (Elt Bits) ℓ) : Prop :=
  True

def Pre_BiasIdeal (m : (ℓ : Loc Cert.BiasIdeal.nD Cert.BiasIdeal.τ Cert.BiasIdeal.sig) → Buf (Elt Ideal) ℓ) : Prop :=
  True

def Pre_BiasRefIdeal (m : (ℓ : Loc Cert.BiasRefIdeal.nD Cert.BiasRefIdeal.τ Cert.BiasRefIdeal.sig) → Buf (Elt Ideal) ℓ) : Prop :=
  True

def Pre_Modu (m : (ℓ : Loc Cert.Modu.nD Cert.Modu.τ Cert.Modu.sig) → Buf (Elt Bits) ℓ) : Prop :=
  True

def Pre_ModuIdeal (m : (ℓ : Loc Cert.ModuIdeal.nD Cert.ModuIdeal.τ Cert.ModuIdeal.sig) → Buf (Elt Ideal) ℓ) : Prop :=
  True

def Pre_ModuRefIdeal (m : (ℓ : Loc Cert.ModuRefIdeal.nD Cert.ModuRefIdeal.τ Cert.ModuRefIdeal.sig) → Buf (Elt Ideal) ℓ) : Prop :=
  True

def Pre_Ada (m : (ℓ : Loc Cert.Ada.nD Cert.Ada.τ Cert.Ada.sig) → Buf (Elt Bits) ℓ) : Prop :=
  True

def Pre_AdaIdeal (m : (ℓ : Loc Cert.AdaIdeal.nD Cert.AdaIdeal.τ Cert.AdaIdeal.sig) → Buf (Elt Ideal) ℓ) : Prop :=
  True

def Pre_AdaRefIdeal (m : (ℓ : Loc Cert.AdaRefIdeal.nD Cert.AdaRefIdeal.τ Cert.AdaRefIdeal.sig) → Buf (Elt Ideal) ℓ) : Prop :=
  True

def Pre_Wgrad (m : (ℓ : Loc Cert.Wgrad.nD Cert.Wgrad.τ Cert.Wgrad.sig) → Buf (Elt Bits) ℓ) : Prop :=
  True

def Pre_WgradIdeal (m : (ℓ : Loc Cert.WgradIdeal.nD Cert.WgradIdeal.τ Cert.WgradIdeal.sig) → Buf (Elt Ideal) ℓ) : Prop :=
  True

def Pre_WgradRefIdeal (m : (ℓ : Loc Cert.WgradRefIdeal.nD Cert.WgradRefIdeal.τ Cert.WgradRefIdeal.sig) → Buf (Elt Ideal) ℓ) : Prop :=
  True

def Pre_Down (m : (ℓ : Loc Cert.Down.nD Cert.Down.τ Cert.Down.sig) → Buf (Elt Bits) ℓ) : Prop :=
  True

def Pre_DownIdeal (m : (ℓ : Loc Cert.DownIdeal.nD Cert.DownIdeal.τ Cert.DownIdeal.sig) → Buf (Elt Ideal) ℓ) : Prop :=
  True

def Pre_DownRefIdeal (m : (ℓ : Loc Cert.DownRefIdeal.nD Cert.DownRefIdeal.τ Cert.DownRefIdeal.sig) → Buf (Elt Ideal) ℓ) : Prop :=
  True

def quiescent_Din [hDin : Cert.Din.Facts] : Prop :=
  ∀ (m : (ℓ : Loc Cert.Din.nD Cert.Din.τ Cert.Din.sig) → Buf (Elt Bits) ℓ) (g : Dev Cert.Din.nD → PrngReg), Pre_Din m →
    θ_run (Cert.Din.defs (F := Bits)) (onTc (τ := Cert.Din.τ) (Cert.Din.main (F := Bits))) ⟨m, fun _ => 0, g⟩ (fun r => (∀ c : Dev Cert.Din.nD,
      r.2.mem ((c.tc : Thread Cert.Din.nD Cert.Din.τ).loc Cert.Din.main_arg0) = m ((c.tc : Thread Cert.Din.nD Cert.Din.τ).loc Cert.Din.main_arg0)
      ∧ r.2.mem ((c.tc : Thread Cert.Din.nD Cert.Din.τ).loc Cert.Din.main_arg1) = m ((c.tc : Thread Cert.Din.nD Cert.Din.τ).loc Cert.Din.main_arg1)
      ∧ r.2.mem ((c.tc : Thread Cert.Din.nD Cert.Din.τ).loc Cert.Din.main_arg2) = m ((c.tc : Thread Cert.Din.nD Cert.Din.τ).loc Cert.Din.main_arg2)
      ∧ r.2.mem ((c.tc : Thread Cert.Din.nD Cert.Din.τ).loc Cert.Din.main_arg3) = m ((c.tc : Thread Cert.Din.nD Cert.Din.τ).loc Cert.Din.main_arg3)
      ∧ r.2.mem ((c.tc : Thread Cert.Din.nD Cert.Din.τ).loc Cert.Din.main_arg4) = m ((c.tc : Thread Cert.Din.nD Cert.Din.τ).loc Cert.Din.main_arg4)
      ∧ r.2.mem ((c.tc : Thread Cert.Din.nD Cert.Din.τ).loc Cert.Din.main_arg5) = m ((c.tc : Thread Cert.Din.nD Cert.Din.τ).loc Cert.Din.main_arg5)
      ∧ r.2.mem ((c.tc : Thread Cert.Din.nD Cert.Din.τ).loc Cert.Din.main_arg6) = m ((c.tc : Thread Cert.Din.nD Cert.Din.τ).loc Cert.Din.main_arg6)
      ∧ r.2.mem ((c.tc : Thread Cert.Din.nD Cert.Din.τ).loc Cert.Din.main_arg7) = m ((c.tc : Thread Cert.Din.nD Cert.Din.τ).loc Cert.Din.main_arg7))
      ∧ r.2.sem = fun _ => 0)

def quiescent_DinIdeal [hDinIdeal : Cert.DinIdeal.Facts] : Prop :=
  ∀ (m : (ℓ : Loc Cert.DinIdeal.nD Cert.DinIdeal.τ Cert.DinIdeal.sig) → Buf (Elt Ideal) ℓ) (g : Dev Cert.DinIdeal.nD → PrngReg), Pre_DinIdeal m →
    θ_run (Cert.DinIdeal.defs (F := Ideal)) (onTc (τ := Cert.DinIdeal.τ) (Cert.DinIdeal.main (F := Ideal))) ⟨m, fun _ => 0, g⟩ (fun r => (∀ c : Dev Cert.DinIdeal.nD,
      r.2.mem ((c.tc : Thread Cert.DinIdeal.nD Cert.DinIdeal.τ).loc Cert.DinIdeal.main_arg0) = m ((c.tc : Thread Cert.DinIdeal.nD Cert.DinIdeal.τ).loc Cert.DinIdeal.main_arg0)
      ∧ r.2.mem ((c.tc : Thread Cert.DinIdeal.nD Cert.DinIdeal.τ).loc Cert.DinIdeal.main_arg1) = m ((c.tc : Thread Cert.DinIdeal.nD Cert.DinIdeal.τ).loc Cert.DinIdeal.main_arg1)
      ∧ r.2.mem ((c.tc : Thread Cert.DinIdeal.nD Cert.DinIdeal.τ).loc Cert.DinIdeal.main_arg2) = m ((c.tc : Thread Cert.DinIdeal.nD Cert.DinIdeal.τ).loc Cert.DinIdeal.main_arg2)
      ∧ r.2.mem ((c.tc : Thread Cert.DinIdeal.nD Cert.DinIdeal.τ).loc Cert.DinIdeal.main_arg3) = m ((c.tc : Thread Cert.DinIdeal.nD Cert.DinIdeal.τ).loc Cert.DinIdeal.main_arg3)
      ∧ r.2.mem ((c.tc : Thread Cert.DinIdeal.nD Cert.DinIdeal.τ).loc Cert.DinIdeal.main_arg4) = m ((c.tc : Thread Cert.DinIdeal.nD Cert.DinIdeal.τ).loc Cert.DinIdeal.main_arg4)
      ∧ r.2.mem ((c.tc : Thread Cert.DinIdeal.nD Cert.DinIdeal.τ).loc Cert.DinIdeal.main_arg5) = m ((c.tc : Thread Cert.DinIdeal.nD Cert.DinIdeal.τ).loc Cert.DinIdeal.main_arg5)
      ∧ r.2.mem ((c.tc : Thread Cert.DinIdeal.nD Cert.DinIdeal.τ).loc Cert.DinIdeal.main_arg6) = m ((c.tc : Thread Cert.DinIdeal.nD Cert.DinIdeal.τ).loc Cert.DinIdeal.main_arg6)
      ∧ r.2.mem ((c.tc : Thread Cert.DinIdeal.nD Cert.DinIdeal.τ).loc Cert.DinIdeal.main_arg7) = m ((c.tc : Thread Cert.DinIdeal.nD Cert.DinIdeal.τ).loc Cert.DinIdeal.main_arg7))
      ∧ r.2.sem = fun _ => 0)

def quiescent_DinRefIdeal [hDinRefIdeal : Cert.DinRefIdeal.Facts] : Prop :=
  ∀ (m : (ℓ : Loc Cert.DinRefIdeal.nD Cert.DinRefIdeal.τ Cert.DinRefIdeal.sig) → Buf (Elt Ideal) ℓ) (g : Dev Cert.DinRefIdeal.nD → PrngReg), Pre_DinRefIdeal m →
    θ_run (Cert.DinRefIdeal.defs (F := Ideal)) (onTc (τ := Cert.DinRefIdeal.τ) (Cert.DinRefIdeal.main (F := Ideal))) ⟨m, fun _ => 0, g⟩ (fun r => (∀ c : Dev Cert.DinRefIdeal.nD,
      r.2.mem ((c.tc : Thread Cert.DinRefIdeal.nD Cert.DinRefIdeal.τ).loc Cert.DinRefIdeal.main_arg0) = m ((c.tc : Thread Cert.DinRefIdeal.nD Cert.DinRefIdeal.τ).loc Cert.DinRefIdeal.main_arg0)
      ∧ r.2.mem ((c.tc : Thread Cert.DinRefIdeal.nD Cert.DinRefIdeal.τ).loc Cert.DinRefIdeal.main_arg1) = m ((c.tc : Thread Cert.DinRefIdeal.nD Cert.DinRefIdeal.τ).loc Cert.DinRefIdeal.main_arg1)
      ∧ r.2.mem ((c.tc : Thread Cert.DinRefIdeal.nD Cert.DinRefIdeal.τ).loc Cert.DinRefIdeal.main_arg2) = m ((c.tc : Thread Cert.DinRefIdeal.nD Cert.DinRefIdeal.τ).loc Cert.DinRefIdeal.main_arg2)
      ∧ r.2.mem ((c.tc : Thread Cert.DinRefIdeal.nD Cert.DinRefIdeal.τ).loc Cert.DinRefIdeal.main_arg3) = m ((c.tc : Thread Cert.DinRefIdeal.nD Cert.DinRefIdeal.τ).loc Cert.DinRefIdeal.main_arg3)
      ∧ r.2.mem ((c.tc : Thread Cert.DinRefIdeal.nD Cert.DinRefIdeal.τ).loc Cert.DinRefIdeal.main_arg4) = m ((c.tc : Thread Cert.DinRefIdeal.nD Cert.DinRefIdeal.τ).loc Cert.DinRefIdeal.main_arg4)
      ∧ r.2.mem ((c.tc : Thread Cert.DinRefIdeal.nD Cert.DinRefIdeal.τ).loc Cert.DinRefIdeal.main_arg5) = m ((c.tc : Thread Cert.DinRefIdeal.nD Cert.DinRefIdeal.τ).loc Cert.DinRefIdeal.main_arg5)
      ∧ r.2.mem ((c.tc : Thread Cert.DinRefIdeal.nD Cert.DinRefIdeal.τ).loc Cert.DinRefIdeal.main_arg6) = m ((c.tc : Thread Cert.DinRefIdeal.nD Cert.DinRefIdeal.τ).loc Cert.DinRefIdeal.main_arg6)
      ∧ r.2.mem ((c.tc : Thread Cert.DinRefIdeal.nD Cert.DinRefIdeal.τ).loc Cert.DinRefIdeal.main_arg7) = m ((c.tc : Thread Cert.DinRefIdeal.nD Cert.DinRefIdeal.τ).loc Cert.DinRefIdeal.main_arg7))
      ∧ r.2.sem = fun _ => 0)

def quiescent_Ffn [hFfn : Cert.Ffn.Facts] : Prop :=
  ∀ (m : (ℓ : Loc Cert.Ffn.nD Cert.Ffn.τ Cert.Ffn.sig) → Buf (Elt Bits) ℓ) (g : Dev Cert.Ffn.nD → PrngReg), Pre_Ffn m →
    θ_run (Cert.Ffn.defs (F := Bits)) (onTc (τ := Cert.Ffn.τ) (Cert.Ffn.main (F := Bits))) ⟨m, fun _ => 0, g⟩ (fun r => (∀ c : Dev Cert.Ffn.nD,
      r.2.mem ((c.tc : Thread Cert.Ffn.nD Cert.Ffn.τ).loc Cert.Ffn.main_arg0) = m ((c.tc : Thread Cert.Ffn.nD Cert.Ffn.τ).loc Cert.Ffn.main_arg0)
      ∧ r.2.mem ((c.tc : Thread Cert.Ffn.nD Cert.Ffn.τ).loc Cert.Ffn.main_arg1) = m ((c.tc : Thread Cert.Ffn.nD Cert.Ffn.τ).loc Cert.Ffn.main_arg1)
      ∧ r.2.mem ((c.tc : Thread Cert.Ffn.nD Cert.Ffn.τ).loc Cert.Ffn.main_arg2) = m ((c.tc : Thread Cert.Ffn.nD Cert.Ffn.τ).loc Cert.Ffn.main_arg2)
      ∧ r.2.mem ((c.tc : Thread Cert.Ffn.nD Cert.Ffn.τ).loc Cert.Ffn.main_arg3) = m ((c.tc : Thread Cert.Ffn.nD Cert.Ffn.τ).loc Cert.Ffn.main_arg3)
      ∧ r.2.mem ((c.tc : Thread Cert.Ffn.nD Cert.Ffn.τ).loc Cert.Ffn.main_arg4) = m ((c.tc : Thread Cert.Ffn.nD Cert.Ffn.τ).loc Cert.Ffn.main_arg4)
      ∧ r.2.mem ((c.tc : Thread Cert.Ffn.nD Cert.Ffn.τ).loc Cert.Ffn.main_arg5) = m ((c.tc : Thread Cert.Ffn.nD Cert.Ffn.τ).loc Cert.Ffn.main_arg5)
      ∧ r.2.mem ((c.tc : Thread Cert.Ffn.nD Cert.Ffn.τ).loc Cert.Ffn.main_arg6) = m ((c.tc : Thread Cert.Ffn.nD Cert.Ffn.τ).loc Cert.Ffn.main_arg6)
      ∧ r.2.mem ((c.tc : Thread Cert.Ffn.nD Cert.Ffn.τ).loc Cert.Ffn.main_arg7) = m ((c.tc : Thread Cert.Ffn.nD Cert.Ffn.τ).loc Cert.Ffn.main_arg7))
      ∧ r.2.sem = fun _ => 0)

def quiescent_FfnIdeal [hFfnIdeal : Cert.FfnIdeal.Facts] : Prop :=
  ∀ (m : (ℓ : Loc Cert.FfnIdeal.nD Cert.FfnIdeal.τ Cert.FfnIdeal.sig) → Buf (Elt Ideal) ℓ) (g : Dev Cert.FfnIdeal.nD → PrngReg), Pre_FfnIdeal m →
    θ_run (Cert.FfnIdeal.defs (F := Ideal)) (onTc (τ := Cert.FfnIdeal.τ) (Cert.FfnIdeal.main (F := Ideal))) ⟨m, fun _ => 0, g⟩ (fun r => (∀ c : Dev Cert.FfnIdeal.nD,
      r.2.mem ((c.tc : Thread Cert.FfnIdeal.nD Cert.FfnIdeal.τ).loc Cert.FfnIdeal.main_arg0) = m ((c.tc : Thread Cert.FfnIdeal.nD Cert.FfnIdeal.τ).loc Cert.FfnIdeal.main_arg0)
      ∧ r.2.mem ((c.tc : Thread Cert.FfnIdeal.nD Cert.FfnIdeal.τ).loc Cert.FfnIdeal.main_arg1) = m ((c.tc : Thread Cert.FfnIdeal.nD Cert.FfnIdeal.τ).loc Cert.FfnIdeal.main_arg1)
      ∧ r.2.mem ((c.tc : Thread Cert.FfnIdeal.nD Cert.FfnIdeal.τ).loc Cert.FfnIdeal.main_arg2) = m ((c.tc : Thread Cert.FfnIdeal.nD Cert.FfnIdeal.τ).loc Cert.FfnIdeal.main_arg2)
      ∧ r.2.mem ((c.tc : Thread Cert.FfnIdeal.nD Cert.FfnIdeal.τ).loc Cert.FfnIdeal.main_arg3) = m ((c.tc : Thread Cert.FfnIdeal.nD Cert.FfnIdeal.τ).loc Cert.FfnIdeal.main_arg3)
      ∧ r.2.mem ((c.tc : Thread Cert.FfnIdeal.nD Cert.FfnIdeal.τ).loc Cert.FfnIdeal.main_arg4) = m ((c.tc : Thread Cert.FfnIdeal.nD Cert.FfnIdeal.τ).loc Cert.FfnIdeal.main_arg4)
      ∧ r.2.mem ((c.tc : Thread Cert.FfnIdeal.nD Cert.FfnIdeal.τ).loc Cert.FfnIdeal.main_arg5) = m ((c.tc : Thread Cert.FfnIdeal.nD Cert.FfnIdeal.τ).loc Cert.FfnIdeal.main_arg5)
      ∧ r.2.mem ((c.tc : Thread Cert.FfnIdeal.nD Cert.FfnIdeal.τ).loc Cert.FfnIdeal.main_arg6) = m ((c.tc : Thread Cert.FfnIdeal.nD Cert.FfnIdeal.τ).loc Cert.FfnIdeal.main_arg6)
      ∧ r.2.mem ((c.tc : Thread Cert.FfnIdeal.nD Cert.FfnIdeal.τ).loc Cert.FfnIdeal.main_arg7) = m ((c.tc : Thread Cert.FfnIdeal.nD Cert.FfnIdeal.τ).loc Cert.FfnIdeal.main_arg7))
      ∧ r.2.sem = fun _ => 0)

def quiescent_FfnIdeal_pre_ffn_finite [hFfnIdeal : Cert.FfnIdeal.Facts] [hPre_ffn_finite : Cert.Pre_ffn_finite.Facts] : Prop :=
  ∀ (m : (ℓ : Loc Cert.FfnIdeal.nD Cert.FfnIdeal.τ Cert.FfnIdeal.sig) → Buf (Elt Ideal) ℓ) (g : Dev Cert.FfnIdeal.nD → PrngReg), Pre_FfnIdeal_ffn_finite m →
    θ_run (Cert.FfnIdeal.defs (F := Ideal)) (onTc (τ := Cert.FfnIdeal.τ) (Cert.FfnIdeal.main (F := Ideal))) ⟨m, fun _ => 0, g⟩ (fun r => (∀ c : Dev Cert.FfnIdeal.nD,
      r.2.mem ((c.tc : Thread Cert.FfnIdeal.nD Cert.FfnIdeal.τ).loc Cert.FfnIdeal.main_arg0) = m ((c.tc : Thread Cert.FfnIdeal.nD Cert.FfnIdeal.τ).loc Cert.FfnIdeal.main_arg0)
      ∧ r.2.mem ((c.tc : Thread Cert.FfnIdeal.nD Cert.FfnIdeal.τ).loc Cert.FfnIdeal.main_arg1) = m ((c.tc : Thread Cert.FfnIdeal.nD Cert.FfnIdeal.τ).loc Cert.FfnIdeal.main_arg1)
      ∧ r.2.mem ((c.tc : Thread Cert.FfnIdeal.nD Cert.FfnIdeal.τ).loc Cert.FfnIdeal.main_arg2) = m ((c.tc : Thread Cert.FfnIdeal.nD Cert.FfnIdeal.τ).loc Cert.FfnIdeal.main_arg2)
      ∧ r.2.mem ((c.tc : Thread Cert.FfnIdeal.nD Cert.FfnIdeal.τ).loc Cert.FfnIdeal.main_arg3) = m ((c.tc : Thread Cert.FfnIdeal.nD Cert.FfnIdeal.τ).loc Cert.FfnIdeal.main_arg3)
      ∧ r.2.mem ((c.tc : Thread Cert.FfnIdeal.nD Cert.FfnIdeal.τ).loc Cert.FfnIdeal.main_arg4) = m ((c.tc : Thread Cert.FfnIdeal.nD Cert.FfnIdeal.τ).loc Cert.FfnIdeal.main_arg4)
      ∧ r.2.mem ((c.tc : Thread Cert.FfnIdeal.nD Cert.FfnIdeal.τ).loc Cert.FfnIdeal.main_arg5) = m ((c.tc : Thread Cert.FfnIdeal.nD Cert.FfnIdeal.τ).loc Cert.FfnIdeal.main_arg5)
      ∧ r.2.mem ((c.tc : Thread Cert.FfnIdeal.nD Cert.FfnIdeal.τ).loc Cert.FfnIdeal.main_arg6) = m ((c.tc : Thread Cert.FfnIdeal.nD Cert.FfnIdeal.τ).loc Cert.FfnIdeal.main_arg6)
      ∧ r.2.mem ((c.tc : Thread Cert.FfnIdeal.nD Cert.FfnIdeal.τ).loc Cert.FfnIdeal.main_arg7) = m ((c.tc : Thread Cert.FfnIdeal.nD Cert.FfnIdeal.τ).loc Cert.FfnIdeal.main_arg7))
      ∧ r.2.sem = fun _ => 0)

def quiescent_FfnRefIdeal [hFfnRefIdeal : Cert.FfnRefIdeal.Facts] : Prop :=
  ∀ (m : (ℓ : Loc Cert.FfnRefIdeal.nD Cert.FfnRefIdeal.τ Cert.FfnRefIdeal.sig) → Buf (Elt Ideal) ℓ) (g : Dev Cert.FfnRefIdeal.nD → PrngReg), Pre_FfnRefIdeal m →
    θ_run (Cert.FfnRefIdeal.defs (F := Ideal)) (onTc (τ := Cert.FfnRefIdeal.τ) (Cert.FfnRefIdeal.main (F := Ideal))) ⟨m, fun _ => 0, g⟩ (fun r => (∀ c : Dev Cert.FfnRefIdeal.nD,
      r.2.mem ((c.tc : Thread Cert.FfnRefIdeal.nD Cert.FfnRefIdeal.τ).loc Cert.FfnRefIdeal.main_arg0) = m ((c.tc : Thread Cert.FfnRefIdeal.nD Cert.FfnRefIdeal.τ).loc Cert.FfnRefIdeal.main_arg0)
      ∧ r.2.mem ((c.tc : Thread Cert.FfnRefIdeal.nD Cert.FfnRefIdeal.τ).loc Cert.FfnRefIdeal.main_arg1) = m ((c.tc : Thread Cert.FfnRefIdeal.nD Cert.FfnRefIdeal.τ).loc Cert.FfnRefIdeal.main_arg1)
      ∧ r.2.mem ((c.tc : Thread Cert.FfnRefIdeal.nD Cert.FfnRefIdeal.τ).loc Cert.FfnRefIdeal.main_arg2) = m ((c.tc : Thread Cert.FfnRefIdeal.nD Cert.FfnRefIdeal.τ).loc Cert.FfnRefIdeal.main_arg2)
      ∧ r.2.mem ((c.tc : Thread Cert.FfnRefIdeal.nD Cert.FfnRefIdeal.τ).loc Cert.FfnRefIdeal.main_arg3) = m ((c.tc : Thread Cert.FfnRefIdeal.nD Cert.FfnRefIdeal.τ).loc Cert.FfnRefIdeal.main_arg3)
      ∧ r.2.mem ((c.tc : Thread Cert.FfnRefIdeal.nD Cert.FfnRefIdeal.τ).loc Cert.FfnRefIdeal.main_arg4) = m ((c.tc : Thread Cert.FfnRefIdeal.nD Cert.FfnRefIdeal.τ).loc Cert.FfnRefIdeal.main_arg4)
      ∧ r.2.mem ((c.tc : Thread Cert.FfnRefIdeal.nD Cert.FfnRefIdeal.τ).loc Cert.FfnRefIdeal.main_arg5) = m ((c.tc : Thread Cert.FfnRefIdeal.nD Cert.FfnRefIdeal.τ).loc Cert.FfnRefIdeal.main_arg5)
      ∧ r.2.mem ((c.tc : Thread Cert.FfnRefIdeal.nD Cert.FfnRefIdeal.τ).loc Cert.FfnRefIdeal.main_arg6) = m ((c.tc : Thread Cert.FfnRefIdeal.nD Cert.FfnRefIdeal.τ).loc Cert.FfnRefIdeal.main_arg6)
      ∧ r.2.mem ((c.tc : Thread Cert.FfnRefIdeal.nD Cert.FfnRefIdeal.τ).loc Cert.FfnRefIdeal.main_arg7) = m ((c.tc : Thread Cert.FfnRefIdeal.nD Cert.FfnRefIdeal.τ).loc Cert.FfnRefIdeal.main_arg7))
      ∧ r.2.sem = fun _ => 0)

def quiescent_FfnRefIdeal_pre_ffn_finite [hFfnRefIdeal : Cert.FfnRefIdeal.Facts] [hPre_ffn_finite : Cert.Pre_ffn_finite.Facts] : Prop :=
  ∀ (m : (ℓ : Loc Cert.FfnRefIdeal.nD Cert.FfnRefIdeal.τ Cert.FfnRefIdeal.sig) → Buf (Elt Ideal) ℓ) (g : Dev Cert.FfnRefIdeal.nD → PrngReg), Pre_FfnRefIdeal_ffn_finite m →
    θ_run (Cert.FfnRefIdeal.defs (F := Ideal)) (onTc (τ := Cert.FfnRefIdeal.τ) (Cert.FfnRefIdeal.main (F := Ideal))) ⟨m, fun _ => 0, g⟩ (fun r => (∀ c : Dev Cert.FfnRefIdeal.nD,
      r.2.mem ((c.tc : Thread Cert.FfnRefIdeal.nD Cert.FfnRefIdeal.τ).loc Cert.FfnRefIdeal.main_arg0) = m ((c.tc : Thread Cert.FfnRefIdeal.nD Cert.FfnRefIdeal.τ).loc Cert.FfnRefIdeal.main_arg0)
      ∧ r.2.mem ((c.tc : Thread Cert.FfnRefIdeal.nD Cert.FfnRefIdeal.τ).loc Cert.FfnRefIdeal.main_arg1) = m ((c.tc : Thread Cert.FfnRefIdeal.nD Cert.FfnRefIdeal.τ).loc Cert.FfnRefIdeal.main_arg1)
      ∧ r.2.mem ((c.tc : Thread Cert.FfnRefIdeal.nD Cert.FfnRefIdeal.τ).loc Cert.FfnRefIdeal.main_arg2) = m ((c.tc : Thread Cert.FfnRefIdeal.nD Cert.FfnRefIdeal.τ).loc Cert.FfnRefIdeal.main_arg2)
      ∧ r.2.mem ((c.tc : Thread Cert.FfnRefIdeal.nD Cert.FfnRefIdeal.τ).loc Cert.FfnRefIdeal.main_arg3) = m ((c.tc : Thread Cert.FfnRefIdeal.nD Cert.FfnRefIdeal.τ).loc Cert.FfnRefIdeal.main_arg3)
      ∧ r.2.mem ((c.tc : Thread Cert.FfnRefIdeal.nD Cert.FfnRefIdeal.τ).loc Cert.FfnRefIdeal.main_arg4) = m ((c.tc : Thread Cert.FfnRefIdeal.nD Cert.FfnRefIdeal.τ).loc Cert.FfnRefIdeal.main_arg4)
      ∧ r.2.mem ((c.tc : Thread Cert.FfnRefIdeal.nD Cert.FfnRefIdeal.τ).loc Cert.FfnRefIdeal.main_arg5) = m ((c.tc : Thread Cert.FfnRefIdeal.nD Cert.FfnRefIdeal.τ).loc Cert.FfnRefIdeal.main_arg5)
      ∧ r.2.mem ((c.tc : Thread Cert.FfnRefIdeal.nD Cert.FfnRefIdeal.τ).loc Cert.FfnRefIdeal.main_arg6) = m ((c.tc : Thread Cert.FfnRefIdeal.nD Cert.FfnRefIdeal.τ).loc Cert.FfnRefIdeal.main_arg6)
      ∧ r.2.mem ((c.tc : Thread Cert.FfnRefIdeal.nD Cert.FfnRefIdeal.τ).loc Cert.FfnRefIdeal.main_arg7) = m ((c.tc : Thread Cert.FfnRefIdeal.nD Cert.FfnRefIdeal.τ).loc Cert.FfnRefIdeal.main_arg7))
      ∧ r.2.sem = fun _ => 0)

def quiescent_Table [hTable : Cert.Table.Facts] : Prop :=
  ∀ (m : (ℓ : Loc Cert.Table.nD Cert.Table.τ Cert.Table.sig) → Buf (Elt Bits) ℓ) (g : Dev Cert.Table.nD → PrngReg), Pre_Table m →
    θ_run (Cert.Table.defs (F := Bits)) (onTc (τ := Cert.Table.τ) (Cert.Table.main (F := Bits))) ⟨m, fun _ => 0, g⟩ (fun r => (∀ c : Dev Cert.Table.nD,
      r.2.mem ((c.tc : Thread Cert.Table.nD Cert.Table.τ).loc Cert.Table.main_arg0) = m ((c.tc : Thread Cert.Table.nD Cert.Table.τ).loc Cert.Table.main_arg0)
      ∧ r.2.mem ((c.tc : Thread Cert.Table.nD Cert.Table.τ).loc Cert.Table.main_arg1) = m ((c.tc : Thread Cert.Table.nD Cert.Table.τ).loc Cert.Table.main_arg1))
      ∧ r.2.sem = fun _ => 0)

def quiescent_TableIdeal [hTableIdeal : Cert.TableIdeal.Facts] : Prop :=
  ∀ (m : (ℓ : Loc Cert.TableIdeal.nD Cert.TableIdeal.τ Cert.TableIdeal.sig) → Buf (Elt Ideal) ℓ) (g : Dev Cert.TableIdeal.nD → PrngReg), Pre_TableIdeal m →
    θ_run (Cert.TableIdeal.defs (F := Ideal)) (onTc (τ := Cert.TableIdeal.τ) (Cert.TableIdeal.main (F := Ideal))) ⟨m, fun _ => 0, g⟩ (fun r => (∀ c : Dev Cert.TableIdeal.nD,
      r.2.mem ((c.tc : Thread Cert.TableIdeal.nD Cert.TableIdeal.τ).loc Cert.TableIdeal.main_arg0) = m ((c.tc : Thread Cert.TableIdeal.nD Cert.TableIdeal.τ).loc Cert.TableIdeal.main_arg0)
      ∧ r.2.mem ((c.tc : Thread Cert.TableIdeal.nD Cert.TableIdeal.τ).loc Cert.TableIdeal.main_arg1) = m ((c.tc : Thread Cert.TableIdeal.nD Cert.TableIdeal.τ).loc Cert.TableIdeal.main_arg1))
      ∧ r.2.sem = fun _ => 0)

def quiescent_TableRefIdeal [hTableRefIdeal : Cert.TableRefIdeal.Facts] : Prop :=
  ∀ (m : (ℓ : Loc Cert.TableRefIdeal.nD Cert.TableRefIdeal.τ Cert.TableRefIdeal.sig) → Buf (Elt Ideal) ℓ) (g : Dev Cert.TableRefIdeal.nD → PrngReg), Pre_TableRefIdeal m →
    θ_run (Cert.TableRefIdeal.defs (F := Ideal)) (onTc (τ := Cert.TableRefIdeal.τ) (Cert.TableRefIdeal.main (F := Ideal))) ⟨m, fun _ => 0, g⟩ (fun r => (∀ c : Dev Cert.TableRefIdeal.nD,
      r.2.mem ((c.tc : Thread Cert.TableRefIdeal.nD Cert.TableRefIdeal.τ).loc Cert.TableRefIdeal.main_arg0) = m ((c.tc : Thread Cert.TableRefIdeal.nD Cert.TableRefIdeal.τ).loc Cert.TableRefIdeal.main_arg0)
      ∧ r.2.mem ((c.tc : Thread Cert.TableRefIdeal.nD Cert.TableRefIdeal.τ).loc Cert.TableRefIdeal.main_arg1) = m ((c.tc : Thread Cert.TableRefIdeal.nD Cert.TableRefIdeal.τ).loc Cert.TableRefIdeal.main_arg1))
      ∧ r.2.sem = fun _ => 0)

def quiescent_Back [hBack : Cert.Back.Facts] : Prop :=
  ∀ (m : (ℓ : Loc Cert.Back.nD Cert.Back.τ Cert.Back.sig) → Buf (Elt Bits) ℓ) (g : Dev Cert.Back.nD → PrngReg), Pre_Back m →
    θ_run (Cert.Back.defs (F := Bits)) (onTc (τ := Cert.Back.τ) (Cert.Back.main (F := Bits))) ⟨m, fun _ => 0, g⟩ (fun r => (∀ c : Dev Cert.Back.nD,
      r.2.mem ((c.tc : Thread Cert.Back.nD Cert.Back.τ).loc Cert.Back.main_arg0) = m ((c.tc : Thread Cert.Back.nD Cert.Back.τ).loc Cert.Back.main_arg0)
      ∧ r.2.mem ((c.tc : Thread Cert.Back.nD Cert.Back.τ).loc Cert.Back.main_arg1) = m ((c.tc : Thread Cert.Back.nD Cert.Back.τ).loc Cert.Back.main_arg1)
      ∧ r.2.mem ((c.tc : Thread Cert.Back.nD Cert.Back.τ).loc Cert.Back.main_arg2) = m ((c.tc : Thread Cert.Back.nD Cert.Back.τ).loc Cert.Back.main_arg2)
      ∧ r.2.mem ((c.tc : Thread Cert.Back.nD Cert.Back.τ).loc Cert.Back.main_arg3) = m ((c.tc : Thread Cert.Back.nD Cert.Back.τ).loc Cert.Back.main_arg3)
      ∧ r.2.mem ((c.tc : Thread Cert.Back.nD Cert.Back.τ).loc Cert.Back.main_arg4) = m ((c.tc : Thread Cert.Back.nD Cert.Back.τ).loc Cert.Back.main_arg4)
      ∧ r.2.mem ((c.tc : Thread Cert.Back.nD Cert.Back.τ).loc Cert.Back.main_arg5) = m ((c.tc : Thread Cert.Back.nD Cert.Back.τ).loc Cert.Back.main_arg5)
      ∧ r.2.mem ((c.tc : Thread Cert.Back.nD Cert.Back.τ).loc Cert.Back.main_arg6) = m ((c.tc : Thread Cert.Back.nD Cert.Back.τ).loc Cert.Back.main_arg6)
      ∧ r.2.mem ((c.tc : Thread Cert.Back.nD Cert.Back.τ).loc Cert.Back.main_arg7) = m ((c.tc : Thread Cert.Back.nD Cert.Back.τ).loc Cert.Back.main_arg7)
      ∧ r.2.mem ((c.tc : Thread Cert.Back.nD Cert.Back.τ).loc Cert.Back.main_arg8) = m ((c.tc : Thread Cert.Back.nD Cert.Back.τ).loc Cert.Back.main_arg8)
      ∧ r.2.mem ((c.tc : Thread Cert.Back.nD Cert.Back.τ).loc Cert.Back.main_arg9) = m ((c.tc : Thread Cert.Back.nD Cert.Back.τ).loc Cert.Back.main_arg9)
      ∧ r.2.mem ((c.tc : Thread Cert.Back.nD Cert.Back.τ).loc Cert.Back.main_arg10) = m ((c.tc : Thread Cert.Back.nD Cert.Back.τ).loc Cert.Back.main_arg10))
      ∧ r.2.sem = fun _ => 0)

def quiescent_BackIdeal [hBackIdeal : Cert.BackIdeal.Facts] : Prop :=
  ∀ (m : (ℓ : Loc Cert.BackIdeal.nD Cert.BackIdeal.τ Cert.BackIdeal.sig) → Buf (Elt Ideal) ℓ) (g : Dev Cert.BackIdeal.nD → PrngReg), Pre_BackIdeal m →
    θ_run (Cert.BackIdeal.defs (F := Ideal)) (onTc (τ := Cert.BackIdeal.τ) (Cert.BackIdeal.main (F := Ideal))) ⟨m, fun _ => 0, g⟩ (fun r => (∀ c : Dev Cert.BackIdeal.nD,
      r.2.mem ((c.tc : Thread Cert.BackIdeal.nD Cert.BackIdeal.τ).loc Cert.BackIdeal.main_arg0) = m ((c.tc : Thread Cert.BackIdeal.nD Cert.BackIdeal.τ).loc Cert.BackIdeal.main_arg0)
      ∧ r.2.mem ((c.tc : Thread Cert.BackIdeal.nD Cert.BackIdeal.τ).loc Cert.BackIdeal.main_arg1) = m ((c.tc : Thread Cert.BackIdeal.nD Cert.BackIdeal.τ).loc Cert.BackIdeal.main_arg1)
      ∧ r.2.mem ((c.tc : Thread Cert.BackIdeal.nD Cert.BackIdeal.τ).loc Cert.BackIdeal.main_arg2) = m ((c.tc : Thread Cert.BackIdeal.nD Cert.BackIdeal.τ).loc Cert.BackIdeal.main_arg2)
      ∧ r.2.mem ((c.tc : Thread Cert.BackIdeal.nD Cert.BackIdeal.τ).loc Cert.BackIdeal.main_arg3) = m ((c.tc : Thread Cert.BackIdeal.nD Cert.BackIdeal.τ).loc Cert.BackIdeal.main_arg3)
      ∧ r.2.mem ((c.tc : Thread Cert.BackIdeal.nD Cert.BackIdeal.τ).loc Cert.BackIdeal.main_arg4) = m ((c.tc : Thread Cert.BackIdeal.nD Cert.BackIdeal.τ).loc Cert.BackIdeal.main_arg4)
      ∧ r.2.mem ((c.tc : Thread Cert.BackIdeal.nD Cert.BackIdeal.τ).loc Cert.BackIdeal.main_arg5) = m ((c.tc : Thread Cert.BackIdeal.nD Cert.BackIdeal.τ).loc Cert.BackIdeal.main_arg5)
      ∧ r.2.mem ((c.tc : Thread Cert.BackIdeal.nD Cert.BackIdeal.τ).loc Cert.BackIdeal.main_arg6) = m ((c.tc : Thread Cert.BackIdeal.nD Cert.BackIdeal.τ).loc Cert.BackIdeal.main_arg6)
      ∧ r.2.mem ((c.tc : Thread Cert.BackIdeal.nD Cert.BackIdeal.τ).loc Cert.BackIdeal.main_arg7) = m ((c.tc : Thread Cert.BackIdeal.nD Cert.BackIdeal.τ).loc Cert.BackIdeal.main_arg7)
      ∧ r.2.mem ((c.tc : Thread Cert.BackIdeal.nD Cert.BackIdeal.τ).loc Cert.BackIdeal.main_arg8) = m ((c.tc : Thread Cert.BackIdeal.nD Cert.BackIdeal.τ).loc Cert.BackIdeal.main_arg8)
      ∧ r.2.mem ((c.tc : Thread Cert.BackIdeal.nD Cert.BackIdeal.τ).loc Cert.BackIdeal.main_arg9) = m ((c.tc : Thread Cert.BackIdeal.nD Cert.BackIdeal.τ).loc Cert.BackIdeal.main_arg9)
      ∧ r.2.mem ((c.tc : Thread Cert.BackIdeal.nD Cert.BackIdeal.τ).loc Cert.BackIdeal.main_arg10) = m ((c.tc : Thread Cert.BackIdeal.nD Cert.BackIdeal.τ).loc Cert.BackIdeal.main_arg10))
      ∧ r.2.sem = fun _ => 0)

def quiescent_BackIdeal_pre_back_finite [hBackIdeal : Cert.BackIdeal.Facts] [hPre_back_finite : Cert.Pre_back_finite.Facts] : Prop :=
  ∀ (m : (ℓ : Loc Cert.BackIdeal.nD Cert.BackIdeal.τ Cert.BackIdeal.sig) → Buf (Elt Ideal) ℓ) (g : Dev Cert.BackIdeal.nD → PrngReg), Pre_BackIdeal_back_finite m →
    θ_run (Cert.BackIdeal.defs (F := Ideal)) (onTc (τ := Cert.BackIdeal.τ) (Cert.BackIdeal.main (F := Ideal))) ⟨m, fun _ => 0, g⟩ (fun r => (∀ c : Dev Cert.BackIdeal.nD,
      r.2.mem ((c.tc : Thread Cert.BackIdeal.nD Cert.BackIdeal.τ).loc Cert.BackIdeal.main_arg0) = m ((c.tc : Thread Cert.BackIdeal.nD Cert.BackIdeal.τ).loc Cert.BackIdeal.main_arg0)
      ∧ r.2.mem ((c.tc : Thread Cert.BackIdeal.nD Cert.BackIdeal.τ).loc Cert.BackIdeal.main_arg1) = m ((c.tc : Thread Cert.BackIdeal.nD Cert.BackIdeal.τ).loc Cert.BackIdeal.main_arg1)
      ∧ r.2.mem ((c.tc : Thread Cert.BackIdeal.nD Cert.BackIdeal.τ).loc Cert.BackIdeal.main_arg2) = m ((c.tc : Thread Cert.BackIdeal.nD Cert.BackIdeal.τ).loc Cert.BackIdeal.main_arg2)
      ∧ r.2.mem ((c.tc : Thread Cert.BackIdeal.nD Cert.BackIdeal.τ).loc Cert.BackIdeal.main_arg3) = m ((c.tc : Thread Cert.BackIdeal.nD Cert.BackIdeal.τ).loc Cert.BackIdeal.main_arg3)
      ∧ r.2.mem ((c.tc : Thread Cert.BackIdeal.nD Cert.BackIdeal.τ).loc Cert.BackIdeal.main_arg4) = m ((c.tc : Thread Cert.BackIdeal.nD Cert.BackIdeal.τ).loc Cert.BackIdeal.main_arg4)
      ∧ r.2.mem ((c.tc : Thread Cert.BackIdeal.nD Cert.BackIdeal.τ).loc Cert.BackIdeal.main_arg5) = m ((c.tc : Thread Cert.BackIdeal.nD Cert.BackIdeal.τ).loc Cert.BackIdeal.main_arg5)
      ∧ r.2.mem ((c.tc : Thread Cert.BackIdeal.nD Cert.BackIdeal.τ).loc Cert.BackIdeal.main_arg6) = m ((c.tc : Thread Cert.BackIdeal.nD Cert.BackIdeal.τ).loc Cert.BackIdeal.main_arg6)
      ∧ r.2.mem ((c.tc : Thread Cert.BackIdeal.nD Cert.BackIdeal.τ).loc Cert.BackIdeal.main_arg7) = m ((c.tc : Thread Cert.BackIdeal.nD Cert.BackIdeal.τ).loc Cert.BackIdeal.main_arg7)
      ∧ r.2.mem ((c.tc : Thread Cert.BackIdeal.nD Cert.BackIdeal.τ).loc Cert.BackIdeal.main_arg8) = m ((c.tc : Thread Cert.BackIdeal.nD Cert.BackIdeal.τ).loc Cert.BackIdeal.main_arg8)
      ∧ r.2.mem ((c.tc : Thread Cert.BackIdeal.nD Cert.BackIdeal.τ).loc Cert.BackIdeal.main_arg9) = m ((c.tc : Thread Cert.BackIdeal.nD Cert.BackIdeal.τ).loc Cert.BackIdeal.main_arg9)
      ∧ r.2.mem ((c.tc : Thread Cert.BackIdeal.nD Cert.BackIdeal.τ).loc Cert.BackIdeal.main_arg10) = m ((c.tc : Thread Cert.BackIdeal.nD Cert.BackIdeal.τ).loc Cert.BackIdeal.main_arg10))
      ∧ r.2.sem = fun _ => 0)

def quiescent_BackRefIdeal [hBackRefIdeal : Cert.BackRefIdeal.Facts] : Prop :=
  ∀ (m : (ℓ : Loc Cert.BackRefIdeal.nD Cert.BackRefIdeal.τ Cert.BackRefIdeal.sig) → Buf (Elt Ideal) ℓ) (g : Dev Cert.BackRefIdeal.nD → PrngReg), Pre_BackRefIdeal m →
    θ_run (Cert.BackRefIdeal.defs (F := Ideal)) (onTc (τ := Cert.BackRefIdeal.τ) (Cert.BackRefIdeal.main (F := Ideal))) ⟨m, fun _ => 0, g⟩ (fun r => (∀ c : Dev Cert.BackRefIdeal.nD,
      r.2.mem ((c.tc : Thread Cert.BackRefIdeal.nD Cert.BackRefIdeal.τ).loc Cert.BackRefIdeal.main_arg0) = m ((c.tc : Thread Cert.BackRefIdeal.nD Cert.BackRefIdeal.τ).loc Cert.BackRefIdeal.main_arg0)
      ∧ r.2.mem ((c.tc : Thread Cert.BackRefIdeal.nD Cert.BackRefIdeal.τ).loc Cert.BackRefIdeal.main_arg1) = m ((c.tc : Thread Cert.BackRefIdeal.nD Cert.BackRefIdeal.τ).loc Cert.BackRefIdeal.main_arg1)
      ∧ r.2.mem ((c.tc : Thread Cert.BackRefIdeal.nD Cert.BackRefIdeal.τ).loc Cert.BackRefIdeal.main_arg2) = m ((c.tc : Thread Cert.BackRefIdeal.nD Cert.BackRefIdeal.τ).loc Cert.BackRefIdeal.main_arg2)
      ∧ r.2.mem ((c.tc : Thread Cert.BackRefIdeal.nD Cert.BackRefIdeal.τ).loc Cert.BackRefIdeal.main_arg3) = m ((c.tc : Thread Cert.BackRefIdeal.nD Cert.BackRefIdeal.τ).loc Cert.BackRefIdeal.main_arg3)
      ∧ r.2.mem ((c.tc : Thread Cert.BackRefIdeal.nD Cert.BackRefIdeal.τ).loc Cert.BackRefIdeal.main_arg4) = m ((c.tc : Thread Cert.BackRefIdeal.nD Cert.BackRefIdeal.τ).loc Cert.BackRefIdeal.main_arg4)
      ∧ r.2.mem ((c.tc : Thread Cert.BackRefIdeal.nD Cert.BackRefIdeal.τ).loc Cert.BackRefIdeal.main_arg5) = m ((c.tc : Thread Cert.BackRefIdeal.nD Cert.BackRefIdeal.τ).loc Cert.BackRefIdeal.main_arg5)
      ∧ r.2.mem ((c.tc : Thread Cert.BackRefIdeal.nD Cert.BackRefIdeal.τ).loc Cert.BackRefIdeal.main_arg6) = m ((c.tc : Thread Cert.BackRefIdeal.nD Cert.BackRefIdeal.τ).loc Cert.BackRefIdeal.main_arg6)
      ∧ r.2.mem ((c.tc : Thread Cert.BackRefIdeal.nD Cert.BackRefIdeal.τ).loc Cert.BackRefIdeal.main_arg7) = m ((c.tc : Thread Cert.BackRefIdeal.nD Cert.BackRefIdeal.τ).loc Cert.BackRefIdeal.main_arg7)
      ∧ r.2.mem ((c.tc : Thread Cert.BackRefIdeal.nD Cert.BackRefIdeal.τ).loc Cert.BackRefIdeal.main_arg8) = m ((c.tc : Thread Cert.BackRefIdeal.nD Cert.BackRefIdeal.τ).loc Cert.BackRefIdeal.main_arg8)
      ∧ r.2.mem ((c.tc : Thread Cert.BackRefIdeal.nD Cert.BackRefIdeal.τ).loc Cert.BackRefIdeal.main_arg9) = m ((c.tc : Thread Cert.BackRefIdeal.nD Cert.BackRefIdeal.τ).loc Cert.BackRefIdeal.main_arg9)
      ∧ r.2.mem ((c.tc : Thread Cert.BackRefIdeal.nD Cert.BackRefIdeal.τ).loc Cert.BackRefIdeal.main_arg10) = m ((c.tc : Thread Cert.BackRefIdeal.nD Cert.BackRefIdeal.τ).loc Cert.BackRefIdeal.main_arg10))
      ∧ r.2.sem = fun _ => 0)

def quiescent_BackRefIdeal_pre_back_finite [hBackRefIdeal : Cert.BackRefIdeal.Facts] [hPre_back_finite : Cert.Pre_back_finite.Facts] : Prop :=
  ∀ (m : (ℓ : Loc Cert.BackRefIdeal.nD Cert.BackRefIdeal.τ Cert.BackRefIdeal.sig) → Buf (Elt Ideal) ℓ) (g : Dev Cert.BackRefIdeal.nD → PrngReg), Pre_BackRefIdeal_back_finite m →
    θ_run (Cert.BackRefIdeal.defs (F := Ideal)) (onTc (τ := Cert.BackRefIdeal.τ) (Cert.BackRefIdeal.main (F := Ideal))) ⟨m, fun _ => 0, g⟩ (fun r => (∀ c : Dev Cert.BackRefIdeal.nD,
      r.2.mem ((c.tc : Thread Cert.BackRefIdeal.nD Cert.BackRefIdeal.τ).loc Cert.BackRefIdeal.main_arg0) = m ((c.tc : Thread Cert.BackRefIdeal.nD Cert.BackRefIdeal.τ).loc Cert.BackRefIdeal.main_arg0)
      ∧ r.2.mem ((c.tc : Thread Cert.BackRefIdeal.nD Cert.BackRefIdeal.τ).loc Cert.BackRefIdeal.main_arg1) = m ((c.tc : Thread Cert.BackRefIdeal.nD Cert.BackRefIdeal.τ).loc Cert.BackRefIdeal.main_arg1)
      ∧ r.2.mem ((c.tc : Thread Cert.BackRefIdeal.nD Cert.BackRefIdeal.τ).loc Cert.BackRefIdeal.main_arg2) = m ((c.tc : Thread Cert.BackRefIdeal.nD Cert.BackRefIdeal.τ).loc Cert.BackRefIdeal.main_arg2)
      ∧ r.2.mem ((c.tc : Thread Cert.BackRefIdeal.nD Cert.BackRefIdeal.τ).loc Cert.BackRefIdeal.main_arg3) = m ((c.tc : Thread Cert.BackRefIdeal.nD Cert.BackRefIdeal.τ).loc Cert.BackRefIdeal.main_arg3)
      ∧ r.2.mem ((c.tc : Thread Cert.BackRefIdeal.nD Cert.BackRefIdeal.τ).loc Cert.BackRefIdeal.main_arg4) = m ((c.tc : Thread Cert.BackRefIdeal.nD Cert.BackRefIdeal.τ).loc Cert.BackRefIdeal.main_arg4)
      ∧ r.2.mem ((c.tc : Thread Cert.BackRefIdeal.nD Cert.BackRefIdeal.τ).loc Cert.BackRefIdeal.main_arg5) = m ((c.tc : Thread Cert.BackRefIdeal.nD Cert.BackRefIdeal.τ).loc Cert.BackRefIdeal.main_arg5)
      ∧ r.2.mem ((c.tc : Thread Cert.BackRefIdeal.nD Cert.BackRefIdeal.τ).loc Cert.BackRefIdeal.main_arg6) = m ((c.tc : Thread Cert.BackRefIdeal.nD Cert.BackRefIdeal.τ).loc Cert.BackRefIdeal.main_arg6)
      ∧ r.2.mem ((c.tc : Thread Cert.BackRefIdeal.nD Cert.BackRefIdeal.τ).loc Cert.BackRefIdeal.main_arg7) = m ((c.tc : Thread Cert.BackRefIdeal.nD Cert.BackRefIdeal.τ).loc Cert.BackRefIdeal.main_arg7)
      ∧ r.2.mem ((c.tc : Thread Cert.BackRefIdeal.nD Cert.BackRefIdeal.τ).loc Cert.BackRefIdeal.main_arg8) = m ((c.tc : Thread Cert.BackRefIdeal.nD Cert.BackRefIdeal.τ).loc Cert.BackRefIdeal.main_arg8)
      ∧ r.2.mem ((c.tc : Thread Cert.BackRefIdeal.nD Cert.BackRefIdeal.τ).loc Cert.BackRefIdeal.main_arg9) = m ((c.tc : Thread Cert.BackRefIdeal.nD Cert.BackRefIdeal.τ).loc Cert.BackRefIdeal.main_arg9)
      ∧ r.2.mem ((c.tc : Thread Cert.BackRefIdeal.nD Cert.BackRefIdeal.τ).loc Cert.BackRefIdeal.main_arg10) = m ((c.tc : Thread Cert.BackRefIdeal.nD Cert.BackRefIdeal.τ).loc Cert.BackRefIdeal.main_arg10))
      ∧ r.2.sem = fun _ => 0)

def quiescent_MixFwd [hMixFwd : Cert.MixFwd.Facts] : Prop :=
  ∀ (m : (ℓ : Loc Cert.MixFwd.nD Cert.MixFwd.τ Cert.MixFwd.sig) → Buf (Elt Bits) ℓ) (g : Dev Cert.MixFwd.nD → PrngReg), Pre_MixFwd m →
    θ_run (Cert.MixFwd.defs (F := Bits)) (onTc (τ := Cert.MixFwd.τ) (Cert.MixFwd.main (F := Bits))) ⟨m, fun _ => 0, g⟩ (fun r => (∀ c : Dev Cert.MixFwd.nD,
      r.2.mem ((c.tc : Thread Cert.MixFwd.nD Cert.MixFwd.τ).loc Cert.MixFwd.main_arg0) = m ((c.tc : Thread Cert.MixFwd.nD Cert.MixFwd.τ).loc Cert.MixFwd.main_arg0)
      ∧ r.2.mem ((c.tc : Thread Cert.MixFwd.nD Cert.MixFwd.τ).loc Cert.MixFwd.main_arg1) = m ((c.tc : Thread Cert.MixFwd.nD Cert.MixFwd.τ).loc Cert.MixFwd.main_arg1)
      ∧ r.2.mem ((c.tc : Thread Cert.MixFwd.nD Cert.MixFwd.τ).loc Cert.MixFwd.main_arg2) = m ((c.tc : Thread Cert.MixFwd.nD Cert.MixFwd.τ).loc Cert.MixFwd.main_arg2)
      ∧ r.2.mem ((c.tc : Thread Cert.MixFwd.nD Cert.MixFwd.τ).loc Cert.MixFwd.main_arg3) = m ((c.tc : Thread Cert.MixFwd.nD Cert.MixFwd.τ).loc Cert.MixFwd.main_arg3)
      ∧ r.2.mem ((c.tc : Thread Cert.MixFwd.nD Cert.MixFwd.τ).loc Cert.MixFwd.main_arg4) = m ((c.tc : Thread Cert.MixFwd.nD Cert.MixFwd.τ).loc Cert.MixFwd.main_arg4)
      ∧ r.2.mem ((c.tc : Thread Cert.MixFwd.nD Cert.MixFwd.τ).loc Cert.MixFwd.main_arg5) = m ((c.tc : Thread Cert.MixFwd.nD Cert.MixFwd.τ).loc Cert.MixFwd.main_arg5)
      ∧ r.2.mem ((c.tc : Thread Cert.MixFwd.nD Cert.MixFwd.τ).loc Cert.MixFwd.main_arg6) = m ((c.tc : Thread Cert.MixFwd.nD Cert.MixFwd.τ).loc Cert.MixFwd.main_arg6)
      ∧ r.2.mem ((c.tc : Thread Cert.MixFwd.nD Cert.MixFwd.τ).loc Cert.MixFwd.main_arg7) = m ((c.tc : Thread Cert.MixFwd.nD Cert.MixFwd.τ).loc Cert.MixFwd.main_arg7)
      ∧ r.2.mem ((c.tc : Thread Cert.MixFwd.nD Cert.MixFwd.τ).loc Cert.MixFwd.main_arg8) = m ((c.tc : Thread Cert.MixFwd.nD Cert.MixFwd.τ).loc Cert.MixFwd.main_arg8))
      ∧ r.2.sem = fun _ => 0)

def quiescent_MixFwdIdeal [hMixFwdIdeal : Cert.MixFwdIdeal.Facts] : Prop :=
  ∀ (m : (ℓ : Loc Cert.MixFwdIdeal.nD Cert.MixFwdIdeal.τ Cert.MixFwdIdeal.sig) → Buf (Elt Ideal) ℓ) (g : Dev Cert.MixFwdIdeal.nD → PrngReg), Pre_MixFwdIdeal m →
    θ_run (Cert.MixFwdIdeal.defs (F := Ideal)) (onTc (τ := Cert.MixFwdIdeal.τ) (Cert.MixFwdIdeal.main (F := Ideal))) ⟨m, fun _ => 0, g⟩ (fun r => (∀ c : Dev Cert.MixFwdIdeal.nD,
      r.2.mem ((c.tc : Thread Cert.MixFwdIdeal.nD Cert.MixFwdIdeal.τ).loc Cert.MixFwdIdeal.main_arg0) = m ((c.tc : Thread Cert.MixFwdIdeal.nD Cert.MixFwdIdeal.τ).loc Cert.MixFwdIdeal.main_arg0)
      ∧ r.2.mem ((c.tc : Thread Cert.MixFwdIdeal.nD Cert.MixFwdIdeal.τ).loc Cert.MixFwdIdeal.main_arg1) = m ((c.tc : Thread Cert.MixFwdIdeal.nD Cert.MixFwdIdeal.τ).loc Cert.MixFwdIdeal.main_arg1)
      ∧ r.2.mem ((c.tc : Thread Cert.MixFwdIdeal.nD Cert.MixFwdIdeal.τ).loc Cert.MixFwdIdeal.main_arg2) = m ((c.tc : Thread Cert.MixFwdIdeal.nD Cert.MixFwdIdeal.τ).loc Cert.MixFwdIdeal.main_arg2)
      ∧ r.2.mem ((c.tc : Thread Cert.MixFwdIdeal.nD Cert.MixFwdIdeal.τ).loc Cert.MixFwdIdeal.main_arg3) = m ((c.tc : Thread Cert.MixFwdIdeal.nD Cert.MixFwdIdeal.τ).loc Cert.MixFwdIdeal.main_arg3)
      ∧ r.2.mem ((c.tc : Thread Cert.MixFwdIdeal.nD Cert.MixFwdIdeal.τ).loc Cert.MixFwdIdeal.main_arg4) = m ((c.tc : Thread Cert.MixFwdIdeal.nD Cert.MixFwdIdeal.τ).loc Cert.MixFwdIdeal.main_arg4)
      ∧ r.2.mem ((c.tc : Thread Cert.MixFwdIdeal.nD Cert.MixFwdIdeal.τ).loc Cert.MixFwdIdeal.main_arg5) = m ((c.tc : Thread Cert.MixFwdIdeal.nD Cert.MixFwdIdeal.τ).loc Cert.MixFwdIdeal.main_arg5)
      ∧ r.2.mem ((c.tc : Thread Cert.MixFwdIdeal.nD Cert.MixFwdIdeal.τ).loc Cert.MixFwdIdeal.main_arg6) = m ((c.tc : Thread Cert.MixFwdIdeal.nD Cert.MixFwdIdeal.τ).loc Cert.MixFwdIdeal.main_arg6)
      ∧ r.2.mem ((c.tc : Thread Cert.MixFwdIdeal.nD Cert.MixFwdIdeal.τ).loc Cert.MixFwdIdeal.main_arg7) = m ((c.tc : Thread Cert.MixFwdIdeal.nD Cert.MixFwdIdeal.τ).loc Cert.MixFwdIdeal.main_arg7)
      ∧ r.2.mem ((c.tc : Thread Cert.MixFwdIdeal.nD Cert.MixFwdIdeal.τ).loc Cert.MixFwdIdeal.main_arg8) = m ((c.tc : Thread Cert.MixFwdIdeal.nD Cert.MixFwdIdeal.τ).loc Cert.MixFwdIdeal.main_arg8))
      ∧ r.2.sem = fun _ => 0)

def quiescent_MixFwdIdeal_pre_mix_finite [hMixFwdIdeal : Cert.MixFwdIdeal.Facts] [hPre_mix_finite : Cert.Pre_mix_finite.Facts] : Prop :=
  ∀ (m : (ℓ : Loc Cert.MixFwdIdeal.nD Cert.MixFwdIdeal.τ Cert.MixFwdIdeal.sig) → Buf (Elt Ideal) ℓ) (g : Dev Cert.MixFwdIdeal.nD → PrngReg), Pre_MixFwdIdeal_mix_finite m →
    θ_run (Cert.MixFwdIdeal.defs (F := Ideal)) (onTc (τ := Cert.MixFwdIdeal.τ) (Cert.MixFwdIdeal.main (F := Ideal))) ⟨m, fun _ => 0, g⟩ (fun r => (∀ c : Dev Cert.MixFwdIdeal.nD,
      r.2.mem ((c.tc : Thread Cert.MixFwdIdeal.nD Cert.MixFwdIdeal.τ).loc Cert.MixFwdIdeal.main_arg0) = m ((c.tc : Thread Cert.MixFwdIdeal.nD Cert.MixFwdIdeal.τ).loc Cert.MixFwdIdeal.main_arg0)
      ∧ r.2.mem ((c.tc : Thread Cert.MixFwdIdeal.nD Cert.MixFwdIdeal.τ).loc Cert.MixFwdIdeal.main_arg1) = m ((c.tc : Thread Cert.MixFwdIdeal.nD Cert.MixFwdIdeal.τ).loc Cert.MixFwdIdeal.main_arg1)
      ∧ r.2.mem ((c.tc : Thread Cert.MixFwdIdeal.nD Cert.MixFwdIdeal.τ).loc Cert.MixFwdIdeal.main_arg2) = m ((c.tc : Thread Cert.MixFwdIdeal.nD Cert.MixFwdIdeal.τ).loc Cert.MixFwdIdeal.main_arg2)
      ∧ r.2.mem ((c.tc : Thread Cert.MixFwdIdeal.nD Cert.MixFwdIdeal.τ).loc Cert.MixFwdIdeal.main_arg3) = m ((c.tc : Thread Cert.MixFwdIdeal.nD Cert.MixFwdIdeal.τ).loc Cert.MixFwdIdeal.main_arg3)
      ∧ r.2.mem ((c.tc : Thread Cert.MixFwdIdeal.nD Cert.MixFwdIdeal.τ).loc Cert.MixFwdIdeal.main_arg4) = m ((c.tc : Thread Cert.MixFwdIdeal.nD Cert.MixFwdIdeal.τ).loc Cert.MixFwdIdeal.main_arg4)
      ∧ r.2.mem ((c.tc : Thread Cert.MixFwdIdeal.nD Cert.MixFwdIdeal.τ).loc Cert.MixFwdIdeal.main_arg5) = m ((c.tc : Thread Cert.MixFwdIdeal.nD Cert.MixFwdIdeal.τ).loc Cert.MixFwdIdeal.main_arg5)
      ∧ r.2.mem ((c.tc : Thread Cert.MixFwdIdeal.nD Cert.MixFwdIdeal.τ).loc Cert.MixFwdIdeal.main_arg6) = m ((c.tc : Thread Cert.MixFwdIdeal.nD Cert.MixFwdIdeal.τ).loc Cert.MixFwdIdeal.main_arg6)
      ∧ r.2.mem ((c.tc : Thread Cert.MixFwdIdeal.nD Cert.MixFwdIdeal.τ).loc Cert.MixFwdIdeal.main_arg7) = m ((c.tc : Thread Cert.MixFwdIdeal.nD Cert.MixFwdIdeal.τ).loc Cert.MixFwdIdeal.main_arg7)
      ∧ r.2.mem ((c.tc : Thread Cert.MixFwdIdeal.nD Cert.MixFwdIdeal.τ).loc Cert.MixFwdIdeal.main_arg8) = m ((c.tc : Thread Cert.MixFwdIdeal.nD Cert.MixFwdIdeal.τ).loc Cert.MixFwdIdeal.main_arg8))
      ∧ r.2.sem = fun _ => 0)

def quiescent_MixFwdRefIdeal [hMixFwdRefIdeal : Cert.MixFwdRefIdeal.Facts] : Prop :=
  ∀ (m : (ℓ : Loc Cert.MixFwdRefIdeal.nD Cert.MixFwdRefIdeal.τ Cert.MixFwdRefIdeal.sig) → Buf (Elt Ideal) ℓ) (g : Dev Cert.MixFwdRefIdeal.nD → PrngReg), Pre_MixFwdRefIdeal m →
    θ_run (Cert.MixFwdRefIdeal.defs (F := Ideal)) (onTc (τ := Cert.MixFwdRefIdeal.τ) (Cert.MixFwdRefIdeal.main (F := Ideal))) ⟨m, fun _ => 0, g⟩ (fun r => (∀ c : Dev Cert.MixFwdRefIdeal.nD,
      r.2.mem ((c.tc : Thread Cert.MixFwdRefIdeal.nD Cert.MixFwdRefIdeal.τ).loc Cert.MixFwdRefIdeal.main_arg0) = m ((c.tc : Thread Cert.MixFwdRefIdeal.nD Cert.MixFwdRefIdeal.τ).loc Cert.MixFwdRefIdeal.main_arg0)
      ∧ r.2.mem ((c.tc : Thread Cert.MixFwdRefIdeal.nD Cert.MixFwdRefIdeal.τ).loc Cert.MixFwdRefIdeal.main_arg1) = m ((c.tc : Thread Cert.MixFwdRefIdeal.nD Cert.MixFwdRefIdeal.τ).loc Cert.MixFwdRefIdeal.main_arg1)
      ∧ r.2.mem ((c.tc : Thread Cert.MixFwdRefIdeal.nD Cert.MixFwdRefIdeal.τ).loc Cert.MixFwdRefIdeal.main_arg2) = m ((c.tc : Thread Cert.MixFwdRefIdeal.nD Cert.MixFwdRefIdeal.τ).loc Cert.MixFwdRefIdeal.main_arg2)
      ∧ r.2.mem ((c.tc : Thread Cert.MixFwdRefIdeal.nD Cert.MixFwdRefIdeal.τ).loc Cert.MixFwdRefIdeal.main_arg3) = m ((c.tc : Thread Cert.MixFwdRefIdeal.nD Cert.MixFwdRefIdeal.τ).loc Cert.MixFwdRefIdeal.main_arg3)
      ∧ r.2.mem ((c.tc : Thread Cert.MixFwdRefIdeal.nD Cert.MixFwdRefIdeal.τ).loc Cert.MixFwdRefIdeal.main_arg4) = m ((c.tc : Thread Cert.MixFwdRefIdeal.nD Cert.MixFwdRefIdeal.τ).loc Cert.MixFwdRefIdeal.main_arg4)
      ∧ r.2.mem ((c.tc : Thread Cert.MixFwdRefIdeal.nD Cert.MixFwdRefIdeal.τ).loc Cert.MixFwdRefIdeal.main_arg5) = m ((c.tc : Thread Cert.MixFwdRefIdeal.nD Cert.MixFwdRefIdeal.τ).loc Cert.MixFwdRefIdeal.main_arg5)
      ∧ r.2.mem ((c.tc : Thread Cert.MixFwdRefIdeal.nD Cert.MixFwdRefIdeal.τ).loc Cert.MixFwdRefIdeal.main_arg6) = m ((c.tc : Thread Cert.MixFwdRefIdeal.nD Cert.MixFwdRefIdeal.τ).loc Cert.MixFwdRefIdeal.main_arg6)
      ∧ r.2.mem ((c.tc : Thread Cert.MixFwdRefIdeal.nD Cert.MixFwdRefIdeal.τ).loc Cert.MixFwdRefIdeal.main_arg7) = m ((c.tc : Thread Cert.MixFwdRefIdeal.nD Cert.MixFwdRefIdeal.τ).loc Cert.MixFwdRefIdeal.main_arg7)
      ∧ r.2.mem ((c.tc : Thread Cert.MixFwdRefIdeal.nD Cert.MixFwdRefIdeal.τ).loc Cert.MixFwdRefIdeal.main_arg8) = m ((c.tc : Thread Cert.MixFwdRefIdeal.nD Cert.MixFwdRefIdeal.τ).loc Cert.MixFwdRefIdeal.main_arg8))
      ∧ r.2.sem = fun _ => 0)

def quiescent_MixFwdRefIdeal_pre_mix_finite [hMixFwdRefIdeal : Cert.MixFwdRefIdeal.Facts] [hPre_mix_finite : Cert.Pre_mix_finite.Facts] : Prop :=
  ∀ (m : (ℓ : Loc Cert.MixFwdRefIdeal.nD Cert.MixFwdRefIdeal.τ Cert.MixFwdRefIdeal.sig) → Buf (Elt Ideal) ℓ) (g : Dev Cert.MixFwdRefIdeal.nD → PrngReg), Pre_MixFwdRefIdeal_mix_finite m →
    θ_run (Cert.MixFwdRefIdeal.defs (F := Ideal)) (onTc (τ := Cert.MixFwdRefIdeal.τ) (Cert.MixFwdRefIdeal.main (F := Ideal))) ⟨m, fun _ => 0, g⟩ (fun r => (∀ c : Dev Cert.MixFwdRefIdeal.nD,
      r.2.mem ((c.tc : Thread Cert.MixFwdRefIdeal.nD Cert.MixFwdRefIdeal.τ).loc Cert.MixFwdRefIdeal.main_arg0) = m ((c.tc : Thread Cert.MixFwdRefIdeal.nD Cert.MixFwdRefIdeal.τ).loc Cert.MixFwdRefIdeal.main_arg0)
      ∧ r.2.mem ((c.tc : Thread Cert.MixFwdRefIdeal.nD Cert.MixFwdRefIdeal.τ).loc Cert.MixFwdRefIdeal.main_arg1) = m ((c.tc : Thread Cert.MixFwdRefIdeal.nD Cert.MixFwdRefIdeal.τ).loc Cert.MixFwdRefIdeal.main_arg1)
      ∧ r.2.mem ((c.tc : Thread Cert.MixFwdRefIdeal.nD Cert.MixFwdRefIdeal.τ).loc Cert.MixFwdRefIdeal.main_arg2) = m ((c.tc : Thread Cert.MixFwdRefIdeal.nD Cert.MixFwdRefIdeal.τ).loc Cert.MixFwdRefIdeal.main_arg2)
      ∧ r.2.mem ((c.tc : Thread Cert.MixFwdRefIdeal.nD Cert.MixFwdRefIdeal.τ).loc Cert.MixFwdRefIdeal.main_arg3) = m ((c.tc : Thread Cert.MixFwdRefIdeal.nD Cert.MixFwdRefIdeal.τ).loc Cert.MixFwdRefIdeal.main_arg3)
      ∧ r.2.mem ((c.tc : Thread Cert.MixFwdRefIdeal.nD Cert.MixFwdRefIdeal.τ).loc Cert.MixFwdRefIdeal.main_arg4) = m ((c.tc : Thread Cert.MixFwdRefIdeal.nD Cert.MixFwdRefIdeal.τ).loc Cert.MixFwdRefIdeal.main_arg4)
      ∧ r.2.mem ((c.tc : Thread Cert.MixFwdRefIdeal.nD Cert.MixFwdRefIdeal.τ).loc Cert.MixFwdRefIdeal.main_arg5) = m ((c.tc : Thread Cert.MixFwdRefIdeal.nD Cert.MixFwdRefIdeal.τ).loc Cert.MixFwdRefIdeal.main_arg5)
      ∧ r.2.mem ((c.tc : Thread Cert.MixFwdRefIdeal.nD Cert.MixFwdRefIdeal.τ).loc Cert.MixFwdRefIdeal.main_arg6) = m ((c.tc : Thread Cert.MixFwdRefIdeal.nD Cert.MixFwdRefIdeal.τ).loc Cert.MixFwdRefIdeal.main_arg6)
      ∧ r.2.mem ((c.tc : Thread Cert.MixFwdRefIdeal.nD Cert.MixFwdRefIdeal.τ).loc Cert.MixFwdRefIdeal.main_arg7) = m ((c.tc : Thread Cert.MixFwdRefIdeal.nD Cert.MixFwdRefIdeal.τ).loc Cert.MixFwdRefIdeal.main_arg7)
      ∧ r.2.mem ((c.tc : Thread Cert.MixFwdRefIdeal.nD Cert.MixFwdRefIdeal.τ).loc Cert.MixFwdRefIdeal.main_arg8) = m ((c.tc : Thread Cert.MixFwdRefIdeal.nD Cert.MixFwdRefIdeal.τ).loc Cert.MixFwdRefIdeal.main_arg8))
      ∧ r.2.sem = fun _ => 0)

def quiescent_Outp [hOutp : Cert.Outp.Facts] : Prop :=
  ∀ (m : (ℓ : Loc Cert.Outp.nD Cert.Outp.τ Cert.Outp.sig) → Buf (Elt Bits) ℓ) (g : Dev Cert.Outp.nD → PrngReg), Pre_Outp m →
    θ_run (Cert.Outp.defs (F := Bits)) (onTc (τ := Cert.Outp.τ) (Cert.Outp.main (F := Bits))) ⟨m, fun _ => 0, g⟩ (fun r => (∀ c : Dev Cert.Outp.nD,
      r.2.mem ((c.tc : Thread Cert.Outp.nD Cert.Outp.τ).loc Cert.Outp.main_arg0) = m ((c.tc : Thread Cert.Outp.nD Cert.Outp.τ).loc Cert.Outp.main_arg0)
      ∧ r.2.mem ((c.tc : Thread Cert.Outp.nD Cert.Outp.τ).loc Cert.Outp.main_arg1) = m ((c.tc : Thread Cert.Outp.nD Cert.Outp.τ).loc Cert.Outp.main_arg1)
      ∧ r.2.mem ((c.tc : Thread Cert.Outp.nD Cert.Outp.τ).loc Cert.Outp.main_arg2) = m ((c.tc : Thread Cert.Outp.nD Cert.Outp.τ).loc Cert.Outp.main_arg2)
      ∧ r.2.mem ((c.tc : Thread Cert.Outp.nD Cert.Outp.τ).loc Cert.Outp.main_arg3) = m ((c.tc : Thread Cert.Outp.nD Cert.Outp.τ).loc Cert.Outp.main_arg3)
      ∧ r.2.mem ((c.tc : Thread Cert.Outp.nD Cert.Outp.τ).loc Cert.Outp.main_arg4) = m ((c.tc : Thread Cert.Outp.nD Cert.Outp.τ).loc Cert.Outp.main_arg4)
      ∧ r.2.mem ((c.tc : Thread Cert.Outp.nD Cert.Outp.τ).loc Cert.Outp.main_arg5) = m ((c.tc : Thread Cert.Outp.nD Cert.Outp.τ).loc Cert.Outp.main_arg5)
      ∧ r.2.mem ((c.tc : Thread Cert.Outp.nD Cert.Outp.τ).loc Cert.Outp.main_arg6) = m ((c.tc : Thread Cert.Outp.nD Cert.Outp.τ).loc Cert.Outp.main_arg6)
      ∧ r.2.mem ((c.tc : Thread Cert.Outp.nD Cert.Outp.τ).loc Cert.Outp.main_arg7) = m ((c.tc : Thread Cert.Outp.nD Cert.Outp.τ).loc Cert.Outp.main_arg7))
      ∧ r.2.sem = fun _ => 0)

def quiescent_OutpIdeal [hOutpIdeal : Cert.OutpIdeal.Facts] : Prop :=
  ∀ (m : (ℓ : Loc Cert.OutpIdeal.nD Cert.OutpIdeal.τ Cert.OutpIdeal.sig) → Buf (Elt Ideal) ℓ) (g : Dev Cert.OutpIdeal.nD → PrngReg), Pre_OutpIdeal m →
    θ_run (Cert.OutpIdeal.defs (F := Ideal)) (onTc (τ := Cert.OutpIdeal.τ) (Cert.OutpIdeal.main (F := Ideal))) ⟨m, fun _ => 0, g⟩ (fun r => (∀ c : Dev Cert.OutpIdeal.nD,
      r.2.mem ((c.tc : Thread Cert.OutpIdeal.nD Cert.OutpIdeal.τ).loc Cert.OutpIdeal.main_arg0) = m ((c.tc : Thread Cert.OutpIdeal.nD Cert.OutpIdeal.τ).loc Cert.OutpIdeal.main_arg0)
      ∧ r.2.mem ((c.tc : Thread Cert.OutpIdeal.nD Cert.OutpIdeal.τ).loc Cert.OutpIdeal.main_arg1) = m ((c.tc : Thread Cert.OutpIdeal.nD Cert.OutpIdeal.τ).loc Cert.OutpIdeal.main_arg1)
      ∧ r.2.mem ((c.tc : Thread Cert.OutpIdeal.nD Cert.OutpIdeal.τ).loc Cert.OutpIdeal.main_arg2) = m ((c.tc : Thread Cert.OutpIdeal.nD Cert.OutpIdeal.τ).loc Cert.OutpIdeal.main_arg2)
      ∧ r.2.mem ((c.tc : Thread Cert.OutpIdeal.nD Cert.OutpIdeal.τ).loc Cert.OutpIdeal.main_arg3) = m ((c.tc : Thread Cert.OutpIdeal.nD Cert.OutpIdeal.τ).loc Cert.OutpIdeal.main_arg3)
      ∧ r.2.mem ((c.tc : Thread Cert.OutpIdeal.nD Cert.OutpIdeal.τ).loc Cert.OutpIdeal.main_arg4) = m ((c.tc : Thread Cert.OutpIdeal.nD Cert.OutpIdeal.τ).loc Cert.OutpIdeal.main_arg4)
      ∧ r.2.mem ((c.tc : Thread Cert.OutpIdeal.nD Cert.OutpIdeal.τ).loc Cert.OutpIdeal.main_arg5) = m ((c.tc : Thread Cert.OutpIdeal.nD Cert.OutpIdeal.τ).loc Cert.OutpIdeal.main_arg5)
      ∧ r.2.mem ((c.tc : Thread Cert.OutpIdeal.nD Cert.OutpIdeal.τ).loc Cert.OutpIdeal.main_arg6) = m ((c.tc : Thread Cert.OutpIdeal.nD Cert.OutpIdeal.τ).loc Cert.OutpIdeal.main_arg6)
      ∧ r.2.mem ((c.tc : Thread Cert.OutpIdeal.nD Cert.OutpIdeal.τ).loc Cert.OutpIdeal.main_arg7) = m ((c.tc : Thread Cert.OutpIdeal.nD Cert.OutpIdeal.τ).loc Cert.OutpIdeal.main_arg7))
      ∧ r.2.sem = fun _ => 0)

def quiescent_OutpRefIdeal [hOutpRefIdeal : Cert.OutpRefIdeal.Facts] : Prop :=
  ∀ (m : (ℓ : Loc Cert.OutpRefIdeal.nD Cert.OutpRefIdeal.τ Cert.OutpRefIdeal.sig) → Buf (Elt Ideal) ℓ) (g : Dev Cert.OutpRefIdeal.nD → PrngReg), Pre_OutpRefIdeal m →
    θ_run (Cert.OutpRefIdeal.defs (F := Ideal)) (onTc (τ := Cert.OutpRefIdeal.τ) (Cert.OutpRefIdeal.main (F := Ideal))) ⟨m, fun _ => 0, g⟩ (fun r => (∀ c : Dev Cert.OutpRefIdeal.nD,
      r.2.mem ((c.tc : Thread Cert.OutpRefIdeal.nD Cert.OutpRefIdeal.τ).loc Cert.OutpRefIdeal.main_arg0) = m ((c.tc : Thread Cert.OutpRefIdeal.nD Cert.OutpRefIdeal.τ).loc Cert.OutpRefIdeal.main_arg0)
      ∧ r.2.mem ((c.tc : Thread Cert.OutpRefIdeal.nD Cert.OutpRefIdeal.τ).loc Cert.OutpRefIdeal.main_arg1) = m ((c.tc : Thread Cert.OutpRefIdeal.nD Cert.OutpRefIdeal.τ).loc Cert.OutpRefIdeal.main_arg1)
      ∧ r.2.mem ((c.tc : Thread Cert.OutpRefIdeal.nD Cert.OutpRefIdeal.τ).loc Cert.OutpRefIdeal.main_arg2) = m ((c.tc : Thread Cert.OutpRefIdeal.nD Cert.OutpRefIdeal.τ).loc Cert.OutpRefIdeal.main_arg2)
      ∧ r.2.mem ((c.tc : Thread Cert.OutpRefIdeal.nD Cert.OutpRefIdeal.τ).loc Cert.OutpRefIdeal.main_arg3) = m ((c.tc : Thread Cert.OutpRefIdeal.nD Cert.OutpRefIdeal.τ).loc Cert.OutpRefIdeal.main_arg3)
      ∧ r.2.mem ((c.tc : Thread Cert.OutpRefIdeal.nD Cert.OutpRefIdeal.τ).loc Cert.OutpRefIdeal.main_arg4) = m ((c.tc : Thread Cert.OutpRefIdeal.nD Cert.OutpRefIdeal.τ).loc Cert.OutpRefIdeal.main_arg4)
      ∧ r.2.mem ((c.tc : Thread Cert.OutpRefIdeal.nD Cert.OutpRefIdeal.τ).loc Cert.OutpRefIdeal.main_arg5) = m ((c.tc : Thread Cert.OutpRefIdeal.nD Cert.OutpRefIdeal.τ).loc Cert.OutpRefIdeal.main_arg5)
      ∧ r.2.mem ((c.tc : Thread Cert.OutpRefIdeal.nD Cert.OutpRefIdeal.τ).loc Cert.OutpRefIdeal.main_arg6) = m ((c.tc : Thread Cert.OutpRefIdeal.nD Cert.OutpRefIdeal.τ).loc Cert.OutpRefIdeal.main_arg6)
      ∧ r.2.mem ((c.tc : Thread Cert.OutpRefIdeal.nD Cert.OutpRefIdeal.τ).loc Cert.OutpRefIdeal.main_arg7) = m ((c.tc : Thread Cert.OutpRefIdeal.nD Cert.OutpRefIdeal.τ).loc Cert.OutpRefIdeal.main_arg7))
      ∧ r.2.sem = fun _ => 0)

def quiescent_Inp [hInp : Cert.Inp.Facts] : Prop :=
  ∀ (m : (ℓ : Loc Cert.Inp.nD Cert.Inp.τ Cert.Inp.sig) → Buf (Elt Bits) ℓ) (g : Dev Cert.Inp.nD → PrngReg), Pre_Inp m →
    θ_run (Cert.Inp.defs (F := Bits)) (onTc (τ := Cert.Inp.τ) (Cert.Inp.main (F := Bits))) ⟨m, fun _ => 0, g⟩ (fun r => (∀ c : Dev Cert.Inp.nD,
      r.2.mem ((c.tc : Thread Cert.Inp.nD Cert.Inp.τ).loc Cert.Inp.main_arg0) = m ((c.tc : Thread Cert.Inp.nD Cert.Inp.τ).loc Cert.Inp.main_arg0)
      ∧ r.2.mem ((c.tc : Thread Cert.Inp.nD Cert.Inp.τ).loc Cert.Inp.main_arg1) = m ((c.tc : Thread Cert.Inp.nD Cert.Inp.τ).loc Cert.Inp.main_arg1)
      ∧ r.2.mem ((c.tc : Thread Cert.Inp.nD Cert.Inp.τ).loc Cert.Inp.main_arg2) = m ((c.tc : Thread Cert.Inp.nD Cert.Inp.τ).loc Cert.Inp.main_arg2)
      ∧ r.2.mem ((c.tc : Thread Cert.Inp.nD Cert.Inp.τ).loc Cert.Inp.main_arg3) = m ((c.tc : Thread Cert.Inp.nD Cert.Inp.τ).loc Cert.Inp.main_arg3)
      ∧ r.2.mem ((c.tc : Thread Cert.Inp.nD Cert.Inp.τ).loc Cert.Inp.main_arg4) = m ((c.tc : Thread Cert.Inp.nD Cert.Inp.τ).loc Cert.Inp.main_arg4))
      ∧ r.2.sem = fun _ => 0)

def quiescent_InpIdeal [hInpIdeal : Cert.InpIdeal.Facts] : Prop :=
  ∀ (m : (ℓ : Loc Cert.InpIdeal.nD Cert.InpIdeal.τ Cert.InpIdeal.sig) → Buf (Elt Ideal) ℓ) (g : Dev Cert.InpIdeal.nD → PrngReg), Pre_InpIdeal m →
    θ_run (Cert.InpIdeal.defs (F := Ideal)) (onTc (τ := Cert.InpIdeal.τ) (Cert.InpIdeal.main (F := Ideal))) ⟨m, fun _ => 0, g⟩ (fun r => (∀ c : Dev Cert.InpIdeal.nD,
      r.2.mem ((c.tc : Thread Cert.InpIdeal.nD Cert.InpIdeal.τ).loc Cert.InpIdeal.main_arg0) = m ((c.tc : Thread Cert.InpIdeal.nD Cert.InpIdeal.τ).loc Cert.InpIdeal.main_arg0)
      ∧ r.2.mem ((c.tc : Thread Cert.InpIdeal.nD Cert.InpIdeal.τ).loc Cert.InpIdeal.main_arg1) = m ((c.tc : Thread Cert.InpIdeal.nD Cert.InpIdeal.τ).loc Cert.InpIdeal.main_arg1)
      ∧ r.2.mem ((c.tc : Thread Cert.InpIdeal.nD Cert.InpIdeal.τ).loc Cert.InpIdeal.main_arg2) = m ((c.tc : Thread Cert.InpIdeal.nD Cert.InpIdeal.τ).loc Cert.InpIdeal.main_arg2)
      ∧ r.2.mem ((c.tc : Thread Cert.InpIdeal.nD Cert.InpIdeal.τ).loc Cert.InpIdeal.main_arg3) = m ((c.tc : Thread Cert.InpIdeal.nD Cert.InpIdeal.τ).loc Cert.InpIdeal.main_arg3)
      ∧ r.2.mem ((c.tc : Thread Cert.InpIdeal.nD Cert.InpIdeal.τ).loc Cert.InpIdeal.main_arg4) = m ((c.tc : Thread Cert.InpIdeal.nD Cert.InpIdeal.τ).loc Cert.InpIdeal.main_arg4))
      ∧ r.2.sem = fun _ => 0)

def quiescent_InpRefIdeal [hInpRefIdeal : Cert.InpRefIdeal.Facts] : Prop :=
  ∀ (m : (ℓ : Loc Cert.InpRefIdeal.nD Cert.InpRefIdeal.τ Cert.InpRefIdeal.sig) → Buf (Elt Ideal) ℓ) (g : Dev Cert.InpRefIdeal.nD → PrngReg), Pre_InpRefIdeal m →
    θ_run (Cert.InpRefIdeal.defs (F := Ideal)) (onTc (τ := Cert.InpRefIdeal.τ) (Cert.InpRefIdeal.main (F := Ideal))) ⟨m, fun _ => 0, g⟩ (fun r => (∀ c : Dev Cert.InpRefIdeal.nD,
      r.2.mem ((c.tc : Thread Cert.InpRefIdeal.nD Cert.InpRefIdeal.τ).loc Cert.InpRefIdeal.main_arg0) = m ((c.tc : Thread Cert.InpRefIdeal.nD Cert.InpRefIdeal.τ).loc Cert.InpRefIdeal.main_arg0)
      ∧ r.2.mem ((c.tc : Thread Cert.InpRefIdeal.nD Cert.InpRefIdeal.τ).loc Cert.InpRefIdeal.main_arg1) = m ((c.tc : Thread Cert.InpRefIdeal.nD Cert.InpRefIdeal.τ).loc Cert.InpRefIdeal.main_arg1)
      ∧ r.2.mem ((c.tc : Thread Cert.InpRefIdeal.nD Cert.InpRefIdeal.τ).loc Cert.InpRefIdeal.main_arg2) = m ((c.tc : Thread Cert.InpRefIdeal.nD Cert.InpRefIdeal.τ).loc Cert.InpRefIdeal.main_arg2)
      ∧ r.2.mem ((c.tc : Thread Cert.InpRefIdeal.nD Cert.InpRefIdeal.τ).loc Cert.InpRefIdeal.main_arg3) = m ((c.tc : Thread Cert.InpRefIdeal.nD Cert.InpRefIdeal.τ).loc Cert.InpRefIdeal.main_arg3)
      ∧ r.2.mem ((c.tc : Thread Cert.InpRefIdeal.nD Cert.InpRefIdeal.τ).loc Cert.InpRefIdeal.main_arg4) = m ((c.tc : Thread Cert.InpRefIdeal.nD Cert.InpRefIdeal.τ).loc Cert.InpRefIdeal.main_arg4))
      ∧ r.2.sem = fun _ => 0)

def quiescent_Bias [hBias : Cert.Bias.Facts] : Prop :=
  ∀ (m : (ℓ : Loc Cert.Bias.nD Cert.Bias.τ Cert.Bias.sig) → Buf (Elt Bits) ℓ) (g : Dev Cert.Bias.nD → PrngReg), Pre_Bias m →
    θ_run (Cert.Bias.defs (F := Bits)) (onTc (τ := Cert.Bias.τ) (Cert.Bias.main (F := Bits))) ⟨m, fun _ => 0, g⟩ (fun r => (∀ c : Dev Cert.Bias.nD,
      r.2.mem ((c.tc : Thread Cert.Bias.nD Cert.Bias.τ).loc Cert.Bias.main_arg0) = m ((c.tc : Thread Cert.Bias.nD Cert.Bias.τ).loc Cert.Bias.main_arg0))
      ∧ r.2.sem = fun _ => 0)

def quiescent_BiasIdeal [hBiasIdeal : Cert.BiasIdeal.Facts] : Prop :=
  ∀ (m : (ℓ : Loc Cert.BiasIdeal.nD Cert.BiasIdeal.τ Cert.BiasIdeal.sig) → Buf (Elt Ideal) ℓ) (g : Dev Cert.BiasIdeal.nD → PrngReg), Pre_BiasIdeal m →
    θ_run (Cert.BiasIdeal.defs (F := Ideal)) (onTc (τ := Cert.BiasIdeal.τ) (Cert.BiasIdeal.main (F := Ideal))) ⟨m, fun _ => 0, g⟩ (fun r => (∀ c : Dev Cert.BiasIdeal.nD,
      r.2.mem ((c.tc : Thread Cert.BiasIdeal.nD Cert.BiasIdeal.τ).loc Cert.BiasIdeal.main_arg0) = m ((c.tc : Thread Cert.BiasIdeal.nD Cert.BiasIdeal.τ).loc Cert.BiasIdeal.main_arg0))
      ∧ r.2.sem = fun _ => 0)

def quiescent_BiasRefIdeal [hBiasRefIdeal : Cert.BiasRefIdeal.Facts] : Prop :=
  ∀ (m : (ℓ : Loc Cert.BiasRefIdeal.nD Cert.BiasRefIdeal.τ Cert.BiasRefIdeal.sig) → Buf (Elt Ideal) ℓ) (g : Dev Cert.BiasRefIdeal.nD → PrngReg), Pre_BiasRefIdeal m →
    θ_run (Cert.BiasRefIdeal.defs (F := Ideal)) (onTc (τ := Cert.BiasRefIdeal.τ) (Cert.BiasRefIdeal.main (F := Ideal))) ⟨m, fun _ => 0, g⟩ (fun r => (∀ c : Dev Cert.BiasRefIdeal.nD,
      r.2.mem ((c.tc : Thread Cert.BiasRefIdeal.nD Cert.BiasRefIdeal.τ).loc Cert.BiasRefIdeal.main_arg0) = m ((c.tc : Thread Cert.BiasRefIdeal.nD Cert.BiasRefIdeal.τ).loc Cert.BiasRefIdeal.main_arg0))
      ∧ r.2.sem = fun _ => 0)

def quiescent_Modu [hModu : Cert.Modu.Facts] : Prop :=
  ∀ (m : (ℓ : Loc Cert.Modu.nD Cert.Modu.τ Cert.Modu.sig) → Buf (Elt Bits) ℓ) (g : Dev Cert.Modu.nD → PrngReg), Pre_Modu m →
    θ_run (Cert.Modu.defs (F := Bits)) (onTc (τ := Cert.Modu.τ) (Cert.Modu.main (F := Bits))) ⟨m, fun _ => 0, g⟩ (fun r => (∀ c : Dev Cert.Modu.nD,
      r.2.mem ((c.tc : Thread Cert.Modu.nD Cert.Modu.τ).loc Cert.Modu.main_arg0) = m ((c.tc : Thread Cert.Modu.nD Cert.Modu.τ).loc Cert.Modu.main_arg0)
      ∧ r.2.mem ((c.tc : Thread Cert.Modu.nD Cert.Modu.τ).loc Cert.Modu.main_arg1) = m ((c.tc : Thread Cert.Modu.nD Cert.Modu.τ).loc Cert.Modu.main_arg1)
      ∧ r.2.mem ((c.tc : Thread Cert.Modu.nD Cert.Modu.τ).loc Cert.Modu.main_arg2) = m ((c.tc : Thread Cert.Modu.nD Cert.Modu.τ).loc Cert.Modu.main_arg2))
      ∧ r.2.sem = fun _ => 0)

def quiescent_ModuIdeal [hModuIdeal : Cert.ModuIdeal.Facts] : Prop :=
  ∀ (m : (ℓ : Loc Cert.ModuIdeal.nD Cert.ModuIdeal.τ Cert.ModuIdeal.sig) → Buf (Elt Ideal) ℓ) (g : Dev Cert.ModuIdeal.nD → PrngReg), Pre_ModuIdeal m →
    θ_run (Cert.ModuIdeal.defs (F := Ideal)) (onTc (τ := Cert.ModuIdeal.τ) (Cert.ModuIdeal.main (F := Ideal))) ⟨m, fun _ => 0, g⟩ (fun r => (∀ c : Dev Cert.ModuIdeal.nD,
      r.2.mem ((c.tc : Thread Cert.ModuIdeal.nD Cert.ModuIdeal.τ).loc Cert.ModuIdeal.main_arg0) = m ((c.tc : Thread Cert.ModuIdeal.nD Cert.ModuIdeal.τ).loc Cert.ModuIdeal.main_arg0)
      ∧ r.2.mem ((c.tc : Thread Cert.ModuIdeal.nD Cert.ModuIdeal.τ).loc Cert.ModuIdeal.main_arg1) = m ((c.tc : Thread Cert.ModuIdeal.nD Cert.ModuIdeal.τ).loc Cert.ModuIdeal.main_arg1)
      ∧ r.2.mem ((c.tc : Thread Cert.ModuIdeal.nD Cert.ModuIdeal.τ).loc Cert.ModuIdeal.main_arg2) = m ((c.tc : Thread Cert.ModuIdeal.nD Cert.ModuIdeal.τ).loc Cert.ModuIdeal.main_arg2))
      ∧ r.2.sem = fun _ => 0)

def quiescent_ModuRefIdeal [hModuRefIdeal : Cert.ModuRefIdeal.Facts] : Prop :=
  ∀ (m : (ℓ : Loc Cert.ModuRefIdeal.nD Cert.ModuRefIdeal.τ Cert.ModuRefIdeal.sig) → Buf (Elt Ideal) ℓ) (g : Dev Cert.ModuRefIdeal.nD → PrngReg), Pre_ModuRefIdeal m →
    θ_run (Cert.ModuRefIdeal.defs (F := Ideal)) (onTc (τ := Cert.ModuRefIdeal.τ) (Cert.ModuRefIdeal.main (F := Ideal))) ⟨m, fun _ => 0, g⟩ (fun r => (∀ c : Dev Cert.ModuRefIdeal.nD,
      r.2.mem ((c.tc : Thread Cert.ModuRefIdeal.nD Cert.ModuRefIdeal.τ).loc Cert.ModuRefIdeal.main_arg0) = m ((c.tc : Thread Cert.ModuRefIdeal.nD Cert.ModuRefIdeal.τ).loc Cert.ModuRefIdeal.main_arg0)
      ∧ r.2.mem ((c.tc : Thread Cert.ModuRefIdeal.nD Cert.ModuRefIdeal.τ).loc Cert.ModuRefIdeal.main_arg1) = m ((c.tc : Thread Cert.ModuRefIdeal.nD Cert.ModuRefIdeal.τ).loc Cert.ModuRefIdeal.main_arg1)
      ∧ r.2.mem ((c.tc : Thread Cert.ModuRefIdeal.nD Cert.ModuRefIdeal.τ).loc Cert.ModuRefIdeal.main_arg2) = m ((c.tc : Thread Cert.ModuRefIdeal.nD Cert.ModuRefIdeal.τ).loc Cert.ModuRefIdeal.main_arg2))
      ∧ r.2.sem = fun _ => 0)

def quiescent_Ada [hAda : Cert.Ada.Facts] : Prop :=
  ∀ (m : (ℓ : Loc Cert.Ada.nD Cert.Ada.τ Cert.Ada.sig) → Buf (Elt Bits) ℓ) (g : Dev Cert.Ada.nD → PrngReg), Pre_Ada m →
    θ_run (Cert.Ada.defs (F := Bits)) (onTc (τ := Cert.Ada.τ) (Cert.Ada.main (F := Bits))) ⟨m, fun _ => 0, g⟩ (fun r => (∀ c : Dev Cert.Ada.nD,
      r.2.mem ((c.tc : Thread Cert.Ada.nD Cert.Ada.τ).loc Cert.Ada.main_arg0) = m ((c.tc : Thread Cert.Ada.nD Cert.Ada.τ).loc Cert.Ada.main_arg0)
      ∧ r.2.mem ((c.tc : Thread Cert.Ada.nD Cert.Ada.τ).loc Cert.Ada.main_arg1) = m ((c.tc : Thread Cert.Ada.nD Cert.Ada.τ).loc Cert.Ada.main_arg1)
      ∧ r.2.mem ((c.tc : Thread Cert.Ada.nD Cert.Ada.τ).loc Cert.Ada.main_arg2) = m ((c.tc : Thread Cert.Ada.nD Cert.Ada.τ).loc Cert.Ada.main_arg2)
      ∧ r.2.mem ((c.tc : Thread Cert.Ada.nD Cert.Ada.τ).loc Cert.Ada.main_arg3) = m ((c.tc : Thread Cert.Ada.nD Cert.Ada.τ).loc Cert.Ada.main_arg3)
      ∧ r.2.mem ((c.tc : Thread Cert.Ada.nD Cert.Ada.τ).loc Cert.Ada.main_arg4) = m ((c.tc : Thread Cert.Ada.nD Cert.Ada.τ).loc Cert.Ada.main_arg4))
      ∧ r.2.sem = fun _ => 0)

def quiescent_AdaIdeal [hAdaIdeal : Cert.AdaIdeal.Facts] : Prop :=
  ∀ (m : (ℓ : Loc Cert.AdaIdeal.nD Cert.AdaIdeal.τ Cert.AdaIdeal.sig) → Buf (Elt Ideal) ℓ) (g : Dev Cert.AdaIdeal.nD → PrngReg), Pre_AdaIdeal m →
    θ_run (Cert.AdaIdeal.defs (F := Ideal)) (onTc (τ := Cert.AdaIdeal.τ) (Cert.AdaIdeal.main (F := Ideal))) ⟨m, fun _ => 0, g⟩ (fun r => (∀ c : Dev Cert.AdaIdeal.nD,
      r.2.mem ((c.tc : Thread Cert.AdaIdeal.nD Cert.AdaIdeal.τ).loc Cert.AdaIdeal.main_arg0) = m ((c.tc : Thread Cert.AdaIdeal.nD Cert.AdaIdeal.τ).loc Cert.AdaIdeal.main_arg0)
      ∧ r.2.mem ((c.tc : Thread Cert.AdaIdeal.nD Cert.AdaIdeal.τ).loc Cert.AdaIdeal.main_arg1) = m ((c.tc : Thread Cert.AdaIdeal.nD Cert.AdaIdeal.τ).loc Cert.AdaIdeal.main_arg1)
      ∧ r.2.mem ((c.tc : Thread Cert.AdaIdeal.nD Cert.AdaIdeal.τ).loc Cert.AdaIdeal.main_arg2) = m ((c.tc : Thread Cert.AdaIdeal.nD Cert.AdaIdeal.τ).loc Cert.AdaIdeal.main_arg2)
      ∧ r.2.mem ((c.tc : Thread Cert.AdaIdeal.nD Cert.AdaIdeal.τ).loc Cert.AdaIdeal.main_arg3) = m ((c.tc : Thread Cert.AdaIdeal.nD Cert.AdaIdeal.τ).loc Cert.AdaIdeal.main_arg3)
      ∧ r.2.mem ((c.tc : Thread Cert.AdaIdeal.nD Cert.AdaIdeal.τ).loc Cert.AdaIdeal.main_arg4) = m ((c.tc : Thread Cert.AdaIdeal.nD Cert.AdaIdeal.τ).loc Cert.AdaIdeal.main_arg4))
      ∧ r.2.sem = fun _ => 0)

def quiescent_AdaRefIdeal [hAdaRefIdeal : Cert.AdaRefIdeal.Facts] : Prop :=
  ∀ (m : (ℓ : Loc Cert.AdaRefIdeal.nD Cert.AdaRefIdeal.τ Cert.AdaRefIdeal.sig) → Buf (Elt Ideal) ℓ) (g : Dev Cert.AdaRefIdeal.nD → PrngReg), Pre_AdaRefIdeal m →
    θ_run (Cert.AdaRefIdeal.defs (F := Ideal)) (onTc (τ := Cert.AdaRefIdeal.τ) (Cert.AdaRefIdeal.main (F := Ideal))) ⟨m, fun _ => 0, g⟩ (fun r => (∀ c : Dev Cert.AdaRefIdeal.nD,
      r.2.mem ((c.tc : Thread Cert.AdaRefIdeal.nD Cert.AdaRefIdeal.τ).loc Cert.AdaRefIdeal.main_arg0) = m ((c.tc : Thread Cert.AdaRefIdeal.nD Cert.AdaRefIdeal.τ).loc Cert.AdaRefIdeal.main_arg0)
      ∧ r.2.mem ((c.tc : Thread Cert.AdaRefIdeal.nD Cert.AdaRefIdeal.τ).loc Cert.AdaRefIdeal.main_arg1) = m ((c.tc : Thread Cert.AdaRefIdeal.nD Cert.AdaRefIdeal.τ).loc Cert.AdaRefIdeal.main_arg1)
      ∧ r.2.mem ((c.tc : Thread Cert.AdaRefIdeal.nD Cert.AdaRefIdeal.τ).loc Cert.AdaRefIdeal.main_arg2) = m ((c.tc : Thread Cert.AdaRefIdeal.nD Cert.AdaRefIdeal.τ).loc Cert.AdaRefIdeal.main_arg2)
      ∧ r.2.mem ((c.tc : Thread Cert.AdaRefIdeal.nD Cert.AdaRefIdeal.τ).loc Cert.AdaRefIdeal.main_arg3) = m ((c.tc : Thread Cert.AdaRefIdeal.nD Cert.AdaRefIdeal.τ).loc Cert.AdaRefIdeal.main_arg3)
      ∧ r.2.mem ((c.tc : Thread Cert.AdaRefIdeal.nD Cert.AdaRefIdeal.τ).loc Cert.AdaRefIdeal.main_arg4) = m ((c.tc : Thread Cert.AdaRefIdeal.nD Cert.AdaRefIdeal.τ).loc Cert.AdaRefIdeal.main_arg4))
      ∧ r.2.sem = fun _ => 0)

def quiescent_Wgrad [hWgrad : Cert.Wgrad.Facts] : Prop :=
  ∀ (m : (ℓ : Loc Cert.Wgrad.nD Cert.Wgrad.τ Cert.Wgrad.sig) → Buf (Elt Bits) ℓ) (g : Dev Cert.Wgrad.nD → PrngReg), Pre_Wgrad m →
    θ_run (Cert.Wgrad.defs (F := Bits)) (onTc (τ := Cert.Wgrad.τ) (Cert.Wgrad.main (F := Bits))) ⟨m, fun _ => 0, g⟩ (fun r => (∀ c : Dev Cert.Wgrad.nD,
      r.2.mem ((c.tc : Thread Cert.Wgrad.nD Cert.Wgrad.τ).loc Cert.Wgrad.main_arg0) = m ((c.tc : Thread Cert.Wgrad.nD Cert.Wgrad.τ).loc Cert.Wgrad.main_arg0)
      ∧ r.2.mem ((c.tc : Thread Cert.Wgrad.nD Cert.Wgrad.τ).loc Cert.Wgrad.main_arg1) = m ((c.tc : Thread Cert.Wgrad.nD Cert.Wgrad.τ).loc Cert.Wgrad.main_arg1)
      ∧ r.2.mem ((c.tc : Thread Cert.Wgrad.nD Cert.Wgrad.τ).loc Cert.Wgrad.main_arg2) = m ((c.tc : Thread Cert.Wgrad.nD Cert.Wgrad.τ).loc Cert.Wgrad.main_arg2))
      ∧ r.2.sem = fun _ => 0)

def quiescent_WgradIdeal [hWgradIdeal : Cert.WgradIdeal.Facts] : Prop :=
  ∀ (m : (ℓ : Loc Cert.WgradIdeal.nD Cert.WgradIdeal.τ Cert.WgradIdeal.sig) → Buf (Elt Ideal) ℓ) (g : Dev Cert.WgradIdeal.nD → PrngReg), Pre_WgradIdeal m →
    θ_run (Cert.WgradIdeal.defs (F := Ideal)) (onTc (τ := Cert.WgradIdeal.τ) (Cert.WgradIdeal.main (F := Ideal))) ⟨m, fun _ => 0, g⟩ (fun r => (∀ c : Dev Cert.WgradIdeal.nD,
      r.2.mem ((c.tc : Thread Cert.WgradIdeal.nD Cert.WgradIdeal.τ).loc Cert.WgradIdeal.main_arg0) = m ((c.tc : Thread Cert.WgradIdeal.nD Cert.WgradIdeal.τ).loc Cert.WgradIdeal.main_arg0)
      ∧ r.2.mem ((c.tc : Thread Cert.WgradIdeal.nD Cert.WgradIdeal.τ).loc Cert.WgradIdeal.main_arg1) = m ((c.tc : Thread Cert.WgradIdeal.nD Cert.WgradIdeal.τ).loc Cert.WgradIdeal.main_arg1)
      ∧ r.2.mem ((c.tc : Thread Cert.WgradIdeal.nD Cert.WgradIdeal.τ).loc Cert.WgradIdeal.main_arg2) = m ((c.tc : Thread Cert.WgradIdeal.nD Cert.WgradIdeal.τ).loc Cert.WgradIdeal.main_arg2))
      ∧ r.2.sem = fun _ => 0)

def quiescent_WgradRefIdeal [hWgradRefIdeal : Cert.WgradRefIdeal.Facts] : Prop :=
  ∀ (m : (ℓ : Loc Cert.WgradRefIdeal.nD Cert.WgradRefIdeal.τ Cert.WgradRefIdeal.sig) → Buf (Elt Ideal) ℓ) (g : Dev Cert.WgradRefIdeal.nD → PrngReg), Pre_WgradRefIdeal m →
    θ_run (Cert.WgradRefIdeal.defs (F := Ideal)) (onTc (τ := Cert.WgradRefIdeal.τ) (Cert.WgradRefIdeal.main (F := Ideal))) ⟨m, fun _ => 0, g⟩ (fun r => (∀ c : Dev Cert.WgradRefIdeal.nD,
      r.2.mem ((c.tc : Thread Cert.WgradRefIdeal.nD Cert.WgradRefIdeal.τ).loc Cert.WgradRefIdeal.main_arg0) = m ((c.tc : Thread Cert.WgradRefIdeal.nD Cert.WgradRefIdeal.τ).loc Cert.WgradRefIdeal.main_arg0)
      ∧ r.2.mem ((c.tc : Thread Cert.WgradRefIdeal.nD Cert.WgradRefIdeal.τ).loc Cert.WgradRefIdeal.main_arg1) = m ((c.tc : Thread Cert.WgradRefIdeal.nD Cert.WgradRefIdeal.τ).loc Cert.WgradRefIdeal.main_arg1)
      ∧ r.2.mem ((c.tc : Thread Cert.WgradRefIdeal.nD Cert.WgradRefIdeal.τ).loc Cert.WgradRefIdeal.main_arg2) = m ((c.tc : Thread Cert.WgradRefIdeal.nD Cert.WgradRefIdeal.τ).loc Cert.WgradRefIdeal.main_arg2))
      ∧ r.2.sem = fun _ => 0)

def quiescent_Down [hDown : Cert.Down.Facts] : Prop :=
  ∀ (m : (ℓ : Loc Cert.Down.nD Cert.Down.τ Cert.Down.sig) → Buf (Elt Bits) ℓ) (g : Dev Cert.Down.nD → PrngReg), Pre_Down m →
    θ_run (Cert.Down.defs (F := Bits)) (onTc (τ := Cert.Down.τ) (Cert.Down.main (F := Bits))) ⟨m, fun _ => 0, g⟩ (fun r => (∀ c : Dev Cert.Down.nD,
      r.2.mem ((c.tc : Thread Cert.Down.nD Cert.Down.τ).loc Cert.Down.main_arg0) = m ((c.tc : Thread Cert.Down.nD Cert.Down.τ).loc Cert.Down.main_arg0)
      ∧ r.2.mem ((c.tc : Thread Cert.Down.nD Cert.Down.τ).loc Cert.Down.main_arg1) = m ((c.tc : Thread Cert.Down.nD Cert.Down.τ).loc Cert.Down.main_arg1)
      ∧ r.2.mem ((c.tc : Thread Cert.Down.nD Cert.Down.τ).loc Cert.Down.main_arg2) = m ((c.tc : Thread Cert.Down.nD Cert.Down.τ).loc Cert.Down.main_arg2)
      ∧ r.2.mem ((c.tc : Thread Cert.Down.nD Cert.Down.τ).loc Cert.Down.main_arg3) = m ((c.tc : Thread Cert.Down.nD Cert.Down.τ).loc Cert.Down.main_arg3))
      ∧ r.2.sem = fun _ => 0)

def quiescent_DownIdeal [hDownIdeal : Cert.DownIdeal.Facts] : Prop :=
  ∀ (m : (ℓ : Loc Cert.DownIdeal.nD Cert.DownIdeal.τ Cert.DownIdeal.sig) → Buf (Elt Ideal) ℓ) (g : Dev Cert.DownIdeal.nD → PrngReg), Pre_DownIdeal m →
    θ_run (Cert.DownIdeal.defs (F := Ideal)) (onTc (τ := Cert.DownIdeal.τ) (Cert.DownIdeal.main (F := Ideal))) ⟨m, fun _ => 0, g⟩ (fun r => (∀ c : Dev Cert.DownIdeal.nD,
      r.2.mem ((c.tc : Thread Cert.DownIdeal.nD Cert.DownIdeal.τ).loc Cert.DownIdeal.main_arg0) = m ((c.tc : Thread Cert.DownIdeal.nD Cert.DownIdeal.τ).loc Cert.DownIdeal.main_arg0)
      ∧ r.2.mem ((c.tc : Thread Cert.DownIdeal.nD Cert.DownIdeal.τ).loc Cert.DownIdeal.main_arg1) = m ((c.tc : Thread Cert.DownIdeal.nD Cert.DownIdeal.τ).loc Cert.DownIdeal.main_arg1)
      ∧ r.2.mem ((c.tc : Thread Cert.DownIdeal.nD Cert.DownIdeal.τ).loc Cert.DownIdeal.main_arg2) = m ((c.tc : Thread Cert.DownIdeal.nD Cert.DownIdeal.τ).loc Cert.DownIdeal.main_arg2)
      ∧ r.2.mem ((c.tc : Thread Cert.DownIdeal.nD Cert.DownIdeal.τ).loc Cert.DownIdeal.main_arg3) = m ((c.tc : Thread Cert.DownIdeal.nD Cert.DownIdeal.τ).loc Cert.DownIdeal.main_arg3))
      ∧ r.2.sem = fun _ => 0)

def quiescent_DownRefIdeal [hDownRefIdeal : Cert.DownRefIdeal.Facts] : Prop :=
  ∀ (m : (ℓ : Loc Cert.DownRefIdeal.nD Cert.DownRefIdeal.τ Cert.DownRefIdeal.sig) → Buf (Elt Ideal) ℓ) (g : Dev Cert.DownRefIdeal.nD → PrngReg), Pre_DownRefIdeal m →
    θ_run (Cert.DownRefIdeal.defs (F := Ideal)) (onTc (τ := Cert.DownRefIdeal.τ) (Cert.DownRefIdeal.main (F := Ideal))) ⟨m, fun _ => 0, g⟩ (fun r => (∀ c : Dev Cert.DownRefIdeal.nD,
      r.2.mem ((c.tc : Thread Cert.DownRefIdeal.nD Cert.DownRefIdeal.τ).loc Cert.DownRefIdeal.main_arg0) = m ((c.tc : Thread Cert.DownRefIdeal.nD Cert.DownRefIdeal.τ).loc Cert.DownRefIdeal.main_arg0)
      ∧ r.2.mem ((c.tc : Thread Cert.DownRefIdeal.nD Cert.DownRefIdeal.τ).loc Cert.DownRefIdeal.main_arg1) = m ((c.tc : Thread Cert.DownRefIdeal.nD Cert.DownRefIdeal.τ).loc Cert.DownRefIdeal.main_arg1)
      ∧ r.2.mem ((c.tc : Thread Cert.DownRefIdeal.nD Cert.DownRefIdeal.τ).loc Cert.DownRefIdeal.main_arg2) = m ((c.tc : Thread Cert.DownRefIdeal.nD Cert.DownRefIdeal.τ).loc Cert.DownRefIdeal.main_arg2)
      ∧ r.2.mem ((c.tc : Thread Cert.DownRefIdeal.nD Cert.DownRefIdeal.τ).loc Cert.DownRefIdeal.main_arg3) = m ((c.tc : Thread Cert.DownRefIdeal.nD Cert.DownRefIdeal.τ).loc Cert.DownRefIdeal.main_arg3))
      ∧ r.2.sem = fun _ => 0)

def preserves_Din_DinIdeal : Prop :=
  True

def algebraic_DinIdeal_DinRefIdeal [hDinIdeal : Cert.DinIdeal.Facts] [hDinRefIdeal : Cert.DinRefIdeal.Facts] : Prop :=
  ∀ (m : (ℓ : Loc Cert.DinIdeal.nD Cert.DinIdeal.τ Cert.DinIdeal.sig) → Buf (Elt Ideal) ℓ) (g : Dev Cert.DinIdeal.nD → PrngReg)
    (m' : (ℓ : Loc Cert.DinRefIdeal.nD Cert.DinRefIdeal.τ Cert.DinRefIdeal.sig) → Buf (Elt Ideal) ℓ) (g' : Dev Cert.DinRefIdeal.nD → PrngReg), Pre_DinIdeal m →
    (∀ c : Dev Cert.DinIdeal.nD,
      m' ((c.tc : Thread Cert.DinRefIdeal.nD Cert.DinRefIdeal.τ).loc Cert.DinRefIdeal.main_arg0) = m ((c.tc : Thread Cert.DinIdeal.nD Cert.DinIdeal.τ).loc Cert.DinIdeal.main_arg0)
      ∧ m' ((c.tc : Thread Cert.DinRefIdeal.nD Cert.DinRefIdeal.τ).loc Cert.DinRefIdeal.main_arg1) = m ((c.tc : Thread Cert.DinIdeal.nD Cert.DinIdeal.τ).loc Cert.DinIdeal.main_arg1)
      ∧ m' ((c.tc : Thread Cert.DinRefIdeal.nD Cert.DinRefIdeal.τ).loc Cert.DinRefIdeal.main_arg2) = m ((c.tc : Thread Cert.DinIdeal.nD Cert.DinIdeal.τ).loc Cert.DinIdeal.main_arg2)
      ∧ m' ((c.tc : Thread Cert.DinRefIdeal.nD Cert.DinRefIdeal.τ).loc Cert.DinRefIdeal.main_arg3) = m ((c.tc : Thread Cert.DinIdeal.nD Cert.DinIdeal.τ).loc Cert.DinIdeal.main_arg3)
      ∧ m' ((c.tc : Thread Cert.DinRefIdeal.nD Cert.DinRefIdeal.τ).loc Cert.DinRefIdeal.main_arg4) = m ((c.tc : Thread Cert.DinIdeal.nD Cert.DinIdeal.τ).loc Cert.DinIdeal.main_arg4)
      ∧ m' ((c.tc : Thread Cert.DinRefIdeal.nD Cert.DinRefIdeal.τ).loc Cert.DinRefIdeal.main_arg5) = m ((c.tc : Thread Cert.DinIdeal.nD Cert.DinIdeal.τ).loc Cert.DinIdeal.main_arg5)
      ∧ m' ((c.tc : Thread Cert.DinRefIdeal.nD Cert.DinRefIdeal.τ).loc Cert.DinRefIdeal.main_arg6) = m ((c.tc : Thread Cert.DinIdeal.nD Cert.DinIdeal.τ).loc Cert.DinIdeal.main_arg6)
      ∧ m' ((c.tc : Thread Cert.DinRefIdeal.nD Cert.DinRefIdeal.τ).loc Cert.DinRefIdeal.main_arg7) = m ((c.tc : Thread Cert.DinIdeal.nD Cert.DinIdeal.τ).loc Cert.DinIdeal.main_arg7)) →
    ∃ (v0 : (c : Dev Cert.DinIdeal.nD) → Buf (Elt Ideal) ((c.tc : Thread Cert.DinIdeal.nD Cert.DinIdeal.τ).loc Cert.DinIdeal.main_v4_0)) (v1 : (c : Dev Cert.DinIdeal.nD) → Buf (Elt Ideal) ((c.tc : Thread Cert.DinIdeal.nD Cert.DinIdeal.τ).loc Cert.DinIdeal.main_v5)) (v2 : (c : Dev Cert.DinIdeal.nD) → Buf (Elt Ideal) ((c.tc : Thread Cert.DinIdeal.nD Cert.DinIdeal.τ).loc Cert.DinIdeal.main_v6)) (v3 : (c : Dev Cert.DinIdeal.nD) → Buf (Elt Ideal) ((c.tc : Thread Cert.DinIdeal.nD Cert.DinIdeal.τ).loc Cert.DinIdeal.main_v7)) (v4 : (c : Dev Cert.DinIdeal.nD) → Buf (Elt Ideal) ((c.tc : Thread Cert.DinIdeal.nD Cert.DinIdeal.τ).loc Cert.DinIdeal.main_v8)),
      θ_run (Cert.DinIdeal.defs (F := Ideal)) (onTc (τ := Cert.DinIdeal.τ) (Cert.DinIdeal.main (F := Ideal))) ⟨m, fun _ => 0, g⟩ (fun r => ∀ c : Dev Cert.DinIdeal.nD,
          r.2.mem ((c.tc : Thread Cert.DinIdeal.nD Cert.DinIdeal.τ).loc Cert.DinIdeal.main_v4_0) = v0 c
          ∧ r.2.mem ((c.tc : Thread Cert.DinIdeal.nD Cert.DinIdeal.τ).loc Cert.DinIdeal.main_v5) = v1 c
          ∧ r.2.mem ((c.tc : Thread Cert.DinIdeal.nD Cert.DinIdeal.τ).loc Cert.DinIdeal.main_v6) = v2 c
          ∧ r.2.mem ((c.tc : Thread Cert.DinIdeal.nD Cert.DinIdeal.τ).loc Cert.DinIdeal.main_v7) = v3 c
          ∧ r.2.mem ((c.tc : Thread Cert.DinIdeal.nD Cert.DinIdeal.τ).loc Cert.DinIdeal.main_v8) = v4 c
          ∧ r.2.mem ((c.tc : Thread Cert.DinIdeal.nD Cert.DinIdeal.τ).loc Cert.DinIdeal.main_arg0) = m ((c.tc : Thread Cert.DinIdeal.nD Cert.DinIdeal.τ).loc Cert.DinIdeal.main_arg0)
          ∧ r.2.mem ((c.tc : Thread Cert.DinIdeal.nD Cert.DinIdeal.τ).loc Cert.DinIdeal.main_arg1) = m ((c.tc : Thread Cert.DinIdeal.nD Cert.DinIdeal.τ).loc Cert.DinIdeal.main_arg1)
          ∧ r.2.mem ((c.tc : Thread Cert.DinIdeal.nD Cert.DinIdeal.τ).loc Cert.DinIdeal.main_arg2) = m ((c.tc : Thread Cert.DinIdeal.nD Cert.DinIdeal.τ).loc Cert.DinIdeal.main_arg2)
          ∧ r.2.mem ((c.tc : Thread Cert.DinIdeal.nD Cert.DinIdeal.τ).loc Cert.DinIdeal.main_arg3) = m ((c.tc : Thread Cert.DinIdeal.nD Cert.DinIdeal.τ).loc Cert.DinIdeal.main_arg3)
          ∧ r.2.mem ((c.tc : Thread Cert.DinIdeal.nD Cert.DinIdeal.τ).loc Cert.DinIdeal.main_arg4) = m ((c.tc : Thread Cert.DinIdeal.nD Cert.DinIdeal.τ).loc Cert.DinIdeal.main_arg4)
          ∧ r.2.mem ((c.tc : Thread Cert.DinIdeal.nD Cert.DinIdeal.τ).loc Cert.DinIdeal.main_arg5) = m ((c.tc : Thread Cert.DinIdeal.nD Cert.DinIdeal.τ).loc Cert.DinIdeal.main_arg5)
          ∧ r.2.mem ((c.tc : Thread Cert.DinIdeal.nD Cert.DinIdeal.τ).loc Cert.DinIdeal.main_arg6) = m ((c.tc : Thread Cert.DinIdeal.nD Cert.DinIdeal.τ).loc Cert.DinIdeal.main_arg6)
          ∧ r.2.mem ((c.tc : Thread Cert.DinIdeal.nD Cert.DinIdeal.τ).loc Cert.DinIdeal.main_arg7) = m ((c.tc : Thread Cert.DinIdeal.nD Cert.DinIdeal.τ).loc Cert.DinIdeal.main_arg7))
      ∧ θ_run (Cert.DinRefIdeal.defs (F := Ideal)) (onTc (τ := Cert.DinRefIdeal.τ) (Cert.DinRefIdeal.main (F := Ideal))) ⟨m', fun _ => 0, g'⟩ (fun r => ∀ c : Dev Cert.DinRefIdeal.nD,
          r.2.mem ((c.tc : Thread Cert.DinRefIdeal.nD Cert.DinRefIdeal.τ).loc Cert.DinRefIdeal.main_v32) = v0 c
          ∧ r.2.mem ((c.tc : Thread Cert.DinRefIdeal.nD Cert.DinRefIdeal.τ).loc Cert.DinRefIdeal.main_v33) = v1 c
          ∧ r.2.mem ((c.tc : Thread Cert.DinRefIdeal.nD Cert.DinRefIdeal.τ).loc Cert.DinRefIdeal.main_v26) = v2 c
          ∧ r.2.mem ((c.tc : Thread Cert.DinRefIdeal.nD Cert.DinRefIdeal.τ).loc Cert.DinRefIdeal.main_v22) = v3 c
          ∧ r.2.mem ((c.tc : Thread Cert.DinRefIdeal.nD Cert.DinRefIdeal.τ).loc Cert.DinRefIdeal.main_v16) = v4 c
          ∧ r.2.mem ((c.tc : Thread Cert.DinRefIdeal.nD Cert.DinRefIdeal.τ).loc Cert.DinRefIdeal.main_arg0) = m' ((c.tc : Thread Cert.DinRefIdeal.nD Cert.DinRefIdeal.τ).loc Cert.DinRefIdeal.main_arg0)
          ∧ r.2.mem ((c.tc : Thread Cert.DinRefIdeal.nD Cert.DinRefIdeal.τ).loc Cert.DinRefIdeal.main_arg1) = m' ((c.tc : Thread Cert.DinRefIdeal.nD Cert.DinRefIdeal.τ).loc Cert.DinRefIdeal.main_arg1)
          ∧ r.2.mem ((c.tc : Thread Cert.DinRefIdeal.nD Cert.DinRefIdeal.τ).loc Cert.DinRefIdeal.main_arg2) = m' ((c.tc : Thread Cert.DinRefIdeal.nD Cert.DinRefIdeal.τ).loc Cert.DinRefIdeal.main_arg2)
          ∧ r.2.mem ((c.tc : Thread Cert.DinRefIdeal.nD Cert.DinRefIdeal.τ).loc Cert.DinRefIdeal.main_arg3) = m' ((c.tc : Thread Cert.DinRefIdeal.nD Cert.DinRefIdeal.τ).loc Cert.DinRefIdeal.main_arg3)
          ∧ r.2.mem ((c.tc : Thread Cert.DinRefIdeal.nD Cert.DinRefIdeal.τ).loc Cert.DinRefIdeal.main_arg4) = m' ((c.tc : Thread Cert.DinRefIdeal.nD Cert.DinRefIdeal.τ).loc Cert.DinRefIdeal.main_arg4)
          ∧ r.2.mem ((c.tc : Thread Cert.DinRefIdeal.nD Cert.DinRefIdeal.τ).loc Cert.DinRefIdeal.main_arg5) = m' ((c.tc : Thread Cert.DinRefIdeal.nD Cert.DinRefIdeal.τ).loc Cert.DinRefIdeal.main_arg5)
          ∧ r.2.mem ((c.tc : Thread Cert.DinRefIdeal.nD Cert.DinRefIdeal.τ).loc Cert.DinRefIdeal.main_arg6) = m' ((c.tc : Thread Cert.DinRefIdeal.nD Cert.DinRefIdeal.τ).loc Cert.DinRefIdeal.main_arg6)
          ∧ r.2.mem ((c.tc : Thread Cert.DinRefIdeal.nD Cert.DinRefIdeal.τ).loc Cert.DinRefIdeal.main_arg7) = m' ((c.tc : Thread Cert.DinRefIdeal.nD Cert.DinRefIdeal.τ).loc Cert.DinRefIdeal.main_arg7))

def preserves_Ffn_FfnIdeal : Prop :=
  True

def algebraic_FfnIdeal_FfnRefIdeal_pre_ffn_finite [hFfnIdeal : Cert.FfnIdeal.Facts] [hFfnRefIdeal : Cert.FfnRefIdeal.Facts] [hPre_ffn_finite : Cert.Pre_ffn_finite.Facts] : Prop :=
  ∀ (m : (ℓ : Loc Cert.FfnIdeal.nD Cert.FfnIdeal.τ Cert.FfnIdeal.sig) → Buf (Elt Ideal) ℓ) (g : Dev Cert.FfnIdeal.nD → PrngReg)
    (m' : (ℓ : Loc Cert.FfnRefIdeal.nD Cert.FfnRefIdeal.τ Cert.FfnRefIdeal.sig) → Buf (Elt Ideal) ℓ) (g' : Dev Cert.FfnRefIdeal.nD → PrngReg), Pre_FfnIdeal_ffn_finite m →
    (∀ c : Dev Cert.FfnIdeal.nD,
      m' ((c.tc : Thread Cert.FfnRefIdeal.nD Cert.FfnRefIdeal.τ).loc Cert.FfnRefIdeal.main_arg0) = m ((c.tc : Thread Cert.FfnIdeal.nD Cert.FfnIdeal.τ).loc Cert.FfnIdeal.main_arg0)
      ∧ m' ((c.tc : Thread Cert.FfnRefIdeal.nD Cert.FfnRefIdeal.τ).loc Cert.FfnRefIdeal.main_arg1) = m ((c.tc : Thread Cert.FfnIdeal.nD Cert.FfnIdeal.τ).loc Cert.FfnIdeal.main_arg1)
      ∧ m' ((c.tc : Thread Cert.FfnRefIdeal.nD Cert.FfnRefIdeal.τ).loc Cert.FfnRefIdeal.main_arg2) = m ((c.tc : Thread Cert.FfnIdeal.nD Cert.FfnIdeal.τ).loc Cert.FfnIdeal.main_arg2)
      ∧ m' ((c.tc : Thread Cert.FfnRefIdeal.nD Cert.FfnRefIdeal.τ).loc Cert.FfnRefIdeal.main_arg3) = m ((c.tc : Thread Cert.FfnIdeal.nD Cert.FfnIdeal.τ).loc Cert.FfnIdeal.main_arg3)
      ∧ m' ((c.tc : Thread Cert.FfnRefIdeal.nD Cert.FfnRefIdeal.τ).loc Cert.FfnRefIdeal.main_arg4) = m ((c.tc : Thread Cert.FfnIdeal.nD Cert.FfnIdeal.τ).loc Cert.FfnIdeal.main_arg4)
      ∧ m' ((c.tc : Thread Cert.FfnRefIdeal.nD Cert.FfnRefIdeal.τ).loc Cert.FfnRefIdeal.main_arg5) = m ((c.tc : Thread Cert.FfnIdeal.nD Cert.FfnIdeal.τ).loc Cert.FfnIdeal.main_arg5)
      ∧ m' ((c.tc : Thread Cert.FfnRefIdeal.nD Cert.FfnRefIdeal.τ).loc Cert.FfnRefIdeal.main_arg6) = m ((c.tc : Thread Cert.FfnIdeal.nD Cert.FfnIdeal.τ).loc Cert.FfnIdeal.main_arg6)
      ∧ m' ((c.tc : Thread Cert.FfnRefIdeal.nD Cert.FfnRefIdeal.τ).loc Cert.FfnRefIdeal.main_arg7) = m ((c.tc : Thread Cert.FfnIdeal.nD Cert.FfnIdeal.τ).loc Cert.FfnIdeal.main_arg7)) →
    ∃ (v0 : (c : Dev Cert.FfnIdeal.nD) → Buf (Elt Ideal) ((c.tc : Thread Cert.FfnIdeal.nD Cert.FfnIdeal.τ).loc Cert.FfnIdeal.main_v9)) (v1 : (c : Dev Cert.FfnIdeal.nD) → Buf (Elt Ideal) ((c.tc : Thread Cert.FfnIdeal.nD Cert.FfnIdeal.τ).loc Cert.FfnIdeal.main_v7_3)) (v2 : (c : Dev Cert.FfnIdeal.nD) → Buf (Elt Ideal) ((c.tc : Thread Cert.FfnIdeal.nD Cert.FfnIdeal.τ).loc Cert.FfnIdeal.main_v10)) (v3 : (c : Dev Cert.FfnIdeal.nD) → Buf (Elt Ideal) ((c.tc : Thread Cert.FfnIdeal.nD Cert.FfnIdeal.τ).loc Cert.FfnIdeal.main_v11)) (v4 : (c : Dev Cert.FfnIdeal.nD) → Buf (Elt Ideal) ((c.tc : Thread Cert.FfnIdeal.nD Cert.FfnIdeal.τ).loc Cert.FfnIdeal.main_v12)) (v5 : (c : Dev Cert.FfnIdeal.nD) → Buf (Elt Ideal) ((c.tc : Thread Cert.FfnIdeal.nD Cert.FfnIdeal.τ).loc Cert.FfnIdeal.main_v13)) (v6 : (c : Dev Cert.FfnIdeal.nD) → Buf (Elt Ideal) ((c.tc : Thread Cert.FfnIdeal.nD Cert.FfnIdeal.τ).loc Cert.FfnIdeal.main_v14)) (v7 : (c : Dev Cert.FfnIdeal.nD) → Buf (Elt Ideal) ((c.tc : Thread Cert.FfnIdeal.nD Cert.FfnIdeal.τ).loc Cert.FfnIdeal.main_v15)) (v8 : (c : Dev Cert.FfnIdeal.nD) → Buf (Elt Ideal) ((c.tc : Thread Cert.FfnIdeal.nD Cert.FfnIdeal.τ).loc Cert.FfnIdeal.main_v16)),
      θ_run (Cert.FfnIdeal.defs (F := Ideal)) (onTc (τ := Cert.FfnIdeal.τ) (Cert.FfnIdeal.main (F := Ideal))) ⟨m, fun _ => 0, g⟩ (fun r => ∀ c : Dev Cert.FfnIdeal.nD,
          r.2.mem ((c.tc : Thread Cert.FfnIdeal.nD Cert.FfnIdeal.τ).loc Cert.FfnIdeal.main_v9) = v0 c
          ∧ r.2.mem ((c.tc : Thread Cert.FfnIdeal.nD Cert.FfnIdeal.τ).loc Cert.FfnIdeal.main_v7_3) = v1 c
          ∧ r.2.mem ((c.tc : Thread Cert.FfnIdeal.nD Cert.FfnIdeal.τ).loc Cert.FfnIdeal.main_v10) = v2 c
          ∧ r.2.mem ((c.tc : Thread Cert.FfnIdeal.nD Cert.FfnIdeal.τ).loc Cert.FfnIdeal.main_v11) = v3 c
          ∧ r.2.mem ((c.tc : Thread Cert.FfnIdeal.nD Cert.FfnIdeal.τ).loc Cert.FfnIdeal.main_v12) = v4 c
          ∧ r.2.mem ((c.tc : Thread Cert.FfnIdeal.nD Cert.FfnIdeal.τ).loc Cert.FfnIdeal.main_v13) = v5 c
          ∧ r.2.mem ((c.tc : Thread Cert.FfnIdeal.nD Cert.FfnIdeal.τ).loc Cert.FfnIdeal.main_v14) = v6 c
          ∧ r.2.mem ((c.tc : Thread Cert.FfnIdeal.nD Cert.FfnIdeal.τ).loc Cert.FfnIdeal.main_v15) = v7 c
          ∧ r.2.mem ((c.tc : Thread Cert.FfnIdeal.nD Cert.FfnIdeal.τ).loc Cert.FfnIdeal.main_v16) = v8 c
          ∧ r.2.mem ((c.tc : Thread Cert.FfnIdeal.nD Cert.FfnIdeal.τ).loc Cert.FfnIdeal.main_arg0) = m ((c.tc : Thread Cert.FfnIdeal.nD Cert.FfnIdeal.τ).loc Cert.FfnIdeal.main_arg0)
          ∧ r.2.mem ((c.tc : Thread Cert.FfnIdeal.nD Cert.FfnIdeal.τ).loc Cert.FfnIdeal.main_arg1) = m ((c.tc : Thread Cert.FfnIdeal.nD Cert.FfnIdeal.τ).loc Cert.FfnIdeal.main_arg1)
          ∧ r.2.mem ((c.tc : Thread Cert.FfnIdeal.nD Cert.FfnIdeal.τ).loc Cert.FfnIdeal.main_arg2) = m ((c.tc : Thread Cert.FfnIdeal.nD Cert.FfnIdeal.τ).loc Cert.FfnIdeal.main_arg2)
          ∧ r.2.mem ((c.tc : Thread Cert.FfnIdeal.nD Cert.FfnIdeal.τ).loc Cert.FfnIdeal.main_arg3) = m ((c.tc : Thread Cert.FfnIdeal.nD Cert.FfnIdeal.τ).loc Cert.FfnIdeal.main_arg3)
          ∧ r.2.mem ((c.tc : Thread Cert.FfnIdeal.nD Cert.FfnIdeal.τ).loc Cert.FfnIdeal.main_arg4) = m ((c.tc : Thread Cert.FfnIdeal.nD Cert.FfnIdeal.τ).loc Cert.FfnIdeal.main_arg4)
          ∧ r.2.mem ((c.tc : Thread Cert.FfnIdeal.nD Cert.FfnIdeal.τ).loc Cert.FfnIdeal.main_arg5) = m ((c.tc : Thread Cert.FfnIdeal.nD Cert.FfnIdeal.τ).loc Cert.FfnIdeal.main_arg5)
          ∧ r.2.mem ((c.tc : Thread Cert.FfnIdeal.nD Cert.FfnIdeal.τ).loc Cert.FfnIdeal.main_arg6) = m ((c.tc : Thread Cert.FfnIdeal.nD Cert.FfnIdeal.τ).loc Cert.FfnIdeal.main_arg6)
          ∧ r.2.mem ((c.tc : Thread Cert.FfnIdeal.nD Cert.FfnIdeal.τ).loc Cert.FfnIdeal.main_arg7) = m ((c.tc : Thread Cert.FfnIdeal.nD Cert.FfnIdeal.τ).loc Cert.FfnIdeal.main_arg7))
      ∧ θ_run (Cert.FfnRefIdeal.defs (F := Ideal)) (onTc (τ := Cert.FfnRefIdeal.τ) (Cert.FfnRefIdeal.main (F := Ideal))) ⟨m', fun _ => 0, g'⟩ (fun r => ∀ c : Dev Cert.FfnRefIdeal.nD,
          r.2.mem ((c.tc : Thread Cert.FfnRefIdeal.nD Cert.FfnRefIdeal.τ).loc Cert.FfnRefIdeal.main_v53) = v0 c
          ∧ r.2.mem ((c.tc : Thread Cert.FfnRefIdeal.nD Cert.FfnRefIdeal.τ).loc Cert.FfnRefIdeal.main_v92) = v1 c
          ∧ r.2.mem ((c.tc : Thread Cert.FfnRefIdeal.nD Cert.FfnRefIdeal.τ).loc Cert.FfnRefIdeal.main_v94) = v2 c
          ∧ r.2.mem ((c.tc : Thread Cert.FfnRefIdeal.nD Cert.FfnRefIdeal.τ).loc Cert.FfnRefIdeal.main_v98) = v3 c
          ∧ r.2.mem ((c.tc : Thread Cert.FfnRefIdeal.nD Cert.FfnRefIdeal.τ).loc Cert.FfnRefIdeal.main_v68) = v4 c
          ∧ r.2.mem ((c.tc : Thread Cert.FfnRefIdeal.nD Cert.FfnRefIdeal.τ).loc Cert.FfnRefIdeal.main_v62) = v5 c
          ∧ r.2.mem ((c.tc : Thread Cert.FfnRefIdeal.nD Cert.FfnRefIdeal.τ).loc Cert.FfnRefIdeal.main_v8) = v6 c
          ∧ r.2.mem ((c.tc : Thread Cert.FfnRefIdeal.nD Cert.FfnRefIdeal.τ).loc Cert.FfnRefIdeal.main_v6) = v7 c
          ∧ r.2.mem ((c.tc : Thread Cert.FfnRefIdeal.nD Cert.FfnRefIdeal.τ).loc Cert.FfnRefIdeal.main_v4) = v8 c
          ∧ r.2.mem ((c.tc : Thread Cert.FfnRefIdeal.nD Cert.FfnRefIdeal.τ).loc Cert.FfnRefIdeal.main_arg0) = m' ((c.tc : Thread Cert.FfnRefIdeal.nD Cert.FfnRefIdeal.τ).loc Cert.FfnRefIdeal.main_arg0)
          ∧ r.2.mem ((c.tc : Thread Cert.FfnRefIdeal.nD Cert.FfnRefIdeal.τ).loc Cert.FfnRefIdeal.main_arg1) = m' ((c.tc : Thread Cert.FfnRefIdeal.nD Cert.FfnRefIdeal.τ).loc Cert.FfnRefIdeal.main_arg1)
          ∧ r.2.mem ((c.tc : Thread Cert.FfnRefIdeal.nD Cert.FfnRefIdeal.τ).loc Cert.FfnRefIdeal.main_arg2) = m' ((c.tc : Thread Cert.FfnRefIdeal.nD Cert.FfnRefIdeal.τ).loc Cert.FfnRefIdeal.main_arg2)
          ∧ r.2.mem ((c.tc : Thread Cert.FfnRefIdeal.nD Cert.FfnRefIdeal.τ).loc Cert.FfnRefIdeal.main_arg3) = m' ((c.tc : Thread Cert.FfnRefIdeal.nD Cert.FfnRefIdeal.τ).loc Cert.FfnRefIdeal.main_arg3)
          ∧ r.2.mem ((c.tc : Thread Cert.FfnRefIdeal.nD Cert.FfnRefIdeal.τ).loc Cert.FfnRefIdeal.main_arg4) = m' ((c.tc : Thread Cert.FfnRefIdeal.nD Cert.FfnRefIdeal.τ).loc Cert.FfnRefIdeal.main_arg4)
          ∧ r.2.mem ((c.tc : Thread Cert.FfnRefIdeal.nD Cert.FfnRefIdeal.τ).loc Cert.FfnRefIdeal.main_arg5) = m' ((c.tc : Thread Cert.FfnRefIdeal.nD Cert.FfnRefIdeal.τ).loc Cert.FfnRefIdeal.main_arg5)
          ∧ r.2.mem ((c.tc : Thread Cert.FfnRefIdeal.nD Cert.FfnRefIdeal.τ).loc Cert.FfnRefIdeal.main_arg6) = m' ((c.tc : Thread Cert.FfnRefIdeal.nD Cert.FfnRefIdeal.τ).loc Cert.FfnRefIdeal.main_arg6)
          ∧ r.2.mem ((c.tc : Thread Cert.FfnRefIdeal.nD Cert.FfnRefIdeal.τ).loc Cert.FfnRefIdeal.main_arg7) = m' ((c.tc : Thread Cert.FfnRefIdeal.nD Cert.FfnRefIdeal.τ).loc Cert.FfnRefIdeal.main_arg7))

def preserves_Table_TableIdeal : Prop :=
  True

def algebraic_TableIdeal_TableRefIdeal [hTableIdeal : Cert.TableIdeal.Facts] [hTableRefIdeal : Cert.TableRefIdeal.Facts] : Prop :=
  ∀ (m : (ℓ : Loc Cert.TableIdeal.nD Cert.TableIdeal.τ Cert.TableIdeal.sig) → Buf (Elt Ideal) ℓ) (g : Dev Cert.TableIdeal.nD → PrngReg)
    (m' : (ℓ : Loc Cert.TableRefIdeal.nD Cert.TableRefIdeal.τ Cert.TableRefIdeal.sig) → Buf (Elt Ideal) ℓ) (g' : Dev Cert.TableRefIdeal.nD → PrngReg), Pre_TableIdeal m →
    (∀ c : Dev Cert.TableIdeal.nD,
      m' ((c.tc : Thread Cert.TableRefIdeal.nD Cert.TableRefIdeal.τ).loc Cert.TableRefIdeal.main_arg0) = m ((c.tc : Thread Cert.TableIdeal.nD Cert.TableIdeal.τ).loc Cert.TableIdeal.main_arg0)
      ∧ m' ((c.tc : Thread Cert.TableRefIdeal.nD Cert.TableRefIdeal.τ).loc Cert.TableRefIdeal.main_arg1) = m ((c.tc : Thread Cert.TableIdeal.nD Cert.TableIdeal.τ).loc Cert.TableIdeal.main_arg1)) →
    ∃ (v0 : (c : Dev Cert.TableIdeal.nD) → Buf (Elt Ideal) ((c.tc : Thread Cert.TableIdeal.nD Cert.TableIdeal.τ).loc Cert.TableIdeal.main_v32)),
      θ_run (Cert.TableIdeal.defs (F := Ideal)) (onTc (τ := Cert.TableIdeal.τ) (Cert.TableIdeal.main (F := Ideal))) ⟨m, fun _ => 0, g⟩ (fun r => ∀ c : Dev Cert.TableIdeal.nD,
          r.2.mem ((c.tc : Thread Cert.TableIdeal.nD Cert.TableIdeal.τ).loc Cert.TableIdeal.main_v32) = v0 c
          ∧ r.2.mem ((c.tc : Thread Cert.TableIdeal.nD Cert.TableIdeal.τ).loc Cert.TableIdeal.main_arg0) = m ((c.tc : Thread Cert.TableIdeal.nD Cert.TableIdeal.τ).loc Cert.TableIdeal.main_arg0)
          ∧ r.2.mem ((c.tc : Thread Cert.TableIdeal.nD Cert.TableIdeal.τ).loc Cert.TableIdeal.main_arg1) = m ((c.tc : Thread Cert.TableIdeal.nD Cert.TableIdeal.τ).loc Cert.TableIdeal.main_arg1))
      ∧ θ_run (Cert.TableRefIdeal.defs (F := Ideal)) (onTc (τ := Cert.TableRefIdeal.τ) (Cert.TableRefIdeal.main (F := Ideal))) ⟨m', fun _ => 0, g'⟩ (fun r => ∀ c : Dev Cert.TableRefIdeal.nD,
          r.2.mem ((c.tc : Thread Cert.TableRefIdeal.nD Cert.TableRefIdeal.τ).loc Cert.TableRefIdeal.main_v39) = v0 c
          ∧ r.2.mem ((c.tc : Thread Cert.TableRefIdeal.nD Cert.TableRefIdeal.τ).loc Cert.TableRefIdeal.main_arg0) = m' ((c.tc : Thread Cert.TableRefIdeal.nD Cert.TableRefIdeal.τ).loc Cert.TableRefIdeal.main_arg0)
          ∧ r.2.mem ((c.tc : Thread Cert.TableRefIdeal.nD Cert.TableRefIdeal.τ).loc Cert.TableRefIdeal.main_arg1) = m' ((c.tc : Thread Cert.TableRefIdeal.nD Cert.TableRefIdeal.τ).loc Cert.TableRefIdeal.main_arg1))

def preserves_Back_BackIdeal : Prop :=
  True

def algebraic_BackIdeal_BackRefIdeal_pre_back_finite [hBackIdeal : Cert.BackIdeal.Facts] [hBackRefIdeal : Cert.BackRefIdeal.Facts] [hPre_back_finite : Cert.Pre_back_finite.Facts] : Prop :=
  ∀ (m : (ℓ : Loc Cert.BackIdeal.nD Cert.BackIdeal.τ Cert.BackIdeal.sig) → Buf (Elt Ideal) ℓ) (g : Dev Cert.BackIdeal.nD → PrngReg)
    (m' : (ℓ : Loc Cert.BackRefIdeal.nD Cert.BackRefIdeal.τ Cert.BackRefIdeal.sig) → Buf (Elt Ideal) ℓ) (g' : Dev Cert.BackRefIdeal.nD → PrngReg), Pre_BackIdeal_back_finite m →
    (∀ c : Dev Cert.BackIdeal.nD,
      m' ((c.tc : Thread Cert.BackRefIdeal.nD Cert.BackRefIdeal.τ).loc Cert.BackRefIdeal.main_arg0) = m ((c.tc : Thread Cert.BackIdeal.nD Cert.BackIdeal.τ).loc Cert.BackIdeal.main_arg0)
      ∧ m' ((c.tc : Thread Cert.BackRefIdeal.nD Cert.BackRefIdeal.τ).loc Cert.BackRefIdeal.main_arg1) = m ((c.tc : Thread Cert.BackIdeal.nD Cert.BackIdeal.τ).loc Cert.BackIdeal.main_arg1)
      ∧ m' ((c.tc : Thread Cert.BackRefIdeal.nD Cert.BackRefIdeal.τ).loc Cert.BackRefIdeal.main_arg2) = m ((c.tc : Thread Cert.BackIdeal.nD Cert.BackIdeal.τ).loc Cert.BackIdeal.main_arg2)
      ∧ m' ((c.tc : Thread Cert.BackRefIdeal.nD Cert.BackRefIdeal.τ).loc Cert.BackRefIdeal.main_arg3) = m ((c.tc : Thread Cert.BackIdeal.nD Cert.BackIdeal.τ).loc Cert.BackIdeal.main_arg3)
      ∧ m' ((c.tc : Thread Cert.BackRefIdeal.nD Cert.BackRefIdeal.τ).loc Cert.BackRefIdeal.main_arg4) = m ((c.tc : Thread Cert.BackIdeal.nD Cert.BackIdeal.τ).loc Cert.BackIdeal.main_arg4)
      ∧ m' ((c.tc : Thread Cert.BackRefIdeal.nD Cert.BackRefIdeal.τ).loc Cert.BackRefIdeal.main_arg5) = m ((c.tc : Thread Cert.BackIdeal.nD Cert.BackIdeal.τ).loc Cert.BackIdeal.main_arg5)
      ∧ m' ((c.tc : Thread Cert.BackRefIdeal.nD Cert.BackRefIdeal.τ).loc Cert.BackRefIdeal.main_arg6) = m ((c.tc : Thread Cert.BackIdeal.nD Cert.BackIdeal.τ).loc Cert.BackIdeal.main_arg6)
      ∧ m' ((c.tc : Thread Cert.BackRefIdeal.nD Cert.BackRefIdeal.τ).loc Cert.BackRefIdeal.main_arg7) = m ((c.tc : Thread Cert.BackIdeal.nD Cert.BackIdeal.τ).loc Cert.BackIdeal.main_arg7)
      ∧ m' ((c.tc : Thread Cert.BackRefIdeal.nD Cert.BackRefIdeal.τ).loc Cert.BackRefIdeal.main_arg8) = m ((c.tc : Thread Cert.BackIdeal.nD Cert.BackIdeal.τ).loc Cert.BackIdeal.main_arg8)
      ∧ m' ((c.tc : Thread Cert.BackRefIdeal.nD Cert.BackRefIdeal.τ).loc Cert.BackRefIdeal.main_arg9) = m ((c.tc : Thread Cert.BackIdeal.nD Cert.BackIdeal.τ).loc Cert.BackIdeal.main_arg9)
      ∧ m' ((c.tc : Thread Cert.BackRefIdeal.nD Cert.BackRefIdeal.τ).loc Cert.BackRefIdeal.main_arg10) = m ((c.tc : Thread Cert.BackIdeal.nD Cert.BackIdeal.τ).loc Cert.BackIdeal.main_arg10)) →
    ∃ (v0 : (c : Dev Cert.BackIdeal.nD) → Buf (Elt Ideal) ((c.tc : Thread Cert.BackIdeal.nD Cert.BackIdeal.τ).loc Cert.BackIdeal.main_v65)) (v1 : (c : Dev Cert.BackIdeal.nD) → Buf (Elt Ideal) ((c.tc : Thread Cert.BackIdeal.nD Cert.BackIdeal.τ).loc Cert.BackIdeal.main_v66)) (v2 : (c : Dev Cert.BackIdeal.nD) → Buf (Elt Ideal) ((c.tc : Thread Cert.BackIdeal.nD Cert.BackIdeal.τ).loc Cert.BackIdeal.main_v64_2)) (v3 : (c : Dev Cert.BackIdeal.nD) → Buf (Elt Ideal) ((c.tc : Thread Cert.BackIdeal.nD Cert.BackIdeal.τ).loc Cert.BackIdeal.main_v67)) (v4 : (c : Dev Cert.BackIdeal.nD) → Buf (Elt Ideal) ((c.tc : Thread Cert.BackIdeal.nD Cert.BackIdeal.τ).loc Cert.BackIdeal.main_v68)) (v5 : (c : Dev Cert.BackIdeal.nD) → Buf (Elt Ideal) ((c.tc : Thread Cert.BackIdeal.nD Cert.BackIdeal.τ).loc Cert.BackIdeal.main_v69)) (v6 : (c : Dev Cert.BackIdeal.nD) → Buf (Elt Ideal) ((c.tc : Thread Cert.BackIdeal.nD Cert.BackIdeal.τ).loc Cert.BackIdeal.main_v70)) (v7 : (c : Dev Cert.BackIdeal.nD) → Buf (Elt Ideal) ((c.tc : Thread Cert.BackIdeal.nD Cert.BackIdeal.τ).loc Cert.BackIdeal.main_v71)) (v8 : (c : Dev Cert.BackIdeal.nD) → Buf (Elt Ideal) ((c.tc : Thread Cert.BackIdeal.nD Cert.BackIdeal.τ).loc Cert.BackIdeal.main_v72)),
      θ_run (Cert.BackIdeal.defs (F := Ideal)) (onTc (τ := Cert.BackIdeal.τ) (Cert.BackIdeal.main (F := Ideal))) ⟨m, fun _ => 0, g⟩ (fun r => ∀ c : Dev Cert.BackIdeal.nD,
          r.2.mem ((c.tc : Thread Cert.BackIdeal.nD Cert.BackIdeal.τ).loc Cert.BackIdeal.main_v65) = v0 c
          ∧ r.2.mem ((c.tc : Thread Cert.BackIdeal.nD Cert.BackIdeal.τ).loc Cert.BackIdeal.main_v66) = v1 c
          ∧ r.2.mem ((c.tc : Thread Cert.BackIdeal.nD Cert.BackIdeal.τ).loc Cert.BackIdeal.main_v64_2) = v2 c
          ∧ r.2.mem ((c.tc : Thread Cert.BackIdeal.nD Cert.BackIdeal.τ).loc Cert.BackIdeal.main_v67) = v3 c
          ∧ r.2.mem ((c.tc : Thread Cert.BackIdeal.nD Cert.BackIdeal.τ).loc Cert.BackIdeal.main_v68) = v4 c
          ∧ r.2.mem ((c.tc : Thread Cert.BackIdeal.nD Cert.BackIdeal.τ).loc Cert.BackIdeal.main_v69) = v5 c
          ∧ r.2.mem ((c.tc : Thread Cert.BackIdeal.nD Cert.BackIdeal.τ).loc Cert.BackIdeal.main_v70) = v6 c
          ∧ r.2.mem ((c.tc : Thread Cert.BackIdeal.nD Cert.BackIdeal.τ).loc Cert.BackIdeal.main_v71) = v7 c
          ∧ r.2.mem ((c.tc : Thread Cert.BackIdeal.nD Cert.BackIdeal.τ).loc Cert.BackIdeal.main_v72) = v8 c
          ∧ r.2.mem ((c.tc : Thread Cert.BackIdeal.nD Cert.BackIdeal.τ).loc Cert.BackIdeal.main_arg0) = m ((c.tc : Thread Cert.BackIdeal.nD Cert.BackIdeal.τ).loc Cert.BackIdeal.main_arg0)
          ∧ r.2.mem ((c.tc : Thread Cert.BackIdeal.nD Cert.BackIdeal.τ).loc Cert.BackIdeal.main_arg1) = m ((c.tc : Thread Cert.BackIdeal.nD Cert.BackIdeal.τ).loc Cert.BackIdeal.main_arg1)
          ∧ r.2.mem ((c.tc : Thread Cert.BackIdeal.nD Cert.BackIdeal.τ).loc Cert.BackIdeal.main_arg2) = m ((c.tc : Thread Cert.BackIdeal.nD Cert.BackIdeal.τ).loc Cert.BackIdeal.main_arg2)
          ∧ r.2.mem ((c.tc : Thread Cert.BackIdeal.nD Cert.BackIdeal.τ).loc Cert.BackIdeal.main_arg3) = m ((c.tc : Thread Cert.BackIdeal.nD Cert.BackIdeal.τ).loc Cert.BackIdeal.main_arg3)
          ∧ r.2.mem ((c.tc : Thread Cert.BackIdeal.nD Cert.BackIdeal.τ).loc Cert.BackIdeal.main_arg4) = m ((c.tc : Thread Cert.BackIdeal.nD Cert.BackIdeal.τ).loc Cert.BackIdeal.main_arg4)
          ∧ r.2.mem ((c.tc : Thread Cert.BackIdeal.nD Cert.BackIdeal.τ).loc Cert.BackIdeal.main_arg5) = m ((c.tc : Thread Cert.BackIdeal.nD Cert.BackIdeal.τ).loc Cert.BackIdeal.main_arg5)
          ∧ r.2.mem ((c.tc : Thread Cert.BackIdeal.nD Cert.BackIdeal.τ).loc Cert.BackIdeal.main_arg6) = m ((c.tc : Thread Cert.BackIdeal.nD Cert.BackIdeal.τ).loc Cert.BackIdeal.main_arg6)
          ∧ r.2.mem ((c.tc : Thread Cert.BackIdeal.nD Cert.BackIdeal.τ).loc Cert.BackIdeal.main_arg7) = m ((c.tc : Thread Cert.BackIdeal.nD Cert.BackIdeal.τ).loc Cert.BackIdeal.main_arg7)
          ∧ r.2.mem ((c.tc : Thread Cert.BackIdeal.nD Cert.BackIdeal.τ).loc Cert.BackIdeal.main_arg8) = m ((c.tc : Thread Cert.BackIdeal.nD Cert.BackIdeal.τ).loc Cert.BackIdeal.main_arg8)
          ∧ r.2.mem ((c.tc : Thread Cert.BackIdeal.nD Cert.BackIdeal.τ).loc Cert.BackIdeal.main_arg9) = m ((c.tc : Thread Cert.BackIdeal.nD Cert.BackIdeal.τ).loc Cert.BackIdeal.main_arg9)
          ∧ r.2.mem ((c.tc : Thread Cert.BackIdeal.nD Cert.BackIdeal.τ).loc Cert.BackIdeal.main_arg10) = m ((c.tc : Thread Cert.BackIdeal.nD Cert.BackIdeal.τ).loc Cert.BackIdeal.main_arg10))
      ∧ θ_run (Cert.BackRefIdeal.defs (F := Ideal)) (onTc (τ := Cert.BackRefIdeal.τ) (Cert.BackRefIdeal.main (F := Ideal))) ⟨m', fun _ => 0, g'⟩ (fun r => ∀ c : Dev Cert.BackRefIdeal.nD,
          r.2.mem ((c.tc : Thread Cert.BackRefIdeal.nD Cert.BackRefIdeal.τ).loc Cert.BackRefIdeal.main_v54) = v0 c
          ∧ r.2.mem ((c.tc : Thread Cert.BackRefIdeal.nD Cert.BackRefIdeal.τ).loc Cert.BackRefIdeal.main_v52) = v1 c
          ∧ r.2.mem ((c.tc : Thread Cert.BackRefIdeal.nD Cert.BackRefIdeal.τ).loc Cert.BackRefIdeal.main_v101) = v2 c
          ∧ r.2.mem ((c.tc : Thread Cert.BackRefIdeal.nD Cert.BackRefIdeal.τ).loc Cert.BackRefIdeal.main_v103) = v3 c
          ∧ r.2.mem ((c.tc : Thread Cert.BackRefIdeal.nD Cert.BackRefIdeal.τ).loc Cert.BackRefIdeal.main_v107) = v4 c
          ∧ r.2.mem ((c.tc : Thread Cert.BackRefIdeal.nD Cert.BackRefIdeal.τ).loc Cert.BackRefIdeal.main_v77) = v5 c
          ∧ r.2.mem ((c.tc : Thread Cert.BackRefIdeal.nD Cert.BackRefIdeal.τ).loc Cert.BackRefIdeal.main_v71) = v6 c
          ∧ r.2.mem ((c.tc : Thread Cert.BackRefIdeal.nD Cert.BackRefIdeal.τ).loc Cert.BackRefIdeal.main_v65) = v7 c
          ∧ r.2.mem ((c.tc : Thread Cert.BackRefIdeal.nD Cert.BackRefIdeal.τ).loc Cert.BackRefIdeal.main_v59) = v8 c
          ∧ r.2.mem ((c.tc : Thread Cert.BackRefIdeal.nD Cert.BackRefIdeal.τ).loc Cert.BackRefIdeal.main_arg0) = m' ((c.tc : Thread Cert.BackRefIdeal.nD Cert.BackRefIdeal.τ).loc Cert.BackRefIdeal.main_arg0)
          ∧ r.2.mem ((c.tc : Thread Cert.BackRefIdeal.nD Cert.BackRefIdeal.τ).loc Cert.BackRefIdeal.main_arg1) = m' ((c.tc : Thread Cert.BackRefIdeal.nD Cert.BackRefIdeal.τ).loc Cert.BackRefIdeal.main_arg1)
          ∧ r.2.mem ((c.tc : Thread Cert.BackRefIdeal.nD Cert.BackRefIdeal.τ).loc Cert.BackRefIdeal.main_arg2) = m' ((c.tc : Thread Cert.BackRefIdeal.nD Cert.BackRefIdeal.τ).loc Cert.BackRefIdeal.main_arg2)
          ∧ r.2.mem ((c.tc : Thread Cert.BackRefIdeal.nD Cert.BackRefIdeal.τ).loc Cert.BackRefIdeal.main_arg3) = m' ((c.tc : Thread Cert.BackRefIdeal.nD Cert.BackRefIdeal.τ).loc Cert.BackRefIdeal.main_arg3)
          ∧ r.2.mem ((c.tc : Thread Cert.BackRefIdeal.nD Cert.BackRefIdeal.τ).loc Cert.BackRefIdeal.main_arg4) = m' ((c.tc : Thread Cert.BackRefIdeal.nD Cert.BackRefIdeal.τ).loc Cert.BackRefIdeal.main_arg4)
          ∧ r.2.mem ((c.tc : Thread Cert.BackRefIdeal.nD Cert.BackRefIdeal.τ).loc Cert.BackRefIdeal.main_arg5) = m' ((c.tc : Thread Cert.BackRefIdeal.nD Cert.BackRefIdeal.τ).loc Cert.BackRefIdeal.main_arg5)
          ∧ r.2.mem ((c.tc : Thread Cert.BackRefIdeal.nD Cert.BackRefIdeal.τ).loc Cert.BackRefIdeal.main_arg6) = m' ((c.tc : Thread Cert.BackRefIdeal.nD Cert.BackRefIdeal.τ).loc Cert.BackRefIdeal.main_arg6)
          ∧ r.2.mem ((c.tc : Thread Cert.BackRefIdeal.nD Cert.BackRefIdeal.τ).loc Cert.BackRefIdeal.main_arg7) = m' ((c.tc : Thread Cert.BackRefIdeal.nD Cert.BackRefIdeal.τ).loc Cert.BackRefIdeal.main_arg7)
          ∧ r.2.mem ((c.tc : Thread Cert.BackRefIdeal.nD Cert.BackRefIdeal.τ).loc Cert.BackRefIdeal.main_arg8) = m' ((c.tc : Thread Cert.BackRefIdeal.nD Cert.BackRefIdeal.τ).loc Cert.BackRefIdeal.main_arg8)
          ∧ r.2.mem ((c.tc : Thread Cert.BackRefIdeal.nD Cert.BackRefIdeal.τ).loc Cert.BackRefIdeal.main_arg9) = m' ((c.tc : Thread Cert.BackRefIdeal.nD Cert.BackRefIdeal.τ).loc Cert.BackRefIdeal.main_arg9)
          ∧ r.2.mem ((c.tc : Thread Cert.BackRefIdeal.nD Cert.BackRefIdeal.τ).loc Cert.BackRefIdeal.main_arg10) = m' ((c.tc : Thread Cert.BackRefIdeal.nD Cert.BackRefIdeal.τ).loc Cert.BackRefIdeal.main_arg10))

def preserves_MixFwd_MixFwdIdeal : Prop :=
  IdealRules.named_const.Statement Cert.MixFwdIdeal.κ "mask" .f32 0xF149F2CA#32 ⊥

def algebraic_MixFwdIdeal_MixFwdRefIdeal_pre_mix_finite [hMixFwdIdeal : Cert.MixFwdIdeal.Facts] [hMixFwdRefIdeal : Cert.MixFwdRefIdeal.Facts] [hPre_mix_finite : Cert.Pre_mix_finite.Facts] : Prop :=
  ∀ (m : (ℓ : Loc Cert.MixFwdIdeal.nD Cert.MixFwdIdeal.τ Cert.MixFwdIdeal.sig) → Buf (Elt Ideal) ℓ) (g : Dev Cert.MixFwdIdeal.nD → PrngReg)
    (m' : (ℓ : Loc Cert.MixFwdRefIdeal.nD Cert.MixFwdRefIdeal.τ Cert.MixFwdRefIdeal.sig) → Buf (Elt Ideal) ℓ) (g' : Dev Cert.MixFwdRefIdeal.nD → PrngReg), Pre_MixFwdIdeal_mix_finite m →
    (∀ c : Dev Cert.MixFwdIdeal.nD,
      m' ((c.tc : Thread Cert.MixFwdRefIdeal.nD Cert.MixFwdRefIdeal.τ).loc Cert.MixFwdRefIdeal.main_arg0) = m ((c.tc : Thread Cert.MixFwdIdeal.nD Cert.MixFwdIdeal.τ).loc Cert.MixFwdIdeal.main_arg0)
      ∧ m' ((c.tc : Thread Cert.MixFwdRefIdeal.nD Cert.MixFwdRefIdeal.τ).loc Cert.MixFwdRefIdeal.main_arg1) = m ((c.tc : Thread Cert.MixFwdIdeal.nD Cert.MixFwdIdeal.τ).loc Cert.MixFwdIdeal.main_arg1)
      ∧ m' ((c.tc : Thread Cert.MixFwdRefIdeal.nD Cert.MixFwdRefIdeal.τ).loc Cert.MixFwdRefIdeal.main_arg2) = m ((c.tc : Thread Cert.MixFwdIdeal.nD Cert.MixFwdIdeal.τ).loc Cert.MixFwdIdeal.main_arg2)
      ∧ m' ((c.tc : Thread Cert.MixFwdRefIdeal.nD Cert.MixFwdRefIdeal.τ).loc Cert.MixFwdRefIdeal.main_arg3) = m ((c.tc : Thread Cert.MixFwdIdeal.nD Cert.MixFwdIdeal.τ).loc Cert.MixFwdIdeal.main_arg3)
      ∧ m' ((c.tc : Thread Cert.MixFwdRefIdeal.nD Cert.MixFwdRefIdeal.τ).loc Cert.MixFwdRefIdeal.main_arg4) = m ((c.tc : Thread Cert.MixFwdIdeal.nD Cert.MixFwdIdeal.τ).loc Cert.MixFwdIdeal.main_arg4)
      ∧ m' ((c.tc : Thread Cert.MixFwdRefIdeal.nD Cert.MixFwdRefIdeal.τ).loc Cert.MixFwdRefIdeal.main_arg5) = m ((c.tc : Thread Cert.MixFwdIdeal.nD Cert.MixFwdIdeal.τ).loc Cert.MixFwdIdeal.main_arg5)
      ∧ m' ((c.tc : Thread Cert.MixFwdRefIdeal.nD Cert.MixFwdRefIdeal.τ).loc Cert.MixFwdRefIdeal.main_arg6) = m ((c.tc : Thread Cert.MixFwdIdeal.nD Cert.MixFwdIdeal.τ).loc Cert.MixFwdIdeal.main_arg6)
      ∧ m' ((c.tc : Thread Cert.MixFwdRefIdeal.nD Cert.MixFwdRefIdeal.τ).loc Cert.MixFwdRefIdeal.main_arg7) = m ((c.tc : Thread Cert.MixFwdIdeal.nD Cert.MixFwdIdeal.τ).loc Cert.MixFwdIdeal.main_arg7)
      ∧ m' ((c.tc : Thread Cert.MixFwdRefIdeal.nD Cert.MixFwdRefIdeal.τ).loc Cert.MixFwdRefIdeal.main_arg8) = m ((c.tc : Thread Cert.MixFwdIdeal.nD Cert.MixFwdIdeal.τ).loc Cert.MixFwdIdeal.main_arg8)) →
    ∃ (v0 : (c : Dev Cert.MixFwdIdeal.nD) → Buf (Elt Ideal) ((c.tc : Thread Cert.MixFwdIdeal.nD Cert.MixFwdIdeal.τ).loc Cert.MixFwdIdeal.main_v26_0)) (v1 : (c : Dev Cert.MixFwdIdeal.nD) → Buf (Elt Ideal) ((c.tc : Thread Cert.MixFwdIdeal.nD Cert.MixFwdIdeal.τ).loc Cert.MixFwdIdeal.main_v26_1)) (v2 : (c : Dev Cert.MixFwdIdeal.nD) → Buf (Elt Ideal) ((c.tc : Thread Cert.MixFwdIdeal.nD Cert.MixFwdIdeal.τ).loc Cert.MixFwdIdeal.main_v26_2)) (v3 : (c : Dev Cert.MixFwdIdeal.nD) → Buf (Elt Ideal) ((c.tc : Thread Cert.MixFwdIdeal.nD Cert.MixFwdIdeal.τ).loc Cert.MixFwdIdeal.main_v26_3)),
      θ_run (Cert.MixFwdIdeal.defs (F := Ideal)) (onTc (τ := Cert.MixFwdIdeal.τ) (Cert.MixFwdIdeal.main (F := Ideal))) ⟨m, fun _ => 0, g⟩ (fun r => ∀ c : Dev Cert.MixFwdIdeal.nD,
          r.2.mem ((c.tc : Thread Cert.MixFwdIdeal.nD Cert.MixFwdIdeal.τ).loc Cert.MixFwdIdeal.main_v26_0) = v0 c
          ∧ r.2.mem ((c.tc : Thread Cert.MixFwdIdeal.nD Cert.MixFwdIdeal.τ).loc Cert.MixFwdIdeal.main_v26_1) = v1 c
          ∧ r.2.mem ((c.tc : Thread Cert.MixFwdIdeal.nD Cert.MixFwdIdeal.τ).loc Cert.MixFwdIdeal.main_v26_2) = v2 c
          ∧ r.2.mem ((c.tc : Thread Cert.MixFwdIdeal.nD Cert.MixFwdIdeal.τ).loc Cert.MixFwdIdeal.main_v26_3) = v3 c
          ∧ r.2.mem ((c.tc : Thread Cert.MixFwdIdeal.nD Cert.MixFwdIdeal.τ).loc Cert.MixFwdIdeal.main_arg0) = m ((c.tc : Thread Cert.MixFwdIdeal.nD Cert.MixFwdIdeal.τ).loc Cert.MixFwdIdeal.main_arg0)
          ∧ r.2.mem ((c.tc : Thread Cert.MixFwdIdeal.nD Cert.MixFwdIdeal.τ).loc Cert.MixFwdIdeal.main_arg1) = m ((c.tc : Thread Cert.MixFwdIdeal.nD Cert.MixFwdIdeal.τ).loc Cert.MixFwdIdeal.main_arg1)
          ∧ r.2.mem ((c.tc : Thread Cert.MixFwdIdeal.nD Cert.MixFwdIdeal.τ).loc Cert.MixFwdIdeal.main_arg2) = m ((c.tc : Thread Cert.MixFwdIdeal.nD Cert.MixFwdIdeal.τ).loc Cert.MixFwdIdeal.main_arg2)
          ∧ r.2.mem ((c.tc : Thread Cert.MixFwdIdeal.nD Cert.MixFwdIdeal.τ).loc Cert.MixFwdIdeal.main_arg3) = m ((c.tc : Thread Cert.MixFwdIdeal.nD Cert.MixFwdIdeal.τ).loc Cert.MixFwdIdeal.main_arg3)
          ∧ r.2.mem ((c.tc : Thread Cert.MixFwdIdeal.nD Cert.MixFwdIdeal.τ).loc Cert.MixFwdIdeal.main_arg4) = m ((c.tc : Thread Cert.MixFwdIdeal.nD Cert.MixFwdIdeal.τ).loc Cert.MixFwdIdeal.main_arg4)
          ∧ r.2.mem ((c.tc : Thread Cert.MixFwdIdeal.nD Cert.MixFwdIdeal.τ).loc Cert.MixFwdIdeal.main_arg5) = m ((c.tc : Thread Cert.MixFwdIdeal.nD Cert.MixFwdIdeal.τ).loc Cert.MixFwdIdeal.main_arg5)
          ∧ r.2.mem ((c.tc : Thread Cert.MixFwdIdeal.nD Cert.MixFwdIdeal.τ).loc Cert.MixFwdIdeal.main_arg6) = m ((c.tc : Thread Cert.MixFwdIdeal.nD Cert.MixFwdIdeal.τ).loc Cert.MixFwdIdeal.main_arg6)
          ∧ r.2.mem ((c.tc : Thread Cert.MixFwdIdeal.nD Cert.MixFwdIdeal.τ).loc Cert.MixFwdIdeal.main_arg7) = m ((c.tc : Thread Cert.MixFwdIdeal.nD Cert.MixFwdIdeal.τ).loc Cert.MixFwdIdeal.main_arg7)
          ∧ r.2.mem ((c.tc : Thread Cert.MixFwdIdeal.nD Cert.MixFwdIdeal.τ).loc Cert.MixFwdIdeal.main_arg8) = m ((c.tc : Thread Cert.MixFwdIdeal.nD Cert.MixFwdIdeal.τ).loc Cert.MixFwdIdeal.main_arg8))
      ∧ θ_run (Cert.MixFwdRefIdeal.defs (F := Ideal)) (onTc (τ := Cert.MixFwdRefIdeal.τ) (Cert.MixFwdRefIdeal.main (F := Ideal))) ⟨m', fun _ => 0, g'⟩ (fun r => ∀ c : Dev Cert.MixFwdRefIdeal.nD,
          r.2.mem ((c.tc : Thread Cert.MixFwdRefIdeal.nD Cert.MixFwdRefIdeal.τ).loc Cert.MixFwdRefIdeal.main_v157) = v0 c
          ∧ r.2.mem ((c.tc : Thread Cert.MixFwdRefIdeal.nD Cert.MixFwdRefIdeal.τ).loc Cert.MixFwdRefIdeal.main_v152) = v1 c
          ∧ r.2.mem ((c.tc : Thread Cert.MixFwdRefIdeal.nD Cert.MixFwdRefIdeal.τ).loc Cert.MixFwdRefIdeal.main_v158) = v2 c
          ∧ r.2.mem ((c.tc : Thread Cert.MixFwdRefIdeal.nD Cert.MixFwdRefIdeal.τ).loc Cert.MixFwdRefIdeal.main_v54) = v3 c
          ∧ r.2.mem ((c.tc : Thread Cert.MixFwdRefIdeal.nD Cert.MixFwdRefIdeal.τ).loc Cert.MixFwdRefIdeal.main_arg0) = m' ((c.tc : Thread Cert.MixFwdRefIdeal.nD Cert.MixFwdRefIdeal.τ).loc Cert.MixFwdRefIdeal.main_arg0)
          ∧ r.2.mem ((c.tc : Thread Cert.MixFwdRefIdeal.nD Cert.MixFwdRefIdeal.τ).loc Cert.MixFwdRefIdeal.main_arg1) = m' ((c.tc : Thread Cert.MixFwdRefIdeal.nD Cert.MixFwdRefIdeal.τ).loc Cert.MixFwdRefIdeal.main_arg1)
          ∧ r.2.mem ((c.tc : Thread Cert.MixFwdRefIdeal.nD Cert.MixFwdRefIdeal.τ).loc Cert.MixFwdRefIdeal.main_arg2) = m' ((c.tc : Thread Cert.MixFwdRefIdeal.nD Cert.MixFwdRefIdeal.τ).loc Cert.MixFwdRefIdeal.main_arg2)
          ∧ r.2.mem ((c.tc : Thread Cert.MixFwdRefIdeal.nD Cert.MixFwdRefIdeal.τ).loc Cert.MixFwdRefIdeal.main_arg3) = m' ((c.tc : Thread Cert.MixFwdRefIdeal.nD Cert.MixFwdRefIdeal.τ).loc Cert.MixFwdRefIdeal.main_arg3)
          ∧ r.2.mem ((c.tc : Thread Cert.MixFwdRefIdeal.nD Cert.MixFwdRefIdeal.τ).loc Cert.MixFwdRefIdeal.main_arg4) = m' ((c.tc : Thread Cert.MixFwdRefIdeal.nD Cert.MixFwdRefIdeal.τ).loc Cert.MixFwdRefIdeal.main_arg4)
          ∧ r.2.mem ((c.tc : Thread Cert.MixFwdRefIdeal.nD Cert.MixFwdRefIdeal.τ).loc Cert.MixFwdRefIdeal.main_arg5) = m' ((c.tc : Thread Cert.MixFwdRefIdeal.nD Cert.MixFwdRefIdeal.τ).loc Cert.MixFwdRefIdeal.main_arg5)
          ∧ r.2.mem ((c.tc : Thread Cert.MixFwdRefIdeal.nD Cert.MixFwdRefIdeal.τ).loc Cert.MixFwdRefIdeal.main_arg6) = m' ((c.tc : Thread Cert.MixFwdRefIdeal.nD Cert.MixFwdRefIdeal.τ).loc Cert.MixFwdRefIdeal.main_arg6)
          ∧ r.2.mem ((c.tc : Thread Cert.MixFwdRefIdeal.nD Cert.MixFwdRefIdeal.τ).loc Cert.MixFwdRefIdeal.main_arg7) = m' ((c.tc : Thread Cert.MixFwdRefIdeal.nD Cert.MixFwdRefIdeal.τ).loc Cert.MixFwdRefIdeal.main_arg7)
          ∧ r.2.mem ((c.tc : Thread Cert.MixFwdRefIdeal.nD Cert.MixFwdRefIdeal.τ).loc Cert.MixFwdRefIdeal.main_arg8) = m' ((c.tc : Thread Cert.MixFwdRefIdeal.nD Cert.MixFwdRefIdeal.τ).loc Cert.MixFwdRefIdeal.main_arg8))

def preserves_Outp_OutpIdeal : Prop :=
  True

def algebraic_OutpIdeal_OutpRefIdeal [hOutpIdeal : Cert.OutpIdeal.Facts] [hOutpRefIdeal : Cert.OutpRefIdeal.Facts] : Prop :=
  ∀ (m : (ℓ : Loc Cert.OutpIdeal.nD Cert.OutpIdeal.τ Cert.OutpIdeal.sig) → Buf (Elt Ideal) ℓ) (g : Dev Cert.OutpIdeal.nD → PrngReg)
    (m' : (ℓ : Loc Cert.OutpRefIdeal.nD Cert.OutpRefIdeal.τ Cert.OutpRefIdeal.sig) → Buf (Elt Ideal) ℓ) (g' : Dev Cert.OutpRefIdeal.nD → PrngReg), Pre_OutpIdeal m →
    (∀ c : Dev Cert.OutpIdeal.nD,
      m' ((c.tc : Thread Cert.OutpRefIdeal.nD Cert.OutpRefIdeal.τ).loc Cert.OutpRefIdeal.main_arg0) = m ((c.tc : Thread Cert.OutpIdeal.nD Cert.OutpIdeal.τ).loc Cert.OutpIdeal.main_arg0)
      ∧ m' ((c.tc : Thread Cert.OutpRefIdeal.nD Cert.OutpRefIdeal.τ).loc Cert.OutpRefIdeal.main_arg1) = m ((c.tc : Thread Cert.OutpIdeal.nD Cert.OutpIdeal.τ).loc Cert.OutpIdeal.main_arg1)
      ∧ m' ((c.tc : Thread Cert.OutpRefIdeal.nD Cert.OutpRefIdeal.τ).loc Cert.OutpRefIdeal.main_arg2) = m ((c.tc : Thread Cert.OutpIdeal.nD Cert.OutpIdeal.τ).loc Cert.OutpIdeal.main_arg2)
      ∧ m' ((c.tc : Thread Cert.OutpRefIdeal.nD Cert.OutpRefIdeal.τ).loc Cert.OutpRefIdeal.main_arg3) = m ((c.tc : Thread Cert.OutpIdeal.nD Cert.OutpIdeal.τ).loc Cert.OutpIdeal.main_arg3)
      ∧ m' ((c.tc : Thread Cert.OutpRefIdeal.nD Cert.OutpRefIdeal.τ).loc Cert.OutpRefIdeal.main_arg4) = m ((c.tc : Thread Cert.OutpIdeal.nD Cert.OutpIdeal.τ).loc Cert.OutpIdeal.main_arg4)
      ∧ m' ((c.tc : Thread Cert.OutpRefIdeal.nD Cert.OutpRefIdeal.τ).loc Cert.OutpRefIdeal.main_arg5) = m ((c.tc : Thread Cert.OutpIdeal.nD Cert.OutpIdeal.τ).loc Cert.OutpIdeal.main_arg5)
      ∧ m' ((c.tc : Thread Cert.OutpRefIdeal.nD Cert.OutpRefIdeal.τ).loc Cert.OutpRefIdeal.main_arg6) = m ((c.tc : Thread Cert.OutpIdeal.nD Cert.OutpIdeal.τ).loc Cert.OutpIdeal.main_arg6)
      ∧ m' ((c.tc : Thread Cert.OutpRefIdeal.nD Cert.OutpRefIdeal.τ).loc Cert.OutpRefIdeal.main_arg7) = m ((c.tc : Thread Cert.OutpIdeal.nD Cert.OutpIdeal.τ).loc Cert.OutpIdeal.main_arg7)) →
    ∃ (v0 : (c : Dev Cert.OutpIdeal.nD) → Buf (Elt Ideal) ((c.tc : Thread Cert.OutpIdeal.nD Cert.OutpIdeal.τ).loc Cert.OutpIdeal.main_v7_0)) (v1 : (c : Dev Cert.OutpIdeal.nD) → Buf (Elt Ideal) ((c.tc : Thread Cert.OutpIdeal.nD Cert.OutpIdeal.τ).loc Cert.OutpIdeal.main_v7_1)) (v2 : (c : Dev Cert.OutpIdeal.nD) → Buf (Elt Ideal) ((c.tc : Thread Cert.OutpIdeal.nD Cert.OutpIdeal.τ).loc Cert.OutpIdeal.main_v7_2)),
      θ_run (Cert.OutpIdeal.defs (F := Ideal)) (onTc (τ := Cert.OutpIdeal.τ) (Cert.OutpIdeal.main (F := Ideal))) ⟨m, fun _ => 0, g⟩ (fun r => ∀ c : Dev Cert.OutpIdeal.nD,
          r.2.mem ((c.tc : Thread Cert.OutpIdeal.nD Cert.OutpIdeal.τ).loc Cert.OutpIdeal.main_v7_0) = v0 c
          ∧ r.2.mem ((c.tc : Thread Cert.OutpIdeal.nD Cert.OutpIdeal.τ).loc Cert.OutpIdeal.main_v7_1) = v1 c
          ∧ r.2.mem ((c.tc : Thread Cert.OutpIdeal.nD Cert.OutpIdeal.τ).loc Cert.OutpIdeal.main_v7_2) = v2 c
          ∧ r.2.mem ((c.tc : Thread Cert.OutpIdeal.nD Cert.OutpIdeal.τ).loc Cert.OutpIdeal.main_arg0) = m ((c.tc : Thread Cert.OutpIdeal.nD Cert.OutpIdeal.τ).loc Cert.OutpIdeal.main_arg0)
          ∧ r.2.mem ((c.tc : Thread Cert.OutpIdeal.nD Cert.OutpIdeal.τ).loc Cert.OutpIdeal.main_arg1) = m ((c.tc : Thread Cert.OutpIdeal.nD Cert.OutpIdeal.τ).loc Cert.OutpIdeal.main_arg1)
          ∧ r.2.mem ((c.tc : Thread Cert.OutpIdeal.nD Cert.OutpIdeal.τ).loc Cert.OutpIdeal.main_arg2) = m ((c.tc : Thread Cert.OutpIdeal.nD Cert.OutpIdeal.τ).loc Cert.OutpIdeal.main_arg2)
          ∧ r.2.mem ((c.tc : Thread Cert.OutpIdeal.nD Cert.OutpIdeal.τ).loc Cert.OutpIdeal.main_arg3) = m ((c.tc : Thread Cert.OutpIdeal.nD Cert.OutpIdeal.τ).loc Cert.OutpIdeal.main_arg3)
          ∧ r.2.mem ((c.tc : Thread Cert.OutpIdeal.nD Cert.OutpIdeal.τ).loc Cert.OutpIdeal.main_arg4) = m ((c.tc : Thread Cert.OutpIdeal.nD Cert.OutpIdeal.τ).loc Cert.OutpIdeal.main_arg4)
          ∧ r.2.mem ((c.tc : Thread Cert.OutpIdeal.nD Cert.OutpIdeal.τ).loc Cert.OutpIdeal.main_arg5) = m ((c.tc : Thread Cert.OutpIdeal.nD Cert.OutpIdeal.τ).loc Cert.OutpIdeal.main_arg5)
          ∧ r.2.mem ((c.tc : Thread Cert.OutpIdeal.nD Cert.OutpIdeal.τ).loc Cert.OutpIdeal.main_arg6) = m ((c.tc : Thread Cert.OutpIdeal.nD Cert.OutpIdeal.τ).loc Cert.OutpIdeal.main_arg6)
          ∧ r.2.mem ((c.tc : Thread Cert.OutpIdeal.nD Cert.OutpIdeal.τ).loc Cert.OutpIdeal.main_arg7) = m ((c.tc : Thread Cert.OutpIdeal.nD Cert.OutpIdeal.τ).loc Cert.OutpIdeal.main_arg7))
      ∧ θ_run (Cert.OutpRefIdeal.defs (F := Ideal)) (onTc (τ := Cert.OutpRefIdeal.τ) (Cert.OutpRefIdeal.main (F := Ideal))) ⟨m', fun _ => 0, g'⟩ (fun r => ∀ c : Dev Cert.OutpRefIdeal.nD,
          r.2.mem ((c.tc : Thread Cert.OutpRefIdeal.nD Cert.OutpRefIdeal.τ).loc Cert.OutpRefIdeal.main_v0) = v0 c
          ∧ r.2.mem ((c.tc : Thread Cert.OutpRefIdeal.nD Cert.OutpRefIdeal.τ).loc Cert.OutpRefIdeal.main_v30) = v1 c
          ∧ r.2.mem ((c.tc : Thread Cert.OutpRefIdeal.nD Cert.OutpRefIdeal.τ).loc Cert.OutpRefIdeal.main_v39) = v2 c
          ∧ r.2.mem ((c.tc : Thread Cert.OutpRefIdeal.nD Cert.OutpRefIdeal.τ).loc Cert.OutpRefIdeal.main_arg0) = m' ((c.tc : Thread Cert.OutpRefIdeal.nD Cert.OutpRefIdeal.τ).loc Cert.OutpRefIdeal.main_arg0)
          ∧ r.2.mem ((c.tc : Thread Cert.OutpRefIdeal.nD Cert.OutpRefIdeal.τ).loc Cert.OutpRefIdeal.main_arg1) = m' ((c.tc : Thread Cert.OutpRefIdeal.nD Cert.OutpRefIdeal.τ).loc Cert.OutpRefIdeal.main_arg1)
          ∧ r.2.mem ((c.tc : Thread Cert.OutpRefIdeal.nD Cert.OutpRefIdeal.τ).loc Cert.OutpRefIdeal.main_arg2) = m' ((c.tc : Thread Cert.OutpRefIdeal.nD Cert.OutpRefIdeal.τ).loc Cert.OutpRefIdeal.main_arg2)
          ∧ r.2.mem ((c.tc : Thread Cert.OutpRefIdeal.nD Cert.OutpRefIdeal.τ).loc Cert.OutpRefIdeal.main_arg3) = m' ((c.tc : Thread Cert.OutpRefIdeal.nD Cert.OutpRefIdeal.τ).loc Cert.OutpRefIdeal.main_arg3)
          ∧ r.2.mem ((c.tc : Thread Cert.OutpRefIdeal.nD Cert.OutpRefIdeal.τ).loc Cert.OutpRefIdeal.main_arg4) = m' ((c.tc : Thread Cert.OutpRefIdeal.nD Cert.OutpRefIdeal.τ).loc Cert.OutpRefIdeal.main_arg4)
          ∧ r.2.mem ((c.tc : Thread Cert.OutpRefIdeal.nD Cert.OutpRefIdeal.τ).loc Cert.OutpRefIdeal.main_arg5) = m' ((c.tc : Thread Cert.OutpRefIdeal.nD Cert.OutpRefIdeal.τ).loc Cert.OutpRefIdeal.main_arg5)
          ∧ r.2.mem ((c.tc : Thread Cert.OutpRefIdeal.nD Cert.OutpRefIdeal.τ).loc Cert.OutpRefIdeal.main_arg6) = m' ((c.tc : Thread Cert.OutpRefIdeal.nD Cert.OutpRefIdeal.τ).loc Cert.OutpRefIdeal.main_arg6)
          ∧ r.2.mem ((c.tc : Thread Cert.OutpRefIdeal.nD Cert.OutpRefIdeal.τ).loc Cert.OutpRefIdeal.main_arg7) = m' ((c.tc : Thread Cert.OutpRefIdeal.nD Cert.OutpRefIdeal.τ).loc Cert.OutpRefIdeal.main_arg7))

def preserves_Inp_InpIdeal : Prop :=
  True

def algebraic_InpIdeal_InpRefIdeal [hInpIdeal : Cert.InpIdeal.Facts] [hInpRefIdeal : Cert.InpRefIdeal.Facts] : Prop :=
  ∀ (m : (ℓ : Loc Cert.InpIdeal.nD Cert.InpIdeal.τ Cert.InpIdeal.sig) → Buf (Elt Ideal) ℓ) (g : Dev Cert.InpIdeal.nD → PrngReg)
    (m' : (ℓ : Loc Cert.InpRefIdeal.nD Cert.InpRefIdeal.τ Cert.InpRefIdeal.sig) → Buf (Elt Ideal) ℓ) (g' : Dev Cert.InpRefIdeal.nD → PrngReg), Pre_InpIdeal m →
    (∀ c : Dev Cert.InpIdeal.nD,
      m' ((c.tc : Thread Cert.InpRefIdeal.nD Cert.InpRefIdeal.τ).loc Cert.InpRefIdeal.main_arg0) = m ((c.tc : Thread Cert.InpIdeal.nD Cert.InpIdeal.τ).loc Cert.InpIdeal.main_arg0)
      ∧ m' ((c.tc : Thread Cert.InpRefIdeal.nD Cert.InpRefIdeal.τ).loc Cert.InpRefIdeal.main_arg1) = m ((c.tc : Thread Cert.InpIdeal.nD Cert.InpIdeal.τ).loc Cert.InpIdeal.main_arg1)
      ∧ m' ((c.tc : Thread Cert.InpRefIdeal.nD Cert.InpRefIdeal.τ).loc Cert.InpRefIdeal.main_arg2) = m ((c.tc : Thread Cert.InpIdeal.nD Cert.InpIdeal.τ).loc Cert.InpIdeal.main_arg2)
      ∧ m' ((c.tc : Thread Cert.InpRefIdeal.nD Cert.InpRefIdeal.τ).loc Cert.InpRefIdeal.main_arg3) = m ((c.tc : Thread Cert.InpIdeal.nD Cert.InpIdeal.τ).loc Cert.InpIdeal.main_arg3)
      ∧ m' ((c.tc : Thread Cert.InpRefIdeal.nD Cert.InpRefIdeal.τ).loc Cert.InpRefIdeal.main_arg4) = m ((c.tc : Thread Cert.InpIdeal.nD Cert.InpIdeal.τ).loc Cert.InpIdeal.main_arg4)) →
    ∃ (v0 : (c : Dev Cert.InpIdeal.nD) → Buf (Elt Ideal) ((c.tc : Thread Cert.InpIdeal.nD Cert.InpIdeal.τ).loc Cert.InpIdeal.main_v5_0)) (v1 : (c : Dev Cert.InpIdeal.nD) → Buf (Elt Ideal) ((c.tc : Thread Cert.InpIdeal.nD Cert.InpIdeal.τ).loc Cert.InpIdeal.main_v5_1)),
      θ_run (Cert.InpIdeal.defs (F := Ideal)) (onTc (τ := Cert.InpIdeal.τ) (Cert.InpIdeal.main (F := Ideal))) ⟨m, fun _ => 0, g⟩ (fun r => ∀ c : Dev Cert.InpIdeal.nD,
          r.2.mem ((c.tc : Thread Cert.InpIdeal.nD Cert.InpIdeal.τ).loc Cert.InpIdeal.main_v5_0) = v0 c
          ∧ r.2.mem ((c.tc : Thread Cert.InpIdeal.nD Cert.InpIdeal.τ).loc Cert.InpIdeal.main_v5_1) = v1 c
          ∧ r.2.mem ((c.tc : Thread Cert.InpIdeal.nD Cert.InpIdeal.τ).loc Cert.InpIdeal.main_arg0) = m ((c.tc : Thread Cert.InpIdeal.nD Cert.InpIdeal.τ).loc Cert.InpIdeal.main_arg0)
          ∧ r.2.mem ((c.tc : Thread Cert.InpIdeal.nD Cert.InpIdeal.τ).loc Cert.InpIdeal.main_arg1) = m ((c.tc : Thread Cert.InpIdeal.nD Cert.InpIdeal.τ).loc Cert.InpIdeal.main_arg1)
          ∧ r.2.mem ((c.tc : Thread Cert.InpIdeal.nD Cert.InpIdeal.τ).loc Cert.InpIdeal.main_arg2) = m ((c.tc : Thread Cert.InpIdeal.nD Cert.InpIdeal.τ).loc Cert.InpIdeal.main_arg2)
          ∧ r.2.mem ((c.tc : Thread Cert.InpIdeal.nD Cert.InpIdeal.τ).loc Cert.InpIdeal.main_arg3) = m ((c.tc : Thread Cert.InpIdeal.nD Cert.InpIdeal.τ).loc Cert.InpIdeal.main_arg3)
          ∧ r.2.mem ((c.tc : Thread Cert.InpIdeal.nD Cert.InpIdeal.τ).loc Cert.InpIdeal.main_arg4) = m ((c.tc : Thread Cert.InpIdeal.nD Cert.InpIdeal.τ).loc Cert.InpIdeal.main_arg4))
      ∧ θ_run (Cert.InpRefIdeal.defs (F := Ideal)) (onTc (τ := Cert.InpRefIdeal.τ) (Cert.InpRefIdeal.main (F := Ideal))) ⟨m', fun _ => 0, g'⟩ (fun r => ∀ c : Dev Cert.InpRefIdeal.nD,
          r.2.mem ((c.tc : Thread Cert.InpRefIdeal.nD Cert.InpRefIdeal.τ).loc Cert.InpRefIdeal.main_v11) = v0 c
          ∧ r.2.mem ((c.tc : Thread Cert.InpRefIdeal.nD Cert.InpRefIdeal.τ).loc Cert.InpRefIdeal.main_v12) = v1 c
          ∧ r.2.mem ((c.tc : Thread Cert.InpRefIdeal.nD Cert.InpRefIdeal.τ).loc Cert.InpRefIdeal.main_arg0) = m' ((c.tc : Thread Cert.InpRefIdeal.nD Cert.InpRefIdeal.τ).loc Cert.InpRefIdeal.main_arg0)
          ∧ r.2.mem ((c.tc : Thread Cert.InpRefIdeal.nD Cert.InpRefIdeal.τ).loc Cert.InpRefIdeal.main_arg1) = m' ((c.tc : Thread Cert.InpRefIdeal.nD Cert.InpRefIdeal.τ).loc Cert.InpRefIdeal.main_arg1)
          ∧ r.2.mem ((c.tc : Thread Cert.InpRefIdeal.nD Cert.InpRefIdeal.τ).loc Cert.InpRefIdeal.main_arg2) = m' ((c.tc : Thread Cert.InpRefIdeal.nD Cert.InpRefIdeal.τ).loc Cert.InpRefIdeal.main_arg2)
          ∧ r.2.mem ((c.tc : Thread Cert.InpRefIdeal.nD Cert.InpRefIdeal.τ).loc Cert.InpRefIdeal.main_arg3) = m' ((c.tc : Thread Cert.InpRefIdeal.nD Cert.InpRefIdeal.τ).loc Cert.InpRefIdeal.main_arg3)
          ∧ r.2.mem ((c.tc : Thread Cert.InpRefIdeal.nD Cert.InpRefIdeal.τ).loc Cert.InpRefIdeal.main_arg4) = m' ((c.tc : Thread Cert.InpRefIdeal.nD Cert.InpRefIdeal.τ).loc Cert.InpRefIdeal.main_arg4))

def preserves_Bias_BiasIdeal : Prop :=
  True

def algebraic_BiasIdeal_BiasRefIdeal [hBiasIdeal : Cert.BiasIdeal.Facts] [hBiasRefIdeal : Cert.BiasRefIdeal.Facts] : Prop :=
  ∀ (m : (ℓ : Loc Cert.BiasIdeal.nD Cert.BiasIdeal.τ Cert.BiasIdeal.sig) → Buf (Elt Ideal) ℓ) (g : Dev Cert.BiasIdeal.nD → PrngReg)
    (m' : (ℓ : Loc Cert.BiasRefIdeal.nD Cert.BiasRefIdeal.τ Cert.BiasRefIdeal.sig) → Buf (Elt Ideal) ℓ) (g' : Dev Cert.BiasRefIdeal.nD → PrngReg), Pre_BiasIdeal m →
    (∀ c : Dev Cert.BiasIdeal.nD,
      m' ((c.tc : Thread Cert.BiasRefIdeal.nD Cert.BiasRefIdeal.τ).loc Cert.BiasRefIdeal.main_arg0) = m ((c.tc : Thread Cert.BiasIdeal.nD Cert.BiasIdeal.τ).loc Cert.BiasIdeal.main_arg0)) →
    ∃ (v0 : (c : Dev Cert.BiasIdeal.nD) → Buf (Elt Ideal) ((c.tc : Thread Cert.BiasIdeal.nD Cert.BiasIdeal.τ).loc Cert.BiasIdeal.main_v29)),
      θ_run (Cert.BiasIdeal.defs (F := Ideal)) (onTc (τ := Cert.BiasIdeal.τ) (Cert.BiasIdeal.main (F := Ideal))) ⟨m, fun _ => 0, g⟩ (fun r => ∀ c : Dev Cert.BiasIdeal.nD,
          r.2.mem ((c.tc : Thread Cert.BiasIdeal.nD Cert.BiasIdeal.τ).loc Cert.BiasIdeal.main_v29) = v0 c
          ∧ r.2.mem ((c.tc : Thread Cert.BiasIdeal.nD Cert.BiasIdeal.τ).loc Cert.BiasIdeal.main_arg0) = m ((c.tc : Thread Cert.BiasIdeal.nD Cert.BiasIdeal.τ).loc Cert.BiasIdeal.main_arg0))
      ∧ θ_run (Cert.BiasRefIdeal.defs (F := Ideal)) (onTc (τ := Cert.BiasRefIdeal.τ) (Cert.BiasRefIdeal.main (F := Ideal))) ⟨m', fun _ => 0, g'⟩ (fun r => ∀ c : Dev Cert.BiasRefIdeal.nD,
          r.2.mem ((c.tc : Thread Cert.BiasRefIdeal.nD Cert.BiasRefIdeal.τ).loc Cert.BiasRefIdeal.main_v42) = v0 c
          ∧ r.2.mem ((c.tc : Thread Cert.BiasRefIdeal.nD Cert.BiasRefIdeal.τ).loc Cert.BiasRefIdeal.main_arg0) = m' ((c.tc : Thread Cert.BiasRefIdeal.nD Cert.BiasRefIdeal.τ).loc Cert.BiasRefIdeal.main_arg0))

def preserves_Modu_ModuIdeal : Prop :=
  True

def algebraic_ModuIdeal_ModuRefIdeal [hModuIdeal : Cert.ModuIdeal.Facts] [hModuRefIdeal : Cert.ModuRefIdeal.Facts] : Prop :=
  ∀ (m : (ℓ : Loc Cert.ModuIdeal.nD Cert.ModuIdeal.τ Cert.ModuIdeal.sig) → Buf (Elt Ideal) ℓ) (g : Dev Cert.ModuIdeal.nD → PrngReg)
    (m' : (ℓ : Loc Cert.ModuRefIdeal.nD Cert.ModuRefIdeal.τ Cert.ModuRefIdeal.sig) → Buf (Elt Ideal) ℓ) (g' : Dev Cert.ModuRefIdeal.nD → PrngReg), Pre_ModuIdeal m →
    (∀ c : Dev Cert.ModuIdeal.nD,
      m' ((c.tc : Thread Cert.ModuRefIdeal.nD Cert.ModuRefIdeal.τ).loc Cert.ModuRefIdeal.main_arg0) = m ((c.tc : Thread Cert.ModuIdeal.nD Cert.ModuIdeal.τ).loc Cert.ModuIdeal.main_arg0)
      ∧ m' ((c.tc : Thread Cert.ModuRefIdeal.nD Cert.ModuRefIdeal.τ).loc Cert.ModuRefIdeal.main_arg1) = m ((c.tc : Thread Cert.ModuIdeal.nD Cert.ModuIdeal.τ).loc Cert.ModuIdeal.main_arg1)
      ∧ m' ((c.tc : Thread Cert.ModuRefIdeal.nD Cert.ModuRefIdeal.τ).loc Cert.ModuRefIdeal.main_arg2) = m ((c.tc : Thread Cert.ModuIdeal.nD Cert.ModuIdeal.τ).loc Cert.ModuIdeal.main_arg2)) →
    ∃ (v0 : (c : Dev Cert.ModuIdeal.nD) → Buf (Elt Ideal) ((c.tc : Thread Cert.ModuIdeal.nD Cert.ModuIdeal.τ).loc Cert.ModuIdeal.main_v1)),
      θ_run (Cert.ModuIdeal.defs (F := Ideal)) (onTc (τ := Cert.ModuIdeal.τ) (Cert.ModuIdeal.main (F := Ideal))) ⟨m, fun _ => 0, g⟩ (fun r => ∀ c : Dev Cert.ModuIdeal.nD,
          r.2.mem ((c.tc : Thread Cert.ModuIdeal.nD Cert.ModuIdeal.τ).loc Cert.ModuIdeal.main_v1) = v0 c
          ∧ r.2.mem ((c.tc : Thread Cert.ModuIdeal.nD Cert.ModuIdeal.τ).loc Cert.ModuIdeal.main_arg0) = m ((c.tc : Thread Cert.ModuIdeal.nD Cert.ModuIdeal.τ).loc Cert.ModuIdeal.main_arg0)
          ∧ r.2.mem ((c.tc : Thread Cert.ModuIdeal.nD Cert.ModuIdeal.τ).loc Cert.ModuIdeal.main_arg1) = m ((c.tc : Thread Cert.ModuIdeal.nD Cert.ModuIdeal.τ).loc Cert.ModuIdeal.main_arg1)
          ∧ r.2.mem ((c.tc : Thread Cert.ModuIdeal.nD Cert.ModuIdeal.τ).loc Cert.ModuIdeal.main_arg2) = m ((c.tc : Thread Cert.ModuIdeal.nD Cert.ModuIdeal.τ).loc Cert.ModuIdeal.main_arg2))
      ∧ θ_run (Cert.ModuRefIdeal.defs (F := Ideal)) (onTc (τ := Cert.ModuRefIdeal.τ) (Cert.ModuRefIdeal.main (F := Ideal))) ⟨m', fun _ => 0, g'⟩ (fun r => ∀ c : Dev Cert.ModuRefIdeal.nD,
          r.2.mem ((c.tc : Thread Cert.ModuRefIdeal.nD Cert.ModuRefIdeal.τ).loc Cert.ModuRefIdeal.main_v4) = v0 c
          ∧ r.2.mem ((c.tc : Thread Cert.ModuRefIdeal.nD Cert.ModuRefIdeal.τ).loc Cert.ModuRefIdeal.main_arg0) = m' ((c.tc : Thread Cert.ModuRefIdeal.nD Cert.ModuRefIdeal.τ).loc Cert.ModuRefIdeal.main_arg0)
          ∧ r.2.mem ((c.tc : Thread Cert.ModuRefIdeal.nD Cert.ModuRefIdeal.τ).loc Cert.ModuRefIdeal.main_arg1) = m' ((c.tc : Thread Cert.ModuRefIdeal.nD Cert.ModuRefIdeal.τ).loc Cert.ModuRefIdeal.main_arg1)
          ∧ r.2.mem ((c.tc : Thread Cert.ModuRefIdeal.nD Cert.ModuRefIdeal.τ).loc Cert.ModuRefIdeal.main_arg2) = m' ((c.tc : Thread Cert.ModuRefIdeal.nD Cert.ModuRefIdeal.τ).loc Cert.ModuRefIdeal.main_arg2))

def preserves_Ada_AdaIdeal : Prop :=
  True

def algebraic_AdaIdeal_AdaRefIdeal [hAdaIdeal : Cert.AdaIdeal.Facts] [hAdaRefIdeal : Cert.AdaRefIdeal.Facts] : Prop :=
  ∀ (m : (ℓ : Loc Cert.AdaIdeal.nD Cert.AdaIdeal.τ Cert.AdaIdeal.sig) → Buf (Elt Ideal) ℓ) (g : Dev Cert.AdaIdeal.nD → PrngReg)
    (m' : (ℓ : Loc Cert.AdaRefIdeal.nD Cert.AdaRefIdeal.τ Cert.AdaRefIdeal.sig) → Buf (Elt Ideal) ℓ) (g' : Dev Cert.AdaRefIdeal.nD → PrngReg), Pre_AdaIdeal m →
    (∀ c : Dev Cert.AdaIdeal.nD,
      m' ((c.tc : Thread Cert.AdaRefIdeal.nD Cert.AdaRefIdeal.τ).loc Cert.AdaRefIdeal.main_arg0) = m ((c.tc : Thread Cert.AdaIdeal.nD Cert.AdaIdeal.τ).loc Cert.AdaIdeal.main_arg0)
      ∧ m' ((c.tc : Thread Cert.AdaRefIdeal.nD Cert.AdaRefIdeal.τ).loc Cert.AdaRefIdeal.main_arg1) = m ((c.tc : Thread Cert.AdaIdeal.nD Cert.AdaIdeal.τ).loc Cert.AdaIdeal.main_arg1)
      ∧ m' ((c.tc : Thread Cert.AdaRefIdeal.nD Cert.AdaRefIdeal.τ).loc Cert.AdaRefIdeal.main_arg2) = m ((c.tc : Thread Cert.AdaIdeal.nD Cert.AdaIdeal.τ).loc Cert.AdaIdeal.main_arg2)
      ∧ m' ((c.tc : Thread Cert.AdaRefIdeal.nD Cert.AdaRefIdeal.τ).loc Cert.AdaRefIdeal.main_arg3) = m ((c.tc : Thread Cert.AdaIdeal.nD Cert.AdaIdeal.τ).loc Cert.AdaIdeal.main_arg3)
      ∧ m' ((c.tc : Thread Cert.AdaRefIdeal.nD Cert.AdaRefIdeal.τ).loc Cert.AdaRefIdeal.main_arg4) = m ((c.tc : Thread Cert.AdaIdeal.nD Cert.AdaIdeal.τ).loc Cert.AdaIdeal.main_arg4)) →
    ∃ (v0 : (c : Dev Cert.AdaIdeal.nD) → Buf (Elt Ideal) ((c.tc : Thread Cert.AdaIdeal.nD Cert.AdaIdeal.τ).loc Cert.AdaIdeal.main_v3_0)) (v1 : (c : Dev Cert.AdaIdeal.nD) → Buf (Elt Ideal) ((c.tc : Thread Cert.AdaIdeal.nD Cert.AdaIdeal.τ).loc Cert.AdaIdeal.main_v3_1)) (v2 : (c : Dev Cert.AdaIdeal.nD) → Buf (Elt Ideal) ((c.tc : Thread Cert.AdaIdeal.nD Cert.AdaIdeal.τ).loc Cert.AdaIdeal.main_v3_2)) (v3 : (c : Dev Cert.AdaIdeal.nD) → Buf (Elt Ideal) ((c.tc : Thread Cert.AdaIdeal.nD Cert.AdaIdeal.τ).loc Cert.AdaIdeal.main_v3_3)),
      θ_run (Cert.AdaIdeal.defs (F := Ideal)) (onTc (τ := Cert.AdaIdeal.τ) (Cert.AdaIdeal.main (F := Ideal))) ⟨m, fun _ => 0, g⟩ (fun r => ∀ c : Dev Cert.AdaIdeal.nD,
          r.2.mem ((c.tc : Thread Cert.AdaIdeal.nD Cert.AdaIdeal.τ).loc Cert.AdaIdeal.main_v3_0) = v0 c
          ∧ r.2.mem ((c.tc : Thread Cert.AdaIdeal.nD Cert.AdaIdeal.τ).loc Cert.AdaIdeal.main_v3_1) = v1 c
          ∧ r.2.mem ((c.tc : Thread Cert.AdaIdeal.nD Cert.AdaIdeal.τ).loc Cert.AdaIdeal.main_v3_2) = v2 c
          ∧ r.2.mem ((c.tc : Thread Cert.AdaIdeal.nD Cert.AdaIdeal.τ).loc Cert.AdaIdeal.main_v3_3) = v3 c
          ∧ r.2.mem ((c.tc : Thread Cert.AdaIdeal.nD Cert.AdaIdeal.τ).loc Cert.AdaIdeal.main_arg0) = m ((c.tc : Thread Cert.AdaIdeal.nD Cert.AdaIdeal.τ).loc Cert.AdaIdeal.main_arg0)
          ∧ r.2.mem ((c.tc : Thread Cert.AdaIdeal.nD Cert.AdaIdeal.τ).loc Cert.AdaIdeal.main_arg1) = m ((c.tc : Thread Cert.AdaIdeal.nD Cert.AdaIdeal.τ).loc Cert.AdaIdeal.main_arg1)
          ∧ r.2.mem ((c.tc : Thread Cert.AdaIdeal.nD Cert.AdaIdeal.τ).loc Cert.AdaIdeal.main_arg2) = m ((c.tc : Thread Cert.AdaIdeal.nD Cert.AdaIdeal.τ).loc Cert.AdaIdeal.main_arg2)
          ∧ r.2.mem ((c.tc : Thread Cert.AdaIdeal.nD Cert.AdaIdeal.τ).loc Cert.AdaIdeal.main_arg3) = m ((c.tc : Thread Cert.AdaIdeal.nD Cert.AdaIdeal.τ).loc Cert.AdaIdeal.main_arg3)
          ∧ r.2.mem ((c.tc : Thread Cert.AdaIdeal.nD Cert.AdaIdeal.τ).loc Cert.AdaIdeal.main_arg4) = m ((c.tc : Thread Cert.AdaIdeal.nD Cert.AdaIdeal.τ).loc Cert.AdaIdeal.main_arg4))
      ∧ θ_run (Cert.AdaRefIdeal.defs (F := Ideal)) (onTc (τ := Cert.AdaRefIdeal.τ) (Cert.AdaRefIdeal.main (F := Ideal))) ⟨m', fun _ => 0, g'⟩ (fun r => ∀ c : Dev Cert.AdaRefIdeal.nD,
          r.2.mem ((c.tc : Thread Cert.AdaRefIdeal.nD Cert.AdaRefIdeal.τ).loc Cert.AdaRefIdeal.main_v3) = v0 c
          ∧ r.2.mem ((c.tc : Thread Cert.AdaRefIdeal.nD Cert.AdaRefIdeal.τ).loc Cert.AdaRefIdeal.main_v27) = v1 c
          ∧ r.2.mem ((c.tc : Thread Cert.AdaRefIdeal.nD Cert.AdaRefIdeal.τ).loc Cert.AdaRefIdeal.main_v8) = v2 c
          ∧ r.2.mem ((c.tc : Thread Cert.AdaRefIdeal.nD Cert.AdaRefIdeal.τ).loc Cert.AdaRefIdeal.main_v14) = v3 c
          ∧ r.2.mem ((c.tc : Thread Cert.AdaRefIdeal.nD Cert.AdaRefIdeal.τ).loc Cert.AdaRefIdeal.main_arg0) = m' ((c.tc : Thread Cert.AdaRefIdeal.nD Cert.AdaRefIdeal.τ).loc Cert.AdaRefIdeal.main_arg0)
          ∧ r.2.mem ((c.tc : Thread Cert.AdaRefIdeal.nD Cert.AdaRefIdeal.τ).loc Cert.AdaRefIdeal.main_arg1) = m' ((c.tc : Thread Cert.AdaRefIdeal.nD Cert.AdaRefIdeal.τ).loc Cert.AdaRefIdeal.main_arg1)
          ∧ r.2.mem ((c.tc : Thread Cert.AdaRefIdeal.nD Cert.AdaRefIdeal.τ).loc Cert.AdaRefIdeal.main_arg2) = m' ((c.tc : Thread Cert.AdaRefIdeal.nD Cert.AdaRefIdeal.τ).loc Cert.AdaRefIdeal.main_arg2)
          ∧ r.2.mem ((c.tc : Thread Cert.AdaRefIdeal.nD Cert.AdaRefIdeal.τ).loc Cert.AdaRefIdeal.main_arg3) = m' ((c.tc : Thread Cert.AdaRefIdeal.nD Cert.AdaRefIdeal.τ).loc Cert.AdaRefIdeal.main_arg3)
          ∧ r.2.mem ((c.tc : Thread Cert.AdaRefIdeal.nD Cert.AdaRefIdeal.τ).loc Cert.AdaRefIdeal.main_arg4) = m' ((c.tc : Thread Cert.AdaRefIdeal.nD Cert.AdaRefIdeal.τ).loc Cert.AdaRefIdeal.main_arg4))

def preserves_Wgrad_WgradIdeal : Prop :=
  True

def algebraic_WgradIdeal_WgradRefIdeal [hWgradIdeal : Cert.WgradIdeal.Facts] [hWgradRefIdeal : Cert.WgradRefIdeal.Facts] : Prop :=
  ∀ (m : (ℓ : Loc Cert.WgradIdeal.nD Cert.WgradIdeal.τ Cert.WgradIdeal.sig) → Buf (Elt Ideal) ℓ) (g : Dev Cert.WgradIdeal.nD → PrngReg)
    (m' : (ℓ : Loc Cert.WgradRefIdeal.nD Cert.WgradRefIdeal.τ Cert.WgradRefIdeal.sig) → Buf (Elt Ideal) ℓ) (g' : Dev Cert.WgradRefIdeal.nD → PrngReg), Pre_WgradIdeal m →
    (∀ c : Dev Cert.WgradIdeal.nD,
      m' ((c.tc : Thread Cert.WgradRefIdeal.nD Cert.WgradRefIdeal.τ).loc Cert.WgradRefIdeal.main_arg0) = m ((c.tc : Thread Cert.WgradIdeal.nD Cert.WgradIdeal.τ).loc Cert.WgradIdeal.main_arg0)
      ∧ m' ((c.tc : Thread Cert.WgradRefIdeal.nD Cert.WgradRefIdeal.τ).loc Cert.WgradRefIdeal.main_arg1) = m ((c.tc : Thread Cert.WgradIdeal.nD Cert.WgradIdeal.τ).loc Cert.WgradIdeal.main_arg1)
      ∧ m' ((c.tc : Thread Cert.WgradRefIdeal.nD Cert.WgradRefIdeal.τ).loc Cert.WgradRefIdeal.main_arg2) = m ((c.tc : Thread Cert.WgradIdeal.nD Cert.WgradIdeal.τ).loc Cert.WgradIdeal.main_arg2)) →
    ∃ (v0 : (c : Dev Cert.WgradIdeal.nD) → Buf (Elt Ideal) ((c.tc : Thread Cert.WgradIdeal.nD Cert.WgradIdeal.τ).loc Cert.WgradIdeal.main_v3)),
      θ_run (Cert.WgradIdeal.defs (F := Ideal)) (onTc (τ := Cert.WgradIdeal.τ) (Cert.WgradIdeal.main (F := Ideal))) ⟨m, fun _ => 0, g⟩ (fun r => ∀ c : Dev Cert.WgradIdeal.nD,
          r.2.mem ((c.tc : Thread Cert.WgradIdeal.nD Cert.WgradIdeal.τ).loc Cert.WgradIdeal.main_v3) = v0 c
          ∧ r.2.mem ((c.tc : Thread Cert.WgradIdeal.nD Cert.WgradIdeal.τ).loc Cert.WgradIdeal.main_arg0) = m ((c.tc : Thread Cert.WgradIdeal.nD Cert.WgradIdeal.τ).loc Cert.WgradIdeal.main_arg0)
          ∧ r.2.mem ((c.tc : Thread Cert.WgradIdeal.nD Cert.WgradIdeal.τ).loc Cert.WgradIdeal.main_arg1) = m ((c.tc : Thread Cert.WgradIdeal.nD Cert.WgradIdeal.τ).loc Cert.WgradIdeal.main_arg1)
          ∧ r.2.mem ((c.tc : Thread Cert.WgradIdeal.nD Cert.WgradIdeal.τ).loc Cert.WgradIdeal.main_arg2) = m ((c.tc : Thread Cert.WgradIdeal.nD Cert.WgradIdeal.τ).loc Cert.WgradIdeal.main_arg2))
      ∧ θ_run (Cert.WgradRefIdeal.defs (F := Ideal)) (onTc (τ := Cert.WgradRefIdeal.τ) (Cert.WgradRefIdeal.main (F := Ideal))) ⟨m', fun _ => 0, g'⟩ (fun r => ∀ c : Dev Cert.WgradRefIdeal.nD,
          r.2.mem ((c.tc : Thread Cert.WgradRefIdeal.nD Cert.WgradRefIdeal.τ).loc Cert.WgradRefIdeal.main_v6) = v0 c
          ∧ r.2.mem ((c.tc : Thread Cert.WgradRefIdeal.nD Cert.WgradRefIdeal.τ).loc Cert.WgradRefIdeal.main_arg0) = m' ((c.tc : Thread Cert.WgradRefIdeal.nD Cert.WgradRefIdeal.τ).loc Cert.WgradRefIdeal.main_arg0)
          ∧ r.2.mem ((c.tc : Thread Cert.WgradRefIdeal.nD Cert.WgradRefIdeal.τ).loc Cert.WgradRefIdeal.main_arg1) = m' ((c.tc : Thread Cert.WgradRefIdeal.nD Cert.WgradRefIdeal.τ).loc Cert.WgradRefIdeal.main_arg1)
          ∧ r.2.mem ((c.tc : Thread Cert.WgradRefIdeal.nD Cert.WgradRefIdeal.τ).loc Cert.WgradRefIdeal.main_arg2) = m' ((c.tc : Thread Cert.WgradRefIdeal.nD Cert.WgradRefIdeal.τ).loc Cert.WgradRefIdeal.main_arg2))

def preserves_Down_DownIdeal : Prop :=
  True

def algebraic_DownIdeal_DownRefIdeal [hDownIdeal : Cert.DownIdeal.Facts] [hDownRefIdeal : Cert.DownRefIdeal.Facts] : Prop :=
  ∀ (m : (ℓ : Loc Cert.DownIdeal.nD Cert.DownIdeal.τ Cert.DownIdeal.sig) → Buf (Elt Ideal) ℓ) (g : Dev Cert.DownIdeal.nD → PrngReg)
    (m' : (ℓ : Loc Cert.DownRefIdeal.nD Cert.DownRefIdeal.τ Cert.DownRefIdeal.sig) → Buf (Elt Ideal) ℓ) (g' : Dev Cert.DownRefIdeal.nD → PrngReg), Pre_DownIdeal m →
    (∀ c : Dev Cert.DownIdeal.nD,
      m' ((c.tc : Thread Cert.DownRefIdeal.nD Cert.DownRefIdeal.τ).loc Cert.DownRefIdeal.main_arg0) = m ((c.tc : Thread Cert.DownIdeal.nD Cert.DownIdeal.τ).loc Cert.DownIdeal.main_arg0)
      ∧ m' ((c.tc : Thread Cert.DownRefIdeal.nD Cert.DownRefIdeal.τ).loc Cert.DownRefIdeal.main_arg1) = m ((c.tc : Thread Cert.DownIdeal.nD Cert.DownIdeal.τ).loc Cert.DownIdeal.main_arg1)
      ∧ m' ((c.tc : Thread Cert.DownRefIdeal.nD Cert.DownRefIdeal.τ).loc Cert.DownRefIdeal.main_arg2) = m ((c.tc : Thread Cert.DownIdeal.nD Cert.DownIdeal.τ).loc Cert.DownIdeal.main_arg2)
      ∧ m' ((c.tc : Thread Cert.DownRefIdeal.nD Cert.DownRefIdeal.τ).loc Cert.DownRefIdeal.main_arg3) = m ((c.tc : Thread Cert.DownIdeal.nD Cert.DownIdeal.τ).loc Cert.DownIdeal.main_arg3)) →
    ∃ (v0 : (c : Dev Cert.DownIdeal.nD) → Buf (Elt Ideal) ((c.tc : Thread Cert.DownIdeal.nD Cert.DownIdeal.τ).loc Cert.DownIdeal.main_v1_0)) (v1 : (c : Dev Cert.DownIdeal.nD) → Buf (Elt Ideal) ((c.tc : Thread Cert.DownIdeal.nD Cert.DownIdeal.τ).loc Cert.DownIdeal.main_v1_1)) (v2 : (c : Dev Cert.DownIdeal.nD) → Buf (Elt Ideal) ((c.tc : Thread Cert.DownIdeal.nD Cert.DownIdeal.τ).loc Cert.DownIdeal.main_v1_2)) (v3 : (c : Dev Cert.DownIdeal.nD) → Buf (Elt Ideal) ((c.tc : Thread Cert.DownIdeal.nD Cert.DownIdeal.τ).loc Cert.DownIdeal.main_v1_3)),
      θ_run (Cert.DownIdeal.defs (F := Ideal)) (onTc (τ := Cert.DownIdeal.τ) (Cert.DownIdeal.main (F := Ideal))) ⟨m, fun _ => 0, g⟩ (fun r => ∀ c : Dev Cert.DownIdeal.nD,
          r.2.mem ((c.tc : Thread Cert.DownIdeal.nD Cert.DownIdeal.τ).loc Cert.DownIdeal.main_v1_0) = v0 c
          ∧ r.2.mem ((c.tc : Thread Cert.DownIdeal.nD Cert.DownIdeal.τ).loc Cert.DownIdeal.main_v1_1) = v1 c
          ∧ r.2.mem ((c.tc : Thread Cert.DownIdeal.nD Cert.DownIdeal.τ).loc Cert.DownIdeal.main_v1_2) = v2 c
          ∧ r.2.mem ((c.tc : Thread Cert.DownIdeal.nD Cert.DownIdeal.τ).loc Cert.DownIdeal.main_v1_3) = v3 c
          ∧ r.2.mem ((c.tc : Thread Cert.DownIdeal.nD Cert.DownIdeal.τ).loc Cert.DownIdeal.main_arg0) = m ((c.tc : Thread Cert.DownIdeal.nD Cert.DownIdeal.τ).loc Cert.DownIdeal.main_arg0)
          ∧ r.2.mem ((c.tc : Thread Cert.DownIdeal.nD Cert.DownIdeal.τ).loc Cert.DownIdeal.main_arg1) = m ((c.tc : Thread Cert.DownIdeal.nD Cert.DownIdeal.τ).loc Cert.DownIdeal.main_arg1)
          ∧ r.2.mem ((c.tc : Thread Cert.DownIdeal.nD Cert.DownIdeal.τ).loc Cert.DownIdeal.main_arg2) = m ((c.tc : Thread Cert.DownIdeal.nD Cert.DownIdeal.τ).loc Cert.DownIdeal.main_arg2)
          ∧ r.2.mem ((c.tc : Thread Cert.DownIdeal.nD Cert.DownIdeal.τ).loc Cert.DownIdeal.main_arg3) = m ((c.tc : Thread Cert.DownIdeal.nD Cert.DownIdeal.τ).loc Cert.DownIdeal.main_arg3))
      ∧ θ_run (Cert.DownRefIdeal.defs (F := Ideal)) (onTc (τ := Cert.DownRefIdeal.τ) (Cert.DownRefIdeal.main (F := Ideal))) ⟨m', fun _ => 0, g'⟩ (fun r => ∀ c : Dev Cert.DownRefIdeal.nD,
          r.2.mem ((c.tc : Thread Cert.DownRefIdeal.nD Cert.DownRefIdeal.τ).loc Cert.DownRefIdeal.main_v0) = v0 c
          ∧ r.2.mem ((c.tc : Thread Cert.DownRefIdeal.nD Cert.DownRefIdeal.τ).loc Cert.DownRefIdeal.main_v24) = v1 c
          ∧ r.2.mem ((c.tc : Thread Cert.DownRefIdeal.nD Cert.DownRefIdeal.τ).loc Cert.DownRefIdeal.main_v5) = v2 c
          ∧ r.2.mem ((c.tc : Thread Cert.DownRefIdeal.nD Cert.DownRefIdeal.τ).loc Cert.DownRefIdeal.main_v11) = v3 c
          ∧ r.2.mem ((c.tc : Thread Cert.DownRefIdeal.nD Cert.DownRefIdeal.τ).loc Cert.DownRefIdeal.main_arg0) = m' ((c.tc : Thread Cert.DownRefIdeal.nD Cert.DownRefIdeal.τ).loc Cert.DownRefIdeal.main_arg0)
          ∧ r.2.mem ((c.tc : Thread Cert.DownRefIdeal.nD Cert.DownRefIdeal.τ).loc Cert.DownRefIdeal.main_arg1) = m' ((c.tc : Thread Cert.DownRefIdeal.nD Cert.DownRefIdeal.τ).loc Cert.DownRefIdeal.main_arg1)
          ∧ r.2.mem ((c.tc : Thread Cert.DownRefIdeal.nD Cert.DownRefIdeal.τ).loc Cert.DownRefIdeal.main_arg2) = m' ((c.tc : Thread Cert.DownRefIdeal.nD Cert.DownRefIdeal.τ).loc Cert.DownRefIdeal.main_arg2)
          ∧ r.2.mem ((c.tc : Thread Cert.DownRefIdeal.nD Cert.DownRefIdeal.τ).loc Cert.DownRefIdeal.main_arg3) = m' ((c.tc : Thread Cert.DownRefIdeal.nD Cert.DownRefIdeal.τ).loc Cert.DownRefIdeal.main_arg3))

def Claim : Prop :=
  ∃ (hDin : Cert.Din.Facts) (hDinIdeal : Cert.DinIdeal.Facts) (hDinRefIdeal : Cert.DinRefIdeal.Facts) (hFfn : Cert.Ffn.Facts) (hFfnIdeal : Cert.FfnIdeal.Facts) (hFfnRefIdeal : Cert.FfnRefIdeal.Facts) (hTable : Cert.Table.Facts) (hTableIdeal : Cert.TableIdeal.Facts) (hTableRefIdeal : Cert.TableRefIdeal.Facts) (hBack : Cert.Back.Facts) (hBackIdeal : Cert.BackIdeal.Facts) (hBackRefIdeal : Cert.BackRefIdeal.Facts) (hMixFwd : Cert.MixFwd.Facts) (hMixFwdIdeal : Cert.MixFwdIdeal.Facts) (hMixFwdRefIdeal : Cert.MixFwdRefIdeal.Facts) (hOutp : Cert.Outp.Facts) (hOutpIdeal : Cert.OutpIdeal.Facts) (hOutpRefIdeal : Cert.OutpRefIdeal.Facts) (hInp : Cert.Inp.Facts) (hInpIdeal : Cert.InpIdeal.Facts) (hInpRefIdeal : Cert.InpRefIdeal.Facts) (hBias : Cert.Bias.Facts) (hBiasIdeal : Cert.BiasIdeal.Facts) (hBiasRefIdeal : Cert.BiasRefIdeal.Facts) (hModu : Cert.Modu.Facts) (hModuIdeal : Cert.ModuIdeal.Facts) (hModuRefIdeal : Cert.ModuRefIdeal.Facts) (hAda : Cert.Ada.Facts) (hAdaIdeal : Cert.AdaIdeal.Facts) (hAdaRefIdeal : Cert.AdaRefIdeal.Facts) (hWgrad : Cert.Wgrad.Facts) (hWgradIdeal : Cert.WgradIdeal.Facts) (hWgradRefIdeal : Cert.WgradRefIdeal.Facts) (hDown : Cert.Down.Facts) (hDownIdeal : Cert.DownIdeal.Facts) (hDownRefIdeal : Cert.DownRefIdeal.Facts) (hPre_ffn_finite : Cert.Pre_ffn_finite.Facts) (hPre_back_finite : Cert.Pre_back_finite.Facts) (hPre_mix_finite : Cert.Pre_mix_finite.Facts),
    quiescent_Din (hDin := hDin)
    ∧ quiescent_DinIdeal (hDinIdeal := hDinIdeal)
    ∧ quiescent_DinRefIdeal (hDinRefIdeal := hDinRefIdeal)
    ∧ quiescent_Ffn (hFfn := hFfn)
    ∧ quiescent_FfnIdeal (hFfnIdeal := hFfnIdeal)
    ∧ quiescent_FfnIdeal_pre_ffn_finite (hFfnIdeal := hFfnIdeal) (hPre_ffn_finite := hPre_ffn_finite)
    ∧ quiescent_FfnRefIdeal (hFfnRefIdeal := hFfnRefIdeal)
    ∧ quiescent_FfnRefIdeal_pre_ffn_finite (hFfnRefIdeal := hFfnRefIdeal) (hPre_ffn_finite := hPre_ffn_finite)
    ∧ quiescent_Table (hTable := hTable)
    ∧ quiescent_TableIdeal (hTableIdeal := hTableIdeal)
    ∧ quiescent_TableRefIdeal (hTableRefIdeal := hTableRefIdeal)
    ∧ quiescent_Back (hBack := hBack)
    ∧ quiescent_BackIdeal (hBackIdeal := hBackIdeal)
    ∧ quiescent_BackIdeal_pre_back_finite (hBackIdeal := hBackIdeal) (hPre_back_finite := hPre_back_finite)
    ∧ quiescent_BackRefIdeal (hBackRefIdeal := hBackRefIdeal)
    ∧ quiescent_BackRefIdeal_pre_back_finite (hBackRefIdeal := hBackRefIdeal) (hPre_back_finite := hPre_back_finite)
    ∧ quiescent_MixFwd (hMixFwd := hMixFwd)
    ∧ quiescent_MixFwdIdeal (hMixFwdIdeal := hMixFwdIdeal)
    ∧ quiescent_MixFwdIdeal_pre_mix_finite (hMixFwdIdeal := hMixFwdIdeal) (hPre_mix_finite := hPre_mix_finite)
    ∧ quiescent_MixFwdRefIdeal (hMixFwdRefIdeal := hMixFwdRefIdeal)
    ∧ quiescent_MixFwdRefIdeal_pre_mix_finite (hMixFwdRefIdeal := hMixFwdRefIdeal) (hPre_mix_finite := hPre_mix_finite)
    ∧ quiescent_Outp (hOutp := hOutp)
    ∧ quiescent_OutpIdeal (hOutpIdeal := hOutpIdeal)
    ∧ quiescent_OutpRefIdeal (hOutpRefIdeal := hOutpRefIdeal)
    ∧ quiescent_Inp (hInp := hInp)
    ∧ quiescent_InpIdeal (hInpIdeal := hInpIdeal)
    ∧ quiescent_InpRefIdeal (hInpRefIdeal := hInpRefIdeal)
    ∧ quiescent_Bias (hBias := hBias)
    ∧ quiescent_BiasIdeal (hBiasIdeal := hBiasIdeal)
    ∧ quiescent_BiasRefIdeal (hBiasRefIdeal := hBiasRefIdeal)
    ∧ quiescent_Modu (hModu := hModu)
    ∧ quiescent_ModuIdeal (hModuIdeal := hModuIdeal)
    ∧ quiescent_ModuRefIdeal (hModuRefIdeal := hModuRefIdeal)
    ∧ quiescent_Ada (hAda := hAda)
    ∧ quiescent_AdaIdeal (hAdaIdeal := hAdaIdeal)
    ∧ quiescent_AdaRefIdeal (hAdaRefIdeal := hAdaRefIdeal)
    ∧ quiescent_Wgrad (hWgrad := hWgrad)
    ∧ quiescent_WgradIdeal (hWgradIdeal := hWgradIdeal)
    ∧ quiescent_WgradRefIdeal (hWgradRefIdeal := hWgradRefIdeal)
    ∧ quiescent_Down (hDown := hDown)
    ∧ quiescent_DownIdeal (hDownIdeal := hDownIdeal)
    ∧ quiescent_DownRefIdeal (hDownRefIdeal := hDownRefIdeal)
    ∧ preserves_Din_DinIdeal
    ∧ algebraic_DinIdeal_DinRefIdeal (hDinIdeal := hDinIdeal) (hDinRefIdeal := hDinRefIdeal)
    ∧ preserves_Ffn_FfnIdeal
    ∧ algebraic_FfnIdeal_FfnRefIdeal_pre_ffn_finite (hFfnIdeal := hFfnIdeal) (hFfnRefIdeal := hFfnRefIdeal) (hPre_ffn_finite := hPre_ffn_finite)
    ∧ preserves_Table_TableIdeal
    ∧ algebraic_TableIdeal_TableRefIdeal (hTableIdeal := hTableIdeal) (hTableRefIdeal := hTableRefIdeal)
    ∧ preserves_Back_BackIdeal
    ∧ algebraic_BackIdeal_BackRefIdeal_pre_back_finite (hBackIdeal := hBackIdeal) (hBackRefIdeal := hBackRefIdeal) (hPre_back_finite := hPre_back_finite)
    ∧ preserves_MixFwd_MixFwdIdeal
    ∧ algebraic_MixFwdIdeal_MixFwdRefIdeal_pre_mix_finite (hMixFwdIdeal := hMixFwdIdeal) (hMixFwdRefIdeal := hMixFwdRefIdeal) (hPre_mix_finite := hPre_mix_finite)
    ∧ preserves_Outp_OutpIdeal
    ∧ algebraic_OutpIdeal_OutpRefIdeal (hOutpIdeal := hOutpIdeal) (hOutpRefIdeal := hOutpRefIdeal)
    ∧ preserves_Inp_InpIdeal
    ∧ algebraic_InpIdeal_InpRefIdeal (hInpIdeal := hInpIdeal) (hInpRefIdeal := hInpRefIdeal)
    ∧ preserves_Bias_BiasIdeal
    ∧ algebraic_BiasIdeal_BiasRefIdeal (hBiasIdeal := hBiasIdeal) (hBiasRefIdeal := hBiasRefIdeal)
    ∧ preserves_Modu_ModuIdeal
    ∧ algebraic_ModuIdeal_ModuRefIdeal (hModuIdeal := hModuIdeal) (hModuRefIdeal := hModuRefIdeal)
    ∧ preserves_Ada_AdaIdeal
    ∧ algebraic_AdaIdeal_AdaRefIdeal (hAdaIdeal := hAdaIdeal) (hAdaRefIdeal := hAdaRefIdeal)
    ∧ preserves_Wgrad_WgradIdeal
    ∧ algebraic_WgradIdeal_WgradRefIdeal (hWgradIdeal := hWgradIdeal) (hWgradRefIdeal := hWgradRefIdeal)
    ∧ preserves_Down_DownIdeal
    ∧ algebraic_DownIdeal_DownRefIdeal (hDownIdeal := hDownIdeal) (hDownRefIdeal := hDownRefIdeal)
-- ==== Pre_back_finite.lean ====
abbrev S8192x1024 : Shape := ⟨2, ![8192, 1024]⟩
abbrev S1024x5632 : Shape := ⟨2, ![1024, 5632]⟩
abbrev S2816x1024 : Shape := ⟨2, ![2816, 1024]⟩
abbrev S1024 : Shape := ⟨1, ![1024]⟩
abbrev S_ : Shape := ⟨0, ![]⟩

class Facts : Prop where
  bcast_S_S8192x1024 : S_.BroadcastsInDim S8192x1024 (![] : Fin 0 → Fin S8192x1024.rank)
  bcast_S_S1024x5632 : S_.BroadcastsInDim S1024x5632 (![] : Fin 0 → Fin S1024x5632.rank)
  bcast_S_S2816x1024 : S_.BroadcastsInDim S2816x1024 (![] : Fin 0 → Fin S2816x1024.rank)
  bcast_S_S1024 : S_.BroadcastsInDim S1024 (![] : Fin 0 → Fin S1024.rank)

variable [Facts]

def fn_part1 {F : FTy → Type} [FloatOps F] (main_arg6 : FVec F S1024 .f32) (main_arg7 : FVec F S1024 .f32) (main_arg8 : FVec F S1024 .f32) (main_arg9 : FVec F S8192x1024 .f32) (main_arg10 : FVec F S8192x1024 .f32) (main_v2 : IVec S8192x1024 1) (main_v5 : IVec S8192x1024 1) (main_v8 : IVec S1024x5632 1) (main_v11 : IVec S2816x1024 1) (main_v14 : IVec S1024 1) (main_v17 : IVec S1024 1) : IVec S8192x1024 1 × IVec S8192x1024 1 × IVec S1024x5632 1 × IVec S2816x1024 1 × IVec S1024 1 × IVec S1024 1 × IVec S1024 1 × IVec S1024 1 × IVec S1024 1 × IVec S8192x1024 1 × IVec S8192x1024 1 :=
  let main_v18 : FVec F S1024 .f32 := Host.absf main_arg6
  let main_cst_5 : FVec F S_ .f32 := constant S_ .f32 0x7F800000#32
  let main_v19 : FVec F S1024 .f32 := broadcastInDim S1024 ![] bcast_S_S1024 main_cst_5
  let main_v20 : IVec S1024 1 := cmpf .olt main_v18 main_v19
  let main_v21 : FVec F S1024 .f32 := Host.absf main_arg7
  let main_cst_6 : FVec F S_ .f32 := constant S_ .f32 0x7F800000#32
  let main_v22 : FVec F S1024 .f32 := broadcastInDim S1024 ![] bcast_S_S1024 main_cst_6
  let main_v23 : IVec S1024 1 := cmpf .olt main_v21 main_v22
  let main_v24 : FVec F S1024 .f32 := Host.absf main_arg8
  let main_cst_7 : FVec F S_ .f32 := constant S_ .f32 0x7F800000#32
  let main_v25 : FVec F S1024 .f32 := broadcastInDim S1024 ![] bcast_S_S1024 main_cst_7
  let main_v26 : IVec S1024 1 := cmpf .olt main_v24 main_v25
  let main_v27 : FVec F S8192x1024 .f32 := Host.absf main_arg9
  let main_cst_8 : FVec F S_ .f32 := constant S_ .f32 0x7F800000#32
  let main_v28 : FVec F S8192x1024 .f32 := broadcastInDim S8192x1024 ![] bcast_S_S8192x1024 main_cst_8
  let main_v29 : IVec S8192x1024 1 := cmpf .olt main_v27 main_v28
  let main_v30 : FVec F S8192x1024 .f32 := Host.absf main_arg10
  let main_cst_9 : FVec F S_ .f32 := constant S_ .f32 0x7F800000#32
  let main_v31 : FVec F S8192x1024 .f32 := broadcastInDim S8192x1024 ![] bcast_S_S8192x1024 main_cst_9
  let main_v32 : IVec S8192x1024 1 := cmpf .olt main_v30 main_v31
  (main_v2, main_v5, main_v8, main_v11, main_v14, main_v17, main_v20, main_v23, main_v26, main_v29, main_v32)

def fn {F : FTy → Type} [FloatOps F] (main_arg0 : FVec F S8192x1024 .f32) (main_arg1 : FVec F S8192x1024 .f32) (main_arg2 : FVec F S1024x5632 .f32) (main_arg3 : FVec F S2816x1024 .f32) (main_arg4 : FVec F S1024 .f32) (main_arg5 : FVec F S1024 .f32) (main_arg6 : FVec F S1024 .f32) (main_arg7 : FVec F S1024 .f32) (main_arg8 : FVec F S1024 .f32) (main_arg9 : FVec F S8192x1024 .f32) (main_arg10 : FVec F S8192x1024 .f32) : IVec S8192x1024 1 × IVec S8192x1024 1 × IVec S1024x5632 1 × IVec S2816x1024 1 × IVec S1024 1 × IVec S1024 1 × IVec S1024 1 × IVec S1024 1 × IVec S1024 1 × IVec S8192x1024 1 × IVec S8192x1024 1 :=
  let main_v0 : FVec F S8192x1024 .f32 := Host.absf main_arg0
  let main_cst : FVec F S_ .f32 := constant S_ .f32 0x7F800000#32
  let main_v1 : FVec F S8192x1024 .f32 := broadcastInDim S8192x1024 ![] bcast_S_S8192x1024 main_cst
  let main_v2 : IVec S8192x1024 1 := cmpf .olt main_v0 main_v1
  let main_v3 : FVec F S8192x1024 .f32 := Host.absf main_arg1
  let main_cst_0 : FVec F S_ .f32 := constant S_ .f32 0x7F800000#32
  let main_v4 : FVec F S8192x1024 .f32 := broadcastInDim S8192x1024 ![] bcast_S_S8192x1024 main_cst_0
  let main_v5 : IVec S8192x1024 1 := cmpf .olt main_v3 main_v4
  let main_v6 : FVec F S1024x5632 .f32 := Host.absf main_arg2
  let main_cst_1 : FVec F S_ .f32 := constant S_ .f32 0x7F800000#32
  let main_v7 : FVec F S1024x5632 .f32 := broadcastInDim S1024x5632 ![] bcast_S_S1024x5632 main_cst_1
  let main_v8 : IVec S1024x5632 1 := cmpf .olt main_v6 main_v7
  let main_v9 : FVec F S2816x1024 .f32 := Host.absf main_arg3
  let main_cst_2 : FVec F S_ .f32 := constant S_ .f32 0x7F800000#32
  let main_v10 : FVec F S2816x1024 .f32 := broadcastInDim S2816x1024 ![] bcast_S_S2816x1024 main_cst_2
  let main_v11 : IVec S2816x1024 1 := cmpf .olt main_v9 main_v10
  let main_v12 : FVec F S1024 .f32 := Host.absf main_arg4
  let main_cst_3 : FVec F S_ .f32 := constant S_ .f32 0x7F800000#32
  let main_v13 : FVec F S1024 .f32 := broadcastInDim S1024 ![] bcast_S_S1024 main_cst_3
  let main_v14 : IVec S1024 1 := cmpf .olt main_v12 main_v13
  let main_v15 : FVec F S1024 .f32 := Host.absf main_arg5
  let main_cst_4 : FVec F S_ .f32 := constant S_ .f32 0x7F800000#32
  let main_v16 : FVec F S1024 .f32 := broadcastInDim S1024 ![] bcast_S_S1024 main_cst_4
  let main_v17 : IVec S1024 1 := cmpf .olt main_v15 main_v16
  fn_part1 (F := F) main_arg6 main_arg7 main_arg8 main_arg9 main_arg10 main_v2 main_v5 main_v8 main_v11 main_v14 main_v17
-- ==== Pre_ffn_finite.lean ====
abbrev S8192x1024 : Shape := ⟨2, ![8192, 1024]⟩
abbrev S1024x5632 : Shape := ⟨2, ![1024, 5632]⟩
abbrev S2816x1024 : Shape := ⟨2, ![2816, 1024]⟩
abbrev S1024 : Shape := ⟨1, ![1024]⟩
abbrev S_ : Shape := ⟨0, ![]⟩

class Facts : Prop where
  bcast_S_S8192x1024 : S_.BroadcastsInDim S8192x1024 (![] : Fin 0 → Fin S8192x1024.rank)
  bcast_S_S1024x5632 : S_.BroadcastsInDim S1024x5632 (![] : Fin 0 → Fin S1024x5632.rank)
  bcast_S_S2816x1024 : S_.BroadcastsInDim S2816x1024 (![] : Fin 0 → Fin S2816x1024.rank)
  bcast_S_S1024 : S_.BroadcastsInDim S1024 (![] : Fin 0 → Fin S1024.rank)

variable [Facts]

def fn_part1 {F : FTy → Type} [FloatOps F] (main_arg6 : FVec F S1024 .f32) (main_arg7 : FVec F S1024 .f32) (main_v2 : IVec S8192x1024 1) (main_v5 : IVec S8192x1024 1) (main_v8 : IVec S8192x1024 1) (main_v11 : IVec S1024x5632 1) (main_v14 : IVec S2816x1024 1) (main_v17 : IVec S1024 1) : IVec S8192x1024 1 × IVec S8192x1024 1 × IVec S8192x1024 1 × IVec S1024x5632 1 × IVec S2816x1024 1 × IVec S1024 1 × IVec S1024 1 × IVec S1024 1 :=
  let main_v18 : FVec F S1024 .f32 := Host.absf main_arg6
  let main_cst_5 : FVec F S_ .f32 := constant S_ .f32 0x7F800000#32
  let main_v19 : FVec F S1024 .f32 := broadcastInDim S1024 ![] bcast_S_S1024 main_cst_5
  let main_v20 : IVec S1024 1 := cmpf .olt main_v18 main_v19
  let main_v21 : FVec F S1024 .f32 := Host.absf main_arg7
  let main_cst_6 : FVec F S_ .f32 := constant S_ .f32 0x7F800000#32
  let main_v22 : FVec F S1024 .f32 := broadcastInDim S1024 ![] bcast_S_S1024 main_cst_6
  let main_v23 : IVec S1024 1 := cmpf .olt main_v21 main_v22
  (main_v2, main_v5, main_v8, main_v11, main_v14, main_v17, main_v20, main_v23)

def fn {F : FTy → Type} [FloatOps F] (main_arg0 : FVec F S8192x1024 .f32) (main_arg1 : FVec F S8192x1024 .f32) (main_arg2 : FVec F S8192x1024 .f32) (main_arg3 : FVec F S1024x5632 .f32) (main_arg4 : FVec F S2816x1024 .f32) (main_arg5 : FVec F S1024 .f32) (main_arg6 : FVec F S1024 .f32) (main_arg7 : FVec F S1024 .f32) : IVec S8192x1024 1 × IVec S8192x1024 1 × IVec S8192x1024 1 × IVec S1024x5632 1 × IVec S2816x1024 1 × IVec S1024 1 × IVec S1024 1 × IVec S1024 1 :=
  let main_v0 : FVec F S8192x1024 .f32 := Host.absf main_arg0
  let main_cst : FVec F S_ .f32 := constant S_ .f32 0x7F800000#32
  let main_v1 : FVec F S8192x1024 .f32 := broadcastInDim S8192x1024 ![] bcast_S_S8192x1024 main_cst
  let main_v2 : IVec S8192x1024 1 := cmpf .olt main_v0 main_v1
  let main_v3 : FVec F S8192x1024 .f32 := Host.absf main_arg1
  let main_cst_0 : FVec F S_ .f32 := constant S_ .f32 0x7F800000#32
  let main_v4 : FVec F S8192x1024 .f32 := broadcastInDim S8192x1024 ![] bcast_S_S8192x1024 main_cst_0
  let main_v5 : IVec S8192x1024 1 := cmpf .olt main_v3 main_v4
  let main_v6 : FVec F S8192x1024 .f32 := Host.absf main_arg2
  let main_cst_1 : FVec F S_ .f32 := constant S_ .f32 0x7F800000#32
  let main_v7 : FVec F S8192x1024 .f32 := broadcastInDim S8192x1024 ![] bcast_S_S8192x1024 main_cst_1
  let main_v8 : IVec S8192x1024 1 := cmpf .olt main_v6 main_v7
  let main_v9 : FVec F S1024x5632 .f32 := Host.absf main_arg3
  let main_cst_2 : FVec F S_ .f32 := constant S_ .f32 0x7F800000#32
  let main_v10 : FVec F S1024x5632 .f32 := broadcastInDim S1024x5632 ![] bcast_S_S1024x5632 main_cst_2
  let main_v11 : IVec S1024x5632 1 := cmpf .olt main_v9 main_v10
  let main_v12 : FVec F S2816x1024 .f32 := Host.absf main_arg4
  let main_cst_3 : FVec F S_ .f32 := constant S_ .f32 0x7F800000#32
  let main_v13 : FVec F S2816x1024 .f32 := broadcastInDim S2816x1024 ![] bcast_S_S2816x1024 main_cst_3
  let main_v14 : IVec S2816x1024 1 := cmpf .olt main_v12 main_v13
  let main_v15 : FVec F S1024 .f32 := Host.absf main_arg5
  let main_cst_4 : FVec F S_ .f32 := constant S_ .f32 0x7F800000#32
  let main_v16 : FVec F S1024 .f32 := broadcastInDim S1024 ![] bcast_S_S1024 main_cst_4
  let main_v17 : IVec S1024 1 := cmpf .olt main_v15 main_v16
  fn_part1 (F := F) main_arg6 main_arg7 main_v2 main_v5 main_v8 main_v11 main_v14 main_v17
-- ==== Pre_mix_finite.lean ====
abbrev S8192x1792 : Shape := ⟨2, ![8192, 1792]⟩
abbrev S8x128x256 : Shape := ⟨3, ![8, 128, 256]⟩
abbrev S8 : Shape := ⟨1, ![8]⟩
abbrev S512 : Shape := ⟨1, ![512]⟩
abbrev S8x128x128 : Shape := ⟨3, ![8, 128, 128]⟩
abbrev S8x128 : Shape := ⟨2, ![8, 128]⟩
abbrev S_ : Shape := ⟨0, ![]⟩

class Facts : Prop where
  bcast_S_S8192x1792 : S_.BroadcastsInDim S8192x1792 (![] : Fin 0 → Fin S8192x1792.rank)
  bcast_S_S8x128x256 : S_.BroadcastsInDim S8x128x256 (![] : Fin 0 → Fin S8x128x256.rank)
  bcast_S_S8 : S_.BroadcastsInDim S8 (![] : Fin 0 → Fin S8.rank)

variable [Facts]

def fn {F : FTy → Type} [FloatOps F] (main_arg0 : FVec F S8192x1792 .f32) (main_arg1 : FVec F S8x128x256 .f32) (main_arg2 : FVec F S8 .f32) (main_arg3 : FVec F S512 .f32) (main_arg4 : FVec F S512 .f32) (main_arg5 : FVec F S8x128x128 .f32) (main_arg6 : FVec F S8x128 .f32) (main_arg7 : FVec F S512 .f32) (main_arg8 : FVec F S512 .f32) : IVec S8192x1792 1 × IVec S8x128x256 1 × IVec S8 1 :=
  let main_v0 : FVec F S8192x1792 .f32 := Host.absf main_arg0
  let main_cst : FVec F S_ .f32 := constant S_ .f32 0x7F800000#32
  let main_v1 : FVec F S8192x1792 .f32 := broadcastInDim S8192x1792 ![] bcast_S_S8192x1792 main_cst
  let main_v2 : IVec S8192x1792 1 := cmpf .olt main_v0 main_v1
  let main_v3 : FVec F S8x128x256 .f32 := Host.absf main_arg1
  let main_cst_0 : FVec F S_ .f32 := constant S_ .f32 0x7F800000#32
  let main_v4 : FVec F S8x128x256 .f32 := broadcastInDim S8x128x256 ![] bcast_S_S8x128x256 main_cst_0
  let main_v5 : IVec S8x128x256 1 := cmpf .olt main_v3 main_v4
  let main_v6 : FVec F S8 .f32 := Host.absf main_arg2
  let main_cst_1 : FVec F S_ .f32 := constant S_ .f32 0x7F800000#32
  let main_v7 : FVec F S8 .f32 := broadcastInDim S8 ![] bcast_S_S8 main_cst_1
  let main_v8 : IVec S8 1 := cmpf .olt main_v6 main_v7
  (main_v2, main_v5, main_v8)
-- ==== Din.lean ====
abbrev S8192x1024 : Shape := ⟨2, ![8192, 1024]⟩
abbrev S1024 : Shape := ⟨1, ![1024]⟩
abbrev S1024x1792 : Shape := ⟨2, ![1024, 1792]⟩
abbrev S1792 : Shape := ⟨1, ![1792]⟩
abbrev S8192x1792 : Shape := ⟨2, ![8192, 1792]⟩
abbrev S8192x256 : Shape := ⟨2, ![8192, 256]⟩
abbrev S1792x1024 : Shape := ⟨2, ![1792, 1024]⟩
abbrev S1x1024 : Shape := ⟨2, ![1, 1024]⟩
abbrev S8x1792 : Shape := ⟨2, ![8, 1792]⟩
abbrev S8x1024 : Shape := ⟨2, ![8, 1024]⟩
abbrev S512x1792 : Shape := ⟨2, ![512, 1792]⟩
abbrev S512x256 : Shape := ⟨2, ![512, 256]⟩
abbrev S512x1024 : Shape := ⟨2, ![512, 1024]⟩
abbrev S512x512 : Shape := ⟨2, ![512, 512]⟩
abbrev S64x8x1792 : Shape := ⟨3, ![64, 8, 1792]⟩
abbrev S64x8x1024 : Shape := ⟨3, ![64, 8, 1024]⟩
abbrev S_ : Shape := ⟨0, ![]⟩

abbrev nBuf : Space → Nat
  | .hbm => 24
  | .vmem => 17
  | .smem => 0
  | _ => 0

abbrev bufTy : (tb : Table) → Fin (tcTables nBuf tb) → BufTy
  | .hbm, ⟨0, _⟩ => ⟨S8192x1024, .f32⟩
  | .hbm, ⟨1, _⟩ => ⟨S1024, .f32⟩
  | .hbm, ⟨2, _⟩ => ⟨S1024, .f32⟩
  | .hbm, ⟨3, _⟩ => ⟨S1024x1792, .f32⟩
  | .hbm, ⟨4, _⟩ => ⟨S1792, .f32⟩
  | .hbm, ⟨5, _⟩ => ⟨S8192x1792, .f32⟩
  | .hbm, ⟨6, _⟩ => ⟨S8192x256, .f32⟩
  | .hbm, ⟨7, _⟩ => ⟨S8192x1024, .f32⟩
  | .hbm, ⟨8, _⟩ => ⟨S8192x1792, .bf16⟩
  | .hbm, ⟨9, _⟩ => ⟨S1792x1024, .f32⟩
  | .hbm, ⟨10, _⟩ => ⟨S1792x1024, .bf16⟩
  | .hbm, ⟨11, _⟩ => ⟨S1x1024, .f32⟩
  | .hbm, ⟨12, _⟩ => ⟨S8192x1024, .f32⟩
  | .hbm, ⟨13, _⟩ => ⟨S8192x1792, .bf16⟩
  | .hbm, ⟨14, _⟩ => ⟨S8x1792, .f32⟩
  | .hbm, ⟨15, _⟩ => ⟨S8x1024, .f32⟩
  | .hbm, ⟨16, _⟩ => ⟨S8x1024, .f32⟩
  | .hbm, ⟨17, _⟩ => ⟨S_, .f32⟩
  | .hbm, ⟨18, _⟩ => ⟨S1024, .f32⟩
  | .hbm, ⟨19, _⟩ => ⟨S_, .f32⟩
  | .hbm, ⟨20, _⟩ => ⟨S1024, .f32⟩
  | .hbm, ⟨21, _⟩ => ⟨S_, .f32⟩
  | .hbm, ⟨22, _⟩ => ⟨S1792, .f32⟩
  | .hbm, ⟨23, _⟩ => ⟨S8192x1792, .f32⟩
  | .local _ .vmem, ⟨0, _⟩ => ⟨S512x1792, .bf16⟩
  | .local _ .vmem, ⟨1, _⟩ => ⟨S512x1792, .bf16⟩
  | .local _ .vmem, ⟨2, _⟩ => ⟨S512x256, .f32⟩
  | .local _ .vmem, ⟨3, _⟩ => ⟨S512x256, .f32⟩
  | .local _ .vmem, ⟨4, _⟩ => ⟨S1792x1024, .bf16⟩
  | .local _ .vmem, ⟨5, _⟩ => ⟨S512x1024, .f32⟩
  | .local _ .vmem, ⟨6, _⟩ => ⟨S512x1024, .f32⟩
  | .local _ .vmem, ⟨7, _⟩ => ⟨S512x1024, .f32⟩
  | .local _ .vmem, ⟨8, _⟩ => ⟨S512x1024, .f32⟩
  | .local _ .vmem, ⟨9, _⟩ => ⟨S1x1024, .f32⟩
  | .local _ .vmem, ⟨10, _⟩ => ⟨S512x1024, .f32⟩
  | .local _ .vmem, ⟨11, _⟩ => ⟨S512x1024, .f32⟩
  | .local _ .vmem, ⟨12, _⟩ => ⟨S512x1792, .bf16⟩
  | .local _ .vmem, ⟨13, _⟩ => ⟨S512x1792, .bf16⟩
  | .local _ .vmem, ⟨14, _⟩ => ⟨S8x1792, .f32⟩
  | .local _ .vmem, ⟨15, _⟩ => ⟨S8x1024, .f32⟩
  | .local _ .vmem, ⟨16, _⟩ => ⟨S8x1024, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  ofTc nBuf bufTy 0 17 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4_0 : Ref sig .tc := ⟨.hbm, 12, rfl⟩
abbrev main_v4_1 : Ref sig .tc := ⟨.hbm, 13, rfl⟩
abbrev main_v4_2 : Ref sig .tc := ⟨.hbm, 14, rfl⟩
abbrev main_v4_3 : Ref sig .tc := ⟨.hbm, 15, rfl⟩
abbrev main_v4_4 : Ref sig .tc := ⟨.hbm, 16, rfl⟩
abbrev main_cst : Ref sig .tc := ⟨.hbm, 17, rfl⟩
abbrev main_v5 : Ref sig .tc := ⟨.hbm, 18, rfl⟩
abbrev main_cst_0 : Ref sig .tc := ⟨.hbm, 19, rfl⟩
abbrev main_v6 : Ref sig .tc := ⟨.hbm, 20, rfl⟩
abbrev main_cst_1 : Ref sig .tc := ⟨.hbm, 21, rfl⟩
abbrev main_v7 : Ref sig .tc := ⟨.hbm, 22, rfl⟩
abbrev main_v8 : Ref sig .tc := ⟨.hbm, 23, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_stg8_0 : Ref sig .tc := ⟨.vmem, 14, rfl⟩
abbrev cc0_stg9_0 : Ref sig .tc := ⟨.vmem, 15, rfl⟩
abbrev cc0_stg10_0 : Ref sig .tc := ⟨.vmem, 16, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem6_0 : DmaSem sig := 10
abbrev cc0_sem6_1 : DmaSem sig := 11
abbrev cc0_sem7_0 : DmaSem sig := 12
abbrev cc0_sem7_1 : DmaSem sig := 13
abbrev cc0_sem8_0 : DmaSem sig := 14
abbrev cc0_sem9_0 : DmaSem sig := 15
abbrev cc0_sem10_0 : DmaSem sig := 16

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x1792 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1792x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S512x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S512x1792 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 1 → Memref sig .tc .vmem S8x1792 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S8x1024 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S8x1024 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]
-- ==== DinRefIdeal.lean ====
abbrev S8192x1024 : Shape := ⟨2, ![8192, 1024]⟩
abbrev S1024 : Shape := ⟨1, ![1024]⟩
abbrev S1024x1792 : Shape := ⟨2, ![1024, 1792]⟩
abbrev S1792 : Shape := ⟨1, ![1792]⟩
abbrev S8192x1792 : Shape := ⟨2, ![8192, 1792]⟩
abbrev S8192x256 : Shape := ⟨2, ![8192, 256]⟩
abbrev S_ : Shape := ⟨0, ![]⟩
abbrev S1x1024 : Shape := ⟨2, ![1, 1024]⟩
abbrev S1x1792 : Shape := ⟨2, ![1, 1792]⟩

abbrev nBuf : Space → Nat
  | .hbm => 52
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S1024, .f32⟩
  | .hbm, ⟨2, _⟩ => ⟨S1024, .f32⟩
  | .hbm, ⟨3, _⟩ => ⟨S1024x1792, .f32⟩
  | .hbm, ⟨4, _⟩ => ⟨S1792, .f32⟩
  | .hbm, ⟨5, _⟩ => ⟨S8192x1792, .f32⟩
  | .hbm, ⟨6, _⟩ => ⟨S8192x256, .f32⟩
  | .hbm, ⟨7, _⟩ => ⟨S8192x1024, .f32⟩
  | .hbm, ⟨8, _⟩ => ⟨S_, .f32⟩
  | .hbm, ⟨9, _⟩ => ⟨S1024, .f32⟩
  | .hbm, ⟨10, _⟩ => ⟨S1024, .f32⟩
  | .hbm, ⟨11, _⟩ => ⟨S1x1024, .f32⟩
  | .hbm, ⟨12, _⟩ => ⟨S8192x1024, .f32⟩
  | .hbm, ⟨13, _⟩ => ⟨S8192x1024, .f32⟩
  | .hbm, ⟨14, _⟩ => ⟨S1x1024, .f32⟩
  | .hbm, ⟨15, _⟩ => ⟨S8192x1024, .f32⟩
  | .hbm, ⟨16, _⟩ => ⟨S8192x1024, .f32⟩
  | .hbm, ⟨17, _⟩ => ⟨S8192x1792, .f32⟩
  | .hbm, ⟨18, _⟩ => ⟨S1x1792, .f32⟩
  | .hbm, ⟨19, _⟩ => ⟨S8192x1792, .f32⟩
  | .hbm, ⟨20, _⟩ => ⟨S8192x1792, .f32⟩
  | .hbm, ⟨21, _⟩ => ⟨S_, .f32⟩
  | .hbm, ⟨22, _⟩ => ⟨S8192x1024, .f32⟩
  | .hbm, ⟨23, _⟩ => ⟨S8192x1024, .f32⟩
  | .hbm, ⟨24, _⟩ => ⟨S8192x256, .f32⟩
  | .hbm, ⟨25, _⟩ => ⟨S_, .f32⟩
  | .hbm, ⟨26, _⟩ => ⟨S8192x1792, .f32⟩
  | .hbm, ⟨27, _⟩ => ⟨S8192x1792, .f32⟩
  | .hbm, ⟨28, _⟩ => ⟨S_, .f32⟩
  | .hbm, ⟨29, _⟩ => ⟨S8192x1024, .f32⟩
  | .hbm, ⟨30, _⟩ => ⟨S8192x1024, .f32⟩
  | .hbm, ⟨31, _⟩ => ⟨S8192x1792, .f32⟩
  | .hbm, ⟨32, _⟩ => ⟨S_, .f32⟩
  | .hbm, ⟨33, _⟩ => ⟨S1792, .f32⟩
  | .hbm, ⟨34, _⟩ => ⟨S1x1792, .f32⟩
  | .hbm, ⟨35, _⟩ => ⟨S_, .f32⟩
  | .hbm, ⟨36, _⟩ => ⟨S1792, .f32⟩
  | .hbm, ⟨37, _⟩ => ⟨S8192x1024, .f32⟩
  | .hbm, ⟨38, _⟩ => ⟨S_, .f32⟩
  | .hbm, ⟨39, _⟩ => ⟨S1024, .f32⟩
  | .hbm, ⟨40, _⟩ => ⟨S1x1024, .f32⟩
  | .hbm, ⟨41, _⟩ => ⟨S_, .f32⟩
  | .hbm, ⟨42, _⟩ => ⟨S1024, .f32⟩
  | .hbm, ⟨43, _⟩ => ⟨S8192x1024, .f32⟩
  | .hbm, ⟨44, _⟩ => ⟨S_, .f32⟩
  | .hbm, ⟨45, _⟩ => ⟨S1024, .f32⟩
  | .hbm, ⟨46, _⟩ => ⟨S1x1024, .f32⟩
  | .hbm, ⟨47, _⟩ => ⟨S8192x1024, .f32⟩
  | .hbm, ⟨48, _⟩ => ⟨S8192x1024, .f32⟩
  | .hbm, ⟨49, _⟩ => ⟨S8192x1024, .f32⟩
  | .hbm, ⟨50, _⟩ => ⟨S_, .f32⟩
  | .hbm, ⟨51, _⟩ => ⟨S1024, .f32⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_cst : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_cst_0 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_cst_1 : Ref sig .tc := ⟨.hbm, 25, rfl⟩
abbrev main_v15 : Ref sig .tc := ⟨.hbm, 26, rfl⟩
abbrev main_v16 : Ref sig .tc := ⟨.hbm, 27, rfl⟩
abbrev main_cst_2 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_cst_3 : Ref sig .tc := ⟨.hbm, 32, rfl⟩
abbrev main_v20 : Ref sig .tc := ⟨.hbm, 33, rfl⟩
abbrev main_v21 : Ref sig .tc := ⟨.hbm, 34, rfl⟩
abbrev main_cst_4 : Ref sig .tc := ⟨.hbm, 35, rfl⟩
abbrev main_v22 : Ref sig .tc := ⟨.hbm, 36, rfl⟩
abbrev main_v23 : Ref sig .tc := ⟨.hbm, 37, rfl⟩
abbrev main_cst_5 : Ref sig .tc := ⟨.hbm, 38, rfl⟩
abbrev main_v24 : Ref sig .tc := ⟨.hbm, 39, rfl⟩
abbrev main_v25 : Ref sig .tc := ⟨.hbm, 40, rfl⟩
abbrev main_cst_6 : Ref sig .tc := ⟨.hbm, 41, rfl⟩
abbrev main_v26 : Ref sig .tc := ⟨.hbm, 42, rfl⟩
abbrev main_v27 : Ref sig .tc := ⟨.hbm, 43, rfl⟩
abbrev main_cst_7 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_cst_8 : Ref sig .tc := ⟨.hbm, 50, rfl⟩
abbrev main_v33 : Ref sig .tc := ⟨.hbm, 51, rfl⟩

abbrev nD : Nat := 1
abbrev τ : Topo := Topo.v7x

variable {F : FTy → Type} [FloatOps F]
-- ==== Ffn.lean ====
abbrev S8192x1024 : Shape := ⟨2, ![8192, 1024]⟩
abbrev S1024x5632 : Shape := ⟨2, ![1024, 5632]⟩
abbrev S2816x1024 : Shape := ⟨2, ![2816, 1024]⟩
abbrev S1024 : Shape := ⟨1, ![1024]⟩
abbrev S5632x1024 : Shape := ⟨2, ![5632, 1024]⟩
abbrev S1x1024 : Shape := ⟨2, ![1, 1024]⟩
abbrev S8192x2816 : Shape := ⟨2, ![8192, 2816]⟩
abbrev S8x1024 : Shape := ⟨2, ![8, 1024]⟩
abbrev S256x1024 : Shape := ⟨2, ![256, 1024]⟩
abbrev S256x2816 : Shape := ⟨2, ![256, 2816]⟩
abbrev S256 : Shape := ⟨1, ![256]⟩
abbrev S256x1 : Shape := ⟨2, ![256, 1]⟩
abbrev S32x8x1024 : Shape := ⟨3, ![32, 8, 1024]⟩
abbrev S_ : Shape := ⟨0, ![]⟩

abbrev nBuf : Space → Nat
  | .hbm => 38
  | .vmem => 25
  | .smem => 0
  | _ => 0

abbrev bufTy : (tb : Table) → Fin (tcTables nBuf tb) → BufTy
  | .hbm, ⟨0, _⟩ => ⟨S8192x1024, .f32⟩
  | .hbm, ⟨1, _⟩ => ⟨S8192x1024, .f32⟩
  | .hbm, ⟨2, _⟩ => ⟨S8192x1024, .f32⟩
  | .hbm, ⟨3, _⟩ => ⟨S1024x5632, .f32⟩
  | .hbm, ⟨4, _⟩ => ⟨S2816x1024, .f32⟩
  | .hbm, ⟨5, _⟩ => ⟨S1024, .f32⟩
  | .hbm, ⟨6, _⟩ => ⟨S1024, .f32⟩
  | .hbm, ⟨7, _⟩ => ⟨S1024, .f32⟩
  | .hbm, ⟨8, _⟩ => ⟨S8192x1024, .bf16⟩
  | .hbm, ⟨9, _⟩ => ⟨S5632x1024, .f32⟩
  | .hbm, ⟨10, _⟩ => ⟨S5632x1024, .bf16⟩
  | .hbm, ⟨11, _⟩ => ⟨S2816x1024, .bf16⟩
  | .hbm, ⟨12, _⟩ => ⟨S1x1024, .f32⟩
  | .hbm, ⟨13, _⟩ => ⟨S1x1024, .f32⟩
  | .hbm, ⟨14, _⟩ => ⟨S1x1024, .f32⟩
  | .hbm, ⟨15, _⟩ => ⟨S8192x2816, .bf16⟩
  | .hbm, ⟨16, _⟩ => ⟨S8192x2816, .bf16⟩
  | .hbm, ⟨17, _⟩ => ⟨S8192x2816, .bf16⟩
  | .hbm, ⟨18, _⟩ => ⟨S8192x1024, .f32⟩
  | .hbm, ⟨19, _⟩ => ⟨S8192x1024, .bf16⟩
  | .hbm, ⟨20, _⟩ => ⟨S8x1024, .f32⟩
  | .hbm, ⟨21, _⟩ => ⟨S8x1024, .f32⟩
  | .hbm, ⟨22, _⟩ => ⟨S8x1024, .f32⟩
  | .hbm, ⟨23, _⟩ => ⟨S8x1024, .f32⟩
  | .hbm, ⟨24, _⟩ => ⟨S_, .f32⟩
  | .hbm, ⟨25, _⟩ => ⟨S_, .f32⟩
  | .hbm, ⟨26, _⟩ => ⟨S_, .f32⟩
  | .hbm, ⟨27, _⟩ => ⟨S_, .f32⟩
  | .hbm, ⟨28, _⟩ => ⟨S8192x1024, .f32⟩
  | .hbm, ⟨29, _⟩ => ⟨S_, .f32⟩
  | .hbm, ⟨30, _⟩ => ⟨S1024, .f32⟩
  | .hbm, ⟨31, _⟩ => ⟨S_, .f32⟩
  | .hbm, ⟨32, _⟩ => ⟨S1024, .f32⟩
  | .hbm, ⟨33, _⟩ => ⟨S_, .f32⟩
  | .hbm, ⟨34, _⟩ => ⟨S1024, .f32⟩
  | .hbm, ⟨35, _⟩ => ⟨S8192x2816, .f32⟩
  | .hbm, ⟨36, _⟩ => ⟨S8192x2816, .f32⟩
  | .hbm, ⟨37, _⟩ => ⟨S8192x2816, .f32⟩
  | .local _ .vmem, ⟨0, _⟩ => ⟨S256x1024, .bf16⟩
  | .local _ .vmem, ⟨1, _⟩ => ⟨S256x1024, .bf16⟩
  | .local _ .vmem, ⟨2, _⟩ => ⟨S5632x1024, .bf16⟩
  | .local _ .vmem, ⟨3, _⟩ => ⟨S2816x1024, .bf16⟩
  | .local _ .vmem, ⟨4, _⟩ => ⟨S256x1024, .f32⟩
  | .local _ .vmem, ⟨5, _⟩ => ⟨S256x1024, .f32⟩
  | .local _ .vmem, ⟨6, _⟩ => ⟨S256x1024, .f32⟩
  | .local _ .vmem, ⟨7, _⟩ => ⟨S256x1024, .f32⟩
  | .local _ .vmem, ⟨8, _⟩ => ⟨S1x1024, .f32⟩
  | .local _ .vmem, ⟨9, _⟩ => ⟨S1x1024, .f32⟩
  | .local _ .vmem, ⟨10, _⟩ => ⟨S1x1024, .f32⟩
  | .local _ .vmem, ⟨11, _⟩ => ⟨S256x2816, .bf16⟩
  | .local _ .vmem, ⟨12, _⟩ => ⟨S256x2816, .bf16⟩
  | .local _ .vmem, ⟨13, _⟩ => ⟨S256x2816, .bf16⟩
  | .local _ .vmem, ⟨14, _⟩ => ⟨S256x2816, .bf16⟩
  | .local _ .vmem, ⟨15, _⟩ => ⟨S256x2816, .bf16⟩
  | .local _ .vmem, ⟨16, _⟩ => ⟨S256x2816, .bf16⟩
  | .local _ .vmem, ⟨17, _⟩ => ⟨S256x1024, .f32⟩
  | .local _ .vmem, ⟨18, _⟩ => ⟨S256x1024, .f32⟩
  | .local _ .vmem, ⟨19, _⟩ => ⟨S256x1024, .bf16⟩
  | .local _ .vmem, ⟨20, _⟩ => ⟨S256x1024, .bf16⟩
  | .local _ .vmem, ⟨21, _⟩ => ⟨S8x1024, .f32⟩
  | .local _ .vmem, ⟨22, _⟩ => ⟨S8x1024, .f32⟩
  | .local _ .vmem, ⟨23, _⟩ => ⟨S8x1024, .f32⟩
  | .local _ .vmem, ⟨24, _⟩ => ⟨S8x1024, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | _, _ => false

abbrev semScoped : Fin 0 → Bool
  | ⟨_, h⟩ => absurd h (Nat.not_lt_zero _)

abbrev dmaSemScoped : Fin 25 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | _ => false

abbrev sig : RefSig :=
  ofTc nBuf bufTy 0 25 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7_0 : Ref sig .tc := ⟨.hbm, 15, rfl⟩
abbrev main_v7_1 : Ref sig .tc := ⟨.hbm, 16, rfl⟩
abbrev main_v7_2 : Ref sig .tc := ⟨.hbm, 17, rfl⟩
abbrev main_v7_3 : Ref sig .tc := ⟨.hbm, 18, rfl⟩
abbrev main_v7_4 : Ref sig .tc := ⟨.hbm, 19, rfl⟩
abbrev main_v7_5 : Ref sig .tc := ⟨.hbm, 20, rfl⟩
abbrev main_v7_6 : Ref sig .tc := ⟨.hbm, 21, rfl⟩
abbrev main_v7_7 : Ref sig .tc := ⟨.hbm, 22, rfl⟩
abbrev main_v7_8 : Ref sig .tc := ⟨.hbm, 23, rfl⟩
abbrev main_cst : Ref sig .tc := ⟨.hbm, 24, rfl⟩
abbrev main_v8 : Ref sig .tc := ⟨.hbm, 25, rfl⟩
abbrev main_cst_0 : Ref sig .tc := ⟨.hbm, 26, rfl⟩
abbrev main_v9 : Ref sig .tc := ⟨.hbm, 27, rfl⟩
abbrev main_v10 : Ref sig .tc := ⟨.hbm, 28, rfl⟩
abbrev main_cst_1 : Ref sig .tc := ⟨.hbm, 29, rfl⟩
abbrev main_v11 : Ref sig .tc := ⟨.hbm, 30, rfl⟩
abbrev main_cst_2 : Ref sig .tc := ⟨.hbm, 31, rfl⟩
abbrev main_v12 : Ref sig .tc := ⟨.hbm, 32, rfl⟩
abbrev main_cst_3 : Ref sig .tc := ⟨.hbm, 33, rfl⟩
abbrev main_v13 : Ref sig .tc := ⟨.hbm, 34, rfl⟩
abbrev main_v14 : Ref sig .tc := ⟨.hbm, 35, rfl⟩
abbrev main_v15 : Ref sig .tc := ⟨.hbm, 36, rfl⟩
abbrev main_v16 : Ref sig .tc := ⟨.hbm, 37, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg8_0 : Ref sig .tc := ⟨.vmem, 11, rfl⟩
abbrev cc0_stg8_1 : Ref sig .tc := ⟨.vmem, 12, rfl⟩
abbrev cc0_stg9_0 : Ref sig .tc := ⟨.vmem, 13, rfl⟩
abbrev cc0_stg9_1 : Ref sig .tc := ⟨.vmem, 14, rfl⟩
abbrev cc0_stg10_0 : Ref sig .tc := ⟨.vmem, 15, rfl⟩
abbrev cc0_stg10_1 : Ref sig .tc := ⟨.vmem, 16, rfl⟩
abbrev cc0_stg11_0 : Ref sig .tc := ⟨.vmem, 17, rfl⟩
abbrev cc0_stg11_1 : Ref sig .tc := ⟨.vmem, 18, rfl⟩
abbrev cc0_stg12_0 : Ref sig .tc := ⟨.vmem, 19, rfl⟩
abbrev cc0_stg12_1 : Ref sig .tc := ⟨.vmem, 20, rfl⟩
abbrev cc0_stg13_0 : Ref sig .tc := ⟨.vmem, 21, rfl⟩
abbrev cc0_stg14_0 : Ref sig .tc := ⟨.vmem, 22, rfl⟩
abbrev cc0_stg15_0 : Ref sig .tc := ⟨.vmem, 23, rfl⟩
abbrev cc0_stg16_0 : Ref sig .tc := ⟨.vmem, 24, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7
abbrev cc0_sem5_0 : DmaSem sig := 8
abbrev cc0_sem6_0 : DmaSem sig := 9
abbrev cc0_sem7_0 : DmaSem sig := 10
abbrev cc0_sem8_0 : DmaSem sig := 11
abbrev cc0_sem8_1 : DmaSem sig := 12
abbrev cc0_sem9_0 : DmaSem sig := 13
abbrev cc0_sem9_1 : DmaSem sig := 14
abbrev cc0_sem10_0 : DmaSem sig := 15
abbrev cc0_sem10_1 : DmaSem sig := 16
abbrev cc0_sem11_0 : DmaSem sig := 17
abbrev cc0_sem11_1 : DmaSem sig := 18
abbrev cc0_sem12_0 : DmaSem sig := 19
abbrev cc0_sem12_1 : DmaSem sig := 20
abbrev cc0_sem13_0 : DmaSem sig := 21
abbrev cc0_sem14_0 : DmaSem sig := 22
abbrev cc0_sem15_0 : DmaSem sig := 23
abbrev cc0_sem16_0 : DmaSem sig := 24

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_13 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_14 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_15 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_16 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S256x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S5632x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S2816x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S256x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 2 → Memref sig .tc .vmem S256x2816 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S256x2816 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S256x2816 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S256x1024 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S256x1024 .bf16 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 1 → Memref sig .tc .vmem S8x1024 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]

abbrev stage0_14 : Fin 1 → Memref sig .tc .vmem S8x1024 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false]

abbrev stage0_15 : Fin 1 → Memref sig .tc .vmem S8x1024 .f32 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))
abbrev reads0_15 : Fin grid0.rank → Bool := ![false]

abbrev stage0_16 : Fin 1 → Memref sig .tc .vmem S8x1024 .f32 := fun | 0 => Memref.whole cc0_stg16_0 | ⟨_ + 1, h⟩ => absurd h (Nat.not_lt.2 (Nat.le_add_left _ _))
abbrev sem0_16 : Fin 1 → DmaSem sig := fun | 0 => cc0_sem16_0 | ⟨_ + 1, h⟩ => absurd h (Nat.not_lt.2 (Nat.le_add_left _ _))
abbrev reads0_16 : Fin grid0.rank → Bool := ![false]
-- ==== FfnRefIdeal.lean ====
abbrev S8192x1024 : Shape := ⟨2, ![8192, 1024]⟩
abbrev S1024x5632 : Shape := ⟨2, ![1024, 5632]⟩
abbrev S2816x1024 : Shape := ⟨2, ![2816, 1024]⟩
abbrev S1024 : Shape := ⟨1, ![1024]⟩
abbrev S8192x5632 : Shape := ⟨2, ![8192, 5632]⟩
abbrev S8192x2816 : Shape := ⟨2, ![8192, 2816]⟩
abbrev S_ : Shape := ⟨0, ![]⟩
abbrev S1x1024 : Shape := ⟨2, ![1, 1024]⟩
abbrev S8192 : Shape := ⟨1, ![8192]⟩
abbrev S8192x1 : Shape := ⟨2, ![8192, 1]⟩

abbrev nBuf : Space → Nat
  | .hbm => 152
  | .vmem => 0
  | .smem => 0
  | _ => 0

abbrev hbmTy0_0 (i : Nat) : BufTy := match i % 128 with
  | 0 => ⟨S8192x1024, .f32⟩
  | 1 => ⟨S8192x1024, .f32⟩
  | 2 => ⟨S8192x1024, .f32⟩
  | 3 => ⟨S1024x5632, .f32⟩
  | 4 => ⟨S2816x1024, .f32⟩
  | 5 => ⟨S1024, .f32⟩
  | 6 => ⟨S1024, .f32⟩
  | 7 => ⟨S1024, .f32⟩
  | 8 => ⟨S8192x5632, .f32⟩
  | 9 => ⟨S8192x2816, .f32⟩
  | 10 => ⟨S8192x2816, .f32⟩
  | 11 => ⟨S8192x2816, .f32⟩
  | 12 => ⟨S8192x2816, .f32⟩
  | 13 => ⟨S_, .f32⟩
  | 14 => ⟨S8192x2816, .f32⟩
  | 15 => ⟨S8192x2816, .f32⟩
  | 16 => ⟨S_, .f32⟩
  | 17 => ⟨S8192x2816, .f32⟩
  | 18 => ⟨S8192x2816, .f32⟩
  | 19 => ⟨S_, .f32⟩
  | 20 => ⟨S8192x2816, .f32⟩
  | 21 => ⟨S8192x2816, .f32⟩
  | 22 => ⟨S8192x2816, .f32⟩
  | 23 => ⟨S8192x2816, .f32⟩
  | 24 => ⟨S8192x2816, .f32⟩
  | 25 => ⟨S_, .f32⟩
  | 26 => ⟨S8192x2816, .f32⟩
  | 27 => ⟨S8192x2816, .f32⟩
  | 28 => ⟨S8192x2816, .f32⟩
  | 29 => ⟨S8192x2816, .f32⟩
  | 30 => ⟨S8192x2816, .f32⟩
  | 31 => ⟨S8192x2816, .f32⟩
  | 32 => ⟨S8192x2816, .f32⟩
  | 33 => ⟨S8192x1024, .f32⟩
  | 34 => ⟨S_, .f32⟩
  | 35 => ⟨S8192x1024, .f32⟩
  | 36 => ⟨S8192x1024, .f32⟩
  | 37 => ⟨S1x1024, .f32⟩
  | 38 => ⟨S8192x1024, .f32⟩
  | 39 => ⟨S8192x1024, .f32⟩
  | 40 => ⟨S8192x1024, .f32⟩
  | 41 => ⟨S_, .f32⟩
  | 42 => ⟨S8192, .f32⟩
  | 43 => ⟨S8192x1, .f32⟩
  | 44 => ⟨S_, .f32⟩
  | 45 => ⟨S8192x1, .f32⟩
  | 46 => ⟨S8192x1, .f32⟩
  | 47 => ⟨S8192x1024, .f32⟩
  | 48 => ⟨S8192x1024, .f32⟩
  | 49 => ⟨S8192x1024, .f32⟩
  | 50 => ⟨S_, .f32⟩
  | 51 => ⟨S8192x1024, .f32⟩
  | 52 => ⟨S8192x1024, .f32⟩
  | 53 => ⟨S_, .f32⟩
  | 54 => ⟨S8192, .f32⟩
  | 55 => ⟨S8192x1, .f32⟩
  | 56 => ⟨S_, .f32⟩
  | 57 => ⟨S8192x1, .f32⟩
  | 58 => ⟨S8192x1, .f32⟩
  | 59 => ⟨S8192x1024, .f32⟩
  | 60 => ⟨S8192x1024, .f32⟩
  | 61 => ⟨S_, .f32⟩
  | 62 => ⟨S8192x1, .f32⟩
  | 63 => ⟨S8192x1, .f32⟩
  | 64 => ⟨S8192x1, .f32⟩
  | 65 => ⟨S8192x1, .f32⟩
  | 66 => ⟨S_, .f32⟩
  | 67 => ⟨S8192x1, .f32⟩
  | 68 => ⟨S8192x1, .f32⟩
  | 69 => ⟨S8192x1024, .f32⟩
  | 70 => ⟨S8192x1024, .f32⟩
  | 71 => ⟨S1x1024, .f32⟩
  | 72 => ⟨S8192x1024, .f32⟩
  | 73 => ⟨S8192x1024, .f32⟩
  | 74 => ⟨S1x1024, .f32⟩
  | 75 => ⟨S8192x1024, .f32⟩
  | 76 => ⟨S8192x1024, .f32⟩
  | 77 => ⟨S8192x1024, .f32⟩
  | 78 => ⟨S8192x1024, .f32⟩
  | 79 => ⟨S_, .f32⟩
  | 80 => ⟨S8192x1024, .f32⟩
  | 81 => ⟨S8192x1024, .f32⟩
  | 82 => ⟨S_, .f32⟩
  | 83 => ⟨S8192, .f32⟩
  | 84 => ⟨S_, .f32⟩
  | 85 => ⟨S8192, .f32⟩
  | 86 => ⟨S8192, .f32⟩
  | 87 => ⟨S_, .f32⟩
  | 88 => ⟨S_, .f32⟩
  | 89 => ⟨S_, .f32⟩
  | 90 => ⟨S_, .f32⟩
  | 91 => ⟨S_, .f32⟩
  | 92 => ⟨S_, .f32⟩
  | 93 => ⟨S_, .f32⟩
  | 94 => ⟨S8192, .f32⟩
  | 95 => ⟨S_, .f32⟩
  | 96 => ⟨S8192, .f32⟩
  | 97 => ⟨S8192, .f32⟩
  | 98 => ⟨S8192x1024, .f32⟩
  | 99 => ⟨S8192x1024, .f32⟩
  | 100 => ⟨S_, .f32⟩
  | 101 => ⟨S1024, .f32⟩
  | 102 => ⟨S1x1024, .f32⟩
  | 103 => ⟨S_, .f32⟩
  | 104 => ⟨S1024, .f32⟩
  | 105 => ⟨S8192x1024, .f32⟩
  | 106 => ⟨S_, .f32⟩
  | 107 => ⟨S1024, .f32⟩
  | 108 => ⟨S1x1024, .f32⟩
  | 109 => ⟨S8192x1024, .f32⟩
  | 110 => ⟨S8192x1024, .f32⟩
  | 111 => ⟨S_, .f32⟩
  | 112 => ⟨S1024, .f32⟩
  | 113 => ⟨S8192x1024, .f32⟩
  | 114 => ⟨S_, .f32⟩
  | 115 => ⟨S8192, .f32⟩
  | 116 => ⟨S8192x1, .f32⟩
  | 117 => ⟨S8192x1024, .f32⟩
  | 118 => ⟨S8192x1024, .f32⟩
  | 119 => ⟨S8192x1, .f32⟩
  | 120 => ⟨S8192x1024, .f32⟩
  | 121 => ⟨S_, .f32⟩
  | 122 => ⟨S8192, .f32⟩
  | 123 => ⟨S8192x1, .f32⟩
  | 124 => ⟨S_, .f32⟩
  | 125 => ⟨S8192x1, .f32⟩
  | 126 => ⟨S8192x1, .f32⟩
  | 127 => ⟨S_, .f32⟩
  | _ => ⟨S8192x1024, .f32⟩

abbrev hbmTy0_1 (i : Nat) : BufTy := match i % 128 with
  | 0 => ⟨S8192, .f32⟩
  | 1 => ⟨S8192x1024, .f32⟩
  | 2 => ⟨S8192x1024, .f32⟩
  | 3 => ⟨S8192x1024, .f32⟩
  | 4 => ⟨S_, .f32⟩
  | 5 => ⟨S8192, .f32⟩
  | 6 => ⟨S8192x1, .f32⟩
  | 7 => ⟨S8192x1024, .f32⟩
  | 8 => ⟨S8192x1, .f32⟩
  | 9 => ⟨S_, .f32⟩
  | 10 => ⟨S8192x1, .f32⟩
  | 11 => ⟨S8192x1, .f32⟩
  | 12 => ⟨S_, .f32⟩
  | 13 => ⟨S8192, .f32⟩
  | 14 => ⟨S8192x1024, .f32⟩
  | 15 => ⟨S8192x1024, .f32⟩
  | 16 => ⟨S8192x1024, .f32⟩
  | 17 => ⟨S8192x1024, .f32⟩
  | 18 => ⟨S8192x1024, .f32⟩
  | 19 => ⟨S_, .f32⟩
  | 20 => ⟨S1024, .f32⟩
  | 21 => ⟨S1x1024, .f32⟩
  | 22 => ⟨S_, .f32⟩
  | 23 => ⟨S1024, .f32⟩
  | _ => ⟨S8192x1024, .f32⟩

abbrev hbmTy (i : Nat) : BufTy := match i / 128 with
  | 0 => hbmTy0_0 i
  | 1 => hbmTy0_1 i
  | _ => ⟨S8192x1024, .f32⟩

abbrev bufTy : (tb : Table) → Fin (tcTables nBuf tb) → BufTy
  | .hbm, ⟨i, _⟩ => hbmTy i
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_call0_v0 : Ref sig .tc := ⟨.hbm, 11, rfl⟩
abbrev main_call0_v1 : Ref sig .tc := ⟨.hbm, 12, rfl⟩
abbrev main_call0_cst : Ref sig .tc := ⟨.hbm, 13, rfl⟩
abbrev main_call0_v2 : Ref sig .tc := ⟨.hbm, 14, rfl⟩
abbrev main_call0_v3 : Ref sig .tc := ⟨.hbm, 15, rfl⟩
abbrev main_call0_cst_0 : Ref sig .tc := ⟨.hbm, 16, rfl⟩
abbrev main_call0_v4 : Ref sig .tc := ⟨.hbm, 17, rfl⟩
abbrev main_v3_2 : Ref sig .tc := ⟨.hbm, 18, rfl⟩
abbrev main_call0_cst_1 : Ref sig .tc := ⟨.hbm, 19, rfl⟩
abbrev main_call0_v6 : Ref sig .tc := ⟨.hbm, 20, rfl⟩
abbrev main_call0_v7 : Ref sig .tc := ⟨.hbm, 21, rfl⟩
abbrev main_v3_1 : Ref sig .tc := ⟨.hbm, 22, rfl⟩
abbrev main_v3_0 : Ref sig .tc := ⟨.hbm, 23, rfl⟩
abbrev main_v4 : Ref sig .tc := ⟨.hbm, 24, rfl⟩
abbrev main_cst : Ref sig .tc := ⟨.hbm, 25, rfl⟩
abbrev main_v5 : Ref sig .tc := ⟨.hbm, 26, rfl⟩
abbrev main_v6 : Ref sig .tc := ⟨.hbm, 27, rfl⟩
abbrev main_v7 : Ref sig .tc := ⟨.hbm, 28, rfl⟩
abbrev main_call1_v0 : Ref sig .tc := ⟨.hbm, 29, rfl⟩
abbrev main_call1_v1 : Ref sig .tc := ⟨.hbm, 30, rfl⟩
abbrev main_call1_v2 : Ref sig .tc := ⟨.hbm, 31, rfl⟩
abbrev main_v8 : Ref sig .tc := ⟨.hbm, 32, rfl⟩
abbrev main_v9 : Ref sig .tc := ⟨.hbm, 33, rfl⟩
abbrev main_cst_0 : Ref sig .tc := ⟨.hbm, 34, rfl⟩
abbrev main_v10 : Ref sig .tc := ⟨.hbm, 35, rfl⟩
abbrev main_v11 : Ref sig .tc := ⟨.hbm, 36, rfl⟩
abbrev main_v12 : Ref sig .tc := ⟨.hbm, 37, rfl⟩
abbrev main_v13 : Ref sig .tc := ⟨.hbm, 38, rfl⟩
abbrev main_v14 : Ref sig .tc := ⟨.hbm, 39, rfl⟩
abbrev main_v15 : Ref sig .tc := ⟨.hbm, 40, rfl⟩
abbrev main_cst_1 : Ref sig .tc := ⟨.hbm, 41, rfl⟩
abbrev main_v16 : Ref sig .tc := ⟨.hbm, 42, rfl⟩
abbrev main_v17 : Ref sig .tc := ⟨.hbm, 43, rfl⟩
abbrev main_cst_2 : Ref sig .tc := ⟨.hbm, 44, rfl⟩
abbrev main_v18 : Ref sig .tc := ⟨.hbm, 45, rfl⟩
abbrev main_v19 : Ref sig .tc := ⟨.hbm, 46, rfl⟩
abbrev main_v20 : Ref sig .tc := ⟨.hbm, 47, rfl⟩
abbrev main_v21 : Ref sig .tc := ⟨.hbm, 48, rfl⟩
abbrev main_v22 : Ref sig .tc := ⟨.hbm, 49, rfl⟩
abbrev main_cst_3 : Ref sig .tc := ⟨.hbm, 50, rfl⟩
abbrev main_v23 : Ref sig .tc := ⟨.hbm, 51, rfl⟩
abbrev main_v24 : Ref sig .tc := ⟨.hbm, 52, rfl⟩
abbrev main_cst_4 : Ref sig .tc := ⟨.hbm, 53, rfl⟩
abbrev main_v25 : Ref sig .tc := ⟨.hbm, 54, rfl⟩
abbrev main_v26 : Ref sig .tc := ⟨.hbm, 55, rfl⟩
abbrev main_cst_5 : Ref sig .tc := ⟨.hbm, 56, rfl⟩
abbrev main_v27 : Ref sig .tc := ⟨.hbm, 57, rfl⟩
abbrev main_v28 : Ref sig .tc := ⟨.hbm, 58, rfl⟩
abbrev main_v29 : Ref sig .tc := ⟨.hbm, 59, rfl⟩
abbrev main_v30 : Ref sig .tc := ⟨.hbm, 60, rfl⟩
abbrev main_cst_6 : Ref sig .tc := ⟨.hbm, 61, rfl⟩
abbrev main_v31 : Ref sig .tc := ⟨.hbm, 62, rfl⟩
abbrev main_v32 : Ref sig .tc := ⟨.hbm, 63, rfl⟩
abbrev main_v33 : Ref sig .tc := ⟨.hbm, 64, rfl⟩
abbrev main_v34 : Ref sig .tc := ⟨.hbm, 65, rfl⟩
abbrev main_cst_7 : Ref sig .tc := ⟨.hbm, 66, rfl⟩
abbrev main_v35 : Ref sig .tc := ⟨.hbm, 67, rfl⟩
abbrev main_v36 : Ref sig .tc := ⟨.hbm, 68, rfl⟩
abbrev main_v37 : Ref sig .tc := ⟨.hbm, 69, rfl⟩
abbrev main_v38 : Ref sig .tc := ⟨.hbm, 70, rfl⟩
abbrev main_v39 : Ref sig .tc := ⟨.hbm, 71, rfl⟩
abbrev main_v40 : Ref sig .tc := ⟨.hbm, 72, rfl⟩
abbrev main_v41 : Ref sig .tc := ⟨.hbm, 73, rfl⟩
abbrev main_v42 : Ref sig .tc := ⟨.hbm, 74, rfl⟩
abbrev main_v43 : Ref sig .tc := ⟨.hbm, 75, rfl⟩
abbrev main_v44 : Ref sig .tc := ⟨.hbm, 76, rfl⟩
abbrev main_v45 : Ref sig .tc := ⟨.hbm, 77, rfl⟩
abbrev main_v46 : Ref sig .tc := ⟨.hbm, 78, rfl⟩
abbrev main_cst_8 : Ref sig .tc := ⟨.hbm, 79, rfl⟩
abbrev main_v47 : Ref sig .tc := ⟨.hbm, 80, rfl⟩
abbrev main_v48 : Ref sig .tc := ⟨.hbm, 81, rfl⟩
abbrev main_cst_9 : Ref sig .tc := ⟨.hbm, 82, rfl⟩
abbrev main_v49 : Ref sig .tc := ⟨.hbm, 83, rfl⟩
abbrev main_cst_10 : Ref sig .tc := ⟨.hbm, 84, rfl⟩
abbrev main_v50 : Ref sig .tc := ⟨.hbm, 85, rfl⟩
abbrev main_v51 : Ref sig .tc := ⟨.hbm, 86, rfl⟩
abbrev main_cst_11 : Ref sig .tc := ⟨.hbm, 87, rfl⟩
abbrev main_v52 : Ref sig .tc := ⟨.hbm, 88, rfl⟩
abbrev main_cst_12 : Ref sig .tc := ⟨.hbm, 89, rfl⟩
abbrev main_v53 : Ref sig .tc := ⟨.hbm, 90, rfl⟩
abbrev main_cst_13 : Ref sig .tc := ⟨.hbm, 91, rfl⟩
abbrev main_cst_14 : Ref sig .tc := ⟨.hbm, 92, rfl⟩
abbrev main_v54 : Ref sig .tc := ⟨.hbm, 93, rfl⟩
abbrev main_v55 : Ref sig .tc := ⟨.hbm, 94, rfl⟩
abbrev main_cst_15 : Ref sig .tc := ⟨.hbm, 95, rfl⟩
abbrev main_v56 : Ref sig .tc := ⟨.hbm, 96, rfl⟩
abbrev main_v57 : Ref sig .tc := ⟨.hbm, 97, rfl⟩
abbrev main_v58 : Ref sig .tc := ⟨.hbm, 98, rfl⟩
abbrev main_v59 : Ref sig .tc := ⟨.hbm, 99, rfl⟩
abbrev main_cst_16 : Ref sig .tc := ⟨.hbm, 100, rfl⟩
abbrev main_v60 : Ref sig .tc := ⟨.hbm, 101, rfl⟩
abbrev main_v61 : Ref sig .tc := ⟨.hbm, 102, rfl⟩
abbrev main_cst_17 : Ref sig .tc := ⟨.hbm, 103, rfl⟩
abbrev main_v62 : Ref sig .tc := ⟨.hbm, 104, rfl⟩
abbrev main_v63 : Ref sig .tc := ⟨.hbm, 105, rfl⟩
abbrev main_cst_18 : Ref sig .tc := ⟨.hbm, 106, rfl⟩
abbrev main_v64 : Ref sig .tc := ⟨.hbm, 107, rfl⟩
abbrev main_v65 : Ref sig .tc := ⟨.hbm, 108, rfl⟩
abbrev main_v66 : Ref sig .tc := ⟨.hbm, 109, rfl⟩
abbrev main_v67 : Ref sig .tc := ⟨.hbm, 110, rfl⟩
abbrev main_cst_19 : Ref sig .tc := ⟨.hbm, 111, rfl⟩
abbrev main_v68 : Ref sig .tc := ⟨.hbm, 112, rfl⟩
abbrev main_v69 : Ref sig .tc := ⟨.hbm, 113, rfl⟩
abbrev main_cst_20 : Ref sig .tc := ⟨.hbm, 114, rfl⟩
abbrev main_v70 : Ref sig .tc := ⟨.hbm, 115, rfl⟩
abbrev main_v71 : Ref sig .tc := ⟨.hbm, 116, rfl⟩
abbrev main_v72 : Ref sig .tc := ⟨.hbm, 117, rfl⟩
abbrev main_v73 : Ref sig .tc := ⟨.hbm, 118, rfl⟩
abbrev main_v74 : Ref sig .tc := ⟨.hbm, 119, rfl⟩
abbrev main_v75 : Ref sig .tc := ⟨.hbm, 120, rfl⟩
abbrev main_cst_21 : Ref sig .tc := ⟨.hbm, 121, rfl⟩
abbrev main_v76 : Ref sig .tc := ⟨.hbm, 122, rfl⟩
abbrev main_v77 : Ref sig .tc := ⟨.hbm, 123, rfl⟩
abbrev main_cst_22 : Ref sig .tc := ⟨.hbm, 124, rfl⟩
abbrev main_v78 : Ref sig .tc := ⟨.hbm, 125, rfl⟩
abbrev main_v79 : Ref sig .tc := ⟨.hbm, 126, rfl⟩
abbrev main_cst_23 : Ref sig .tc := ⟨.hbm, 127, rfl⟩
abbrev main_v80 : Ref sig .tc := ⟨.hbm, 128, rfl⟩
abbrev main_v81 : Ref sig .tc := ⟨.hbm, 129, rfl⟩
abbrev main_v82 : Ref sig .tc := ⟨.hbm, 130, rfl⟩
abbrev main_v83 : Ref sig .tc := ⟨.hbm, 131, rfl⟩
abbrev main_cst_24 : Ref sig .tc := ⟨.hbm, 132, rfl⟩
abbrev main_v84 : Ref sig .tc := ⟨.hbm, 133, rfl⟩
abbrev main_v85 : Ref sig .tc := ⟨.hbm, 134, rfl⟩
abbrev main_v86 : Ref sig .tc := ⟨.hbm, 135, rfl⟩
abbrev main_v87 : Ref sig .tc := ⟨.hbm, 136, rfl⟩
abbrev main_cst_25 : Ref sig .tc := ⟨.hbm, 137, rfl⟩
abbrev main_v88 : Ref sig .tc := ⟨.hbm, 138, rfl⟩
abbrev main_v89 : Ref sig .tc := ⟨.hbm, 139, rfl⟩
abbrev main_cst_26 : Ref sig .tc := ⟨.hbm, 140, rfl⟩
abbrev main_v90 : Ref sig .tc := ⟨.hbm, 141, rfl⟩
abbrev main_v91 : Ref sig .tc := ⟨.hbm, 142, rfl⟩
abbrev main_v92 : Ref sig .tc := ⟨.hbm, 143, rfl⟩
abbrev main_v93 : Ref sig .tc := ⟨.hbm, 144, rfl⟩
abbrev main_v94 : Ref sig .tc := ⟨.hbm, 145, rfl⟩
abbrev main_v95 : Ref sig .tc := ⟨.hbm, 146, rfl⟩
abbrev main_cst_27 : Ref sig .tc := ⟨.hbm, 147, rfl⟩
abbrev main_v96 : Ref sig .tc := ⟨.hbm, 148, rfl⟩
abbrev main_v97 : Ref sig .tc := ⟨.hbm, 149, rfl⟩
abbrev main_cst_28 : Ref sig .tc := ⟨.hbm, 150, rfl⟩
abbrev main_v98 : Ref sig .tc := ⟨.hbm, 151, rfl⟩

abbrev nD : Nat := 1
abbrev τ : Topo := Topo.v7x

variable {F : FTy → Type} [FloatOps F]
-- ==== Table.lean ====
abbrev S32x8 : Shape := ⟨2, ![32, 8]⟩
abbrev S8x128x256 : Shape := ⟨3, ![8, 128, 256]⟩
abbrev S128 : Shape := ⟨1, ![128]⟩
abbrev S128x1 : Shape := ⟨2, ![128, 1]⟩
abbrev S256 : Shape := ⟨1, ![256]⟩
abbrev S1x256 : Shape := ⟨2, ![1, 256]⟩
abbrev S_ : Shape := ⟨0, ![]⟩
abbrev S128x256 : Shape := ⟨2, ![128, 256]⟩
abbrev S8x1x128 : Shape := ⟨3, ![8, 1, 128]⟩
abbrev S1x128x256 : Shape := ⟨3, ![1, 128, 256]⟩
abbrev S1x1x128 : Shape := ⟨3, ![1, 1, 128]⟩
abbrev S1x128 : Shape := ⟨2, ![1, 128]⟩
abbrev S1 : Shape := ⟨1, ![1]⟩
abbrev S1x1 : Shape := ⟨2, ![1, 1]⟩
abbrev S8x1x32 : Shape := ⟨3, ![8, 1, 32]⟩
abbrev S8x32 : Shape := ⟨2, ![8, 32]⟩

abbrev nBuf : Space → Nat
  | .hbm => 44
  | .vmem => 5
  | .smem => 0
  | _ => 0

abbrev bufTy : (tb : Table) → Fin (tcTables nBuf tb) → BufTy
  | .hbm, ⟨0, _⟩ => ⟨S32x8, .f32⟩
  | .hbm, ⟨1, _⟩ => ⟨S8x128x256, .f32⟩
  | .hbm, ⟨2, _⟩ => ⟨S128, .i32⟩
  | .hbm, ⟨3, _⟩ => ⟨S128x1, .i32⟩
  | .hbm, ⟨4, _⟩ => ⟨S256, .i32⟩
  | .hbm, ⟨5, _⟩ => ⟨S1x256, .i32⟩
  | .hbm, ⟨6, _⟩ => ⟨S_, .i32⟩
  | .hbm, ⟨7, _⟩ => ⟨S128x1, .i32⟩
  | .hbm, ⟨8, _⟩ => ⟨S128x1, .i32⟩
  | .hbm, ⟨9, _⟩ => ⟨S128x256, .i32⟩
  | .hbm, ⟨10, _⟩ => ⟨S128x256, .i32⟩
  | .hbm, ⟨11, _⟩ => ⟨S128x256, .i32⟩
  | .hbm, ⟨12, _⟩ => ⟨S_, .i32⟩
  | .hbm, ⟨13, _⟩ => ⟨S128x256, .i32⟩
  | .hbm, ⟨14, _⟩ => ⟨S128x256, .i32⟩
  | .hbm, ⟨15, _⟩ => ⟨S_, .i32⟩
  | .hbm, ⟨16, _⟩ => ⟨S128x256, .i32⟩
  | .hbm, ⟨17, _⟩ => ⟨S128x256, .i32⟩
  | .hbm, ⟨18, _⟩ => ⟨S128x256, .f32⟩
  | .hbm, ⟨19, _⟩ => ⟨S_, .f32⟩
  | .hbm, ⟨20, _⟩ => ⟨S128x256, .f32⟩
  | .hbm, ⟨21, _⟩ => ⟨S128x256, .f32⟩
  | .hbm, ⟨22, _⟩ => ⟨S128x256, .f32⟩
  | .hbm, ⟨23, _⟩ => ⟨S_, .f32⟩
  | .hbm, ⟨24, _⟩ => ⟨S128x256, .f32⟩
  | .hbm, ⟨25, _⟩ => ⟨S128x256, .f32⟩
  | .hbm, ⟨26, _⟩ => ⟨S_, .f32⟩
  | .hbm, ⟨27, _⟩ => ⟨S128x256, .f32⟩
  | .hbm, ⟨28, _⟩ => ⟨S128x256, .f32⟩
  | .hbm, ⟨29, _⟩ => ⟨S128x256, .i32⟩
  | .hbm, ⟨30, _⟩ => ⟨S_, .i32⟩
  | .hbm, ⟨31, _⟩ => ⟨S128x256, .i32⟩
  | .hbm, ⟨32, _⟩ => ⟨S128x256, .i32⟩
  | .hbm, ⟨33, _⟩ => ⟨S_, .i32⟩
  | .hbm, ⟨34, _⟩ => ⟨S128x256, .i32⟩
  | .hbm, ⟨35, _⟩ => ⟨S128x256, .i32⟩
  | .hbm, ⟨36, _⟩ => ⟨S_, .i32⟩
  | .hbm, ⟨37, _⟩ => ⟨S128x256, .i32⟩
  | .hbm, ⟨38, _⟩ => ⟨S128x256, .i1⟩
  | .hbm, ⟨39, _⟩ => ⟨S128x256, .i32⟩
  | .hbm, ⟨40, _⟩ => ⟨S8x1x128, .f32⟩
  | .hbm, ⟨41, _⟩ => ⟨S8x1x32, .f32⟩
  | .hbm, ⟨42, _⟩ => ⟨S8x32, .f32⟩
  | .hbm, ⟨43, _⟩ => ⟨S32x8, .f32⟩
  | .local _ .vmem, ⟨0, _⟩ => ⟨S1x128x256, .f32⟩
  | .local _ .vmem, ⟨1, _⟩ => ⟨S1x128x256, .f32⟩
  | .local _ .vmem, ⟨2, _⟩ => ⟨S128x256, .i32⟩
  | .local _ .vmem, ⟨3, _⟩ => ⟨S1x1x128, .f32⟩
  | .local _ .vmem, ⟨4, _⟩ => ⟨S1x1x128, .f32⟩
  | _, _ => ⟨S32x8, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_c : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_c_0 : Ref sig .tc := ⟨.hbm, 12, rfl⟩
abbrev main_v9 : Ref sig .tc := ⟨.hbm, 13, rfl⟩
abbrev main_v10 : Ref sig .tc := ⟨.hbm, 14, rfl⟩
abbrev main_c_1 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_cst : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_cst_2 : Ref sig .tc := ⟨.hbm, 23, rfl⟩
abbrev main_v17 : Ref sig .tc := ⟨.hbm, 24, rfl⟩
abbrev main_v18 : Ref sig .tc := ⟨.hbm, 25, rfl⟩
abbrev main_cst_3 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_c_4 : Ref sig .tc := ⟨.hbm, 30, rfl⟩
abbrev main_v22 : Ref sig .tc := ⟨.hbm, 31, rfl⟩
abbrev main_v23 : Ref sig .tc := ⟨.hbm, 32, rfl⟩
abbrev main_c_5 : Ref sig .tc := ⟨.hbm, 33, rfl⟩
abbrev main_v24 : Ref sig .tc := ⟨.hbm, 34, rfl⟩
abbrev main_v25 : Ref sig .tc := ⟨.hbm, 35, rfl⟩
abbrev main_c_6 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![8], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x128x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x256 .i32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S1x1x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== TableRefIdeal.lean ====
abbrev S32x8 : Shape := ⟨2, ![32, 8]⟩
abbrev S8x128x256 : Shape := ⟨3, ![8, 128, 256]⟩
abbrev S128 : Shape := ⟨1, ![128]⟩
abbrev S128x1 : Shape := ⟨2, ![128, 1]⟩
abbrev S_ : Shape := ⟨0, ![]⟩
abbrev S256 : Shape := ⟨1, ![256]⟩
abbrev S1x256 : Shape := ⟨2, ![1, 256]⟩
abbrev S128x256 : Shape := ⟨2, ![128, 256]⟩
abbrev S128x256x1 : Shape := ⟨3, ![128, 256, 1]⟩
abbrev S128x256x8 : Shape := ⟨3, ![128, 256, 8]⟩

abbrev nBuf : Space → Nat
  | .hbm => 54
  | .vmem => 0
  | .smem => 0
  | _ => 0

abbrev bufTy : (tb : Table) → Fin (tcTables nBuf tb) → BufTy
  | .hbm, ⟨0, _⟩ => ⟨S32x8, .f32⟩
  | .hbm, ⟨1, _⟩ => ⟨S8x128x256, .f32⟩
  | .hbm, ⟨2, _⟩ => ⟨S128, .i32⟩
  | .hbm, ⟨3, _⟩ => ⟨S128x1, .i32⟩
  | .hbm, ⟨4, _⟩ => ⟨S_, .i32⟩
  | .hbm, ⟨5, _⟩ => ⟨S128x1, .i32⟩
  | .hbm, ⟨6, _⟩ => ⟨S128x1, .i32⟩
  | .hbm, ⟨7, _⟩ => ⟨S256, .i32⟩
  | .hbm, ⟨8, _⟩ => ⟨S1x256, .i32⟩
  | .hbm, ⟨9, _⟩ => ⟨S128x256, .i32⟩
  | .hbm, ⟨10, _⟩ => ⟨S128x256, .i32⟩
  | .hbm, ⟨11, _⟩ => ⟨S128x256, .i32⟩
  | .hbm, ⟨12, _⟩ => ⟨S_, .i32⟩
  | .hbm, ⟨13, _⟩ => ⟨S128x256, .i32⟩
  | .hbm, ⟨14, _⟩ => ⟨S128x256, .i32⟩
  | .hbm, ⟨15, _⟩ => ⟨S_, .i32⟩
  | .hbm, ⟨16, _⟩ => ⟨S128x256, .i32⟩
  | .hbm, ⟨17, _⟩ => ⟨S128x256, .i32⟩
  | .hbm, ⟨18, _⟩ => ⟨S128x256, .f32⟩
  | .hbm, ⟨19, _⟩ => ⟨S_, .f32⟩
  | .hbm, ⟨20, _⟩ => ⟨S128x256, .f32⟩
  | .hbm, ⟨21, _⟩ => ⟨S128x256, .f32⟩
  | .hbm, ⟨22, _⟩ => ⟨S128x256, .f32⟩
  | .hbm, ⟨23, _⟩ => ⟨S_, .f32⟩
  | .hbm, ⟨24, _⟩ => ⟨S128x256, .f32⟩
  | .hbm, ⟨25, _⟩ => ⟨S128x256, .f32⟩
  | .hbm, ⟨26, _⟩ => ⟨S_, .f32⟩
  | .hbm, ⟨27, _⟩ => ⟨S128x256, .f32⟩
  | .hbm, ⟨28, _⟩ => ⟨S128x256, .f32⟩
  | .hbm, ⟨29, _⟩ => ⟨S128x256, .i32⟩
  | .hbm, ⟨30, _⟩ => ⟨S_, .i32⟩
  | .hbm, ⟨31, _⟩ => ⟨S128x256, .i32⟩
  | .hbm, ⟨32, _⟩ => ⟨S128x256, .i32⟩
  | .hbm, ⟨33, _⟩ => ⟨S_, .i32⟩
  | .hbm, ⟨34, _⟩ => ⟨S128x256, .i32⟩
  | .hbm, ⟨35, _⟩ => ⟨S128x256, .i32⟩
  | .hbm, ⟨36, _⟩ => ⟨S_, .i32⟩
  | .hbm, ⟨37, _⟩ => ⟨S128x256, .i32⟩
  | .hbm, ⟨38, _⟩ => ⟨S128x256, .i1⟩
  | .hbm, ⟨39, _⟩ => ⟨S128x256, .i32⟩
  | .hbm, ⟨40, _⟩ => ⟨S_, .i32⟩
  | .hbm, ⟨41, _⟩ => ⟨S128x256, .i32⟩
  | .hbm, ⟨42, _⟩ => ⟨S128x256, .i1⟩
  | .hbm, ⟨43, _⟩ => ⟨S_, .i32⟩
  | .hbm, ⟨44, _⟩ => ⟨S128x256, .i32⟩
  | .hbm, ⟨45, _⟩ => ⟨S128x256, .i32⟩
  | .hbm, ⟨46, _⟩ => ⟨S128x256, .i32⟩
  | .hbm, ⟨47, _⟩ => ⟨S128x256x1, .i32⟩
  | .hbm, ⟨48, _⟩ => ⟨S128x256x8, .f32⟩
  | .hbm, ⟨49, _⟩ => ⟨S8x128x256, .f32⟩
  | .hbm, ⟨50, _⟩ => ⟨S128x256x8, .f32⟩
  | .hbm, ⟨51, _⟩ => ⟨S_, .f32⟩
  | .hbm, ⟨52, _⟩ => ⟨S32x8, .f32⟩
  | .hbm, ⟨53, _⟩ => ⟨S32x8, .f32⟩
  | _, _ => ⟨S32x8, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_c : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_c_0 : Ref sig .tc := ⟨.hbm, 12, rfl⟩
abbrev main_v9 : Ref sig .tc := ⟨.hbm, 13, rfl⟩
abbrev main_v10 : Ref sig .tc := ⟨.hbm, 14, rfl⟩
abbrev main_c_1 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_cst : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_cst_2 : Ref sig .tc := ⟨.hbm, 23, rfl⟩
abbrev main_v17 : Ref sig .tc := ⟨.hbm, 24, rfl⟩
abbrev main_v18 : Ref sig .tc := ⟨.hbm, 25, rfl⟩
abbrev main_cst_3 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_c_4 : Ref sig .tc := ⟨.hbm, 30, rfl⟩
abbrev main_v22 : Ref sig .tc := ⟨.hbm, 31, rfl⟩
abbrev main_v23 : Ref sig .tc := ⟨.hbm, 32, rfl⟩
abbrev main_c_5 : Ref sig .tc := ⟨.hbm, 33, rfl⟩
abbrev main_v24 : Ref sig .tc := ⟨.hbm, 34, rfl⟩
abbrev main_v25 : Ref sig .tc := ⟨.hbm, 35, rfl⟩
abbrev main_c_6 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_c_7 : Ref sig .tc := ⟨.hbm, 40, rfl⟩
abbrev main_v29 : Ref sig .tc := ⟨.hbm, 41, rfl⟩
abbrev main_v30 : Ref sig .tc := ⟨.hbm, 42, rfl⟩
abbrev main_c_8 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩
abbrev main_cst_9 : Ref sig .tc := ⟨.hbm, 51, rfl⟩
abbrev main_v38 : Ref sig .tc := ⟨.hbm, 52, rfl⟩
abbrev main_v39 : Ref sig .tc := ⟨.hbm, 53, rfl⟩

abbrev nD : Nat := 1
abbrev τ : Topo := Topo.v7x

variable {F : FTy → Type} [FloatOps F]
-- ==== Back.lean ====
abbrev S8192x1024 : Shape := ⟨2, ![8192, 1024]⟩
abbrev S1024x5632 : Shape := ⟨2, ![1024, 5632]⟩
abbrev S2816x1024 : Shape := ⟨2, ![2816, 1024]⟩
abbrev S1024 : Shape := ⟨1, ![1024]⟩
abbrev S_ : Shape := ⟨0, ![]⟩
abbrev S1x1024 : Shape := ⟨2, ![1, 1024]⟩
abbrev S8192 : Shape := ⟨1, ![8192]⟩
abbrev S8192x1 : Shape := ⟨2, ![8192, 1]⟩
abbrev S8192x5632 : Shape := ⟨2, ![8192, 5632]⟩
abbrev S8192x2816 : Shape := ⟨2, ![8192, 2816]⟩
abbrev S5632x1024 : Shape := ⟨2, ![5632, 1024]⟩
abbrev S8x1024 : Shape := ⟨2, ![8, 1024]⟩
abbrev S256x1024 : Shape := ⟨2, ![256, 1024]⟩
abbrev S256x2816 : Shape := ⟨2, ![256, 2816]⟩
abbrev S32x8x1024 : Shape := ⟨3, ![32, 8, 1024]⟩
abbrev S256 : Shape := ⟨1, ![256]⟩
abbrev S256x1 : Shape := ⟨2, ![256, 1]⟩

abbrev nBuf : Space → Nat
  | .hbm => 108
  | .vmem => 32
  | .smem => 0
  | _ => 0

abbrev bufTy : (tb : Table) → Fin (tcTables nBuf tb) → BufTy
  | .hbm, ⟨0, _⟩ => ⟨S8192x1024, .f32⟩
  | .hbm, ⟨1, _⟩ => ⟨S8192x1024, .f32⟩
  | .hbm, ⟨2, _⟩ => ⟨S1024x5632, .f32⟩
  | .hbm, ⟨3, _⟩ => ⟨S2816x1024, .f32⟩
  | .hbm, ⟨4, _⟩ => ⟨S1024, .f32⟩
  | .hbm, ⟨5, _⟩ => ⟨S1024, .f32⟩
  | .hbm, ⟨6, _⟩ => ⟨S1024, .f32⟩
  | .hbm, ⟨7, _⟩ => ⟨S1024, .f32⟩
  | .hbm, ⟨8, _⟩ => ⟨S1024, .f32⟩
  | .hbm, ⟨9, _⟩ => ⟨S8192x1024, .f32⟩
  | .hbm, ⟨10, _⟩ => ⟨S8192x1024, .f32⟩
  | .hbm, ⟨11, _⟩ => ⟨S_, .f32⟩
  | .hbm, ⟨12, _⟩ => ⟨S8192x1024, .f32⟩
  | .hbm, ⟨13, _⟩ => ⟨S8192x1024, .f32⟩
  | .hbm, ⟨14, _⟩ => ⟨S1x1024, .f32⟩
  | .hbm, ⟨15, _⟩ => ⟨S8192x1024, .f32⟩
  | .hbm, ⟨16, _⟩ => ⟨S8192x1024, .f32⟩
  | .hbm, ⟨17, _⟩ => ⟨S8192x1024, .f32⟩
  | .hbm, ⟨18, _⟩ => ⟨S_, .f32⟩
  | .hbm, ⟨19, _⟩ => ⟨S8192, .f32⟩
  | .hbm, ⟨20, _⟩ => ⟨S8192x1, .f32⟩
  | .hbm, ⟨21, _⟩ => ⟨S_, .f32⟩
  | .hbm, ⟨22, _⟩ => ⟨S8192x1, .f32⟩
  | .hbm, ⟨23, _⟩ => ⟨S8192x1, .f32⟩
  | .hbm, ⟨24, _⟩ => ⟨S8192x1024, .f32⟩
  | .hbm, ⟨25, _⟩ => ⟨S8192x1024, .f32⟩
  | .hbm, ⟨26, _⟩ => ⟨S8192x1024, .f32⟩
  | .hbm, ⟨27, _⟩ => ⟨S_, .f32⟩
  | .hbm, ⟨28, _⟩ => ⟨S8192, .f32⟩
  | .hbm, ⟨29, _⟩ => ⟨S8192x1, .f32⟩
  | .hbm, ⟨30, _⟩ => ⟨S_, .f32⟩
  | .hbm, ⟨31, _⟩ => ⟨S8192x1, .f32⟩
  | .hbm, ⟨32, _⟩ => ⟨S8192x1, .f32⟩
  | .hbm, ⟨33, _⟩ => ⟨S8192x1024, .f32⟩
  | .hbm, ⟨34, _⟩ => ⟨S8192x1024, .f32⟩
  | .hbm, ⟨35, _⟩ => ⟨S_, .f32⟩
  | .hbm, ⟨36, _⟩ => ⟨S8192x1, .f32⟩
  | .hbm, ⟨37, _⟩ => ⟨S8192x1, .f32⟩
  | .hbm, ⟨38, _⟩ => ⟨S8192x1, .f32⟩
  | .hbm, ⟨39, _⟩ => ⟨S8192x1024, .f32⟩
  | .hbm, ⟨40, _⟩ => ⟨S8192x1024, .f32⟩
  | .hbm, ⟨41, _⟩ => ⟨S1x1024, .f32⟩
  | .hbm, ⟨42, _⟩ => ⟨S8192x1024, .f32⟩
  | .hbm, ⟨43, _⟩ => ⟨S8192x1024, .f32⟩
  | .hbm, ⟨44, _⟩ => ⟨S1x1024, .f32⟩
  | .hbm, ⟨45, _⟩ => ⟨S8192x1024, .f32⟩
  | .hbm, ⟨46, _⟩ => ⟨S8192x1024, .f32⟩
  | .hbm, ⟨47, _⟩ => ⟨S_, .f32⟩
  | .hbm, ⟨48, _⟩ => ⟨S1024, .f32⟩
  | .hbm, ⟨49, _⟩ => ⟨S1024, .f32⟩
  | .hbm, ⟨50, _⟩ => ⟨S1x1024, .f32⟩
  | .hbm, ⟨51, _⟩ => ⟨S8192x1024, .f32⟩
  | .hbm, ⟨52, _⟩ => ⟨S8192x1024, .f32⟩
  | .hbm, ⟨53, _⟩ => ⟨S1x1024, .f32⟩
  | .hbm, ⟨54, _⟩ => ⟨S8192x1024, .f32⟩
  | .hbm, ⟨55, _⟩ => ⟨S8192x1024, .f32⟩
  | .hbm, ⟨56, _⟩ => ⟨S8192x5632, .f32⟩
  | .hbm, ⟨57, _⟩ => ⟨S8192x2816, .f32⟩
  | .hbm, ⟨58, _⟩ => ⟨S8192x2816, .f32⟩
  | .hbm, ⟨59, _⟩ => ⟨S8192x2816, .f32⟩
  | .hbm, ⟨60, _⟩ => ⟨S8192x2816, .f32⟩
  | .hbm, ⟨61, _⟩ => ⟨S_, .f32⟩
  | .hbm, ⟨62, _⟩ => ⟨S8192x2816, .f32⟩
  | .hbm, ⟨63, _⟩ => ⟨S8192x2816, .f32⟩
  | .hbm, ⟨64, _⟩ => ⟨S_, .f32⟩
  | .hbm, ⟨65, _⟩ => ⟨S8192x2816, .f32⟩
  | .hbm, ⟨66, _⟩ => ⟨S8192x2816, .f32⟩
  | .hbm, ⟨67, _⟩ => ⟨S_, .f32⟩
  | .hbm, ⟨68, _⟩ => ⟨S8192x2816, .f32⟩
  | .hbm, ⟨69, _⟩ => ⟨S8192x2816, .f32⟩
  | .hbm, ⟨70, _⟩ => ⟨S8192x2816, .f32⟩
  | .hbm, ⟨71, _⟩ => ⟨S_, .f32⟩
  | .hbm, ⟨72, _⟩ => ⟨S8192x2816, .f32⟩
  | .hbm, ⟨73, _⟩ => ⟨S8192x2816, .f32⟩
  | .hbm, ⟨74, _⟩ => ⟨S8192x2816, .f32⟩
  | .hbm, ⟨75, _⟩ => ⟨S8192x2816, .f32⟩
  | .hbm, ⟨76, _⟩ => ⟨S8192x2816, .f32⟩
  | .hbm, ⟨77, _⟩ => ⟨S8192x1024, .bf16⟩
  | .hbm, ⟨78, _⟩ => ⟨S2816x1024, .bf16⟩
  | .hbm, ⟨79, _⟩ => ⟨S8192x2816, .bf16⟩
  | .hbm, ⟨80, _⟩ => ⟨S8192x2816, .bf16⟩
  | .hbm, ⟨81, _⟩ => ⟨S5632x1024, .f32⟩
  | .hbm, ⟨82, _⟩ => ⟨S5632x1024, .bf16⟩
  | .hbm, ⟨83, _⟩ => ⟨S1x1024, .f32⟩
  | .hbm, ⟨84, _⟩ => ⟨S1x1024, .f32⟩
  | .hbm, ⟨85, _⟩ => ⟨S1x1024, .f32⟩
  | .hbm, ⟨86, _⟩ => ⟨S8192x2816, .bf16⟩
  | .hbm, ⟨87, _⟩ => ⟨S8192x2816, .bf16⟩
  | .hbm, ⟨88, _⟩ => ⟨S8192x1024, .f32⟩
  | .hbm, ⟨89, _⟩ => ⟨S8192x1024, .bf16⟩
  | .hbm, ⟨90, _⟩ => ⟨S8x1024, .f32⟩
  | .hbm, ⟨91, _⟩ => ⟨S8x1024, .f32⟩
  | .hbm, ⟨92, _⟩ => ⟨S8x1024, .f32⟩
  | .hbm, ⟨93, _⟩ => ⟨S8x1024, .f32⟩
  | .hbm, ⟨94, _⟩ => ⟨S8x1024, .f32⟩
  | .hbm, ⟨95, _⟩ => ⟨S8192x2816, .f32⟩
  | .hbm, ⟨96, _⟩ => ⟨S8192x2816, .f32⟩
  | .hbm, ⟨97, _⟩ => ⟨S8192x1024, .f32⟩
  | .hbm, ⟨98, _⟩ => ⟨S_, .f32⟩
  | .hbm, ⟨99, _⟩ => ⟨S1024, .f32⟩
  | .hbm, ⟨100, _⟩ => ⟨S_, .f32⟩
  | .hbm, ⟨101, _⟩ => ⟨S1024, .f32⟩
  | .hbm, ⟨102, _⟩ => ⟨S_, .f32⟩
  | .hbm, ⟨103, _⟩ => ⟨S1024, .f32⟩
  | .hbm, ⟨104, _⟩ => ⟨S_, .f32⟩
  | .hbm, ⟨105, _⟩ => ⟨S1024, .f32⟩
  | .hbm, ⟨106, _⟩ => ⟨S_, .f32⟩
  | .hbm, ⟨107, _⟩ => ⟨S1024, .f32⟩
  | .local _ .vmem, ⟨0, _⟩ => ⟨S256x1024, .bf16⟩
  | .local _ .vmem, ⟨1, _⟩ => ⟨S256x1024, .bf16⟩
  | .local _ .vmem, ⟨2, _⟩ => ⟨S2816x1024, .bf16⟩
  | .local _ .vmem, ⟨3, _⟩ => ⟨S256x2816, .bf16⟩
  | .local _ .vmem, ⟨4, _⟩ => ⟨S256x2816, .bf16⟩
  | .local _ .vmem, ⟨5, _⟩ => ⟨S256x2816, .bf16⟩
  | .local _ .vmem, ⟨6, _⟩ => ⟨S256x2816, .bf16⟩
  | .local _ .vmem, ⟨7, _⟩ => ⟨S5632x1024, .bf16⟩
  | .local _ .vmem, ⟨8, _⟩ => ⟨S256x1024, .f32⟩
  | .local _ .vmem, ⟨9, _⟩ => ⟨S256x1024, .f32⟩
  | .local _ .vmem, ⟨10, _⟩ => ⟨S256x1024, .f32⟩
  | .local _ .vmem, ⟨11, _⟩ => ⟨S256x1024, .f32⟩
  | .local _ .vmem, ⟨12, _⟩ => ⟨S256x1024, .f32⟩
  | .local _ .vmem, ⟨13, _⟩ => ⟨S256x1024, .f32⟩
  | .local _ .vmem, ⟨14, _⟩ => ⟨S256x1024, .f32⟩
  | .local _ .vmem, ⟨15, _⟩ => ⟨S256x1024, .f32⟩
  | .local _ .vmem, ⟨16, _⟩ => ⟨S1x1024, .f32⟩
  | .local _ .vmem, ⟨17, _⟩ => ⟨S1x1024, .f32⟩
  | .local _ .vmem, ⟨18, _⟩ => ⟨S1x1024, .f32⟩
  | .local _ .vmem, ⟨19, _⟩ => ⟨S256x2816, .bf16⟩
  | .local _ .vmem, ⟨20, _⟩ => ⟨S256x2816, .bf16⟩
  | .local _ .vmem, ⟨21, _⟩ => ⟨S256x2816, .bf16⟩
  | .local _ .vmem, ⟨22, _⟩ => ⟨S256x2816, .bf16⟩
  | .local _ .vmem, ⟨23, _⟩ => ⟨S256x1024, .f32⟩
  | .local _ .vmem, ⟨24, _⟩ => ⟨S256x1024, .f32⟩
  | .local _ .vmem, ⟨25, _⟩ => ⟨S256x1024, .bf16⟩
  | .local _ .vmem, ⟨26, _⟩ => ⟨S256x1024, .bf16⟩
  | .local _ .vmem, ⟨27, _⟩ => ⟨S8x1024, .f32⟩
  | .local _ .vmem, ⟨28, _⟩ => ⟨S8x1024, .f32⟩
  | .local _ .vmem, ⟨29, _⟩ => ⟨S8x1024, .f32⟩
  | .local _ .vmem, ⟨30, _⟩ => ⟨S8x1024, .f32⟩
  | .local _ .vmem, ⟨31, _⟩ => ⟨S8x1024, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | _, _ => false

abbrev semScoped : Fin 0 → Bool
  | ⟨_, h⟩ => absurd h (Nat.not_lt_zero _)

abbrev dmaSemScoped : Fin 32 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | _ => false

abbrev sig : RefSig :=
  ofTc nBuf bufTy 0 32 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_cst : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_cst_0 : Ref sig .tc := ⟨.hbm, 18, rfl⟩
abbrev main_v6 : Ref sig .tc := ⟨.hbm, 19, rfl⟩
abbrev main_v7 : Ref sig .tc := ⟨.hbm, 20, rfl⟩
abbrev main_cst_1 : Ref sig .tc := ⟨.hbm, 21, rfl⟩
abbrev main_v8 : Ref sig .tc := ⟨.hbm, 22, rfl⟩
abbrev main_v9 : Ref sig .tc := ⟨.hbm, 23, rfl⟩
abbrev main_v10 : Ref sig .tc := ⟨.hbm, 24, rfl⟩
abbrev main_v11 : Ref sig .tc := ⟨.hbm, 25, rfl⟩
abbrev main_v12 : Ref sig .tc := ⟨.hbm, 26, rfl⟩
abbrev main_cst_2 : Ref sig .tc := ⟨.hbm, 27, rfl⟩
abbrev main_v13 : Ref sig .tc := ⟨.hbm, 28, rfl⟩
abbrev main_v14 : Ref sig .tc := ⟨.hbm, 29, rfl⟩
abbrev main_cst_3 : Ref sig .tc := ⟨.hbm, 30, rfl⟩
abbrev main_v15 : Ref sig .tc := ⟨.hbm, 31, rfl⟩
abbrev main_v16 : Ref sig .tc := ⟨.hbm, 32, rfl⟩
abbrev main_v17 : Ref sig .tc := ⟨.hbm, 33, rfl⟩
abbrev main_v18 : Ref sig .tc := ⟨.hbm, 34, rfl⟩
abbrev main_cst_4 : Ref sig .tc := ⟨.hbm, 35, rfl⟩
abbrev main_v19 : Ref sig .tc := ⟨.hbm, 36, rfl⟩
abbrev main_v20 : Ref sig .tc := ⟨.hbm, 37, rfl⟩
abbrev main_v21 : Ref sig .tc := ⟨.hbm, 38, rfl⟩
abbrev main_v22 : Ref sig .tc := ⟨.hbm, 39, rfl⟩
abbrev main_v23 : Ref sig .tc := ⟨.hbm, 40, rfl⟩
abbrev main_v24 : Ref sig .tc := ⟨.hbm, 41, rfl⟩
abbrev main_v25 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_cst_5 : Ref sig .tc := ⟨.hbm, 47, rfl⟩
abbrev main_v30 : Ref sig .tc := ⟨.hbm, 48, rfl⟩
abbrev main_v31 : Ref sig .tc := ⟨.hbm, 49, rfl⟩
abbrev main_v32 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_v41 : Ref sig .tc := ⟨.hbm, 59, rfl⟩
abbrev main_v42 : Ref sig .tc := ⟨.hbm, 60, rfl⟩
abbrev main_cst_6 : Ref sig .tc := ⟨.hbm, 61, rfl⟩
abbrev main_v43 : Ref sig .tc := ⟨.hbm, 62, rfl⟩
abbrev main_v44 : Ref sig .tc := ⟨.hbm, 63, rfl⟩
abbrev main_cst_7 : Ref sig .tc := ⟨.hbm, 64, rfl⟩
abbrev main_v45 : Ref sig .tc := ⟨.hbm, 65, rfl⟩
abbrev main_v46 : Ref sig .tc := ⟨.hbm, 66, rfl⟩
abbrev main_cst_8 : Ref sig .tc := ⟨.hbm, 67, rfl⟩
abbrev main_v47 : Ref sig .tc := ⟨.hbm, 68, rfl⟩
abbrev main_v48 : Ref sig .tc := ⟨.hbm, 69, rfl⟩
abbrev main_v49 : Ref sig .tc := ⟨.hbm, 70, rfl⟩
abbrev main_cst_9 : Ref sig .tc := ⟨.hbm, 71, rfl⟩
abbrev main_v50 : Ref sig .tc := ⟨.hbm, 72, rfl⟩
abbrev main_v51 : Ref sig .tc := ⟨.hbm, 73, rfl⟩
abbrev main_v52 : Ref sig .tc := ⟨.hbm, 74, rfl⟩
abbrev main_v53 : Ref sig .tc := ⟨.hbm, 75, rfl⟩
abbrev main_v54 : Ref sig .tc := ⟨.hbm, 76, rfl⟩
abbrev main_v55 : Ref sig .tc := ⟨.hbm, 77, rfl⟩
abbrev main_v56 : Ref sig .tc := ⟨.hbm, 78, rfl⟩
abbrev main_v57 : Ref sig .tc := ⟨.hbm, 79, rfl⟩
abbrev main_v58 : Ref sig .tc := ⟨.hbm, 80, rfl⟩
abbrev main_v59 : Ref sig .tc := ⟨.hbm, 81, rfl⟩
abbrev main_v60 : Ref sig .tc := ⟨.hbm, 82, rfl⟩
abbrev main_v61 : Ref sig .tc := ⟨.hbm, 83, rfl⟩
abbrev main_v62 : Ref sig .tc := ⟨.hbm, 84, rfl⟩
abbrev main_v63 : Ref sig .tc := ⟨.hbm, 85, rfl⟩
abbrev main_v64_0 : Ref sig .tc := ⟨.hbm, 86, rfl⟩
abbrev main_v64_1 : Ref sig .tc := ⟨.hbm, 87, rfl⟩
abbrev main_v64_2 : Ref sig .tc := ⟨.hbm, 88, rfl⟩
abbrev main_v64_3 : Ref sig .tc := ⟨.hbm, 89, rfl⟩
abbrev main_v64_4 : Ref sig .tc := ⟨.hbm, 90, rfl⟩
abbrev main_v64_5 : Ref sig .tc := ⟨.hbm, 91, rfl⟩
abbrev main_v64_6 : Ref sig .tc := ⟨.hbm, 92, rfl⟩
abbrev main_v64_7 : Ref sig .tc := ⟨.hbm, 93, rfl⟩
abbrev main_v64_8 : Ref sig .tc := ⟨.hbm, 94, rfl⟩
abbrev main_v65 : Ref sig .tc := ⟨.hbm, 95, rfl⟩
abbrev main_v66 : Ref sig .tc := ⟨.hbm, 96, rfl⟩
abbrev main_v67 : Ref sig .tc := ⟨.hbm, 97, rfl⟩
abbrev main_cst_10 : Ref sig .tc := ⟨.hbm, 98, rfl⟩
abbrev main_v68 : Ref sig .tc := ⟨.hbm, 99, rfl⟩
abbrev main_cst_11 : Ref sig .tc := ⟨.hbm, 100, rfl⟩
abbrev main_v69 : Ref sig .tc := ⟨.hbm, 101, rfl⟩
abbrev main_cst_12 : Ref sig .tc := ⟨.hbm, 102, rfl⟩
abbrev main_v70 : Ref sig .tc := ⟨.hbm, 103, rfl⟩
abbrev main_cst_13 : Ref sig .tc := ⟨.hbm, 104, rfl⟩
abbrev main_v71 : Ref sig .tc := ⟨.hbm, 105, rfl⟩
abbrev main_cst_14 : Ref sig .tc := ⟨.hbm, 106, rfl⟩
abbrev main_v72 : Ref sig .tc := ⟨.hbm, 107, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_stg8_0 : Ref sig .tc := ⟨.vmem, 14, rfl⟩
abbrev cc0_stg8_1 : Ref sig .tc := ⟨.vmem, 15, rfl⟩
abbrev cc0_stg9_0 : Ref sig .tc := ⟨.vmem, 16, rfl⟩
abbrev cc0_stg10_0 : Ref sig .tc := ⟨.vmem, 17, rfl⟩
abbrev cc0_stg11_0 : Ref sig .tc := ⟨.vmem, 18, rfl⟩
abbrev cc0_stg12_0 : Ref sig .tc := ⟨.vmem, 19, rfl⟩
abbrev cc0_stg12_1 : Ref sig .tc := ⟨.vmem, 20, rfl⟩
abbrev cc0_stg13_0 : Ref sig .tc := ⟨.vmem, 21, rfl⟩
abbrev cc0_stg13_1 : Ref sig .tc := ⟨.vmem, 22, rfl⟩
abbrev cc0_stg14_0 : Ref sig .tc := ⟨.vmem, 23, rfl⟩
abbrev cc0_stg14_1 : Ref sig .tc := ⟨.vmem, 24, rfl⟩
abbrev cc0_stg15_0 : Ref sig .tc := ⟨.vmem, 25, rfl⟩
abbrev cc0_stg15_1 : Ref sig .tc := ⟨.vmem, 26, rfl⟩
abbrev cc0_stg16_0 : Ref sig .tc := ⟨.vmem, 27, rfl⟩
abbrev cc0_stg17_0 : Ref sig .tc := ⟨.vmem, 28, rfl⟩
abbrev cc0_stg18_0 : Ref sig .tc := ⟨.vmem, 29, rfl⟩
abbrev cc0_stg19_0 : Ref sig .tc := ⟨.vmem, 30, rfl⟩
abbrev cc0_stg20_0 : Ref sig .tc := ⟨.vmem, 31, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem5_0 : DmaSem sig := 8
abbrev cc0_sem5_1 : DmaSem sig := 9
abbrev cc0_sem6_0 : DmaSem sig := 10
abbrev cc0_sem6_1 : DmaSem sig := 11
abbrev cc0_sem7_0 : DmaSem sig := 12
abbrev cc0_sem7_1 : DmaSem sig := 13
abbrev cc0_sem8_0 : DmaSem sig := 14
abbrev cc0_sem8_1 : DmaSem sig := 15
abbrev cc0_sem9_0 : DmaSem sig := 16
abbrev cc0_sem10_0 : DmaSem sig := 17
abbrev cc0_sem11_0 : DmaSem sig := 18
abbrev cc0_sem12_0 : DmaSem sig := 19
abbrev cc0_sem12_1 : DmaSem sig := 20
abbrev cc0_sem13_0 : DmaSem sig := 21
abbrev cc0_sem13_1 : DmaSem sig := 22
abbrev cc0_sem14_0 : DmaSem sig := 23
abbrev cc0_sem14_1 : DmaSem sig := 24
abbrev cc0_sem15_0 : DmaSem sig := 25
abbrev cc0_sem15_1 : DmaSem sig := 26
abbrev cc0_sem16_0 : DmaSem sig := 27
abbrev cc0_sem17_0 : DmaSem sig := 28
abbrev cc0_sem18_0 : DmaSem sig := 29
abbrev cc0_sem19_0 : DmaSem sig := 30
abbrev cc0_sem20_0 : DmaSem sig := 31

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_13 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_14 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_15 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_16 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_17 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_18 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_19 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_20 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S256x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S2816x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S256x2816 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x2816 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S5632x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S256x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S256x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S256x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 1 → Memref sig .tc .vmem S1x1024 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1x1024 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S1x1024 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 2 → Memref sig .tc .vmem S256x2816 .bf16 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 2 → Memref sig .tc .vmem S256x2816 .bf16 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]

abbrev stage0_14 : Fin 2 → Memref sig .tc .vmem S256x1024 .f32 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true]

abbrev stage0_15 : Fin 2 → Memref sig .tc .vmem S256x1024 .bf16 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true]

abbrev stage0_16 : Fin 1 → Memref sig .tc .vmem S8x1024 .f32 := fun | 0 => Memref.whole cc0_stg16_0 | ⟨_ + 1, h⟩ => absurd h (Nat.not_lt.2 (Nat.le_add_left _ _))
abbrev sem0_16 : Fin 1 → DmaSem sig := fun | 0 => cc0_sem16_0 | ⟨_ + 1, h⟩ => absurd h (Nat.not_lt.2 (Nat.le_add_left _ _))
abbrev reads0_16 : Fin grid0.rank → Bool := ![false]

abbrev stage0_17 : Fin 1 → Memref sig .tc .vmem S8x1024 .f32 := fun | 0 => Memref.whole cc0_stg17_0 | ⟨_ + 1, h⟩ => absurd h (Nat.not_lt.2 (Nat.le_add_left _ _))
abbrev sem0_17 : Fin 1 → DmaSem sig := fun | 0 => cc0_sem17_0 | ⟨_ + 1, h⟩ => absurd h (Nat.not_lt.2 (Nat.le_add_left _ _))
abbrev reads0_17 : Fin grid0.rank → Bool := ![false]

abbrev stage0_18 : Fin 1 → Memref sig .tc .vmem S8x1024 .f32 := fun | 0 => Memref.whole cc0_stg18_0 | ⟨_ + 1, h⟩ => absurd h (Nat.not_lt.2 (Nat.le_add_left _ _))
abbrev sem0_18 : Fin 1 → DmaSem sig := fun | 0 => cc0_sem18_0 | ⟨_ + 1, h⟩ => absurd h (Nat.not_lt.2 (Nat.le_add_left _ _))
abbrev reads0_18 : Fin grid0.rank → Bool := ![false]

abbrev stage0_19 : Fin 1 → Memref sig .tc .vmem S8x1024 .f32 := fun | 0 => Memref.whole cc0_stg19_0 | ⟨_ + 1, h⟩ => absurd h (Nat.not_lt.2 (Nat.le_add_left _ _))
abbrev sem0_19 : Fin 1 → DmaSem sig := fun | 0 => cc0_sem19_0 | ⟨_ + 1, h⟩ => absurd h (Nat.not_lt.2 (Nat.le_add_left _ _))
abbrev reads0_19 : Fin grid0.rank → Bool := ![false]

abbrev stage0_20 : Fin 1 → Memref sig .tc .vmem S8x1024 .f32 := fun | 0 => Memref.whole cc0_stg20_0 | ⟨_ + 1, h⟩ => absurd h (Nat.not_lt.2 (Nat.le_add_left _ _))
abbrev sem0_20 : Fin 1 → DmaSem sig := fun | 0 => cc0_sem20_0 | ⟨_ + 1, h⟩ => absurd h (Nat.not_lt.2 (Nat.le_add_left _ _))
abbrev reads0_20 : Fin grid0.rank → Bool := ![false]
-- ==== BackRefIdeal.lean ====
abbrev S8192x1024 : Shape := ⟨2, ![8192, 1024]⟩
abbrev S1024x5632 : Shape := ⟨2, ![1024, 5632]⟩
abbrev S2816x1024 : Shape := ⟨2, ![2816, 1024]⟩
abbrev S1024 : Shape := ⟨1, ![1024]⟩
abbrev S_ : Shape := ⟨0, ![]⟩
abbrev S1x1024 : Shape := ⟨2, ![1, 1024]⟩
abbrev S8192 : Shape := ⟨1, ![8192]⟩
abbrev S8192x1 : Shape := ⟨2, ![8192, 1]⟩
abbrev S8192x5632 : Shape := ⟨2, ![8192, 5632]⟩
abbrev S8192x2816 : Shape := ⟨2, ![8192, 2816]⟩

abbrev nBuf : Space → Nat
  | .hbm => 162
  | .vmem => 0
  | .smem => 0
  | _ => 0

abbrev hbmTy0_0 (i : Nat) : BufTy := match i % 128 with
  | 0 => ⟨S8192x1024, .f32⟩
  | 1 => ⟨S8192x1024, .f32⟩
  | 2 => ⟨S1024x5632, .f32⟩
  | 3 => ⟨S2816x1024, .f32⟩
  | 4 => ⟨S1024, .f32⟩
  | 5 => ⟨S1024, .f32⟩
  | 6 => ⟨S1024, .f32⟩
  | 7 => ⟨S1024, .f32⟩
  | 8 => ⟨S1024, .f32⟩
  | 9 => ⟨S8192x1024, .f32⟩
  | 10 => ⟨S8192x1024, .f32⟩
  | 11 => ⟨S_, .f32⟩
  | 12 => ⟨S8192x1024, .f32⟩
  | 13 => ⟨S8192x1024, .f32⟩
  | 14 => ⟨S1x1024, .f32⟩
  | 15 => ⟨S8192x1024, .f32⟩
  | 16 => ⟨S8192x1024, .f32⟩
  | 17 => ⟨S8192x1024, .f32⟩
  | 18 => ⟨S_, .f32⟩
  | 19 => ⟨S8192, .f32⟩
  | 20 => ⟨S8192x1, .f32⟩
  | 21 => ⟨S_, .f32⟩
  | 22 => ⟨S8192x1, .f32⟩
  | 23 => ⟨S8192x1, .f32⟩
  | 24 => ⟨S8192x1024, .f32⟩
  | 25 => ⟨S8192x1024, .f32⟩
  | 26 => ⟨S8192x1024, .f32⟩
  | 27 => ⟨S_, .f32⟩
  | 28 => ⟨S8192x1024, .f32⟩
  | 29 => ⟨S8192x1024, .f32⟩
  | 30 => ⟨S_, .f32⟩
  | 31 => ⟨S8192, .f32⟩
  | 32 => ⟨S8192x1, .f32⟩
  | 33 => ⟨S_, .f32⟩
  | 34 => ⟨S8192x1, .f32⟩
  | 35 => ⟨S8192x1, .f32⟩
  | 36 => ⟨S8192x1024, .f32⟩
  | 37 => ⟨S8192x1024, .f32⟩
  | 38 => ⟨S_, .f32⟩
  | 39 => ⟨S8192x1, .f32⟩
  | 40 => ⟨S8192x1, .f32⟩
  | 41 => ⟨S8192x1, .f32⟩
  | 42 => ⟨S8192x1, .f32⟩
  | 43 => ⟨S_, .f32⟩
  | 44 => ⟨S8192x1, .f32⟩
  | 45 => ⟨S8192x1, .f32⟩
  | 46 => ⟨S8192x1024, .f32⟩
  | 47 => ⟨S8192x1024, .f32⟩
  | 48 => ⟨S1x1024, .f32⟩
  | 49 => ⟨S8192x1024, .f32⟩
  | 50 => ⟨S8192x1024, .f32⟩
  | 51 => ⟨S1x1024, .f32⟩
  | 52 => ⟨S8192x1024, .f32⟩
  | 53 => ⟨S8192x1024, .f32⟩
  | 54 => ⟨S_, .f32⟩
  | 55 => ⟨S8192x1024, .f32⟩
  | 56 => ⟨S8192x1024, .f32⟩
  | 57 => ⟨S_, .f32⟩
  | 58 => ⟨S1024, .f32⟩
  | 59 => ⟨S1024, .f32⟩
  | 60 => ⟨S1x1024, .f32⟩
  | 61 => ⟨S8192x1024, .f32⟩
  | 62 => ⟨S8192x1024, .f32⟩
  | 63 => ⟨S1x1024, .f32⟩
  | 64 => ⟨S8192x1024, .f32⟩
  | 65 => ⟨S8192x1024, .f32⟩
  | 66 => ⟨S8192x5632, .f32⟩
  | 67 => ⟨S8192x2816, .f32⟩
  | 68 => ⟨S8192x2816, .f32⟩
  | 69 => ⟨S8192x2816, .f32⟩
  | 70 => ⟨S8192x2816, .f32⟩
  | 71 => ⟨S_, .f32⟩
  | 72 => ⟨S8192x2816, .f32⟩
  | 73 => ⟨S8192x2816, .f32⟩
  | 74 => ⟨S_, .f32⟩
  | 75 => ⟨S8192x2816, .f32⟩
  | 76 => ⟨S8192x2816, .f32⟩
  | 77 => ⟨S_, .f32⟩
  | 78 => ⟨S8192x2816, .f32⟩
  | 79 => ⟨S8192x2816, .f32⟩
  | 80 => ⟨S8192x2816, .f32⟩
  | 81 => ⟨S8192x2816, .f32⟩
  | 82 => ⟨S8192x2816, .f32⟩
  | 83 => ⟨S8192x1024, .f32⟩
  | 84 => ⟨S8192x2816, .f32⟩
  | 85 => ⟨S8192x2816, .f32⟩
  | 86 => ⟨S8192x2816, .f32⟩
  | 87 => ⟨S8192x2816, .f32⟩
  | 88 => ⟨S8192x2816, .f32⟩
  | 89 => ⟨S8192x2816, .f32⟩
  | 90 => ⟨S8192x2816, .f32⟩
  | 91 => ⟨S8192x5632, .f32⟩
  | 92 => ⟨S8192x1024, .f32⟩
  | 93 => ⟨S_, .f32⟩
  | 94 => ⟨S1024, .f32⟩
  | 95 => ⟨S1x1024, .f32⟩
  | 96 => ⟨S_, .f32⟩
  | 97 => ⟨S1024, .f32⟩
  | 98 => ⟨S8192x1024, .f32⟩
  | 99 => ⟨S_, .f32⟩
  | 100 => ⟨S1024, .f32⟩
  | 101 => ⟨S1x1024, .f32⟩
  | 102 => ⟨S8192x1024, .f32⟩
  | 103 => ⟨S8192x1024, .f32⟩
  | 104 => ⟨S_, .f32⟩
  | 105 => ⟨S1024, .f32⟩
  | 106 => ⟨S_, .f32⟩
  | 107 => ⟨S8192x1024, .f32⟩
  | 108 => ⟨S8192x1024, .f32⟩
  | 109 => ⟨S8192x1024, .f32⟩
  | 110 => ⟨S_, .f32⟩
  | 111 => ⟨S1024, .f32⟩
  | 112 => ⟨S1x1024, .f32⟩
  | 113 => ⟨S_, .f32⟩
  | 114 => ⟨S1024, .f32⟩
  | 115 => ⟨S8192x1024, .f32⟩
  | 116 => ⟨S_, .f32⟩
  | 117 => ⟨S1024, .f32⟩
  | 118 => ⟨S1x1024, .f32⟩
  | 119 => ⟨S8192x1024, .f32⟩
  | 120 => ⟨S8192x1024, .f32⟩
  | 121 => ⟨S_, .f32⟩
  | 122 => ⟨S1024, .f32⟩
  | 123 => ⟨S8192x1024, .f32⟩
  | 124 => ⟨S_, .f32⟩
  | 125 => ⟨S8192, .f32⟩
  | 126 => ⟨S8192x1, .f32⟩
  | 127 => ⟨S8192x1024, .f32⟩
  | _ => ⟨S8192x1024, .f32⟩

abbrev hbmTy0_1 (i : Nat) : BufTy := match i % 128 with
  | 0 => ⟨S8192x1024, .f32⟩
  | 1 => ⟨S8192x1, .f32⟩
  | 2 => ⟨S8192x1024, .f32⟩
  | 3 => ⟨S_, .f32⟩
  | 4 => ⟨S8192, .f32⟩
  | 5 => ⟨S8192x1, .f32⟩
  | 6 => ⟨S_, .f32⟩
  | 7 => ⟨S8192x1, .f32⟩
  | 8 => ⟨S8192x1, .f32⟩
  | 9 => ⟨S_, .f32⟩
  | 10 => ⟨S8192, .f32⟩
  | 11 => ⟨S8192x1024, .f32⟩
  | 12 => ⟨S8192x1024, .f32⟩
  | 13 => ⟨S8192x1024, .f32⟩
  | 14 => ⟨S_, .f32⟩
  | 15 => ⟨S8192, .f32⟩
  | 16 => ⟨S8192x1, .f32⟩
  | 17 => ⟨S8192x1024, .f32⟩
  | 18 => ⟨S8192x1, .f32⟩
  | 19 => ⟨S_, .f32⟩
  | 20 => ⟨S8192x1, .f32⟩
  | 21 => ⟨S8192x1, .f32⟩
  | 22 => ⟨S_, .f32⟩
  | 23 => ⟨S8192, .f32⟩
  | 24 => ⟨S8192x1024, .f32⟩
  | 25 => ⟨S8192x1024, .f32⟩
  | 26 => ⟨S8192x1024, .f32⟩
  | 27 => ⟨S8192x1024, .f32⟩
  | 28 => ⟨S8192x1024, .f32⟩
  | 29 => ⟨S_, .f32⟩
  | 30 => ⟨S1024, .f32⟩
  | 31 => ⟨S1x1024, .f32⟩
  | 32 => ⟨S_, .f32⟩
  | 33 => ⟨S1024, .f32⟩
  | _ => ⟨S8192x1024, .f32⟩

abbrev hbmTy (i : Nat) : BufTy := match i / 128 with
  | 0 => hbmTy0_0 i
  | 1 => hbmTy0_1 i
  | _ => ⟨S8192x1024, .f32⟩

abbrev bufTy : (tb : Table) → Fin (tcTables nBuf tb) → BufTy
  | .hbm, ⟨i, _⟩ => hbmTy i
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_cst : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_cst_0 : Ref sig .tc := ⟨.hbm, 18, rfl⟩
abbrev main_v6 : Ref sig .tc := ⟨.hbm, 19, rfl⟩
abbrev main_v7 : Ref sig .tc := ⟨.hbm, 20, rfl⟩
abbrev main_cst_1 : Ref sig .tc := ⟨.hbm, 21, rfl⟩
abbrev main_v8 : Ref sig .tc := ⟨.hbm, 22, rfl⟩
abbrev main_v9 : Ref sig .tc := ⟨.hbm, 23, rfl⟩
abbrev main_v10 : Ref sig .tc := ⟨.hbm, 24, rfl⟩
abbrev main_v11 : Ref sig .tc := ⟨.hbm, 25, rfl⟩
abbrev main_v12 : Ref sig .tc := ⟨.hbm, 26, rfl⟩
abbrev main_cst_2 : Ref sig .tc := ⟨.hbm, 27, rfl⟩
abbrev main_v13 : Ref sig .tc := ⟨.hbm, 28, rfl⟩
abbrev main_v14 : Ref sig .tc := ⟨.hbm, 29, rfl⟩
abbrev main_cst_3 : Ref sig .tc := ⟨.hbm, 30, rfl⟩
abbrev main_v15 : Ref sig .tc := ⟨.hbm, 31, rfl⟩
abbrev main_v16 : Ref sig .tc := ⟨.hbm, 32, rfl⟩
abbrev main_cst_4 : Ref sig .tc := ⟨.hbm, 33, rfl⟩
abbrev main_v17 : Ref sig .tc := ⟨.hbm, 34, rfl⟩
abbrev main_v18 : Ref sig .tc := ⟨.hbm, 35, rfl⟩
abbrev main_v19 : Ref sig .tc := ⟨.hbm, 36, rfl⟩
abbrev main_v20 : Ref sig .tc := ⟨.hbm, 37, rfl⟩
abbrev main_cst_5 : Ref sig .tc := ⟨.hbm, 38, rfl⟩
abbrev main_v21 : Ref sig .tc := ⟨.hbm, 39, rfl⟩
abbrev main_v22 : Ref sig .tc := ⟨.hbm, 40, rfl⟩
abbrev main_v23 : Ref sig .tc := ⟨.hbm, 41, rfl⟩
abbrev main_v24 : Ref sig .tc := ⟨.hbm, 42, rfl⟩
abbrev main_cst_6 : Ref sig .tc := ⟨.hbm, 43, rfl⟩
abbrev main_v25 : Ref sig .tc := ⟨.hbm, 44, rfl⟩
abbrev main_v26 : Ref sig .tc := ⟨.hbm, 45, rfl⟩
abbrev main_v27 : Ref sig .tc := ⟨.hbm, 46, rfl⟩
abbrev main_v28 : Ref sig .tc := ⟨.hbm, 47, rfl⟩
abbrev main_v29 : Ref sig .tc := ⟨.hbm, 48, rfl⟩
abbrev main_v30 : Ref sig .tc := ⟨.hbm, 49, rfl⟩
abbrev main_v31 : Ref sig .tc := ⟨.hbm, 50, rfl⟩
abbrev main_v32 : Ref sig .tc := ⟨.hbm, 51, rfl⟩
abbrev main_v33 : Ref sig .tc := ⟨.hbm, 52, rfl⟩
abbrev main_v34 : Ref sig .tc := ⟨.hbm, 53, rfl⟩
abbrev main_cst_7 : Ref sig .tc := ⟨.hbm, 54, rfl⟩
abbrev main_v35 : Ref sig .tc := ⟨.hbm, 55, rfl⟩
abbrev main_v36 : Ref sig .tc := ⟨.hbm, 56, rfl⟩
abbrev main_cst_8 : Ref sig .tc := ⟨.hbm, 57, rfl⟩
abbrev main_v37 : Ref sig .tc := ⟨.hbm, 58, rfl⟩
abbrev main_v38 : Ref sig .tc := ⟨.hbm, 59, rfl⟩
abbrev main_v39 : Ref sig .tc := ⟨.hbm, 60, rfl⟩
abbrev main_v40 : Ref sig .tc := ⟨.hbm, 61, rfl⟩
abbrev main_v41 : Ref sig .tc := ⟨.hbm, 62, rfl⟩
abbrev main_v42 : Ref sig .tc := ⟨.hbm, 63, rfl⟩
abbrev main_v43 : Ref sig .tc := ⟨.hbm, 64, rfl⟩
abbrev main_v44 : Ref sig .tc := ⟨.hbm, 65, rfl⟩
abbrev main_v45 : Ref sig .tc := ⟨.hbm, 66, rfl⟩
abbrev main_v46 : Ref sig .tc := ⟨.hbm, 67, rfl⟩
abbrev main_v47 : Ref sig .tc := ⟨.hbm, 68, rfl⟩
abbrev main_call0_v0 : Ref sig .tc := ⟨.hbm, 69, rfl⟩
abbrev main_call0_v1 : Ref sig .tc := ⟨.hbm, 70, rfl⟩
abbrev main_call0_cst : Ref sig .tc := ⟨.hbm, 71, rfl⟩
abbrev main_call0_v2 : Ref sig .tc := ⟨.hbm, 72, rfl⟩
abbrev main_call0_v3 : Ref sig .tc := ⟨.hbm, 73, rfl⟩
abbrev main_call0_cst_0 : Ref sig .tc := ⟨.hbm, 74, rfl⟩
abbrev main_call0_v4 : Ref sig .tc := ⟨.hbm, 75, rfl⟩
abbrev main_v48_2 : Ref sig .tc := ⟨.hbm, 76, rfl⟩
abbrev main_call0_cst_1 : Ref sig .tc := ⟨.hbm, 77, rfl⟩
abbrev main_call0_v6 : Ref sig .tc := ⟨.hbm, 78, rfl⟩
abbrev main_call0_v7 : Ref sig .tc := ⟨.hbm, 79, rfl⟩
abbrev main_v48_1 : Ref sig .tc := ⟨.hbm, 80, rfl⟩
abbrev main_v48_0 : Ref sig .tc := ⟨.hbm, 81, rfl⟩
abbrev main_v49 : Ref sig .tc := ⟨.hbm, 82, rfl⟩
abbrev main_v50 : Ref sig .tc := ⟨.hbm, 83, rfl⟩
abbrev main_v51 : Ref sig .tc := ⟨.hbm, 84, rfl⟩
abbrev main_v52 : Ref sig .tc := ⟨.hbm, 85, rfl⟩
abbrev main_v53 : Ref sig .tc := ⟨.hbm, 86, rfl⟩
abbrev main_call1_v0 : Ref sig .tc := ⟨.hbm, 87, rfl⟩
abbrev main_call1_v1 : Ref sig .tc := ⟨.hbm, 88, rfl⟩
abbrev main_call1_v2 : Ref sig .tc := ⟨.hbm, 89, rfl⟩
abbrev main_v54 : Ref sig .tc := ⟨.hbm, 90, rfl⟩
abbrev main_v55 : Ref sig .tc := ⟨.hbm, 91, rfl⟩
abbrev main_v56 : Ref sig .tc := ⟨.hbm, 92, rfl⟩
abbrev main_cst_9 : Ref sig .tc := ⟨.hbm, 93, rfl⟩
abbrev main_v57 : Ref sig .tc := ⟨.hbm, 94, rfl⟩
abbrev main_v58 : Ref sig .tc := ⟨.hbm, 95, rfl⟩
abbrev main_cst_10 : Ref sig .tc := ⟨.hbm, 96, rfl⟩
abbrev main_v59 : Ref sig .tc := ⟨.hbm, 97, rfl⟩
abbrev main_v60 : Ref sig .tc := ⟨.hbm, 98, rfl⟩
abbrev main_cst_11 : Ref sig .tc := ⟨.hbm, 99, rfl⟩
abbrev main_v61 : Ref sig .tc := ⟨.hbm, 100, rfl⟩
abbrev main_v62 : Ref sig .tc := ⟨.hbm, 101, rfl⟩
abbrev main_v63 : Ref sig .tc := ⟨.hbm, 102, rfl⟩
abbrev main_v64 : Ref sig .tc := ⟨.hbm, 103, rfl⟩
abbrev main_cst_12 : Ref sig .tc := ⟨.hbm, 104, rfl⟩
abbrev main_v65 : Ref sig .tc := ⟨.hbm, 105, rfl⟩
abbrev main_cst_13 : Ref sig .tc := ⟨.hbm, 106, rfl⟩
abbrev main_v66 : Ref sig .tc := ⟨.hbm, 107, rfl⟩
abbrev main_v67 : Ref sig .tc := ⟨.hbm, 108, rfl⟩
abbrev main_v68 : Ref sig .tc := ⟨.hbm, 109, rfl⟩
abbrev main_cst_14 : Ref sig .tc := ⟨.hbm, 110, rfl⟩
abbrev main_v69 : Ref sig .tc := ⟨.hbm, 111, rfl⟩
abbrev main_v70 : Ref sig .tc := ⟨.hbm, 112, rfl⟩
abbrev main_cst_15 : Ref sig .tc := ⟨.hbm, 113, rfl⟩
abbrev main_v71 : Ref sig .tc := ⟨.hbm, 114, rfl⟩
abbrev main_v72 : Ref sig .tc := ⟨.hbm, 115, rfl⟩
abbrev main_cst_16 : Ref sig .tc := ⟨.hbm, 116, rfl⟩
abbrev main_v73 : Ref sig .tc := ⟨.hbm, 117, rfl⟩
abbrev main_v74 : Ref sig .tc := ⟨.hbm, 118, rfl⟩
abbrev main_v75 : Ref sig .tc := ⟨.hbm, 119, rfl⟩
abbrev main_v76 : Ref sig .tc := ⟨.hbm, 120, rfl⟩
abbrev main_cst_17 : Ref sig .tc := ⟨.hbm, 121, rfl⟩
abbrev main_v77 : Ref sig .tc := ⟨.hbm, 122, rfl⟩
abbrev main_v78 : Ref sig .tc := ⟨.hbm, 123, rfl⟩
abbrev main_cst_18 : Ref sig .tc := ⟨.hbm, 124, rfl⟩
abbrev main_v79 : Ref sig .tc := ⟨.hbm, 125, rfl⟩
abbrev main_v80 : Ref sig .tc := ⟨.hbm, 126, rfl⟩
abbrev main_v81 : Ref sig .tc := ⟨.hbm, 127, rfl⟩
abbrev main_v82 : Ref sig .tc := ⟨.hbm, 128, rfl⟩
abbrev main_v83 : Ref sig .tc := ⟨.hbm, 129, rfl⟩
abbrev main_v84 : Ref sig .tc := ⟨.hbm, 130, rfl⟩
abbrev main_cst_19 : Ref sig .tc := ⟨.hbm, 131, rfl⟩
abbrev main_v85 : Ref sig .tc := ⟨.hbm, 132, rfl⟩
abbrev main_v86 : Ref sig .tc := ⟨.hbm, 133, rfl⟩
abbrev main_cst_20 : Ref sig .tc := ⟨.hbm, 134, rfl⟩
abbrev main_v87 : Ref sig .tc := ⟨.hbm, 135, rfl⟩
abbrev main_v88 : Ref sig .tc := ⟨.hbm, 136, rfl⟩
abbrev main_cst_21 : Ref sig .tc := ⟨.hbm, 137, rfl⟩
abbrev main_v89 : Ref sig .tc := ⟨.hbm, 138, rfl⟩
abbrev main_v90 : Ref sig .tc := ⟨.hbm, 139, rfl⟩
abbrev main_v91 : Ref sig .tc := ⟨.hbm, 140, rfl⟩
abbrev main_v92 : Ref sig .tc := ⟨.hbm, 141, rfl⟩
abbrev main_cst_22 : Ref sig .tc := ⟨.hbm, 142, rfl⟩
abbrev main_v93 : Ref sig .tc := ⟨.hbm, 143, rfl⟩
abbrev main_v94 : Ref sig .tc := ⟨.hbm, 144, rfl⟩
abbrev main_v95 : Ref sig .tc := ⟨.hbm, 145, rfl⟩
abbrev main_v96 : Ref sig .tc := ⟨.hbm, 146, rfl⟩
abbrev main_cst_23 : Ref sig .tc := ⟨.hbm, 147, rfl⟩
abbrev main_v97 : Ref sig .tc := ⟨.hbm, 148, rfl⟩
abbrev main_v98 : Ref sig .tc := ⟨.hbm, 149, rfl⟩
abbrev main_cst_24 : Ref sig .tc := ⟨.hbm, 150, rfl⟩
abbrev main_v99 : Ref sig .tc := ⟨.hbm, 151, rfl⟩
abbrev main_v100 : Ref sig .tc := ⟨.hbm, 152, rfl⟩
abbrev main_v101 : Ref sig .tc := ⟨.hbm, 153, rfl⟩
abbrev main_v102 : Ref sig .tc := ⟨.hbm, 154, rfl⟩
abbrev main_v103 : Ref sig .tc := ⟨.hbm, 155, rfl⟩
abbrev main_v104 : Ref sig .tc := ⟨.hbm, 156, rfl⟩
abbrev main_cst_25 : Ref sig .tc := ⟨.hbm, 157, rfl⟩
abbrev main_v105 : Ref sig .tc := ⟨.hbm, 158, rfl⟩
abbrev main_v106 : Ref sig .tc := ⟨.hbm, 159, rfl⟩
abbrev main_cst_26 : Ref sig .tc := ⟨.hbm, 160, rfl⟩
abbrev main_v107 : Ref sig .tc := ⟨.hbm, 161, rfl⟩

abbrev nD : Nat := 1
abbrev τ : Topo := Topo.v7x

variable {F : FTy → Type} [FloatOps F]
-- ==== MixFwd.lean ====
abbrev S8192x1792 : Shape := ⟨2, ![8192, 1792]⟩
abbrev S8x128x256 : Shape := ⟨3, ![8, 128, 256]⟩
abbrev S8 : Shape := ⟨1, ![8]⟩
abbrev S512 : Shape := ⟨1, ![512]⟩
abbrev S8x128x128 : Shape := ⟨3, ![8, 128, 128]⟩
abbrev S8x128 : Shape := ⟨2, ![8, 128]⟩
abbrev S128x256 : Shape := ⟨2, ![128, 256]⟩
abbrev S_ : Shape := ⟨0, ![]⟩
abbrev S128x128 : Shape := ⟨2, ![128, 128]⟩
abbrev S1x128x128 : Shape := ⟨3, ![1, 128, 128]⟩
abbrev S4x128x128 : Shape := ⟨3, ![4, 128, 128]⟩
abbrev S4x128x256 : Shape := ⟨3, ![4, 128, 256]⟩
abbrev S128x8 : Shape := ⟨2, ![128, 8]⟩
abbrev S128x8x64 : Shape := ⟨3, ![128, 8, 64]⟩
abbrev S128x512 : Shape := ⟨2, ![128, 512]⟩
abbrev S1x512 : Shape := ⟨2, ![1, 512]⟩
abbrev S8192x1024 : Shape := ⟨2, ![8192, 1024]⟩
abbrev S8x8192x256 : Shape := ⟨3, ![8, 8192, 256]⟩
abbrev S8192x128 : Shape := ⟨2, ![8192, 128]⟩
abbrev S8192x512 : Shape := ⟨2, ![8192, 512]⟩
abbrev S128x1792 : Shape := ⟨2, ![128, 1792]⟩
abbrev S128x1024 : Shape := ⟨2, ![128, 1024]⟩
abbrev S2x256x128 : Shape := ⟨3, ![2, 256, 128]⟩
abbrev S2x512x128 : Shape := ⟨3, ![2, 512, 128]⟩
abbrev S2x512x256 : Shape := ⟨3, ![2, 512, 256]⟩
abbrev S256x128 : Shape := ⟨2, ![256, 128]⟩
abbrev S1x256x128 : Shape := ⟨3, ![1, 256, 128]⟩
abbrev S512x128 : Shape := ⟨2, ![512, 128]⟩
abbrev S1x512x128 : Shape := ⟨3, ![1, 512, 128]⟩
abbrev S512x256 : Shape := ⟨2, ![512, 256]⟩
abbrev S1x512x256 : Shape := ⟨3, ![1, 512, 256]⟩
abbrev S64x256 : Shape := ⟨2, ![64, 256]⟩
abbrev S64x128 : Shape := ⟨2, ![64, 128]⟩
abbrev S1 : Shape := ⟨1, ![1]⟩
abbrev S1x64x256 : Shape := ⟨3, ![1, 64, 256]⟩
abbrev S64 : Shape := ⟨1, ![64]⟩
abbrev S64x1 : Shape := ⟨2, ![64, 1]⟩
abbrev S1x128x256 : Shape := ⟨3, ![1, 128, 256]⟩
abbrev S256x512 : Shape := ⟨2, ![256, 512]⟩
abbrev S32x512 : Shape := ⟨2, ![32, 512]⟩
abbrev S32x128 : Shape := ⟨2, ![32, 128]⟩
abbrev S32 : Shape := ⟨1, ![32]⟩
abbrev S32x1 : Shape := ⟨2, ![32, 1]⟩

abbrev nBuf : Space → Nat
  | .hbm => 59
  | .vmem => 29
  | .smem => 1
  | _ => 0

abbrev bufTy : (tb : Table) → Fin (tcTables nBuf tb) → BufTy
  | .hbm, ⟨0, _⟩ => ⟨S8192x1792, .f32⟩
  | .hbm, ⟨1, _⟩ => ⟨S8x128x256, .f32⟩
  | .hbm, ⟨2, _⟩ => ⟨S8, .f32⟩
  | .hbm, ⟨3, _⟩ => ⟨S512, .f32⟩
  | .hbm, ⟨4, _⟩ => ⟨S512, .f32⟩
  | .hbm, ⟨5, _⟩ => ⟨S8x128x128, .f32⟩
  | .hbm, ⟨6, _⟩ => ⟨S8x128, .f32⟩
  | .hbm, ⟨7, _⟩ => ⟨S512, .f32⟩
  | .hbm, ⟨8, _⟩ => ⟨S512, .f32⟩
  | .hbm, ⟨9, _⟩ => ⟨S128x256, .i32⟩
  | .hbm, ⟨10, _⟩ => ⟨S_, .i32⟩
  | .hbm, ⟨11, _⟩ => ⟨S128x256, .i32⟩
  | .hbm, ⟨12, _⟩ => ⟨S128x256, .i32⟩
  | .hbm, ⟨13, _⟩ => ⟨S128x256, .i32⟩
  | .hbm, ⟨14, _⟩ => ⟨S128x256, .i32⟩
  | .hbm, ⟨15, _⟩ => ⟨S_, .i32⟩
  | .hbm, ⟨16, _⟩ => ⟨S128x256, .i32⟩
  | .hbm, ⟨17, _⟩ => ⟨S128x256, .i1⟩
  | .hbm, ⟨18, _⟩ => ⟨S_, .i32⟩
  | .hbm, ⟨19, _⟩ => ⟨S128x256, .i32⟩
  | .hbm, ⟨20, _⟩ => ⟨S128x256, .i1⟩
  | .hbm, ⟨21, _⟩ => ⟨S128x256, .i1⟩
  | .hbm, ⟨22, _⟩ => ⟨S_, .f32⟩
  | .hbm, ⟨23, _⟩ => ⟨S_, .f32⟩
  | .hbm, ⟨24, _⟩ => ⟨S8x128x256, .i1⟩
  | .hbm, ⟨25, _⟩ => ⟨S8x128x256, .f32⟩
  | .hbm, ⟨26, _⟩ => ⟨S8x128x256, .f32⟩
  | .hbm, ⟨27, _⟩ => ⟨S_, .i1⟩
  | .hbm, ⟨28, _⟩ => ⟨S128x128, .i1⟩
  | .hbm, ⟨29, _⟩ => ⟨S128x128, .i32⟩
  | .hbm, ⟨30, _⟩ => ⟨S_, .i32⟩
  | .hbm, ⟨31, _⟩ => ⟨S128x128, .i32⟩
  | .hbm, ⟨32, _⟩ => ⟨S128x128, .i32⟩
  | .hbm, ⟨33, _⟩ => ⟨S128x128, .i32⟩
  | .hbm, ⟨34, _⟩ => ⟨S128x128, .i1⟩
  | .hbm, ⟨35, _⟩ => ⟨S_, .i1⟩
  | .hbm, ⟨36, _⟩ => ⟨S128x128, .i1⟩
  | .hbm, ⟨37, _⟩ => ⟨S128x128, .i1⟩
  | .hbm, ⟨38, _⟩ => ⟨S1x128x128, .i1⟩
  | .hbm, ⟨39, _⟩ => ⟨S_, .f32⟩
  | .hbm, ⟨40, _⟩ => ⟨S_, .f32⟩
  | .hbm, ⟨41, _⟩ => ⟨S8x128x128, .i1⟩
  | .hbm, ⟨42, _⟩ => ⟨S8x128x128, .f32⟩
  | .hbm, ⟨43, _⟩ => ⟨S8x128x128, .f32⟩
  | .hbm, ⟨44, _⟩ => ⟨S8x128x128, .bf16⟩
  | .hbm, ⟨45, _⟩ => ⟨S4x128x128, .bf16⟩
  | .hbm, ⟨46, _⟩ => ⟨S4x128x128, .bf16⟩
  | .hbm, ⟨47, _⟩ => ⟨S4x128x256, .bf16⟩
  | .hbm, ⟨48, _⟩ => ⟨S128x8, .f32⟩
  | .hbm, ⟨49, _⟩ => ⟨S128x8x64, .f32⟩
  | .hbm, ⟨50, _⟩ => ⟨S128x512, .f32⟩
  | .hbm, ⟨51, _⟩ => ⟨S1x512, .f32⟩
  | .hbm, ⟨52, _⟩ => ⟨S1x512, .f32⟩
  | .hbm, ⟨53, _⟩ => ⟨S1x512, .f32⟩
  | .hbm, ⟨54, _⟩ => ⟨S1x512, .f32⟩
  | .hbm, ⟨55, _⟩ => ⟨S8192x1024, .bf16⟩
  | .hbm, ⟨56, _⟩ => ⟨S8x8192x256, .f32⟩
  | .hbm, ⟨57, _⟩ => ⟨S8192x128, .f32⟩
  | .hbm, ⟨58, _⟩ => ⟨S8192x512, .f32⟩
  | .local _ .vmem, ⟨0, _⟩ => ⟨S128x1792, .f32⟩
  | .local _ .vmem, ⟨1, _⟩ => ⟨S128x1792, .f32⟩
  | .local _ .vmem, ⟨2, _⟩ => ⟨S128x256, .f32⟩
  | .local _ .vmem, ⟨3, _⟩ => ⟨S128x256, .f32⟩
  | .local _ .vmem, ⟨4, _⟩ => ⟨S8x128x256, .f32⟩
  | .local _ .vmem, ⟨5, _⟩ => ⟨S1x512, .f32⟩
  | .local _ .vmem, ⟨6, _⟩ => ⟨S1x512, .f32⟩
  | .local _ .vmem, ⟨7, _⟩ => ⟨S4x128x256, .bf16⟩
  | .local _ .vmem, ⟨8, _⟩ => ⟨S128x512, .f32⟩
  | .local _ .vmem, ⟨9, _⟩ => ⟨S1x512, .f32⟩
  | .local _ .vmem, ⟨10, _⟩ => ⟨S1x512, .f32⟩
  | .local _ .vmem, ⟨11, _⟩ => ⟨S128x1024, .bf16⟩
  | .local _ .vmem, ⟨12, _⟩ => ⟨S128x1024, .bf16⟩
  | .local _ .vmem, ⟨13, _⟩ => ⟨S8x128x256, .f32⟩
  | .local _ .vmem, ⟨14, _⟩ => ⟨S8x128x256, .f32⟩
  | .local _ .vmem, ⟨15, _⟩ => ⟨S128x128, .f32⟩
  | .local _ .vmem, ⟨16, _⟩ => ⟨S128x128, .f32⟩
  | .local _ .vmem, ⟨17, _⟩ => ⟨S128x512, .f32⟩
  | .local _ .vmem, ⟨18, _⟩ => ⟨S128x512, .f32⟩
  | .local _ .vmem, ⟨19, _⟩ => ⟨S2x256x128, .bf16⟩
  | .local _ .vmem, ⟨20, _⟩ => ⟨S2x256x128, .bf16⟩
  | .local _ .vmem, ⟨21, _⟩ => ⟨S2x512x128, .bf16⟩
  | .local _ .vmem, ⟨22, _⟩ => ⟨S2x512x128, .bf16⟩
  | .local _ .vmem, ⟨23, _⟩ => ⟨S8x128x128, .bf16⟩
  | .local _ .vmem, ⟨24, _⟩ => ⟨S2x512x256, .f32⟩
  | .local _ .vmem, ⟨25, _⟩ => ⟨S8x128x256, .bf16⟩
  | .local _ .vmem, ⟨26, _⟩ => ⟨S128x512, .f32⟩
  | .local _ .vmem, ⟨27, _⟩ => ⟨S128x512, .bf16⟩
  | .local _ .vmem, ⟨28, _⟩ => ⟨S128x512, .f32⟩
  | .local _ .smem, ⟨0, _⟩ => ⟨S8, .f32⟩
  | _, _ => ⟨S8192x1792, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .smem, ⟨0, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_c : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_c_0 : Ref sig .tc := ⟨.hbm, 15, rfl⟩
abbrev main_v5 : Ref sig .tc := ⟨.hbm, 16, rfl⟩
abbrev main_v6 : Ref sig .tc := ⟨.hbm, 17, rfl⟩
abbrev main_c_1 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_cst : Ref sig .tc := ⟨.hbm, 22, rfl⟩
abbrev main_call0_v0 : Ref sig .tc := ⟨.hbm, 23, rfl⟩
abbrev main_call0_v1 : Ref sig .tc := ⟨.hbm, 24, rfl⟩
abbrev main_call0_v2 : Ref sig .tc := ⟨.hbm, 25, rfl⟩
abbrev main_v10 : Ref sig .tc := ⟨.hbm, 26, rfl⟩
abbrev main_c_2 : Ref sig .tc := ⟨.hbm, 27, rfl⟩
abbrev main_v11 : Ref sig .tc := ⟨.hbm, 28, rfl⟩
abbrev main_call1_v0 : Ref sig .tc := ⟨.hbm, 29, rfl⟩
abbrev main_call1_c : Ref sig .tc := ⟨.hbm, 30, rfl⟩
abbrev main_call1_v1 : Ref sig .tc := ⟨.hbm, 31, rfl⟩
abbrev main_call1_v2 : Ref sig .tc := ⟨.hbm, 32, rfl⟩
abbrev main_call1_v3 : Ref sig .tc := ⟨.hbm, 33, rfl⟩
abbrev main_call1_v4 : Ref sig .tc := ⟨.hbm, 34, rfl⟩
abbrev main_call1_c_0 : Ref sig .tc := ⟨.hbm, 35, rfl⟩
abbrev main_call1_v5 : Ref sig .tc := ⟨.hbm, 36, rfl⟩
abbrev main_v12 : Ref sig .tc := ⟨.hbm, 37, rfl⟩
abbrev main_v13 : Ref sig .tc := ⟨.hbm, 38, rfl⟩
abbrev main_cst_3 : Ref sig .tc := ⟨.hbm, 39, rfl⟩
abbrev main_call2_v0 : Ref sig .tc := ⟨.hbm, 40, rfl⟩
abbrev main_call2_v1 : Ref sig .tc := ⟨.hbm, 41, rfl⟩
abbrev main_call2_v2 : Ref sig .tc := ⟨.hbm, 42, rfl⟩
abbrev main_v14 : Ref sig .tc := ⟨.hbm, 43, rfl⟩
abbrev main_v15 : Ref sig .tc := ⟨.hbm, 44, rfl⟩
abbrev main_v16 : Ref sig .tc := ⟨.hbm, 45, rfl⟩
abbrev main_v17 : Ref sig .tc := ⟨.hbm, 46, rfl⟩
abbrev main_v18 : Ref sig .tc := ⟨.hbm, 47, rfl⟩
abbrev main_v19 : Ref sig .tc := ⟨.hbm, 48, rfl⟩
abbrev main_v20 : Ref sig .tc := ⟨.hbm, 49, rfl⟩
abbrev main_v21 : Ref sig .tc := ⟨.hbm, 50, rfl⟩
abbrev main_v22 : Ref sig .tc := ⟨.hbm, 51, rfl⟩
abbrev main_v23 : Ref sig .tc := ⟨.hbm, 52, rfl⟩
abbrev main_v24 : Ref sig .tc := ⟨.hbm, 53, rfl⟩
abbrev main_v25 : Ref sig .tc := ⟨.hbm, 54, rfl⟩
abbrev main_v26_0 : Ref sig .tc := ⟨.hbm, 55, rfl⟩
abbrev main_v26_1 : Ref sig .tc := ⟨.hbm, 56, rfl⟩
abbrev main_v26_2 : Ref sig .tc := ⟨.hbm, 57, rfl⟩
abbrev main_v26_3 : Ref sig .tc := ⟨.hbm, 58, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg8_0 : Ref sig .tc := ⟨.vmem, 9, rfl⟩
abbrev cc0_stg9_0 : Ref sig .tc := ⟨.vmem, 10, rfl⟩
abbrev cc0_stg10_0 : Ref sig .tc := ⟨.vmem, 11, rfl⟩
abbrev cc0_stg10_1 : Ref sig .tc := ⟨.vmem, 12, rfl⟩
abbrev cc0_stg11_0 : Ref sig .tc := ⟨.vmem, 13, rfl⟩
abbrev cc0_stg11_1 : Ref sig .tc := ⟨.vmem, 14, rfl⟩
abbrev cc0_stg12_0 : Ref sig .tc := ⟨.vmem, 15, rfl⟩
abbrev cc0_stg12_1 : Ref sig .tc := ⟨.vmem, 16, rfl⟩
abbrev cc0_stg13_0 : Ref sig .tc := ⟨.vmem, 17, rfl⟩
abbrev cc0_stg13_1 : Ref sig .tc := ⟨.vmem, 18, rfl⟩
abbrev cc0_scratch0 : Ref sig .tc := ⟨.vmem, 19, rfl⟩
abbrev cc0_scratch1 : Ref sig .tc := ⟨.vmem, 20, rfl⟩
abbrev cc0_scratch2 : Ref sig .tc := ⟨.vmem, 21, rfl⟩
abbrev cc0_scratch3 : Ref sig .tc := ⟨.vmem, 22, rfl⟩
abbrev cc0_scratch4 : Ref sig .tc := ⟨.vmem, 23, rfl⟩
abbrev cc0_scratch5 : Ref sig .tc := ⟨.vmem, 24, rfl⟩
abbrev cc0_scratch6 : Ref sig .tc := ⟨.vmem, 25, rfl⟩
abbrev cc0_scratch7 : Ref sig .tc := ⟨.vmem, 26, rfl⟩
abbrev cc0_scratch8 : Ref sig .tc := ⟨.vmem, 27, rfl⟩
abbrev cc0_scratch9 : Ref sig .tc := ⟨.vmem, 28, rfl⟩
abbrev cc0_stg3_0 : Ref sig .tc := ⟨.smem, 0, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem8_0 : DmaSem sig := 10
abbrev cc0_sem9_0 : DmaSem sig := 11
abbrev cc0_sem10_0 : DmaSem sig := 12
abbrev cc0_sem10_1 : DmaSem sig := 13
abbrev cc0_sem11_0 : DmaSem sig := 14
abbrev cc0_sem11_1 : DmaSem sig := 15
abbrev cc0_sem12_0 : DmaSem sig := 16
abbrev cc0_sem12_1 : DmaSem sig := 17
abbrev cc0_sem13_0 : DmaSem sig := 18
abbrev cc0_sem13_1 : DmaSem sig := 19

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c1_i32 : BitVec 32 := 1#32
  let v0 : BitVec 32 := Scalar.subi arg0 c1_i32
  let c0_i32 : BitVec 32 := 0#32
  let v1 : BitVec 32 := Scalar.maxsi v0 c0_i32
  let c2_i32 : BitVec 32 := 2#32
  let c0_i32_0 : BitVec 32 := 0#32
  ![v1.toNat, c2_i32.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_3 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_13 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S128x1792 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S128x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S8x128x256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .smem S8 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x512 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x512 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S4x128x256 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S128x512 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x512 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1x512 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 2 → Memref sig .tc .vmem S128x1024 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S8x128x256 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S128x128 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 2 → Memref sig .tc .vmem S128x512 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]
-- ==== MixFwdIdeal.lean ====
variable {F : FTy → Type} [FloatOps F] [Named F]
def κ : String → Option EReal := fun
  | "mask" => some ⊥
  | _ => none
-- ==== MixFwdRefIdeal.lean ====
abbrev S8192x1792 : Shape := ⟨2, ![8192, 1792]⟩
abbrev S8x128x256 : Shape := ⟨3, ![8, 128, 256]⟩
abbrev S8 : Shape := ⟨1, ![8]⟩
abbrev S512 : Shape := ⟨1, ![512]⟩
abbrev S8x128x128 : Shape := ⟨3, ![8, 128, 128]⟩
abbrev S8x128 : Shape := ⟨2, ![8, 128]⟩
abbrev S8192x512 : Shape := ⟨2, ![8192, 512]⟩
abbrev S8192x128 : Shape := ⟨2, ![8192, 128]⟩
abbrev S64x128x2x64 : Shape := ⟨4, ![64, 128, 2, 64]⟩
abbrev S_ : Shape := ⟨0, ![]⟩
abbrev S1x128x2x64 : Shape := ⟨4, ![1, 128, 2, 64]⟩
abbrev S63x128x2x64 : Shape := ⟨4, ![63, 128, 2, 64]⟩
abbrev S64x256x2x64 : Shape := ⟨4, ![64, 256, 2, 64]⟩
abbrev S64x128x2x4x64 : Shape := ⟨5, ![64, 128, 2, 4, 64]⟩
abbrev S64x2x256x128x4 : Shape := ⟨5, ![64, 2, 256, 128, 4]⟩
abbrev S64x2x4x128x256 : Shape := ⟨5, ![64, 2, 4, 128, 256]⟩
abbrev S2x4x128x256 : Shape := ⟨4, ![2, 4, 128, 256]⟩
abbrev S2x4 : Shape := ⟨2, ![2, 4]⟩
abbrev S64x2x4x128x1 : Shape := ⟨5, ![64, 2, 4, 128, 1]⟩
abbrev S64x2x4x128 : Shape := ⟨4, ![64, 2, 4, 128]⟩
abbrev S64x2x64x4x128 : Shape := ⟨5, ![64, 2, 64, 4, 128]⟩
abbrev S64x128x8x64 : Shape := ⟨4, ![64, 128, 8, 64]⟩
abbrev S8192x8x64 : Shape := ⟨3, ![8192, 8, 64]⟩
abbrev S8x64 : Shape := ⟨2, ![8, 64]⟩
abbrev S8192x8 : Shape := ⟨2, ![8192, 8]⟩
abbrev S8192x8x1 : Shape := ⟨3, ![8192, 8, 1]⟩
abbrev S1x8x64 : Shape := ⟨3, ![1, 8, 64]⟩
abbrev S8x64x64x128 : Shape := ⟨4, ![8, 64, 64, 128]⟩
abbrev S128x8 : Shape := ⟨2, ![128, 8]⟩
abbrev S1x128x8x1 : Shape := ⟨4, ![1, 128, 8, 1]⟩
abbrev S8192 : Shape := ⟨1, ![8192]⟩
abbrev S8192x1 : Shape := ⟨2, ![8192, 1]⟩
abbrev S1x512 : Shape := ⟨2, ![1, 512]⟩
abbrev S8192x1024 : Shape := ⟨2, ![8192, 1024]⟩
abbrev S64x8x128x256 : Shape := ⟨4, ![64, 8, 128, 256]⟩
abbrev S8x64x128x256 : Shape := ⟨4, ![8, 64, 128, 256]⟩
abbrev S8x8192x256 : Shape := ⟨3, ![8, 8192, 256]⟩
abbrev S64x8x128 : Shape := ⟨3, ![64, 8, 128]⟩
abbrev S64x128x8 : Shape := ⟨3, ![64, 128, 8]⟩
abbrev S8192x120 : Shape := ⟨2, ![8192, 120]⟩

abbrev nBuf : Space → Nat
  | .hbm => 195
  | .vmem => 0
  | .smem => 0
  | _ => 0

abbrev hbmTy0_0 (i : Nat) : BufTy := match i % 128 with
  | 0 => ⟨S8192x1792, .f32⟩
  | 1 => ⟨S8x128x256, .f32⟩
  | 2 => ⟨S8, .f32⟩
  | 3 => ⟨S512, .f32⟩
  | 4 => ⟨S512, .f32⟩
  | 5 => ⟨S8x128x128, .f32⟩
  | 6 => ⟨S8x128, .f32⟩
  | 7 => ⟨S512, .f32⟩
  | 8 => ⟨S512, .f32⟩
  | 9 => ⟨S8192x512, .f32⟩
  | 10 => ⟨S8192x128, .f32⟩
  | 11 => ⟨S8192x128, .f32⟩
  | 12 => ⟨S8192x512, .f32⟩
  | 13 => ⟨S8192x512, .f32⟩
  | 14 => ⟨S64x128x2x64, .f32⟩
  | 15 => ⟨S64x128x2x64, .f32⟩
  | 16 => ⟨S_, .f32⟩
  | 17 => ⟨S1x128x2x64, .f32⟩
  | 18 => ⟨S63x128x2x64, .f32⟩
  | 19 => ⟨S64x128x2x64, .f32⟩
  | 20 => ⟨S64x256x2x64, .f32⟩
  | 21 => ⟨S63x128x2x64, .f32⟩
  | 22 => ⟨S64x128x2x64, .f32⟩
  | 23 => ⟨S64x256x2x64, .f32⟩
  | 24 => ⟨S64x128x2x4x64, .f32⟩
  | 25 => ⟨S64x2x256x128x4, .f32⟩
  | 26 => ⟨S64x2x4x128x256, .f32⟩
  | 27 => ⟨S_, .f32⟩
  | 28 => ⟨S64x2x4x128x256, .f32⟩
  | 29 => ⟨S64x2x4x128x256, .f32⟩
  | 30 => ⟨S2x4x128x256, .f32⟩
  | 31 => ⟨S64x2x4x128x256, .f32⟩
  | 32 => ⟨S64x2x4x128x256, .f32⟩
  | 33 => ⟨S64x2x4x128x256, .i32⟩
  | 34 => ⟨S64x2x4x128x256, .i32⟩
  | 35 => ⟨S64x2x4x128x256, .i32⟩
  | 36 => ⟨S_, .i32⟩
  | 37 => ⟨S64x2x4x128x256, .i32⟩
  | 38 => ⟨S64x2x4x128x256, .i1⟩
  | 39 => ⟨S64x2x4x128x256, .i32⟩
  | 40 => ⟨S64x2x4x128x256, .i1⟩
  | 41 => ⟨S64x2x4x128x256, .i1⟩
  | 42 => ⟨S64x2x4x128x256, .i32⟩
  | 43 => ⟨S64x2x4x128x256, .i32⟩
  | 44 => ⟨S64x2x4x128x256, .i1⟩
  | 45 => ⟨S64x2x4x128x256, .i1⟩
  | 46 => ⟨S_, .f32⟩
  | 47 => ⟨S64x2x4x128x256, .f32⟩
  | 48 => ⟨S64x2x4x128x256, .f32⟩
  | 49 => ⟨S2x4, .f32⟩
  | 50 => ⟨S64x2x4x128x1, .f32⟩
  | 51 => ⟨S_, .f32⟩
  | 52 => ⟨S64x2x4x128, .f32⟩
  | 53 => ⟨S64x2x4x128x1, .f32⟩
  | 54 => ⟨S64x2x4x128x1, .f32⟩
  | 55 => ⟨S64x2x4x128x256, .f32⟩
  | 56 => ⟨S64x2x4x128x256, .f32⟩
  | 57 => ⟨S64x2x4x128x256, .f32⟩
  | 58 => ⟨S64x2x4x128x1, .f32⟩
  | 59 => ⟨S64x2x4x128x1, .f32⟩
  | 60 => ⟨S_, .f32⟩
  | 61 => ⟨S64x2x4x128, .f32⟩
  | 62 => ⟨S64x2x4x128x1, .f32⟩
  | 63 => ⟨S64x2x4x128x1, .f32⟩
  | 64 => ⟨S64x2x4x128x256, .f32⟩
  | 65 => ⟨S64x2x4x128x256, .f32⟩
  | 66 => ⟨S64x2x4x128x1, .f32⟩
  | 67 => ⟨S64x2x64x4x128, .f32⟩
  | 68 => ⟨S64x128x2x4x64, .f32⟩
  | 69 => ⟨S8192x512, .f32⟩
  | 70 => ⟨S8192x512, .f32⟩
  | 71 => ⟨S8192x512, .f32⟩
  | 72 => ⟨S_, .f32⟩
  | 73 => ⟨S8192x512, .f32⟩
  | 74 => ⟨S8192x512, .f32⟩
  | 75 => ⟨S8192x512, .f32⟩
  | 76 => ⟨S_, .f32⟩
  | 77 => ⟨S8192x512, .f32⟩
  | 78 => ⟨S8192x512, .f32⟩
  | 79 => ⟨S8192x512, .f32⟩
  | 80 => ⟨S_, .f32⟩
  | 81 => ⟨S8192x512, .f32⟩
  | 82 => ⟨S8192x512, .f32⟩
  | 83 => ⟨S_, .f32⟩
  | 84 => ⟨S8192x512, .f32⟩
  | 85 => ⟨S8192x512, .f32⟩
  | 86 => ⟨S8192x512, .f32⟩
  | 87 => ⟨S64x128x8x64, .f32⟩
  | 88 => ⟨S8192x512, .f32⟩
  | 89 => ⟨S8192x512, .f32⟩
  | 90 => ⟨S_, .f32⟩
  | 91 => ⟨S8192x512, .f32⟩
  | 92 => ⟨S8192x512, .f32⟩
  | 93 => ⟨S8192x512, .f32⟩
  | 94 => ⟨S_, .f32⟩
  | 95 => ⟨S8192x512, .f32⟩
  | 96 => ⟨S8192x512, .f32⟩
  | 97 => ⟨S8192x512, .f32⟩
  | 98 => ⟨S_, .f32⟩
  | 99 => ⟨S8192x512, .f32⟩
  | 100 => ⟨S8192x512, .f32⟩
  | 101 => ⟨S_, .f32⟩
  | 102 => ⟨S8192x512, .f32⟩
  | 103 => ⟨S8192x512, .f32⟩
  | 104 => ⟨S8192x512, .f32⟩
  | 105 => ⟨S8192x8x64, .f32⟩
  | 106 => ⟨S8x64, .f32⟩
  | 107 => ⟨S8x64, .f32⟩
  | 108 => ⟨S_, .f32⟩
  | 109 => ⟨S8192x8, .f32⟩
  | 110 => ⟨S8192x8x1, .f32⟩
  | 111 => ⟨S_, .f32⟩
  | 112 => ⟨S8192x8x1, .f32⟩
  | 113 => ⟨S8192x8x1, .f32⟩
  | 114 => ⟨S8192x8x64, .f32⟩
  | 115 => ⟨S8192x8x64, .f32⟩
  | 116 => ⟨S8192x8x64, .f32⟩
  | 117 => ⟨S_, .f32⟩
  | 118 => ⟨S8192x8, .f32⟩
  | 119 => ⟨S8192x8x1, .f32⟩
  | 120 => ⟨S_, .f32⟩
  | 121 => ⟨S8192x8x1, .f32⟩
  | 122 => ⟨S8192x8x1, .f32⟩
  | 123 => ⟨S8192x8x64, .f32⟩
  | 124 => ⟨S8192x8x64, .f32⟩
  | 125 => ⟨S_, .f32⟩
  | 126 => ⟨S8192x8x1, .f32⟩
  | 127 => ⟨S8192x8x1, .f32⟩
  | _ => ⟨S8192x1792, .f32⟩

abbrev hbmTy0_1 (i : Nat) : BufTy := match i % 128 with
  | 0 => ⟨S8192x8x1, .f32⟩
  | 1 => ⟨S8192x8x64, .f32⟩
  | 2 => ⟨S8192x8x64, .f32⟩
  | 3 => ⟨S1x8x64, .f32⟩
  | 4 => ⟨S8192x8x64, .f32⟩
  | 5 => ⟨S8192x8x64, .f32⟩
  | 6 => ⟨S1x8x64, .f32⟩
  | 7 => ⟨S8192x8x64, .f32⟩
  | 8 => ⟨S8192x8x64, .f32⟩
  | 9 => ⟨S64x128x8x64, .f32⟩
  | 10 => ⟨S8x128x128, .i32⟩
  | 11 => ⟨S8x128x128, .i32⟩
  | 12 => ⟨S8x128x128, .i1⟩
  | 13 => ⟨S_, .f32⟩
  | 14 => ⟨S8x128x128, .f32⟩
  | 15 => ⟨S8x128x128, .f32⟩
  | 16 => ⟨S8x64x64x128, .f32⟩
  | 17 => ⟨S64x128x8x64, .f32⟩
  | 18 => ⟨S128x8, .f32⟩
  | 19 => ⟨S1x128x8x1, .f32⟩
  | 20 => ⟨S64x128x8x64, .f32⟩
  | 21 => ⟨S64x128x8x64, .f32⟩
  | 22 => ⟨S64x128x8x64, .f32⟩
  | 23 => ⟨S8192x512, .f32⟩
  | 24 => ⟨S8192x512, .f32⟩
  | 25 => ⟨S_, .f32⟩
  | 26 => ⟨S8192, .f32⟩
  | 27 => ⟨S8192x1, .f32⟩
  | 28 => ⟨S_, .f32⟩
  | 29 => ⟨S8192x1, .f32⟩
  | 30 => ⟨S8192x1, .f32⟩
  | 31 => ⟨S_, .f32⟩
  | 32 => ⟨S8192x1, .f32⟩
  | 33 => ⟨S8192x1, .f32⟩
  | 34 => ⟨S8192x1, .f32⟩
  | 35 => ⟨S8192x512, .f32⟩
  | 36 => ⟨S8192x512, .f32⟩
  | 37 => ⟨S1x512, .f32⟩
  | 38 => ⟨S8192x512, .f32⟩
  | 39 => ⟨S8192x512, .f32⟩
  | 40 => ⟨S8192x512, .f32⟩
  | 41 => ⟨S_, .f32⟩
  | 42 => ⟨S8192, .f32⟩
  | 43 => ⟨S8192x1, .f32⟩
  | 44 => ⟨S_, .f32⟩
  | 45 => ⟨S8192x1, .f32⟩
  | 46 => ⟨S8192x1, .f32⟩
  | 47 => ⟨S_, .f32⟩
  | 48 => ⟨S8192x1, .f32⟩
  | 49 => ⟨S8192x1, .f32⟩
  | 50 => ⟨S8192x1, .f32⟩
  | 51 => ⟨S8192x512, .f32⟩
  | 52 => ⟨S8192x512, .f32⟩
  | 53 => ⟨S1x512, .f32⟩
  | 54 => ⟨S8192x512, .f32⟩
  | 55 => ⟨S8192x512, .f32⟩
  | 56 => ⟨S8192x1024, .f32⟩
  | 57 => ⟨S64x8x128x256, .f32⟩
  | 58 => ⟨S8x64x128x256, .f32⟩
  | 59 => ⟨S8x8192x256, .f32⟩
  | 60 => ⟨S64x8x128, .f32⟩
  | 61 => ⟨S64x128x8, .f32⟩
  | 62 => ⟨S8192x8, .f32⟩
  | 63 => ⟨S_, .f32⟩
  | 64 => ⟨S8192x120, .f32⟩
  | 65 => ⟨S8192x1024, .bf16⟩
  | 66 => ⟨S8192x128, .f32⟩
  | _ => ⟨S8192x1792, .f32⟩

abbrev hbmTy (i : Nat) : BufTy := match i / 128 with
  | 0 => hbmTy0_0 i
  | 1 => hbmTy0_1 i
  | _ => ⟨S8192x1792, .f32⟩

abbrev bufTy : (tb : Table) → Fin (tcTables nBuf tb) → BufTy
  | .hbm, ⟨i, _⟩ => hbmTy i
  | _, _ => ⟨S8192x1792, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_cst : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_cst_0 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_c : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_cst_1 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩
abbrev main_cst_2 : Ref sig .tc := ⟨.hbm, 51, rfl⟩
abbrev main_v38 : Ref sig .tc := ⟨.hbm, 52, rfl⟩
abbrev main_v39 : Ref sig .tc := ⟨.hbm, 53, rfl⟩
abbrev main_v40 : Ref sig .tc := ⟨.hbm, 54, rfl⟩
abbrev main_v41 : Ref sig .tc := ⟨.hbm, 55, rfl⟩
abbrev main_v42 : Ref sig .tc := ⟨.hbm, 56, rfl⟩
abbrev main_v43 : Ref sig .tc := ⟨.hbm, 57, rfl⟩
abbrev main_v44 : Ref sig .tc := ⟨.hbm, 58, rfl⟩
abbrev main_v45 : Ref sig .tc := ⟨.hbm, 59, rfl⟩
abbrev main_cst_3 : Ref sig .tc := ⟨.hbm, 60, rfl⟩
abbrev main_v46 : Ref sig .tc := ⟨.hbm, 61, rfl⟩
abbrev main_v47 : Ref sig .tc := ⟨.hbm, 62, rfl⟩
abbrev main_v48 : Ref sig .tc := ⟨.hbm, 63, rfl⟩
abbrev main_v49 : Ref sig .tc := ⟨.hbm, 64, rfl⟩
abbrev main_v50 : Ref sig .tc := ⟨.hbm, 65, rfl⟩
abbrev main_v51 : Ref sig .tc := ⟨.hbm, 66, rfl⟩
abbrev main_v52 : Ref sig .tc := ⟨.hbm, 67, rfl⟩
abbrev main_v53 : Ref sig .tc := ⟨.hbm, 68, rfl⟩
abbrev main_v54 : Ref sig .tc := ⟨.hbm, 69, rfl⟩
abbrev main_v55 : Ref sig .tc := ⟨.hbm, 70, rfl⟩
abbrev main_v56 : Ref sig .tc := ⟨.hbm, 71, rfl⟩
abbrev main_cst_4 : Ref sig .tc := ⟨.hbm, 72, rfl⟩
abbrev main_v57 : Ref sig .tc := ⟨.hbm, 73, rfl⟩
abbrev main_v58 : Ref sig .tc := ⟨.hbm, 74, rfl⟩
abbrev main_v59 : Ref sig .tc := ⟨.hbm, 75, rfl⟩
abbrev main_cst_5 : Ref sig .tc := ⟨.hbm, 76, rfl⟩
abbrev main_v60 : Ref sig .tc := ⟨.hbm, 77, rfl⟩
abbrev main_v61 : Ref sig .tc := ⟨.hbm, 78, rfl⟩
abbrev main_v62 : Ref sig .tc := ⟨.hbm, 79, rfl⟩
abbrev main_cst_6 : Ref sig .tc := ⟨.hbm, 80, rfl⟩
abbrev main_v63 : Ref sig .tc := ⟨.hbm, 81, rfl⟩
abbrev main_v64 : Ref sig .tc := ⟨.hbm, 82, rfl⟩
abbrev main_cst_7 : Ref sig .tc := ⟨.hbm, 83, rfl⟩
abbrev main_v65 : Ref sig .tc := ⟨.hbm, 84, rfl⟩
abbrev main_v66 : Ref sig .tc := ⟨.hbm, 85, rfl⟩
abbrev main_v67 : Ref sig .tc := ⟨.hbm, 86, rfl⟩
abbrev main_v68 : Ref sig .tc := ⟨.hbm, 87, rfl⟩
abbrev main_v69 : Ref sig .tc := ⟨.hbm, 88, rfl⟩
abbrev main_v70 : Ref sig .tc := ⟨.hbm, 89, rfl⟩
abbrev main_cst_8 : Ref sig .tc := ⟨.hbm, 90, rfl⟩
abbrev main_v71 : Ref sig .tc := ⟨.hbm, 91, rfl⟩
abbrev main_v72 : Ref sig .tc := ⟨.hbm, 92, rfl⟩
abbrev main_v73 : Ref sig .tc := ⟨.hbm, 93, rfl⟩
abbrev main_cst_9 : Ref sig .tc := ⟨.hbm, 94, rfl⟩
abbrev main_v74 : Ref sig .tc := ⟨.hbm, 95, rfl⟩
abbrev main_v75 : Ref sig .tc := ⟨.hbm, 96, rfl⟩
abbrev main_v76 : Ref sig .tc := ⟨.hbm, 97, rfl⟩
abbrev main_cst_10 : Ref sig .tc := ⟨.hbm, 98, rfl⟩
abbrev main_v77 : Ref sig .tc := ⟨.hbm, 99, rfl⟩
abbrev main_v78 : Ref sig .tc := ⟨.hbm, 100, rfl⟩
abbrev main_cst_11 : Ref sig .tc := ⟨.hbm, 101, rfl⟩
abbrev main_v79 : Ref sig .tc := ⟨.hbm, 102, rfl⟩
abbrev main_v80 : Ref sig .tc := ⟨.hbm, 103, rfl⟩
abbrev main_v81 : Ref sig .tc := ⟨.hbm, 104, rfl⟩
abbrev main_v82 : Ref sig .tc := ⟨.hbm, 105, rfl⟩
abbrev main_v83 : Ref sig .tc := ⟨.hbm, 106, rfl⟩
abbrev main_v84 : Ref sig .tc := ⟨.hbm, 107, rfl⟩
abbrev main_cst_12 : Ref sig .tc := ⟨.hbm, 108, rfl⟩
abbrev main_v85 : Ref sig .tc := ⟨.hbm, 109, rfl⟩
abbrev main_v86 : Ref sig .tc := ⟨.hbm, 110, rfl⟩
abbrev main_cst_13 : Ref sig .tc := ⟨.hbm, 111, rfl⟩
abbrev main_v87 : Ref sig .tc := ⟨.hbm, 112, rfl⟩
abbrev main_v88 : Ref sig .tc := ⟨.hbm, 113, rfl⟩
abbrev main_v89 : Ref sig .tc := ⟨.hbm, 114, rfl⟩
abbrev main_v90 : Ref sig .tc := ⟨.hbm, 115, rfl⟩
abbrev main_v91 : Ref sig .tc := ⟨.hbm, 116, rfl⟩
abbrev main_cst_14 : Ref sig .tc := ⟨.hbm, 117, rfl⟩
abbrev main_v92 : Ref sig .tc := ⟨.hbm, 118, rfl⟩
abbrev main_v93 : Ref sig .tc := ⟨.hbm, 119, rfl⟩
abbrev main_cst_15 : Ref sig .tc := ⟨.hbm, 120, rfl⟩
abbrev main_v94 : Ref sig .tc := ⟨.hbm, 121, rfl⟩
abbrev main_v95 : Ref sig .tc := ⟨.hbm, 122, rfl⟩
abbrev main_v96 : Ref sig .tc := ⟨.hbm, 123, rfl⟩
abbrev main_v97 : Ref sig .tc := ⟨.hbm, 124, rfl⟩
abbrev main_cst_16 : Ref sig .tc := ⟨.hbm, 125, rfl⟩
abbrev main_v98 : Ref sig .tc := ⟨.hbm, 126, rfl⟩
abbrev main_v99 : Ref sig .tc := ⟨.hbm, 127, rfl⟩
abbrev main_v100 : Ref sig .tc := ⟨.hbm, 128, rfl⟩
abbrev main_v101 : Ref sig .tc := ⟨.hbm, 129, rfl⟩
abbrev main_v102 : Ref sig .tc := ⟨.hbm, 130, rfl⟩
abbrev main_v103 : Ref sig .tc := ⟨.hbm, 131, rfl⟩
abbrev main_v104 : Ref sig .tc := ⟨.hbm, 132, rfl⟩
abbrev main_v105 : Ref sig .tc := ⟨.hbm, 133, rfl⟩
abbrev main_v106 : Ref sig .tc := ⟨.hbm, 134, rfl⟩
abbrev main_v107 : Ref sig .tc := ⟨.hbm, 135, rfl⟩
abbrev main_v108 : Ref sig .tc := ⟨.hbm, 136, rfl⟩
abbrev main_v109 : Ref sig .tc := ⟨.hbm, 137, rfl⟩
abbrev main_v110 : Ref sig .tc := ⟨.hbm, 138, rfl⟩
abbrev main_v111 : Ref sig .tc := ⟨.hbm, 139, rfl⟩
abbrev main_v112 : Ref sig .tc := ⟨.hbm, 140, rfl⟩
abbrev main_cst_17 : Ref sig .tc := ⟨.hbm, 141, rfl⟩
abbrev main_v113 : Ref sig .tc := ⟨.hbm, 142, rfl⟩
abbrev main_v114 : Ref sig .tc := ⟨.hbm, 143, rfl⟩
abbrev main_v115 : Ref sig .tc := ⟨.hbm, 144, rfl⟩
abbrev main_v116 : Ref sig .tc := ⟨.hbm, 145, rfl⟩
abbrev main_v117 : Ref sig .tc := ⟨.hbm, 146, rfl⟩
abbrev main_v118 : Ref sig .tc := ⟨.hbm, 147, rfl⟩
abbrev main_v119 : Ref sig .tc := ⟨.hbm, 148, rfl⟩
abbrev main_v120 : Ref sig .tc := ⟨.hbm, 149, rfl⟩
abbrev main_v121 : Ref sig .tc := ⟨.hbm, 150, rfl⟩
abbrev main_v122 : Ref sig .tc := ⟨.hbm, 151, rfl⟩
abbrev main_v123 : Ref sig .tc := ⟨.hbm, 152, rfl⟩
abbrev main_cst_18 : Ref sig .tc := ⟨.hbm, 153, rfl⟩
abbrev main_v124 : Ref sig .tc := ⟨.hbm, 154, rfl⟩
abbrev main_v125 : Ref sig .tc := ⟨.hbm, 155, rfl⟩
abbrev main_cst_19 : Ref sig .tc := ⟨.hbm, 156, rfl⟩
abbrev main_v126 : Ref sig .tc := ⟨.hbm, 157, rfl⟩
abbrev main_v127 : Ref sig .tc := ⟨.hbm, 158, rfl⟩
abbrev main_cst_20 : Ref sig .tc := ⟨.hbm, 159, rfl⟩
abbrev main_v128 : Ref sig .tc := ⟨.hbm, 160, rfl⟩
abbrev main_v129 : Ref sig .tc := ⟨.hbm, 161, rfl⟩
abbrev main_v130 : Ref sig .tc := ⟨.hbm, 162, rfl⟩
abbrev main_v131 : Ref sig .tc := ⟨.hbm, 163, rfl⟩
abbrev main_v132 : Ref sig .tc := ⟨.hbm, 164, rfl⟩
abbrev main_v133 : Ref sig .tc := ⟨.hbm, 165, rfl⟩
abbrev main_v134 : Ref sig .tc := ⟨.hbm, 166, rfl⟩
abbrev main_v135 : Ref sig .tc := ⟨.hbm, 167, rfl⟩
abbrev main_v136 : Ref sig .tc := ⟨.hbm, 168, rfl⟩
abbrev main_cst_21 : Ref sig .tc := ⟨.hbm, 169, rfl⟩
abbrev main_v137 : Ref sig .tc := ⟨.hbm, 170, rfl⟩
abbrev main_v138 : Ref sig .tc := ⟨.hbm, 171, rfl⟩
abbrev main_cst_22 : Ref sig .tc := ⟨.hbm, 172, rfl⟩
abbrev main_v139 : Ref sig .tc := ⟨.hbm, 173, rfl⟩
abbrev main_v140 : Ref sig .tc := ⟨.hbm, 174, rfl⟩
abbrev main_cst_23 : Ref sig .tc := ⟨.hbm, 175, rfl⟩
abbrev main_v141 : Ref sig .tc := ⟨.hbm, 176, rfl⟩
abbrev main_v142 : Ref sig .tc := ⟨.hbm, 177, rfl⟩
abbrev main_v143 : Ref sig .tc := ⟨.hbm, 178, rfl⟩
abbrev main_v144 : Ref sig .tc := ⟨.hbm, 179, rfl⟩
abbrev main_v145 : Ref sig .tc := ⟨.hbm, 180, rfl⟩
abbrev main_v146 : Ref sig .tc := ⟨.hbm, 181, rfl⟩
abbrev main_v147 : Ref sig .tc := ⟨.hbm, 182, rfl⟩
abbrev main_v148 : Ref sig .tc := ⟨.hbm, 183, rfl⟩
abbrev main_v149 : Ref sig .tc := ⟨.hbm, 184, rfl⟩
abbrev main_v150 : Ref sig .tc := ⟨.hbm, 185, rfl⟩
abbrev main_v151 : Ref sig .tc := ⟨.hbm, 186, rfl⟩
abbrev main_v152 : Ref sig .tc := ⟨.hbm, 187, rfl⟩
abbrev main_v153 : Ref sig .tc := ⟨.hbm, 188, rfl⟩
abbrev main_v154 : Ref sig .tc := ⟨.hbm, 189, rfl⟩
abbrev main_v155 : Ref sig .tc := ⟨.hbm, 190, rfl⟩
abbrev main_cst_24 : Ref sig .tc := ⟨.hbm, 191, rfl⟩
abbrev main_v156 : Ref sig .tc := ⟨.hbm, 192, rfl⟩
abbrev main_v157 : Ref sig .tc := ⟨.hbm, 193, rfl⟩
abbrev main_v158 : Ref sig .tc := ⟨.hbm, 194, rfl⟩

abbrev nD : Nat := 1
abbrev τ : Topo := Topo.v7x

variable {F : FTy → Type} [FloatOps F]
-- ==== Outp.lean ====
abbrev S8192x1024 : Shape := ⟨2, ![8192, 1024]⟩
abbrev S1024x1024 : Shape := ⟨2, ![1024, 1024]⟩
abbrev S1024 : Shape := ⟨1, ![1024]⟩
abbrev S1x1024 : Shape := ⟨2, ![1, 1024]⟩
abbrev S512x1024 : Shape := ⟨2, ![512, 1024]⟩
abbrev S512 : Shape := ⟨1, ![512]⟩
abbrev S512x1 : Shape := ⟨2, ![512, 1]⟩

abbrev nBuf : Space → Nat
  | .hbm => 18
  | .vmem => 16
  | .smem => 0
  | _ => 0

abbrev bufTy : (tb : Table) → Fin (tcTables nBuf tb) → BufTy
  | .hbm, ⟨0, _⟩ => ⟨S8192x1024, .f32⟩
  | .hbm, ⟨1, _⟩ => ⟨S1024x1024, .f32⟩
  | .hbm, ⟨2, _⟩ => ⟨S8192x1024, .f32⟩
  | .hbm, ⟨3, _⟩ => ⟨S1024, .f32⟩
  | .hbm, ⟨4, _⟩ => ⟨S1024, .f32⟩
  | .hbm, ⟨5, _⟩ => ⟨S1024, .f32⟩
  | .hbm, ⟨6, _⟩ => ⟨S1024, .f32⟩
  | .hbm, ⟨7, _⟩ => ⟨S1024, .f32⟩
  | .hbm, ⟨8, _⟩ => ⟨S8192x1024, .bf16⟩
  | .hbm, ⟨9, _⟩ => ⟨S1024x1024, .bf16⟩
  | .hbm, ⟨10, _⟩ => ⟨S1x1024, .f32⟩
  | .hbm, ⟨11, _⟩ => ⟨S1x1024, .f32⟩
  | .hbm, ⟨12, _⟩ => ⟨S1x1024, .f32⟩
  | .hbm, ⟨13, _⟩ => ⟨S1x1024, .f32⟩
  | .hbm, ⟨14, _⟩ => ⟨S1x1024, .f32⟩
  | .hbm, ⟨15, _⟩ => ⟨S8192x1024, .f32⟩
  | .hbm, ⟨16, _⟩ => ⟨S8192x1024, .f32⟩
  | .hbm, ⟨17, _⟩ => ⟨S8192x1024, .bf16⟩
  | .local _ .vmem, ⟨0, _⟩ => ⟨S512x1024, .bf16⟩
  | .local _ .vmem, ⟨1, _⟩ => ⟨S512x1024, .bf16⟩
  | .local _ .vmem, ⟨2, _⟩ => ⟨S1024x1024, .bf16⟩
  | .local _ .vmem, ⟨3, _⟩ => ⟨S512x1024, .f32⟩
  | .local _ .vmem, ⟨4, _⟩ => ⟨S512x1024, .f32⟩
  | .local _ .vmem, ⟨5, _⟩ => ⟨S1x1024, .f32⟩
  | .local _ .vmem, ⟨6, _⟩ => ⟨S1x1024, .f32⟩
  | .local _ .vmem, ⟨7, _⟩ => ⟨S1x1024, .f32⟩
  | .local _ .vmem, ⟨8, _⟩ => ⟨S1x1024, .f32⟩
  | .local _ .vmem, ⟨9, _⟩ => ⟨S1x1024, .f32⟩
  | .local _ .vmem, ⟨10, _⟩ => ⟨S512x1024, .f32⟩
  | .local _ .vmem, ⟨11, _⟩ => ⟨S512x1024, .f32⟩
  | .local _ .vmem, ⟨12, _⟩ => ⟨S512x1024, .f32⟩
  | .local _ .vmem, ⟨13, _⟩ => ⟨S512x1024, .f32⟩
  | .local _ .vmem, ⟨14, _⟩ => ⟨S512x1024, .bf16⟩
  | .local _ .vmem, ⟨15, _⟩ => ⟨S512x1024, .bf16⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7_0 : Ref sig .tc := ⟨.hbm, 15, rfl⟩
abbrev main_v7_1 : Ref sig .tc := ⟨.hbm, 16, rfl⟩
abbrev main_v7_2 : Ref sig .tc := ⟨.hbm, 17, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg8_0 : Ref sig .tc := ⟨.vmem, 10, rfl⟩
abbrev cc0_stg8_1 : Ref sig .tc := ⟨.vmem, 11, rfl⟩
abbrev cc0_stg9_0 : Ref sig .tc := ⟨.vmem, 12, rfl⟩
abbrev cc0_stg9_1 : Ref sig .tc := ⟨.vmem, 13, rfl⟩
abbrev cc0_stg10_0 : Ref sig .tc := ⟨.vmem, 14, rfl⟩
abbrev cc0_stg10_1 : Ref sig .tc := ⟨.vmem, 15, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem8_0 : DmaSem sig := 10
abbrev cc0_sem8_1 : DmaSem sig := 11
abbrev cc0_sem9_0 : DmaSem sig := 12
abbrev cc0_sem9_1 : DmaSem sig := 13
abbrev cc0_sem10_0 : DmaSem sig := 14
abbrev cc0_sem10_1 : DmaSem sig := 15

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 2 → Memref sig .tc .vmem S512x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S512x1024 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S512x1024 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]
-- ==== OutpRefIdeal.lean ====
abbrev S8192x1024 : Shape := ⟨2, ![8192, 1024]⟩
abbrev S1024x1024 : Shape := ⟨2, ![1024, 1024]⟩
abbrev S1024 : Shape := ⟨1, ![1024]⟩
abbrev S_ : Shape := ⟨0, ![]⟩
abbrev S1x1024 : Shape := ⟨2, ![1, 1024]⟩
abbrev S8192 : Shape := ⟨1, ![8192]⟩
abbrev S8192x1 : Shape := ⟨2, ![8192, 1]⟩

abbrev nBuf : Space → Nat
  | .hbm => 55
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S1024x1024, .f32⟩
  | .hbm, ⟨2, _⟩ => ⟨S8192x1024, .f32⟩
  | .hbm, ⟨3, _⟩ => ⟨S1024, .f32⟩
  | .hbm, ⟨4, _⟩ => ⟨S1024, .f32⟩
  | .hbm, ⟨5, _⟩ => ⟨S1024, .f32⟩
  | .hbm, ⟨6, _⟩ => ⟨S1024, .f32⟩
  | .hbm, ⟨7, _⟩ => ⟨S1024, .f32⟩
  | .hbm, ⟨8, _⟩ => ⟨S8192x1024, .f32⟩
  | .hbm, ⟨9, _⟩ => ⟨S_, .f32⟩
  | .hbm, ⟨10, _⟩ => ⟨S8192x1024, .f32⟩
  | .hbm, ⟨11, _⟩ => ⟨S8192x1024, .f32⟩
  | .hbm, ⟨12, _⟩ => ⟨S1x1024, .f32⟩
  | .hbm, ⟨13, _⟩ => ⟨S8192x1024, .f32⟩
  | .hbm, ⟨14, _⟩ => ⟨S8192x1024, .f32⟩
  | .hbm, ⟨15, _⟩ => ⟨S8192x1024, .f32⟩
  | .hbm, ⟨16, _⟩ => ⟨S_, .f32⟩
  | .hbm, ⟨17, _⟩ => ⟨S8192, .f32⟩
  | .hbm, ⟨18, _⟩ => ⟨S8192x1, .f32⟩
  | .hbm, ⟨19, _⟩ => ⟨S_, .f32⟩
  | .hbm, ⟨20, _⟩ => ⟨S8192x1, .f32⟩
  | .hbm, ⟨21, _⟩ => ⟨S8192x1, .f32⟩
  | .hbm, ⟨22, _⟩ => ⟨S8192x1024, .f32⟩
  | .hbm, ⟨23, _⟩ => ⟨S8192x1024, .f32⟩
  | .hbm, ⟨24, _⟩ => ⟨S8192x1024, .f32⟩
  | .hbm, ⟨25, _⟩ => ⟨S_, .f32⟩
  | .hbm, ⟨26, _⟩ => ⟨S8192, .f32⟩
  | .hbm, ⟨27, _⟩ => ⟨S8192x1, .f32⟩
  | .hbm, ⟨28, _⟩ => ⟨S_, .f32⟩
  | .hbm, ⟨29, _⟩ => ⟨S8192x1, .f32⟩
  | .hbm, ⟨30, _⟩ => ⟨S8192x1, .f32⟩
  | .hbm, ⟨31, _⟩ => ⟨S8192x1024, .f32⟩
  | .hbm, ⟨32, _⟩ => ⟨S8192x1024, .f32⟩
  | .hbm, ⟨33, _⟩ => ⟨S_, .f32⟩
  | .hbm, ⟨34, _⟩ => ⟨S8192x1, .f32⟩
  | .hbm, ⟨35, _⟩ => ⟨S8192x1, .f32⟩
  | .hbm, ⟨36, _⟩ => ⟨S8192x1, .f32⟩
  | .hbm, ⟨37, _⟩ => ⟨S8192x1024, .f32⟩
  | .hbm, ⟨38, _⟩ => ⟨S8192x1024, .f32⟩
  | .hbm, ⟨39, _⟩ => ⟨S1x1024, .f32⟩
  | .hbm, ⟨40, _⟩ => ⟨S8192x1024, .f32⟩
  | .hbm, ⟨41, _⟩ => ⟨S8192x1024, .f32⟩
  | .hbm, ⟨42, _⟩ => ⟨S1x1024, .f32⟩
  | .hbm, ⟨43, _⟩ => ⟨S8192x1024, .f32⟩
  | .hbm, ⟨44, _⟩ => ⟨S8192x1024, .f32⟩
  | .hbm, ⟨45, _⟩ => ⟨S_, .f32⟩
  | .hbm, ⟨46, _⟩ => ⟨S1024, .f32⟩
  | .hbm, ⟨47, _⟩ => ⟨S1024, .f32⟩
  | .hbm, ⟨48, _⟩ => ⟨S1x1024, .f32⟩
  | .hbm, ⟨49, _⟩ => ⟨S8192x1024, .f32⟩
  | .hbm, ⟨50, _⟩ => ⟨S8192x1024, .f32⟩
  | .hbm, ⟨51, _⟩ => ⟨S1x1024, .f32⟩
  | .hbm, ⟨52, _⟩ => ⟨S8192x1024, .f32⟩
  | .hbm, ⟨53, _⟩ => ⟨S8192x1024, .f32⟩
  | .hbm, ⟨54, _⟩ => ⟨S8192x1024, .bf16⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_cst : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_cst_0 : Ref sig .tc := ⟨.hbm, 16, rfl⟩
abbrev main_v7 : Ref sig .tc := ⟨.hbm, 17, rfl⟩
abbrev main_v8 : Ref sig .tc := ⟨.hbm, 18, rfl⟩
abbrev main_cst_1 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_cst_2 : Ref sig .tc := ⟨.hbm, 25, rfl⟩
abbrev main_v14 : Ref sig .tc := ⟨.hbm, 26, rfl⟩
abbrev main_v15 : Ref sig .tc := ⟨.hbm, 27, rfl⟩
abbrev main_cst_3 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_cst_4 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_cst_5 : Ref sig .tc := ⟨.hbm, 45, rfl⟩
abbrev main_v31 : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩
abbrev main_v35 : Ref sig .tc := ⟨.hbm, 50, rfl⟩
abbrev main_v36 : Ref sig .tc := ⟨.hbm, 51, rfl⟩
abbrev main_v37 : Ref sig .tc := ⟨.hbm, 52, rfl⟩
abbrev main_v38 : Ref sig .tc := ⟨.hbm, 53, rfl⟩
abbrev main_v39 : Ref sig .tc := ⟨.hbm, 54, rfl⟩

abbrev nD : Nat := 1
abbrev τ : Topo := Topo.v7x

variable {F : FTy → Type} [FloatOps F]
-- ==== Inp.lean ====
abbrev S8192x1024 : Shape := ⟨2, ![8192, 1024]⟩
abbrev S1024 : Shape := ⟨1, ![1024]⟩
abbrev S1024x1792 : Shape := ⟨2, ![1024, 1792]⟩
abbrev S1792 : Shape := ⟨1, ![1792]⟩
abbrev S1x1024 : Shape := ⟨2, ![1, 1024]⟩
abbrev S1792x1024 : Shape := ⟨2, ![1792, 1024]⟩
abbrev S1x1792 : Shape := ⟨2, ![1, 1792]⟩
abbrev S8192x1792 : Shape := ⟨2, ![8192, 1792]⟩
abbrev S512x1024 : Shape := ⟨2, ![512, 1024]⟩
abbrev S512x1792 : Shape := ⟨2, ![512, 1792]⟩

abbrev nBuf : Space → Nat
  | .hbm => 12
  | .vmem => 10
  | .smem => 0
  | _ => 0

abbrev bufTy : (tb : Table) → Fin (tcTables nBuf tb) → BufTy
  | .hbm, ⟨0, _⟩ => ⟨S8192x1024, .f32⟩
  | .hbm, ⟨1, _⟩ => ⟨S1024, .f32⟩
  | .hbm, ⟨2, _⟩ => ⟨S1024, .f32⟩
  | .hbm, ⟨3, _⟩ => ⟨S1024x1792, .f32⟩
  | .hbm, ⟨4, _⟩ => ⟨S1792, .f32⟩
  | .hbm, ⟨5, _⟩ => ⟨S1x1024, .f32⟩
  | .hbm, ⟨6, _⟩ => ⟨S1x1024, .f32⟩
  | .hbm, ⟨7, _⟩ => ⟨S1792x1024, .f32⟩
  | .hbm, ⟨8, _⟩ => ⟨S1792x1024, .bf16⟩
  | .hbm, ⟨9, _⟩ => ⟨S1x1792, .f32⟩
  | .hbm, ⟨10, _⟩ => ⟨S8192x1792, .f32⟩
  | .hbm, ⟨11, _⟩ => ⟨S8192x1024, .bf16⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S1x1024, .f32⟩
  | .local _ .vmem, ⟨4, _⟩ => ⟨S1792x1024, .bf16⟩
  | .local _ .vmem, ⟨5, _⟩ => ⟨S1x1792, .f32⟩
  | .local _ .vmem, ⟨6, _⟩ => ⟨S512x1792, .f32⟩
  | .local _ .vmem, ⟨7, _⟩ => ⟨S512x1792, .f32⟩
  | .local _ .vmem, ⟨8, _⟩ => ⟨S512x1024, .bf16⟩
  | .local _ .vmem, ⟨9, _⟩ => ⟨S512x1024, .bf16⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5_0 : Ref sig .tc := ⟨.hbm, 10, rfl⟩
abbrev main_v5_1 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc0_stg6_0 : Ref sig .tc := ⟨.vmem, 8, rfl⟩
abbrev cc0_stg6_1 : Ref sig .tc := ⟨.vmem, 9, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem5_1 : DmaSem sig := 7
abbrev cc0_sem6_0 : DmaSem sig := 8
abbrev cc0_sem6_1 : DmaSem sig := 9

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1792x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x1792 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S512x1792 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== InpRefIdeal.lean ====
abbrev S8192x1024 : Shape := ⟨2, ![8192, 1024]⟩
abbrev S1024 : Shape := ⟨1, ![1024]⟩
abbrev S1024x1792 : Shape := ⟨2, ![1024, 1792]⟩
abbrev S1792 : Shape := ⟨1, ![1792]⟩
abbrev S_ : Shape := ⟨0, ![]⟩
abbrev S1x1024 : Shape := ⟨2, ![1, 1024]⟩
abbrev S8192x1792 : Shape := ⟨2, ![8192, 1792]⟩
abbrev S1x1792 : Shape := ⟨2, ![1, 1792]⟩

abbrev nBuf : Space → Nat
  | .hbm => 19
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S1024, .f32⟩
  | .hbm, ⟨2, _⟩ => ⟨S1024, .f32⟩
  | .hbm, ⟨3, _⟩ => ⟨S1024x1792, .f32⟩
  | .hbm, ⟨4, _⟩ => ⟨S1792, .f32⟩
  | .hbm, ⟨5, _⟩ => ⟨S_, .f32⟩
  | .hbm, ⟨6, _⟩ => ⟨S1024, .f32⟩
  | .hbm, ⟨7, _⟩ => ⟨S1024, .f32⟩
  | .hbm, ⟨8, _⟩ => ⟨S1x1024, .f32⟩
  | .hbm, ⟨9, _⟩ => ⟨S8192x1024, .f32⟩
  | .hbm, ⟨10, _⟩ => ⟨S8192x1024, .f32⟩
  | .hbm, ⟨11, _⟩ => ⟨S1x1024, .f32⟩
  | .hbm, ⟨12, _⟩ => ⟨S8192x1024, .f32⟩
  | .hbm, ⟨13, _⟩ => ⟨S8192x1024, .f32⟩
  | .hbm, ⟨14, _⟩ => ⟨S8192x1792, .f32⟩
  | .hbm, ⟨15, _⟩ => ⟨S1x1792, .f32⟩
  | .hbm, ⟨16, _⟩ => ⟨S8192x1792, .f32⟩
  | .hbm, ⟨17, _⟩ => ⟨S8192x1792, .f32⟩
  | .hbm, ⟨18, _⟩ => ⟨S8192x1024, .bf16⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_cst : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩

abbrev nD : Nat := 1
abbrev τ : Topo := Topo.v7x

variable {F : FTy → Type} [FloatOps F]
-- ==== Bias.lean ====
abbrev S32x8 : Shape := ⟨2, ![32, 8]⟩
abbrev S128 : Shape := ⟨1, ![128]⟩
abbrev S128x1 : Shape := ⟨2, ![128, 1]⟩
abbrev S256 : Shape := ⟨1, ![256]⟩
abbrev S1x256 : Shape := ⟨2, ![1, 256]⟩
abbrev S_ : Shape := ⟨0, ![]⟩
abbrev S128x256 : Shape := ⟨2, ![128, 256]⟩
abbrev S8x128x256 : Shape := ⟨3, ![8, 128, 256]⟩
abbrev S1x128x256 : Shape := ⟨3, ![1, 128, 256]⟩
abbrev S1x1 : Shape := ⟨2, ![1, 1]⟩

abbrev nBuf : Space → Nat
  | .hbm => 40
  | .vmem => 3
  | .smem => 1
  | _ => 0

abbrev bufTy : (tb : Table) → Fin (tcTables nBuf tb) → BufTy
  | .hbm, ⟨0, _⟩ => ⟨S32x8, .f32⟩
  | .hbm, ⟨1, _⟩ => ⟨S128, .i32⟩
  | .hbm, ⟨2, _⟩ => ⟨S128x1, .i32⟩
  | .hbm, ⟨3, _⟩ => ⟨S256, .i32⟩
  | .hbm, ⟨4, _⟩ => ⟨S1x256, .i32⟩
  | .hbm, ⟨5, _⟩ => ⟨S_, .i32⟩
  | .hbm, ⟨6, _⟩ => ⟨S128x1, .i32⟩
  | .hbm, ⟨7, _⟩ => ⟨S128x1, .i32⟩
  | .hbm, ⟨8, _⟩ => ⟨S128x256, .i32⟩
  | .hbm, ⟨9, _⟩ => ⟨S128x256, .i32⟩
  | .hbm, ⟨10, _⟩ => ⟨S128x256, .i32⟩
  | .hbm, ⟨11, _⟩ => ⟨S_, .i32⟩
  | .hbm, ⟨12, _⟩ => ⟨S128x256, .i32⟩
  | .hbm, ⟨13, _⟩ => ⟨S128x256, .i32⟩
  | .hbm, ⟨14, _⟩ => ⟨S_, .i32⟩
  | .hbm, ⟨15, _⟩ => ⟨S128x256, .i32⟩
  | .hbm, ⟨16, _⟩ => ⟨S128x256, .i32⟩
  | .hbm, ⟨17, _⟩ => ⟨S128x256, .f32⟩
  | .hbm, ⟨18, _⟩ => ⟨S_, .f32⟩
  | .hbm, ⟨19, _⟩ => ⟨S128x256, .f32⟩
  | .hbm, ⟨20, _⟩ => ⟨S128x256, .f32⟩
  | .hbm, ⟨21, _⟩ => ⟨S128x256, .f32⟩
  | .hbm, ⟨22, _⟩ => ⟨S_, .f32⟩
  | .hbm, ⟨23, _⟩ => ⟨S128x256, .f32⟩
  | .hbm, ⟨24, _⟩ => ⟨S128x256, .f32⟩
  | .hbm, ⟨25, _⟩ => ⟨S_, .f32⟩
  | .hbm, ⟨26, _⟩ => ⟨S128x256, .f32⟩
  | .hbm, ⟨27, _⟩ => ⟨S128x256, .f32⟩
  | .hbm, ⟨28, _⟩ => ⟨S128x256, .i32⟩
  | .hbm, ⟨29, _⟩ => ⟨S_, .i32⟩
  | .hbm, ⟨30, _⟩ => ⟨S128x256, .i32⟩
  | .hbm, ⟨31, _⟩ => ⟨S128x256, .i32⟩
  | .hbm, ⟨32, _⟩ => ⟨S_, .i32⟩
  | .hbm, ⟨33, _⟩ => ⟨S128x256, .i32⟩
  | .hbm, ⟨34, _⟩ => ⟨S128x256, .i32⟩
  | .hbm, ⟨35, _⟩ => ⟨S_, .i32⟩
  | .hbm, ⟨36, _⟩ => ⟨S128x256, .i32⟩
  | .hbm, ⟨37, _⟩ => ⟨S128x256, .i1⟩
  | .hbm, ⟨38, _⟩ => ⟨S128x256, .i32⟩
  | .hbm, ⟨39, _⟩ => ⟨S8x128x256, .f32⟩
  | .local _ .vmem, ⟨0, _⟩ => ⟨S128x256, .i32⟩
  | .local _ .vmem, ⟨1, _⟩ => ⟨S1x128x256, .f32⟩
  | .local _ .vmem, ⟨2, _⟩ => ⟨S1x128x256, .f32⟩
  | .local _ .smem, ⟨0, _⟩ => ⟨S32x8, .f32⟩
  | _, _ => ⟨S32x8, .f32⟩

abbrev bufScoped : (cs : CoreSpace) → Fin (nBuf (.core cs)) → Bool
  | .vmem, ⟨0, _⟩ => true
  | .vmem, ⟨1, _⟩ => true
  | .vmem, ⟨2, _⟩ => true
  | .smem, ⟨0, _⟩ => true
  | _, _ => false

abbrev semScoped : Fin 0 → Bool
  | ⟨_, h⟩ => absurd h (Nat.not_lt_zero _)

abbrev dmaSemScoped : Fin 4 → Bool
  | ⟨0, _⟩ => true
  | ⟨1, _⟩ => true
  | ⟨2, _⟩ => true
  | ⟨3, _⟩ => true
  | _ => false

abbrev sig : RefSig :=
  ofTc nBuf bufTy 0 4 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_v2 : Ref sig .tc := ⟨.hbm, 3, rfl⟩
abbrev main_v3 : Ref sig .tc := ⟨.hbm, 4, rfl⟩
abbrev main_c : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_v8 : Ref sig .tc := ⟨.hbm, 10, rfl⟩
abbrev main_c_0 : Ref sig .tc := ⟨.hbm, 11, rfl⟩
abbrev main_v9 : Ref sig .tc := ⟨.hbm, 12, rfl⟩
abbrev main_v10 : Ref sig .tc := ⟨.hbm, 13, rfl⟩
abbrev main_c_1 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_cst : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_cst_2 : Ref sig .tc := ⟨.hbm, 22, rfl⟩
abbrev main_v17 : Ref sig .tc := ⟨.hbm, 23, rfl⟩
abbrev main_v18 : Ref sig .tc := ⟨.hbm, 24, rfl⟩
abbrev main_cst_3 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_c_4 : Ref sig .tc := ⟨.hbm, 29, rfl⟩
abbrev main_v22 : Ref sig .tc := ⟨.hbm, 30, rfl⟩
abbrev main_v23 : Ref sig .tc := ⟨.hbm, 31, rfl⟩
abbrev main_c_5 : Ref sig .tc := ⟨.hbm, 32, rfl⟩
abbrev main_v24 : Ref sig .tc := ⟨.hbm, 33, rfl⟩
abbrev main_v25 : Ref sig .tc := ⟨.hbm, 34, rfl⟩
abbrev main_c_6 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev cc0_stg1_0 : Ref sig .tc := ⟨.vmem, 0, rfl⟩
abbrev cc0_stg2_0 : Ref sig .tc := ⟨.vmem, 1, rfl⟩
abbrev cc0_stg2_1 : Ref sig .tc := ⟨.vmem, 2, rfl⟩
abbrev cc0_stg0_0 : Ref sig .tc := ⟨.smem, 0, rfl⟩
abbrev cc0_sem0_0 : DmaSem sig := 0
abbrev cc0_sem1_0 : DmaSem sig := 1
abbrev cc0_sem2_0 : DmaSem sig := 2
abbrev cc0_sem2_1 : DmaSem sig := 3

abbrev nD : Nat := 1
abbrev τ : Topo := Topo.v7x

variable {F : FTy → Type} [FloatOps F]

abbrev grid0 : Pipeline.Grid := ⟨1, ![8], ![false]⟩

def k0_off1 (i : grid0.Coords) : Fin 2 → Nat :=
  let c0_1 : Index := 0#32
  let arg0 : BitVec 32 := BitVec.ofNat 32 (i 0).val
  let v5 : Index := Scalar.indexCast arg0
  ![0, v5.toNat]
def k0_off2 (i : grid0.Coords) : Fin 2 → Nat :=
  let c1 : Index := 1#32
  let arg0 : BitVec 32 := BitVec.ofNat 32 (i 0).val
  let v11 : Index := Scalar.indexCast arg0
  ![1, v11.toNat]
def k0_off3 (i : grid0.Coords) : Fin 2 → Nat :=
  let c2 : Index := 2#32
  let arg0 : BitVec 32 := BitVec.ofNat 32 (i 0).val
  let v17 : Index := Scalar.indexCast arg0
  ![2, v17.toNat]
def k0_off4 (i : grid0.Coords) : Fin 2 → Nat :=
  let c3 : Index := 3#32
  let arg0 : BitVec 32 := BitVec.ofNat 32 (i 0).val
  let v23 : Index := Scalar.indexCast arg0
  ![3, v23.toNat]
def k0_off5 (i : grid0.Coords) : Fin 2 → Nat :=
  let c4 : Index := 4#32
  let arg0 : BitVec 32 := BitVec.ofNat 32 (i 0).val
  let v29 : Index := Scalar.indexCast arg0
  ![4, v29.toNat]
def k0_off6 (i : grid0.Coords) : Fin 2 → Nat :=
  let c5 : Index := 5#32
  let arg0 : BitVec 32 := BitVec.ofNat 32 (i 0).val
  let v35 : Index := Scalar.indexCast arg0
  ![5, v35.toNat]
def k0_off7 (i : grid0.Coords) : Fin 2 → Nat :=
  let c6 : Index := 6#32
  let arg0 : BitVec 32 := BitVec.ofNat 32 (i 0).val
  let v41 : Index := Scalar.indexCast arg0
  ![6, v41.toNat]
def k0_off8 (i : grid0.Coords) : Fin 2 → Nat :=
  let c7 : Index := 7#32
  let arg0 : BitVec 32 := BitVec.ofNat 32 (i 0).val
  let v47 : Index := Scalar.indexCast arg0
  ![7, v47.toNat]
def k0_off9 (i : grid0.Coords) : Fin 2 → Nat :=
  let c8 : Index := 8#32
  let arg0 : BitVec 32 := BitVec.ofNat 32 (i 0).val
  let v53 : Index := Scalar.indexCast arg0
  ![8, v53.toNat]
def k0_off10 (i : grid0.Coords) : Fin 2 → Nat :=
  let c9 : Index := 9#32
  let arg0 : BitVec 32 := BitVec.ofNat 32 (i 0).val
  let v59 : Index := Scalar.indexCast arg0
  ![9, v59.toNat]
def k0_off11 (i : grid0.Coords) : Fin 2 → Nat :=
  let c10 : Index := 10#32
  let arg0 : BitVec 32 := BitVec.ofNat 32 (i 0).val
  let v65 : Index := Scalar.indexCast arg0
  ![10, v65.toNat]
def k0_off12 (i : grid0.Coords) : Fin 2 → Nat :=
  let c11 : Index := 11#32
  let arg0 : BitVec 32 := BitVec.ofNat 32 (i 0).val
  let v71 : Index := Scalar.indexCast arg0
  ![11, v71.toNat]
def k0_off13 (i : grid0.Coords) : Fin 2 → Nat :=
  let c12 : Index := 12#32
  let arg0 : BitVec 32 := BitVec.ofNat 32 (i 0).val
  let v77 : Index := Scalar.indexCast arg0
  ![12, v77.toNat]
def k0_off14 (i : grid0.Coords) : Fin 2 → Nat :=
  let c13 : Index := 13#32
  let arg0 : BitVec 32 := BitVec.ofNat 32 (i 0).val
  let v83 : Index := Scalar.indexCast arg0
  ![13, v83.toNat]
def k0_off15 (i : grid0.Coords) : Fin 2 → Nat :=
  let c14 : Index := 14#32
  let arg0 : BitVec 32 := BitVec.ofNat 32 (i 0).val
  let v89 : Index := Scalar.indexCast arg0
  ![14, v89.toNat]
def k0_off16 (i : grid0.Coords) : Fin 2 → Nat :=
  let c15 : Index := 15#32
  let arg0 : BitVec 32 := BitVec.ofNat 32 (i 0).val
  let v95 : Index := Scalar.indexCast arg0
  ![15, v95.toNat]
def k0_off17 (i : grid0.Coords) : Fin 2 → Nat :=
  let c16 : Index := 16#32
  let arg0 : BitVec 32 := BitVec.ofNat 32 (i 0).val
  let v101 : Index := Scalar.indexCast arg0
  ![16, v101.toNat]
def k0_off18 (i : grid0.Coords) : Fin 2 → Nat :=
  let c17 : Index := 17#32
  let arg0 : BitVec 32 := BitVec.ofNat 32 (i 0).val
  let v107 : Index := Scalar.indexCast arg0
  ![17, v107.toNat]
def k0_off19 (i : grid0.Coords) : Fin 2 → Nat :=
  let c18 : Index := 18#32
  let arg0 : BitVec 32 := BitVec.ofNat 32 (i 0).val
  let v113 : Index := Scalar.indexCast arg0
  ![18, v113.toNat]
def k0_off20 (i : grid0.Coords) : Fin 2 → Nat :=
  let c19 : Index := 19#32
  let arg0 : BitVec 32 := BitVec.ofNat 32 (i 0).val
  let v119 : Index := Scalar.indexCast arg0
  ![19, v119.toNat]
def k0_off21 (i : grid0.Coords) : Fin 2 → Nat :=
  let c20 : Index := 20#32
  let arg0 : BitVec 32 := BitVec.ofNat 32 (i 0).val
  let v125 : Index := Scalar.indexCast arg0
  ![20, v125.toNat]
def k0_off22 (i : grid0.Coords) : Fin 2 → Nat :=
  let c21 : Index := 21#32
  let arg0 : BitVec 32 := BitVec.ofNat 32 (i 0).val
  let v131 : Index := Scalar.indexCast arg0
  ![21, v131.toNat]
def k0_off23 (i : grid0.Coords) : Fin 2 → Nat :=
  let c22 : Index := 22#32
  let arg0 : BitVec 32 := BitVec.ofNat 32 (i 0).val
  let v137 : Index := Scalar.indexCast arg0
  ![22, v137.toNat]
def k0_off24 (i : grid0.Coords) : Fin 2 → Nat :=
  let c23 : Index := 23#32
  let arg0 : BitVec 32 := BitVec.ofNat 32 (i 0).val
  let v143 : Index := Scalar.indexCast arg0
  ![23, v143.toNat]
def k0_off25 (i : grid0.Coords) : Fin 2 → Nat :=
  let c24 : Index := 24#32
  let arg0 : BitVec 32 := BitVec.ofNat 32 (i 0).val
  let v149 : Index := Scalar.indexCast arg0
  ![24, v149.toNat]
def k0_off26 (i : grid0.Coords) : Fin 2 → Nat :=
  let c25 : Index := 25#32
  let arg0 : BitVec 32 := BitVec.ofNat 32 (i 0).val
  let v155 : Index := Scalar.indexCast arg0
  ![25, v155.toNat]
def k0_off27 (i : grid0.Coords) : Fin 2 → Nat :=
  let c26 : Index := 26#32
  let arg0 : BitVec 32 := BitVec.ofNat 32 (i 0).val
  let v161 : Index := Scalar.indexCast arg0
  ![26, v161.toNat]
def k0_off28 (i : grid0.Coords) : Fin 2 → Nat :=
  let c27 : Index := 27#32
  let arg0 : BitVec 32 := BitVec.ofNat 32 (i 0).val
  let v167 : Index := Scalar.indexCast arg0
  ![27, v167.toNat]
def k0_off29 (i : grid0.Coords) : Fin 2 → Nat :=
  let c28 : Index := 28#32
  let arg0 : BitVec 32 := BitVec.ofNat 32 (i 0).val
  let v173 : Index := Scalar.indexCast arg0
  ![28, v173.toNat]
def k0_off30 (i : grid0.Coords) : Fin 2 → Nat :=
  let c29 : Index := 29#32
  let arg0 : BitVec 32 := BitVec.ofNat 32 (i 0).val
  let v179 : Index := Scalar.indexCast arg0
  ![29, v179.toNat]
def k0_off31 (i : grid0.Coords) : Fin 2 → Nat :=
  let c30 : Index := 30#32
  let arg0 : BitVec 32 := BitVec.ofNat 32 (i 0).val
  let v185 : Index := Scalar.indexCast arg0
  ![30, v185.toNat]
def k0_off32 (i : grid0.Coords) : Fin 2 → Nat :=
  let c31 : Index := 31#32
  let arg0 : BitVec 32 := BitVec.ofNat 32 (i 0).val
  let v191 : Index := Scalar.indexCast arg0
  ![31, v191.toNat]
def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 1 → Memref sig .tc .smem S32x8 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 1 → Memref sig .tc .vmem S128x256 .i32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S1x128x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== BiasRefIdeal.lean ====
abbrev S32x8 : Shape := ⟨2, ![32, 8]⟩
abbrev S128 : Shape := ⟨1, ![128]⟩
abbrev S128x1 : Shape := ⟨2, ![128, 1]⟩
abbrev S_ : Shape := ⟨0, ![]⟩
abbrev S256 : Shape := ⟨1, ![256]⟩
abbrev S1x256 : Shape := ⟨2, ![1, 256]⟩
abbrev S128x256 : Shape := ⟨2, ![128, 256]⟩
abbrev S128x256x1 : Shape := ⟨3, ![128, 256, 1]⟩
abbrev S128x256x8 : Shape := ⟨3, ![128, 256, 8]⟩
abbrev S8x128x256 : Shape := ⟨3, ![8, 128, 256]⟩

abbrev nBuf : Space → Nat
  | .hbm => 61
  | .vmem => 0
  | .smem => 0
  | _ => 0

abbrev bufTy : (tb : Table) → Fin (tcTables nBuf tb) → BufTy
  | .hbm, ⟨0, _⟩ => ⟨S32x8, .f32⟩
  | .hbm, ⟨1, _⟩ => ⟨S128, .i32⟩
  | .hbm, ⟨2, _⟩ => ⟨S128x1, .i32⟩
  | .hbm, ⟨3, _⟩ => ⟨S_, .i32⟩
  | .hbm, ⟨4, _⟩ => ⟨S128x1, .i32⟩
  | .hbm, ⟨5, _⟩ => ⟨S128x1, .i32⟩
  | .hbm, ⟨6, _⟩ => ⟨S256, .i32⟩
  | .hbm, ⟨7, _⟩ => ⟨S1x256, .i32⟩
  | .hbm, ⟨8, _⟩ => ⟨S128x256, .i32⟩
  | .hbm, ⟨9, _⟩ => ⟨S128x256, .i32⟩
  | .hbm, ⟨10, _⟩ => ⟨S128x256, .i32⟩
  | .hbm, ⟨11, _⟩ => ⟨S_, .i32⟩
  | .hbm, ⟨12, _⟩ => ⟨S128x256, .i32⟩
  | .hbm, ⟨13, _⟩ => ⟨S128x256, .i32⟩
  | .hbm, ⟨14, _⟩ => ⟨S_, .i32⟩
  | .hbm, ⟨15, _⟩ => ⟨S128x256, .i32⟩
  | .hbm, ⟨16, _⟩ => ⟨S128x256, .i32⟩
  | .hbm, ⟨17, _⟩ => ⟨S128x256, .f32⟩
  | .hbm, ⟨18, _⟩ => ⟨S_, .f32⟩
  | .hbm, ⟨19, _⟩ => ⟨S128x256, .f32⟩
  | .hbm, ⟨20, _⟩ => ⟨S128x256, .f32⟩
  | .hbm, ⟨21, _⟩ => ⟨S128x256, .f32⟩
  | .hbm, ⟨22, _⟩ => ⟨S_, .f32⟩
  | .hbm, ⟨23, _⟩ => ⟨S128x256, .f32⟩
  | .hbm, ⟨24, _⟩ => ⟨S128x256, .f32⟩
  | .hbm, ⟨25, _⟩ => ⟨S_, .f32⟩
  | .hbm, ⟨26, _⟩ => ⟨S128x256, .f32⟩
  | .hbm, ⟨27, _⟩ => ⟨S128x256, .f32⟩
  | .hbm, ⟨28, _⟩ => ⟨S128x256, .i32⟩
  | .hbm, ⟨29, _⟩ => ⟨S_, .i32⟩
  | .hbm, ⟨30, _⟩ => ⟨S128x256, .i32⟩
  | .hbm, ⟨31, _⟩ => ⟨S128x256, .i32⟩
  | .hbm, ⟨32, _⟩ => ⟨S_, .i32⟩
  | .hbm, ⟨33, _⟩ => ⟨S128x256, .i32⟩
  | .hbm, ⟨34, _⟩ => ⟨S128x256, .i32⟩
  | .hbm, ⟨35, _⟩ => ⟨S_, .i32⟩
  | .hbm, ⟨36, _⟩ => ⟨S128x256, .i32⟩
  | .hbm, ⟨37, _⟩ => ⟨S128x256, .i1⟩
  | .hbm, ⟨38, _⟩ => ⟨S128x256, .i32⟩
  | .hbm, ⟨39, _⟩ => ⟨S_, .i32⟩
  | .hbm, ⟨40, _⟩ => ⟨S128x256, .i32⟩
  | .hbm, ⟨41, _⟩ => ⟨S128x256, .i1⟩
  | .hbm, ⟨42, _⟩ => ⟨S_, .i32⟩
  | .hbm, ⟨43, _⟩ => ⟨S128x256, .i32⟩
  | .hbm, ⟨44, _⟩ => ⟨S128x256, .i32⟩
  | .hbm, ⟨45, _⟩ => ⟨S128x256, .i32⟩
  | .hbm, ⟨46, _⟩ => ⟨S128x256x1, .i32⟩
  | .hbm, ⟨47, _⟩ => ⟨S128x256x8, .f32⟩
  | .hbm, ⟨48, _⟩ => ⟨S8x128x256, .f32⟩
  | .hbm, ⟨49, _⟩ => ⟨S_, .i32⟩
  | .hbm, ⟨50, _⟩ => ⟨S128x256, .i32⟩
  | .hbm, ⟨51, _⟩ => ⟨S128x256, .i1⟩
  | .hbm, ⟨52, _⟩ => ⟨S_, .i32⟩
  | .hbm, ⟨53, _⟩ => ⟨S128x256, .i32⟩
  | .hbm, ⟨54, _⟩ => ⟨S128x256, .i1⟩
  | .hbm, ⟨55, _⟩ => ⟨S128x256, .i1⟩
  | .hbm, ⟨56, _⟩ => ⟨S_, .f32⟩
  | .hbm, ⟨57, _⟩ => ⟨S_, .f32⟩
  | .hbm, ⟨58, _⟩ => ⟨S8x128x256, .i1⟩
  | .hbm, ⟨59, _⟩ => ⟨S8x128x256, .f32⟩
  | .hbm, ⟨60, _⟩ => ⟨S8x128x256, .f32⟩
  | _, _ => ⟨S32x8, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_c : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_v8 : Ref sig .tc := ⟨.hbm, 10, rfl⟩
abbrev main_c_0 : Ref sig .tc := ⟨.hbm, 11, rfl⟩
abbrev main_v9 : Ref sig .tc := ⟨.hbm, 12, rfl⟩
abbrev main_v10 : Ref sig .tc := ⟨.hbm, 13, rfl⟩
abbrev main_c_1 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_cst : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_cst_2 : Ref sig .tc := ⟨.hbm, 22, rfl⟩
abbrev main_v17 : Ref sig .tc := ⟨.hbm, 23, rfl⟩
abbrev main_v18 : Ref sig .tc := ⟨.hbm, 24, rfl⟩
abbrev main_cst_3 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_c_4 : Ref sig .tc := ⟨.hbm, 29, rfl⟩
abbrev main_v22 : Ref sig .tc := ⟨.hbm, 30, rfl⟩
abbrev main_v23 : Ref sig .tc := ⟨.hbm, 31, rfl⟩
abbrev main_c_5 : Ref sig .tc := ⟨.hbm, 32, rfl⟩
abbrev main_v24 : Ref sig .tc := ⟨.hbm, 33, rfl⟩
abbrev main_v25 : Ref sig .tc := ⟨.hbm, 34, rfl⟩
abbrev main_c_6 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_c_7 : Ref sig .tc := ⟨.hbm, 39, rfl⟩
abbrev main_v29 : Ref sig .tc := ⟨.hbm, 40, rfl⟩
abbrev main_v30 : Ref sig .tc := ⟨.hbm, 41, rfl⟩
abbrev main_c_8 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_v35 : Ref sig .tc := ⟨.hbm, 47, rfl⟩
abbrev main_v36 : Ref sig .tc := ⟨.hbm, 48, rfl⟩
abbrev main_c_9 : Ref sig .tc := ⟨.hbm, 49, rfl⟩
abbrev main_v37 : Ref sig .tc := ⟨.hbm, 50, rfl⟩
abbrev main_v38 : Ref sig .tc := ⟨.hbm, 51, rfl⟩
abbrev main_c_10 : Ref sig .tc := ⟨.hbm, 52, rfl⟩
abbrev main_v39 : Ref sig .tc := ⟨.hbm, 53, rfl⟩
abbrev main_v40 : Ref sig .tc := ⟨.hbm, 54, rfl⟩
abbrev main_v41 : Ref sig .tc := ⟨.hbm, 55, rfl⟩
abbrev main_cst_11 : Ref sig .tc := ⟨.hbm, 56, rfl⟩
abbrev main_call1_v0 : Ref sig .tc := ⟨.hbm, 57, rfl⟩
abbrev main_call1_v1 : Ref sig .tc := ⟨.hbm, 58, rfl⟩
abbrev main_call1_v2 : Ref sig .tc := ⟨.hbm, 59, rfl⟩
abbrev main_v42 : Ref sig .tc := ⟨.hbm, 60, rfl⟩

abbrev nD : Nat := 1
abbrev τ : Topo := Topo.v7x

variable {F : FTy → Type} [FloatOps F]
-- ==== Modu.lean ====
abbrev S8x1024 : Shape := ⟨2, ![8, 1024]⟩
abbrev S1024x768 : Shape := ⟨2, ![1024, 768]⟩
abbrev S768 : Shape := ⟨1, ![768]⟩
abbrev S1x768 : Shape := ⟨2, ![1, 768]⟩
abbrev S8x768 : Shape := ⟨2, ![8, 768]⟩

abbrev nBuf : Space → Nat
  | .hbm => 5
  | .vmem => 4
  | .smem => 0
  | _ => 0

abbrev bufTy : (tb : Table) → Fin (tcTables nBuf tb) → BufTy
  | .hbm, ⟨0, _⟩ => ⟨S8x1024, .f32⟩
  | .hbm, ⟨1, _⟩ => ⟨S1024x768, .f32⟩
  | .hbm, ⟨2, _⟩ => ⟨S768, .f32⟩
  | .hbm, ⟨3, _⟩ => ⟨S1x768, .f32⟩
  | .hbm, ⟨4, _⟩ => ⟨S8x768, .f32⟩
  | .local _ .vmem, ⟨0, _⟩ => ⟨S8x1024, .f32⟩
  | .local _ .vmem, ⟨1, _⟩ => ⟨S1024x768, .f32⟩
  | .local _ .vmem, ⟨2, _⟩ => ⟨S1x768, .f32⟩
  | .local _ .vmem, ⟨3, _⟩ => ⟨S8x768, .f32⟩
  | _, _ => ⟨S8x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 0 → Bool
  | ⟨_, h⟩ => absurd h (Nat.not_lt_zero _)

abbrev dmaSemScoped : Fin 4 → Bool
  | ⟨0, _⟩ => true
  | ⟨1, _⟩ => true
  | ⟨2, _⟩ => true
  | ⟨3, _⟩ => true
  | _ => false

abbrev sig : RefSig :=
  ofTc nBuf bufTy 0 4 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_sem0_0 : DmaSem sig := 0
abbrev cc0_sem1_0 : DmaSem sig := 1
abbrev cc0_sem2_0 : DmaSem sig := 2
abbrev cc0_sem3_0 : DmaSem sig := 3

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 1 → Memref sig .tc .vmem S8x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 1 → Memref sig .tc .vmem S1024x768 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x768 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S8x768 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]
-- ==== ModuRefIdeal.lean ====
abbrev S8x1024 : Shape := ⟨2, ![8, 1024]⟩
abbrev S1024x768 : Shape := ⟨2, ![1024, 768]⟩
abbrev S768 : Shape := ⟨1, ![768]⟩
abbrev S_ : Shape := ⟨0, ![]⟩
abbrev S8x768 : Shape := ⟨2, ![8, 768]⟩
abbrev S1x768 : Shape := ⟨2, ![1, 768]⟩

abbrev nBuf : Space → Nat
  | .hbm => 16
  | .vmem => 0
  | .smem => 0
  | _ => 0

abbrev bufTy : (tb : Table) → Fin (tcTables nBuf tb) → BufTy
  | .hbm, ⟨0, _⟩ => ⟨S8x1024, .f32⟩
  | .hbm, ⟨1, _⟩ => ⟨S1024x768, .f32⟩
  | .hbm, ⟨2, _⟩ => ⟨S768, .f32⟩
  | .hbm, ⟨3, _⟩ => ⟨S8x1024, .f32⟩
  | .hbm, ⟨4, _⟩ => ⟨S8x1024, .f32⟩
  | .hbm, ⟨5, _⟩ => ⟨S_, .f32⟩
  | .hbm, ⟨6, _⟩ => ⟨S8x1024, .f32⟩
  | .hbm, ⟨7, _⟩ => ⟨S8x1024, .f32⟩
  | .hbm, ⟨8, _⟩ => ⟨S_, .f32⟩
  | .hbm, ⟨9, _⟩ => ⟨S8x1024, .f32⟩
  | .hbm, ⟨10, _⟩ => ⟨S8x1024, .f32⟩
  | .hbm, ⟨11, _⟩ => ⟨S8x1024, .f32⟩
  | .hbm, ⟨12, _⟩ => ⟨S8x768, .f32⟩
  | .hbm, ⟨13, _⟩ => ⟨S1x768, .f32⟩
  | .hbm, ⟨14, _⟩ => ⟨S8x768, .f32⟩
  | .hbm, ⟨15, _⟩ => ⟨S8x768, .f32⟩
  | _, _ => ⟨S8x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_call0_v0 : Ref sig .tc := ⟨.hbm, 3, rfl⟩
abbrev main_call0_v1 : Ref sig .tc := ⟨.hbm, 4, rfl⟩
abbrev main_call0_cst : Ref sig .tc := ⟨.hbm, 5, rfl⟩
abbrev main_call0_v2 : Ref sig .tc := ⟨.hbm, 6, rfl⟩
abbrev main_call0_v3 : Ref sig .tc := ⟨.hbm, 7, rfl⟩
abbrev main_call0_cst_0 : Ref sig .tc := ⟨.hbm, 8, rfl⟩
abbrev main_call0_v4 : Ref sig .tc := ⟨.hbm, 9, rfl⟩
abbrev main_call0_v5 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩

abbrev nD : Nat := 1
abbrev τ : Topo := Topo.v7x

variable {F : FTy → Type} [FloatOps F]
-- ==== Ada.lean ====
abbrev S8x1024 : Shape := ⟨2, ![8, 1024]⟩
abbrev S8x768 : Shape := ⟨2, ![8, 768]⟩
abbrev S1024x768 : Shape := ⟨2, ![1024, 768]⟩
abbrev S1024x8 : Shape := ⟨2, ![1024, 8]⟩
abbrev S_ : Shape := ⟨0, ![]⟩
abbrev S1024x128 : Shape := ⟨2, ![1024, 128]⟩
abbrev S128x768 : Shape := ⟨2, ![128, 768]⟩

abbrev nBuf : Space → Nat
  | .hbm => 16
  | .vmem => 9
  | .smem => 0
  | _ => 0

abbrev bufTy : (tb : Table) → Fin (tcTables nBuf tb) → BufTy
  | .hbm, ⟨0, _⟩ => ⟨S8x1024, .f32⟩
  | .hbm, ⟨1, _⟩ => ⟨S8x768, .f32⟩
  | .hbm, ⟨2, _⟩ => ⟨S1024x768, .f32⟩
  | .hbm, ⟨3, _⟩ => ⟨S1024x768, .f32⟩
  | .hbm, ⟨4, _⟩ => ⟨S1024x768, .f32⟩
  | .hbm, ⟨5, _⟩ => ⟨S1024x8, .f32⟩
  | .hbm, ⟨6, _⟩ => ⟨S_, .i32⟩
  | .hbm, ⟨7, _⟩ => ⟨S_, .f32⟩
  | .hbm, ⟨8, _⟩ => ⟨S1024x128, .f32⟩
  | .hbm, ⟨9, _⟩ => ⟨S_, .i32⟩
  | .hbm, ⟨10, _⟩ => ⟨S_, .f32⟩
  | .hbm, ⟨11, _⟩ => ⟨S128x768, .f32⟩
  | .hbm, ⟨12, _⟩ => ⟨S1024x768, .f32⟩
  | .hbm, ⟨13, _⟩ => ⟨S1024x768, .f32⟩
  | .hbm, ⟨14, _⟩ => ⟨S1024x768, .f32⟩
  | .hbm, ⟨15, _⟩ => ⟨S1024x768, .f32⟩
  | .local _ .vmem, ⟨0, _⟩ => ⟨S1024x128, .f32⟩
  | .local _ .vmem, ⟨1, _⟩ => ⟨S128x768, .f32⟩
  | .local _ .vmem, ⟨2, _⟩ => ⟨S1024x768, .f32⟩
  | .local _ .vmem, ⟨3, _⟩ => ⟨S1024x768, .f32⟩
  | .local _ .vmem, ⟨4, _⟩ => ⟨S1024x768, .f32⟩
  | .local _ .vmem, ⟨5, _⟩ => ⟨S1024x768, .f32⟩
  | .local _ .vmem, ⟨6, _⟩ => ⟨S1024x768, .f32⟩
  | .local _ .vmem, ⟨7, _⟩ => ⟨S1024x768, .f32⟩
  | .local _ .vmem, ⟨8, _⟩ => ⟨S1024x768, .f32⟩
  | _, _ => ⟨S8x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_c : Ref sig .tc := ⟨.hbm, 6, rfl⟩
abbrev main_call0_v0 : Ref sig .tc := ⟨.hbm, 7, rfl⟩
abbrev main_v1 : Ref sig .tc := ⟨.hbm, 8, rfl⟩
abbrev main_c_0 : Ref sig .tc := ⟨.hbm, 9, rfl⟩
abbrev main_call1_v0 : Ref sig .tc := ⟨.hbm, 10, rfl⟩
abbrev main_v2 : Ref sig .tc := ⟨.hbm, 11, rfl⟩
abbrev main_v3_0 : Ref sig .tc := ⟨.hbm, 12, rfl⟩
abbrev main_v3_1 : Ref sig .tc := ⟨.hbm, 13, rfl⟩
abbrev main_v3_2 : Ref sig .tc := ⟨.hbm, 14, rfl⟩
abbrev main_v3_3 : Ref sig .tc := ⟨.hbm, 15, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 1 → Memref sig .tc .vmem S1024x128 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 1 → Memref sig .tc .vmem S128x768 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1024x768 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1024x768 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1024x768 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1024x768 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1024x768 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1024x768 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1024x768 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]
-- ==== AdaRefIdeal.lean ====
abbrev S8x1024 : Shape := ⟨2, ![8, 1024]⟩
abbrev S8x768 : Shape := ⟨2, ![8, 768]⟩
abbrev S1024x768 : Shape := ⟨2, ![1024, 768]⟩
abbrev S_ : Shape := ⟨0, ![]⟩
abbrev S768x1024 : Shape := ⟨2, ![768, 1024]⟩

abbrev nBuf : Space → Nat
  | .hbm => 50
  | .vmem => 0
  | .smem => 0
  | _ => 0

abbrev bufTy : (tb : Table) → Fin (tcTables nBuf tb) → BufTy
  | .hbm, ⟨0, _⟩ => ⟨S8x1024, .f32⟩
  | .hbm, ⟨1, _⟩ => ⟨S8x768, .f32⟩
  | .hbm, ⟨2, _⟩ => ⟨S1024x768, .f32⟩
  | .hbm, ⟨3, _⟩ => ⟨S1024x768, .f32⟩
  | .hbm, ⟨4, _⟩ => ⟨S1024x768, .f32⟩
  | .hbm, ⟨5, _⟩ => ⟨S8x1024, .f32⟩
  | .hbm, ⟨6, _⟩ => ⟨S8x1024, .f32⟩
  | .hbm, ⟨7, _⟩ => ⟨S_, .f32⟩
  | .hbm, ⟨8, _⟩ => ⟨S8x1024, .f32⟩
  | .hbm, ⟨9, _⟩ => ⟨S8x1024, .f32⟩
  | .hbm, ⟨10, _⟩ => ⟨S_, .f32⟩
  | .hbm, ⟨11, _⟩ => ⟨S8x1024, .f32⟩
  | .hbm, ⟨12, _⟩ => ⟨S8x1024, .f32⟩
  | .hbm, ⟨13, _⟩ => ⟨S8x1024, .f32⟩
  | .hbm, ⟨14, _⟩ => ⟨S8x768, .f32⟩
  | .hbm, ⟨15, _⟩ => ⟨S768x1024, .f32⟩
  | .hbm, ⟨16, _⟩ => ⟨S1024x768, .f32⟩
  | .hbm, ⟨17, _⟩ => ⟨S_, .f32⟩
  | .hbm, ⟨18, _⟩ => ⟨S1024x768, .f32⟩
  | .hbm, ⟨19, _⟩ => ⟨S1024x768, .f32⟩
  | .hbm, ⟨20, _⟩ => ⟨S_, .f32⟩
  | .hbm, ⟨21, _⟩ => ⟨S1024x768, .f32⟩
  | .hbm, ⟨22, _⟩ => ⟨S1024x768, .f32⟩
  | .hbm, ⟨23, _⟩ => ⟨S1024x768, .f32⟩
  | .hbm, ⟨24, _⟩ => ⟨S_, .f32⟩
  | .hbm, ⟨25, _⟩ => ⟨S1024x768, .f32⟩
  | .hbm, ⟨26, _⟩ => ⟨S1024x768, .f32⟩
  | .hbm, ⟨27, _⟩ => ⟨S1024x768, .f32⟩
  | .hbm, ⟨28, _⟩ => ⟨S_, .f32⟩
  | .hbm, ⟨29, _⟩ => ⟨S1024x768, .f32⟩
  | .hbm, ⟨30, _⟩ => ⟨S1024x768, .f32⟩
  | .hbm, ⟨31, _⟩ => ⟨S1024x768, .f32⟩
  | .hbm, ⟨32, _⟩ => ⟨S_, .f32⟩
  | .hbm, ⟨33, _⟩ => ⟨S1024x768, .f32⟩
  | .hbm, ⟨34, _⟩ => ⟨S1024x768, .f32⟩
  | .hbm, ⟨35, _⟩ => ⟨S_, .f32⟩
  | .hbm, ⟨36, _⟩ => ⟨S1024x768, .f32⟩
  | .hbm, ⟨37, _⟩ => ⟨S1024x768, .f32⟩
  | .hbm, ⟨38, _⟩ => ⟨S1024x768, .f32⟩
  | .hbm, ⟨39, _⟩ => ⟨S_, .f32⟩
  | .hbm, ⟨40, _⟩ => ⟨S1024x768, .f32⟩
  | .hbm, ⟨41, _⟩ => ⟨S1024x768, .f32⟩
  | .hbm, ⟨42, _⟩ => ⟨S1024x768, .f32⟩
  | .hbm, ⟨43, _⟩ => ⟨S_, .f32⟩
  | .hbm, ⟨44, _⟩ => ⟨S1024x768, .f32⟩
  | .hbm, ⟨45, _⟩ => ⟨S1024x768, .f32⟩
  | .hbm, ⟨46, _⟩ => ⟨S1024x768, .f32⟩
  | .hbm, ⟨47, _⟩ => ⟨S_, .f32⟩
  | .hbm, ⟨48, _⟩ => ⟨S1024x768, .f32⟩
  | .hbm, ⟨49, _⟩ => ⟨S1024x768, .f32⟩
  | _, _ => ⟨S8x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_call0_v0 : Ref sig .tc := ⟨.hbm, 5, rfl⟩
abbrev main_call0_v1 : Ref sig .tc := ⟨.hbm, 6, rfl⟩
abbrev main_call0_cst : Ref sig .tc := ⟨.hbm, 7, rfl⟩
abbrev main_call0_v2 : Ref sig .tc := ⟨.hbm, 8, rfl⟩
abbrev main_call0_v3 : Ref sig .tc := ⟨.hbm, 9, rfl⟩
abbrev main_call0_cst_0 : Ref sig .tc := ⟨.hbm, 10, rfl⟩
abbrev main_call0_v4 : Ref sig .tc := ⟨.hbm, 11, rfl⟩
abbrev main_call0_v5 : Ref sig .tc := ⟨.hbm, 12, rfl⟩
abbrev main_v0 : Ref sig .tc := ⟨.hbm, 13, rfl⟩
abbrev main_v1 : Ref sig .tc := ⟨.hbm, 14, rfl⟩
abbrev main_v2 : Ref sig .tc := ⟨.hbm, 15, rfl⟩
abbrev main_v3 : Ref sig .tc := ⟨.hbm, 16, rfl⟩
abbrev main_cst : Ref sig .tc := ⟨.hbm, 17, rfl⟩
abbrev main_v4 : Ref sig .tc := ⟨.hbm, 18, rfl⟩
abbrev main_v5 : Ref sig .tc := ⟨.hbm, 19, rfl⟩
abbrev main_cst_0 : Ref sig .tc := ⟨.hbm, 20, rfl⟩
abbrev main_v6 : Ref sig .tc := ⟨.hbm, 21, rfl⟩
abbrev main_v7 : Ref sig .tc := ⟨.hbm, 22, rfl⟩
abbrev main_v8 : Ref sig .tc := ⟨.hbm, 23, rfl⟩
abbrev main_cst_1 : Ref sig .tc := ⟨.hbm, 24, rfl⟩
abbrev main_v9 : Ref sig .tc := ⟨.hbm, 25, rfl⟩
abbrev main_v10 : Ref sig .tc := ⟨.hbm, 26, rfl⟩
abbrev main_v11 : Ref sig .tc := ⟨.hbm, 27, rfl⟩
abbrev main_cst_2 : Ref sig .tc := ⟨.hbm, 28, rfl⟩
abbrev main_v12 : Ref sig .tc := ⟨.hbm, 29, rfl⟩
abbrev main_v13 : Ref sig .tc := ⟨.hbm, 30, rfl⟩
abbrev main_v14 : Ref sig .tc := ⟨.hbm, 31, rfl⟩
abbrev main_cst_3 : Ref sig .tc := ⟨.hbm, 32, rfl⟩
abbrev main_v15 : Ref sig .tc := ⟨.hbm, 33, rfl⟩
abbrev main_v16 : Ref sig .tc := ⟨.hbm, 34, rfl⟩
abbrev main_cst_4 : Ref sig .tc := ⟨.hbm, 35, rfl⟩
abbrev main_v17 : Ref sig .tc := ⟨.hbm, 36, rfl⟩
abbrev main_v18 : Ref sig .tc := ⟨.hbm, 37, rfl⟩
abbrev main_v19 : Ref sig .tc := ⟨.hbm, 38, rfl⟩
abbrev main_cst_5 : Ref sig .tc := ⟨.hbm, 39, rfl⟩
abbrev main_v20 : Ref sig .tc := ⟨.hbm, 40, rfl⟩
abbrev main_v21 : Ref sig .tc := ⟨.hbm, 41, rfl⟩
abbrev main_v22 : Ref sig .tc := ⟨.hbm, 42, rfl⟩
abbrev main_cst_6 : Ref sig .tc := ⟨.hbm, 43, rfl⟩
abbrev main_v23 : Ref sig .tc := ⟨.hbm, 44, rfl⟩
abbrev main_v24 : Ref sig .tc := ⟨.hbm, 45, rfl⟩
abbrev main_v25 : Ref sig .tc := ⟨.hbm, 46, rfl⟩
abbrev main_cst_7 : Ref sig .tc := ⟨.hbm, 47, rfl⟩
abbrev main_v26 : Ref sig .tc := ⟨.hbm, 48, rfl⟩
abbrev main_v27 : Ref sig .tc := ⟨.hbm, 49, rfl⟩

abbrev nD : Nat := 1
abbrev τ : Topo := Topo.v7x

variable {F : FTy → Type} [FloatOps F]
-- ==== Wgrad.lean ====
abbrev S8192x1024 : Shape := ⟨2, ![8192, 1024]⟩
abbrev S8192x2816 : Shape := ⟨2, ![8192, 2816]⟩
abbrev S5632x1024 : Shape := ⟨2, ![5632, 1024]⟩
abbrev S2048x1408 : Shape := ⟨2, ![2048, 1408]⟩
abbrev S2048x1024 : Shape := ⟨2, ![2048, 1024]⟩
abbrev S1408x1024 : Shape := ⟨2, ![1408, 1024]⟩

abbrev nBuf : Space → Nat
  | .hbm => 7
  | .vmem => 9
  | .smem => 0
  | _ => 0

abbrev bufTy : (tb : Table) → Fin (tcTables nBuf tb) → BufTy
  | .hbm, ⟨0, _⟩ => ⟨S8192x1024, .f32⟩
  | .hbm, ⟨1, _⟩ => ⟨S8192x2816, .f32⟩
  | .hbm, ⟨2, _⟩ => ⟨S8192x2816, .f32⟩
  | .hbm, ⟨3, _⟩ => ⟨S8192x2816, .bf16⟩
  | .hbm, ⟨4, _⟩ => ⟨S8192x1024, .bf16⟩
  | .hbm, ⟨5, _⟩ => ⟨S8192x2816, .bf16⟩
  | .hbm, ⟨6, _⟩ => ⟨S5632x1024, .bf16⟩
  | .local _ .vmem, ⟨0, _⟩ => ⟨S2048x1408, .bf16⟩
  | .local _ .vmem, ⟨1, _⟩ => ⟨S2048x1408, .bf16⟩
  | .local _ .vmem, ⟨2, _⟩ => ⟨S2048x1408, .bf16⟩
  | .local _ .vmem, ⟨3, _⟩ => ⟨S2048x1408, .bf16⟩
  | .local _ .vmem, ⟨4, _⟩ => ⟨S2048x1024, .bf16⟩
  | .local _ .vmem, ⟨5, _⟩ => ⟨S2048x1024, .bf16⟩
  | .local _ .vmem, ⟨6, _⟩ => ⟨S1408x1024, .bf16⟩
  | .local _ .vmem, ⟨7, _⟩ => ⟨S1408x1024, .bf16⟩
  | .local _ .vmem, ⟨8, _⟩ => ⟨S1408x1024, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![4, 4], ![false, false]⟩

def k0_cond2 (i : grid0.Coords) : BitVec 1 :=
  let arg1 : BitVec 32 := BitVec.ofNat 32 (i 1).val
  let c3_i32 : BitVec 32 := 3#32
  let v17 : BitVec 1 := Scalar.cmpi .eq arg1 c3_i32
  let v18 : BitVec 32 := Scalar.extui v17
  let c0_i32_10 : BitVec 32 := 0#32
  let v19 : BitVec 1 := Scalar.cmpi .ne v18 c0_i32_10
  v19

def cc0_transform_0 (i : grid0.Coords) : Fin 2 → Nat :=
  let arg0 : BitVec 32 := BitVec.ofNat 32 (i 0).val
  let arg1 : BitVec 32 := BitVec.ofNat 32 (i 1).val
  let c2_i32 : BitVec 32 := 2#32
  let v0 : BitVec 1 := Scalar.cmpi .slt arg0 c2_i32
  let c0_i32 : BitVec 32 := 0#32
  let v1 : BitVec 32 := Scalar.select v0 arg1 c0_i32
  let c1_i32 : BitVec 32 := 1#32
  let v2 : BitVec 32 := Scalar.minsi arg0 c1_i32
  let c0_i32_0 : BitVec 32 := 0#32
  ![v1.toNat, v2.toNat]

def cc0_transform_1 (i : grid0.Coords) : Fin 2 → Nat :=
  let arg0 : BitVec 32 := BitVec.ofNat 32 (i 0).val
  let arg1 : BitVec 32 := BitVec.ofNat 32 (i 1).val
  let c2_i32 : BitVec 32 := 2#32
  let v0 : BitVec 1 := Scalar.cmpi .slt arg0 c2_i32
  let c0_i32 : BitVec 32 := 0#32
  let v1 : BitVec 32 := Scalar.select v0 c0_i32 arg1
  let c2_i32_0 : BitVec 32 := 2#32
  let v2 : BitVec 32 := Scalar.subi arg0 c2_i32_0
  let c0_i32_1 : BitVec 32 := 0#32
  let v3 : BitVec 32 := Scalar.maxsi v2 c0_i32_1
  let c0_i32_2 : BitVec 32 := 0#32
  ![v1.toNat, v3.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S2048x1408 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S2048x1408 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S2048x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S1408x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]
-- ==== WgradRefIdeal.lean ====
abbrev S8192x1024 : Shape := ⟨2, ![8192, 1024]⟩
abbrev S8192x2816 : Shape := ⟨2, ![8192, 2816]⟩
abbrev S8192x5632 : Shape := ⟨2, ![8192, 5632]⟩
abbrev S_ : Shape := ⟨0, ![]⟩
abbrev S1024x5632 : Shape := ⟨2, ![1024, 5632]⟩
abbrev S5632x1024 : Shape := ⟨2, ![5632, 1024]⟩

abbrev nBuf : Space → Nat
  | .hbm => 11
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S8192x2816, .f32⟩
  | .hbm, ⟨2, _⟩ => ⟨S8192x2816, .f32⟩
  | .hbm, ⟨3, _⟩ => ⟨S8192x5632, .f32⟩
  | .hbm, ⟨4, _⟩ => ⟨S_, .f32⟩
  | .hbm, ⟨5, _⟩ => ⟨S1024x5632, .f32⟩
  | .hbm, ⟨6, _⟩ => ⟨S8192x5632, .f32⟩
  | .hbm, ⟨7, _⟩ => ⟨S5632x1024, .f32⟩
  | .hbm, ⟨8, _⟩ => ⟨S1024x5632, .f32⟩
  | .hbm, ⟨9, _⟩ => ⟨S5632x1024, .f32⟩
  | .hbm, ⟨10, _⟩ => ⟨S5632x1024, .bf16⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩

abbrev nD : Nat := 1
abbrev τ : Topo := Topo.v7x

variable {F : FTy → Type} [FloatOps F]
-- ==== Down.lean ====
abbrev S8x352x1024 : Shape := ⟨3, ![8, 352, 1024]⟩
abbrev S352x1024 : Shape := ⟨2, ![352, 1024]⟩
abbrev S8x176x1024 : Shape := ⟨3, ![8, 176, 1024]⟩
abbrev S176x1024 : Shape := ⟨2, ![176, 1024]⟩
abbrev S1x176x1024 : Shape := ⟨3, ![1, 176, 1024]⟩

abbrev nBuf : Space → Nat
  | .hbm => 9
  | .vmem => 16
  | .smem => 0
  | _ => 0

abbrev bufTy : (tb : Table) → Fin (tcTables nBuf tb) → BufTy
  | .hbm, ⟨0, _⟩ => ⟨S8x352x1024, .f32⟩
  | .hbm, ⟨1, _⟩ => ⟨S352x1024, .f32⟩
  | .hbm, ⟨2, _⟩ => ⟨S352x1024, .f32⟩
  | .hbm, ⟨3, _⟩ => ⟨S352x1024, .f32⟩
  | .hbm, ⟨4, _⟩ => ⟨S8x352x1024, .bf16⟩
  | .hbm, ⟨5, _⟩ => ⟨S352x1024, .f32⟩
  | .hbm, ⟨6, _⟩ => ⟨S352x1024, .f32⟩
  | .hbm, ⟨7, _⟩ => ⟨S352x1024, .f32⟩
  | .hbm, ⟨8, _⟩ => ⟨S352x1024, .f32⟩
  | .local _ .vmem, ⟨0, _⟩ => ⟨S8x176x1024, .bf16⟩
  | .local _ .vmem, ⟨1, _⟩ => ⟨S8x176x1024, .bf16⟩
  | .local _ .vmem, ⟨2, _⟩ => ⟨S176x1024, .f32⟩
  | .local _ .vmem, ⟨3, _⟩ => ⟨S176x1024, .f32⟩
  | .local _ .vmem, ⟨4, _⟩ => ⟨S176x1024, .f32⟩
  | .local _ .vmem, ⟨5, _⟩ => ⟨S176x1024, .f32⟩
  | .local _ .vmem, ⟨6, _⟩ => ⟨S176x1024, .f32⟩
  | .local _ .vmem, ⟨7, _⟩ => ⟨S176x1024, .f32⟩
  | .local _ .vmem, ⟨8, _⟩ => ⟨S176x1024, .f32⟩
  | .local _ .vmem, ⟨9, _⟩ => ⟨S176x1024, .f32⟩
  | .local _ .vmem, ⟨10, _⟩ => ⟨S176x1024, .f32⟩
  | .local _ .vmem, ⟨11, _⟩ => ⟨S176x1024, .f32⟩
  | .local _ .vmem, ⟨12, _⟩ => ⟨S176x1024, .f32⟩
  | .local _ .vmem, ⟨13, _⟩ => ⟨S176x1024, .f32⟩
  | .local _ .vmem, ⟨14, _⟩ => ⟨S176x1024, .f32⟩
  | .local _ .vmem, ⟨15, _⟩ => ⟨S176x1024, .f32⟩
  | _, _ => ⟨S8x352x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1_0 : Ref sig .tc := ⟨.hbm, 5, rfl⟩
abbrev main_v1_1 : Ref sig .tc := ⟨.hbm, 6, rfl⟩
abbrev main_v1_2 : Ref sig .tc := ⟨.hbm, 7, rfl⟩
abbrev main_v1_3 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨1, ![2], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S8x176x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S176x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S176x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S176x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S176x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S176x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S176x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S176x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== DownRefIdeal.lean ====
abbrev S8x352x1024 : Shape := ⟨3, ![8, 352, 1024]⟩
abbrev S352x1024 : Shape := ⟨2, ![352, 1024]⟩
abbrev S_ : Shape := ⟨0, ![]⟩

abbrev nBuf : Space → Nat
  | .hbm => 39
  | .vmem => 0
  | .smem => 0
  | _ => 0

abbrev bufTy : (tb : Table) → Fin (tcTables nBuf tb) → BufTy
  | .hbm, ⟨0, _⟩ => ⟨S8x352x1024, .f32⟩
  | .hbm, ⟨1, _⟩ => ⟨S352x1024, .f32⟩
  | .hbm, ⟨2, _⟩ => ⟨S352x1024, .f32⟩
  | .hbm, ⟨3, _⟩ => ⟨S352x1024, .f32⟩
  | .hbm, ⟨4, _⟩ => ⟨S_, .f32⟩
  | .hbm, ⟨5, _⟩ => ⟨S352x1024, .f32⟩
  | .hbm, ⟨6, _⟩ => ⟨S_, .f32⟩
  | .hbm, ⟨7, _⟩ => ⟨S352x1024, .f32⟩
  | .hbm, ⟨8, _⟩ => ⟨S352x1024, .f32⟩
  | .hbm, ⟨9, _⟩ => ⟨S_, .f32⟩
  | .hbm, ⟨10, _⟩ => ⟨S352x1024, .f32⟩
  | .hbm, ⟨11, _⟩ => ⟨S352x1024, .f32⟩
  | .hbm, ⟨12, _⟩ => ⟨S352x1024, .f32⟩
  | .hbm, ⟨13, _⟩ => ⟨S_, .f32⟩
  | .hbm, ⟨14, _⟩ => ⟨S352x1024, .f32⟩
  | .hbm, ⟨15, _⟩ => ⟨S352x1024, .f32⟩
  | .hbm, ⟨16, _⟩ => ⟨S352x1024, .f32⟩
  | .hbm, ⟨17, _⟩ => ⟨S_, .f32⟩
  | .hbm, ⟨18, _⟩ => ⟨S352x1024, .f32⟩
  | .hbm, ⟨19, _⟩ => ⟨S352x1024, .f32⟩
  | .hbm, ⟨20, _⟩ => ⟨S352x1024, .f32⟩
  | .hbm, ⟨21, _⟩ => ⟨S_, .f32⟩
  | .hbm, ⟨22, _⟩ => ⟨S352x1024, .f32⟩
  | .hbm, ⟨23, _⟩ => ⟨S352x1024, .f32⟩
  | .hbm, ⟨24, _⟩ => ⟨S_, .f32⟩
  | .hbm, ⟨25, _⟩ => ⟨S352x1024, .f32⟩
  | .hbm, ⟨26, _⟩ => ⟨S352x1024, .f32⟩
  | .hbm, ⟨27, _⟩ => ⟨S352x1024, .f32⟩
  | .hbm, ⟨28, _⟩ => ⟨S_, .f32⟩
  | .hbm, ⟨29, _⟩ => ⟨S352x1024, .f32⟩
  | .hbm, ⟨30, _⟩ => ⟨S352x1024, .f32⟩
  | .hbm, ⟨31, _⟩ => ⟨S352x1024, .f32⟩
  | .hbm, ⟨32, _⟩ => ⟨S_, .f32⟩
  | .hbm, ⟨33, _⟩ => ⟨S352x1024, .f32⟩
  | .hbm, ⟨34, _⟩ => ⟨S352x1024, .f32⟩
  | .hbm, ⟨35, _⟩ => ⟨S352x1024, .f32⟩
  | .hbm, ⟨36, _⟩ => ⟨S_, .f32⟩
  | .hbm, ⟨37, _⟩ => ⟨S352x1024, .f32⟩
  | .hbm, ⟨38, _⟩ => ⟨S352x1024, .f32⟩
  | _, _ => ⟨S8x352x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_cst_0 : Ref sig .tc := ⟨.hbm, 6, rfl⟩
abbrev main_v1 : Ref sig .tc := ⟨.hbm, 7, rfl⟩
abbrev main_v2 : Ref sig .tc := ⟨.hbm, 8, rfl⟩
abbrev main_cst_1 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_cst_2 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_cst_3 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_cst_4 : Ref sig .tc := ⟨.hbm, 21, rfl⟩
abbrev main_v12 : Ref sig .tc := ⟨.hbm, 22, rfl⟩
abbrev main_v13 : Ref sig .tc := ⟨.hbm, 23, rfl⟩
abbrev main_cst_5 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_cst_6 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_cst_7 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_cst_8 : Ref sig .tc := ⟨.hbm, 36, rfl⟩
abbrev main_v23 : Ref sig .tc := ⟨.hbm, 37, rfl⟩
abbrev main_v24 : Ref sig .tc := ⟨.hbm, 38, rfl⟩

abbrev nD : Nat := 1
abbrev τ : Topo := Topo.v7x

variable {F : FTy → Type} [FloatOps F]
-- ==== Proof.DinOuts.lean ====
/- What one grid point of the call `din` leaves in the staging buffers of its five results, as values of the point's
   input blocks: the first point over zeroed sums, every later point over what the point before left. -/
module

public import proofs.«01_k».proof.Proof.Gen.DinIdeal.Frame
public import Idealize.ShloMosaic.Lib.Pipeline.Value

@[expose] public section

set_option maxRecDepth 16384
set_option maxHeartbeats 4000000

noncomputable section

namespace Cert.DinIdeal.Value

open Cert.DinIdeal Cert.DinIdeal.Gen Idealize.ShloMosaic Idealize.ShloMosaic.TcCoe Idealize.SL.Sem
open Idealize.ShloMosaic.Pipeline (Dat)

variable {F : FTy → Type} [FloatOps F]
variable (m : (ℓ : Loc nD τ sig) → Buf (Elt F) ℓ)

theorem hz : (![0, 0] : Fin 2 → Nat) = fun _ => 0 := funext fun a => by fin_cases a <;> rfl

/-- The point's input blocks, by name. -/
abbrev bProj (c : Dev nD) (t : Fin cfg0.N) : Vec F S512x1792 .bf16 := iblk m c 0 t
abbrev bKv (c : Dev nD) (t : Fin cfg0.N) : Vec F S512x256 .f32 := iblk m c 1 t
abbrev bW (c : Dev nD) (t : Fin cfg0.N) : Vec F S1792x1024 .bf16 := iblk m c 2 t
abbrev bX (c : Dev nD) (t : Fin cfg0.N) : Vec F S512x1024 .f32 := iblk m c 3 t
abbrev bZ (c : Dev nD) (t : Fin cfg0.N) : Vec F S512x1024 .f32 := iblk m c 4 t
abbrev bSc (c : Dev nD) (t : Fin cfg0.N) : Vec F S1x1024 .f32 := iblk m c 5 t

/-- A point's two tiled results and three running sums, from the sums `s8`, `s9`, `s10` it starts with. -/
abbrev outs (c : Dev nD) (t : Fin cfg0.N) (s8 : Vec F S8x1792 .f32) (s9 s10 : Vec F S8x1024 .f32) :
    Vec F S512x1024 .f32 × Vec F S512x1792 .bf16 × Vec F S8x1792 .f32 × Vec F S8x1024 .f32 × Vec F S8x1024 .f32 :=
  (k0_pay2 (k0_pay9 (bProj m c t) (bKv m c t) (bW m c t)) (bSc m c t) (bZ m c t), k0_pay8 (bProj m c t) (bKv m c t),
    k0_pay7 (bProj m c t) (bKv m c t) s8, k0_pay10 (bProj m c t) (bKv m c t) (bW m c t) s9 (bX m c t),
    k0_pay1 (k0_pay9 (bProj m c t) (bKv m c t) (bW m c t)) s10)

/-- The first point starts from zero. -/
theorem outs_first (c : Dev nD) (t : Fin cfg0.N) (h0 : t.val % 16 = 0) :
    outsAt0 m c t.val t.isLt = outs m c t k0_pay3 k0_pay4 k0_pay5 := by
  rw [outsAt0_A m c t h0]
  unfold out0_A_6 out0_A_7 out0_A_8 out0_A_9 out0_A_10
  rw [View.read_writes_eq_canon VO0_6, View.read_writes_eq_canon VO0_7, View.read_writes_eq_canon VO0_8,
    View.read_writes_eq_canon VO0_9, View.read_writes_eq_canon VO0_10]
  rotate_left
  · intro y; exact cover0_A_10 ..
  · intro y; exact cover0_A_9 ..
  · intro y; exact cover0_A_8 ..
  · intro y; exact cover0_A_7 ..
  · intro y; exact cover0_A_6 ..
  unfold kernelRun0_A
  dsimp only
  sl_unfold_words
  simp only [View.canon_cons_unit_zero (S := S512x1024) hz, View.canon_cons_unit_zero (S := S512x1792) hz,
    View.canon_cons_unit_zero (S := S8x1792) hz, View.canon_cons_unit_zero (S := S8x1024) hz,
    View.readCov_unit_zero (S := S8x1792) _ hz, View.readCov_unit_zero (S := S8x1024) _ hz, View.readAt_eq_ld,
    (hs0_0 t).read_unread, (hs0_1 t).read_unread, (hs0_2 t).read_unread, (hs0_3 t).read_unread,
    (hs0_4 t).read_unread, (hs0_5 t).read_unread, View.ld_unit_zero (S := S512x1024) hz,
    View.ld_unit_zero (S := S512x1792) hz, View.ld_unit_zero (S := S512x256) hz,
    View.ld_unit_zero (S := S1792x1024) hz, View.ld_unit_zero (S := S1x1024) hz]

/-- A later point starts from what the point before left. -/
theorem outs_later (c : Dev nD) (t : Fin cfg0.N) (h0 : ¬t.val % 16 = 0) :
    outsAt0 m c t.val t.isLt = outs m c t
      (outsAt0 m c (t.val - 1) (Nat.lt_of_le_of_lt (Nat.sub_le _ _) t.isLt)).2.2.1
      (outsAt0 m c (t.val - 1) (Nat.lt_of_le_of_lt (Nat.sub_le _ _) t.isLt)).2.2.2.1
      (outsAt0 m c (t.val - 1) (Nat.lt_of_le_of_lt (Nat.sub_le _ _) t.isLt)).2.2.2.2 := by
  rw [outsAt0_B m c t h0]
  unfold out0_B_6 out0_B_7 out0_B_8 out0_B_9 out0_B_10
  rw [View.read_writes_eq_canon VO0_6, View.read_writes_eq_canon VO0_7, View.read_writes_eq_canon VO0_8,
    View.read_writes_eq_canon VO0_9, View.read_writes_eq_canon VO0_10]
  rotate_left
  · intro y; exact cover0_B_10 ..
  · intro y; exact cover0_B_9 ..
  · intro y; exact cover0_B_8 ..
  · intro y; exact cover0_B_7 ..
  · intro y; exact cover0_B_6 ..
  unfold kernelRun0_B
  dsimp only
  sl_unfold_words
  simp only [View.canon_cons_unit_zero (S := S512x1024) hz, View.canon_cons_unit_zero (S := S512x1792) hz,
    View.canon_cons_unit_zero (S := S8x1792) hz, View.canon_cons_unit_zero (S := S8x1024) hz, View.readAt_eq_ld,
    (hs0_0 t).read_unread, (hs0_1 t).read_unread, (hs0_2 t).read_unread, (hs0_3 t).read_unread,
    (hs0_4 t).read_unread, (hs0_5 t).read_unread, (hs0_8 t).read_unread, (hs0_9 t).read_unread,
    (hs0_10 t).read_unread, View.ld_unit_zero (S := S512x1024) hz,
    View.ld_unit_zero (S := S512x1792) hz, View.ld_unit_zero (S := S512x256) hz,
    View.ld_unit_zero (S := S1792x1024) hz, View.ld_unit_zero (S := S1x1024) hz,
    View.ld_unit_zero (S := S8x1792) hz, View.ld_unit_zero (S := S8x1024) hz]

end Cert.DinIdeal.Value

end
-- ==== Proof.DinPay.lean ====
/- The values one grid point of the call `din` computes, read at an index over the extended reals. -/
module

public import proofs.«01_k».proof.Proof.DinOuts
public import Idealize.ShloMosaic.Lib.Pointwise

@[expose] public section

set_option maxRecDepth 16384

noncomputable section

namespace Cert.DinIdeal.Value

open Cert.DinIdeal Cert.DinIdeal.Gen Idealize.ShloMosaic Idealize.ShloMosaic.TcCoe Idealize.SL.Sem
open Idealize.ShloMosaic.Pipeline (Dat)

/-- The projection's whole gradient in a block: its own columns, with the next block's share of k and v added. -/
theorem pay6_apply (p : Vec Ideal S512x1792 .bf16) (kv : Vec Ideal S512x256 .f32) (r : Fin 512) (l : Fin 1792) :
    k0_pay6 (F := Ideal) p kv (ix2 r l) = p (ix2 r l) + (if h : 512 ≤ l.val ∧ l.val < 768 then kv (ix2 r ⟨l.val - 512, by omega⟩) else 0) := by
  pointwise [k0_pay6]
  by_cases h1 : l.val < 512
  · rw [dif_pos h1, dif_neg (by omega), add_zero]
  · rw [dif_neg h1]
    by_cases h2 : l.val - 512 < 256
    · rw [dif_pos h2, dif_pos (by omega)]
      exact congrArg (fun k => p (ix2 r k) + _) (Fin.ext (by show 512 + (l.val - 512) = l.val; omega))
    · rw [dif_neg h2, dif_neg (by omega), add_zero]
      exact congrArg (fun k => p (ix2 r k)) (Fin.ext (by show 768 + (l.val - 512 - 256) = l.val; omega))

theorem pay9_apply (p : Vec Ideal S512x1792 .bf16) (kv : Vec Ideal S512x256 .f32) (w : Vec Ideal S1792x1024 .bf16)
    (r : Fin 512) (l : Fin 1024) :
    k0_pay9 (F := Ideal) p kv w (ix2 r l) = ∑ k : Fin 1792, k0_pay6 (F := Ideal) p kv (ix2 r k) * w (ix2 k l) := by
  pointwise [k0_pay9, k0_pay8]

theorem pay2_apply (h : Vec Ideal S512x1024 .f32) (sc : Vec Ideal S1x1024 .f32) (z : Vec Ideal S512x1024 .f32)
    (r : Fin 512) (l : Fin 1024) :
    k0_pay2 (F := Ideal) h sc z (ix2 r l) = h (ix2 r l) * (1 + sc (ix2 0 l)) + Ideal.ofBits .f32 0x3F9837F0#32 * z (ix2 r l) := by
  pointwise [k0_pay2]

theorem pay7_apply (p : Vec Ideal S512x1792 .bf16) (kv : Vec Ideal S512x256 .f32) (s : Vec Ideal S8x1792 .f32)
    (r : Fin 8) (l : Fin 1792) :
    k0_pay7 (F := Ideal) p kv s (ix2 r l) = s (ix2 r l) + ∑ q : Fin 64, k0_pay6 (F := Ideal) p kv (ix2 ⟨q.val * 8 + r.val, by omega⟩ l) := by
  pointwise [k0_pay7]

theorem pay10_apply (p : Vec Ideal S512x1792 .bf16) (kv : Vec Ideal S512x256 .f32) (w : Vec Ideal S1792x1024 .bf16)
    (s : Vec Ideal S8x1024 .f32) (x : Vec Ideal S512x1024 .f32) (r : Fin 8) (l : Fin 1024) :
    k0_pay10 (F := Ideal) p kv w s x (ix2 r l) = s (ix2 r l) + ∑ q : Fin 64,
      k0_pay9 (F := Ideal) p kv w (ix2 ⟨q.val * 8 + r.val, by omega⟩ l) * x (ix2 ⟨q.val * 8 + r.val, by omega⟩ l) := by
  pointwise [k0_pay10]

theorem pay1_apply (h : Vec Ideal S512x1024 .f32) (s : Vec Ideal S8x1024 .f32) (r : Fin 8) (l : Fin 1024) :
    k0_pay1 (F := Ideal) h s (ix2 r l) = s (ix2 r l) + ∑ q : Fin 64, h (ix2 ⟨q.val * 8 + r.val, by omega⟩ l) := by
  pointwise [k0_pay1]

end Cert.DinIdeal.Value

end
-- ==== Proof.DinSpec.lean ====
/- The gradient of the modulated input projection, written once over the extended reals: what both programs compute. -/
module

public import Idealize.ShloMosaic.Lib.Pointwise

@[expose] public section

noncomputable section

namespace Cert.DinSpec

open Idealize.ShloMosaic

/-- The whole gradient of the projection's output: its own columns, and in the columns of k and v the share that comes
    back from the block after. -/
def dAll (p : (⟨2, ![8192, 1792]⟩ : Shape).Idx → EReal) (kv : (⟨2, ![8192, 256]⟩ : Shape).Idx → EReal)
    (r : Fin 8192) (l : Fin 1792) : EReal :=
  p (ix2 r l) + (if h : 512 ≤ l.val ∧ l.val < 768 then kv (ix2 r ⟨l.val - 512, by omega⟩) else 0)

/-- The gradient of the modulated row: the product with the weight. -/
def dH (p : (⟨2, ![8192, 1792]⟩ : Shape).Idx → EReal) (kv : (⟨2, ![8192, 256]⟩ : Shape).Idx → EReal)
    (w : (⟨2, ![1024, 1792]⟩ : Shape).Idx → EReal) (r : Fin 8192) (d : Fin 1024) : EReal :=
  ∑ k : Fin 1792, dAll p kv r k * w (ix2 d k)

/-- Row number `r` of an array of 8192 rows. -/
def row (r : ℕ) : Fin 8192 := ⟨r % 8192, Nat.mod_lt _ (by decide)⟩

theorem row_val (r : Fin 8192) : row r.val = r := Fin.ext (Nat.mod_eq_of_lt r.isLt)

theorem sum_row (f : Fin 8192 → EReal) : ∑ r ∈ Finset.range 8192, f (row r) = ∑ r : Fin 8192, f r := by
  rw [Finset.sum_range]
  exact Finset.sum_congr rfl fun r _ => by rw [row_val]

end Cert.DinSpec

end
-- ==== Proof.RowSum.lean ====
/- Sums over the rows of an array, tile by tile: what a kernel does that keeps one running sum per row class
   (the row's number modulo 8) and walks the array tile after tile, against the plain sum over all rows. -/
module

public import Mathlib.Algebra.BigOperators.Fin
public import Mathlib.Data.EReal.Basic
public import Mathlib.Algebra.BigOperators.Group.Finset.Basic

@[expose] public section

namespace Cert.RowSum

open Finset

variable {β : Type*} [AddCommMonoid β]

/-- A sum over `a * b` numbers, read as `a` stretches of `b`. -/
theorem sum_stretches (f : ℕ → β) (b : ℕ) :
    ∀ a : ℕ, ∑ r ∈ range (a * b), f r = ∑ i ∈ range a, ∑ j ∈ range b, f (i * b + j)
  | 0 => by simp
  | a + 1 => by rw [Nat.succ_mul, sum_range_add, sum_stretches f b a, sum_range_succ]

/-- The plain sum over all rows is the sum over the row classes of the tile-by-tile sums. -/
theorem sum_classes (f : ℕ → β) (T Q S : ℕ) :
    ∑ s ∈ range S, ∑ t ∈ range T, ∑ q ∈ range Q, f (t * (Q * S) + (q * S + s)) = ∑ r ∈ range (T * (Q * S)), f r := by
  rw [sum_stretches f (Q * S) T, sum_comm]
  refine sum_congr rfl fun t _ => ?_
  rw [sum_stretches (fun r => f (t * (Q * S) + r)) S Q, sum_comm]

end Cert.RowSum

end
-- ==== Proof.DinArr.lean ====
/- What the call `din` leaves in its five result arrays, over the extended reals, as functions of the arguments. -/
module

public import proofs.«01_k».proof.Proof.DinPay
public import proofs.«01_k».proof.Proof.DinSpec
public import proofs.«01_k».proof.Proof.RowSum
public import proofs.«01_k».proof.Proof.Gen.DinIdeal.Run

@[expose] public section

set_option maxRecDepth 16384

noncomputable section

namespace Cert.DinIdeal.Value

open Cert.DinIdeal Cert.DinIdeal.Gen Idealize.ShloMosaic Idealize.ShloMosaic.TcCoe Idealize.SL.Sem
open Idealize.ShloMosaic.Pipeline (Dat)
open Idealize.ShloMosaic.StableHlo Cert.DinSpec

variable (m : (ℓ : Loc nD τ sig) → Buf (Elt Ideal) ℓ)

/-! ## The arrays the region reads -/

theorem V_proj (c : Dev nD) : V m c main_v0 = (truncf .bf16 (m ((c : Thread nD τ).loc main_arg5)) bitsLt_bf16_f32 : FVec Ideal S8192x1792 .bf16) := by
  show after (List.flatten [hostOps0]) _ (Proc.devRef .tc main_v0) = _
  simp only [hostOps0, List.flatten_cons, List.flatten_nil, List.append_nil, List.cons_append, List.nil_append]
  after_results

theorem V_w (c : Dev nD) : V m c main_v2 = (truncf .bf16 (transpose S1792x1024 [1, 0] (m ((c : Thread nD τ).loc main_arg3)) transposes_S1024x1792_S1792x1024_1_0) bitsLt_bf16_f32 : FVec Ideal S1792x1024 .bf16) := by
  show after (List.flatten [hostOps0]) _ (Proc.devRef .tc main_v2) = _
  simp only [hostOps0, List.flatten_cons, List.flatten_nil, List.append_nil, List.cons_append, List.nil_append]
  after_results

theorem V_sc (c : Dev nD) : V m c main_v3 = (broadcastInDim S1x1024 ![1] bcast_S1024_S1x1024_1 (m ((c : Thread nD τ).loc main_arg1)) : FVec Ideal S1x1024 .f32) := by
  show after (List.flatten [hostOps0]) _ (Proc.devRef .tc main_v3) = _
  simp only [hostOps0, List.flatten_cons, List.flatten_nil, List.append_nil, List.cons_append, List.nil_append]
  after_results

/-- The row of an array that row `r` of point `t`'s tile is. -/
abbrev tileRow (t : Fin cfg0.N) (r : Fin 512) : Fin 8192 :=
  ⟨t.val * 512 + r.val, by have := t.isLt; have : cfg0.N = 16 := N_0; omega⟩

/-! ## The blocks of a point -/

theorem at0 : ∀ t : Fin grid0.N, win0_0.index t 0 = t.val ∧ win0_0.index t 1 = 0 := by decide +kernel
theorem at1 : ∀ t : Fin grid0.N, win0_1.index t 0 = t.val ∧ win0_1.index t 1 = 0 := by decide +kernel
theorem at2 : ∀ t : Fin grid0.N, win0_2.index t 0 = 0 ∧ win0_2.index t 1 = 0 := by decide +kernel
theorem at3 : ∀ t : Fin grid0.N, win0_3.index t 0 = t.val ∧ win0_3.index t 1 = 0 := by decide +kernel
theorem at4 : ∀ t : Fin grid0.N, win0_4.index t 0 = t.val ∧ win0_4.index t 1 = 0 := by decide +kernel
theorem at5 : ∀ t : Fin grid0.N, win0_5.index t 0 = 0 ∧ win0_5.index t 1 = 0 := by decide +kernel
theorem at6 : ∀ t : Fin grid0.N, win0_6.index t 0 = t.val ∧ win0_6.index t 1 = 0 := by decide +kernel
theorem at7 : ∀ t : Fin grid0.N, win0_7.index t 0 = t.val ∧ win0_7.index t 1 = 0 := by decide +kernel

theorem bProj_apply (c : Dev nD) (t : Fin cfg0.N) (r : Fin 512) (l : Fin 1792) :
    bProj m c t (ix2 r l) = m ((c : Thread nD τ).loc main_arg5) (ix2 (tileRow t r) l) := by
  unfold bProj iblk
  rw [View.read_apply]
  show V m c main_v0 _ = _
  rw [V_proj]
  show m _ _ = m _ _
  congr 1
  funext a; apply Fin.ext
  match a with
  | ⟨0, _⟩ => show win0_0.index t 0 * 512 + 1 * r.val = t.val * 512 + r.val; rw [(at0 t).1]; omega
  | ⟨1, _⟩ => show win0_0.index t 1 * 1792 + 1 * l.val = l.val; rw [(at0 t).2]; omega

theorem bKv_apply (c : Dev nD) (t : Fin cfg0.N) (r : Fin 512) (l : Fin 256) :
    bKv m c t (ix2 r l) = m ((c : Thread nD τ).loc main_arg6) (ix2 (tileRow t r) l) := by
  unfold bKv iblk
  rw [View.read_apply]
  show V m c main_arg6 _ = _
  rw [V_main_arg6]
  congr 1
  funext a; apply Fin.ext
  match a with
  | ⟨0, _⟩ => show win0_1.index t 0 * 512 + 1 * r.val = t.val * 512 + r.val; rw [(at1 t).1]; omega
  | ⟨1, _⟩ => show win0_1.index t 1 * 256 + 1 * l.val = l.val; rw [(at1 t).2]; omega

theorem bW_apply (c : Dev nD) (t : Fin cfg0.N) (k : Fin 1792) (l : Fin 1024) :
    bW m c t (ix2 k l) = m ((c : Thread nD τ).loc main_arg3) (ix2 l k) := by
  unfold bW iblk
  rw [View.read_apply]
  show V m c main_v2 _ = _
  rw [V_w]
  have e : ((cfg0.win 2).blk t).view.emb (ix2 k l) = (ix2 k l : S1792x1024.Idx) := by
    funext a; apply Fin.ext
    match a with
    | ⟨0, _⟩ => show win0_2.index t 0 * 1792 + 1 * k.val = k.val; rw [(at2 t).1]; omega
    | ⟨1, _⟩ => show win0_2.index t 1 * 1024 + 1 * l.val = l.val; rw [(at2 t).2]; omega
  rw [e]
  pointwise

theorem bX_apply (c : Dev nD) (t : Fin cfg0.N) (r : Fin 512) (l : Fin 1024) :
    bX m c t (ix2 r l) = m ((c : Thread nD τ).loc main_arg0) (ix2 (tileRow t r) l) := by
  unfold bX iblk
  rw [View.read_apply]
  show V m c main_arg0 _ = _
  rw [V_main_arg0]
  congr 1
  funext a; apply Fin.ext
  match a with
  | ⟨0, _⟩ => show win0_3.index t 0 * 512 + 1 * r.val = t.val * 512 + r.val; rw [(at3 t).1]; omega
  | ⟨1, _⟩ => show win0_3.index t 1 * 1024 + 1 * l.val = l.val; rw [(at3 t).2]; omega

theorem bZ_apply (c : Dev nD) (t : Fin cfg0.N) (r : Fin 512) (l : Fin 1024) :
    bZ m c t (ix2 r l) = m ((c : Thread nD τ).loc main_arg7) (ix2 (tileRow t r) l) := by
  unfold bZ iblk
  rw [View.read_apply]
  show V m c main_arg7 _ = _
  rw [V_main_arg7]
  congr 1
  funext a; apply Fin.ext
  match a with
  | ⟨0, _⟩ => show win0_4.index t 0 * 512 + 1 * r.val = t.val * 512 + r.val; rw [(at4 t).1]; omega
  | ⟨1, _⟩ => show win0_4.index t 1 * 1024 + 1 * l.val = l.val; rw [(at4 t).2]; omega

theorem bSc_apply (c : Dev nD) (t : Fin cfg0.N) (l : Fin 1024) :
    bSc m c t (ix2 0 l) = m ((c : Thread nD τ).loc main_arg1) (ix1 l) := by
  unfold bSc iblk
  rw [View.read_apply]
  show V m c main_v3 _ = _
  rw [V_sc]
  have e : ((cfg0.win 5).blk t).view.emb (ix2 0 l) = (ix2 0 l : S1x1024.Idx) := by
    funext a; apply Fin.ext
    match a with
    | ⟨0, _⟩ => show win0_5.index t 0 * 1 + 1 * 0 = 0; rw [(at5 t).1]
    | ⟨1, _⟩ => show win0_5.index t 1 * 1024 + 1 * l.val = l.val; rw [(at5 t).2]; omega
  rw [e]
  pointwise

/-! ## A point's values as the gradient's -/

abbrev gAll (c : Dev nD) : Fin 8192 → Fin 1792 → EReal :=
  dAll (m ((c : Thread nD τ).loc main_arg5)) (m ((c : Thread nD τ).loc main_arg6))
abbrev gH (c : Dev nD) : Fin 8192 → Fin 1024 → EReal :=
  dH (m ((c : Thread nD τ).loc main_arg5)) (m ((c : Thread nD τ).loc main_arg6)) (m ((c : Thread nD τ).loc main_arg3))

theorem point_all (c : Dev nD) (t : Fin cfg0.N) (r : Fin 512) (l : Fin 1792) :
    k0_pay6 (F := Ideal) (bProj m c t) (bKv m c t) (ix2 r l) = gAll m c (tileRow t r) l := by
  rw [pay6_apply, bProj_apply]
  unfold gAll dAll
  simp only [bKv_apply]

theorem point_h (c : Dev nD) (t : Fin cfg0.N) (r : Fin 512) (l : Fin 1024) :
    k0_pay9 (F := Ideal) (bProj m c t) (bKv m c t) (bW m c t) (ix2 r l) = gH m c (tileRow t r) l := by
  rw [pay9_apply]
  simp only [point_all, bW_apply]
  rfl

/-! ## The running sums after a point -/

/-- Rows of class `s` (modulo 8) in the tiles up to point `n`. -/
abbrev classSum (f : Fin 8192 → EReal) (n : ℕ) (s : Fin 8) : EReal :=
  ∑ u ∈ Finset.range (n + 1), ∑ q ∈ Finset.range 64, f (row (u * (64 * 8) + (q * 8 + s.val)))

theorem classSum_zero (f : Fin 8192 → EReal) (s : Fin 8) :
    classSum f 0 s = ∑ q ∈ Finset.range 64, f (row (0 * (64 * 8) + (q * 8 + s.val))) := by
  unfold classSum
  rw [zero_add, Finset.sum_range_one]

theorem tile_sum (f : Fin 8192 → EReal) (t : Fin cfg0.N) (s : Fin 8) :
    ∑ q : Fin 64, f (tileRow t ⟨q.val * 8 + s.val, by omega⟩) = ∑ q ∈ Finset.range 64, f (row (t.val * (64 * 8) + (q * 8 + s.val))) := by
  rw [Finset.sum_range]
  refine Finset.sum_congr rfl fun q _ => congrArg f (Fin.ext ?_)
  have := t.isLt; have : cfg0.N = 16 := N_0
  show t.val * 512 + (q.val * 8 + s.val) = (t.val * (64 * 8) + (q.val * 8 + s.val)) % 8192
  omega

/-- The three sums after point `n`. -/
theorem sums_at (c : Dev nD) : ∀ (n : ℕ) (h : n < cfg0.N),
    (∀ (s : Fin 8) (l : Fin 1792), (outsAt0 m c n h).2.2.1 (ix2 s l) = classSum (fun r => gAll m c r l) n s) ∧
    (∀ (s : Fin 8) (l : Fin 1024), (outsAt0 m c n h).2.2.2.1 (ix2 s l)
      = classSum (fun r => gH m c r l * m ((c : Thread nD τ).loc main_arg0) (ix2 r l)) n s) ∧
    (∀ (s : Fin 8) (l : Fin 1024), (outsAt0 m c n h).2.2.2.2 (ix2 s l) = classSum (fun r => gH m c r l) n s)
  | 0, h => by
    have e := outs_first m c ⟨0, h⟩ rfl
    dsimp only at e
    rw [e]
    have z8 : ∀ i, (k0_pay3 (F := Ideal)) i = 0 := fun i => by pointwise [k0_pay3]
    have z9 : ∀ i, (k0_pay4 (F := Ideal)) i = 0 := fun i => by pointwise [k0_pay4]
    have z10 : ∀ i, (k0_pay5 (F := Ideal)) i = 0 := fun i => by pointwise [k0_pay5]
    refine ⟨fun s l => ?_, fun s l => ?_, fun s l => ?_⟩
    · show k0_pay7 _ _ _ _ = _
      rw [pay7_apply, z8, zero_add]
      simp only [point_all]
      rw [tile_sum (fun r => gAll m c r l)]
      exact (classSum_zero (fun r => gAll m c r l) s).symm
    · show k0_pay10 _ _ _ _ _ _ = _
      rw [pay10_apply, z9, zero_add]
      simp only [point_h, bX_apply]
      rw [tile_sum (fun r => gH m c r l * m ((c : Thread nD τ).loc main_arg0) (ix2 r l))]
      exact (classSum_zero (fun r => gH m c r l * m ((c : Thread nD τ).loc main_arg0) (ix2 r l)) s).symm
    · show k0_pay1 _ _ _ = _
      rw [pay1_apply, z10, zero_add]
      simp only [point_h]
      rw [tile_sum (fun r => gH m c r l)]
      exact (classSum_zero (fun r => gH m c r l) s).symm
  | n + 1, h => by
    obtain ⟨i8, i9, i10⟩ := sums_at c n (Nat.lt_of_succ_lt h)
    have hN : cfg0.N = 16 := N_0
    have e := outs_later m c ⟨n + 1, h⟩ (by dsimp only; omega)
    dsimp only [Nat.add_sub_cancel] at e
    rw [e]
    refine ⟨fun s l => ?_, fun s l => ?_, fun s l => ?_⟩
    · show k0_pay7 _ _ _ _ = _
      rw [pay7_apply]
      erw [i8 s l]
      simp only [point_all]
      rw [tile_sum (fun r => gAll m c r l)]
      exact (Finset.sum_range_succ _ (n + 1)).symm
    · show k0_pay10 _ _ _ _ _ _ = _
      rw [pay10_apply]
      erw [i9 s l]
      simp only [point_h, bX_apply]
      rw [tile_sum (fun r => gH m c r l * m ((c : Thread nD τ).loc main_arg0) (ix2 r l))]
      exact (Finset.sum_range_succ _ (n + 1)).symm
    · show k0_pay1 _ _ _ = _
      rw [pay1_apply]
      erw [i10 s l]
      simp only [point_h]
      rw [tile_sum (fun r => gH m c r l)]
      exact (Finset.sum_range_succ _ (n + 1)).symm

/-! ## The five result arrays -/

/-- The gradient of the input rows: the scaled product, and the share of the residual branch. -/
abbrev resX (c : Dev nD) : (⟨S8192x1024, .f32⟩ : BufTy).Contents (Elt Ideal) := fun i =>
  gH m c (i 0) (i 1) * (1 + m ((c : Thread nD τ).loc main_arg1) (ix1 (i 1 : Fin 1024)))
    + Ideal.ofBits .f32 (0x3F9837F0#32) * m ((c : Thread nD τ).loc main_arg7) (ix2 (i 0 : Fin 8192) (i 1 : Fin 1024))

abbrev resP (c : Dev nD) : (⟨S8192x1792, .bf16⟩ : BufTy).Contents (Elt Ideal) := fun i => gAll m c (i 0) (i 1)
abbrev resB (c : Dev nD) : (⟨S8x1792, .f32⟩ : BufTy).Contents (Elt Ideal) := fun i => classSum (fun r => gAll m c r (i 1)) 15 (i 0)
abbrev resSc (c : Dev nD) : (⟨S8x1024, .f32⟩ : BufTy).Contents (Elt Ideal) := fun i =>
  classSum (fun r => gH m c r (i 1) * m ((c : Thread nD τ).loc main_arg0) (ix2 r (i 1 : Fin 1024))) 15 (i 0)
abbrev resSh (c : Dev nD) : (⟨S8x1024, .f32⟩ : BufTy).Contents (Elt Ideal) := fun i => classSum (fun r => gH m c r (i 1)) 15 (i 0)

theorem outs_tiles (c : Dev nD) (t : Fin cfg0.N) :
    (outsAt0 m c t.val t.isLt).1 = k0_pay2 (k0_pay9 (bProj m c t) (bKv m c t) (bW m c t)) (bSc m c t) (bZ m c t)
    ∧ (outsAt0 m c t.val t.isLt).2.1 = k0_pay8 (bProj m c t) (bKv m c t) := by
  by_cases h : t.val % 16 = 0
  · rw [outs_first m c t h]; exact ⟨rfl, rfl⟩
  · rw [outs_later m c t h]; exact ⟨rfl, rfl⟩

theorem flushed_x (c : Dev nD) (t : Fin cfg0.N) (hf : (cfg0.win 6).flush t = true) :
    (dats m 0 c).flushed 6 t = ((cfg0.win 6).blk t).view.read (Elt Ideal) (resX m c) := by
  show (cfg0.win 6).cut (grid0.coords t) ((dats m 0 c).after 6 t) = _
  rw [after0_6, (outs_tiles m c t).1]
  funext j
  obtain ⟨r, l, rfl⟩ : ∃ (r : Fin 512) (l : Fin 1024), j = ix2 r l := ⟨j 0, j 1, eq_ix2 j⟩
  rw [View.read_apply]
  have e : ((cfg0.win 6).blk t).view.emb (ix2 r l) = (ix2 (tileRow t r) l : S8192x1024.Idx) := by
    funext a; apply Fin.ext
    match a with
    | ⟨0, _⟩ => show win0_6.index t 0 * 512 + 1 * r.val = t.val * 512 + r.val; rw [(at6 t).1]; omega
    | ⟨1, _⟩ => show win0_6.index t 1 * 1024 + 1 * l.val = l.val; rw [(at6 t).2]; omega
  rw [e]
  refine (pay2_apply _ _ _ r l).trans ?_
  rw [point_h, bSc_apply, bZ_apply]
  rfl

theorem flushed_p (c : Dev nD) (t : Fin cfg0.N) (hf : (cfg0.win 7).flush t = true) :
    (dats m 0 c).flushed 7 t = ((cfg0.win 7).blk t).view.read (Elt Ideal) (resP m c) := by
  show (cfg0.win 7).cut (grid0.coords t) ((dats m 0 c).after 7 t) = _
  rw [after0_7, (outs_tiles m c t).2]
  funext j
  obtain ⟨r, l, rfl⟩ : ∃ (r : Fin 512) (l : Fin 1792), j = ix2 r l := ⟨j 0, j 1, eq_ix2 j⟩
  rw [View.read_apply]
  have e : ((cfg0.win 7).blk t).view.emb (ix2 r l) = (ix2 (tileRow t r) l : S8192x1792.Idx) := by
    funext a; apply Fin.ext
    match a with
    | ⟨0, _⟩ => show win0_7.index t 0 * 512 + 1 * r.val = t.val * 512 + r.val; rw [(at7 t).1]; omega
    | ⟨1, _⟩ => show win0_7.index t 1 * 1792 + 1 * l.val = l.val; rw [(at7 t).2]; omega
  rw [e]
  exact point_all m c t r l

/-- The last point. -/
abbrev tl : Fin cfg0.N := ⟨15, by rw [show cfg0.N = 16 from N_0]; omega⟩

theorem last_of (t : Fin cfg0.N) (h : t.val % 16 = 15) : t = tl :=
  Fin.ext (by have := t.isLt; have : cfg0.N = 16 := N_0; show t.val = 15; omega)

theorem flushed_b (c : Dev nD) (t : Fin cfg0.N) (hf : (cfg0.win 8).flush t = true) :
    (dats m 0 c).flushed 8 t = ((cfg0.win 8).blk t).view.read (Elt Ideal) (resB m c) := by
  obtain rfl := last_of t ((flush0_8 t).mp hf)
  show (cfg0.win 8).cut (grid0.coords tl) ((dats m 0 c).after 8 tl) = _
  have hz' : (fun a => win0_8.index tl a * main_v4_2.ty.shape.size a) = fun _ => 0 := funext fun a => by fin_cases a <;> decide
  have e : (dats m 0 c).after 8 tl = resB m c := by
    rw [after0_8]
    funext j
    obtain ⟨s, l, rfl⟩ : ∃ (s : Fin 8) (l : Fin 1792), j = ix2 s l := ⟨j 0, j 1, eq_ix2 j⟩
    exact (sums_at m c 15 tl.isLt).1 s l
  rw [e]
  exact (Memref.read_access_unit_zero (Elt Ideal) main_v4_2 hz' (fun a => by rw [congrFun hz' a]; simp) (resB m c)).symm

theorem flushed_sc (c : Dev nD) (t : Fin cfg0.N) (hf : (cfg0.win 9).flush t = true) :
    (dats m 0 c).flushed 9 t = ((cfg0.win 9).blk t).view.read (Elt Ideal) (resSc m c) := by
  obtain rfl := last_of t ((flush0_9 t).mp hf)
  show (cfg0.win 9).cut (grid0.coords tl) ((dats m 0 c).after 9 tl) = _
  have hz' : (fun a => win0_9.index tl a * main_v4_3.ty.shape.size a) = fun _ => 0 := funext fun a => by fin_cases a <;> decide
  have e : (dats m 0 c).after 9 tl = resSc m c := by
    rw [after0_9]
    funext j
    obtain ⟨s, l, rfl⟩ : ∃ (s : Fin 8) (l : Fin 1024), j = ix2 s l := ⟨j 0, j 1, eq_ix2 j⟩
    exact (sums_at m c 15 tl.isLt).2.1 s l
  rw [e]
  exact (Memref.read_access_unit_zero (Elt Ideal) main_v4_3 hz' (fun a => by rw [congrFun hz' a]; simp) (resSc m c)).symm

theorem flushed_sh (c : Dev nD) (t : Fin cfg0.N) (hf : (cfg0.win 10).flush t = true) :
    (dats m 0 c).flushed 10 t = ((cfg0.win 10).blk t).view.read (Elt Ideal) (resSh m c) := by
  obtain rfl := last_of t ((flush0_10 t).mp hf)
  show (cfg0.win 10).cut (grid0.coords tl) ((dats m 0 c).after 10 tl) = _
  have hz' : (fun a => win0_10.index tl a * main_v4_4.ty.shape.size a) = fun _ => 0 := funext fun a => by fin_cases a <;> decide
  have e : (dats m 0 c).after 10 tl = resSh m c := by
    rw [after0_10]
    funext j
    obtain ⟨s, l, rfl⟩ : ∃ (s : Fin 8) (l : Fin 1024), j = ix2 s l := ⟨j 0, j 1, eq_ix2 j⟩
    exact (sums_at m c 15 tl.isLt).2.2 s l
  rw [e]
  exact (Memref.read_access_unit_zero (Elt Ideal) main_v4_4 hz' (fun a => by rw [congrFun hz' a]; simp) (resSh m c)).symm

/-- The point whose tile holds row `r`. -/
abbrev ptOf (r : Fin 8192) : Fin cfg0.N := ⟨r.val / 512, by rw [show cfg0.N = 16 from N_0]; omega⟩

theorem final_x (c : Dev nD) : reg_main_v4_0 m c = resX m c :=
  (dats m 0 c).arrAt_eq_of_cover 6 (resX m c) (flushed_x m c) fun i =>
    ⟨ptOf (i 0), flush0_6 _, by
      show i ∈ ((View.whole main_v4_0).slice (win0_6.rect (ptOf (i 0)))).set
      rw [View.set_slice_whole, Rect.mem_set_unit]
      intro a
      have h0 : (i 0 : Nat) < 8192 := (i 0).isLt
      have h1 : (i 1 : Nat) < 1024 := (i 1).isLt
      match a with
      | ⟨0, _⟩ => show win0_6.index _ 0 * 512 ≤ (i 0 : Nat) ∧ (i 0 : Nat) < win0_6.index _ 0 * 512 + 512
                  rw [(at6 _).1]; show (i 0).val / 512 * 512 ≤ (i 0 : Nat) ∧ (i 0 : Nat) < (i 0).val / 512 * 512 + 512; omega
      | ⟨1, _⟩ => show win0_6.index _ 1 * 1024 ≤ (i 1 : Nat) ∧ (i 1 : Nat) < win0_6.index _ 1 * 1024 + 1024
                  rw [(at6 _).2]; omega⟩

theorem final_p (c : Dev nD) : reg_main_v4_1 m c = resP m c :=
  (dats m 0 c).arrAt_eq_of_cover 7 (resP m c) (flushed_p m c) fun i =>
    ⟨ptOf (i 0), flush0_7 _, by
      show i ∈ ((View.whole main_v4_1).slice (win0_7.rect (ptOf (i 0)))).set
      rw [View.set_slice_whole, Rect.mem_set_unit]
      intro a
      have h0 : (i 0 : Nat) < 8192 := (i 0).isLt
      have h1 : (i 1 : Nat) < 1792 := (i 1).isLt
      match a with
      | ⟨0, _⟩ => show win0_7.index _ 0 * 512 ≤ (i 0 : Nat) ∧ (i 0 : Nat) < win0_7.index _ 0 * 512 + 512
                  rw [(at7 _).1]; show (i 0).val / 512 * 512 ≤ (i 0 : Nat) ∧ (i 0 : Nat) < (i 0).val / 512 * 512 + 512; omega
      | ⟨1, _⟩ => show win0_7.index _ 1 * 1792 ≤ (i 1 : Nat) ∧ (i 1 : Nat) < win0_7.index _ 1 * 1792 + 1792
                  rw [(at7 _).2]; omega⟩

theorem at8 : ∀ a, win0_8.index tl a = 0 := by decide +kernel
theorem at9 : ∀ a, win0_9.index tl a = 0 := by decide +kernel
theorem at10 : ∀ a, win0_10.index tl a = 0 := by decide +kernel

theorem final_b (c : Dev nD) : reg_main_v4_2 m c = resB m c :=
  (dats m 0 c).arrAt_eq_of_cover 8 (resB m c) (flushed_b m c) fun i =>
    ⟨tl, (flush0_8 tl).mpr rfl, by
      show i ∈ ((View.whole main_v4_2).slice (win0_8.rect tl)).set
      rw [View.set_slice_whole, Rect.mem_set_unit]
      intro a
      show win0_8.index tl a * _ ≤ (i a : Nat) ∧ (i a : Nat) < win0_8.index tl a * _ + S8x1792.size a
      rw [at8 a, Nat.zero_mul, Nat.zero_add]
      exact ⟨Nat.zero_le _, (i a).isLt⟩⟩

theorem final_sc (c : Dev nD) : reg_main_v4_3 m c = resSc m c :=
  (dats m 0 c).arrAt_eq_of_cover 9 (resSc m c) (flushed_sc m c) fun i =>
    ⟨tl, (flush0_9 tl).mpr rfl, by
      show i ∈ ((View.whole main_v4_3).slice (win0_9.rect tl)).set
      rw [View.set_slice_whole, Rect.mem_set_unit]
      intro a
      show win0_9.index tl a * _ ≤ (i a : Nat) ∧ (i a : Nat) < win0_9.index tl a * _ + S8x1024.size a
      rw [at9 a, Nat.zero_mul, Nat.zero_add]
      exact ⟨Nat.zero_le _, (i a).isLt⟩⟩

theorem final_sh (c : Dev nD) : reg_main_v4_4 m c = resSh m c :=
  (dats m 0 c).arrAt_eq_of_cover 10 (resSh m c) (flushed_sh m c) fun i =>
    ⟨tl, (flush0_10 tl).mpr rfl, by
      show i ∈ ((View.whole main_v4_4).slice (win0_10.rect tl)).set
      rw [View.set_slice_whole, Rect.mem_set_unit]
      intro a
      show win0_10.index tl a * _ ≤ (i a : Nat) ∧ (i a : Nat) < win0_10.index tl a * _ + S8x1024.size a
      rw [at10 a, Nat.zero_mul, Nat.zero_add]
      exact ⟨Nat.zero_le _, (i a).isLt⟩⟩

/-- Over the eight classes the sums are over all rows. -/
theorem classes_sum (f : Fin 8192 → EReal) : ∑ s : Fin 8, classSum f 15 s = ∑ r : Fin 8192, f r := by
  rw [← sum_row, ← Cert.RowSum.sum_classes (fun r => f (row r)) 16 64 8, Finset.sum_range]

end Cert.DinIdeal.Value

end
-- ==== Proof.DinRef.lean ====
/- The derivative of the modulated input projection, as the reference computes it, over the extended reals. -/
module

public import proofs.«01_k».proof.Proof.DinSpec
public import proofs.«01_k».proof.Proof.Gen.DinRefIdeal.Run
public import proofs.«01_k».proof.Proof.Gen.DinRefIdeal.Read

@[expose] public section

set_option maxRecDepth 16384

noncomputable section

namespace Cert.DinRefIdeal.Value

open Cert.DinRefIdeal Cert.DinRefIdeal.Gen Idealize.ShloMosaic Idealize.ShloMosaic.TcCoe Idealize.SL.Sem
open Idealize.ShloMosaic.StableHlo Cert.DinSpec Cert.DinRefIdeal.Read

variable (x0 x7 : (⟨S8192x1024, .f32⟩ : BufTy).Contents (Elt Ideal)) (x1 : (⟨S1024, .f32⟩ : BufTy).Contents (Elt Ideal))
  (x3 : (⟨S1024x1792, .f32⟩ : BufTy).Contents (Elt Ideal)) (x5 : (⟨S8192x1792, .f32⟩ : BufTy).Contents (Elt Ideal))
  (x6 : (⟨S8192x256, .f32⟩ : BufTy).Contents (Elt Ideal))

theorem all_apply (r : Fin 8192) (l : Fin 1792) : val_main_v16 (F := Ideal) x5 x6 (ix2 r l) = dAll x5 x6 r l := by
  pointwise [val_main_v16, val_main_v15, val_main_cst_1, dAll]
  by_cases h : 512 ≤ l.val ∧ l.val < 768
  · rw [dif_pos h, dif_pos (by omega)]
  · rw [dif_neg h, dif_neg (by omega)]

theorem one_apply (r : Fin 8192) (l : Fin 1792) : val_main_v19 (F := Ideal) x5 x6 (ix2 r l) = dAll x5 x6 r l := by
  rw [← all_apply]
  pointwise [val_main_v19]

theorem h_apply (r : Fin 8192) (d : Fin 1024) : val_main_v23 (F := Ideal) x3 x5 x6 (ix2 r d) = dH x5 x6 x3 r d := by
  rw [val_main_v23_apply]
  refine Finset.sum_congr rfl fun k _ => ?_
  rw [show lidx_main_v23 (ix2 r d) k = ix2 r k from eq_ix2 _, one_apply, show ridx_main_v23 (ix2 r d) k = ix2 d k from eq_ix2 _]

theorem x_apply (r : Fin 8192) (d : Fin 1024) : val_main_v32 (F := Ideal) x1 x3 x5 x6 x7 (ix2 r d)
    = dH x5 x6 x3 r d * (1 + x1 (ix1 d)) + Ideal.ofBits .f32 (0x3F9837F0#32) * x7 (ix2 r d) := by
  rw [add_comm]
  pointwise [val_main_v32, val_main_v31, val_main_v30, val_main_v2, val_main_v1, val_main_v0, val_main_cst, val_main_v18, val_main_v17, val_main_cst_2]
  rw [h_apply]

theorem sh_apply (d : Fin 1024) : val_main_v26 (F := Ideal) x3 x5 x6 (ix1 d) = ∑ r : Fin 8192, dH x5 x6 x3 r d := by
  pointwise [val_main_v26, val_main_v25, val_main_v24, val_main_cst_6, val_main_cst_5]
  simp only [h_apply, Finset.sum_const, Finset.card_univ, Fintype.card_fin, one_smul]

theorem sc_apply (x0 : (⟨S8192x1024, .f32⟩ : BufTy).Contents (Elt Ideal)) (d : Fin 1024) :
    val_main_v33 (F := Ideal) x0 x3 x5 x6 (ix1 d) = ∑ r : Fin 8192, dH x5 x6 x3 r d * x0 (ix2 r d) := by
  pointwise [val_main_v33, val_main_v29, val_main_v28, val_main_v27, val_main_cst_7, val_main_cst_8]
  simp only [h_apply, Finset.sum_const, Finset.card_univ, Fintype.card_fin, one_smul, mul_comm]

theorem b_apply (d : Fin 1792) : val_main_v22 (F := Ideal) x5 x6 (ix1 d) = ∑ r : Fin 8192, dAll x5 x6 r d := by
  pointwise [val_main_v22, val_main_v21, val_main_v20, val_main_cst_3, val_main_cst_4]
  simp only [all_apply, Finset.sum_const, Finset.card_univ, Fintype.card_fin, one_smul]

end Cert.DinRefIdeal.Value

end
-- ==== Proof.DinValue.lean ====
/- The call `din` and the derivative of the modulated input projection leave the same results. -/
module

public import proofs.«01_k».proof.Proof.DinArr
public import proofs.«01_k».proof.Proof.DinRef
public import proofs.«01_k».proof.Proof.Gen.DinIdeal.Frame
public import proofs.«01_k».proof.Proof.Gen.DinIdeal.Read
public import proofs.«01_k».proof.Defs

@[expose] public section

set_option maxRecDepth 16384

noncomputable section

namespace Cert.DinIdeal.Value

open Cert.DinIdeal Cert.DinIdeal.Gen Idealize.ShloMosaic Idealize.ShloMosaic.TcCoe Idealize.SL.Sem
open Idealize.ShloMosaic.StableHlo Cert.DinSpec

variable (m : (ℓ : Loc nD τ sig) → Buf (Elt Ideal) ℓ)

/-- The sum over the eight classes, as the operations after the call take it. -/
theorem sum8 (y : (⟨S8x1024, .f32⟩ : BufTy).Contents (Elt Ideal)) (d : Fin 1024) :
    Read.val_main_v5 (F := Ideal) y (ix1 d) = ∑ s : Fin 8, y (ix2 s d) := by
  pointwise [Read.val_main_v5, Read.val_main_cst]

theorem sum8_b (y : (⟨S8x1792, .f32⟩ : BufTy).Contents (Elt Ideal)) (d : Fin 1792) :
    Read.val_main_v7 (F := Ideal) y (ix1 d) = ∑ s : Fin 8, y (ix2 s d) := by
  pointwise [Read.val_main_v7, Read.val_main_cst_1]

theorem tail_sc (c : Dev nD) (d : Fin 1024) : Read.val_main_v5 (F := Ideal) (resSc m c) (ix1 d)
    = ∑ r : Fin 8192, gH m c r d * m ((c : Thread nD τ).loc main_arg0) (ix2 r d) :=
  (sum8 _ d).trans (classes_sum fun r => gH m c r d * m ((c : Thread nD τ).loc main_arg0) (ix2 r d))

theorem tail_sh (c : Dev nD) (d : Fin 1024) : Read.val_main_v6 (F := Ideal) (resSh m c) (ix1 d) = ∑ r : Fin 8192, gH m c r d :=
  (sum8 _ d).trans (classes_sum fun r => gH m c r d)

theorem tail_b (c : Dev nD) (d : Fin 1792) : Read.val_main_v7 (F := Ideal) (resB m c) (ix1 d) = ∑ r : Fin 8192, gAll m c r d :=
  (sum8_b _ d).trans (classes_sum fun r => gAll m c r d)

end Cert.DinIdeal.Value

namespace Cert.DinIdeal

open Idealize.ShloMosaic Idealize.ShloMosaic.TcCoe Idealize.SL.Sem Cert.DinIdeal.Value
open Cert.DinRefIdeal.Read (val_main_v32 val_main_v33 val_main_v26 val_main_v22 val_main_v16)

/-- Over the extended reals the call and the derivative leave the same five arrays. -/
theorem algebraic : Cert.algebraic_DinIdeal_DinRefIdeal (hDinIdeal := Gen.facts) (hDinRefIdeal := DinRefIdeal.Gen.facts) := by
  intro m g m' g' _ h
  refine ⟨fun c => resX m c, fun c => DinIdeal.Read.val_main_v5 (resSc m c), fun c => DinIdeal.Read.val_main_v6 (resSh m c),
    fun c => DinIdeal.Read.val_main_v7 (resB m c), fun c => DinIdeal.Read.val_main_v8 (resP m c), ?_, ?_⟩
  · refine (Value.run m g).mono fun r hr c => ?_
    obtain ⟨hx, hsc, hsh, hb, hp, hargs⟩ := hr c
    rw [final_x] at hx
    rw [final_sc] at hsc
    rw [final_sh] at hsh
    rw [final_b] at hb
    rw [final_p] at hp
    exact ⟨hx, hsc, hsh, hb, hp, hargs⟩
  · refine (DinRefIdeal.Value.run m' g').mono fun r hr c => ?_
    obtain ⟨hx, hsc, hsh, hb, hp, hargs⟩ := hr c
    obtain ⟨e0, e1, -, e3, -, e5, e6, e7⟩ := h c
    rw [e1, e3, e5, e6, e7] at hx
    rw [e0, e3, e5, e6] at hsc
    rw [e3, e5, e6] at hsh
    rw [e5, e6] at hb hp
    refine ⟨hx.trans ?_, hsc.trans ?_, hsh.trans ?_, hb.trans ?_, hp.trans ?_, hargs⟩
    · refine (Cert.DinRefIdeal.Read.val_main_v32_eq _ _ _ _ _).trans (funext fun i => ?_)
      obtain ⟨r, d, rfl⟩ : ∃ (r : Fin 8192) (d : Fin 1024), i = ix2 r d := ⟨i 0, i 1, eq_ix2 i⟩
      exact DinRefIdeal.Value.x_apply _ _ _ _ _ r d
    · refine (Cert.DinRefIdeal.Read.val_main_v33_eq _ _ _ _).trans (funext fun i => ?_)
      obtain ⟨d, rfl⟩ : ∃ d : Fin 1024, i = ix1 d := ⟨i 0, eq_ix1 i⟩
      exact (DinRefIdeal.Value.sc_apply _ _ _ _ d).trans (tail_sc m c d).symm
    · refine (Cert.DinRefIdeal.Read.val_main_v26_eq _ _ _).trans (funext fun i => ?_)
      obtain ⟨d, rfl⟩ : ∃ d : Fin 1024, i = ix1 d := ⟨i 0, eq_ix1 i⟩
      exact (DinRefIdeal.Value.sh_apply _ _ _ d).trans (tail_sh m c d).symm
    · refine (Cert.DinRefIdeal.Read.val_main_v22_eq _ _).trans (funext fun i => ?_)
      obtain ⟨d, rfl⟩ : ∃ d : Fin 1792, i = ix1 d := ⟨i 0, eq_ix1 i⟩
      exact (DinRefIdeal.Value.b_apply _ _ d).trans (tail_b m c d).symm
    · refine (Cert.DinRefIdeal.Read.val_main_v16_eq _ _).trans (funext fun i => ?_)
      obtain ⟨r, d, rfl⟩ : ∃ (r : Fin 8192) (d : Fin 1792), i = ix2 r d := ⟨i 0, i 1, eq_ix2 i⟩
      exact DinRefIdeal.Value.all_apply _ _ r d

end Cert.DinIdeal

namespace Cert.DinRefIdeal.Value

open Idealize.ShloMosaic Idealize.ShloMosaic.TcCoe Idealize.SL.Sem

/-- The derivative's program terminates and leaves its arguments as they were. -/
theorem frame : Cert.quiescent_DinRefIdeal (hDinRefIdeal := DinRefIdeal.Gen.facts) := fun m ρ _ =>
  (θ_run DinRefIdeal.defs _ _).mono (fun r hr => ⟨fun c => (hr c).2.2.2.2.2, sem_eq_zero_of_no_sems (by decide) r.2⟩) (run m ρ)

end Cert.DinRefIdeal.Value

end
-- ==== Proof.FfnOuts.lean ====
/- What one grid point of the call `ffn_fwd` leaves in the staging buffers of its nine results, as values of the point's
   input blocks: the first point over zeroed sums, every later point over what the point before left. -/
module

public import proofs.«01_k».proof.Proof.Gen.FfnIdeal.Frame
public import Idealize.ShloMosaic.Lib.Pipeline.ValueKit.Acc

@[expose] public section

set_option maxRecDepth 16384
set_option maxHeartbeats 4000000

noncomputable section

namespace Cert.FfnIdeal.Value

open Cert.FfnIdeal Cert.FfnIdeal.Gen Idealize.ShloMosaic Idealize.ShloMosaic.TcCoe Idealize.SL.Sem
open Idealize.ShloMosaic.Pipeline (Dat)

variable {F : FTy → Type} [FloatOps F]
variable (m : (ℓ : Loc nD τ sig) → Buf (Elt F) ℓ)

/-- The point's input blocks, by name; the weight's block is read in two halves. -/
abbrev bH (c : Dev nD) (t : Fin cfg0.N) : Vec F S256x1024 .bf16 := iblk m c 0 t
abbrev bW (c : Dev nD) (t : Fin cfg0.N) : Vec F S5632x1024 .bf16 := iblk m c 1 t
abbrev bDown (c : Dev nD) (t : Fin cfg0.N) : Vec F S2816x1024 .bf16 := iblk m c 2 t
abbrev bX (c : Dev nD) (t : Fin cfg0.N) : Vec F S256x1024 .f32 := iblk m c 3 t
abbrev bT (c : Dev nD) (t : Fin cfg0.N) : Vec F S256x1024 .f32 := iblk m c 4 t
abbrev bG2 (c : Dev nD) (t : Fin cfg0.N) : Vec F S1x1024 .f32 := iblk m c 5 t
abbrev bLg (c : Dev nD) (t : Fin cfg0.N) : Vec F S1x1024 .f32 := iblk m c 6 t
abbrev bLb (c : Dev nD) (t : Fin cfg0.N) : Vec F S1x1024 .f32 := iblk m c 7 t

/-- The two halves of the first weight's block, as they are loaded. -/
abbrev bGate (c : Dev nD) (t : Fin cfg0.N) : Vec F S2816x1024 .bf16 :=
  View.ld (bW m c t) (Rect.unit ![0, 0] ![2816, 1024] inb_S5632x1024_S2816x1024_0_0)
abbrev bUp (c : Dev nD) (t : Fin cfg0.N) : Vec F S2816x1024 .bf16 :=
  View.ld (bW m c t) (Rect.unit ![2816, 0] ![2816, 1024] inb_S5632x1024_S2816x1024_2816_0)

/-- The point's activation, normalised row, error and gradient before the normalisation. -/
abbrev oAct (c : Dev nD) (t : Fin cfg0.N) : FVec F S256x2816 .bf16 := k0_pay12 (bH m c t) (bGate m c t) (bUp m c t)
abbrev oHat (c : Dev nD) (t : Fin cfg0.N) : FVec F S256x1024 .f32 := k0_pay20 (oAct m c t) (bDown m c t) (bG2 m c t) (bX m c t)
abbrev oErr (c : Dev nD) (t : Fin cfg0.N) : FVec F S256x1024 .f32 :=
  k0_pay21 (oAct m c t) (bDown m c t) (bG2 m c t) (bLg m c t) (bX m c t) (bLb m c t) (bT m c t)
abbrev oDz (c : Dev nD) (t : Fin cfg0.N) : FVec F S256x1024 .f32 :=
  k0_pay28 (k0_pay17 (bLg m c t)) (k0_pay19 (oAct m c t) (bDown m c t) (bG2 m c t) (bX m c t)) (oHat m c t) (oErr m c t)

/-- The five tiled results are the same at every point. -/
theorem tiled (c : Dev nD) (t : Fin cfg0.N) :
    (outsAt0 m c t.val t.isLt).1 = k0_pay13 (bH m c t) (bGate m c t) (bUp m c t)
    ∧ (outsAt0 m c t.val t.isLt).2.1 = k0_pay14 (bH m c t) (bGate m c t)
    ∧ (outsAt0 m c t.val t.isLt).2.2.1 = oAct m c t
    ∧ (outsAt0 m c t.val t.isLt).2.2.2.1 = oDz m c t
    ∧ (outsAt0 m c t.val t.isLt).2.2.2.2.1 = k0_pay2 (k0_pay16 (bG2 m c t)) (oDz m c t) := by
  by_cases h : t.val % 32 = 0
  · refine ⟨?_, ?_, ?_, ?_, ?_⟩ <;> (rw [outsAt0_A m c t h]; frame_out)
  · refine ⟨?_, ?_, ?_, ?_, ?_⟩ <;> (rw [outsAt0_B m c t h]; frame_out)

/-- The four running sums at the first point, over zero. -/
theorem sums_first (c : Dev nD) (t : Fin cfg0.N) (h : t.val % 32 = 0) :
    (outsAt0 m c t.val t.isLt).2.2.2.2.2.1 = k0_pay24 (k0_pay22 k0_pay3)
      (k0_pay23 (oAct m c t) (bDown m c t) (bG2 m c t) (bLg m c t) (bX m c t) (bLb m c t) (bT m c t))
    ∧ (outsAt0 m c t.val t.isLt).2.2.2.2.2.2.1 = k0_pay26 (oHat m c t) (oErr m c t) k0_pay4
    ∧ (outsAt0 m c t.val t.isLt).2.2.2.2.2.2.2.1 = k0_pay27 (oErr m c t) k0_pay5
    ∧ (outsAt0 m c t.val t.isLt).2.2.2.2.2.2.2.2 = k0_pay1 (k0_pay15 (oAct m c t) (bDown m c t)) (oDz m c t) k0_pay6 := by
  refine ⟨?_, ?_, ?_, ?_⟩ <;> (rw [outsAt0_A m c t h]; frame_out)

/-- The four running sums at a later point, over what the point before left. -/
theorem sums_later (c : Dev nD) (t : Fin cfg0.N) (h : ¬t.val % 32 = 0) :
    (outsAt0 m c t.val t.isLt).2.2.2.2.2.1 = k0_pay24 (k0_pay22 (outsAt0 m c (t.val - 1) (Nat.lt_of_le_of_lt (Nat.sub_le _ _) t.isLt)).2.2.2.2.2.1)
      (k0_pay23 (oAct m c t) (bDown m c t) (bG2 m c t) (bLg m c t) (bX m c t) (bLb m c t) (bT m c t))
    ∧ (outsAt0 m c t.val t.isLt).2.2.2.2.2.2.1 = k0_pay26 (oHat m c t) (oErr m c t)
      (outsAt0 m c (t.val - 1) (Nat.lt_of_le_of_lt (Nat.sub_le _ _) t.isLt)).2.2.2.2.2.2.1
    ∧ (outsAt0 m c t.val t.isLt).2.2.2.2.2.2.2.1 = k0_pay27 (oErr m c t)
      (outsAt0 m c (t.val - 1) (Nat.lt_of_le_of_lt (Nat.sub_le _ _) t.isLt)).2.2.2.2.2.2.2.1
    ∧ (outsAt0 m c t.val t.isLt).2.2.2.2.2.2.2.2 = k0_pay1 (k0_pay15 (oAct m c t) (bDown m c t)) (oDz m c t)
      (outsAt0 m c (t.val - 1) (Nat.lt_of_le_of_lt (Nat.sub_le _ _) t.isLt)).2.2.2.2.2.2.2.2 := by
  refine ⟨?_, ?_, ?_, ?_⟩ <;> (rw [outsAt0_B m c t h]; frame_out)

end Cert.FfnIdeal.Value

end
-- ==== Proof.RealNum.lean ====
/- Extended reals that are real numbers: the operations of the two programs on them are the operations of the reals. -/
module

public import Idealize.ShloMosaic.Lib.Pointwise
public import Idealize.ShloMosaic.PureOps.Ideal

@[expose] public section

noncomputable section

namespace Cert.RealNum

open Idealize.ShloMosaic

theorem coe_sum {ι : Type*} [Fintype ι] (f : ι → ℝ) : ((∑ i, f i : ℝ) : EReal) = ∑ i, (f i : EReal) := by
  classical
  refine Finset.induction_on (motive := fun s => ((∑ i ∈ s, f i : ℝ) : EReal) = ∑ i ∈ s, (f i : EReal)) Finset.univ (by simp) ?_
  intro a s h ih
  rw [Finset.sum_insert h, Finset.sum_insert h, EReal.coe_add, ih]

theorem div_real (x : ℝ) {y : ℝ} (h : y ≠ 0) : Ideal.div (x : EReal) (y : EReal) = ((x / y : ℝ) : EReal) := by
  rw [Ideal.div_coe h, ← EReal.coe_mul, mul_one_div]

theorem rsqrt_real {x : ℝ} (h : 0 < x) : Ideal.rsqrt (x : EReal) = (((Real.sqrt x)⁻¹ : ℝ) : EReal) := by
  rw [Ideal.rsqrt_coe, if_neg (not_lt.mpr h.le), if_neg h.ne']

/-- A number below the top in absolute value is a real one. -/
theorem real_of_abs_lt (x : EReal) (h : max x (-x) < ⊤) : ∃ r : ℝ, x = r := by
  induction x with
  | bot => simp at h
  | top => simp at h
  | coe r => exact ⟨r, rfl⟩

/-- The stabiliser 1e-5 as its float reads. -/
def eps : ℝ := 10995116 / 2 ^ 40
/-- The residual's factor as its float reads. -/
def alpha : ℝ := 9975792 / 2 ^ 23

theorem eps_pos : 0 < eps := by unfold eps; positivity

theorem lit_1024 : Ideal.ofBits .f32 0x44800000#32 = ((1024 : ℝ) : EReal) := by
  simp [Ideal.ofBits, Ideal.ieee, -EReal.coe_mul]; norm_num
theorem lit_inv : Ideal.ofBits .f32 0x3A800000#32 = ((1 / 1024 : ℝ) : EReal) := by
  simp [Ideal.ofBits, Ideal.ieee, -EReal.coe_mul]; norm_num
theorem lit_half_inv : Ideal.ofBits .f32 0x3A000000#32 = ((1 / 2048 : ℝ) : EReal) := by
  simp [Ideal.ofBits, Ideal.ieee, -EReal.coe_mul]; norm_num
theorem lit_half : Ideal.ofBits .f32 0x3F000000#32 = ((1 / 2 : ℝ) : EReal) := by
  simp [Ideal.ofBits, Ideal.ieee, -EReal.coe_mul]; norm_num
theorem lit_neg_half : Ideal.ofBits .f32 0xBF000000#32 = ((-(1 / 2) : ℝ) : EReal) := by
  simp [Ideal.ofBits, Ideal.ieee, -EReal.coe_mul, -EReal.coe_neg]; norm_num
theorem lit_two : Ideal.ofBits .f32 0x40000000#32 = ((2 : ℝ) : EReal) := by
  simp [Ideal.ofBits, Ideal.ieee, -EReal.coe_mul]; norm_num
theorem lit_eps : Ideal.ofBits .f32 0x3727C5AC#32 = (eps : EReal) := by
  unfold eps; simp [Ideal.ofBits, Ideal.ieee, -EReal.coe_mul]; norm_num
theorem lit_alpha : Ideal.ofBits .f32 0x3F9837F0#32 = (alpha : EReal) := by
  unfold alpha; simp [Ideal.ofBits, Ideal.ieee, -EReal.coe_mul]; norm_num

end Cert.RealNum

end
-- ==== Proof.Norm.lean ====
/- One row of a layer normalisation and of its gradient, over the reals. -/
module

public import proofs.«01_k».proof.Proof.RealNum

@[expose] public section

noncomputable section

namespace Cert.Norm

open Idealize.ShloMosaic Cert.RealNum

variable (z : Fin 1024 → ℝ)

def mean : ℝ := (∑ k, z k) / 1024
def dev (l : Fin 1024) : ℝ := z l - mean z
def spread : ℝ := mean (fun k => dev z k * dev z k) + eps
def rs : ℝ := (Real.sqrt (spread z))⁻¹
def hat (l : Fin 1024) : ℝ := dev z l * rs z

/-- The gradient of the row before the normalisation, from the gradient `d` of the normalised row. -/
def back (d : Fin 1024 → ℝ) (l : Fin 1024) : ℝ := rs z * (d l - mean d - hat z l * mean (fun k => d k * hat z k))

theorem spread_pos : 0 < spread z :=
  add_pos_of_nonneg_of_pos (div_nonneg (Finset.sum_nonneg fun k _ => mul_self_nonneg _) (by norm_num)) eps_pos

theorem rs_sq : rs z * rs z = 1 / spread z := by
  unfold rs
  rw [← mul_inv, Real.mul_self_sqrt (spread_pos z).le, one_div]

theorem sum_dev : ∑ k, dev z k = 0 := by
  unfold dev mean
  rw [Finset.sum_sub_distrib]
  simp
  ring

theorem dev_coe (l : Fin 1024) :
    (z l : EReal) - Ideal.div (∑ k, (z k : EReal)) ((1024 : ℝ) : EReal) = (dev z l : EReal) := by
  rw [← coe_sum, div_real _ (by norm_num), ← EReal.coe_sub]; rfl

theorem spread_coe : Ideal.div (∑ k, (dev z k : EReal) * (dev z k : EReal)) ((1024 : ℝ) : EReal) + (eps : EReal) = (spread z : EReal) := by
  simp only [← EReal.coe_mul, ← coe_sum]
  rw [div_real _ (by norm_num), ← EReal.coe_add]; rfl

theorem rs_coe : Ideal.rsqrt (spread z : EReal) = (rs z : EReal) := rsqrt_real (spread_pos z)

theorem hat_coe (l : Fin 1024) : (dev z l : EReal) * (rs z : EReal) = (hat z l : EReal) := by
  rw [← EReal.coe_mul]; rfl

theorem back_coe (d : Fin 1024 → ℝ) (l : Fin 1024) :
    (rs z : EReal) * ((d l : EReal) - Ideal.div (∑ k, (d k : EReal)) ((1024 : ℝ) : EReal)
      - (hat z l : EReal) * Ideal.div (∑ k, (d k : EReal) * (hat z k : EReal)) ((1024 : ℝ) : EReal)) = (back z d l : EReal) := by
  simp only [← EReal.coe_mul, ← coe_sum]
  rw [div_real _ (by norm_num), div_real _ (by norm_num), ← EReal.coe_sub, ← EReal.coe_mul, ← EReal.coe_sub, ← EReal.coe_mul]; rfl

/-- The gradient as differentiating line after line gives it: through the product with the reciprocal root, through
    the root, through the mean of squares and through the mean. -/
theorem back_steps (d : Fin 1024 → ℝ) (l : Fin 1024) :
    let h := (∑ k, dev z k * d k) * (-(1 / 2) * (rs z / spread z)) / 1024
    (d l * rs z + h * (2 * dev z l)) + (∑ k, -(d k * rs z) + ∑ k, -(h * (2 * dev z k))) / 1024 = back z d l := by
  intro h
  have e1 : ∑ k, -(h * (2 * dev z k)) = 0 := by
    rw [Finset.sum_neg_distrib, ← Finset.mul_sum, ← Finset.mul_sum, sum_dev]; ring
  have e2 : ∑ k, -(d k * rs z) = -(∑ k, d k) * rs z := by
    rw [Finset.sum_neg_distrib, ← Finset.sum_mul]; ring
  have e3 : ∑ k, d k * hat z k = (∑ k, dev z k * d k) * rs z := by
    unfold hat
    rw [Finset.sum_mul]
    exact Finset.sum_congr rfl fun k _ => by ring
  rw [e1, e2]
  unfold back mean
  rw [e3]
  have e4 : rs z / spread z = rs z * (rs z * rs z) := by rw [rs_sq, mul_one_div]
  simp only [h]
  rw [e4]
  unfold hat
  ring

end Cert.Norm

end
-- ==== Proof.FfnSpec.lean ====
/- The feed-forward part of a layer with its gate, its last layer normalisation and the loss, and their gradients, over
   the reals: what both programs compute. -/
module

public import proofs.«01_k».proof.Proof.Norm

@[expose] public section

noncomputable section

namespace Cert.FfnSpec

open Idealize.ShloMosaic Cert.RealNum

/-- A real array as an array of extended reals. -/
abbrev up {S : Shape} (a : S.Idx → ℝ) : S.Idx → EReal := fun i => (a i : EReal)

abbrev Tok : Shape := ⟨2, ![8192, 1024]⟩
abbrev GateUp : Shape := ⟨2, ![1024, 5632]⟩
abbrev Down : Shape := ⟨2, ![2816, 1024]⟩
abbrev Row : Shape := ⟨1, ![1024]⟩

/-- The logistic function and the gate's derivative. -/
def logi (g : ℝ) : ℝ := 1 / (1 + Real.exp (-g))
def dsilu (g : ℝ) : ℝ := logi g * (1 + g * (1 - logi g))

theorem logi_den (g : ℝ) : 1 + Real.exp (-g) ≠ 0 := (add_pos one_pos (Real.exp_pos _)).ne'

theorem logi_coe (g : ℝ) : Ideal.div 1 (1 + Ideal.exp (-(g : EReal))) = (logi g : EReal) := by
  rw [← EReal.coe_neg, Ideal.exp_coe, ← EReal.coe_one, ← EReal.coe_add, div_real _ (logi_den g)]; rfl

variable (h x1 tg : Tok.Idx → ℝ) (w : GateUp.Idx → ℝ) (wd : Down.Idx → ℝ) (g2 lg lb : Row.Idx → ℝ)

def gate (r : Fin 8192) (f : Fin 2816) : ℝ := ∑ k : Fin 1024, h (ix2 r k) * w (ix2 k (⟨f.val, by omega⟩ : Fin 5632))
def upper (r : Fin 8192) (f : Fin 2816) : ℝ := ∑ k : Fin 1024, h (ix2 r k) * w (ix2 k (⟨2816 + f.val, by omega⟩ : Fin 5632))

/-- The gated activation and its two partial derivatives. -/
def sg (r : Fin 8192) (f : Fin 2816) : ℝ := gate h w r f * logi (gate h w r f)
def act (r : Fin 8192) (f : Fin 2816) : ℝ := sg h w r f * upper h w r f
def dsu (r : Fin 8192) (f : Fin 2816) : ℝ := upper h w r f * dsilu (gate h w r f)

/-- The product with the second weight, and the row that is normalised. -/
def y (r : Fin 8192) (l : Fin 1024) : ℝ := ∑ f : Fin 2816, act h w r f * wd (ix2 f l)
def z (r : Fin 8192) (l : Fin 1024) : ℝ := alpha * x1 (ix2 r l) + g2 (ix1 l) * y h w wd r l

/-- The error, and the loss's gradient at the normalised row. -/
def err (r : Fin 8192) (l : Fin 1024) : ℝ :=
  Norm.hat (z h x1 w wd g2 r) l * lg (ix1 l) + lb (ix1 l) - tg (ix2 r l)
def dx (r : Fin 8192) (l : Fin 1024) : ℝ := err h x1 tg w wd g2 lg lb r l * (1 / 1024)

/-- The gradient of the row before the normalisation. -/
def dz (r : Fin 8192) (l : Fin 1024) : ℝ :=
  Norm.back (z h x1 w wd g2 r) (fun k => dx h x1 tg w wd g2 lg lb r k * lg (ix1 k)) l

end Cert.FfnSpec

end
-- ==== Proof.Classes.lean ====
/- Sums over 8192 rows as a kernel takes them that walks 32 tiles of 256 rows and keeps one running sum for each of the
   eight row classes (the row's number modulo 8). -/
module

public import proofs.«01_k».proof.Proof.RowSum
public import Idealize.ShloMosaic.Lib.Pointwise

@[expose] public section

namespace Cert.Classes

open Idealize.ShloMosaic

abbrev Acc : Shape := ⟨2, ![8, 1024]⟩

/-- The running sum of class `s` in column `l`. -/
abbrev cell (x : Acc.Idx → EReal) (s : Fin 8) (l : Fin 1024) : EReal := x (ix2 s l)

/-- Row `r` of tile `t`. -/
abbrev tileRow {N : ℕ} (hN : N = 32) (t : Fin N) (r : Fin 256) : Fin 8192 :=
  ⟨t.val * 256 + r.val, by have := t.isLt; omega⟩

/-- Row `q * 8 + s` of a tile: number `q` of class `s`. -/
abbrev sub (q : Fin 32) (s : Fin 8) : Fin 256 := ⟨q.val * 8 + s.val, by omega⟩

variable {N : ℕ} (hN : N = 32)

/-- Row number `r` of an array of 8192 rows. -/
def row (r : ℕ) : Fin 8192 := ⟨r % 8192, Nat.mod_lt _ (by decide)⟩

theorem sum_row (f : Fin 8192 → EReal) : ∑ r ∈ Finset.range 8192, f (row r) = ∑ r : Fin 8192, f r := by
  rw [Finset.sum_range]
  exact Finset.sum_congr rfl fun r _ => congrArg f (Fin.ext (Nat.mod_eq_of_lt r.isLt))

theorem tile_sum (f : Fin 8192 → EReal) (t : Fin N) (s : Fin 8) :
    ∑ q : Fin 32, f (tileRow hN t (sub q s)) = ∑ q ∈ Finset.range 32, f (row (t.val * (32 * 8) + (q * 8 + s.val))) := by
  rw [Finset.sum_range]
  refine Finset.sum_congr rfl fun q _ => congrArg f (Fin.ext ?_)
  have := t.isLt
  show t.val * 256 + (q.val * 8 + s.val) = (t.val * (32 * 8) + (q.val * 8 + s.val)) % 8192
  omega

variable (g : (n : ℕ) → n < N → Acc.Idx → EReal) (f : Fin 8192 → Fin 1024 → EReal)

/-- What the running sums hold after tile `n`. -/
theorem sums_at (h0 : ∀ (t : Fin N) (s : Fin 8) (l : Fin 1024), t.val % 32 = 0 →
      g t.val t.isLt (ix2 s l) = ∑ q : Fin 32, f (tileRow hN t (sub q s)) l)
    (h1 : ∀ (t : Fin N) (s : Fin 8) (l : Fin 1024), ¬t.val % 32 = 0 → g t.val t.isLt (ix2 s l)
      = g (t.val - 1) (Nat.lt_of_le_of_lt (Nat.sub_le _ _) t.isLt) (ix2 s l) + ∑ q : Fin 32, f (tileRow hN t (sub q s)) l) :
    ∀ (n : ℕ) (h : n < N) (s : Fin 8) (l : Fin 1024), g n h (ix2 s l)
      = ∑ u ∈ Finset.range (n + 1), ∑ q ∈ Finset.range 32, f (row (u * (32 * 8) + (q * 8 + s.val))) l
  | 0, h, s, l => by
    rw [zero_add, Finset.sum_range_one]
    exact (h0 ⟨0, h⟩ s l rfl).trans (tile_sum hN (fun r => f r l) ⟨0, h⟩ s)
  | n + 1, h, s, l => by
    rw [Finset.sum_range_succ]
    refine (h1 ⟨n + 1, h⟩ s l (by dsimp only; omega)).trans ?_
    exact congrArg₂ (· + ·) (sums_at h0 h1 n _ s l) (tile_sum hN (fun r => f r l) ⟨n + 1, h⟩ s)

/-- After the last tile the eight classes together hold the sum over all rows. -/
theorem sums_all (h0 : ∀ (t : Fin N) (s : Fin 8) (l : Fin 1024), t.val % 32 = 0 →
      g t.val t.isLt (ix2 s l) = ∑ q : Fin 32, f (tileRow hN t (sub q s)) l)
    (h1 : ∀ (t : Fin N) (s : Fin 8) (l : Fin 1024), ¬t.val % 32 = 0 → g t.val t.isLt (ix2 s l)
      = g (t.val - 1) (Nat.lt_of_le_of_lt (Nat.sub_le _ _) t.isLt) (ix2 s l) + ∑ q : Fin 32, f (tileRow hN t (sub q s)) l)
    (h : 31 < N) (l : Fin 1024) : ∑ s : Fin 8, g 31 h (ix2 s l) = ∑ r : Fin 8192, f r l := by
  simp only [sums_at hN g f h0 h1 31 h]
  rw [← sum_row, ← Cert.RowSum.sum_classes (fun r => f (row r) l) 32 32 8, Finset.sum_range]

end Cert.Classes
-- ==== Proof.FfnPay.lean ====
/- The values one grid point of the call `ffn_fwd` computes, read at an index, where its blocks hold real numbers. -/
module

public import proofs.«01_k».proof.Proof.FfnOuts
public import proofs.«01_k».proof.Proof.FfnSpec
public import proofs.«01_k».proof.Proof.Classes
public import Idealize.ShloMosaic.Lib.Pointwise

@[expose] public section

set_option maxRecDepth 16384

noncomputable section

namespace Cert.FfnIdeal.Value

open Cert.FfnIdeal Cert.FfnIdeal.Gen Idealize.ShloMosaic Idealize.ShloMosaic.TcCoe Idealize.SL.Sem
open Cert.RealNum Cert.FfnSpec Cert.Classes

/-- Blocks that hold the rows `ρ` of real arrays, and the weights and vectors whole. -/
structure Holds (h x1 tg : Tok.Idx → ℝ) (w : GateUp.Idx → ℝ) (wd : Down.Idx → ℝ) (g2 lg lb : Row.Idx → ℝ) (ρ : Fin 256 → Fin 8192)
    (ah : Vec Ideal S256x1024 .bf16) (ag au ad : Vec Ideal S2816x1024 .bf16) (ax at_ : Vec Ideal S256x1024 .f32)
    (a2 al ab : Vec Ideal S1x1024 .f32) : Prop where
  h : ∀ r k, ah (ix2 r k) = (h (ix2 (ρ r) k) : EReal)
  g : ∀ f k, ag (ix2 f k) = (w (ix2 k (⟨f.val, by omega⟩ : Fin 5632)) : EReal)
  u : ∀ f k, au (ix2 f k) = (w (ix2 k (⟨2816 + f.val, by omega⟩ : Fin 5632)) : EReal)
  d : ∀ f k, ad (ix2 f k) = (wd (ix2 f k) : EReal)
  x : ∀ r k, ax (ix2 r k) = (x1 (ix2 (ρ r) k) : EReal)
  t : ∀ r k, at_ (ix2 r k) = (tg (ix2 (ρ r) k) : EReal)
  s : ∀ k, a2 (ix2 0 k) = (g2 (ix1 k) : EReal)
  l : ∀ k, al (ix2 0 k) = (lg (ix1 k) : EReal)
  b : ∀ k, ab (ix2 0 k) = (lb (ix1 k) : EReal)

variable {h x1 tg : Tok.Idx → ℝ} {w : GateUp.Idx → ℝ} {wd : Down.Idx → ℝ} {g2 lg lb : Row.Idx → ℝ} {ρ : Fin 256 → Fin 8192}
variable {ah : Vec Ideal S256x1024 .bf16} {ag au ad : Vec Ideal S2816x1024 .bf16} {ax at_ : Vec Ideal S256x1024 .f32}
variable {a2 al ab : Vec Ideal S1x1024 .f32}
variable (H : Holds h x1 tg w wd g2 lg lb ρ ah ag au ad ax at_ a2 al ab)
include H

theorem gate_at (r : Fin 256) (f : Fin 2816) : k0_pay8 (F := Ideal) ah ag (ix2 r f) = (gate h w (ρ r) f : EReal) := by
  pointwise [k0_pay8, k0_pay7]
  simp only [H.h, H.g, ← EReal.coe_mul, ← coe_sum]
  rfl

theorem upper_at (r : Fin 256) (f : Fin 2816) : k0_pay9 (F := Ideal) ah au (ix2 r f) = (upper h w (ρ r) f : EReal) := by
  pointwise [k0_pay9, k0_pay7]
  simp only [H.h, H.u, ← EReal.coe_mul, ← coe_sum]
  rfl

theorem logi_at (r : Fin 256) (f : Fin 2816) : k0_pay10 (F := Ideal) ah ag (ix2 r f) = (logi (gate h w (ρ r) f) : EReal) := by
  pointwise [k0_pay10]
  rw [gate_at H, zero_sub, logi_coe]

theorem sg_at (r : Fin 256) (f : Fin 2816) : k0_pay11 (F := Ideal) ah ag (ix2 r f) = (sg h w (ρ r) f : EReal) := by
  pointwise [k0_pay11]
  rw [gate_at H, logi_at H, ← EReal.coe_mul]; rfl

theorem sg_out (r : Fin 256) (f : Fin 2816) : k0_pay14 (F := Ideal) ah ag (ix2 r f) = (sg h w (ρ r) f : EReal) := by
  pointwise [k0_pay14]
  rw [sg_at H]

theorem act_at (r : Fin 256) (f : Fin 2816) : k0_pay12 (F := Ideal) ah ag au (ix2 r f) = (act h w (ρ r) f : EReal) := by
  pointwise [k0_pay12]
  rw [sg_at H, upper_at H, ← EReal.coe_mul]; rfl

theorem dsu_at (r : Fin 256) (f : Fin 2816) : k0_pay13 (F := Ideal) ah ag au (ix2 r f) = (dsu h w (ρ r) f : EReal) := by
  pointwise [k0_pay13]
  rw [gate_at H, upper_at H, logi_at H, ← EReal.coe_one, ← EReal.coe_sub, ← EReal.coe_mul, ← EReal.coe_add, ← EReal.coe_mul, ← EReal.coe_mul]; rfl

theorem y_at (r : Fin 256) (l : Fin 1024) : k0_pay15 (F := Ideal) (k0_pay12 ah ag au) ad (ix2 r l) = (y h w wd (ρ r) l : EReal) := by
  pointwise [k0_pay15]
  simp only [act_at H, H.d, ← EReal.coe_mul, ← coe_sum]
  rfl

theorem dev_at (r : Fin 256) (l : Fin 1024) :
    k0_pay18 (F := Ideal) (k0_pay12 ah ag au) ad a2 ax (ix2 r l) = (Norm.dev (z h x1 w wd g2 (ρ r)) l : EReal) := by
  pointwise [k0_pay18, k0_pay16]
  simp only [y_at H, H.s, H.x, lit_alpha, lit_1024, ← EReal.coe_mul, ← EReal.coe_add]
  exact Norm.dev_coe (z h x1 w wd g2 (ρ r)) l

theorem rs_at (r : Fin 256) :
    k0_pay19 (F := Ideal) (k0_pay12 ah ag au) ad a2 ax (ix2 r 0) = (Norm.rs (z h x1 w wd g2 (ρ r)) : EReal) := by
  pointwise [k0_pay19]
  simp only [dev_at H, lit_1024, lit_eps, Norm.spread_coe, Norm.rs_coe]

theorem hat_at (r : Fin 256) (l : Fin 1024) :
    k0_pay20 (F := Ideal) (k0_pay12 ah ag au) ad a2 ax (ix2 r l) = (Norm.hat (z h x1 w wd g2 (ρ r)) l : EReal) := by
  pointwise [k0_pay20]
  rw [dev_at H, rs_at H, Norm.hat_coe]

theorem err_at (r : Fin 256) (l : Fin 1024) :
    k0_pay21 (F := Ideal) (k0_pay12 ah ag au) ad a2 al ax ab at_ (ix2 r l) = (err h x1 tg w wd g2 lg lb (ρ r) l : EReal) := by
  pointwise [k0_pay21, k0_pay17]
  rw [hat_at H, H.l, H.b, H.t, ← EReal.coe_mul, ← EReal.coe_add, ← EReal.coe_sub]; rfl

theorem dx_at (r : Fin 256) (l : Fin 1024) :
    k0_pay25 (F := Ideal) (k0_pay21 (k0_pay12 ah ag au) ad a2 al ax ab at_) (ix2 r l) = (dx h x1 tg w wd g2 lg lb (ρ r) l : EReal) := by
  pointwise [k0_pay25]
  rw [err_at H, lit_inv, ← EReal.coe_mul]; rfl

theorem dz_at (r : Fin 256) (l : Fin 1024) :
    k0_pay28 (F := Ideal) (k0_pay17 al) (k0_pay19 (k0_pay12 ah ag au) ad a2 ax) (k0_pay20 (k0_pay12 ah ag au) ad a2 ax)
      (k0_pay21 (k0_pay12 ah ag au) ad a2 al ax ab at_) (ix2 r l) = (dz h x1 tg w wd g2 lg lb (ρ r) l : EReal) := by
  pointwise [k0_pay28, k0_pay17]
  simp only [dx_at H, rs_at H, hat_at H, H.l, lit_1024, ← EReal.coe_mul (dx _ _ _ _ _ _ _ _ _ _)]
  exact Norm.back_coe (z h x1 w wd g2 (ρ r)) (fun k => dx h x1 tg w wd g2 lg lb (ρ r) k * lg (ix1 k)) l

theorem dy_at (r : Fin 256) (l : Fin 1024) :
    k0_pay2 (F := Ideal) (k0_pay16 a2) (k0_pay28 (k0_pay17 al) (k0_pay19 (k0_pay12 ah ag au) ad a2 ax) (k0_pay20 (k0_pay12 ah ag au) ad a2 ax)
      (k0_pay21 (k0_pay12 ah ag au) ad a2 al ax ab at_)) (ix2 r l) = (g2 (ix1 l) * dz h x1 tg w wd g2 lg lb (ρ r) l : ℝ) := by
  pointwise [k0_pay2, k0_pay16]
  rw [dz_at H, H.s, ← EReal.coe_mul]

/-! What a point adds to the four running sums. -/

theorem loss_step (a : Vec Ideal S8x1024 .f32) (s : Fin 8) (l : Fin 1024) :
    k0_pay24 (F := Ideal) (k0_pay22 a) (k0_pay23 (k0_pay12 ah ag au) ad a2 al ax ab at_) (ix2 s l)
      = a (ix2 s l) + ∑ q : Fin 32, ((err h x1 tg w wd g2 lg lb (ρ (sub q s)) l * err h x1 tg w wd g2 lg lb (ρ (sub q s)) l : ℝ) : EReal) := by
  pointwise [k0_pay24, k0_pay22, k0_pay23]
  simp only [err_at H, ← EReal.coe_mul]

theorem dlg_step (a : Vec Ideal S8x1024 .f32) (s : Fin 8) (l : Fin 1024) :
    k0_pay26 (F := Ideal) (k0_pay20 (k0_pay12 ah ag au) ad a2 ax) (k0_pay21 (k0_pay12 ah ag au) ad a2 al ax ab at_) a (ix2 s l)
      = a (ix2 s l) + ∑ q : Fin 32, ((dx h x1 tg w wd g2 lg lb (ρ (sub q s)) l * Norm.hat (z h x1 w wd g2 (ρ (sub q s))) l : ℝ) : EReal) := by
  pointwise [k0_pay26]
  simp only [dx_at H, hat_at H, ← EReal.coe_mul]

theorem dlb_step (a : Vec Ideal S8x1024 .f32) (s : Fin 8) (l : Fin 1024) :
    k0_pay27 (F := Ideal) (k0_pay21 (k0_pay12 ah ag au) ad a2 al ax ab at_) a (ix2 s l)
      = a (ix2 s l) + ∑ q : Fin 32, ((dx h x1 tg w wd g2 lg lb (ρ (sub q s)) l : ℝ) : EReal) := by
  pointwise [k0_pay27]
  simp only [dx_at H]

theorem dg2_step (a : Vec Ideal S8x1024 .f32) (s : Fin 8) (l : Fin 1024) :
    k0_pay1 (F := Ideal) (k0_pay15 (k0_pay12 ah ag au) ad) (k0_pay28 (k0_pay17 al) (k0_pay19 (k0_pay12 ah ag au) ad a2 ax)
      (k0_pay20 (k0_pay12 ah ag au) ad a2 ax) (k0_pay21 (k0_pay12 ah ag au) ad a2 al ax ab at_)) a (ix2 s l)
      = a (ix2 s l) + ∑ q : Fin 32, ((dz h x1 tg w wd g2 lg lb (ρ (sub q s)) l * y h w wd (ρ (sub q s)) l : ℝ) : EReal) := by
  pointwise [k0_pay1]
  simp only [dz_at H, y_at H, ← EReal.coe_mul]

end Cert.FfnIdeal.Value

end
-- ==== Proof.FfnArr.lean ====
/- What the call `ffn_fwd` leaves in its nine result arrays at real arguments. -/
module

public import proofs.«01_k».proof.Proof.FfnPay
public import proofs.«01_k».proof.Proof.Classes
public import proofs.«01_k».proof.Proof.Gen.FfnIdeal.Run
public import proofs.«01_k».proof.Proof.Gen.FfnIdeal.Read
public import Idealize.ShloMosaic.Lib.Pipeline.ValueKit.Geometry
public import Idealize.ShloMosaic.Lib.Pipeline.ValueKit.Tiles

@[expose] public section

set_option maxRecDepth 16384

noncomputable section

namespace Cert.FfnIdeal.Value

open Cert.FfnIdeal Cert.FfnIdeal.Gen Idealize.ShloMosaic Idealize.ShloMosaic.TcCoe Idealize.SL.Sem
open Idealize.ShloMosaic.Pipeline (Dat)
open Idealize.ShloMosaic.StableHlo Cert.RealNum Cert.FfnSpec Cert.Classes

variable (m : (ℓ : Loc nD τ sig) → Buf (Elt Ideal) ℓ)

/-! ## The arrays the region reads -/

theorem V_h (c : Dev nD) : V m c main_v0 = (truncf .bf16 (m ((c : Thread nD τ).loc main_arg0)) bitsLt_bf16_f32 : FVec Ideal S8192x1024 .bf16) := by
  show after (List.flatten [hostOps0]) _ (Proc.devRef .tc main_v0) = _
  simp only [hostOps0, List.flatten_cons, List.flatten_nil, List.append_nil, List.cons_append, List.nil_append]
  after_results

theorem V_w (c : Dev nD) : V m c main_v2 = (truncf .bf16 (transpose S5632x1024 [1, 0] (m ((c : Thread nD τ).loc main_arg3)) transposes_S1024x5632_S5632x1024_1_0) bitsLt_bf16_f32 : FVec Ideal S5632x1024 .bf16) := by
  show after (List.flatten [hostOps0]) _ (Proc.devRef .tc main_v2) = _
  simp only [hostOps0, List.flatten_cons, List.flatten_nil, List.append_nil, List.cons_append, List.nil_append]
  after_results

theorem V_down (c : Dev nD) : V m c main_v3 = (truncf .bf16 (m ((c : Thread nD τ).loc main_arg4)) bitsLt_bf16_f32 : FVec Ideal S2816x1024 .bf16) := by
  show after (List.flatten [hostOps0]) _ (Proc.devRef .tc main_v3) = _
  simp only [hostOps0, List.flatten_cons, List.flatten_nil, List.append_nil, List.cons_append, List.nil_append]
  after_results

theorem V_rows (c : Dev nD) :
    V m c main_v4 = (broadcastInDim S1x1024 ![1] bcast_S1024_S1x1024_1 (m ((c : Thread nD τ).loc main_arg5)) : FVec Ideal S1x1024 .f32)
    ∧ V m c main_v5 = (broadcastInDim S1x1024 ![1] bcast_S1024_S1x1024_1 (m ((c : Thread nD τ).loc main_arg6)) : FVec Ideal S1x1024 .f32)
    ∧ V m c main_v6 = (broadcastInDim S1x1024 ![1] bcast_S1024_S1x1024_1 (m ((c : Thread nD τ).loc main_arg7)) : FVec Ideal S1x1024 .f32) := by
  refine ⟨?_, ?_, ?_⟩
  · show after (List.flatten [hostOps0]) _ (Proc.devRef .tc main_v4) = _
    simp only [hostOps0, List.flatten_cons, List.flatten_nil, List.append_nil, List.cons_append, List.nil_append]
    after_results
  · show after (List.flatten [hostOps0]) _ (Proc.devRef .tc main_v5) = _
    simp only [hostOps0, List.flatten_cons, List.flatten_nil, List.append_nil, List.cons_append, List.nil_append]
    after_results
  · show after (List.flatten [hostOps0]) _ (Proc.devRef .tc main_v6) = _
    simp only [hostOps0, List.flatten_cons, List.flatten_nil, List.append_nil, List.cons_append, List.nil_append]
    after_results

/-! ## The blocks of a point -/

theorem rows_in : ∀ t : Fin grid0.N, win0_0.index t = ![t.val, 0] ∧ win0_3.index t = ![t.val, 0] ∧ win0_4.index t = ![t.val, 0] := by
  decide +kernel
theorem whole_in : ∀ t : Fin grid0.N, win0_1.index t = ![0, 0] ∧ win0_2.index t = ![0, 0] ∧ win0_5.index t = ![0, 0]
    ∧ win0_6.index t = ![0, 0] ∧ win0_7.index t = ![0, 0] := by decide +kernel
theorem rows_out : ∀ t : Fin grid0.N, win0_8.index t = ![t.val, 0] ∧ win0_9.index t = ![t.val, 0] ∧ win0_10.index t = ![t.val, 0]
    ∧ win0_11.index t = ![t.val, 0] ∧ win0_12.index t = ![t.val, 0] := by decide +kernel

/-- A vector laid out as one row. -/
theorem one_row (x : (⟨S1024, .f32⟩ : BufTy).Contents (Elt Ideal)) (i : S1x1024.Idx) :
    (broadcastInDim S1x1024 ![1] bcast_S1024_S1x1024_1 x : FVec Ideal S1x1024 .f32) i = x (ix1 (i 1)) := by
  obtain ⟨a, b, rfl⟩ : ∃ (a : Fin 1) (b : Fin 1024), i = ix2 a b := ⟨i 0, i 1, eq_ix2 i⟩
  pointwise

/-- The last point is among the points. -/
theorem last_lt : 31 < cfg0.N := by rw [show cfg0.N = 32 from N_0]; omega

/-- The four running sums end as the last point leaves them. -/
theorem last_sum (c : Dev nD) : reg_main_v7_5 m c = (dats m 0 c).after 13 ⟨31, last_lt⟩ ∧ reg_main_v7_6 m c = (dats m 0 c).after 14 ⟨31, last_lt⟩
    ∧ reg_main_v7_7 m c = (dats m 0 c).after 15 ⟨31, last_lt⟩ ∧ reg_main_v7_8 m c = (dats m 0 c).after 16 ⟨31, last_lt⟩ :=
  ⟨(dats m 0 c).arrAt_eq_of_after_last 13 ⟨31, last_lt⟩ (by decide +kernel) _ fun j => rfl,
   (dats m 0 c).arrAt_eq_of_after_last 14 ⟨31, last_lt⟩ (by decide +kernel) _ fun j => rfl,
   (dats m 0 c).arrAt_eq_of_after_last 15 ⟨31, last_lt⟩ (by decide +kernel) _ fun j => rfl,
   (dats m 0 c).arrAt_eq_of_after_last 16 ⟨31, last_lt⟩ (by decide +kernel) _ fun j => rfl⟩

/-- The arguments hold real numbers. -/
structure Reals (c : Dev nD) (h x1 tg : Tok.Idx → ℝ) (w : GateUp.Idx → ℝ) (wd : Down.Idx → ℝ) (g2 lg lb : Row.Idx → ℝ) : Prop where
  h : m ((c : Thread nD τ).loc main_arg0) = up h
  x : m ((c : Thread nD τ).loc main_arg1) = up x1
  t : m ((c : Thread nD τ).loc main_arg2) = up tg
  w : m ((c : Thread nD τ).loc main_arg3) = up w
  d : m ((c : Thread nD τ).loc main_arg4) = up wd
  s : m ((c : Thread nD τ).loc main_arg5) = up g2
  l : m ((c : Thread nD τ).loc main_arg6) = up lg
  b : m ((c : Thread nD τ).loc main_arg7) = up lb

variable {m}
variable {c : Dev nD} {h x1 tg : Tok.Idx → ℝ} {w : GateUp.Idx → ℝ} {wd : Down.Idx → ℝ} {g2 lg lb : Row.Idx → ℝ}
variable (A : Reals m c h x1 tg w wd g2 lg lb)
include A

theorem w_block (t : Fin cfg0.N) (i : S5632x1024.Idx) : bW m c t i = (w (ix2 (i 1 : Fin 1024) (i 0 : Fin 5632)) : EReal) := by
  obtain ⟨f, k, rfl⟩ : ∃ (f : Fin 5632) (k : Fin 1024), i = ix2 f k := ⟨i 0, i 1, eq_ix2 i⟩
  blk_simp [iblk]
  rw [V_w, A.w]
  have e : (((cfg0.win 1).blk t).view.emb (ix2 f k)) = (ix2 f k : S5632x1024.Idx) := by blk_ext [(whole_in t).1]
  rw [e]
  pointwise

/-- So do the blocks of every point. -/
theorem holds (t : Fin cfg0.N) : Holds h x1 tg w wd g2 lg lb (tileRow N_0 t) (bH m c t) (bGate m c t) (bUp m c t)
    (bDown m c t) (bX m c t) (bT m c t) (bG2 m c t) (bLg m c t) (bLb m c t) where
  h r k := by
    blk_simp [iblk]
    rw [V_h, A.h]
    refine congrArg (fun i => (h i : EReal)) ?_
    blk_ext [(rows_in t).1]
  g f k := by
    refine Eq.trans ?_ (w_block A t (ix2 (⟨f.val, by omega⟩ : Fin 5632) k))
    exact View.ld_unit_apply_of _ _ _ _ _ (ix2 (⟨f.val, by omega⟩ : Fin 5632) k) fun a => by
      match a with
      | ⟨0, _⟩ => exact (Nat.zero_add _).symm
      | ⟨1, _⟩ => exact (Nat.zero_add _).symm
  u f k := by
    refine Eq.trans ?_ (w_block A t (ix2 (⟨2816 + f.val, by omega⟩ : Fin 5632) k))
    exact View.ld_unit_apply_of _ _ _ _ _ (ix2 (⟨2816 + f.val, by omega⟩ : Fin 5632) k) fun a => by
      match a with
      | ⟨0, _⟩ => rfl
      | ⟨1, _⟩ => exact (Nat.zero_add _).symm
  d f k := by
    blk_simp [iblk]
    rw [V_down, A.d]
    refine congrArg (fun i => (wd i : EReal)) ?_
    blk_ext [(whole_in t).2.1]
  x r k := by
    blk_simp [iblk]
    rw [V_main_arg1, A.x]
    refine congrArg (fun i => (x1 i : EReal)) ?_
    blk_ext [(rows_in t).2.1]
  t r k := by
    blk_simp [iblk]
    rw [V_main_arg2, A.t]
    refine congrArg (fun i => (tg i : EReal)) ?_
    blk_ext [(rows_in t).2.2]
  s k := by
    blk_simp [iblk]
    rw [(V_rows m c).1, A.s]
    refine (one_row _ _).trans (congrArg (fun i => (g2 (ix1 i) : EReal)) (Fin.ext ?_))
    blk_simp [(whole_in t).2.2.1]
  l k := by
    blk_simp [iblk]
    rw [(V_rows m c).2.1, A.l]
    refine (one_row _ _).trans (congrArg (fun i => (lg (ix1 i) : EReal)) (Fin.ext ?_))
    blk_simp [(whole_in t).2.2.2.1]
  b k := by
    blk_simp [iblk]
    rw [(V_rows m c).2.2, A.b]
    refine (one_row _ _).trans (congrArg (fun i => (lb (ix1 i) : EReal)) (Fin.ext ?_))
    blk_simp [(whole_in t).2.2.2.2]

/-! ## The nine result arrays -/

theorem final_dsu : reg_main_v7_0 m c = fun i : S8192x2816.Idx => (dsu h w (i 0) (i 1) : EReal) := by
  refine (dats m 0 c).arrAt_eq_of_covers 8 _ (by decide +kernel) fun t hf y => ?_
  blk_simp
  rw [after0_8, (tiled m c t).1]
  obtain ⟨r, f, rfl⟩ : ∃ (r : Fin 256) (f : Fin 2816), y = ix2 r f := ⟨y 0, y 1, eq_ix2 y⟩
  refine (dsu_at (holds A t) r f).trans ?_
  rw [show ((cfg0.win 8).blk t).view.emb (ix2 r f) = (ix2 (tileRow N_0 t r) f : S8192x2816.Idx) by blk_ext [(rows_out t).1]]
  rfl

theorem final_sg : reg_main_v7_1 m c = fun i : S8192x2816.Idx => (sg h w (i 0) (i 1) : EReal) := by
  refine (dats m 0 c).arrAt_eq_of_covers 9 _ (by decide +kernel) fun t hf y => ?_
  blk_simp
  rw [after0_9, (tiled m c t).2.1]
  obtain ⟨r, f, rfl⟩ : ∃ (r : Fin 256) (f : Fin 2816), y = ix2 r f := ⟨y 0, y 1, eq_ix2 y⟩
  refine (sg_out (holds A t) r f).trans ?_
  rw [show ((cfg0.win 9).blk t).view.emb (ix2 r f) = (ix2 (tileRow N_0 t r) f : S8192x2816.Idx) by blk_ext [(rows_out t).2.1]]
  rfl

theorem final_act : reg_main_v7_2 m c = fun i : S8192x2816.Idx => (act h w (i 0) (i 1) : EReal) := by
  refine (dats m 0 c).arrAt_eq_of_covers 10 _ (by decide +kernel) fun t hf y => ?_
  blk_simp
  rw [after0_10, (tiled m c t).2.2.1]
  obtain ⟨r, f, rfl⟩ : ∃ (r : Fin 256) (f : Fin 2816), y = ix2 r f := ⟨y 0, y 1, eq_ix2 y⟩
  refine (act_at (holds A t) r f).trans ?_
  rw [show ((cfg0.win 10).blk t).view.emb (ix2 r f) = (ix2 (tileRow N_0 t r) f : S8192x2816.Idx) by blk_ext [(rows_out t).2.2.1]]
  rfl

theorem final_dz : reg_main_v7_3 m c = fun i : S8192x1024.Idx => (dz h x1 tg w wd g2 lg lb (i 0) (i 1) : EReal) := by
  refine (dats m 0 c).arrAt_eq_of_covers 11 _ (by decide +kernel) fun t hf y => ?_
  blk_simp
  rw [after0_11, (tiled m c t).2.2.2.1]
  obtain ⟨r, l, rfl⟩ : ∃ (r : Fin 256) (l : Fin 1024), y = ix2 r l := ⟨y 0, y 1, eq_ix2 y⟩
  refine (dz_at (holds A t) r l).trans ?_
  rw [show ((cfg0.win 11).blk t).view.emb (ix2 r l) = (ix2 (tileRow N_0 t r) l : S8192x1024.Idx) by blk_ext [(rows_out t).2.2.2.1]]
  rfl

theorem final_dy : reg_main_v7_4 m c = fun i : S8192x1024.Idx => ((g2 (ix1 (i 1)) * dz h x1 tg w wd g2 lg lb (i 0) (i 1) : ℝ) : EReal) := by
  refine (dats m 0 c).arrAt_eq_of_covers 12 _ (by decide +kernel) fun t hf y => ?_
  blk_simp
  rw [after0_12, (tiled m c t).2.2.2.2]
  obtain ⟨r, l, rfl⟩ : ∃ (r : Fin 256) (l : Fin 1024), y = ix2 r l := ⟨y 0, y 1, eq_ix2 y⟩
  refine (dy_at (holds A t) r l).trans ?_
  rw [show ((cfg0.win 12).blk t).view.emb (ix2 r l) = (ix2 (tileRow N_0 t r) l : S8192x1024.Idx) by blk_ext [(rows_out t).2.2.2.2]]
  rfl

theorem sum_loss (l : Fin 1024) : ∑ s : Fin 8, cell (reg_main_v7_5 m c) s l
    = ∑ r : Fin 8192, ((err h x1 tg w wd g2 lg lb r l * err h x1 tg w wd g2 lg lb r l : ℝ) : EReal) := by
  rw [(last_sum m c).1, after0_13]
  refine sums_all N_0 (fun n h => (outsAt0 m c n h).2.2.2.2.2.1)
    (fun r l => ((err h x1 tg w wd g2 lg lb r l * err h x1 tg w wd g2 lg lb r l : ℝ) : EReal)) (fun t s l h => ?_) (fun t s l h => ?_) _ l
  · rw [(sums_first m c t h).1, loss_step (holds A t)]
    rw [show (k0_pay3 (F := Ideal)) (ix2 s l) = 0 by pointwise [k0_pay3], zero_add]
  · rw [(sums_later m c t h).1, loss_step (holds A t)]

theorem sum_dlg (l : Fin 1024) : ∑ s : Fin 8, cell (reg_main_v7_6 m c) s l
    = ∑ r : Fin 8192, ((dx h x1 tg w wd g2 lg lb r l * Norm.hat (z h x1 w wd g2 r) l : ℝ) : EReal) := by
  rw [(last_sum m c).2.1, after0_14]
  refine sums_all N_0 (fun n h => (outsAt0 m c n h).2.2.2.2.2.2.1)
    (fun r l => ((dx h x1 tg w wd g2 lg lb r l * Norm.hat (z h x1 w wd g2 r) l : ℝ) : EReal)) (fun t s l h => ?_) (fun t s l h => ?_) _ l
  · rw [(sums_first m c t h).2.1, dlg_step (holds A t)]
    rw [show (k0_pay4 (F := Ideal)) (ix2 s l) = 0 by pointwise [k0_pay4], zero_add]
  · rw [(sums_later m c t h).2.1, dlg_step (holds A t)]

theorem sum_dlb (l : Fin 1024) : ∑ s : Fin 8, cell (reg_main_v7_7 m c) s l
    = ∑ r : Fin 8192, ((dx h x1 tg w wd g2 lg lb r l : ℝ) : EReal) := by
  rw [(last_sum m c).2.2.1, after0_15]
  refine sums_all N_0 (fun n h => (outsAt0 m c n h).2.2.2.2.2.2.2.1)
    (fun r l => ((dx h x1 tg w wd g2 lg lb r l : ℝ) : EReal)) (fun t s l h => ?_) (fun t s l h => ?_) _ l
  · rw [(sums_first m c t h).2.2.1, dlb_step (holds A t)]
    rw [show (k0_pay5 (F := Ideal)) (ix2 s l) = 0 by pointwise [k0_pay5], zero_add]
  · rw [(sums_later m c t h).2.2.1, dlb_step (holds A t)]

theorem sum_dg2 (l : Fin 1024) : ∑ s : Fin 8, cell (reg_main_v7_8 m c) s l
    = ∑ r : Fin 8192, ((dz h x1 tg w wd g2 lg lb r l * y h w wd r l : ℝ) : EReal) := by
  rw [(last_sum m c).2.2.2, after0_16]
  refine sums_all N_0 (fun n h => (outsAt0 m c n h).2.2.2.2.2.2.2.2)
    (fun r l => ((dz h x1 tg w wd g2 lg lb r l * y h w wd r l : ℝ) : EReal)) (fun t s l h => ?_) (fun t s l h => ?_) _ l
  · rw [(sums_first m c t h).2.2.2, dg2_step (holds A t)]
    rw [show (k0_pay6 (F := Ideal)) (ix2 s l) = 0 by pointwise [k0_pay6], zero_add]
  · rw [(sums_later m c t h).2.2.2, dg2_step (holds A t)]

end Cert.FfnIdeal.Value

end
-- ==== Proof.FfnRef.lean ====
/- The feed-forward part and its derivative, as the reference computes them, at real arguments. -/
module

public import proofs.«01_k».proof.Proof.FfnSpec
public import proofs.«01_k».proof.Proof.Gen.FfnRefIdeal.Run
public import proofs.«01_k».proof.Proof.Gen.FfnRefIdeal.Read

@[expose] public section

set_option maxRecDepth 16384

noncomputable section

namespace Cert.FfnRefIdeal.Value

open Cert.FfnRefIdeal Cert.FfnRefIdeal.Gen Idealize.ShloMosaic Idealize.ShloMosaic.TcCoe Idealize.SL.Sem
open Idealize.ShloMosaic.StableHlo Cert.FfnRefIdeal.Read Cert.RealNum Cert.FfnSpec

variable (h x1 tg : Tok.Idx → ℝ) (w : GateUp.Idx → ℝ) (wd : Down.Idx → ℝ) (g2 lg lb : Row.Idx → ℝ)

/-! ## The gate -/

theorem gate_apply (r : Fin 8192) (f : Fin 2816) : val_main_v1 (F := Ideal) (up h) (up w) (ix2 r f) = (gate h w r f : EReal) := by
  rw [val_main_v1_apply, val_main_v0_apply]
  unfold gate
  rw [coe_sum]
  refine Finset.sum_congr rfl fun k _ => ?_
  rw [EReal.coe_mul, show lidx_main_v0 (idx_main_v1 (ix2 r f)) k = ix2 r k from eq_ix2 _, eq_ix2 (ridx_main_v0 (idx_main_v1 (ix2 r f)) k)]
  rfl

theorem upper_apply (r : Fin 8192) (f : Fin 2816) : val_main_v2 (F := Ideal) (up h) (up w) (ix2 r f) = (upper h w r f : EReal) := by
  rw [val_main_v2_apply, val_main_v0_apply]
  unfold upper
  rw [coe_sum]
  refine Finset.sum_congr rfl fun k _ => ?_
  rw [EReal.coe_mul, show lidx_main_v0 (idx_main_v2 (ix2 r f)) k = ix2 r k from eq_ix2 _, eq_ix2 (ridx_main_v0 (idx_main_v2 (ix2 r f)) k)]
  rfl

theorem logi_apply (r : Fin 8192) (f : Fin 2816) : val_main_v3_2 (F := Ideal) (up h) (up w) (ix2 r f) = (logi (gate h w r f) : EReal) := by
  pointwise [val_main_v3_2, val_main_call0_v4, val_main_call0_cst_0, val_main_call0_v3, val_main_call0_v2, val_main_call0_cst, val_main_call0_v1, val_main_call0_v0]
  rw [gate_apply, logi_coe]

theorem sg_apply (r : Fin 8192) (f : Fin 2816) : val_main_v6 (F := Ideal) (up h) (up w) (ix2 r f) = (sg h w r f : EReal) := by
  pointwise [val_main_v6, val_main_v5, val_main_cst, val_main_v3_0]
  rw [gate_apply, logi_apply, ← EReal.coe_mul]; rfl

theorem act_apply (r : Fin 8192) (f : Fin 2816) : val_main_v4 (F := Ideal) (up h) (up w) (ix2 r f) = (act h w r f : EReal) := by
  pointwise [val_main_v4, val_main_v3_0]
  rw [gate_apply, logi_apply, upper_apply, ← EReal.coe_mul, ← EReal.coe_mul]; rfl

theorem dsu_apply (r : Fin 8192) (f : Fin 2816) : val_main_v8 (F := Ideal) (up h) (up w) (ix2 r f) = (dsu h w r f : EReal) := by
  pointwise [val_main_v8, val_main_v7, val_main_v5, val_main_cst, val_main_call1_v0, val_main_call1_v1, val_main_call1_v2,
    val_main_v3_1, val_main_call0_v7, val_main_call0_v6, val_main_call0_cst_1]
  rw [gate_apply, logi_apply, upper_apply]
  simp only [← EReal.coe_one, ← EReal.coe_mul, ← EReal.coe_add, ← EReal.coe_sub]
  congr 1
  unfold dsu dsilu
  ring

/-! ## The row and its normalisation -/

theorem y_apply (r : Fin 8192) (l : Fin 1024) : val_main_v9 (F := Ideal) (up h) (up w) (up wd) (ix2 r l) = (y h w wd r l : EReal) := by
  rw [val_main_v9_apply]
  unfold y
  rw [coe_sum]
  refine Finset.sum_congr rfl fun k _ => ?_
  rw [show lidx_main_v9 (ix2 r l) k = ix2 r k from eq_ix2 _, act_apply, EReal.coe_mul, eq_ix2 (ridx_main_v9 (ix2 r l) k)]
  rfl

theorem z_apply (r : Fin 8192) (l : Fin 1024) :
    val_main_v15 (F := Ideal) (up h) (up x1) (up w) (up wd) (up g2) (ix2 r l) = (z h x1 w wd g2 r l : EReal) := by
  pointwise [val_main_v15, val_main_v14, val_main_v13, val_main_v12, val_main_v11, val_main_v10, val_main_cst_0]
  rw [y_apply, lit_alpha, ← EReal.coe_mul, ← EReal.coe_mul, ← EReal.coe_add]; rfl

/-- Reading an array of rows at any index. -/
theorem z_at (i : S8192x1024.Idx) :
    val_main_v15 (F := Ideal) (up h) (up x1) (up w) (up wd) (up g2) i = (z h x1 w wd g2 (i 0) (i 1) : EReal) :=
  (congrArg _ (eq_ix2 i)).trans (z_apply h x1 w wd g2 (i 0) (i 1))

/-- The mean of the row `z`, as an array of one column. -/
theorem mean_at (i : S8192x1.Idx) : val_main_v19 (F := Ideal) (up h) (up x1) (up w) (up wd) (up g2) i
    = (Norm.mean (z h x1 w wd g2 (i 0)) : EReal) := by
  rw [val_main_v19_apply, val_main_v17_apply, val_main_v16_apply, val_main_v18_apply]
  simp only [z_at, val_main_cst_1_apply, val_main_cst_2_apply, Ideal.hostDivf_def, Ideal.ofBits_def, lit_1024,
    Ideal.ofBits_zero_f32, zero_add, ← coe_sum]
  rw [div_real _ (by norm_num)]; rfl

theorem dev_at (i : S8192x1024.Idx) : val_main_v21 (F := Ideal) (up h) (up x1) (up w) (up wd) (up g2) i
    = (Norm.dev (z h x1 w wd g2 (i 0)) (i 1) : EReal) := by
  rw [val_main_v21_apply, val_main_v20_apply, z_at, mean_at, Ideal.subf_def, ← EReal.coe_sub]; rfl

theorem dev_at' (i : S8192x1024.Idx) : val_main_v30 (F := Ideal) (up h) (up x1) (up w) (up wd) (up g2) i
    = (Norm.dev (z h x1 w wd g2 (i 0)) (i 1) : EReal) := by
  rw [val_main_v30_apply, val_main_v29_apply, z_at, mean_at, Ideal.subf_def, ← EReal.coe_sub]; rfl

theorem spread_at (i : S8192x1.Idx) : val_main_v32 (F := Ideal) (up h) (up x1) (up w) (up wd) (up g2) i
    = (Norm.spread (z h x1 w wd g2 (i 0)) : EReal) := by
  rw [val_main_v32_apply, val_main_v28_apply, val_main_v26_apply, val_main_v25_apply, val_main_v27_apply, val_main_v31_apply]
  simp only [val_main_v22_apply, dev_at, val_main_cst_4_apply, val_main_cst_5_apply, val_main_cst_6_apply, Ideal.hostDivf_def,
    Ideal.ofBits_def, lit_1024, lit_eps, Ideal.ofBits_zero_f32, zero_add, Ideal.mulf_def, Ideal.addf_def, ← coe_sum, ← EReal.coe_mul]
  rw [div_real _ (by norm_num), ← EReal.coe_add]; rfl

theorem rs_at (i : S8192x1.Idx) : val_main_v33 (F := Ideal) (up h) (up x1) (up w) (up wd) (up g2) i
    = (Norm.rs (z h x1 w wd g2 (i 0)) : EReal) := by
  rw [val_main_v33_apply, spread_at]
  exact Norm.rs_coe _

theorem hat_at (i : S8192x1024.Idx) : val_main_v38 (F := Ideal) (up h) (up x1) (up w) (up wd) (up g2) i
    = (Norm.hat (z h x1 w wd g2 (i 0)) (i 1) : EReal) := by
  rw [val_main_v38_apply, val_main_v37_apply, dev_at', rs_at]
  exact Norm.hat_coe _ _

/-! ## The error and the loss -/

theorem row_at (x : Row.Idx → ℝ) (i : S8192x1024.Idx) : val_main_v40 (F := Ideal) (up x) i = (x (ix1 (i 1)) : EReal) := by
  rw [val_main_v40_apply, val_main_v39_apply]
  exact congrArg (fun j => (x j : EReal)) (eq_ix1 _)

theorem err_at (i : S8192x1024.Idx) : val_main_v45 (F := Ideal) (up h) (up x1) (up tg) (up w) (up wd) (up g2) (up lg) (up lb) i
    = (err h x1 tg w wd g2 lg lb (i 0) (i 1) : EReal) := by
  rw [val_main_v45_apply, val_main_v44_apply, val_main_v41_apply, hat_at, row_at,
    show val_main_v43 (F := Ideal) (up lb) i = _ from row_at lb i]
  simp only [Ideal.mulf_def, Ideal.addf_def, Ideal.subf_def]
  rw [eq_ix2 i]
  simp only [← EReal.coe_mul, ← EReal.coe_add, ← EReal.coe_sub]
  rfl

theorem dx_at (i : S8192x1024.Idx) : val_main_v59 (F := Ideal) (up h) (up x1) (up tg) (up w) (up wd) (up g2) (up lg) (up lb) i
    = (dx h x1 tg w wd g2 lg lb (i 0) (i 1) : EReal) := by
  rw [val_main_v59_apply, val_main_v58_apply, val_main_v57_apply, val_main_v55_apply, val_main_v54_apply, val_main_v56_apply,
    val_main_v48_apply, val_main_v47_apply, err_at]
  simp only [val_main_cst_13_apply, val_main_cst_14_apply, val_main_cst_15_apply, val_main_cst_8_apply, Ideal.hostDivf_def,
    Ideal.ofBits_def, lit_1024, lit_half, lit_two, Ideal.ofBits_one_f32, Ideal.mulf_def, mul_one]
  rw [div_real _ (by norm_num), ← EReal.coe_mul, ← EReal.coe_mul]
  congr 1
  unfold dx
  ring

theorem sum_rows (f : Fin 8192 → ℝ) : ∑ j : S8192.Idx, f (j 0) = ∑ r, f r :=
  Fintype.sum_equiv ⟨fun j => j 0, fun r => ix1 r, fun j => (eq_ix1 j).symm, fun _ => rfl⟩ _ _ fun _ => rfl

theorem loss_apply (i : S_.Idx) : val_main_v53 (F := Ideal) (up h) (up x1) (up tg) (up w) (up wd) (up g2) (up lg) (up lb) i
    = (1 / 2048 * ∑ r : Fin 8192, ∑ l : Fin 1024, err h x1 tg w wd g2 lg lb r l * err h x1 tg w wd g2 lg lb r l : ℝ) := by
  have e (j : S8192.Idx) : val_main_v51 (F := Ideal) (up h) (up x1) (up tg) (up w) (up wd) (up g2) (up lg) (up lb) j
      = ((∑ l : Fin 1024, err h x1 tg w wd g2 lg lb (j 0) l * err h x1 tg w wd g2 lg lb (j 0) l) / 1024 : ℝ) := by
    rw [val_main_v51_apply, val_main_v49_apply, val_main_v50_apply]
    simp only [val_main_v46_apply, err_at, val_main_cst_9_apply, val_main_cst_10_apply, Ideal.hostDivf_def, Ideal.ofBits_def,
      lit_1024, Ideal.ofBits_zero_f32, zero_add, Ideal.mulf_def, ← EReal.coe_mul, ← coe_sum]
    rw [div_real _ (by norm_num)]; rfl
  rw [val_main_v53_apply, val_main_v52_apply]
  simp only [e, val_main_cst_11_apply, val_main_cst_12_apply, Ideal.ofBits_def, lit_half, Ideal.ofBits_zero_f32, zero_add,
    Ideal.mulf_def, ← coe_sum, ← EReal.coe_mul]
  congr 1
  rw [sum_rows fun r => (∑ l, err h x1 tg w wd g2 lg lb r l * err h x1 tg w wd g2 lg lb r l) / 1024, ← Finset.sum_div]
  ring

/-! ## The gradients -/

theorem sums_one (f : Fin 1 → EReal) : ∑ k, f k = f 0 := Fin.sum_univ_one f

theorem dlb_apply (l : Fin 1024) : val_main_v62 (F := Ideal) (up h) (up x1) (up tg) (up w) (up wd) (up g2) (up lg) (up lb) (ix1 l)
    = (∑ r : Fin 8192, dx h x1 tg w wd g2 lg lb r l : ℝ) := by
  rw [val_main_v62_apply, sums_one, val_main_v61_apply, val_main_v60_apply]
  simp only [dx_at, val_main_cst_16_apply, val_main_cst_17_apply, Ideal.ofBits_def, Ideal.ofBits_zero_f32, zero_add, ← coe_sum]
  congr 1
  refine Finset.sum_congr rfl fun r _ => congrArg (dx h x1 tg w wd g2 lg lb r) (Fin.ext ?_)
  show 0 * 1024 + l.val = l.val
  omega

theorem dlg_apply (l : Fin 1024) : val_main_v68 (F := Ideal) (up h) (up x1) (up tg) (up w) (up wd) (up g2) (up lg) (up lb) (ix1 l)
    = (∑ r : Fin 8192, dx h x1 tg w wd g2 lg lb r l * Norm.hat (z h x1 w wd g2 r) l : ℝ) := by
  rw [val_main_v68_apply, sums_one, val_main_v65_apply, val_main_v64_apply]
  simp only [val_main_v63_apply, hat_at, dx_at, val_main_cst_18_apply, val_main_cst_19_apply, Ideal.ofBits_def,
    Ideal.ofBits_zero_f32, zero_add, Ideal.mulf_def, ← EReal.coe_mul, ← coe_sum]
  congr 1
  refine Finset.sum_congr rfl fun r _ => ?_
  have e : (idx_main_v64 (idx_main_v65 (idx_main_v68 (ix1 l) 0)) r) 1 = l := Fin.ext (by show 0 * 1024 + l.val = l.val; omega)
  rw [e, mul_comm]; rfl

theorem dhat_at (i : S8192x1024.Idx) : val_main_v67 (F := Ideal) (up h) (up x1) (up tg) (up w) (up wd) (up g2) (up lg) (up lb) i
    = (dx h x1 tg w wd g2 lg lb (i 0) (i 1) * lg (ix1 (i 1)) : ℝ) := by
  rw [val_main_v67_apply, dx_at, show val_main_v66 (F := Ideal) (up lg) i = _ from row_at lg i, Ideal.mulf_def, ← EReal.coe_mul]

/-- The gradient at the normalised row of token `r`. -/
abbrev dh (r : Fin 8192) : Fin 1024 → ℝ := fun k => dx h x1 tg w wd g2 lg lb r k * lg (ix1 k)

/-- Half the factor of the gradient through the mean of squares. -/
abbrev half (r : Fin 8192) : ℝ :=
  (∑ k, Norm.dev (z h x1 w wd g2 r) k * dh h x1 tg w wd g2 lg lb r k)
    * (-(1 / 2) * (Norm.rs (z h x1 w wd g2 r) / Norm.spread (z h x1 w wd g2 r))) / 1024

theorem fold_at (i : S8192x1.Idx) : (idx_main_v71 i) 0 = i 0 :=
  Fin.ext (by have h1 : (i 1).val < 1 := (i 1).isLt; show (i 0).val * 1 + (i 1).val = (i 0).val; omega)

theorem half_at (i : S8192.Idx) : val_main_v80 (F := Ideal) (up h) (up x1) (up tg) (up w) (up wd) (up g2) (up lg) (up lb) i = (half h x1 tg w wd g2 lg lb (i 0) : EReal) := by
  rw [val_main_v80_apply, sums_one, val_main_v79_apply, val_main_v74_apply, val_main_v71_apply, val_main_v70_apply,
    val_main_v36_apply, val_main_v35_apply, val_main_v34_apply, val_main_v78_apply]
  simp only [val_main_v69_apply, dev_at', dhat_at, rs_at, spread_at, val_main_cst_20_apply, val_main_cst_23_apply,
    val_main_cst_22_apply, val_main_cst_7_apply, Ideal.hostDivf_def, Ideal.ofBits_def, lit_1024, lit_neg_half,
    Ideal.ofBits_zero_f32, zero_add, Ideal.mulf_def, ← EReal.coe_mul, ← coe_sum]
  rw [div_real _ (Norm.spread_pos _).ne', ← EReal.coe_mul, ← EReal.coe_mul, div_real _ (by norm_num)]
  congr 1
  exact congrArg (fun q : Fin 8192 => (∑ k, Norm.dev (z h x1 w wd g2 q) k * dh h x1 tg w wd g2 lg lb q k)
    * (-(1 / 2) * (Norm.rs (z h x1 w wd g2 (i 0)) / Norm.spread (z h x1 w wd g2 (i 0)))) / 1024) (fold_at (idx_main_v80 i 0))

theorem square_at (i : S8192x1024.Idx) : val_main_v82 (F := Ideal) (up h) (up x1) (up tg) (up w) (up wd) (up g2) (up lg) (up lb) i
    = (half h x1 tg w wd g2 lg lb (i 0) * (2 * Norm.dev (z h x1 w wd g2 (i 0)) (i 1)) : ℝ) := by
  rw [val_main_v82_apply, val_main_v81_apply, half_at, val_main_v24_apply, val_main_v23_apply, dev_at]
  simp only [val_main_cst_3_apply, Ideal.ofBits_def, lit_two, Ideal.mulf_def, ← EReal.coe_mul]
  rfl

theorem scaled_at (i : S8192x1024.Idx) : val_main_v73 (F := Ideal) (up h) (up x1) (up tg) (up w) (up wd) (up g2) (up lg) (up lb) i
    = (dh h x1 tg w wd g2 lg lb (i 0) (i 1) * Norm.rs (z h x1 w wd g2 (i 0)) : ℝ) := by
  rw [val_main_v73_apply, val_main_v72_apply, dhat_at, rs_at, Ideal.mulf_def, ← EReal.coe_mul]
  rfl

theorem dz_at (i : S8192x1024.Idx) : val_main_v92 (F := Ideal) (up h) (up x1) (up tg) (up w) (up wd) (up g2) (up lg) (up lb) i = (dz h x1 tg w wd g2 lg lb (i 0) (i 1) : EReal) := by
  rw [val_main_v92_apply, val_main_v86_apply, val_main_v91_apply, val_main_v90_apply, sums_one, val_main_v89_apply,
    val_main_v87_apply, val_main_v77_apply, val_main_v76_apply, val_main_v85_apply, val_main_v84_apply, val_main_v88_apply]
  simp only [val_main_v75_apply, val_main_v83_apply, scaled_at, square_at, val_main_cst_21_apply, val_main_cst_24_apply,
    val_main_cst_25_apply, val_main_cst_26_apply, Ideal.hostDivf_def, Ideal.ofBits_def, lit_1024, Ideal.hostNegf_def, Ideal.negf_def,
    Ideal.ofBits_zero_f32, zero_add, Ideal.mulf_def, Ideal.addf_def, ← EReal.coe_mul, ← EReal.coe_neg, ← EReal.coe_add, ← coe_sum]
  rw [div_real _ (by norm_num), ← EReal.coe_add]
  congr 1
  refine Eq.trans (congrArg (fun q : Fin 8192 => dh h x1 tg w wd g2 lg lb (i 0) (i 1) * Norm.rs (z h x1 w wd g2 (i 0))
    + half h x1 tg w wd g2 lg lb (i 0) * (2 * Norm.dev (z h x1 w wd g2 (i 0)) (i 1))
    + (∑ k, -(dh h x1 tg w wd g2 lg lb q k * Norm.rs (z h x1 w wd g2 q))
      + ∑ k, -(half h x1 tg w wd g2 lg lb q * (2 * Norm.dev (z h x1 w wd g2 q) k))) / 1024)
    (fold_at (idx_main_v90 (idx_main_v91 i) 0))) ?_
  exact Norm.back_steps (z h x1 w wd g2 (i 0)) (dh h x1 tg w wd g2 lg lb (i 0)) (i 1)

theorem dy_at (i : S8192x1024.Idx) : val_main_v94 (F := Ideal) (up h) (up x1) (up tg) (up w) (up wd) (up g2) (up lg) (up lb) i
    = (g2 (ix1 (i 1)) * dz h x1 tg w wd g2 lg lb (i 0) (i 1) : ℝ) := by
  rw [val_main_v94_apply, dz_at, show val_main_v93 (F := Ideal) (up g2) i = _ from row_at g2 i, Ideal.mulf_def, ← EReal.coe_mul]

theorem dg2_apply (l : Fin 1024) : val_main_v98 (F := Ideal) (up h) (up x1) (up tg) (up w) (up wd) (up g2) (up lg) (up lb) (ix1 l)
    = (∑ r : Fin 8192, dz h x1 tg w wd g2 lg lb r l * y h w wd r l : ℝ) := by
  have ey (i : S8192x1024.Idx) : val_main_v9 (F := Ideal) (up h) (up w) (up wd) i = (y h w wd (i 0) (i 1) : EReal) :=
    (congrArg _ (eq_ix2 i)).trans (y_apply h w wd (i 0) (i 1))
  rw [val_main_v98_apply, sums_one, val_main_v97_apply, val_main_v96_apply]
  simp only [val_main_v95_apply, dz_at, ey, val_main_cst_27_apply, val_main_cst_28_apply, Ideal.ofBits_def,
    Ideal.ofBits_zero_f32, zero_add, Ideal.mulf_def, ← EReal.coe_mul, ← coe_sum]
  congr 1
  refine Finset.sum_congr rfl fun r _ => ?_
  have e : (idx_main_v96 (idx_main_v97 (idx_main_v98 (ix1 l) 0)) r) 1 = l := Fin.ext (by show 0 * 1024 + l.val = l.val; omega)
  rw [e]; rfl

end Cert.FfnRefIdeal.Value

end
-- ==== Proof.FfnValue.lean ====
/- The call `ffn` and the derivative of the feed-forward part with its norm and loss leave the same results at real arguments. -/
module

public import proofs.«01_k».proof.Proof.FfnArr
public import proofs.«01_k».proof.Proof.FfnRef
public import proofs.«01_k».proof.Proof.Gen.Ffn.Frame
public import proofs.«01_k».proof.Proof.Gen.FfnIdeal.Frame
public import proofs.«01_k».proof.Proof.Gen.FfnIdeal.Run
public import proofs.«01_k».proof.Proof.Gen.FfnIdeal.Read
public import proofs.«01_k».proof.Proof.Gen.Pre_ffn_finite
public import proofs.«01_k».proof.Defs

@[expose] public section

set_option maxRecDepth 16384

noncomputable section

namespace Cert.RealNum

open Idealize.ShloMosaic

/-- An array whose magnitudes the printed test finds below infinity is an array of reals. -/
theorem real_array {S : Shape} (x : S.Idx → EReal) (h : ∀ i, max (x i) (-x i) < ⊤) : ∃ a : S.Idx → ℝ, x = fun i => (a i : EReal) :=
  ⟨fun i => (real_of_abs_lt (x i) (h i)).choose, funext fun i => (real_of_abs_lt (x i) (h i)).choose_spec⟩

end Cert.RealNum

namespace Cert.FfnIdeal.Value

open Cert.FfnIdeal Cert.FfnIdeal.Gen Idealize.ShloMosaic Idealize.ShloMosaic.TcCoe Idealize.SL.Sem
open Idealize.ShloMosaic.StableHlo Cert.FfnSpec Cert.RealNum Cert.Classes

variable (m : (ℓ : Loc nD τ sig) → Buf (Elt Ideal) ℓ)

/-- What the precondition says of one argument. -/
theorem real_of_test {S : Shape} (x : FVec Ideal S .f32) (hb : Pre_ffn_finite.S_.BroadcastsInDim S (![] : Fin 0 → Fin S.rank))
    (h : cmpf .olt (Host.absf x) (broadcastInDim S ![] hb (constant Pre_ffn_finite.S_ .f32 0x7F800000#32)) = fun _ => 1#1) :
    ∃ a : S.Idx → ℝ, x = fun i => (a i : EReal) := by
  refine real_array x fun i => ?_
  have e := congrFun h i
  have l : Ideal.ofBits .f32 0x7F800000#32 = ⊤ := by simp [Ideal.ofBits, Ideal.ieee]
  have k : BitVec.ofBool (decide (max (x i) (-x i) < Ideal.ofBits .f32 0x7F800000#32)) = 1#1 := e
  rw [l] at k
  by_contra n
  simp only [n, decide_false] at k
  exact absurd k (by decide)

theorem reals (hp : Cert.Pre_FfnIdeal_ffn_finite (hPre_ffn_finite := Pre_ffn_finite.Gen.facts) m) (c : Dev nD) :
    ∃ h x1 tg w wd g2 lg lb, Reals m c h x1 tg w wd g2 lg lb := by
  obtain ⟨h0, h1, h2, h3, h4, h5, h6, h7⟩ := hp c
  obtain ⟨a0, e0⟩ := real_of_test _ _ h0
  obtain ⟨a1, e1⟩ := real_of_test _ _ h1
  obtain ⟨a2, e2⟩ := real_of_test _ _ h2
  obtain ⟨a3, e3⟩ := real_of_test _ _ h3
  obtain ⟨a4, e4⟩ := real_of_test _ _ h4
  obtain ⟨a5, e5⟩ := real_of_test _ _ h5
  obtain ⟨a6, e6⟩ := real_of_test _ _ h6
  obtain ⟨a7, e7⟩ := real_of_test _ _ h7
  exact ⟨a0, a1, a2, a3, a4, a5, a6, a7, ⟨e0, e1, e2, e3, e4, e5, e6, e7⟩⟩

/-- The sum over the eight classes, as the operations after the call take it. -/
theorem sum8 (y : (⟨S8x1024, .f32⟩ : BufTy).Contents (Elt Ideal)) (d : Fin 1024) :
    Read.val_main_v11 (F := Ideal) y (ix1 d) = ∑ s : Fin 8, cell y s d := by
  pointwise [Read.val_main_v11, Read.val_main_cst_1]

theorem sum_loss8 (y : (⟨S8x1024, .f32⟩ : BufTy).Contents (Elt Ideal)) (i : S_.Idx) :
    Read.val_main_v9 (F := Ideal) y i = ((1 / 2048 : ℝ) : EReal) * ∑ l : Fin 1024, ∑ s : Fin 8, cell y s l := by
  rw [Read.val_main_v9_apply, Read.val_main_v8_apply, sum_idx2 (M := EReal), Finset.sum_comm]
  simp only [Read.val_main_cst_0_apply, Read.val_main_cst_apply, Ideal.ofBits_def, lit_half_inv, Ideal.ofBits_zero_f32, zero_add,
    Ideal.mulf_def]

variable {m} {c : Dev nD} {h x1 tg : Tok.Idx → ℝ} {w : GateUp.Idx → ℝ} {wd : Down.Idx → ℝ} {g2 lg lb : Row.Idx → ℝ}
variable (A : Reals m c h x1 tg w wd g2 lg lb)
include A

theorem loss_eq : Read.val_main_v9 (F := Ideal) (reg_main_v7_5 m c)
    = FfnRefIdeal.Read.val_main_v53 (F := Ideal) (up h) (up x1) (up tg) (up w) (up wd) (up g2) (up lg) (up lb) := by
  funext i
  rw [FfnRefIdeal.Value.loss_apply, sum_loss8]
  simp only [sum_loss A, ← coe_sum, ← EReal.coe_mul]
  rw [Finset.sum_comm]

theorem dg2_eq : Read.val_main_v11 (F := Ideal) (reg_main_v7_8 m c)
    = FfnRefIdeal.Read.val_main_v98 (F := Ideal) (up h) (up x1) (up tg) (up w) (up wd) (up g2) (up lg) (up lb) := by
  funext i
  obtain ⟨l, rfl⟩ : ∃ l : Fin 1024, i = ix1 l := ⟨i 0, eq_ix1 i⟩
  rw [FfnRefIdeal.Value.dg2_apply, sum8, sum_dg2 A, ← coe_sum]

theorem dlg_eq : Read.val_main_v12 (F := Ideal) (reg_main_v7_6 m c)
    = FfnRefIdeal.Read.val_main_v68 (F := Ideal) (up h) (up x1) (up tg) (up w) (up wd) (up g2) (up lg) (up lb) := by
  funext i
  obtain ⟨l, rfl⟩ : ∃ l : Fin 1024, i = ix1 l := ⟨i 0, eq_ix1 i⟩
  rw [FfnRefIdeal.Value.dlg_apply, show Read.val_main_v12 (F := Ideal) (reg_main_v7_6 m c) (ix1 l) = _ from sum8 _ l, sum_dlg A,
    ← coe_sum]

theorem dlb_eq : Read.val_main_v13 (F := Ideal) (reg_main_v7_7 m c)
    = FfnRefIdeal.Read.val_main_v62 (F := Ideal) (up h) (up x1) (up tg) (up w) (up wd) (up g2) (up lg) (up lb) := by
  funext i
  obtain ⟨l, rfl⟩ : ∃ l : Fin 1024, i = ix1 l := ⟨i 0, eq_ix1 i⟩
  rw [FfnRefIdeal.Value.dlb_apply, show Read.val_main_v13 (F := Ideal) (reg_main_v7_7 m c) (ix1 l) = _ from sum8 _ l, sum_dlb A,
    ← coe_sum]

theorem dz_eq : reg_main_v7_3 m c
    = FfnRefIdeal.Read.val_main_v92 (F := Ideal) (up h) (up x1) (up tg) (up w) (up wd) (up g2) (up lg) (up lb) :=
  (final_dz A).trans (funext fun i => (FfnRefIdeal.Value.dz_at h x1 tg w wd g2 lg lb i).symm)

theorem dy_eq : extf (F := Ideal) .f32 (reg_main_v7_4 m c) bitsLt_bf16_f32
    = FfnRefIdeal.Read.val_main_v94 (F := Ideal) (up h) (up x1) (up tg) (up w) (up wd) (up g2) (up lg) (up lb) :=
  (final_dy A).trans (funext fun i => (FfnRefIdeal.Value.dy_at h x1 tg w wd g2 lg lb i).symm)

theorem dsu_eq : extf (F := Ideal) .f32 (reg_main_v7_0 m c) bitsLt_bf16_f32
    = FfnRefIdeal.Read.val_main_v8 (F := Ideal) (up h) (up w) :=
  (final_dsu A).trans (funext fun i => ((congrArg _ (eq_ix2 i)).trans (FfnRefIdeal.Value.dsu_apply h w (i 0) (i 1))).symm)

theorem sg_eq : extf (F := Ideal) .f32 (reg_main_v7_1 m c) bitsLt_bf16_f32
    = FfnRefIdeal.Read.val_main_v6 (F := Ideal) (up h) (up w) :=
  (final_sg A).trans (funext fun i => ((congrArg _ (eq_ix2 i)).trans (FfnRefIdeal.Value.sg_apply h w (i 0) (i 1))).symm)

theorem act_eq : extf (F := Ideal) .f32 (reg_main_v7_2 m c) bitsLt_bf16_f32
    = FfnRefIdeal.Read.val_main_v4 (F := Ideal) (up h) (up w) :=
  (final_act A).trans (funext fun i => ((congrArg _ (eq_ix2 i)).trans (FfnRefIdeal.Value.act_apply h w (i 0) (i 1))).symm)

end Cert.FfnIdeal.Value

namespace Cert.FfnIdeal

open Idealize.ShloMosaic Idealize.ShloMosaic.TcCoe Idealize.SL.Sem Cert.FfnIdeal.Value
open Cert.FfnRefIdeal.Read
open Cert.FfnIdeal.Gen (bitsLt_bf16_f32)

/-- Over the extended reals the call and the derivative leave the same nine arrays at finite arguments. -/
theorem algebraic : Cert.algebraic_FfnIdeal_FfnRefIdeal_pre_ffn_finite (hFfnIdeal := Gen.facts)
    (hFfnRefIdeal := FfnRefIdeal.Gen.facts) (hPre_ffn_finite := Pre_ffn_finite.Gen.facts) := by
  intro m g m' g' hp h
  refine ⟨fun c => FfnIdeal.Read.val_main_v9 (F := Ideal) (reg_main_v7_5 m c), fun c => reg_main_v7_3 m c,
    fun c => extf (F := Ideal) .f32 (reg_main_v7_4 m c) bitsLt_bf16_f32, fun c => FfnIdeal.Read.val_main_v11 (F := Ideal) (reg_main_v7_8 m c),
    fun c => FfnIdeal.Read.val_main_v12 (F := Ideal) (reg_main_v7_6 m c), fun c => FfnIdeal.Read.val_main_v13 (F := Ideal) (reg_main_v7_7 m c),
    fun c => extf (F := Ideal) .f32 (reg_main_v7_0 m c) bitsLt_bf16_f32, fun c => extf (F := Ideal) .f32 (reg_main_v7_1 m c) bitsLt_bf16_f32,
    fun c => extf (F := Ideal) .f32 (reg_main_v7_2 m c) bitsLt_bf16_f32, Value.run m g, ?_⟩
  refine (FfnRefIdeal.Value.run m' g').mono fun r hr c => ?_
  obtain ⟨k0, k1, k2, k3, k4, k5, k6, k7, k8, hargs⟩ := hr c
  obtain ⟨x0, x1, tg, w, wd, g2, lg, lb, A⟩ := reals m hp c
  obtain ⟨e0, e1, e2, e3, e4, e5, e6, e7⟩ := h c
  replace e0 := e0.trans A.h
  replace e1 := e1.trans A.x
  replace e2 := e2.trans A.t
  replace e3 := e3.trans A.w
  replace e4 := e4.trans A.d
  replace e5 := e5.trans A.s
  replace e6 := e6.trans A.l
  replace e7 := e7.trans A.b
  rw [val_main_v53_eq, e0, e1, e2, e3, e4, e5, e6, e7] at k0
  rw [val_main_v92_eq, e0, e1, e2, e3, e4, e5, e6, e7] at k1
  rw [val_main_v94_eq, e0, e1, e2, e3, e4, e5, e6, e7] at k2
  rw [val_main_v98_eq, e0, e1, e2, e3, e4, e5, e6, e7] at k3
  rw [val_main_v68_eq, e0, e1, e2, e3, e4, e5, e6, e7] at k4
  rw [val_main_v62_eq, e0, e1, e2, e3, e4, e5, e6, e7] at k5
  rw [e0, e3] at k6 k7 k8
  exact ⟨k0.trans (loss_eq A).symm, k1.trans (dz_eq A).symm, k2.trans (dy_eq A).symm, k3.trans (dg2_eq A).symm, k4.trans (dlg_eq A).symm,
    k5.trans (dlb_eq A).symm, (k6.trans (val_main_v8_eq _ _)).trans (dsu_eq A).symm, (k7.trans (val_main_v6_eq _ _)).trans (sg_eq A).symm,
    (k8.trans (val_main_v4_eq _ _)).trans (act_eq A).symm, hargs⟩

end Cert.FfnIdeal

namespace Cert.FfnRefIdeal.Value

open Idealize.ShloMosaic Idealize.ShloMosaic.TcCoe Idealize.SL.Sem

/-- The derivative's program terminates and leaves its arguments as they were. -/
theorem frame : Cert.quiescent_FfnRefIdeal (hFfnRefIdeal := FfnRefIdeal.Gen.facts) := fun m ρ _ =>
  (θ_run FfnRefIdeal.defs _ _).mono
    (fun r hr => ⟨fun c => (hr c).2.2.2.2.2.2.2.2.2, sem_eq_zero_of_no_sems (by decide) r.2⟩) (run m ρ)

end Cert.FfnRefIdeal.Value

end
-- ==== Proof.TableValue.lean ====
/- The call `bias_grad` and the derivative of the relative-position table leave the same array. -/
module

public import proofs.«01_k».proof.Proof.Gen.Table.Frame
public import proofs.«01_k».proof.Proof.Gen.TableIdeal.Frame
public import proofs.«01_k».proof.Proof.Gen.TableIdeal.Run
public import proofs.«01_k».proof.Proof.Gen.TableIdeal.Read
public import proofs.«01_k».proof.Proof.Gen.TableRefIdeal.Run
public import proofs.«01_k».proof.Proof.Gen.TableRefIdeal.Read
public import Idealize.ShloMosaic.Lib.Pointwise
public import Idealize.ShloMosaic.Lib.Routing.OpsPair
public import Idealize.ShloMosaic.Lib.Pipeline.ValueKit.Geometry
public import proofs.«01_k».proof.Defs

@[expose] public section

set_option maxRecDepth 16384

noncomputable section

namespace Cert.TableIdeal.Value

open Cert.TableIdeal Cert.TableIdeal.Gen Idealize.ShloMosaic Idealize.ShloMosaic.TcCoe Idealize.SL.Sem
open Idealize.ShloMosaic.StableHlo
open Idealize.ShloMosaic.Pipeline (Dat)

variable (m : (ℓ : Loc nD τ sig) → Buf (Elt Ideal) ℓ)

/-! ## One head -/

/-- The kernel's step for bucket `k`: the lane numbered `k` gets the sum over the entries of that bucket. -/
def pick (v0 : IVec S128x256 32) (v2 : FVec Ideal S128x256 .f32) (k : BitVec 32) (v : FVec Ideal S1x128 .f32) : FVec Ideal S1x128 .f32 :=
  select (cmpi .eq (iota .tc S1x128 32 [1] iota_S1x128_d1_w32) (broadcast S1x128 k))
    (broadcastTo S1x128 (shapeCast S1x1 (shapeCast S1x1 (multiReduction .add [0] S1 (shapeCast S128x1 (multiReduction .add [1] S128
      (select (cmpi .eq v0 (broadcast S128x256 k)) v2 (broadcast S128x256 (Scalar.ofBits .f32 0x00000000#32))) 0x00000000#32 reduces_S128x256_S128 (.inl rfl) rfl)
      shapeCasts_S128_S128x1) 0x00000000#32 reduces_S128x1_S1 (.inl rfl) rfl) shapeCasts_S1_S1x1) shapeCasts_S1x1_S1x1) broadcasts_S1x1_S1x128) v

/-- The sum over the entries of bucket `k`. -/
def total (v0 : IVec S128x256 32) (v2 : FVec Ideal S128x256 .f32) (k : BitVec 32) : EReal :=
  ∑ i : Fin 128, ∑ j : Fin 256, if v0 (ix2 i j) = k then v2 (ix2 i j) else 0

theorem sel {α : Type} (a b : BitVec 32) (x y : α) : Scalar.select (IntOp.cmpi .eq a b) x y = if a = b then x else y := by
  by_cases h : a = b
  · subst h; simp [IntOp.cmpi, Scalar.select]
  · have : (a == b) = false := by simpa using h
    simp [IntOp.cmpi, Scalar.select, this, h]

theorem pick_apply (v0 : IVec S128x256 32) (v2 : FVec Ideal S128x256 .f32) (k : BitVec 32) (v : FVec Ideal S1x128 .f32) (b : Fin 128) :
    pick v0 v2 k v (ix2 (0 : Fin 1) b) = if BitVec.ofNat 32 b.val = k then total v0 v2 k else v (ix2 (0 : Fin 1) b) := by
  pointwise [pick, total]
  simp only [sel]

/-- After the first `n` buckets the lanes below `n` hold their sums, the others zero. -/
theorem picks_apply (v0 : IVec S128x256 32) (v2 : FVec Ideal S128x256 .f32) (b : Fin 128) : ∀ n : ℕ, n ≤ 32 →
    ((List.range n).foldl (fun v k => pick v0 v2 (BitVec.ofNat 32 k) v) (broadcast S1x128 (Scalar.ofBits .f32 0x00000000#32) : FVec Ideal S1x128 .f32))
      (ix2 (0 : Fin 1) b) = if b.val < n then total v0 v2 (BitVec.ofNat 32 b.val) else 0
  | 0, _ => by
    rw [if_neg (Nat.not_lt_zero _)]
    show (broadcast S1x128 (Scalar.ofBits .f32 0x00000000#32) : FVec Ideal S1x128 .f32) (ix2 (0 : Fin 1) b) = 0
    pointwise
  | n + 1, hn => by
    rw [List.range_succ, List.foldl_append, List.foldl_cons, List.foldl_nil, pick_apply, picks_apply v0 v2 b n (by omega)]
    have e : (BitVec.ofNat 32 b.val = BitVec.ofNat 32 n) ↔ b.val = n := by
      have := b.isLt
      rw [← BitVec.toNat_inj, BitVec.toNat_ofNat, BitVec.toNat_ofNat, Nat.mod_eq_of_lt (by omega), Nat.mod_eq_of_lt (by omega)]
    by_cases h : b.val = n
    · rw [if_pos (e.2 h), if_pos (by omega), h]
    · rw [if_neg fun k => h (e.1 k)]
      by_cases l : b.val < n
      · rw [if_pos l, if_pos (by omega)]
      · rw [if_neg l, if_neg (by omega)]

set_option maxHeartbeats 4000000 in
/-- The block a point leaves: all thirty-two buckets in turn. -/
theorem block_eq (x0 : Vec Ideal S1x128x256 .f32) (x1 : Vec Ideal S128x256 .i32) :
    out0_2 x0 x1 = (shapeCast S1x1x128 ((List.range 32).foldl (fun v k => pick (shapeCast S128x256 x1 shapeCasts_S128x256_S128x256)
      (shapeCast S128x256 x0 shapeCasts_S1x128x256_S128x256) (BitVec.ofNat 32 k) v)
      (broadcast S1x128 (Scalar.ofBits .f32 0x00000000#32) : FVec Ideal S1x128 .f32)) shapeCasts_S1x128_S1x1x128 : FVec Ideal S1x1x128 .f32) := by
  have z3 : (![0, 0, 0] : Fin 3 → ℕ) = fun _ => 0 := by decide
  have z2 : (![0, 0] : Fin 2 → ℕ) = fun _ => 0 := by decide
  unfold_out out0_2
  simp only [View.canon_cons_unit_zero (S := S1x1x128) z3, View.ld_unit_zero (S := S1x128x256) z3, View.ld_unit_zero (S := S128x256) z2,
    show List.range 32 = [0, 1, 2, 3, 4, 5, 6, 7, 8, 9, 10, 11, 12, 13, 14, 15, 16, 17, 18, 19, 20, 21, 22, 23, 24, 25, 26, 27, 28, 29, 30, 31] from rfl,
    List.foldl_cons, List.foldl_nil]
  rfl

theorem block_apply (x0 : Vec Ideal S1x128x256 .f32) (x1 : Vec Ideal S128x256 .i32) (b : Fin 128) (hb : b.val < 32) :
    out0_2 x0 x1 (ix3 (0 : Fin 1) (0 : Fin 1) b) = ∑ i : Fin 128, ∑ j : Fin 256, if x1 (ix2 i j) = BitVec.ofNat 32 b.val then x0 (ix3 (0 : Fin 1) i j) else 0 := by
  rw [block_eq]
  refine (shapeCast_apply _ _ _ (ix2 (0 : Fin 1) b) (by rw [Shape.rowMajor_val_three, Shape.rowMajor_val_two]; rfl)).trans ?_
  rw [picks_apply _ _ b 32 (le_refl _), if_pos hb]
  unfold total
  refine Finset.sum_congr rfl fun i _ => Finset.sum_congr rfl fun j _ => ?_
  pointwise

end Cert.TableIdeal.Value

/-! ## The buckets -/

namespace Cert.TableRefIdeal.Value

open Cert.TableRefIdeal Cert.TableRefIdeal.Gen Cert.TableRefIdeal.Read Idealize.ShloMosaic Idealize.ShloMosaic.TcCoe Idealize.SL.Sem
open Idealize.ShloMosaic.StableHlo

theorem maxsi_toInt (x y : BitVec 32) : (IntOp.maxsi x y).toInt = max x.toInt y.toInt := by
  unfold IntOp.maxsi
  by_cases h : y.slt x = true
  · rw [if_pos h]; have := BitVec.slt_iff_toInt_lt.1 h; omega
  · rw [if_neg h]; have := mt BitVec.slt_iff_toInt_lt.2 h; omega

theorem minsi_toInt (x y : BitVec 32) : (IntOp.minsi x y).toInt = min x.toInt y.toInt := by
  unfold IntOp.minsi
  by_cases h : x.slt y = true
  · rw [if_pos h]; have := BitVec.slt_iff_toInt_lt.1 h; omega
  · rw [if_neg h]; have := mt BitVec.slt_iff_toInt_lt.2 h; omega

/-- The logarithmic step of a distance, as a word, is not negative and far from overflowing. -/
theorem step_bound (w : BitVec 32) (h16 : 16 ≤ w.toInt) :
    0 ≤ (Ideal.fptosi 32 (Ideal.div (Ideal.log (Ideal.div ((w.toInt : ℝ) : EReal) (Ideal.ofBits .f32 0x41800000#32))) (Ideal.ofBits .f32 0x40051592#32)
      * Ideal.ofBits .f32 0x41800000#32)).toInt
    ∧ (Ideal.fptosi 32 (Ideal.div (Ideal.log (Ideal.div ((w.toInt : ℝ) : EReal) (Ideal.ofBits .f32 0x41800000#32))) (Ideal.ofBits .f32 0x40051592#32)
      * Ideal.ofBits .f32 0x41800000#32)).toInt ≤ 2 ^ 30 := by
  have a16 : Ideal.ofBits .f32 0x41800000#32 = ((16 : ℝ) : EReal) := by
    simp [Ideal.ofBits, Ideal.ieee, -EReal.coe_mul]; norm_num
  have al : Ideal.ofBits .f32 0x40051592#32 = ((8721810 / 4194304 : ℝ) : EReal) := by
    simp [Ideal.ofBits, Ideal.ieee, -EReal.coe_mul]; norm_num
  have hi : (w.toInt : ℝ) < 2 ^ 31 := by
    have := BitVec.toInt_lt (x := w)
    exact_mod_cast this
  have lo : (16 : ℝ) ≤ (w.toInt : ℝ) := by exact_mod_cast h16
  have pos : ¬ ((w.toInt : ℝ) * (1 / 16) ≤ 0) := by linarith
  rw [a16, al, Ideal.div_coe (y := 16) (by norm_num), ← EReal.coe_mul, Ideal.log_coe, if_neg pos, Ideal.div_coe (by norm_num), ← EReal.coe_mul, ← EReal.coe_mul]
  have l0 : 0 ≤ Real.log ((w.toInt : ℝ) * (1 / 16)) := Real.log_nonneg (by linarith)
  have l1 : Real.log ((w.toInt : ℝ) * (1 / 16)) ≤ (w.toInt : ℝ) * (1 / 16) - 1 := Real.log_le_sub_one_of_pos (by linarith)
  generalize Real.log ((w.toInt : ℝ) * (1 / 16)) = l at l0 l1
  have y0 : 0 ≤ l * (1 / (8721810 / 4194304)) * 16 := by positivity
  have y1 : l * (1 / (8721810 / 4194304)) * 16 ≤ 2 ^ 30 * 1 := by nlinarith
  generalize l * (1 / (8721810 / 4194304)) * 16 = y at y0 y1
  unfold Ideal.fptosi
  rw [Ideal.toIntClamped_coe, if_pos y0]
  have f0 : 0 ≤ ⌊y⌋ := Int.floor_nonneg.2 y0
  have f1 : ⌊y⌋ ≤ 2 ^ 30 := by
    have : ((⌊y⌋ : ℤ) : ℝ) ≤ ((2 ^ 30 : ℤ) : ℝ) := (Int.floor_le y).trans (by push_cast; linarith)
    exact_mod_cast this
  generalize ⌊y⌋ = f at f0 f1
  have e : max (-((2 ^ (32 - 1) : Nat) : Int)) (min (((2 ^ (32 - 1) : Nat) : Int) - 1) f) = f := by norm_num at f1 ⊢; omega
  rw [e, BitVec.toInt_ofInt, Int.bmod_def]
  norm_num at f1 ⊢
  omega

/-- The bucket of a distance `d`, over words. -/
def bucketWord (d : BitVec 32) : BitVec 32 :=
  Scalar.select (IntOp.cmpi .slt (IntOp.maxsi d 0#32) 16#32) (IntOp.maxsi d 0#32)
    (IntOp.minsi (IntOp.addi 16#32 (Ideal.fptosi 32 (Ideal.div (Ideal.log (Ideal.div
      (((IntOp.maxsi (IntOp.maxsi d 0#32) 16#32).toInt : ℝ) : EReal) (Ideal.ofBits .f32 0x41800000#32))) (Ideal.ofBits .f32 0x40051592#32)
      * Ideal.ofBits .f32 0x41800000#32))) 31#32)

theorem bucketWord_range (d : BitVec 32) : 0 ≤ (bucketWord d).toInt ∧ (bucketWord d).toInt < 32 := by
  unfold bucketWord
  have e10 : (IntOp.maxsi d 0#32).toInt = max d.toInt 0 := maxsi_toInt _ _
  have e12 : (IntOp.maxsi (IntOp.maxsi d 0#32) 16#32).toInt = max (IntOp.maxsi d 0#32).toInt 16 := maxsi_toInt _ _
  generalize IntOp.maxsi (IntOp.maxsi d 0#32) 16#32 = v at e12
  have st := step_bound v (by omega)
  generalize Ideal.fptosi 32 _ = s at st
  generalize IntOp.maxsi d 0#32 = n at e10
  have e25 : (IntOp.minsi (IntOp.addi 16#32 s) 31#32).toInt = min (16#32 + s).toInt 31 := minsi_toInt _ _
  have es : (16#32 + s).toInt = 16 + s.toInt := by
    rw [BitVec.toInt_add, show (16#32 : BitVec 32).toInt = 16 from rfl, Int.bmod_def]
    norm_num at st ⊢
    omega
  rw [es] at e25
  generalize IntOp.minsi (IntOp.addi 16#32 s) 31#32 = q at e25
  rw [show IntOp.cmpi .slt n 16#32 = BitVec.ofBool (decide (n.toInt < 16)) from rfl]
  by_cases h : n.toInt < 16
  · rw [decide_eq_true h]
    show 0 ≤ n.toInt ∧ n.toInt < 32
    omega
  · rw [decide_eq_false h]
    show 0 ≤ q.toInt ∧ q.toInt < 32
    omega

theorem bucket_word (i : S128x256.Idx) : val_main_v28 (F := Ideal) i = bucketWord (val_main_v8 (F := Ideal) i) := by
  have c9 : val_main_v9 (F := Ideal) i = 0#32 := (val_main_v9_apply i).trans rfl
  have c11 : val_main_v11 (F := Ideal) i = 16#32 := (val_main_v11_apply i).trans rfl
  have c22 : val_main_v22 (F := Ideal) i = 16#32 := (val_main_v22_apply i).trans rfl
  have c24 : val_main_v24 (F := Ideal) i = 31#32 := (val_main_v24_apply i).trans rfl
  have c26 : val_main_v26 (F := Ideal) i = 16#32 := (val_main_v26_apply i).trans rfl
  have c14 : val_main_v14 (F := Ideal) i = Ideal.ofBits .f32 0x41800000#32 := (val_main_v14_apply i).trans rfl
  have c17 : val_main_v17 (F := Ideal) i = Ideal.ofBits .f32 0x40051592#32 := (val_main_v17_apply i).trans rfl
  have c19 : val_main_v19 (F := Ideal) i = Ideal.ofBits .f32 0x41800000#32 := (val_main_v19_apply i).trans rfl
  have l : val_main_v18 (F := Ideal) i = Ideal.div (Ideal.log (Ideal.div (((val_main_v12 (F := Ideal) i).toInt : ℝ) : EReal) (val_main_v14 (F := Ideal) i)))
      (val_main_v17 (F := Ideal) i) := rfl
  have f : val_main_v21 (F := Ideal) i = Ideal.fptosi 32 (val_main_v18 (F := Ideal) i * val_main_v19 (F := Ideal) i : EReal) := rfl
  rw [val_main_v28_apply, val_main_v27_apply, val_main_v25_apply, val_main_v23_apply, f, l, val_main_v12_apply, val_main_v10_apply,
    c9, c11, c22, c24, c26, c14, c17, c19]
  unfold bucketWord
  rfl

/-- Every bucket is one of thirty-two. -/
theorem bucket_range (i : S128x256.Idx) : 0 ≤ (val_main_v28 (F := Ideal) i).toInt ∧ (val_main_v28 (F := Ideal) i).toInt < 32 := by
  rw [bucket_word]
  exact bucketWord_range _

/-- The wrap of a negative index changes nothing. -/
theorem start_word (a : Fin 128) (b : Fin 256) : (val_main_v34 (F := Ideal) (ix3 a b (0 : Fin 1))).toInt = (val_main_v28 (F := Ideal) (ix2 a b)).toInt := by
  rw [val_main_v34_apply, show idx_main_v34 (ix3 a b (0 : Fin 1)) = ix2 a b from by
    refine funext fun x => ?_
    match x with
    | ⟨0, _⟩ => rfl
    | ⟨1, _⟩ => rfl]
  have h := (bucket_range (ix2 a b)).1
  have z : val_main_v29 (F := Ideal) (ix2 a b) = 0#32 := (val_main_v29_apply _).trans rfl
  rw [val_main_v33_apply, val_main_v30_apply, z]
  generalize val_main_v28 (F := Ideal) (ix2 a b) = n at h
  refine congrArg BitVec.toInt (Routing.wrap_of_lt n _ ?_)
  have e := BitVec.toInt_eq_toNat_cond n
  have l := n.isLt
  norm_num
  split_ifs at e <;> omega

/-- Where the entry `(a, b, h)` of the updates lands. -/
theorem lands (idx : IVec S128x256x1 32) (a : Fin 128) (b : Fin 256) (h : Fin 8) (r : Fin 32) (c : Fin 8) :
    scatter_S32x8_S128x256x1_S128x256x8_2_0_0_2.resultIdx? (ix3 a b h) idx = some (ix2 r c)
      ↔ (idx (ix3 a b (0 : Fin 1))).toInt = r.val ∧ h = c := by
  have w0 : scatter_S32x8_S128x256x1_S128x256x8_2_0_0_2.window (ix3 a b h) 0 = 0 := by
    unfold ScatterDims.window
    exact dif_neg fun k => (of_decide_eq_true (List.mem_filter.1 k).2) (List.mem_singleton.2 rfl)
  have w1 : scatter_S32x8_S128x256x1_S128x256x8_2_0_0_2.window (ix3 a b h) 1 = h.val := by
    unfold ScatterDims.window
    exact dif_pos (show (1 : Fin 2) ∈ S32x8.kept [0] by decide)
  have s1 : scatter_S32x8_S128x256x1_S128x256x8_2_0_0_2.start (ix3 a b h) idx 1 = 0 := by
    unfold ScatterDims.start
    exact dif_neg fun k => absurd (List.mem_singleton.1 k) (by decide : (1 : Fin 2) ≠ 0)
  have s0 : scatter_S32x8_S128x256x1_S128x256x8_2_0_0_2.start (ix3 a b h) idx 0 = (idx (ix3 a b (0 : Fin 1))).toInt := by
    unfold ScatterDims.start
    refine (dif_pos (show (0 : Fin 2) ∈ ([0] : List (Fin 2)) from List.mem_singleton.2 rfl)).trans ?_
    refine congrArg (fun k => (idx k).toInt) (funext fun x => ?_)
    match x with
    | ⟨0, _⟩ => rfl
    | ⟨1, _⟩ => rfl
    | ⟨2, _⟩ => rfl
  refine (Routing.resultIdx?_ix2 (R := 32) (C := 8) _ _ idx r c).trans ?_
  rw [Fin.ext_iff, s0, w0, s1, w1]
  omega

/-- The derivative: the sum over the entries of a bucket. -/
theorem table_apply (x1 : (⟨S8x128x256, .f32⟩ : BufTy).Contents (Elt Ideal)) (r : Fin 32) (c : Fin 8) :
    val_main_v39 (F := Ideal) x1 (ix2 r c)
      = ∑ a : Fin 128, ∑ b : Fin 256, if val_main_v28 (F := Ideal) (ix2 a b) = BitVec.ofNat 32 r.val then x1 (ix3 c a b) else (0 : EReal) := by
  have z : val_main_v38 (F := Ideal) (ix2 r c) = (0 : EReal) := by
    rw [val_main_v38_apply]
    exact Ideal.ofBits_zero_f32
  show val_main_v38 (F := Ideal) (ix2 r c) + ∑ j ∈ Finset.univ.filter (fun j =>
    scatter_S32x8_S128x256x1_S128x256x8_2_0_0_2.resultIdx? j (val_main_v34 (F := Ideal)) = some (ix2 r c)), val_main_v37 (F := Ideal) x1 j = _
  rw [z, zero_add, Finset.sum_filter, sum_idx3 (M := EReal)]
  refine Finset.sum_congr rfl fun a _ => Finset.sum_congr rfl fun b _ => ?_
  have w : ((val_main_v34 (F := Ideal) (ix3 a b (0 : Fin 1))).toInt = r.val) ↔ val_main_v28 (F := Ideal) (ix2 a b) = BitVec.ofNat 32 r.val := by
    have hr := r.isLt
    rw [start_word, ← BitVec.toInt_inj, show (BitVec.ofNat 32 r.val).toInt = r.val from by
      rw [BitVec.toInt_eq_toNat_of_lt] <;> rw [BitVec.toNat_ofNat, Nat.mod_eq_of_lt (by omega)]
      omega]
  have v (h : Fin 8) : val_main_v37 (F := Ideal) x1 (ix3 a b h) = x1 (ix3 h a b) := by
    rw [val_main_v37_apply]
    refine congrArg x1 (funext fun x => ?_)
    match x with
    | ⟨0, _⟩ => rfl
    | ⟨1, _⟩ => rfl
    | ⟨2, _⟩ => rfl
  simp only [lands, w, v]
  by_cases k : val_main_v28 (F := Ideal) (ix2 a b) = BitVec.ofNat 32 r.val
  · simp only [k, true_and, if_true]
    rw [Finset.sum_ite_eq' Finset.univ c, if_pos (Finset.mem_univ _)]
  · simp only [k, false_and, if_false, Finset.sum_const_zero]

/-- The derivative's program terminates and leaves its arguments as they were. -/
theorem frame : Cert.quiescent_TableRefIdeal (hTableRefIdeal := TableRefIdeal.Gen.facts) := fun m ρ _ =>
  (θ_run TableRefIdeal.defs _ _).mono (fun r hr => ⟨fun c => (hr c).2, sem_eq_zero_of_no_sems (by decide) r.2⟩) (run m ρ)

end Cert.TableRefIdeal.Value

/-! ## The call's array -/

namespace Cert.TableIdeal.Value

open Cert.TableIdeal Cert.TableIdeal.Gen Idealize.ShloMosaic Idealize.ShloMosaic.TcCoe Idealize.SL.Sem
open Idealize.ShloMosaic.StableHlo
open Idealize.ShloMosaic.Pipeline (Dat)

variable (m : (ℓ : Loc nD τ sig) → Buf (Elt Ideal) ℓ)

/-- The buckets that the call is given are those the derivative uses. -/
theorem V_bucket (c : Dev nD) : V m c main_v28 = (Cert.TableRefIdeal.Read.val_main_v28 (F := Ideal) : IVec S128x256 32) := by
  show after (List.flatten [hostOps0, hostOps0_1]) _ (Proc.devRef .tc main_v28) = _
  simp only [hostOps0, hostOps0_1, List.flatten_cons, List.flatten_nil, List.append_nil, List.cons_append, List.nil_append,
    TRef.ternary, TRef.toBuf, TRef.ofBuf, cast_eq]
  after_results_simp <;> rfl

/-- The sum of one head over the entries of one bucket. -/
def bucketSum (x1 : S8x128x256.Idx → EReal) (h : Fin 8) (n : ℕ) : EReal :=
  ∑ i : Fin 128, ∑ j : Fin 256, if Cert.TableRefIdeal.Read.val_main_v28 (F := Ideal) (ix2 i j) = BitVec.ofNat 32 n then x1 (ix3 h i j) else 0

theorem heads : ∀ t : Fin grid0.N, win0_0.index t = ![t.val, 0, 0] ∧ win0_1.index t = ![0, 0] ∧ win0_2.index t = ![t.val, 0, 0] := by decide +kernel

/-- The point of a head. -/
def pt (h : Fin 8) : Fin cfg0.N := ⟨h.val, by rw [show cfg0.N = 8 from N_0]; exact h.isLt⟩

/-- What the body leaves of a head. -/
def headOut (c : Dev nD) (h : Fin 8) (b : Fin 128) : EReal := out0_2 (iblk m c 0 (pt h)) (iblk m c 1 (pt h)) (ix3 (0 : Fin 1) (0 : Fin 1) b)

theorem headOut_eq (c : Dev nD) (h : Fin 8) (b : Fin 128) (hb : b.val < 32) :
    headOut m c h b = bucketSum (m ((c : Thread nD τ).loc main_arg1)) h b.val := by
  unfold headOut
  rw [block_apply _ _ b hb]
  unfold bucketSum
  refine Finset.sum_congr rfl fun i _ => Finset.sum_congr rfl fun j _ => ?_
  have e0 : iblk m c 0 (pt h) (ix3 (0 : Fin 1) i j) = (m ((c : Thread nD τ).loc main_arg1) : S8x128x256.Idx → EReal) (ix3 h i j) := by
    blk_simp [iblk]
    rw [V_main_arg1]
    refine congrArg (m ((c : Thread nD τ).loc main_arg1)) ?_
    have ep : (pt h).val = h.val := rfl
    blk_ext [(heads (pt h)).1, ep]
  have e1 : iblk m c 1 (pt h) (ix2 i j) = (Cert.TableRefIdeal.Read.val_main_v28 (F := Ideal) : IVec S128x256 32) (ix2 i j) := by
    blk_simp [iblk]
    rw [V_bucket]
    refine congrArg (Cert.TableRefIdeal.Read.val_main_v28 (F := Ideal)) ?_
    blk_ext [(heads (pt h)).2.1]
  rw [e0, e1]

/-- The array the region leaves. -/
theorem region_eq (c : Dev nD) : reg_main_v29 m c = fun i : S8x1x128.Idx => headOut m c (i 0) (i 2) := by
  refine (dats m 0 c).arrAt_eq_of_covers 2 _ (by decide +kernel) fun t hf y => ?_
  obtain ⟨p, q, l, rfl⟩ : ∃ (p : Fin 1) (q : Fin 1) (l : Fin 128), y = ix3 p q l := ⟨y 0, y 1, y 2, eq_ix3 y⟩
  obtain rfl : p = 0 := Subsingleton.elim _ _
  obtain rfl : q = 0 := Subsingleton.elim _ _
  have ht : t.val < 8 := lt_of_lt_of_eq t.isLt (show cfg0.N = 8 from N_0)
  blk_simp
  rw [after0_2]
  have e : ((cfg0.win 2).blk t).view.emb (ix3 (0 : Fin 1) (0 : Fin 1) l) = (ix3 (⟨t.val, ht⟩ : Fin 8) (0 : Fin 1) l : S8x1x128.Idx) := by
    blk_ext [(heads t).2.2]
  rw [e]
  rfl

/-- The result array. -/
def table (x1 : S8x128x256.Idx → EReal) : S32x8.Idx → EReal := fun i => bucketSum x1 (i 1) (i 0).val

theorem final_table (c : Dev nD) : Read.val_main_v32 (F := Ideal) (reg_main_v29 m c) = table (m ((c : Thread nD τ).loc main_arg1)) := by
  funext i
  obtain ⟨r, h, rfl⟩ : ∃ (r : Fin 32) (h : Fin 8), i = ix2 r h := ⟨i 0, i 1, eq_ix2 i⟩
  rw [Read.val_main_v32_apply, Read.val_main_v31_apply, Read.val_main_v30_apply, region_eq]
  have hr := r.isLt
  have hh := h.isLt
  refine Eq.trans ?_ (headOut_eq m c h ⟨r.val, by omega⟩ r.isLt)
  refine congrArg₂ (headOut m c) (Fin.ext ?_) (Fin.ext ?_)
  · show (h.val * 32 + r.val) / 32 = h.val
    omega
  · show (h.val * 32 + r.val) % 32 = r.val
    omega

end Cert.TableIdeal.Value

namespace Cert.TableIdeal

open Idealize.ShloMosaic Idealize.ShloMosaic.TcCoe Idealize.SL.Sem Cert.TableIdeal.Value

/-- Over the extended reals the call and the derivative leave the same array. -/
theorem algebraic : Cert.algebraic_TableIdeal_TableRefIdeal (hTableIdeal := Gen.facts) (hTableRefIdeal := TableRefIdeal.Gen.facts) := by
  intro m g m' g' _ h
  refine ⟨fun c => TableIdeal.Read.val_main_v32 (F := Ideal) (reg_main_v29 m c), Value.run m g, ?_⟩
  refine (TableRefIdeal.Value.run m' g').mono fun r hr c => ?_
  obtain ⟨hx, hargs⟩ := hr c
  obtain ⟨-, e1⟩ := h c
  refine ⟨hx.trans ?_, hargs⟩
  refine Eq.trans ?_ (final_table m c).symm
  refine (Cert.TableRefIdeal.Read.val_main_v39_eq m' c).trans (funext fun i => ?_)
  obtain ⟨r, d, rfl⟩ : ∃ (r : Fin 32) (d : Fin 8), i = ix2 r d := ⟨i 0, i 1, eq_ix2 i⟩
  rw [e1]
  exact TableRefIdeal.Value.table_apply _ r d

end Cert.TableIdeal

end
-- ==== Proof.BackBody.lean ====
/- The body of the call `ffn_bwd` at a grid point after the first: it adds to its five running sums what the point before
   left there, so they come with known contents; its other four results are overwritten whole. -/
module

public import proofs.«01_k».proof.Proof.Gen.BackIdeal.Frame.RunA

@[expose] public section

set_option maxRecDepth 16384

noncomputable section

namespace Cert.BackIdeal.Body

open Cert.BackIdeal Cert.BackIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ (UR sig nD τ) ℕ

variable (c : Dev nD) (i : grid0.Coords)
  (arg1 : Memref sig .tc .vmem S256x1024 .bf16) (h1 : arg1.IsWhole)
  (arg2 : Memref sig .tc .vmem S2816x1024 .bf16) (h2 : arg2.IsWhole)
  (arg3 : Memref sig .tc .vmem S256x2816 .bf16) (h3 : arg3.IsWhole)
  (arg4 : Memref sig .tc .vmem S256x2816 .bf16) (h4 : arg4.IsWhole)
  (arg5 : Memref sig .tc .vmem S5632x1024 .bf16) (h5 : arg5.IsWhole)
  (arg6 : Memref sig .tc .vmem S256x1024 .f32) (h6 : arg6.IsWhole)
  (arg7 : Memref sig .tc .vmem S256x1024 .f32) (h7 : arg7.IsWhole)
  (arg8 : Memref sig .tc .vmem S256x1024 .f32) (h8 : arg8.IsWhole)
  (arg9 : Memref sig .tc .vmem S256x1024 .f32) (h9 : arg9.IsWhole)
  (arg10 : Memref sig .tc .vmem S1x1024 .f32) (h10 : arg10.IsWhole)
  (arg11 : Memref sig .tc .vmem S1x1024 .f32) (h11 : arg11.IsWhole)
  (arg12 : Memref sig .tc .vmem S1x1024 .f32) (h12 : arg12.IsWhole)
  (arg13 : Memref sig .tc .vmem S256x2816 .bf16) (h13 : arg13.IsWhole)
  (arg14 : Memref sig .tc .vmem S256x2816 .bf16) (h14 : arg14.IsWhole)
  (arg15 : Memref sig .tc .vmem S256x1024 .f32) (h15 : arg15.IsWhole)
  (arg16 : Memref sig .tc .vmem S256x1024 .bf16) (h16 : arg16.IsWhole)
  (arg17 : Memref sig .tc .vmem S8x1024 .f32) (h17 : arg17.IsWhole)
  (arg18 : Memref sig .tc .vmem S8x1024 .f32) (h18 : arg18.IsWhole)
  (arg19 : Memref sig .tc .vmem S8x1024 .f32) (h19 : arg19.IsWhole)
  (arg20 : Memref sig .tc .vmem S8x1024 .f32) (h20 : arg20.IsWhole)
  (arg21 : Memref sig .tc .vmem S8x1024 .f32) (h21 : arg21.IsWhole)
variable (x0 : Vec F S256x1024 .bf16)
  (x1 : Vec F S2816x1024 .bf16)
  (x2 : Vec F S256x2816 .bf16)
  (x3 : Vec F S256x2816 .bf16)
  (x4 : Vec F S5632x1024 .bf16)
  (x5 : Vec F S256x1024 .f32)
  (x6 : Vec F S256x1024 .f32)
  (x7 : Vec F S256x1024 .f32)
  (x8 : Vec F S256x1024 .f32)
  (x9 : Vec F S1x1024 .f32)
  (x10 : Vec F S1x1024 .f32)
  (x11 : Vec F S1x1024 .f32)
variable (s0 : Vec F S8x1024 .f32) (s1 : Vec F S8x1024 .f32) (s2 : Vec F S8x1024 .f32) (s3 : Vec F S8x1024 .f32) (s4 : Vec F S8x1024 .f32)

/-- The twelve input buffers, whole, at their contents. -/
abbrev inputs : sProp 𝕄 :=
  iprop(owns (c : Thread nD τ) arg1 fullShare x0
    ∗ owns (c : Thread nD τ) arg2 fullShare x1
    ∗ owns (c : Thread nD τ) arg3 fullShare x2
    ∗ owns (c : Thread nD τ) arg4 fullShare x3
    ∗ owns (c : Thread nD τ) arg5 fullShare x4
    ∗ owns (c : Thread nD τ) arg6 fullShare x5
    ∗ owns (c : Thread nD τ) arg7 fullShare x6
    ∗ owns (c : Thread nD τ) arg8 fullShare x7
    ∗ owns (c : Thread nD τ) arg9 fullShare x8
    ∗ owns (c : Thread nD τ) arg10 fullShare x9
    ∗ owns (c : Thread nD τ) arg11 fullShare x10
    ∗ owns (c : Thread nD τ) arg12 fullShare x11)

set_option maxHeartbeats 6000000 in
/-- A later point's run: the stores each result's buffer ends with (last first), and that the body, called with the inputs
    at their blocks, the first four results at anything and the five sums at `s0 … s4`, ends with exactly those written. -/
def later (hc : ¬cond0_0 i) :
    Σ' (L0 : List (View.Piece (Elt F) S256x2816 .bf16)), Σ' (L1 : List (View.Piece (Elt F) S256x2816 .bf16)), Σ' (L2 : List (View.Piece (Elt F) S256x1024 .f32)), Σ' (L3 : List (View.Piece (Elt F) S256x1024 .bf16)), Σ' (L4 : List (View.Piece (Elt F) S8x1024 .f32)), Σ' (L5 : List (View.Piece (Elt F) S8x1024 .f32)), Σ' (L6 : List (View.Piece (Elt F) S8x1024 .f32)), Σ' (L7 : List (View.Piece (Elt F) S8x1024 .f32)),
    { L8 : List (View.Piece (Elt F) S8x1024 .f32) //
      ∀ (E : Set ℕ) (K : PUnit → sProp 𝕄),
        iprop(inputs c arg1 arg2 arg3 arg4 arg5 arg6 arg7 arg8 arg9 arg10 arg11 arg12 x0 x1 x2 x3 x4 x5 x6 x7 x8 x9 x10 x11
            ∗ (∃ d, owns (c : Thread nD τ) arg13 fullShare d)
            ∗ (∃ d, owns (c : Thread nD τ) arg14 fullShare d)
            ∗ (∃ d, owns (c : Thread nD τ) arg15 fullShare d)
            ∗ (∃ d, owns (c : Thread nD τ) arg16 fullShare d)
            ∗ owns (c : Thread nD τ) arg17 fullShare s0
            ∗ owns (c : Thread nD τ) arg18 fullShare s1
            ∗ owns (c : Thread nD τ) arg19 fullShare s2
            ∗ owns (c : Thread nD τ) arg20 fullShare s3
            ∗ owns (c : Thread nD τ) arg21 fullShare s4
            ∗ (iprop(inputs c arg1 arg2 arg3 arg4 arg5 arg6 arg7 arg8 arg9 arg10 arg11 arg12 x0 x1 x2 x3 x4 x5 x6 x7 x8 x9 x10 x11
                ∗ (∃ f, arg13.view.loc (c : Thread nD τ) ↦[arg13.view.set]{fullShare} arg13.view.writes (Elt F) f L0)
                ∗ (∃ f, arg14.view.loc (c : Thread nD τ) ↦[arg14.view.set]{fullShare} arg14.view.writes (Elt F) f L1)
                ∗ (∃ f, arg15.view.loc (c : Thread nD τ) ↦[arg15.view.set]{fullShare} arg15.view.writes (Elt F) f L2)
                ∗ (∃ f, arg16.view.loc (c : Thread nD τ) ↦[arg16.view.set]{fullShare} arg16.view.writes (Elt F) f L3)
                ∗ (∃ f, arg17.view.loc (c : Thread nD τ) ↦[arg17.view.set]{fullShare} arg17.view.writes (Elt F) f L4)
                ∗ (∃ f, arg18.view.loc (c : Thread nD τ) ↦[arg18.view.set]{fullShare} arg18.view.writes (Elt F) f L5)
                ∗ (∃ f, arg19.view.loc (c : Thread nD τ) ↦[arg19.view.set]{fullShare} arg19.view.writes (Elt F) f L6)
                ∗ (∃ f, arg20.view.loc (c : Thread nD τ) ↦[arg20.view.set]{fullShare} arg20.view.writes (Elt F) f L7)
                ∗ (∃ f, arg21.view.loc (c : Thread nD τ) ↦[arg21.view.set]{fullShare} arg21.view.writes (Elt F) f L8)) -∗ K ⟨⟩))
          ⊢ wp frame (wpE (defs₀ (F := F)) Variants.none c none) E (cc0_ffn_bwd i arg1 h1 arg2 h2 arg3 h3 arg4 h4 arg5 h5 arg6 h6 arg7 h7 arg8 h8 arg9 h9 arg10 h10 arg11 h11
              arg12 h12 arg13 h13 arg14 h14 arg15 h15 arg16 h16 arg17 h17 arg18 h18 arg19 h19 arg20 h20 arg21 h21) K } := by
  refine ⟨?_, ?_, ?_, ?_, ?_, ?_, ?_, ?_, ?_, fun E K => ?run⟩
  case run =>
    simp only [cc0_ffn_bwd_eq_skeleton]; unfold cc0_ffn_bwd_skel
    simp only [k0_part1_eq_skeleton, k0_part2_eq_skeleton, k0_part3_eq_skeleton]
    unfold inputs owns
    iintro ⟨⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩⟩,
      ⟨%d12, %f12, -, H12⟩, ⟨%d13, %f13, -, H13⟩, ⟨%d14, %f14, -, H14⟩, ⟨%d15, %f15, -, H15⟩,
      ⟨%f16, %hf16, H16⟩, ⟨%f17, %hf17, H17⟩, ⟨%f18, %hf18, H18⟩, ⟨%f19, %hf19, H19⟩, ⟨%f20, %hf20, H20⟩, Hk⟩
    obtain rfl := h1.eq_unread hf0
    obtain rfl := h2.eq_unread hf1
    obtain rfl := h3.eq_unread hf2
    obtain rfl := h4.eq_unread hf3
    obtain rfl := h5.eq_unread hf4
    obtain rfl := h6.eq_unread hf5
    obtain rfl := h7.eq_unread hf6
    obtain rfl := h8.eq_unread hf7
    obtain rfl := h9.eq_unread hf8
    obtain rfl := h10.eq_unread hf9
    obtain rfl := h11.eq_unread hf10
    obtain rfl := h12.eq_unread hf11
    obtain rfl := h17.eq_unread hf16
    obtain rfl := h18.eq_unread hf17
    obtain rfl := h19.eq_unread hf18
    obtain rfl := h20.eq_unread hf19
    obtain rfl := h21.eq_unread hf20
    sl_exec (disch := first | sl_exact hc)
    sl_step
    iapply Hk
    isplitl [H0 H1 H2 H3 H4 H5 H6 H7 H8 H9 H10 H11]
    · isplitl [H0]
      · iexists _; isplitr; · ipureintro; exact h1.read_unread _
        iexact H0
      isplitl [H1]
      · iexists _; isplitr; · ipureintro; exact h2.read_unread _
        iexact H1
      isplitl [H2]
      · iexists _; isplitr; · ipureintro; exact h3.read_unread _
        iexact H2
      isplitl [H3]
      · iexists _; isplitr; · ipureintro; exact h4.read_unread _
        iexact H3
      isplitl [H4]
      · iexists _; isplitr; · ipureintro; exact h5.read_unread _
        iexact H4
      isplitl [H5]
      · iexists _; isplitr; · ipureintro; exact h6.read_unread _
        iexact H5
      isplitl [H6]
      · iexists _; isplitr; · ipureintro; exact h7.read_unread _
        iexact H6
      isplitl [H7]
      · iexists _; isplitr; · ipureintro; exact h8.read_unread _
        iexact H7
      isplitl [H8]
      · iexists _; isplitr; · ipureintro; exact h9.read_unread _
        iexact H8
      isplitl [H9]
      · iexists _; isplitr; · ipureintro; exact h10.read_unread _
        iexact H9
      isplitl [H10]
      · iexists _; isplitr; · ipureintro; exact h11.read_unread _
        iexact H10
      iexists _; isplitr; · ipureintro; exact h12.read_unread _
      iexact H11
    isplitl [H12]; · iexists _; iexact H12
    isplitl [H13]; · iexists _; iexact H13
    isplitl [H14]; · iexists _; iexact H14
    isplitl [H15]; · iexists _; iexact H15
    isplitl [H16]; · iexists _; iexact H16
    isplitl [H17]; · iexists _; iexact H17
    isplitl [H18]; · iexists _; iexact H18
    isplitl [H19]; · iexists _; iexact H19
    iexists _; iexact H20

end Cert.BackIdeal.Body

end
-- ==== Proof.BackFrame.lean ====
/- The call `ffn_bwd` as a pipeline: what every grid point leaves in the staging buffers of its nine results, written as
   values of the point's input blocks, and from it the run of the whole program at any values. -/
module

public import proofs.«01_k».proof.Proof.BackBody
public import Idealize.ShloMosaic.Lib.Pipeline.ValueKit.Acc

@[expose] public section

set_option maxRecDepth 16384

noncomputable section

namespace Cert.BackIdeal.Body

open Cert.BackIdeal Cert.BackIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The values of a point -/

/-- The point's input blocks, by name. -/
abbrev bDy (c : Dev nD) (t : Fin cfg0.N) : Vec F S256x1024 .bf16 := iblk m c 0 t
abbrev bWd (c : Dev nD) (t : Fin cfg0.N) : Vec F S2816x1024 .bf16 := iblk m c 1 t
abbrev bDsu (c : Dev nD) (t : Fin cfg0.N) : Vec F S256x2816 .bf16 := iblk m c 2 t
abbrev bSg (c : Dev nD) (t : Fin cfg0.N) : Vec F S256x2816 .bf16 := iblk m c 3 t
abbrev bW (c : Dev nD) (t : Fin cfg0.N) : Vec F S5632x1024 .bf16 := iblk m c 4 t
abbrev bX1 (c : Dev nD) (t : Fin cfg0.N) : Vec F S256x1024 .f32 := iblk m c 5 t
abbrev bX (c : Dev nD) (t : Fin cfg0.N) : Vec F S256x1024 .f32 := iblk m c 6 t
abbrev bY (c : Dev nD) (t : Fin cfg0.N) : Vec F S256x1024 .f32 := iblk m c 7 t
abbrev bDz2 (c : Dev nD) (t : Fin cfg0.N) : Vec F S256x1024 .f32 := iblk m c 8 t
abbrev bSc (c : Dev nD) (t : Fin cfg0.N) : Vec F S1x1024 .f32 := iblk m c 9 t
abbrev bG1 (c : Dev nD) (t : Fin cfg0.N) : Vec F S1x1024 .f32 := iblk m c 10 t
abbrev bLg (c : Dev nD) (t : Fin cfg0.N) : Vec F S1x1024 .f32 := iblk m c 11 t

/-- The two halves of the first weight's block, as they are loaded. -/
abbrev bGate (c : Dev nD) (t : Fin cfg0.N) : Vec F S2816x1024 .bf16 :=
  View.ld (bW m c t) (Rect.unit ![0, 0] ![2816, 1024] inb_S5632x1024_S2816x1024_0_0)
abbrev bUp (c : Dev nD) (t : Fin cfg0.N) : Vec F S2816x1024 .bf16 :=
  View.ld (bW m c t) (Rect.unit ![2816, 0] ![2816, 1024] inb_S5632x1024_S2816x1024_2816_0)

/-- The gradient of the layer's input, and of the first normalised stream. -/
abbrev pDh (c : Dev nD) (t : Fin cfg0.N) : FVec F S256x1024 .f32 :=
  k0_pay12 (bDy m c t) (bWd m c t) (bDsu m c t) (bSg m c t) (bGate m c t) (bUp m c t)
abbrev pDx (c : Dev nD) (t : Fin cfg0.N) : FVec F S256x1024 .f32 := k0_pay17 (pDh m c t) (bSc m c t) (bDz2 m c t)

/-- The rows of the first residual sum: as they are summed for the mean, and the mean over every lane. -/
abbrev pZ (c : Dev nD) (t : Fin cfg0.N) : FVec F S256x1024 .f32 := k0_pay18 (bY m c t) (bG1 m c t) (bX m c t)
abbrev pMu (c : Dev nD) (t : Fin cfg0.N) : FVec F S256x1024 .f32 := k0_pay19 (bY m c t) (bG1 m c t) (bX m c t)

/-- Its inverse deviation and normalised rows, and the two parts of the gradient before it. -/
abbrev pRstd (c : Dev nD) (t : Fin cfg0.N) : FVec F S256x1 .f32 := k0_pay21 (pZ m c t) (pMu m c t)
abbrev pHat (c : Dev nD) (t : Fin cfg0.N) : FVec F S256x1024 .f32 := k0_pay22 (pZ m c t) (pMu m c t)
abbrev pPart (c : Dev nD) (t : Fin cfg0.N) : FVec F S256x1 .f32 := k0_pay26 (pDx m c t) (pZ m c t) (pMu m c t) (bLg m c t)
abbrev pRest (c : Dev nD) (t : Fin cfg0.N) : FVec F S256x1024 .f32 := k0_pay27 (pDx m c t) (bLg m c t)

/-- The four tiled results. -/
abbrev oGate (c : Dev nD) (t : Fin cfg0.N) : FVec F S256x2816 .bf16 := k0_pay10 (bDy m c t) (bWd m c t) (bDsu m c t)
abbrev oUp (c : Dev nD) (t : Fin cfg0.N) : FVec F S256x2816 .bf16 := k0_pay11 (bDy m c t) (bWd m c t) (bSg m c t)
abbrev oDz (c : Dev nD) (t : Fin cfg0.N) : FVec F S256x1024 .f32 :=
  k0_pay1 (pRstd m c t) (pHat m c t) (pPart m c t) (pRest m c t)
abbrev oDy (c : Dev nD) (t : Fin cfg0.N) : FVec F S256x1024 .bf16 :=
  k0_pay3 (k0_pay14 (bG1 m c t)) (pRstd m c t) (pHat m c t) (pPart m c t) (pRest m c t)

/-- Five running sums, each eight rows of lanes. -/
abbrev Sums (F : FTy → Type) : Type :=
  Vec F S8x1024 .f32 × Vec F S8x1024 .f32 × Vec F S8x1024 .f32 × Vec F S8x1024 .f32 × Vec F S8x1024 .f32

/-- What they start from, -/
abbrev zeros : Sums F := (k0_pay4, k0_pay5, k0_pay6, k0_pay7, k0_pay8)

/-- and a point's addition to them. -/
abbrev add (c : Dev nD) (t : Fin cfg0.N) (s : Sums F) : Sums F :=
  (k0_pay15 (pDh m c t) (k0_pay13 (bX1 m c t)) s.1, k0_pay16 (pDh m c t) s.2.1,
    k0_pay23 (pDx m c t) (pZ m c t) (pMu m c t) s.2.2.1, k0_pay24 (pDx m c t) s.2.2.2.1,
    k0_pay2 (bY m c t) (pRstd m c t) (pHat m c t) (pPart m c t) (pRest m c t) s.2.2.2.2)

/-- The sums after the point at position `n`. -/
def sumsAt (c : Dev nD) : (n : ℕ) → n < cfg0.N → Sums F
  | 0, h => add m c ⟨0, h⟩ zeros
  | n + 1, h => add m c ⟨n + 1, h⟩ (sumsAt c n (Nat.lt_of_succ_lt h))

theorem sums_first (c : Dev nD) (t : Fin cfg0.N) (h : t.val % 32 = 0) : sumsAt m c t.val t.isLt = add m c t zeros := by
  obtain ⟨n, hn⟩ := t
  have hN : n < 32 := lt_of_lt_of_eq hn (show cfg0.N = 32 from N_0)
  cases n with
  | zero => rfl
  | succ n => exact absurd h (by dsimp only; omega)

theorem sums_later (c : Dev nD) (t : Fin cfg0.N) (h : ¬t.val % 32 = 0) :
    sumsAt m c t.val t.isLt = add m c t (sumsAt m c (t.val - 1) (Nat.lt_of_le_of_lt (Nat.sub_le _ _) t.isLt)) := by
  obtain ⟨n, hn⟩ := t
  cases n with
  | zero => exact absurd (Nat.zero_mod _) h
  | succ n => rfl

/-! ## The pipeline's proof data -/

/-- The arrays as the region finds them; after a point every input's buffer at its block, every result's at its value. -/
def data (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => iblk m c 9 t
    | ⟨10, _⟩ => iblk m c 10 t
    | ⟨11, _⟩ => iblk m c 11 t
    | ⟨12, _⟩ => oGate m c t
    | ⟨13, _⟩ => oUp m c t
    | ⟨14, _⟩ => oDz m c t
    | ⟨15, _⟩ => oDy m c t
    | ⟨16, _⟩ => (sumsAt m c t.val t.isLt).1
    | ⟨17, _⟩ => (sumsAt m c t.val t.isLt).2.1
    | ⟨18, _⟩ => (sumsAt m c t.val t.isLt).2.2.1
    | ⟨19, _⟩ => (sumsAt m c t.val t.isLt).2.2.2.1
    | ⟨20, _⟩ => (sumsAt m c t.val t.isLt).2.2.2.2
    | ⟨_ + 21, h⟩ => absurd h (Nat.not_lt.2 (Nat.le_add_left _ _))
  Φ _ := Pipeline.ΦA spec0 c
  q _ := fullShare
  owed _ := 0

theorem A_eq (c : Dev nD) (w : Fin cfg0.W) : (data m 0 c).A w = V m c (Pipeline.arrRef spec0 w) := by dsimp only [data]

theorem after_12 (c : Dev nD) (t : Fin cfg0.N) : (data m 0 c).after 12 t = oGate m c t := by dsimp only [data]
theorem after_13 (c : Dev nD) (t : Fin cfg0.N) : (data m 0 c).after 13 t = oUp m c t := by dsimp only [data]
theorem after_14 (c : Dev nD) (t : Fin cfg0.N) : (data m 0 c).after 14 t = oDz m c t := by dsimp only [data]
theorem after_15 (c : Dev nD) (t : Fin cfg0.N) : (data m 0 c).after 15 t = oDy m c t := by dsimp only [data]
theorem after_16 (c : Dev nD) (t : Fin cfg0.N) : (data m 0 c).after 16 t = (sumsAt m c t.val t.isLt).1 := by dsimp only [data]
theorem after_17 (c : Dev nD) (t : Fin cfg0.N) : (data m 0 c).after 17 t = (sumsAt m c t.val t.isLt).2.1 := by dsimp only [data]
theorem after_18 (c : Dev nD) (t : Fin cfg0.N) : (data m 0 c).after 18 t = (sumsAt m c t.val t.isLt).2.2.1 := by dsimp only [data]
theorem after_19 (c : Dev nD) (t : Fin cfg0.N) : (data m 0 c).after 19 t = (sumsAt m c t.val t.isLt).2.2.2.1 := by dsimp only [data]
theorem after_20 (c : Dev nD) (t : Fin cfg0.N) : (data m 0 c).after 20 t = (sumsAt m c t.val t.isLt).2.2.2.2 := by dsimp only [data]

/-- An input's buffer holds its block when the body is called, whether or not the point fetches it. -/
theorem before_0 (c : Dev nD) (t : Fin cfg0.N) (d) : (data m 0 c).before 0 t d = iblk m c 0 t :=
  before0_0_of m (data m 0 c) (A_eq m c 0) (fun _ => by dsimp only [data]) t d
theorem before_1 (c : Dev nD) (t : Fin cfg0.N) (d) : (data m 0 c).before 1 t d = iblk m c 1 t :=
  before0_1_of m (data m 0 c) (A_eq m c 1) (fun _ => by dsimp only [data]) t d
theorem before_2 (c : Dev nD) (t : Fin cfg0.N) (d) : (data m 0 c).before 2 t d = iblk m c 2 t :=
  before0_2_of m (data m 0 c) (A_eq m c 2) (fun _ => by dsimp only [data]) t d
theorem before_3 (c : Dev nD) (t : Fin cfg0.N) (d) : (data m 0 c).before 3 t d = iblk m c 3 t :=
  before0_3_of m (data m 0 c) (A_eq m c 3) (fun _ => by dsimp only [data]) t d
theorem before_4 (c : Dev nD) (t : Fin cfg0.N) (d) : (data m 0 c).before 4 t d = iblk m c 4 t :=
  before0_4_of m (data m 0 c) (A_eq m c 4) (fun _ => by dsimp only [data]) t d
theorem before_5 (c : Dev nD) (t : Fin cfg0.N) (d) : (data m 0 c).before 5 t d = iblk m c 5 t :=
  before0_5_of m (data m 0 c) (A_eq m c 5) (fun _ => by dsimp only [data]) t d
theorem before_6 (c : Dev nD) (t : Fin cfg0.N) (d) : (data m 0 c).before 6 t d = iblk m c 6 t :=
  before0_6_of m (data m 0 c) (A_eq m c 6) (fun _ => by dsimp only [data]) t d
theorem before_7 (c : Dev nD) (t : Fin cfg0.N) (d) : (data m 0 c).before 7 t d = iblk m c 7 t :=
  before0_7_of m (data m 0 c) (A_eq m c 7) (fun _ => by dsimp only [data]) t d
theorem before_8 (c : Dev nD) (t : Fin cfg0.N) (d) : (data m 0 c).before 8 t d = iblk m c 8 t :=
  before0_8_of m (data m 0 c) (A_eq m c 8) (fun _ => by dsimp only [data]) t d
theorem before_9 (c : Dev nD) (t : Fin cfg0.N) (d) : (data m 0 c).before 9 t d = iblk m c 9 t :=
  before0_9_of m (data m 0 c) (A_eq m c 9) (fun _ => by dsimp only [data]) t d
theorem before_10 (c : Dev nD) (t : Fin cfg0.N) (d) : (data m 0 c).before 10 t d = iblk m c 10 t :=
  before0_10_of m (data m 0 c) (A_eq m c 10) (fun _ => by dsimp only [data]) t d
theorem before_11 (c : Dev nD) (t : Fin cfg0.N) (d) : (data m 0 c).before 11 t d = iblk m c 11 t :=
  before0_11_of m (data m 0 c) (A_eq m c 11) (fun _ => by dsimp only [data]) t d

/-- A sum's buffer is not written back between the points, so a later point finds what the one before left. -/
theorem before_16 (c : Dev nD) (t : Fin cfg0.N) (h : ¬t.val % 32 = 0) (d) : (data m 0 c).before 16 t d
    = (sumsAt m c (t.val - 1) (Nat.lt_of_le_of_lt (Nat.sub_le _ _) t.isLt)).1 := by
  have hN : t.val < 32 := lt_of_lt_of_eq t.isLt (show cfg0.N = 32 from N_0)
  rw [Dat.before_out_kept _ 16 rfl t (by omega) (Bool.eq_false_iff.mpr fun e => by have := (flush0_16 _).mp e; dsimp only at this; omega)
    (fun _ => rfl) (fun _ _ => rfl)]
  dsimp only [data]
theorem before_17 (c : Dev nD) (t : Fin cfg0.N) (h : ¬t.val % 32 = 0) (d) : (data m 0 c).before 17 t d
    = (sumsAt m c (t.val - 1) (Nat.lt_of_le_of_lt (Nat.sub_le _ _) t.isLt)).2.1 := by
  have hN : t.val < 32 := lt_of_lt_of_eq t.isLt (show cfg0.N = 32 from N_0)
  rw [Dat.before_out_kept _ 17 rfl t (by omega) (Bool.eq_false_iff.mpr fun e => by have := (flush0_17 _).mp e; dsimp only at this; omega)
    (fun _ => rfl) (fun _ _ => rfl)]
  dsimp only [data]
theorem before_18 (c : Dev nD) (t : Fin cfg0.N) (h : ¬t.val % 32 = 0) (d) : (data m 0 c).before 18 t d
    = (sumsAt m c (t.val - 1) (Nat.lt_of_le_of_lt (Nat.sub_le _ _) t.isLt)).2.2.1 := by
  have hN : t.val < 32 := lt_of_lt_of_eq t.isLt (show cfg0.N = 32 from N_0)
  rw [Dat.before_out_kept _ 18 rfl t (by omega) (Bool.eq_false_iff.mpr fun e => by have := (flush0_18 _).mp e; dsimp only at this; omega)
    (fun _ => rfl) (fun _ _ => rfl)]
  dsimp only [data]
theorem before_19 (c : Dev nD) (t : Fin cfg0.N) (h : ¬t.val % 32 = 0) (d) : (data m 0 c).before 19 t d
    = (sumsAt m c (t.val - 1) (Nat.lt_of_le_of_lt (Nat.sub_le _ _) t.isLt)).2.2.2.1 := by
  have hN : t.val < 32 := lt_of_lt_of_eq t.isLt (show cfg0.N = 32 from N_0)
  rw [Dat.before_out_kept _ 19 rfl t (by omega) (Bool.eq_false_iff.mpr fun e => by have := (flush0_19 _).mp e; dsimp only at this; omega)
    (fun _ => rfl) (fun _ _ => rfl)]
  dsimp only [data]
theorem before_20 (c : Dev nD) (t : Fin cfg0.N) (h : ¬t.val % 32 = 0) (d) : (data m 0 c).before 20 t d
    = (sumsAt m c (t.val - 1) (Nat.lt_of_le_of_lt (Nat.sub_le _ _) t.isLt)).2.2.2.2 := by
  have hN : t.val < 32 := lt_of_lt_of_eq t.isLt (show cfg0.N = 32 from N_0)
  rw [Dat.before_out_kept _ 20 rfl t (by omega) (Bool.eq_false_iff.mpr fun e => by have := (flush0_20 _).mp e; dsimp only at this; omega)
    (fun _ => rfl) (fun _ _ => rfl)]
  dsimp only [data]

/-! ## The body at a point -/

/-- The buffers the body is called with at point `t`, -/
def given (c : Dev nD) (t : Fin cfg0.N) : sProp 𝕄 :=
  iprop((data m 0 c).Φ t.castSucc ∗ (data m 0 c).owesAt () t.castSucc
    ∗ (∃ d, owns (c : Thread nD τ) (ms0_0 t) fullShare ((data m 0 c).before 0 t d))
    ∗ (∃ d, owns (c : Thread nD τ) (ms0_1 t) fullShare ((data m 0 c).before 1 t d))
    ∗ (∃ d, owns (c : Thread nD τ) (ms0_2 t) fullShare ((data m 0 c).before 2 t d))
    ∗ (∃ d, owns (c : Thread nD τ) (ms0_3 t) fullShare ((data m 0 c).before 3 t d))
    ∗ (∃ d, owns (c : Thread nD τ) (ms0_4 t) fullShare ((data m 0 c).before 4 t d))
    ∗ (∃ d, owns (c : Thread nD τ) (ms0_5 t) fullShare ((data m 0 c).before 5 t d))
    ∗ (∃ d, owns (c : Thread nD τ) (ms0_6 t) fullShare ((data m 0 c).before 6 t d))
    ∗ (∃ d, owns (c : Thread nD τ) (ms0_7 t) fullShare ((data m 0 c).before 7 t d))
    ∗ (∃ d, owns (c : Thread nD τ) (ms0_8 t) fullShare ((data m 0 c).before 8 t d))
    ∗ (∃ d, owns (c : Thread nD τ) (ms0_9 t) fullShare ((data m 0 c).before 9 t d))
    ∗ (∃ d, owns (c : Thread nD τ) (ms0_10 t) fullShare ((data m 0 c).before 10 t d))
    ∗ (∃ d, owns (c : Thread nD τ) (ms0_11 t) fullShare ((data m 0 c).before 11 t d))
    ∗ (∃ d, owns (c : Thread nD τ) (ms0_12 t) fullShare ((data m 0 c).before 12 t d))
    ∗ (∃ d, owns (c : Thread nD τ) (ms0_13 t) fullShare ((data m 0 c).before 13 t d))
    ∗ (∃ d, owns (c : Thread nD τ) (ms0_14 t) fullShare ((data m 0 c).before 14 t d))
    ∗ (∃ d, owns (c : Thread nD τ) (ms0_15 t) fullShare ((data m 0 c).before 15 t d))
    ∗ (∃ d, owns (c : Thread nD τ) (ms0_16 t) fullShare ((data m 0 c).before 16 t d))
    ∗ (∃ d, owns (c : Thread nD τ) (ms0_17 t) fullShare ((data m 0 c).before 17 t d))
    ∗ (∃ d, owns (c : Thread nD τ) (ms0_18 t) fullShare ((data m 0 c).before 18 t d))
    ∗ (∃ d, owns (c : Thread nD τ) (ms0_19 t) fullShare ((data m 0 c).before 19 t d))
    ∗ (∃ d, owns (c : Thread nD τ) (ms0_20 t) fullShare ((data m 0 c).before 20 t d)))

/-- and the buffers it returns. -/
def left (c : Dev nD) (t : Fin cfg0.N) : sProp 𝕄 :=
  iprop((data m 0 c).Φ t.succ ∗ (data m 0 c).owesAt () t.succ
    ∗ owns (c : Thread nD τ) (ms0_0 t) fullShare ((data m 0 c).after 0 t)
    ∗ owns (c : Thread nD τ) (ms0_1 t) fullShare ((data m 0 c).after 1 t)
    ∗ owns (c : Thread nD τ) (ms0_2 t) fullShare ((data m 0 c).after 2 t)
    ∗ owns (c : Thread nD τ) (ms0_3 t) fullShare ((data m 0 c).after 3 t)
    ∗ owns (c : Thread nD τ) (ms0_4 t) fullShare ((data m 0 c).after 4 t)
    ∗ owns (c : Thread nD τ) (ms0_5 t) fullShare ((data m 0 c).after 5 t)
    ∗ owns (c : Thread nD τ) (ms0_6 t) fullShare ((data m 0 c).after 6 t)
    ∗ owns (c : Thread nD τ) (ms0_7 t) fullShare ((data m 0 c).after 7 t)
    ∗ owns (c : Thread nD τ) (ms0_8 t) fullShare ((data m 0 c).after 8 t)
    ∗ owns (c : Thread nD τ) (ms0_9 t) fullShare ((data m 0 c).after 9 t)
    ∗ owns (c : Thread nD τ) (ms0_10 t) fullShare ((data m 0 c).after 10 t)
    ∗ owns (c : Thread nD τ) (ms0_11 t) fullShare ((data m 0 c).after 11 t)
    ∗ owns (c : Thread nD τ) (ms0_12 t) fullShare ((data m 0 c).after 12 t)
    ∗ owns (c : Thread nD τ) (ms0_13 t) fullShare ((data m 0 c).after 13 t)
    ∗ owns (c : Thread nD τ) (ms0_14 t) fullShare ((data m 0 c).after 14 t)
    ∗ owns (c : Thread nD τ) (ms0_15 t) fullShare ((data m 0 c).after 15 t)
    ∗ owns (c : Thread nD τ) (ms0_16 t) fullShare ((data m 0 c).after 16 t)
    ∗ owns (c : Thread nD τ) (ms0_17 t) fullShare ((data m 0 c).after 17 t)
    ∗ owns (c : Thread nD τ) (ms0_18 t) fullShare ((data m 0 c).after 18 t)
    ∗ owns (c : Thread nD τ) (ms0_19 t) fullShare ((data m 0 c).after 19 t)
    ∗ owns (c : Thread nD τ) (ms0_20 t) fullShare ((data m 0 c).after 20 t))

set_option maxHeartbeats 8000000 in
/-- The body turns the one into the other: the first point by the run over fresh sums, a later one by `later`. -/
theorem sound (c : Dev nD) (t : Fin cfg0.N) :
    given m c t ⊢ wp frame (wpE (defs₀ (F := F)) Variants.none c none) Set.univ (bodyAt0 t) (fun _ => left m c t) := by
  unfold given left bodyAt0
  simp only [before_0, before_1, before_2, before_3, before_4, before_5, before_6, before_7, before_8, before_9, before_10, before_11]
  rw [show (data m 0 c).Φ t.succ = (data m 0 c).Φ t.castSucc from rfl,
    show (data m 0 c).owesAt () t.succ = (data m 0 c).owesAt () t.castSucc from rfl,
    after_12, after_13, after_14, after_15, after_16, after_17, after_18, after_19, after_20]
  by_cases h0 : t.val % 32 = 0
  · rw [sums_first m c t h0]
    iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩, ⟨%d16, H16⟩, ⟨%d17, H17⟩, ⟨%d18, H18⟩, ⟨%d19, H19⟩, ⟨%d20, H20⟩⟩
    iapply ((kernelRun0_A c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) (ms0_20 t) (hs0_20 t) ((hcond0_0 t).mpr h0) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t)).2.2.2.2.2.2.2.2.2 Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexists _; iexact H12
    isplitl [H13]; · iexists _; iexact H13
    isplitl [H14]; · iexists _; iexact H14
    isplitl [H15]; · iexists _; iexact H15
    isplitl [H16]; · iexists _; iexact H16
    isplitl [H17]; · iexists _; iexact H17
    isplitl [H18]; · iexists _; iexact H18
    isplitl [H19]; · iexists _; iexact H19
    isplitl [H20]; · iexists _; iexact H20
    iintro ⟨H0, H1, H2, H3, H4, H5, H6, H7, H8, H9, H10, H11, H12, H13, H14, H15, H16, H17, H18, H19, H20⟩
    isplitl [HΦ]; · iexact HΦ
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]
    · icases H12 with ⟨%f, H12⟩; unfold owns; iexists _; isplitr; swap; · iexact H12
      ipureintro; exact (View.read_writes_eq_canon _ _ _ (View.cover_of_tiledL _ S256x2816.size (by sl_kernel_rfl))).trans (by frame_out)
    isplitl [H13]
    · icases H13 with ⟨%f, H13⟩; unfold owns; iexists _; isplitr; swap; · iexact H13
      ipureintro; exact (View.read_writes_eq_canon _ _ _ (View.cover_of_tiledL _ S256x2816.size (by sl_kernel_rfl))).trans (by frame_out)
    isplitl [H14]
    · icases H14 with ⟨%f, H14⟩; unfold owns; iexists _; isplitr; swap; · iexact H14
      ipureintro; exact (View.read_writes_eq_canon _ _ _ (View.cover_of_tiledL _ S256x1024.size (by sl_kernel_rfl))).trans (by frame_out)
    isplitl [H15]
    · icases H15 with ⟨%f, H15⟩; unfold owns; iexists _; isplitr; swap; · iexact H15
      ipureintro; exact (View.read_writes_eq_canon _ _ _ (View.cover_of_tiledL _ S256x1024.size (by sl_kernel_rfl))).trans (by frame_out)
    isplitl [H16]
    · icases H16 with ⟨%f, H16⟩; unfold owns; iexists _; isplitr; swap; · iexact H16
      ipureintro; exact (View.read_writes_eq_canon _ _ _ (View.cover_of_tiledL _ S8x1024.size (by sl_kernel_rfl))).trans (by frame_out)
    isplitl [H17]
    · icases H17 with ⟨%f, H17⟩; unfold owns; iexists _; isplitr; swap; · iexact H17
      ipureintro; exact (View.read_writes_eq_canon _ _ _ (View.cover_of_tiledL _ S8x1024.size (by sl_kernel_rfl))).trans (by frame_out)
    isplitl [H18]
    · icases H18 with ⟨%f, H18⟩; unfold owns; iexists _; isplitr; swap; · iexact H18
      ipureintro; exact (View.read_writes_eq_canon _ _ _ (View.cover_of_tiledL _ S8x1024.size (by sl_kernel_rfl))).trans (by frame_out)
    isplitl [H19]
    · icases H19 with ⟨%f, H19⟩; unfold owns; iexists _; isplitr; swap; · iexact H19
      ipureintro; exact (View.read_writes_eq_canon _ _ _ (View.cover_of_tiledL _ S8x1024.size (by sl_kernel_rfl))).trans (by frame_out)
    icases H20 with ⟨%f, H20⟩; unfold owns; iexists _; isplitr; swap; · iexact H20
    ipureintro; exact (View.read_writes_eq_canon _ _ _ (View.cover_of_tiledL _ S8x1024.size (by sl_kernel_rfl))).trans (by frame_out)
  · rw [sums_later m c t h0]
    simp only [before_16 m c t h0, before_17 m c t h0, before_18 m c t h0, before_19 m c t h0, before_20 m c t h0]
    iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩, ⟨%d16, H16⟩, ⟨%d17, H17⟩, ⟨%d18, H18⟩, ⟨%d19, H19⟩, ⟨%d20, H20⟩⟩
    iapply ((later c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) (ms0_20 t) (hs0_20 t) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) _ _ _ _ _ (fun h => h0 ((hcond0_0 t).mp h))).2.2.2.2.2.2.2.2.2 Set.univ _)
    isplitl [H0 H1 H2 H3 H4 H5 H6 H7 H8 H9 H10 H11]
    · unfold inputs
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [H10]; · iexact H10
      iexact H11
    isplitl [H12]; · iexists _; iexact H12
    isplitl [H13]; · iexists _; iexact H13
    isplitl [H14]; · iexists _; iexact H14
    isplitl [H15]; · iexists _; iexact H15
    isplitl [H16]; · iexact H16
    isplitl [H17]; · iexact H17
    isplitl [H18]; · iexact H18
    isplitl [H19]; · iexact H19
    isplitl [H20]; · iexact H20
    unfold inputs
    iintro ⟨⟨H0, H1, H2, H3, H4, H5, H6, H7, H8, H9, H10, H11⟩, H12, H13, H14, H15, H16, H17, H18, H19, H20⟩
    isplitl [HΦ]; · iexact HΦ
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]
    · icases H12 with ⟨%f, H12⟩; unfold owns; iexists _; isplitr; swap; · iexact H12
      ipureintro; exact (View.read_writes_eq_canon _ _ _ (View.cover_of_tiledL _ S256x2816.size (by sl_kernel_rfl))).trans (by frame_out)
    isplitl [H13]
    · icases H13 with ⟨%f, H13⟩; unfold owns; iexists _; isplitr; swap; · iexact H13
      ipureintro; exact (View.read_writes_eq_canon _ _ _ (View.cover_of_tiledL _ S256x2816.size (by sl_kernel_rfl))).trans (by frame_out)
    isplitl [H14]
    · icases H14 with ⟨%f, H14⟩; unfold owns; iexists _; isplitr; swap; · iexact H14
      ipureintro; exact (View.read_writes_eq_canon _ _ _ (View.cover_of_tiledL _ S256x1024.size (by sl_kernel_rfl))).trans (by frame_out)
    isplitl [H15]
    · icases H15 with ⟨%f, H15⟩; unfold owns; iexists _; isplitr; swap; · iexact H15
      ipureintro; exact (View.read_writes_eq_canon _ _ _ (View.cover_of_tiledL _ S256x1024.size (by sl_kernel_rfl))).trans (by frame_out)
    isplitl [H16]
    · icases H16 with ⟨%f, H16⟩; unfold owns; iexists _; isplitr; swap; · iexact H16
      ipureintro; exact (View.read_writes_eq_canon _ _ _ (View.cover_of_tiledL _ S8x1024.size (by sl_kernel_rfl))).trans (by frame_out)
    isplitl [H17]
    · icases H17 with ⟨%f, H17⟩; unfold owns; iexists _; isplitr; swap; · iexact H17
      ipureintro; exact (View.read_writes_eq_canon _ _ _ (View.cover_of_tiledL _ S8x1024.size (by sl_kernel_rfl))).trans (by frame_out)
    isplitl [H18]
    · icases H18 with ⟨%f, H18⟩; unfold owns; iexists _; isplitr; swap; · iexact H18
      ipureintro; exact (View.read_writes_eq_canon _ _ _ (View.cover_of_tiledL _ S8x1024.size (by sl_kernel_rfl))).trans (by frame_out)
    isplitl [H19]
    · icases H19 with ⟨%f, H19⟩; unfold owns; iexists _; isplitr; swap; · iexact H19
      ipureintro; exact (View.read_writes_eq_canon _ _ _ (View.cover_of_tiledL _ S8x1024.size (by sl_kernel_rfl))).trans (by frame_out)
    icases H20 with ⟨%f, H20⟩; unfold owns; iexists _; isplitr; swap; · iexact H20
    ipureintro; exact (View.read_writes_eq_canon _ _ _ (View.cover_of_tiledL _ S8x1024.size (by sl_kernel_rfl))).trans (by frame_out)

/-- The body table's row at point `t`'s slots is the body as `bodyAt0` spells it. -/
theorem row (t : Fin cfg0.N) : defs₀ (F := F) .tc cfg0.body (cfg0.bodyArgs t (cfg0.slots t)) = bodyAt0 t := by
  unfold defs₀; rw [Defs.onTc_tc]

set_option maxHeartbeats 4000000 in
theorem obligation (c : Dev nD) : BodyObligation (data (F := F) m 0 c) (defs₀ (F := F)) Variants.none () Set.univ := fun t => by
  rw [bigSep_W0, bigSep_W0, row]
  exact triple_restated (sound m c t) rfl .rfl fun _ => .rfl

/-! ## The run -/

set_option backward.isDefEq.respectTransparency.types false in
set_option maxHeartbeats 1600000 in
/-- Every execution of the program ends, with the region's arrays at what the points leave, the lines after it applied,
    and every semaphore counter at zero. -/
theorem run_quiescent : θ_run defs (onTc (τ := τ) (main (F := F))) (s₀ m ρ)
    (fun r => (Pipeline.FramePost cfgs (data m) 0 (Pipeline.afterTail₀ cfgs (data m) 0 (V0 m) [hostOps1])) r ∧ r.2.sem = fun _ => 0) :=
  Pipeline.θ_run_frame_around (Q' := _) cfgs (data m) (0 : Fin 1) launch0 defs₀ Variants.none m ρ main
    (hbody := fun c => (obligation m c).loose) (hshare := fun c => (data m 0 c).share_full fun _ => rfl)
    (howed := fun _ _ => rfl) (V₀ := V0 m) (opss := [hostOps1]) (hsub := sfx_sub) (hfresh := sfx_fresh) (hkeep := sfx_keeps)
    (hmain := hmain m Variants.none) (hA := A_eq m) (hΦ := fun _ _ => rfl)

theorem run_main : θ_run defs (onTc (τ := τ) (main (F := F))) (s₀ m ρ)
    (Pipeline.FramePost cfgs (data m) 0 (Pipeline.afterTail₀ cfgs (data m) 0 (V0 m) [hostOps1])) :=
  (θ_run defs _ _).mono (fun _ h => h.1) (run_quiescent m ρ)

end Cert.BackIdeal.Body

end
-- ==== Proof.BackRun.lean ====
/- The run of the call `ffn_bwd` with the operations after it: its nine results as values of the arrays the region leaves,
   its arguments unchanged and its counters at zero, at any values. -/
module

public import proofs.«01_k».proof.Proof.BackFrame
public import proofs.«01_k».proof.Proof.Gen.BackIdeal.Frame.Runs

@[expose] public section

set_option maxRecDepth 16384

noncomputable section

namespace Cert.BackIdeal.Body

open Cert.BackIdeal Cert.BackIdeal.Gen
open Idealize.ShloMosaic Idealize.ShloMosaic.TcCoe Idealize.SL.Sem Idealize.ShloMosaic.StableHlo

variable {F : FTy → Type} [FloatOps F]
variable (m : (ℓ : Loc nD τ sig) → Buf (Elt F) ℓ) (ρ : Dev nD → PrngReg)

/-- The arrays as the region leaves them. -/
abbrev left12 (c : Dev nD) : Vec F S8192x2816 .bf16 := (data m 0 c).arrAt 12 cfg0.N
abbrev left13 (c : Dev nD) : Vec F S8192x2816 .bf16 := (data m 0 c).arrAt 13 cfg0.N
abbrev left14 (c : Dev nD) : Vec F S8192x1024 .f32 := (data m 0 c).arrAt 14 cfg0.N
abbrev left15 (c : Dev nD) : Vec F S8192x1024 .bf16 := (data m 0 c).arrAt 15 cfg0.N
abbrev left16 (c : Dev nD) : Vec F S8x1024 .f32 := (data m 0 c).arrAt 16 cfg0.N
abbrev left17 (c : Dev nD) : Vec F S8x1024 .f32 := (data m 0 c).arrAt 17 cfg0.N
abbrev left18 (c : Dev nD) : Vec F S8x1024 .f32 := (data m 0 c).arrAt 18 cfg0.N
abbrev left19 (c : Dev nD) : Vec F S8x1024 .f32 := (data m 0 c).arrAt 19 cfg0.N
abbrev left20 (c : Dev nD) : Vec F S8x1024 .f32 := (data m 0 c).arrAt 20 cfg0.N

/-- The sum over the eight rows of a running sum, as the operations after the call take it. -/
abbrev rowsSum (y : Vec F S8x1024 .f32) : FVec F S1024 .f32 :=
  Host.reduceAdd y (constant S_ .f32 0x00000000#32) reducesTo_S8x1024_S1024_d0 h_S_

/-- The contents of every buffer after the region, before the operations that follow. -/
abbrev exitV (c : Dev nD) : Valuation τ sig (Elt F) :=
  Pipeline.withArrays spec0 c (V0 m c) fun w => (data m 0 c).arrAt w cfg0.N

theorem exit_at (c : Dev nD) (w : Fin cfg0.W) : exitV m c (Proc.devRef .tc (Pipeline.arrRef spec0 w)) = (data m 0 c).arrAt w cfg0.N :=
  Pipeline.withArrays_arr spec0 launch0.win.arr_inj c (V0 m c) _ w

/-- The operations after the region, from any contents. -/
theorem tail_rows (W : Valuation τ sig (Elt F)) :
    after (List.flatten [hostOps1]) W (Proc.devRef .tc main_v65) = extf .f32 (W (Proc.devRef .tc main_v64_0)) bitsLt_bf16_f32
    ∧ after (List.flatten [hostOps1]) W (Proc.devRef .tc main_v66) = extf .f32 (W (Proc.devRef .tc main_v64_1)) bitsLt_bf16_f32
    ∧ after (List.flatten [hostOps1]) W (Proc.devRef .tc main_v67) = extf .f32 (W (Proc.devRef .tc main_v64_3)) bitsLt_bf16_f32 := by
  simp only [hostOps1, List.flatten_cons, List.flatten_nil, List.append_nil, List.cons_append, List.nil_append]
  refine ⟨?_, ?_, ?_⟩ <;> after_results

theorem tail_sums (W : Valuation τ sig (Elt F)) :
    after (List.flatten [hostOps1]) W (Proc.devRef .tc main_v68) = rowsSum (W (Proc.devRef .tc main_v64_8))
    ∧ after (List.flatten [hostOps1]) W (Proc.devRef .tc main_v69) = rowsSum (W (Proc.devRef .tc main_v64_6))
    ∧ after (List.flatten [hostOps1]) W (Proc.devRef .tc main_v70) = rowsSum (W (Proc.devRef .tc main_v64_7))
    ∧ after (List.flatten [hostOps1]) W (Proc.devRef .tc main_v71) = rowsSum (W (Proc.devRef .tc main_v64_4))
    ∧ after (List.flatten [hostOps1]) W (Proc.devRef .tc main_v72) = rowsSum (W (Proc.devRef .tc main_v64_5)) := by
  simp only [hostOps1, List.flatten_cons, List.flatten_nil, List.append_nil, List.cons_append, List.nil_append]
  refine ⟨?_, ?_, ?_, ?_, ?_⟩ <;> after_results

/-- A result of those operations, in the memory at the end. -/
theorem at_end {r : PUnit × MemSt nD τ sig (Elt F)} (h : Pipeline.FramePost cfgs (data m) 0 (Pipeline.afterTail₀ cfgs (data m) 0 (V0 m) [hostOps1]) r)
    (c : Dev nD) (b : Ref sig .tc) (hb : b ∈ Pipeline.restRefs sig spec0) :
    r.2.mem ((c.tc : Thread nD τ).loc b) = after (List.flatten [hostOps1]) (exitV m c) (Proc.devRef .tc b) :=
  (h c).2 b hb

/-- Every execution ends with the nine results at these values. -/
theorem run_results : θ_run defs (onTc (τ := τ) (main (F := F))) ⟨m, fun _ => 0, ρ⟩ (fun r => ∀ c : Dev nD,
      r.2.mem ((c.tc : Thread nD τ).loc main_v65) = extf .f32 (left12 m c) bitsLt_bf16_f32
      ∧ r.2.mem ((c.tc : Thread nD τ).loc main_v66) = extf .f32 (left13 m c) bitsLt_bf16_f32
      ∧ r.2.mem ((c.tc : Thread nD τ).loc main_v64_2) = left14 m c
      ∧ r.2.mem ((c.tc : Thread nD τ).loc main_v67) = extf .f32 (left15 m c) bitsLt_bf16_f32
      ∧ r.2.mem ((c.tc : Thread nD τ).loc main_v68) = rowsSum (left20 m c)
      ∧ r.2.mem ((c.tc : Thread nD τ).loc main_v69) = rowsSum (left18 m c)
      ∧ r.2.mem ((c.tc : Thread nD τ).loc main_v70) = rowsSum (left19 m c)
      ∧ r.2.mem ((c.tc : Thread nD τ).loc main_v71) = rowsSum (left16 m c)
      ∧ r.2.mem ((c.tc : Thread nD τ).loc main_v72) = rowsSum (left17 m c)) :=
  (θ_run defs _ _).mono (fun r h c => by
    refine ⟨(at_end m h c main_v65 (Pipeline.mem_restRefs_of main_v65 (by decide) (by decide))).trans ((tail_rows (exitV m c)).1.trans ?_),
      (at_end m h c main_v66 (Pipeline.mem_restRefs_of main_v66 (by decide) (by decide))).trans ((tail_rows (exitV m c)).2.1.trans ?_),
      (h c).1 14,
      (at_end m h c main_v67 (Pipeline.mem_restRefs_of main_v67 (by decide) (by decide))).trans ((tail_rows (exitV m c)).2.2.trans ?_),
      (at_end m h c main_v68 (Pipeline.mem_restRefs_of main_v68 (by decide) (by decide))).trans ((tail_sums (exitV m c)).1.trans ?_),
      (at_end m h c main_v69 (Pipeline.mem_restRefs_of main_v69 (by decide) (by decide))).trans ((tail_sums (exitV m c)).2.1.trans ?_),
      (at_end m h c main_v70 (Pipeline.mem_restRefs_of main_v70 (by decide) (by decide))).trans ((tail_sums (exitV m c)).2.2.1.trans ?_),
      (at_end m h c main_v71 (Pipeline.mem_restRefs_of main_v71 (by decide) (by decide))).trans ((tail_sums (exitV m c)).2.2.2.1.trans ?_),
      (at_end m h c main_v72 (Pipeline.mem_restRefs_of main_v72 (by decide) (by decide))).trans ((tail_sums (exitV m c)).2.2.2.2.trans ?_)⟩
    · exact congrArg (fun v => extf .f32 v bitsLt_bf16_f32) (exit_at m c 12)
    · exact congrArg (fun v => extf .f32 v bitsLt_bf16_f32) (exit_at m c 13)
    · exact congrArg (fun v => extf .f32 v bitsLt_bf16_f32) (exit_at m c 15)
    · exact congrArg rowsSum (exit_at m c 20)
    · exact congrArg rowsSum (exit_at m c 18)
    · exact congrArg rowsSum (exit_at m c 19)
    · exact congrArg rowsSum (exit_at m c 16)
    · exact congrArg rowsSum (exit_at m c 17)) (run_main m ρ)

/-- Every execution ends with every counter at zero. -/
theorem run_counters : θ_run defs (onTc (τ := τ) (main (F := F))) ⟨m, fun _ => 0, ρ⟩ (fun r => r.2.sem = fun _ => 0) :=
  (θ_run defs _ _).mono (fun _ h => h.2) (run_quiescent m ρ)

end Cert.BackIdeal.Body

end
-- ==== Proof.BackSpec.lean ====
/- The gradient of the feed-forward part of a layer and of the layer normalisation before it, over the reals: what both
   programs compute. -/
module

public import proofs.«01_k».proof.Proof.FfnSpec

@[expose] public section

noncomputable section

namespace Cert.BackSpec

open Idealize.ShloMosaic Cert.RealNum Cert.FfnSpec

/-- The eleven arguments, as real arrays. -/
structure Args where
  x : Tok.Idx → ℝ
  y : Tok.Idx → ℝ
  w : GateUp.Idx → ℝ
  wd : Down.Idx → ℝ
  g1 : Row.Idx → ℝ
  lg : Row.Idx → ℝ
  lb : Row.Idx → ℝ
  sc : Row.Idx → ℝ
  sh : Row.Idx → ℝ
  dy : Tok.Idx → ℝ
  dz2 : Tok.Idx → ℝ

namespace Args

variable (a : Args)

/-- The row that is normalised, the normalised row and the modulated one. -/
def z (r : Fin 8192) (l : Fin 1024) : ℝ := alpha * a.x (ix2 r l) + a.g1 (ix1 l) * a.y (ix2 r l)
def x1 (r : Fin 8192) (l : Fin 1024) : ℝ := Norm.hat (a.z r) l * a.lg (ix1 l) + a.lb (ix1 l)
def h (i : Tok.Idx) : ℝ := a.x1 (i 0) (i 1) * (1 + a.sc (ix1 (i 1))) + a.sh (ix1 (i 1))

/-- The gradients of the activation, of the gate and of what it multiplies. -/
def dact (r : Fin 8192) (f : Fin 2816) : ℝ := ∑ k : Fin 1024, a.dy (ix2 r k) * a.wd (ix2 f k)
def dgate (r : Fin 8192) (f : Fin 2816) : ℝ := a.dact r f * dsu a.h a.w r f
def dup (r : Fin 8192) (f : Fin 2816) : ℝ := a.dact r f * sg a.h a.w r f

/-- The gradient of the modulated row, of the normalised one, and of the row before the normalisation. -/
def dh (r : Fin 8192) (l : Fin 1024) : ℝ :=
  ∑ f : Fin 2816, a.dgate r f * a.w (ix2 l (⟨f.val, by omega⟩ : Fin 5632))
    + ∑ f : Fin 2816, a.dup r f * a.w (ix2 l (⟨2816 + f.val, by omega⟩ : Fin 5632))
def dx (r : Fin 8192) (l : Fin 1024) : ℝ := a.dh r l * (1 + a.sc (ix1 l)) + alpha * a.dz2 (ix2 r l)
def dz (r : Fin 8192) (l : Fin 1024) : ℝ := Norm.back (a.z r) (fun k => a.dx r k * a.lg (ix1 k)) l

end Args

end Cert.BackSpec

end
-- ==== Proof.BackPay.lean ====
/- The values one grid point of the call `ffn_bwd` computes, read at an index, where its blocks hold real numbers. -/
module

public import proofs.«01_k».proof.Proof.Gen.BackIdeal.Skeleton
public import proofs.«01_k».proof.Proof.BackSpec
public import proofs.«01_k».proof.Proof.Classes
public import Idealize.ShloMosaic.Lib.Pointwise

@[expose] public section

set_option maxRecDepth 16384

noncomputable section

namespace Cert.BackIdeal.Body

open Cert.BackIdeal Cert.BackIdeal.Gen Idealize.ShloMosaic Idealize.ShloMosaic.TcCoe Idealize.SL.Sem
open Cert.RealNum Cert.FfnSpec Cert.BackSpec Cert.Classes

/-- Blocks that hold the rows `ρ` of the real arrays, and the weights and vectors whole. -/
structure Holds (a : Args) (ρ : Fin 256 → Fin 8192) (vy : Vec Ideal S256x1024 .bf16) (vd : Vec Ideal S2816x1024 .bf16)
    (vs vg : Vec Ideal S256x2816 .bf16) (wg wu : Vec Ideal S2816x1024 .bf16) (v1 vx vv vz : Vec Ideal S256x1024 .f32)
    (vc v2 vl : Vec Ideal S1x1024 .f32) : Prop where
  dy : ∀ r k, vy (ix2 r k) = (a.dy (ix2 (ρ r) k) : EReal)
  wd : ∀ f k, vd (ix2 f k) = (a.wd (ix2 f k) : EReal)
  dsu : ∀ r f, vs (ix2 r f) = (dsu a.h a.w (ρ r) f : EReal)
  sg : ∀ r f, vg (ix2 r f) = (sg a.h a.w (ρ r) f : EReal)
  g : ∀ f k, wg (ix2 f k) = (a.w (ix2 k (⟨f.val, by omega⟩ : Fin 5632)) : EReal)
  u : ∀ f k, wu (ix2 f k) = (a.w (ix2 k (⟨2816 + f.val, by omega⟩ : Fin 5632)) : EReal)
  x1 : ∀ r k, v1 (ix2 r k) = (a.x1 (ρ r) k : EReal)
  x : ∀ r k, vx (ix2 r k) = (a.x (ix2 (ρ r) k) : EReal)
  y : ∀ r k, vv (ix2 r k) = (a.y (ix2 (ρ r) k) : EReal)
  dz2 : ∀ r k, vz (ix2 r k) = (a.dz2 (ix2 (ρ r) k) : EReal)
  sc : ∀ k, vc (ix2 0 k) = (a.sc (ix1 k) : EReal)
  g1 : ∀ k, v2 (ix2 0 k) = (a.g1 (ix1 k) : EReal)
  lg : ∀ k, vl (ix2 0 k) = (a.lg (ix1 k) : EReal)

variable {a : Args} {ρ : Fin 256 → Fin 8192} {vy : Vec Ideal S256x1024 .bf16} {vd : Vec Ideal S2816x1024 .bf16}
variable {vs vg : Vec Ideal S256x2816 .bf16} {wg wu : Vec Ideal S2816x1024 .bf16} {v1 vx vv vz : Vec Ideal S256x1024 .f32}
variable {vc v2 vl : Vec Ideal S1x1024 .f32}
variable (H : Holds a ρ vy vd vs vg wg wu v1 vx vv vz vc v2 vl)
include H

theorem dact_at (r : Fin 256) (f : Fin 2816) : k0_pay9 (F := Ideal) vy vd (ix2 r f) = (a.dact (ρ r) f : EReal) := by
  pointwise [k0_pay9]
  simp only [H.dy, H.wd, ← EReal.coe_mul, ← coe_sum]
  rfl

theorem dgate_at (r : Fin 256) (f : Fin 2816) : k0_pay10 (F := Ideal) vy vd vs (ix2 r f) = (a.dgate (ρ r) f : EReal) := by
  pointwise [k0_pay10]
  rw [dact_at H, H.dsu, ← EReal.coe_mul]; rfl

theorem dup_at (r : Fin 256) (f : Fin 2816) : k0_pay11 (F := Ideal) vy vd vg (ix2 r f) = (a.dup (ρ r) f : EReal) := by
  pointwise [k0_pay11]
  rw [dact_at H, H.sg, ← EReal.coe_mul]; rfl

theorem dh_at (r : Fin 256) (l : Fin 1024) : k0_pay12 (F := Ideal) vy vd vs vg wg wu (ix2 r l) = (a.dh (ρ r) l : EReal) := by
  pointwise [k0_pay12]
  simp only [dgate_at H, dup_at H, H.g, H.u, ← EReal.coe_mul, ← coe_sum]
  rw [← EReal.coe_add]; rfl

theorem dx_at (r : Fin 256) (l : Fin 1024) :
    k0_pay17 (F := Ideal) (k0_pay12 vy vd vs vg wg wu) vc vz (ix2 r l) = (a.dx (ρ r) l : EReal) := by
  pointwise [k0_pay17]
  simp only [dh_at H, H.sc, H.dz2, lit_alpha]
  rw [← EReal.coe_one, ← EReal.coe_add, ← EReal.coe_mul, ← EReal.coe_mul, ← EReal.coe_add]; rfl

theorem z_at (r : Fin 256) (l : Fin 1024) : k0_pay18 (F := Ideal) vv v2 vx (ix2 r l) = (a.z (ρ r) l : EReal) := by
  pointwise [k0_pay18, k0_pay14]
  simp only [H.x, H.y, H.g1, lit_alpha, ← EReal.coe_mul, ← EReal.coe_add]
  rfl

theorem dev_at (r : Fin 256) (l : Fin 1024) :
    k0_pay20 (F := Ideal) (k0_pay18 vv v2 vx) (k0_pay19 vv v2 vx) (ix2 r l) = (Norm.dev (a.z (ρ r)) l : EReal) := by
  pointwise [k0_pay20, k0_pay19]
  simp only [z_at H, lit_1024]
  exact Norm.dev_coe (a.z (ρ r)) l

theorem rs_at (r : Fin 256) :
    k0_pay21 (F := Ideal) (k0_pay18 vv v2 vx) (k0_pay19 vv v2 vx) (ix2 r 0) = (Norm.rs (a.z (ρ r)) : EReal) := by
  pointwise [k0_pay21]
  simp only [dev_at H, lit_1024, lit_eps, Norm.spread_coe, Norm.rs_coe]

theorem hat_at (r : Fin 256) (l : Fin 1024) :
    k0_pay22 (F := Ideal) (k0_pay18 vv v2 vx) (k0_pay19 vv v2 vx) (ix2 r l) = (Norm.hat (a.z (ρ r)) l : EReal) := by
  pointwise [k0_pay22]
  rw [dev_at H, rs_at H, Norm.hat_coe]

theorem dn_at (r : Fin 256) (l : Fin 1024) :
    k0_pay25 (F := Ideal) (k0_pay17 (k0_pay12 vy vd vs vg wg wu) vc vz) vl (ix2 r l) = (a.dx (ρ r) l * a.lg (ix1 l) : ℝ) := by
  pointwise [k0_pay25]
  rw [dx_at H, H.lg, ← EReal.coe_mul]

theorem dz_at (r : Fin 256) (l : Fin 1024) :
    k0_pay1 (F := Ideal) (k0_pay21 (k0_pay18 vv v2 vx) (k0_pay19 vv v2 vx)) (k0_pay22 (k0_pay18 vv v2 vx) (k0_pay19 vv v2 vx))
      (k0_pay26 (k0_pay17 (k0_pay12 vy vd vs vg wg wu) vc vz) (k0_pay18 vv v2 vx) (k0_pay19 vv v2 vx) vl)
      (k0_pay27 (k0_pay17 (k0_pay12 vy vd vs vg wg wu) vc vz) vl) (ix2 r l) = (a.dz (ρ r) l : EReal) := by
  pointwise [k0_pay1, k0_pay26, k0_pay27]
  simp only [dn_at H, rs_at H, hat_at H, lit_1024]
  exact Norm.back_coe (a.z (ρ r)) (fun k => a.dx (ρ r) k * a.lg (ix1 k)) l

theorem dy_at (r : Fin 256) (l : Fin 1024) :
    k0_pay3 (F := Ideal) (k0_pay14 v2) (k0_pay21 (k0_pay18 vv v2 vx) (k0_pay19 vv v2 vx))
      (k0_pay22 (k0_pay18 vv v2 vx) (k0_pay19 vv v2 vx))
      (k0_pay26 (k0_pay17 (k0_pay12 vy vd vs vg wg wu) vc vz) (k0_pay18 vv v2 vx) (k0_pay19 vv v2 vx) vl)
      (k0_pay27 (k0_pay17 (k0_pay12 vy vd vs vg wg wu) vc vz) vl) (ix2 r l) = (a.g1 (ix1 l) * a.dz (ρ r) l : ℝ) := by
  pointwise [k0_pay3, k0_pay14]
  rw [dz_at H, H.g1, ← EReal.coe_mul]

/-! What a point adds to the five running sums. -/

theorem dsc_step (b : Vec Ideal S8x1024 .f32) (s : Fin 8) (l : Fin 1024) :
    k0_pay15 (F := Ideal) (k0_pay12 vy vd vs vg wg wu) (k0_pay13 v1) b (ix2 s l)
      = b (ix2 s l) + ∑ q : Fin 32, ((a.dh (ρ (sub q s)) l * a.x1 (ρ (sub q s)) l : ℝ) : EReal) := by
  pointwise [k0_pay15, k0_pay13]
  simp only [dh_at H, H.x1, ← EReal.coe_mul]

theorem dsh_step (b : Vec Ideal S8x1024 .f32) (s : Fin 8) (l : Fin 1024) :
    k0_pay16 (F := Ideal) (k0_pay12 vy vd vs vg wg wu) b (ix2 s l)
      = b (ix2 s l) + ∑ q : Fin 32, ((a.dh (ρ (sub q s)) l : ℝ) : EReal) := by
  pointwise [k0_pay16]
  simp only [dh_at H]

theorem dlg_step (b : Vec Ideal S8x1024 .f32) (s : Fin 8) (l : Fin 1024) :
    k0_pay23 (F := Ideal) (k0_pay17 (k0_pay12 vy vd vs vg wg wu) vc vz) (k0_pay18 vv v2 vx) (k0_pay19 vv v2 vx) b (ix2 s l)
      = b (ix2 s l) + ∑ q : Fin 32, ((a.dx (ρ (sub q s)) l * Norm.hat (a.z (ρ (sub q s))) l : ℝ) : EReal) := by
  pointwise [k0_pay23]
  simp only [dx_at H, hat_at H, ← EReal.coe_mul]

theorem dlb_step (b : Vec Ideal S8x1024 .f32) (s : Fin 8) (l : Fin 1024) :
    k0_pay24 (F := Ideal) (k0_pay17 (k0_pay12 vy vd vs vg wg wu) vc vz) b (ix2 s l)
      = b (ix2 s l) + ∑ q : Fin 32, ((a.dx (ρ (sub q s)) l : ℝ) : EReal) := by
  pointwise [k0_pay24]
  simp only [dx_at H]

theorem dg1_step (b : Vec Ideal S8x1024 .f32) (s : Fin 8) (l : Fin 1024) :
    k0_pay2 (F := Ideal) vv (k0_pay21 (k0_pay18 vv v2 vx) (k0_pay19 vv v2 vx)) (k0_pay22 (k0_pay18 vv v2 vx) (k0_pay19 vv v2 vx))
      (k0_pay26 (k0_pay17 (k0_pay12 vy vd vs vg wg wu) vc vz) (k0_pay18 vv v2 vx) (k0_pay19 vv v2 vx) vl)
      (k0_pay27 (k0_pay17 (k0_pay12 vy vd vs vg wg wu) vc vz) vl) b (ix2 s l)
      = b (ix2 s l) + ∑ q : Fin 32, ((a.dz (ρ (sub q s)) l * a.y (ix2 (ρ (sub q s)) l) : ℝ) : EReal) := by
  pointwise [k0_pay2]
  simp only [dz_at H, H.y, ← EReal.coe_mul]

end Cert.BackIdeal.Body

end
-- ==== Proof.BackRef.lean ====
/- The gradient of the feed-forward part and of the layer normalisation before it, as the reference computes it, at real
   arguments. -/
module

public import proofs.«01_k».proof.Proof.BackSpec
public import proofs.«01_k».proof.Proof.Gen.BackRefIdeal.Run
public import proofs.«01_k».proof.Proof.Gen.BackRefIdeal.Read

@[expose] public section

set_option maxRecDepth 16384

noncomputable section

namespace Cert.BackRefIdeal.Value

open Cert.BackRefIdeal Cert.BackRefIdeal.Gen Idealize.ShloMosaic Idealize.ShloMosaic.TcCoe Idealize.SL.Sem
open Idealize.ShloMosaic.StableHlo Cert.BackRefIdeal.Read Cert.RealNum Cert.FfnSpec Cert.BackSpec

variable (a : Args)

/-! ## The row and its normalisation -/

/-- A vector spread over the rows. -/
theorem row_at (u : Row.Idx → ℝ) (i : S8192x1024.Idx) : val_main_v30 (F := Ideal) (up u) i
    = (u (ix1 (i 1)) : EReal) := by
  rw [val_main_v30_apply, val_main_v29_apply]
  exact congrArg (fun j => (u j : EReal)) (eq_ix1 _)

theorem z_at (i : S8192x1024.Idx) : val_main_v5 (F := Ideal) (up a.x) (up a.y) (up a.g1) i
    = (a.z (i 0) (i 1) : EReal) := by
  rw [val_main_v5_apply, val_main_v1_apply, val_main_v0_apply, val_main_v4_apply,
    show val_main_v3 (F := Ideal) (up a.g1) i = _ from row_at a.g1 i]
  simp only [val_main_cst_apply, Ideal.ofBits_def, lit_alpha, Ideal.mulf_def, Ideal.addf_def]
  rw [eq_ix2 i]
  simp only [← EReal.coe_mul, ← EReal.coe_add]
  rfl

theorem mean_at (i : S8192x1.Idx) : val_main_v9 (F := Ideal) (up a.x) (up a.y) (up a.g1) i
    = (Norm.mean (a.z (i 0)) : EReal) := by
  rw [val_main_v9_apply, val_main_v7_apply, val_main_v6_apply, val_main_v8_apply]
  simp only [z_at, val_main_cst_0_apply, val_main_cst_1_apply, Ideal.hostDivf_def, Ideal.ofBits_def, lit_1024,
    Ideal.ofBits_zero_f32, zero_add, ← coe_sum]
  rw [div_real _ (by norm_num)]; rfl

theorem dev_at (i : S8192x1024.Idx) : val_main_v11 (F := Ideal) (up a.x) (up a.y) (up a.g1) i
    = (Norm.dev (a.z (i 0)) (i 1) : EReal) := by
  rw [val_main_v11_apply, val_main_v10_apply, z_at, mean_at, Ideal.subf_def, ← EReal.coe_sub]; rfl

theorem dev_at' (i : S8192x1024.Idx) : val_main_v20 (F := Ideal) (up a.x) (up a.y) (up a.g1) i
    = (Norm.dev (a.z (i 0)) (i 1) : EReal) := by
  rw [val_main_v20_apply, val_main_v19_apply, z_at, mean_at, Ideal.subf_def, ← EReal.coe_sub]; rfl

theorem spread_at (i : S8192x1.Idx) : val_main_v22 (F := Ideal) (up a.x) (up a.y) (up a.g1) i
    = (Norm.spread (a.z (i 0)) : EReal) := by
  rw [val_main_v22_apply, val_main_v18_apply, val_main_v16_apply, val_main_v15_apply, val_main_v17_apply, val_main_v21_apply]
  simp only [val_main_v12_apply, dev_at, val_main_cst_3_apply, val_main_cst_4_apply, val_main_cst_5_apply, Ideal.hostDivf_def,
    Ideal.ofBits_def, lit_1024, lit_eps, Ideal.ofBits_zero_f32, zero_add, Ideal.mulf_def, Ideal.addf_def, ← coe_sum, ← EReal.coe_mul]
  rw [div_real _ (by norm_num), ← EReal.coe_add]; rfl

theorem rs_at (i : S8192x1.Idx) : val_main_v23 (F := Ideal) (up a.x) (up a.y) (up a.g1) i
    = (Norm.rs (a.z (i 0)) : EReal) := by
  rw [val_main_v23_apply, spread_at]
  exact Norm.rs_coe _

theorem hat_at (i : S8192x1024.Idx) : val_main_v28 (F := Ideal) (up a.x) (up a.y) (up a.g1) i
    = (Norm.hat (a.z (i 0)) (i 1) : EReal) := by
  rw [val_main_v28_apply, val_main_v27_apply, dev_at', rs_at]
  exact Norm.hat_coe _ _

theorem x1_at (i : S8192x1024.Idx) : val_main_v34 (F := Ideal) (up a.x) (up a.y) (up a.g1) (up a.lg) (up a.lb) i
    = (a.x1 (i 0) (i 1) : EReal) := by
  rw [val_main_v34_apply, val_main_v31_apply, hat_at, row_at, show val_main_v33 (F := Ideal) (up a.lb) i = _ from row_at a.lb i]
  simp only [Ideal.mulf_def, Ideal.addf_def, ← EReal.coe_mul, ← EReal.coe_add]
  rfl

theorem scale_at (i : S8192x1024.Idx) : val_main_v40 (F := Ideal) (up a.sc) i
    = (1 + a.sc (ix1 (i 1)) : ℝ) := by
  rw [val_main_v40_apply, val_main_v39_apply, val_main_v38_apply, val_main_v37_apply]
  simp only [val_main_cst_8_apply, Ideal.ofBits_def, Ideal.ofBits_one_f32, Ideal.addf_def]
  rw [← EReal.coe_one, ← EReal.coe_add]
  exact congrArg (fun j => ((1 + a.sc j : ℝ) : EReal)) (eq_ix1 _)

theorem h_at (i : S8192x1024.Idx) : val_main_v44 (F := Ideal) (up a.x) (up a.y) (up a.g1) (up a.lg) (up a.lb) (up a.sc) (up a.sh) i
    = (a.h i : EReal) := by
  rw [val_main_v44_apply, val_main_v41_apply, x1_at, scale_at, show val_main_v43 (F := Ideal) (up a.sh) i = _ from row_at a.sh i]
  simp only [Ideal.mulf_def, Ideal.addf_def, ← EReal.coe_mul, ← EReal.coe_add]
  rfl

/-! ## The gate -/

theorem wide_at (i : S8192x5632.Idx) : val_main_v45 (F := Ideal) (up a.x) (up a.y) (up a.w) (up a.g1) (up a.lg) (up a.lb) (up a.sc) (up a.sh) i
    = (∑ k : Fin 1024, a.h (ix2 (i 0) k) * a.w (ix2 k (i 1)) : ℝ) := by
  rw [val_main_v45_apply, coe_sum]
  refine Finset.sum_congr rfl fun k _ => ?_
  rw [h_at, EReal.coe_mul, show lidx_main_v45 i k = ix2 (i 0) k from eq_ix2 _, eq_ix2 (ridx_main_v45 i k)]
  rfl

theorem gate_at (i : S8192x2816.Idx) : val_main_v46 (F := Ideal) (up a.x) (up a.y) (up a.w) (up a.g1) (up a.lg) (up a.lb) (up a.sc) (up a.sh) i
    = (gate a.h a.w (i 0) (i 1) : EReal) := by
  rw [val_main_v46_apply, wide_at]; rfl

theorem upper_at (i : S8192x2816.Idx) : val_main_v47 (F := Ideal) (up a.x) (up a.y) (up a.w) (up a.g1) (up a.lg) (up a.lb) (up a.sc) (up a.sh) i
    = (upper a.h a.w (i 0) (i 1) : EReal) := by
  rw [val_main_v47_apply, wide_at]; rfl

theorem logi_at (i : S8192x2816.Idx) : val_main_v48_2 (F := Ideal) (up a.x) (up a.y) (up a.w) (up a.g1) (up a.lg) (up a.lb) (up a.sc) (up a.sh) i
    = (logi (gate a.h a.w (i 0) (i 1)) : EReal) := by
  rw [val_main_v48_2_apply, val_main_call0_v4_apply, val_main_call0_v3_apply, val_main_call0_v2_apply, val_main_call0_v1_apply,
    val_main_call0_v0_apply, gate_at]
  simp only [val_main_call0_cst_apply, val_main_call0_cst_0_apply, Ideal.ofBits_def, Ideal.ofBits_one_f32, Ideal.hostDivf_def, Ideal.addf_def]
  exact logi_coe _

/-! ## The gradients of the gate and of what it multiplies -/

theorem dact_at (i : S8192x2816.Idx) : val_main_v51 (F := Ideal) (up a.wd) (up a.dy) i
    = (a.dact (i 0) (i 1) : EReal) := by
  rw [val_main_v51_apply]
  unfold Args.dact
  rw [coe_sum]
  refine Finset.sum_congr rfl fun k _ => ?_
  rw [EReal.coe_mul, show lidx_main_v51 i k = ix2 (i 0) k from eq_ix2 _, show ridx_main_v51 i k = ix2 (i 1) k from eq_ix2 _]
  rfl

theorem dup_at (i : S8192x2816.Idx) : val_main_v52 (F := Ideal) (up a.x) (up a.y) (up a.w) (up a.wd) (up a.g1) (up a.lg) (up a.lb) (up a.sc) (up a.sh) (up a.dy) i
    = (a.dup (i 0) (i 1) : EReal) := by
  rw [val_main_v52_apply, val_main_v48_0_apply, gate_at, logi_at, dact_at]
  simp only [Ideal.mulf_def, ← EReal.coe_mul]
  congr 1
  unfold Args.dup sg
  ring

theorem dgate_at (i : S8192x2816.Idx) : val_main_v54 (F := Ideal) (up a.x) (up a.y) (up a.w) (up a.wd) (up a.g1) (up a.lg) (up a.lb) (up a.sc) (up a.sh) (up a.dy) i
    = (a.dgate (i 0) (i 1) : EReal) := by
  rw [val_main_v54_apply, val_main_call1_v1_apply, val_main_call1_v2_apply, val_main_call1_v0_apply, val_main_v48_1_apply,
    val_main_call0_v7_apply, val_main_call0_v6_apply, val_main_v53_apply, gate_at, logi_at, upper_at, dact_at]
  simp only [val_main_call0_cst_1_apply, Ideal.ofBits_def, Ideal.ofBits_one_f32, Ideal.mulf_def, Ideal.addf_def, Ideal.subf_def]
  simp only [← EReal.coe_one, ← EReal.coe_mul, ← EReal.coe_add, ← EReal.coe_sub]
  congr 1
  unfold Args.dgate dsu dsilu
  ring

/-! ## The gradient of the normalised row -/

/-- The two gradients lie side by side. -/
theorem left_at (r : Fin 8192) (f : Fin 2816) : val_main_v55 (F := Ideal) (up a.x) (up a.y) (up a.w) (up a.wd) (up a.g1) (up a.lg) (up a.lb) (up a.sc) (up a.sh) (up a.dy) (ix2 r (⟨f.val, by omega⟩ : Fin 5632))
    = (a.dgate r f : EReal) := by
  unfold val_main_v55
  exact (concatenate_pair_apply_left 1 _ _ concatenates_S8192x2816_S8192x2816_S8192x5632_d1 (ix2 r (⟨f.val, by omega⟩ : Fin 5632)) rfl (ix2 r f) fun b => by match b with | ⟨0, _⟩ => rfl | ⟨1, _⟩ => rfl).trans (dgate_at a (ix2 r f))

theorem right_at (r : Fin 8192) (f : Fin 2816) : val_main_v55 (F := Ideal) (up a.x) (up a.y) (up a.w) (up a.wd) (up a.g1) (up a.lg) (up a.lb) (up a.sc) (up a.sh) (up a.dy) (ix2 r (⟨2816 + f.val, by omega⟩ : Fin 5632))
    = (a.dup r f : EReal) := by
  unfold val_main_v55
  exact (concatenate_pair_apply_right 1 _ _ concatenates_S8192x2816_S8192x2816_S8192x5632_d1 (ix2 r (⟨2816 + f.val, by omega⟩ : Fin 5632)) rfl rfl (ix2 r f) (fun b hb => by match b with | ⟨0, _⟩ => rfl | ⟨1, _⟩ => exact absurd rfl hb)
    (Nat.add_comm _ _)).trans (dup_at a (ix2 r f))

/-- A sum over both halves of the columns. -/
theorem sum_halves (g : Fin 5632 → EReal) : ∑ k, g k
    = ∑ f : Fin 2816, g (⟨f.val, by omega⟩ : Fin 5632) + ∑ f : Fin 2816, g (⟨2816 + f.val, by omega⟩ : Fin 5632) :=
  Fin.sum_univ_add (M := EReal) (a := 2816) (b := 2816) g

theorem dh_at (i : S8192x1024.Idx) : val_main_v56 (F := Ideal) (up a.x) (up a.y) (up a.w) (up a.wd) (up a.g1) (up a.lg) (up a.lb) (up a.sc) (up a.sh) (up a.dy) i
    = (a.dh (i 0) (i 1) : EReal) := by
  rw [val_main_v56_apply, sum_halves]
  unfold Args.dh
  rw [EReal.coe_add, coe_sum, coe_sum]
  refine congrArg₂ (· + ·) (Finset.sum_congr rfl fun f _ => ?_) (Finset.sum_congr rfl fun f _ => ?_)
  · rw [EReal.coe_mul]
    exact congrArg₂ (· * ·) ((congrArg _ (eq_ix2 _)).trans (left_at a (i 0) f)) (congrArg (fun j => (a.w j : EReal)) (eq_ix2 _))
  · rw [EReal.coe_mul]
    exact congrArg₂ (· * ·) ((congrArg _ (eq_ix2 _)).trans (right_at a (i 0) f)) (congrArg (fun j => (a.w j : EReal)) (eq_ix2 _))

theorem dx_at (i : S8192x1024.Idx) : val_main_v68 (F := Ideal) (up a.x) (up a.y) (up a.w) (up a.wd) (up a.g1) (up a.lg) (up a.lb) (up a.sc) (up a.sh) (up a.dy) (up a.dz2) i
    = (a.dx (i 0) (i 1) : EReal) := by
  rw [val_main_v68_apply, val_main_v64_apply, val_main_v67_apply, val_main_v66_apply, dh_at,
    show val_main_v63 (F := Ideal) (up a.sc) i = _ from scale_at a i]
  simp only [val_main_cst_13_apply, Ideal.ofBits_def, lit_alpha, Ideal.mulf_def, Ideal.addf_def]
  rw [eq_ix2 i]
  simp only [← EReal.coe_mul, ← EReal.coe_add]
  rfl

theorem sums_one (f : Fin 1 → EReal) : ∑ k, f k = f 0 := Fin.sum_univ_one f

theorem dsh_apply (l : Fin 1024) : val_main_v59 (F := Ideal) (up a.x) (up a.y) (up a.w) (up a.wd) (up a.g1) (up a.lg) (up a.lb) (up a.sc) (up a.sh) (up a.dy) (ix1 l)
    = (∑ r : Fin 8192, a.dh r l : ℝ) := by
  rw [val_main_v59_apply, sums_one, val_main_v58_apply, val_main_v57_apply]
  simp only [dh_at, val_main_cst_9_apply, val_main_cst_10_apply, Ideal.ofBits_def, Ideal.ofBits_zero_f32, zero_add, Ideal.mulf_def, ← EReal.coe_mul, ← coe_sum]
  congr 1
  refine Finset.sum_congr rfl fun r _ => ?_
  have e : (idx_main_v57 (idx_main_v58 (idx_main_v59 (ix1 l) 0)) r) 1 = l := Fin.ext (by show 0 * 1024 + l.val = l.val; omega)
  rw [e]; rfl

theorem dsc_apply (l : Fin 1024) : val_main_v65 (F := Ideal) (up a.x) (up a.y) (up a.w) (up a.wd) (up a.g1) (up a.lg) (up a.lb) (up a.sc) (up a.sh) (up a.dy) (ix1 l)
    = (∑ r : Fin 8192, a.dh r l * a.x1 r l : ℝ) := by
  rw [val_main_v65_apply, sums_one, val_main_v62_apply, val_main_v61_apply]
  simp only [val_main_v60_apply, dh_at, x1_at, val_main_cst_11_apply, val_main_cst_12_apply, Ideal.ofBits_def, Ideal.ofBits_zero_f32, zero_add, Ideal.mulf_def, ← EReal.coe_mul, ← coe_sum]
  congr 1
  refine Finset.sum_congr rfl fun r _ => ?_
  have e : (idx_main_v61 (idx_main_v62 (idx_main_v65 (ix1 l) 0)) r) 1 = l := Fin.ext (by show 0 * 1024 + l.val = l.val; omega)
  rw [e, mul_comm]; rfl

theorem dlb_apply (l : Fin 1024) : val_main_v71 (F := Ideal) (up a.x) (up a.y) (up a.w) (up a.wd) (up a.g1) (up a.lg) (up a.lb) (up a.sc) (up a.sh) (up a.dy) (up a.dz2) (ix1 l)
    = (∑ r : Fin 8192, a.dx r l : ℝ) := by
  rw [val_main_v71_apply, sums_one, val_main_v70_apply, val_main_v69_apply]
  simp only [dx_at, val_main_cst_14_apply, val_main_cst_15_apply, Ideal.ofBits_def, Ideal.ofBits_zero_f32, zero_add, Ideal.mulf_def, ← EReal.coe_mul, ← coe_sum]
  congr 1
  refine Finset.sum_congr rfl fun r _ => ?_
  have e : (idx_main_v69 (idx_main_v70 (idx_main_v71 (ix1 l) 0)) r) 1 = l := Fin.ext (by show 0 * 1024 + l.val = l.val; omega)
  rw [e]; rfl

theorem dlg_apply (l : Fin 1024) : val_main_v77 (F := Ideal) (up a.x) (up a.y) (up a.w) (up a.wd) (up a.g1) (up a.lg) (up a.lb) (up a.sc) (up a.sh) (up a.dy) (up a.dz2) (ix1 l)
    = (∑ r : Fin 8192, a.dx r l * Norm.hat (a.z r) l : ℝ) := by
  rw [val_main_v77_apply, sums_one, val_main_v74_apply, val_main_v73_apply]
  simp only [val_main_v72_apply, hat_at, dx_at, val_main_cst_16_apply, val_main_cst_17_apply, Ideal.ofBits_def, Ideal.ofBits_zero_f32, zero_add, Ideal.mulf_def, ← EReal.coe_mul, ← coe_sum]
  congr 1
  refine Finset.sum_congr rfl fun r _ => ?_
  have e : (idx_main_v73 (idx_main_v74 (idx_main_v77 (ix1 l) 0)) r) 1 = l := Fin.ext (by show 0 * 1024 + l.val = l.val; omega)
  rw [e, mul_comm]; rfl

/-! ## The gradient of the row before the normalisation -/

theorem dhat_at (i : S8192x1024.Idx) : val_main_v76 (F := Ideal) (up a.x) (up a.y) (up a.w) (up a.wd) (up a.g1) (up a.lg) (up a.lb) (up a.sc) (up a.sh) (up a.dy) (up a.dz2) i
    = (a.dx (i 0) (i 1) * a.lg (ix1 (i 1)) : ℝ) := by
  rw [val_main_v76_apply, dx_at, show val_main_v75 (F := Ideal) (up a.lg) i = _ from row_at a.lg i, Ideal.mulf_def, ← EReal.coe_mul]

/-- The gradient at the normalised row of token `r`. -/
abbrev dn (r : Fin 8192) : Fin 1024 → ℝ := fun k => a.dx r k * a.lg (ix1 k)

/-- Half the factor of the gradient through the mean of squares. -/
abbrev half (r : Fin 8192) : ℝ :=
  (∑ k, Norm.dev (a.z r) k * dn a r k) * (-(1 / 2) * (Norm.rs (a.z r) / Norm.spread (a.z r))) / 1024

theorem fold_at (i : S8192x1.Idx) : (idx_main_v80 i) 0 = i 0 :=
  Fin.ext (by have h1 : (i 1).val < 1 := (i 1).isLt; show (i 0).val * 1 + (i 1).val = (i 0).val; omega)

theorem half_at (i : S8192.Idx) : val_main_v89 (F := Ideal) (up a.x) (up a.y) (up a.w) (up a.wd) (up a.g1) (up a.lg) (up a.lb) (up a.sc) (up a.sh) (up a.dy) (up a.dz2) i
    = (half a (i 0) : EReal) := by
  rw [val_main_v89_apply, sums_one, val_main_v88_apply, val_main_v83_apply, val_main_v80_apply, val_main_v79_apply,
    val_main_v26_apply, val_main_v25_apply, val_main_v24_apply, val_main_v87_apply]
  simp only [val_main_v78_apply, dev_at', dhat_at, rs_at, spread_at, val_main_cst_18_apply, val_main_cst_20_apply,
    val_main_cst_21_apply, val_main_cst_6_apply, Ideal.hostDivf_def, Ideal.ofBits_def, lit_1024, lit_neg_half,
    Ideal.ofBits_zero_f32, zero_add, Ideal.mulf_def, ← EReal.coe_mul, ← coe_sum]
  rw [div_real _ (Norm.spread_pos _).ne', ← EReal.coe_mul, ← EReal.coe_mul, div_real _ (by norm_num)]
  congr 1
  exact congrArg (fun q : Fin 8192 => (∑ k, Norm.dev (a.z q) k * dn a q k)
    * (-(1 / 2) * (Norm.rs (a.z (i 0)) / Norm.spread (a.z (i 0)))) / 1024) (fold_at (idx_main_v89 i 0))

theorem square_at (i : S8192x1024.Idx) : val_main_v91 (F := Ideal) (up a.x) (up a.y) (up a.w) (up a.wd) (up a.g1) (up a.lg) (up a.lb) (up a.sc) (up a.sh) (up a.dy) (up a.dz2) i
    = (half a (i 0) * (2 * Norm.dev (a.z (i 0)) (i 1)) : ℝ) := by
  rw [val_main_v91_apply, val_main_v90_apply, half_at, val_main_v14_apply, val_main_v13_apply, dev_at]
  simp only [val_main_cst_2_apply, Ideal.ofBits_def, lit_two, Ideal.mulf_def, ← EReal.coe_mul]
  rfl

theorem scaled_at (i : S8192x1024.Idx) : val_main_v82 (F := Ideal) (up a.x) (up a.y) (up a.w) (up a.wd) (up a.g1) (up a.lg) (up a.lb) (up a.sc) (up a.sh) (up a.dy) (up a.dz2) i
    = (dn a (i 0) (i 1) * Norm.rs (a.z (i 0)) : ℝ) := by
  rw [val_main_v82_apply, val_main_v81_apply, dhat_at, rs_at, Ideal.mulf_def, ← EReal.coe_mul]
  rfl

theorem dz_at (i : S8192x1024.Idx) : val_main_v101 (F := Ideal) (up a.x) (up a.y) (up a.w) (up a.wd) (up a.g1) (up a.lg) (up a.lb) (up a.sc) (up a.sh) (up a.dy) (up a.dz2) i
    = (a.dz (i 0) (i 1) : EReal) := by
  rw [val_main_v101_apply, val_main_v95_apply, val_main_v100_apply, val_main_v99_apply, sums_one, val_main_v98_apply,
    val_main_v96_apply, val_main_v86_apply, val_main_v85_apply, val_main_v94_apply, val_main_v93_apply, val_main_v97_apply]
  simp only [val_main_v84_apply, val_main_v92_apply, scaled_at, square_at, val_main_cst_19_apply, val_main_cst_22_apply,
    val_main_cst_23_apply, val_main_cst_24_apply, Ideal.hostDivf_def, Ideal.ofBits_def, lit_1024, Ideal.hostNegf_def, Ideal.negf_def,
    Ideal.ofBits_zero_f32, zero_add, Ideal.mulf_def, Ideal.addf_def, ← EReal.coe_mul, ← EReal.coe_neg, ← EReal.coe_add, ← coe_sum]
  rw [div_real _ (by norm_num), ← EReal.coe_add]
  congr 1
  refine Eq.trans (congrArg (fun q : Fin 8192 => dn a (i 0) (i 1) * Norm.rs (a.z (i 0)) + half a (i 0) * (2 * Norm.dev (a.z (i 0)) (i 1))
    + (∑ k, -(dn a q k * Norm.rs (a.z q)) + ∑ k, -(half a q * (2 * Norm.dev (a.z q) k))) / 1024)
    (fold_at (idx_main_v99 (idx_main_v100 i) 0))) ?_
  exact Norm.back_steps (a.z (i 0)) (dn a (i 0)) (i 1)

theorem dy_at (i : S8192x1024.Idx) : val_main_v103 (F := Ideal) (up a.x) (up a.y) (up a.w) (up a.wd) (up a.g1) (up a.lg) (up a.lb) (up a.sc) (up a.sh) (up a.dy) (up a.dz2) i
    = (a.g1 (ix1 (i 1)) * a.dz (i 0) (i 1) : ℝ) := by
  rw [val_main_v103_apply, dz_at, show val_main_v102 (F := Ideal) (up a.g1) i = _ from row_at a.g1 i, Ideal.mulf_def, ← EReal.coe_mul]

theorem dg1_apply (l : Fin 1024) : val_main_v107 (F := Ideal) (up a.x) (up a.y) (up a.w) (up a.wd) (up a.g1) (up a.lg) (up a.lb) (up a.sc) (up a.sh) (up a.dy) (up a.dz2) (ix1 l)
    = (∑ r : Fin 8192, a.dz r l * a.y (ix2 r l) : ℝ) := by
  rw [val_main_v107_apply, sums_one, val_main_v106_apply, val_main_v105_apply]
  simp only [val_main_v104_apply, dz_at, val_main_cst_25_apply, val_main_cst_26_apply, Ideal.ofBits_def, Ideal.ofBits_zero_f32, zero_add, Ideal.mulf_def, ← EReal.coe_mul, ← coe_sum]
  congr 1
  refine Finset.sum_congr rfl fun r _ => ?_
  have e : (idx_main_v105 (idx_main_v106 (idx_main_v107 (ix1 l) 0)) r) 1 = l := Fin.ext (by show 0 * 1024 + l.val = l.val; omega)
  have e' : idx_main_v105 (idx_main_v106 (idx_main_v107 (ix1 l) 0)) r = ix2 r l := (eq_ix2 _).trans (congrArg (ix2 r) e)
  rw [e']; rfl

end Cert.BackRefIdeal.Value

end
-- ==== Proof.BackArr.lean ====
/- What the call `ffn_bwd` leaves in its nine result arrays at real arguments. -/
module

public import proofs.«01_k».proof.Proof.BackRun
public import proofs.«01_k».proof.Proof.BackPay
public import proofs.«01_k».proof.Proof.BackRef
public import proofs.«01_k».proof.Proof.Classes
public import Idealize.ShloMosaic.Lib.Pipeline.ValueKit.Geometry
public import Idealize.ShloMosaic.Lib.Pipeline.ValueKit.Tiles

@[expose] public section

set_option maxRecDepth 16384

noncomputable section

namespace Cert.BackIdeal.Body

open Cert.BackIdeal Cert.BackIdeal.Gen Idealize.ShloMosaic Idealize.ShloMosaic.TcCoe Idealize.SL.Sem
open Idealize.ShloMosaic.Pipeline (Dat)
open Idealize.ShloMosaic.StableHlo Cert.RealNum Cert.FfnSpec Cert.BackSpec Cert.Classes

variable (m : (ℓ : Loc nD τ sig) → Buf (Elt Ideal) ℓ)

/-! ## The arrays the region reads -/

/-- The arguments the forward part reads. -/
abbrev aX (c : Dev nD) : FVec Ideal S8192x1024 .f32 := m ((c : Thread nD τ).loc main_arg0)
abbrev aY (c : Dev nD) : FVec Ideal S8192x1024 .f32 := m ((c : Thread nD τ).loc main_arg1)
abbrev aW (c : Dev nD) : FVec Ideal S1024x5632 .f32 := m ((c : Thread nD τ).loc main_arg2)
abbrev aG (c : Dev nD) : FVec Ideal S1024 .f32 := m ((c : Thread nD τ).loc main_arg4)
abbrev aL (c : Dev nD) : FVec Ideal S1024 .f32 := m ((c : Thread nD τ).loc main_arg5)
abbrev aB (c : Dev nD) : FVec Ideal S1024 .f32 := m ((c : Thread nD τ).loc main_arg6)
abbrev aS (c : Dev nD) : FVec Ideal S1024 .f32 := m ((c : Thread nD τ).loc main_arg7)
abbrev aH (c : Dev nD) : FVec Ideal S1024 .f32 := m ((c : Thread nD τ).loc main_arg8)

/-- The gate, what it multiplies, the logistic value of the gate, and ones. -/
abbrev fGate (c : Dev nD) : FVec Ideal S8192x2816 .f32 :=
  BackRefIdeal.Read.val_main_v46 (F := Ideal) (aX m c) (aY m c) (aW m c) (aG m c) (aL m c) (aB m c) (aS m c) (aH m c)
abbrev fUpper (c : Dev nD) : FVec Ideal S8192x2816 .f32 :=
  BackRefIdeal.Read.val_main_v47 (F := Ideal) (aX m c) (aY m c) (aW m c) (aG m c) (aL m c) (aB m c) (aS m c) (aH m c)
abbrev fLogi (c : Dev nD) : FVec Ideal S8192x2816 .f32 :=
  BackRefIdeal.Read.val_main_v48_2 (F := Ideal) (aX m c) (aY m c) (aW m c) (aG m c) (aL m c) (aB m c) (aS m c) (aH m c)
abbrev ones : FVec Ideal S8192x2816 .f32 := broadcastInDim S8192x2816 ![] bcast_S_S8192x2816 (constant S_ .f32 0x3F800000#32)

theorem V_x1 (c : Dev nD) : V m c main_v29
    = (BackRefIdeal.Read.val_main_v34 (F := Ideal) (aX m c) (aY m c) (aG m c) (aL m c) (aB m c) : FVec Ideal S8192x1024 .f32) := by
  show after (List.flatten [hostOps0]) _ (Proc.devRef .tc main_v29) = _
  simp only [hostOps0, List.flatten_cons, List.flatten_nil, List.append_nil, List.cons_append, List.nil_append]
  after_results
  rfl

theorem V_sg (c : Dev nD) : V m c main_v58 = (truncf .bf16 (mulf (fGate m c) (fLogi m c)) bitsLt_bf16_f32 : FVec Ideal S8192x2816 .bf16) := by
  show after (List.flatten [hostOps0]) _ (Proc.devRef .tc main_v58) = _
  simp only [hostOps0, List.flatten_cons, List.flatten_nil, List.append_nil, List.cons_append, List.nil_append]
  after_results
  rfl

theorem V_dsu (c : Dev nD) : V m c main_v57 = (truncf .bf16 (mulf (fUpper m c) (mulf (fLogi m c)
    (addf ones (mulf (fGate m c) (subf ones (fLogi m c)))))) bitsLt_bf16_f32 : FVec Ideal S8192x2816 .bf16) := by
  show after (List.flatten [hostOps0]) _ (Proc.devRef .tc main_v57) = _
  simp only [hostOps0, List.flatten_cons, List.flatten_nil, List.append_nil, List.cons_append, List.nil_append]
  after_results
  refine congrArg (fun v => truncf (F := Ideal) .bf16 v bitsLt_bf16_f32) ?_
  refine congrArg₂ mulf rfl (congrArg₂ mulf rfl (congrArg₂ addf rfl (congrArg₂ mulf rfl (congrArg₂ subf rfl rfl))))

theorem V_dy (c : Dev nD) : V m c main_v55 = (truncf .bf16 (m ((c : Thread nD τ).loc main_arg9)) bitsLt_bf16_f32 : FVec Ideal S8192x1024 .bf16) := by
  show after (List.flatten [hostOps0]) _ (Proc.devRef .tc main_v55) = _
  simp only [hostOps0, List.flatten_cons, List.flatten_nil, List.append_nil, List.cons_append, List.nil_append]
  after_results

theorem V_down (c : Dev nD) : V m c main_v56 = (truncf .bf16 (m ((c : Thread nD τ).loc main_arg3)) bitsLt_bf16_f32 : FVec Ideal S2816x1024 .bf16) := by
  show after (List.flatten [hostOps0]) _ (Proc.devRef .tc main_v56) = _
  simp only [hostOps0, List.flatten_cons, List.flatten_nil, List.append_nil, List.cons_append, List.nil_append]
  after_results

theorem V_w (c : Dev nD) : V m c main_v60 = (truncf .bf16 (transpose S5632x1024 [1, 0] (m ((c : Thread nD τ).loc main_arg2)) transposes_S1024x5632_S5632x1024_1_0) bitsLt_bf16_f32 : FVec Ideal S5632x1024 .bf16) := by
  show after (List.flatten [hostOps0]) _ (Proc.devRef .tc main_v60) = _
  simp only [hostOps0, List.flatten_cons, List.flatten_nil, List.append_nil, List.cons_append, List.nil_append]
  after_results

theorem V_rows (c : Dev nD) :
    V m c main_v61 = (broadcastInDim S1x1024 ![1] bcast_S1024_S1x1024_1 (aS m c) : FVec Ideal S1x1024 .f32)
    ∧ V m c main_v62 = (broadcastInDim S1x1024 ![1] bcast_S1024_S1x1024_1 (aG m c) : FVec Ideal S1x1024 .f32)
    ∧ V m c main_v63 = (broadcastInDim S1x1024 ![1] bcast_S1024_S1x1024_1 (aL m c) : FVec Ideal S1x1024 .f32) := by
  refine ⟨?_, ?_, ?_⟩
  · show after (List.flatten [hostOps0]) _ (Proc.devRef .tc main_v61) = _
    simp only [hostOps0, List.flatten_cons, List.flatten_nil, List.append_nil, List.cons_append, List.nil_append]
    after_results
  · show after (List.flatten [hostOps0]) _ (Proc.devRef .tc main_v62) = _
    simp only [hostOps0, List.flatten_cons, List.flatten_nil, List.append_nil, List.cons_append, List.nil_append]
    after_results
  · show after (List.flatten [hostOps0]) _ (Proc.devRef .tc main_v63) = _
    simp only [hostOps0, List.flatten_cons, List.flatten_nil, List.append_nil, List.cons_append, List.nil_append]
    after_results

/-! ## The blocks of a point -/

theorem rows_in : ∀ t : Fin grid0.N, win0_0.index t = ![t.val, 0] ∧ win0_2.index t = ![t.val, 0] ∧ win0_3.index t = ![t.val, 0]
    ∧ win0_5.index t = ![t.val, 0] ∧ win0_6.index t = ![t.val, 0] ∧ win0_7.index t = ![t.val, 0] ∧ win0_8.index t = ![t.val, 0] := by
  decide +kernel
theorem whole_in : ∀ t : Fin grid0.N, win0_1.index t = ![0, 0] ∧ win0_4.index t = ![0, 0] ∧ win0_9.index t = ![0, 0]
    ∧ win0_10.index t = ![0, 0] ∧ win0_11.index t = ![0, 0] := by decide +kernel
theorem rows_out : ∀ t : Fin grid0.N, win0_12.index t = ![t.val, 0] ∧ win0_13.index t = ![t.val, 0] ∧ win0_14.index t = ![t.val, 0]
    ∧ win0_15.index t = ![t.val, 0] := by decide +kernel

/-- A vector laid out as one row. -/
theorem one_row (x : (⟨S1024, .f32⟩ : BufTy).Contents (Elt Ideal)) (i : S1x1024.Idx) :
    (broadcastInDim S1x1024 ![1] bcast_S1024_S1x1024_1 x : FVec Ideal S1x1024 .f32) i = x (ix1 (i 1)) := by
  obtain ⟨a, b, rfl⟩ : ∃ (a : Fin 1) (b : Fin 1024), i = ix2 a b := ⟨i 0, i 1, eq_ix2 i⟩
  pointwise

/-- The last point is among the points. -/
theorem last_lt : 31 < cfg0.N := by rw [show cfg0.N = 32 from N_0]; omega

/-- The five running sums end as the last point leaves them. -/
theorem last_sum (c : Dev nD) : left16 m c = (data m 0 c).after 16 ⟨31, last_lt⟩ ∧ left17 m c = (data m 0 c).after 17 ⟨31, last_lt⟩
    ∧ left18 m c = (data m 0 c).after 18 ⟨31, last_lt⟩ ∧ left19 m c = (data m 0 c).after 19 ⟨31, last_lt⟩
    ∧ left20 m c = (data m 0 c).after 20 ⟨31, last_lt⟩ :=
  ⟨(data m 0 c).arrAt_eq_of_after_last 16 ⟨31, last_lt⟩ (by decide +kernel) _ fun j => rfl,
   (data m 0 c).arrAt_eq_of_after_last 17 ⟨31, last_lt⟩ (by decide +kernel) _ fun j => rfl,
   (data m 0 c).arrAt_eq_of_after_last 18 ⟨31, last_lt⟩ (by decide +kernel) _ fun j => rfl,
   (data m 0 c).arrAt_eq_of_after_last 19 ⟨31, last_lt⟩ (by decide +kernel) _ fun j => rfl,
   (data m 0 c).arrAt_eq_of_after_last 20 ⟨31, last_lt⟩ (by decide +kernel) _ fun j => rfl⟩

/-- The arguments hold real numbers. -/
structure Reals (c : Dev nD) (a : Args) : Prop where
  x : m ((c : Thread nD τ).loc main_arg0) = up a.x
  y : m ((c : Thread nD τ).loc main_arg1) = up a.y
  w : m ((c : Thread nD τ).loc main_arg2) = up a.w
  wd : m ((c : Thread nD τ).loc main_arg3) = up a.wd
  g1 : m ((c : Thread nD τ).loc main_arg4) = up a.g1
  lg : m ((c : Thread nD τ).loc main_arg5) = up a.lg
  lb : m ((c : Thread nD τ).loc main_arg6) = up a.lb
  sc : m ((c : Thread nD τ).loc main_arg7) = up a.sc
  sh : m ((c : Thread nD τ).loc main_arg8) = up a.sh
  dy : m ((c : Thread nD τ).loc main_arg9) = up a.dy
  dz2 : m ((c : Thread nD τ).loc main_arg10) = up a.dz2

variable {m}
variable {c : Dev nD} {a : Args} (A : Reals m c a)
include A

theorem w_block (t : Fin cfg0.N) (i : S5632x1024.Idx) : bW m c t i = (a.w (ix2 (i 1 : Fin 1024) (i 0 : Fin 5632)) : EReal) := by
  obtain ⟨f, k, rfl⟩ : ∃ (f : Fin 5632) (k : Fin 1024), i = ix2 f k := ⟨i 0, i 1, eq_ix2 i⟩
  blk_simp [iblk]
  rw [V_w, A.w]
  have e : (((cfg0.win 4).blk t).view.emb (ix2 f k)) = (ix2 f k : S5632x1024.Idx) := by blk_ext [(whole_in t).2.1]
  rw [e]
  pointwise

theorem gate_eq (i : S8192x2816.Idx) : fGate m c i = (gate a.h a.w (i 0) (i 1) : EReal) := by
  unfold fGate aX aY aW aG aL aB aS aH
  rw [A.x, A.y, A.w, A.g1, A.lg, A.lb, A.sc, A.sh]
  exact BackRefIdeal.Value.gate_at a i

theorem upper_eq (i : S8192x2816.Idx) : fUpper m c i = (upper a.h a.w (i 0) (i 1) : EReal) := by
  unfold fUpper aX aY aW aG aL aB aS aH
  rw [A.x, A.y, A.w, A.g1, A.lg, A.lb, A.sc, A.sh]
  exact BackRefIdeal.Value.upper_at a i

theorem logi_eq (i : S8192x2816.Idx) : fLogi m c i = (logi (gate a.h a.w (i 0) (i 1)) : EReal) := by
  unfold fLogi aX aY aW aG aL aB aS aH
  rw [A.x, A.y, A.w, A.g1, A.lg, A.lb, A.sc, A.sh]
  exact BackRefIdeal.Value.logi_at a i

/-- The activation's two factors as the host prepares them. -/
theorem sg_block (t : Fin cfg0.N) (r : Fin 256) (f : Fin 2816) : bSg m c t (ix2 r f) = (sg a.h a.w (tileRow N_0 t r) f : EReal) := by
  blk_simp [iblk]
  rw [V_sg, show ((cfg0.win 3).blk t).view.emb (ix2 r f) = (ix2 (tileRow N_0 t r) f : S8192x2816.Idx) by blk_ext [(rows_in t).2.2.1]]
  pointwise
  rw [gate_eq A, logi_eq A, ← EReal.coe_mul]
  rfl

theorem dsu_block (t : Fin cfg0.N) (r : Fin 256) (f : Fin 2816) : bDsu m c t (ix2 r f) = (dsu a.h a.w (tileRow N_0 t r) f : EReal) := by
  blk_simp [iblk]
  rw [V_dsu, show ((cfg0.win 2).blk t).view.emb (ix2 r f) = (ix2 (tileRow N_0 t r) f : S8192x2816.Idx) by blk_ext [(rows_in t).2.1]]
  pointwise
  rw [gate_eq A, logi_eq A, upper_eq A, ← EReal.coe_one, ← EReal.coe_sub, ← EReal.coe_mul, ← EReal.coe_add, ← EReal.coe_mul, ← EReal.coe_mul]
  rfl

set_option maxHeartbeats 2000000 in
/-- The blocks of every point hold real numbers. -/
theorem holds (t : Fin cfg0.N) : Holds a (tileRow N_0 t) (bDy m c t) (bWd m c t) (bDsu m c t) (bSg m c t) (bGate m c t) (bUp m c t)
    (bX1 m c t) (bX m c t) (bY m c t) (bDz2 m c t) (bSc m c t) (bG1 m c t) (bLg m c t) where
  dy r k := by
    blk_simp [iblk]
    rw [V_dy, A.dy]
    refine congrArg (fun i => (a.dy i : EReal)) ?_
    blk_ext [(rows_in t).1]
  wd f k := by
    blk_simp [iblk]
    rw [V_down, A.wd]
    refine congrArg (fun i => (a.wd i : EReal)) ?_
    blk_ext [(whole_in t).1]
  dsu r f := dsu_block A t r f
  sg r f := sg_block A t r f
  g f k := by
    refine Eq.trans ?_ (w_block A t (ix2 (⟨f.val, by omega⟩ : Fin 5632) k))
    exact View.ld_unit_apply_of _ _ _ _ _ (ix2 (⟨f.val, by omega⟩ : Fin 5632) k) fun a => by
      match a with
      | ⟨0, _⟩ => exact (Nat.zero_add _).symm
      | ⟨1, _⟩ => exact (Nat.zero_add _).symm
  u f k := by
    refine Eq.trans ?_ (w_block A t (ix2 (⟨2816 + f.val, by omega⟩ : Fin 5632) k))
    exact View.ld_unit_apply_of _ _ _ _ _ (ix2 (⟨2816 + f.val, by omega⟩ : Fin 5632) k) fun a => by
      match a with
      | ⟨0, _⟩ => rfl
      | ⟨1, _⟩ => exact (Nat.zero_add _).symm
  x1 r k := by
    blk_simp [iblk]
    rw [V_x1, show ((cfg0.win 5).blk t).view.emb (ix2 r k) = (ix2 (tileRow N_0 t r) k : S8192x1024.Idx) by blk_ext [(rows_in t).2.2.2.1]]
    unfold aX aY aG aL aB
    rw [A.x, A.y, A.g1, A.lg, A.lb]
    exact BackRefIdeal.Value.x1_at a (ix2 (tileRow N_0 t r) k)
  x r k := by
    blk_simp [iblk]
    rw [V_main_arg0, A.x]
    refine congrArg (fun i => (a.x i : EReal)) ?_
    blk_ext [(rows_in t).2.2.2.2.1]
  y r k := by
    blk_simp [iblk]
    rw [V_main_arg1, A.y]
    refine congrArg (fun i => (a.y i : EReal)) ?_
    blk_ext [(rows_in t).2.2.2.2.2.1]
  dz2 r k := by
    blk_simp [iblk]
    rw [V_main_arg10, A.dz2]
    refine congrArg (fun i => (a.dz2 i : EReal)) ?_
    blk_ext [(rows_in t).2.2.2.2.2.2]
  sc k := by
    blk_simp [iblk]
    rw [(V_rows m c).1]
    unfold aS
    rw [A.sc]
    refine (one_row _ _).trans (congrArg (fun i => (a.sc (ix1 i) : EReal)) (Fin.ext ?_))
    blk_simp [(whole_in t).2.2.1]
  g1 k := by
    blk_simp [iblk]
    rw [(V_rows m c).2.1]
    unfold aG
    rw [A.g1]
    refine (one_row _ _).trans (congrArg (fun i => (a.g1 (ix1 i) : EReal)) (Fin.ext ?_))
    blk_simp [(whole_in t).2.2.2.1]
  lg k := by
    blk_simp [iblk]
    rw [(V_rows m c).2.2]
    unfold aL
    rw [A.lg]
    refine (one_row _ _).trans (congrArg (fun i => (a.lg (ix1 i) : EReal)) (Fin.ext ?_))
    blk_simp [(whole_in t).2.2.2.2]

/-! ## The nine result arrays -/

theorem final_dgate : left12 m c = fun i : S8192x2816.Idx => (a.dgate (i 0) (i 1) : EReal) := by
  refine (data m 0 c).arrAt_eq_of_covers 12 _ (by decide +kernel) fun t hf y => ?_
  blk_simp
  rw [after_12]
  obtain ⟨r, f, rfl⟩ : ∃ (r : Fin 256) (f : Fin 2816), y = ix2 r f := ⟨y 0, y 1, eq_ix2 y⟩
  refine (dgate_at (holds A t) r f).trans ?_
  rw [show ((cfg0.win 12).blk t).view.emb (ix2 r f) = (ix2 (tileRow N_0 t r) f : S8192x2816.Idx) by blk_ext [(rows_out t).1]]
  rfl

theorem final_dup : left13 m c = fun i : S8192x2816.Idx => (a.dup (i 0) (i 1) : EReal) := by
  refine (data m 0 c).arrAt_eq_of_covers 13 _ (by decide +kernel) fun t hf y => ?_
  blk_simp
  rw [after_13]
  obtain ⟨r, f, rfl⟩ : ∃ (r : Fin 256) (f : Fin 2816), y = ix2 r f := ⟨y 0, y 1, eq_ix2 y⟩
  refine (dup_at (holds A t) r f).trans ?_
  rw [show ((cfg0.win 13).blk t).view.emb (ix2 r f) = (ix2 (tileRow N_0 t r) f : S8192x2816.Idx) by blk_ext [(rows_out t).2.1]]
  rfl

theorem final_dz : left14 m c = fun i : S8192x1024.Idx => (a.dz (i 0) (i 1) : EReal) := by
  refine (data m 0 c).arrAt_eq_of_covers 14 _ (by decide +kernel) fun t hf y => ?_
  blk_simp
  rw [after_14]
  obtain ⟨r, f, rfl⟩ : ∃ (r : Fin 256) (f : Fin 1024), y = ix2 r f := ⟨y 0, y 1, eq_ix2 y⟩
  refine (dz_at (holds A t) r f).trans ?_
  rw [show ((cfg0.win 14).blk t).view.emb (ix2 r f) = (ix2 (tileRow N_0 t r) f : S8192x1024.Idx) by blk_ext [(rows_out t).2.2.1]]
  rfl

theorem final_dy : left15 m c = fun i : S8192x1024.Idx => ((a.g1 (ix1 (i 1)) * a.dz (i 0) (i 1) : ℝ) : EReal) := by
  refine (data m 0 c).arrAt_eq_of_covers 15 _ (by decide +kernel) fun t hf y => ?_
  blk_simp
  rw [after_15]
  obtain ⟨r, f, rfl⟩ : ∃ (r : Fin 256) (f : Fin 1024), y = ix2 r f := ⟨y 0, y 1, eq_ix2 y⟩
  refine (dy_at (holds A t) r f).trans ?_
  rw [show ((cfg0.win 15).blk t).view.emb (ix2 r f) = (ix2 (tileRow N_0 t r) f : S8192x1024.Idx) by blk_ext [(rows_out t).2.2.2]]
  rfl

theorem sum_dsc (l : Fin 1024) : ∑ s : Fin 8, left16 m c (ix2 s l) = ∑ r : Fin 8192, ((a.dh r l * a.x1 r l : ℝ) : EReal) := by
  rw [(last_sum m c).1, after_16]
  refine sums_all N_0 (fun n h => (sumsAt m c n h).1) (fun r l => ((a.dh r l * a.x1 r l : ℝ) : EReal)) (fun t s l h => ?_) (fun t s l h => ?_) _ l
  · rw [sums_first m c t h]
    refine (dsc_step (holds A t) (k0_pay4 (F := Ideal)) s l).trans ?_
    rw [show (k0_pay4 (F := Ideal)) (ix2 s l) = 0 by pointwise [k0_pay4], zero_add]
  · rw [sums_later m c t h]
    exact dsc_step (holds A t) _ s l

theorem sum_dsh (l : Fin 1024) : ∑ s : Fin 8, left17 m c (ix2 s l) = ∑ r : Fin 8192, ((a.dh r l : ℝ) : EReal) := by
  rw [(last_sum m c).2.1, after_17]
  refine sums_all N_0 (fun n h => (sumsAt m c n h).2.1) (fun r l => ((a.dh r l : ℝ) : EReal)) (fun t s l h => ?_) (fun t s l h => ?_) _ l
  · rw [sums_first m c t h]
    refine (dsh_step (holds A t) (k0_pay5 (F := Ideal)) s l).trans ?_
    rw [show (k0_pay5 (F := Ideal)) (ix2 s l) = 0 by pointwise [k0_pay5], zero_add]
  · rw [sums_later m c t h]
    exact dsh_step (holds A t) _ s l

theorem sum_dlg (l : Fin 1024) : ∑ s : Fin 8, left18 m c (ix2 s l) = ∑ r : Fin 8192, ((a.dx r l * Norm.hat (a.z r) l : ℝ) : EReal) := by
  rw [(last_sum m c).2.2.1, after_18]
  refine sums_all N_0 (fun n h => (sumsAt m c n h).2.2.1) (fun r l => ((a.dx r l * Norm.hat (a.z r) l : ℝ) : EReal)) (fun t s l h => ?_) (fun t s l h => ?_) _ l
  · rw [sums_first m c t h]
    refine (dlg_step (holds A t) (k0_pay6 (F := Ideal)) s l).trans ?_
    rw [show (k0_pay6 (F := Ideal)) (ix2 s l) = 0 by pointwise [k0_pay6], zero_add]
  · rw [sums_later m c t h]
    exact dlg_step (holds A t) _ s l

theorem sum_dlb (l : Fin 1024) : ∑ s : Fin 8, left19 m c (ix2 s l) = ∑ r : Fin 8192, ((a.dx r l : ℝ) : EReal) := by
  rw [(last_sum m c).2.2.2.1, after_19]
  refine sums_all N_0 (fun n h => (sumsAt m c n h).2.2.2.1) (fun r l => ((a.dx r l : ℝ) : EReal)) (fun t s l h => ?_) (fun t s l h => ?_) _ l
  · rw [sums_first m c t h]
    refine (dlb_step (holds A t) (k0_pay7 (F := Ideal)) s l).trans ?_
    rw [show (k0_pay7 (F := Ideal)) (ix2 s l) = 0 by pointwise [k0_pay7], zero_add]
  · rw [sums_later m c t h]
    exact dlb_step (holds A t) _ s l

theorem sum_dg1 (l : Fin 1024) : ∑ s : Fin 8, left20 m c (ix2 s l) = ∑ r : Fin 8192, ((a.dz r l * a.y (ix2 r l) : ℝ) : EReal) := by
  rw [(last_sum m c).2.2.2.2, after_20]
  refine sums_all N_0 (fun n h => (sumsAt m c n h).2.2.2.2) (fun r l => ((a.dz r l * a.y (ix2 r l) : ℝ) : EReal)) (fun t s l h => ?_) (fun t s l h => ?_) _ l
  · rw [sums_first m c t h]
    refine (dg1_step (holds A t) (k0_pay8 (F := Ideal)) s l).trans ?_
    rw [show (k0_pay8 (F := Ideal)) (ix2 s l) = 0 by pointwise [k0_pay8], zero_add]
  · rw [sums_later m c t h]
    exact dg1_step (holds A t) _ s l

end Cert.BackIdeal.Body

end
-- ==== Proof.BackValue.lean ====
/- The call `ffn_bwd` and the derivative of the feed-forward part with the norm before it leave the same results at real
   arguments; and the frames of the three programs. -/
module

public import proofs.«01_k».proof.Proof.BackArr
public import proofs.«01_k».proof.Proof.FfnValue
public import proofs.«01_k».proof.Proof.Gen.Back
public import proofs.«01_k».proof.Proof.Gen.Pre_back_finite
public import proofs.«01_k».proof.Defs

@[expose] public section

set_option maxRecDepth 16384

noncomputable section

namespace Cert.BackIdeal.Body

open Cert.BackIdeal Cert.BackIdeal.Gen Idealize.ShloMosaic Idealize.ShloMosaic.TcCoe Idealize.SL.Sem
open Idealize.ShloMosaic.StableHlo Cert.RealNum Cert.FfnSpec Cert.BackSpec Cert.Classes

variable (m : (ℓ : Loc nD τ sig) → Buf (Elt Ideal) ℓ)

/-- What the precondition says of one argument. -/
theorem real_of_test {S : Shape} (x : FVec Ideal S .f32) (hb : Pre_back_finite.S_.BroadcastsInDim S (![] : Fin 0 → Fin S.rank))
    (h : cmpf .olt (Host.absf x) (broadcastInDim S ![] hb (constant Pre_back_finite.S_ .f32 0x7F800000#32)) = fun _ => 1#1) :
    ∃ a : S.Idx → ℝ, x = fun i => (a i : EReal) := FfnIdeal.Value.real_of_test x hb h

theorem reals (hp : Cert.Pre_BackIdeal_back_finite (hPre_back_finite := Pre_back_finite.Gen.facts) m) (c : Dev nD) :
    ∃ a : Args, Reals m c a := by
  obtain ⟨h0, h1, h2, h3, h4, h5, h6, h7, h8, h9, h10⟩ := hp c
  obtain ⟨a0, e0⟩ := real_of_test _ _ h0
  obtain ⟨a1, e1⟩ := real_of_test _ _ h1
  obtain ⟨a2, e2⟩ := real_of_test _ _ h2
  obtain ⟨a3, e3⟩ := real_of_test _ _ h3
  obtain ⟨a4, e4⟩ := real_of_test _ _ h4
  obtain ⟨a5, e5⟩ := real_of_test _ _ h5
  obtain ⟨a6, e6⟩ := real_of_test _ _ h6
  obtain ⟨a7, e7⟩ := real_of_test _ _ h7
  obtain ⟨a8, e8⟩ := real_of_test _ _ h8
  obtain ⟨a9, e9⟩ := real_of_test _ _ h9
  obtain ⟨a10, e10⟩ := real_of_test _ _ h10
  exact ⟨⟨a0, a1, a2, a3, a4, a5, a6, a7, a8, a9, a10⟩, ⟨e0, e1, e2, e3, e4, e5, e6, e7, e8, e9, e10⟩⟩

/-- The sum over the eight classes. -/
theorem sum8 (y : Vec Ideal S8x1024 .f32) (l : Fin 1024) : rowsSum (F := Ideal) y (ix1 l) = ∑ s : Fin 8, y (ix2 s l) := by
  pointwise

variable {m} {c : Dev nD} {a : Args} (A : Reals m c a)
include A

theorem dgate_eq : extf (F := Ideal) .f32 (left12 m c) bitsLt_bf16_f32
    = BackRefIdeal.Read.val_main_v54 (F := Ideal) (up a.x) (up a.y) (up a.w) (up a.wd) (up a.g1) (up a.lg) (up a.lb) (up a.sc) (up a.sh) (up a.dy) :=
  (final_dgate A).trans (funext fun i => (BackRefIdeal.Value.dgate_at a i).symm)

theorem dup_eq : extf (F := Ideal) .f32 (left13 m c) bitsLt_bf16_f32
    = BackRefIdeal.Read.val_main_v52 (F := Ideal) (up a.x) (up a.y) (up a.w) (up a.wd) (up a.g1) (up a.lg) (up a.lb) (up a.sc) (up a.sh) (up a.dy) :=
  (final_dup A).trans (funext fun i => (BackRefIdeal.Value.dup_at a i).symm)

theorem dz_eq : left14 m c
    = BackRefIdeal.Read.val_main_v101 (F := Ideal) (up a.x) (up a.y) (up a.w) (up a.wd) (up a.g1) (up a.lg) (up a.lb) (up a.sc) (up a.sh) (up a.dy) (up a.dz2) :=
  (final_dz A).trans (funext fun i => (BackRefIdeal.Value.dz_at a i).symm)

theorem dy_eq : extf (F := Ideal) .f32 (left15 m c) bitsLt_bf16_f32
    = BackRefIdeal.Read.val_main_v103 (F := Ideal) (up a.x) (up a.y) (up a.w) (up a.wd) (up a.g1) (up a.lg) (up a.lb) (up a.sc) (up a.sh) (up a.dy) (up a.dz2) :=
  (final_dy A).trans (funext fun i => (BackRefIdeal.Value.dy_at a i).symm)

theorem dg1_eq : rowsSum (F := Ideal) (left20 m c)
    = BackRefIdeal.Read.val_main_v107 (F := Ideal) (up a.x) (up a.y) (up a.w) (up a.wd) (up a.g1) (up a.lg) (up a.lb) (up a.sc) (up a.sh) (up a.dy) (up a.dz2) := by
  funext i
  obtain ⟨l, rfl⟩ : ∃ l : Fin 1024, i = ix1 l := ⟨i 0, eq_ix1 i⟩
  rw [BackRefIdeal.Value.dg1_apply, sum8, sum_dg1 A, ← coe_sum]

theorem dlg_eq : rowsSum (F := Ideal) (left18 m c)
    = BackRefIdeal.Read.val_main_v77 (F := Ideal) (up a.x) (up a.y) (up a.w) (up a.wd) (up a.g1) (up a.lg) (up a.lb) (up a.sc) (up a.sh) (up a.dy) (up a.dz2) := by
  funext i
  obtain ⟨l, rfl⟩ : ∃ l : Fin 1024, i = ix1 l := ⟨i 0, eq_ix1 i⟩
  rw [BackRefIdeal.Value.dlg_apply, sum8, sum_dlg A, ← coe_sum]

theorem dlb_eq : rowsSum (F := Ideal) (left19 m c)
    = BackRefIdeal.Read.val_main_v71 (F := Ideal) (up a.x) (up a.y) (up a.w) (up a.wd) (up a.g1) (up a.lg) (up a.lb) (up a.sc) (up a.sh) (up a.dy) (up a.dz2) := by
  funext i
  obtain ⟨l, rfl⟩ : ∃ l : Fin 1024, i = ix1 l := ⟨i 0, eq_ix1 i⟩
  rw [BackRefIdeal.Value.dlb_apply, sum8, sum_dlb A, ← coe_sum]

theorem dsc_eq : rowsSum (F := Ideal) (left16 m c)
    = BackRefIdeal.Read.val_main_v65 (F := Ideal) (up a.x) (up a.y) (up a.w) (up a.wd) (up a.g1) (up a.lg) (up a.lb) (up a.sc) (up a.sh) (up a.dy) := by
  funext i
  obtain ⟨l, rfl⟩ : ∃ l : Fin 1024, i = ix1 l := ⟨i 0, eq_ix1 i⟩
  rw [BackRefIdeal.Value.dsc_apply, sum8, sum_dsc A, ← coe_sum]

theorem dsh_eq : rowsSum (F := Ideal) (left17 m c)
    = BackRefIdeal.Read.val_main_v59 (F := Ideal) (up a.x) (up a.y) (up a.w) (up a.wd) (up a.g1) (up a.lg) (up a.lb) (up a.sc) (up a.sh) (up a.dy) := by
  funext i
  obtain ⟨l, rfl⟩ : ∃ l : Fin 1024, i = ix1 l := ⟨i 0, eq_ix1 i⟩
  rw [BackRefIdeal.Value.dsh_apply, sum8, sum_dsh A, ← coe_sum]

end Cert.BackIdeal.Body

namespace Cert.BackIdeal

open Idealize.ShloMosaic Idealize.ShloMosaic.TcCoe Idealize.SL.Sem Cert.BackIdeal.Body
open Cert.BackRefIdeal.Read
open Cert.BackIdeal.Gen (bitsLt_bf16_f32)

/-- Over the extended reals the call and the derivative leave the same nine arrays at finite arguments. -/
theorem algebraic : Cert.algebraic_BackIdeal_BackRefIdeal_pre_back_finite (hBackIdeal := Gen.facts)
    (hBackRefIdeal := BackRefIdeal.Gen.facts) (hPre_back_finite := Pre_back_finite.Gen.facts) := by
  intro m g m' g' hp h
  refine ⟨fun c => extf (F := Ideal) .f32 (left12 m c) bitsLt_bf16_f32, fun c => extf (F := Ideal) .f32 (left13 m c) bitsLt_bf16_f32,
    fun c => left14 m c, fun c => extf (F := Ideal) .f32 (left15 m c) bitsLt_bf16_f32, fun c => rowsSum (F := Ideal) (left20 m c),
    fun c => rowsSum (F := Ideal) (left18 m c), fun c => rowsSum (F := Ideal) (left19 m c), fun c => rowsSum (F := Ideal) (left16 m c),
    fun c => rowsSum (F := Ideal) (left17 m c), (θ_run Cert.BackIdeal.defs _ _).mono (fun r k c => ?_) (θ_run_and (run_results m g)
      (Gen.frame_of m g (data m) (A_eq m) (run_main m g))), ?_⟩
  · obtain ⟨k0, k1, k2, k3, k4, k5, k6, k7, k8⟩ := k.1 c
    exact ⟨k0, k1, k2, k3, k4, k5, k6, k7, k8, k.2 c⟩
  refine (BackRefIdeal.Value.run m' g').mono fun r hr c => ?_
  obtain ⟨k0, k1, k2, k3, k4, k5, k6, k7, k8, hargs⟩ := hr c
  obtain ⟨a, A⟩ := reals m hp c
  obtain ⟨e0, e1, e2, e3, e4, e5, e6, e7, e8, e9, e10⟩ := h c
  replace e0 := e0.trans A.x
  replace e1 := e1.trans A.y
  replace e2 := e2.trans A.w
  replace e3 := e3.trans A.wd
  replace e4 := e4.trans A.g1
  replace e5 := e5.trans A.lg
  replace e6 := e6.trans A.lb
  replace e7 := e7.trans A.sc
  replace e8 := e8.trans A.sh
  replace e9 := e9.trans A.dy
  replace e10 := e10.trans A.dz2
  rw [val_main_v54_eq] at k0
  simp only [StableHlo.launchContents_devRef, e0, e1, e2, e3, e4, e5, e6, e7, e8, e9] at k0
  rw [val_main_v52_eq] at k1
  simp only [StableHlo.launchContents_devRef, e0, e1, e2, e3, e4, e5, e6, e7, e8, e9] at k1
  rw [val_main_v101_eq] at k2
  simp only [StableHlo.launchContents_devRef, e0, e1, e2, e3, e4, e5, e6, e7, e8, e9, e10] at k2
  rw [val_main_v103_eq] at k3
  simp only [StableHlo.launchContents_devRef, e0, e1, e2, e3, e4, e5, e6, e7, e8, e9, e10] at k3
  rw [val_main_v107_eq] at k4
  simp only [StableHlo.launchContents_devRef, e0, e1, e2, e3, e4, e5, e6, e7, e8, e9, e10] at k4
  rw [val_main_v77_eq] at k5
  simp only [StableHlo.launchContents_devRef, e0, e1, e2, e3, e4, e5, e6, e7, e8, e9, e10] at k5
  rw [val_main_v71_eq] at k6
  simp only [StableHlo.launchContents_devRef, e0, e1, e2, e3, e4, e5, e6, e7, e8, e9, e10] at k6
  rw [val_main_v65_eq] at k7
  simp only [StableHlo.launchContents_devRef, e0, e1, e2, e3, e4, e5, e6, e7, e8, e9] at k7
  rw [val_main_v59_eq] at k8
  simp only [StableHlo.launchContents_devRef, e0, e1, e2, e3, e4, e5, e6, e7, e8, e9] at k8
  exact ⟨k0.trans (dgate_eq A).symm, k1.trans (dup_eq A).symm, k2.trans (dz_eq A).symm, k3.trans (dy_eq A).symm, k4.trans (dg1_eq A).symm,
    k5.trans (dlg_eq A).symm, k6.trans (dlb_eq A).symm, k7.trans (dsc_eq A).symm, k8.trans (dsh_eq A).symm, hargs⟩

/-- The call terminates, with its arguments as they were and its counters at zero: over the extended reals, -/
theorem frame : Cert.quiescent_BackIdeal (hBackIdeal := Gen.facts) := fun m ρ _ =>
  θ_run_and (Gen.frame_of m ρ (data m) (A_eq m) (run_main m ρ)) (run_counters m ρ)

/-- and over the machine's own numbers, by the same run. -/
theorem frame_kernel : Cert.quiescent_Back (hBack := Back.Gen.facts) :=
  Eq.mp (by sl_kernel_rfl) (fun (m : (ℓ : Loc nD τ sig) → Buf (Elt Bits) ℓ) (ρ : Dev nD → PrngReg) (_ : True) =>
    θ_run_and (Gen.frame_of (F := Bits) m ρ (data m) (A_eq m) (run_main m ρ)) (run_counters m ρ))

end Cert.BackIdeal

namespace Cert.BackRefIdeal.Value

open Idealize.ShloMosaic Idealize.ShloMosaic.TcCoe Idealize.SL.Sem

/-- The derivative's program terminates and leaves its arguments as they were. -/
theorem frame : Cert.quiescent_BackRefIdeal (hBackRefIdeal := BackRefIdeal.Gen.facts) := fun m ρ _ =>
  (θ_run BackRefIdeal.defs _ _).mono
    (fun r hr => ⟨fun c => (hr c).2.2.2.2.2.2.2.2.2, sem_eq_zero_of_no_sems (by decide) r.2⟩) (run m ρ)

end Cert.BackRefIdeal.Value

end
-- ==== Proof.FwdSpec.lean ====
/- What the forward call of the token mixing computes on one block of 128 rows, over the extended reals, from arrays read
   at natural numbers: the windowed attention with its sink. -/
module

public import proofs.«01_k».proof.Proof.RealNum
public import Idealize.ShloMosaic.Lib.Pointwise

@[expose] public section

noncomputable section

namespace Cert.FwdSpec

open Idealize.ShloMosaic

/-- The entry of an array of rank one, two, three at natural numbers, zero outside. -/
def nat1 {a : ℕ} (X : (⟨1, ![a]⟩ : Shape).Idx → EReal) (i : ℕ) : EReal :=
  if h : i < a then X (ix1 ⟨i, h⟩) else 0
def nat2 {a b : ℕ} (X : (⟨2, ![a, b]⟩ : Shape).Idx → EReal) (i j : ℕ) : EReal :=
  if h : i < a ∧ j < b then X (ix2 ⟨i, h.1⟩ ⟨j, h.2⟩) else 0
def nat3 {a b c : ℕ} (X : (⟨3, ![a, b, c]⟩ : Shape).Idx → EReal) (i j k : ℕ) : EReal :=
  if h : i < a ∧ j < b ∧ k < c then X (ix3 ⟨i, h.1⟩ ⟨j, h.2.1⟩ ⟨k, h.2.2⟩) else 0

theorem nat1_val {a : ℕ} (X : (⟨1, ![a]⟩ : Shape).Idx → EReal) (i : Fin a) : nat1 X i.val = X (ix1 i) := by
  rw [nat1, dif_pos i.isLt]
theorem nat2_val {a b : ℕ} (X : (⟨2, ![a, b]⟩ : Shape).Idx → EReal) (i : Fin a) (j : Fin b) :
    nat2 X i.val j.val = X (ix2 i j) := by rw [nat2, dif_pos ⟨i.isLt, j.isLt⟩]
theorem nat3_val {a b c : ℕ} (X : (⟨3, ![a, b, c]⟩ : Shape).Idx → EReal) (i : Fin a) (j : Fin b) (k : Fin c) :
    nat3 X i.val j.val k.val = X (ix3 i j k) := by rw [nat3, dif_pos ⟨i.isLt, j.isLt, k.isLt⟩]

theorem nat2_lt {a b : ℕ} (X : (⟨2, ![a, b]⟩ : Shape).Idx → EReal) {i j : ℕ} (hi : i < a) (hj : j < b) :
    nat2 X i j = X (ix2 ⟨i, hi⟩ ⟨j, hj⟩) := nat2_val X ⟨i, hi⟩ ⟨j, hj⟩
theorem nat3_lt {a b c : ℕ} (X : (⟨3, ![a, b, c]⟩ : Shape).Idx → EReal) {i j k : ℕ} (hi : i < a) (hj : j < b) (hk : k < c) :
    nat3 X i j k = X (ix3 ⟨i, hi⟩ ⟨j, hj⟩ ⟨k, hk⟩) := nat3_val X ⟨i, hi⟩ ⟨j, hj⟩ ⟨k, hk⟩

/-- The numbers one half of a block of the sums over 128 lanes reads. -/
theorem sum_lanes (g : ℕ → EReal) : (∑ l : Fin 128, g l.val) = (∑ d : Fin 64, g d.val) + ∑ d : Fin 64, g (64 + d.val) :=
  Fin.sum_univ_add (a := 64) (b := 64) fun l : Fin 128 => g l.val

/-- The product of row `q` of the queries with the key `s` in the head `h`. -/
def qk (Q K : ℕ → ℕ → EReal) (h q s : ℕ) : EReal := ∑ d : Fin 64, Q q (64 * h + d.val) * K s (64 * (h / 4) + d.val)

/-- The logit: the scaled product and the position's bias where `off` does not hide the key. -/
def logit (Q K : ℕ → ℕ → EReal) (B : ℕ → ℕ → ℕ → EReal) (off : ℕ → ℕ → Prop) [∀ q s, Decidable (off q s)] (h q s : ℕ) : EReal :=
  if off q s then ⊥ else qk Q K h q s * Ideal.ofBits .f32 0x3E000000#32 + B h q s

/-- The normalisation over the 256 keys of a row and its sink. -/
def top (L : ℕ → EReal) (s : EReal) : EReal := max (Finset.univ.fold max ⊥ fun k : Fin 256 => L k.val) s
def ex (L : ℕ → EReal) (s : EReal) (k : ℕ) : EReal := Ideal.exp (L k - top L s)
def exs (L : ℕ → EReal) (s : EReal) : EReal := Ideal.exp (s - top L s)
def den (L : ℕ → EReal) (s : EReal) : EReal := (∑ k : Fin 256, ex L s k.val) + exs L s
def wt (L : ℕ → EReal) (s : EReal) (k : ℕ) : EReal := Ideal.div (ex L s k) (den L s)
def wts (L : ℕ → EReal) (s : EReal) : EReal := Ideal.div (exs L s) (den L s)

/-- The weights as the product with the reciprocal of the sum. -/
def wtR (L : ℕ → EReal) (s : EReal) (k : ℕ) : EReal := ex L s k * Ideal.div 1 (den L s)
def wtsR (L : ℕ → EReal) (s : EReal) : EReal := exs L s * Ideal.div 1 (den L s)

/-- The keys as both halves of the lanes hold them for the group `g`, half of the lanes of the values zero for each half of
    the rows, and half of the lanes of the queries. -/
def dup (K : ℕ → ℕ → EReal) (g s l : ℕ) : EReal := K s (64 * g + l % 64)
def split (V : ℕ → ℕ → EReal) (g r l : ℕ) : EReal := if (r < 256 ↔ l < 64) then V (r % 256) (64 * g + l % 64) else 0
def heads (Q : ℕ → ℕ → EReal) (h q l : ℕ) : EReal := if (h % 2 = 0 ↔ l < 64) then Q q (128 * (h / 2) + l) else 0

/-- Over all lanes a head's own half is what counts. -/
theorem heads_dup (Q K : ℕ → ℕ → EReal) (h q s : ℕ) :
    (∑ l : Fin 128, heads Q h q l.val * dup K (h / 4) s l.val) = qk Q K h q s := by
  rw [sum_lanes fun l => heads Q h q l * dup K (h / 4) s l]
  have key : ∀ d : Fin 64, d.val < 64 := fun d => d.isLt
  rcases Nat.mod_two_eq_zero_or_one h with e | e
  · have z : (∑ d : Fin 64, heads Q h q (64 + d.val) * dup K (h / 4) s (64 + d.val)) = 0 := by
      refine Finset.sum_eq_zero fun d _ => ?_
      rw [heads, if_neg (by omega), zero_mul]
    rw [z, add_zero]
    refine Finset.sum_congr rfl fun d _ => ?_
    have := d.isLt
    rw [heads, if_pos (by omega), dup, Nat.mod_eq_of_lt this, show 128 * (h / 2) + d.val = 64 * h + d.val by omega]
  · have z : (∑ d : Fin 64, heads Q h q d.val * dup K (h / 4) s d.val) = 0 := by
      refine Finset.sum_eq_zero fun d _ => ?_
      have := d.isLt
      rw [heads, if_neg (by omega), zero_mul]
    rw [z, zero_add]
    refine Finset.sum_congr rfl fun d _ => ?_
    have := d.isLt
    rw [heads, if_pos (by omega), dup, show (64 + d.val) % 64 = d.val by omega,
      show 128 * (h / 2) + (64 + d.val) = 64 * h + d.val by omega]

/-- The attention of row `q` in column `j`. -/
def attn (w : ℕ → ℕ → ℕ → EReal) (V : ℕ → ℕ → EReal) (q j : ℕ) : EReal :=
  ∑ s : Fin 256, w (j / 64) q s.val * V s.val (64 * (j / 256) + j % 64)

/-- The sums over the rows of the two heads whose values lie side by side are the sum of the head whose half the column
    lies in. -/
theorem pair_split (w : ℕ → ℕ → ℕ → EReal) (V : ℕ → ℕ → EReal) (q j : ℕ) :
    (∑ s : Fin 256, w (2 * (j / 128)) q s.val * split V (j / 256) s.val (j % 128))
        + (∑ s : Fin 256, w (2 * (j / 128) + 1) q s.val * split V (j / 256) (256 + s.val) (j % 128)) = attn w V q j := by
  by_cases hj : j % 128 < 64
  · have z : (∑ s : Fin 256, w (2 * (j / 128) + 1) q s.val
        * split V (j / 256) (256 + s.val) (j % 128)) = 0 := by
      refine Finset.sum_eq_zero fun d _ => ?_
      rw [split, if_neg (by omega), mul_zero]
    rw [z, add_zero]
    refine Finset.sum_congr rfl fun s _ => ?_
    have := s.isLt
    rw [split, if_pos (by omega), show 2 * (j / 128) = j / 64 by omega, Nat.mod_eq_of_lt this,
      show j % 128 % 64 = j % 64 by omega]
  · have z : (∑ s : Fin 256, w (2 * (j / 128)) q s.val * split V (j / 256) s.val (j % 128)) = 0 := by
      refine Finset.sum_eq_zero fun d _ => ?_
      have := d.isLt
      rw [split, if_neg (by omega), mul_zero]
    rw [z, zero_add]
    refine Finset.sum_congr rfl fun s _ => ?_
    have := s.isLt
    rw [split, if_pos (by omega), show 2 * (j / 128) + 1 = j / 64 by omega,
      show (256 + s.val) % 256 = s.val by omega, show j % 128 % 64 = j % 64 by omega]

end Cert.FwdSpec
-- ==== Proof.FwdPay.lean ====
/- The values one grid point of the call `mix_fwd` computes in its attention, read at an index. -/
module

public import proofs.«01_k».proof.Proof.Gen.MixFwdIdeal.Skeleton
public import proofs.«01_k».proof.Proof.FwdSpec
public import Idealize.ShloMosaic.Lib.WordCmp

@[expose] public section

set_option maxRecDepth 16384

noncomputable section

namespace Cert.MixFwdIdeal.Body

open Cert.MixFwdIdeal Cert.MixFwdIdeal.Gen Idealize.ShloMosaic Idealize.ShloMosaic.TcCoe Idealize.SL.Sem
open Cert.RealNum Cert.FwdSpec

open Idealize.ShloMosaic.WordCmp

theorem mask_val : Named.named (F := Ideal) κ "mask" (φ := .f32) 0xF149F2CA#32 = (⊥ : EReal) :=
  IdealRules.named_const.ideal_named_scalar _ _ _ _ rfl

theorem sel_lt {α : Type} {a b : ℕ} (ha : a < 2 ^ 31) (hb : b < 2 ^ 31) (x y : α) :
    Scalar.select (IntOp.cmpi .slt (BitVec.ofNat 32 a) (BitVec.ofNat 32 b)) x y = if a < b then x else y := by
  rw [cmpi_slt_ofNat ha hb, select_ofBool]; simp

theorem sel_eq {α : Type} {a b : ℕ} (ha : a < 2 ^ 32) (hb : b < 2 ^ 32) (x y : α) :
    Scalar.select (IntOp.cmpi .eq (BitVec.ofNat 32 a) (BitVec.ofNat 32 b)) x y = if a = b then x else y := by
  rw [cmpi_eq_ofNat ha hb, select_ofBool]; simp

section keys

variable (a b : Vec Ideal S128x128 .f32) (K : ℕ → ℕ → EReal)
variable (ha : ∀ s l : Fin 128, a (ix2 s l) = K s.val l.val) (hb : ∀ s l : Fin 128, b (ix2 s l) = K (128 + s.val) l.val)
include ha hb

theorem cat_at (s : Fin 256) (l : Fin 128) : k0_pay3 (F := Ideal) a b (ix2 s l) = K s.val l.val := by
  rw [k0_pay3]
  by_cases h : s.val < 128
  · exact (concatenate_pair_apply_left 0 a b concatenates_S128x128_S128x128_S256x128_d0 (ix2 s l) rfl (ix2 ⟨s.val, h⟩ l)
      fun c => by match c with | ⟨0, _⟩ => rfl | ⟨1, _⟩ => rfl).trans (ha _ _)
  · refine (concatenate_pair_apply_right 0 a b concatenates_S128x128_S128x128_S256x128_d0 (ix2 s l) rfl rfl
      (ix2 ⟨s.val - 128, by omega⟩ l) (fun c hc => by match c with | ⟨0, _⟩ => exact absurd rfl hc | ⟨1, _⟩ => rfl)
      (Nat.sub_add_cancel (by show 128 ≤ s.val; omega))).trans ?_
    rw [hb]; exact congrArg₂ K (by dsimp only; omega) rfl

theorem dup0_at (s : Fin 256) (l : Fin 128) : k0_pay7 (F := Ideal) a b (ix2 s l) = dup K 0 s.val l.val := by
  pointwise [k0_pay7, k0_pay2, k0_pay4, k0_pay5]
  rw [cat_at a b K ha hb, cat_at a b K ha hb, sel_lt (by omega) (by decide), dup]
  split
  · exact congrArg (K s.val) (by omega)
  · exact congrArg (K s.val) (by dsimp only; omega)

theorem dup1_at (s : Fin 256) (l : Fin 128) : k0_pay10 (F := Ideal) a b (ix2 s l) = dup K 1 s.val l.val := by
  pointwise [k0_pay10, k0_pay2, k0_pay4, k0_pay5]
  rw [cat_at a b K ha hb, cat_at a b K ha hb, sel_lt (by omega) (by decide), dup]
  split
  · exact congrArg (K s.val) (by dsimp only; omega)
  · exact congrArg (K s.val) (by omega)

theorem kd0_at (i : Fin 1) (s : Fin 256) (l : Fin 128) : k0_pay8 (F := Ideal) a b (ix3 i s l) = dup K 0 s.val l.val := by
  rw [← dup0_at a b K ha hb]
  pointwise [k0_pay8]

theorem kd1_at (i : Fin 1) (s : Fin 256) (l : Fin 128) : k0_pay11 (F := Ideal) a b (ix3 i s l) = dup K 1 s.val l.val := by
  rw [← dup1_at a b K ha hb]
  pointwise [k0_pay11]

theorem vm0_at (i : Fin 1) (r : Fin 512) (l : Fin 128) : k0_pay19 (F := Ideal) k0_pay2 a b (ix3 i r l) = split K 0 r.val l.val := by
  show k0_pay9 (F := Ideal) a b (ix3 i r l) = _
  rw [k0_pay9]
  pointwise [k0_pay2, k0_pay6]
  rw [split]
  have hl := l.isLt
  by_cases h : r.val < 256
  · rw [dif_pos h, sel_lt (by omega) (by decide), dup0_at a b K ha hb]
    simp only [h, true_iff, dup, Nat.mod_eq_of_lt h]
  · rw [dif_neg h, sel_lt (by omega) (by decide), dup0_at a b K ha hb]
    by_cases hl : l.val < 64
    · rw [if_pos hl, if_neg (by omega)]
    · rw [if_neg hl]
      show K (r.val - 256) (64 * 0 + l.val % 64) = _
      rw [if_pos (by omega), show r.val - 256 = r.val % 256 by omega]

theorem vm1_at (i : Fin 1) (r : Fin 512) (l : Fin 128) : k0_pay22 (F := Ideal) k0_pay2 a b (ix3 i r l) = split K 1 r.val l.val := by
  show k0_pay12 (F := Ideal) a b (ix3 i r l) = _
  rw [k0_pay12]
  pointwise [k0_pay2, k0_pay6]
  rw [split]
  have hl := l.isLt
  by_cases h : r.val < 256
  · rw [dif_pos h, sel_lt (by omega) (by decide), dup1_at a b K ha hb]
    simp only [h, true_iff, dup, Nat.mod_eq_of_lt h]
  · rw [dif_neg h, sel_lt (by omega) (by decide), dup1_at a b K ha hb]
    by_cases hl : l.val < 64
    · rw [if_pos hl, if_neg (by omega)]
    · rw [if_neg hl]
      show K (r.val - 256) (64 * 1 + l.val % 64) = _
      rw [if_pos (by omega), show r.val - 256 = r.val % 256 by omega]

end keys

theorem qlo_at (x : Vec Ideal S128x128 .f32) (Q : ℕ → ℕ → EReal) (h o : ℕ) (e : h % 2 = 0) (ho : o = 128 * (h / 2))
    (hx : ∀ q l : Fin 128, x (ix2 q l) = Q q.val (o + l.val)) (i : Fin 1) (q l : Fin 128) :
    k0_pay24 (F := Ideal) x (ix3 i q l) = heads Q h q.val l.val := by
  pointwise [k0_pay24, k0_pay23]
  rw [sel_lt (by omega) (by decide), hx, heads, ho]
  simp only [e, true_iff]

theorem qhi_at (x : Vec Ideal S128x128 .f32) (Q : ℕ → ℕ → EReal) (h o : ℕ) (e : h % 2 = 1) (ho : o = 128 * (h / 2))
    (hx : ∀ q l : Fin 128, x (ix2 q l) = Q q.val (o + l.val)) (i : Fin 1) (q l : Fin 128) :
    k0_pay25 (F := Ideal) k0_pay23 x (ix3 i q l) = heads Q h q.val l.val := by
  pointwise [k0_pay25, k0_pay23]
  rw [sel_lt (by omega) (by decide), hx, heads, ho]
  by_cases hl : l.val < 64
  · rw [if_pos hl, if_neg (by omega)]
  · rw [if_neg hl, if_pos (by omega)]

theorem lg_at (x : Vec Ideal S4x128x128 .bf16) (y : Vec Ideal S1x256x128 .bf16) (Q K : ℕ → ℕ → EReal) (g : ℕ)
    (hx : ∀ (a : Fin 4) (q l : Fin 128), x (ix3 a q l) = heads Q (4 * g + a.val) q.val l.val)
    (hy : ∀ (s : Fin 256) (l : Fin 128), y (ix3 0 s l) = dup K g s.val l.val) (i : Fin 1) (r : Fin 512) (s : Fin 256) :
    k0_pay33 (F := Ideal) x y (ix3 i r s) = qk Q K (4 * g + r.val / 128) (r.val % 128) s.val := by
  pointwise [k0_pay33]
  simp only [hx, hy]
  rw [← heads_dup, show (4 * g + r.val / 128) / 4 = g by omega]

theorem ninf : Ideal.ofBits .f32 0xFF800000#32 = (⊥ : EReal) := by
  simp [Ideal.ofBits, Ideal.ieee]

section weights

variable (mk : IVec S64x256 1) (sk : EReal) (x y : Vec Ideal S1x64x256 .f32) (n : ℕ)

/-- The keys the first block hides. -/
def first (n s : ℕ) : Prop := n = 0 ∧ s < 128
instance (n s : ℕ) : Decidable (first n s) := by unfold first; infer_instance

variable (hm : ∀ (r : Fin 64) (s : Fin 256), mk (ix2 r s) = BitVec.ofBool (decide (first n s.val)))
variable (L : ℕ → ℕ → EReal)
variable (hL : ∀ (r : Fin 64) (s : Fin 256), L r.val s.val
    = if first n s.val then ⊥ else x (ix3 0 r s) * Ideal.ofBits .f32 0x3E000000#32 + y (ix3 0 r s))
include hm hL

theorem p_at (r : Fin 64) (s : Fin 256) : k0_pay88 (F := Ideal) mk sk x y (ix2 r s) = wtR (L r.val) sk s.val := by
  pointwise [k0_pay88, k0_pay87,k0_pay86, k0_pay85, k0_pay84,k0_pay83]
  simp only [mask_val, hm, select_ofBool, decide_eq_true_eq, ← hL, ninf]
  rfl

theorem ps_at (r : Fin 64) (i : Fin 1) : mulf (k0_pay86 (F := Ideal) mk sk x y) (k0_pay87 (F := Ideal) mk sk x y) (ix2 r i) = wtsR (L r.val) sk := by
  pointwise [k0_pay87,k0_pay86, k0_pay85, k0_pay84,k0_pay83]
  simp only [mask_val, hm, select_ofBool, decide_eq_true_eq, ← hL, ninf]
  rfl

end weights

theorem mk_at (n : ℕ) (h : n < 64) (r : Fin 64) (s : Fin 256) :
    k0_pay36 (BitVec.ofNat 32 n) (ix2 r s) = BitVec.ofBool (decide (first n s.val)) := by
  pointwise [k0_pay36]
  rw [cmpi_slt_ofNat (by omega) (by decide), show Scalar.cmpi .eq (BitVec.ofNat 32 n) 0#32 = BitVec.ofBool (decide (n = 0)) from
    cmpi_eq_ofNat (by omega) (by decide)]
  by_cases h0 : n = 0 <;> by_cases h1 : s.val < 128 <;> simp [first, h0, h1] <;> rfl

theorem at_lo (x1 x2 x3 x4 : Vec Ideal S1x128x256 .bf16) (y : Vec Ideal S1x512x128 .bf16) (w : ℕ → ℕ → ℕ → EReal)
    (V : ℕ → ℕ → EReal) (g : ℕ)
    (h1 : ∀ (q : Fin 128) (s : Fin 256), x1 (ix3 0 q s) = w (4 * g) q.val s.val)
    (h2 : ∀ (q : Fin 128) (s : Fin 256), x2 (ix3 0 q s) = w (4 * g + 1) q.val s.val)
    (hy : ∀ (r : Fin 512) (l : Fin 128), y (ix3 0 r l) = split V g r.val l.val) (q l : Fin 128) :
    k0_pay196 (F := Ideal) x1 x2 x3 x4 y (ix2 q l) = attn w V q.val (256 * g + l.val) := by
  pointwise [k0_pay196, k0_pay195]
  simp only [h1, h2, hy]
  rw [← pair_split, show 2 * ((256 * g + l.val) / 128) = 4 * g by omega, show (256 * g + l.val) / 256 = g by omega,
    show (256 * g + l.val) % 128 = l.val by omega]

theorem at_hi (x1 x2 x3 x4 : Vec Ideal S1x128x256 .bf16) (y : Vec Ideal S1x512x128 .bf16) (w : ℕ → ℕ → ℕ → EReal)
    (V : ℕ → ℕ → EReal) (g : ℕ)
    (h3 : ∀ (q : Fin 128) (s : Fin 256), x3 (ix3 0 q s) = w (4 * g + 2) q.val s.val)
    (h4 : ∀ (q : Fin 128) (s : Fin 256), x4 (ix3 0 q s) = w (4 * g + 3) q.val s.val)
    (hy : ∀ (r : Fin 512) (l : Fin 128), y (ix3 0 r l) = split V g r.val l.val) (q l : Fin 128) :
    k0_pay197 (F := Ideal) x1 x2 x3 x4 y (ix2 q l) = attn w V q.val (256 * g + 128 + l.val) := by
  pointwise [k0_pay197, k0_pay195]
  simp only [h3, h4, hy]
  rw [← pair_split, show 2 * ((256 * g + 128 + l.val) / 128) = 4 * g + 2 by omega,
    show (256 * g + 128 + l.val) / 256 = g by omega, show (256 * g + 128 + l.val) % 128 = l.val by omega]

end Cert.MixFwdIdeal.Body
-- ==== Proof.FwdGatePay.lean ====
/- What the body of `mix_fwd` computes for the spatial gate, value by value: the gelu, the mean over a group's 64 lanes, the
   normalised group, the mixing of the rows and the scaling by the root of the mean square. -/
module

public import proofs.«01_k».proof.Proof.FwdPay

@[expose] public section

set_option maxRecDepth 16384

noncomputable section

namespace Cert.FwdSpec

open Idealize.ShloMosaic

/-- The gelu, in the form with the hyperbolic tangent. -/
def gelu (x : EReal) : EReal :=
  Ideal.ofBits .f32 0x3F000000#32 * x * (1 + Ideal.tanh (Ideal.ofBits .f32 0x3F4C422A#32 * (x + Ideal.ofBits .f32 0x3D372713#32 * x * (x * x))))

/-- The mean over the 64 lanes of a group, and the group normalised by its mean and its variance. -/
def gmean (A : ℕ → EReal) (j : ℕ) : EReal := (∑ d : Fin 64, A (64 * (j / 64) + d.val)) * Ideal.ofBits .f32 0x3C800000#32
def gdev (A : ℕ → EReal) (j : ℕ) : EReal := A j - gmean A j
def gnorm (A : ℕ → EReal) (j : ℕ) : EReal :=
  gdev A j * Ideal.rsqrt (gmean (fun k => gdev A k * gdev A k) j + Ideal.ofBits .f32 0x3727C5AC#32)

/-- The scaling of a row of 512 by the root of its mean square. -/
def rms (f : ℕ → EReal) (j : ℕ) : EReal :=
  f j * Ideal.rsqrt (Ideal.div (∑ k : Fin 512, f k.val * f k.val) (Ideal.ofBits .f32 0x44000000#32) + Ideal.ofBits .f32 0x3727C5AC#32)

theorem half_sum (f : Fin 128 → EReal) (l : ℕ) (hl : l < 128) :
    (if l < 64 then ∑ k : Fin 128, (if k.val < 64 then f k else 0) else ∑ k : Fin 128, (if k.val < 64 then 0 else f k))
      = ∑ d : Fin 64, f ⟨64 * (l / 64) + d.val, by omega⟩ := by
  by_cases h : l < 64
  · rw [if_pos h, Fin.sum_univ_add (a := 64) (b := 64) (fun k : Fin 128 => if k.val < 64 then f k else 0)]
    rw [Finset.sum_eq_zero (s := Finset.univ) (f := fun i : Fin 64 => (fun k : Fin 128 => if k.val < 64 then f k else 0) (Fin.natAdd 64 i))
      (fun i _ => if_neg (by simp)), add_zero]
    refine Finset.sum_congr rfl fun i _ => ?_
    show (if i.val < 64 then f _ else 0) = _
    rw [if_pos i.isLt]
    exact congrArg f (Fin.ext (by show i.val = 64 * (l / 64) + i.val; omega))
  · rw [if_neg h, Fin.sum_univ_add (a := 64) (b := 64) (fun k : Fin 128 => if k.val < 64 then 0 else f k)]
    rw [Finset.sum_eq_zero (s := Finset.univ) (f := fun i : Fin 64 => (fun k : Fin 128 => if k.val < 64 then 0 else f k) (Fin.castAdd 64 i))
      (fun i _ => if_pos i.isLt), zero_add]
    refine Finset.sum_congr rfl fun i _ => ?_
    show (if 64 + i.val < 64 then 0 else f _) = _
    rw [if_neg (by omega)]
    exact congrArg f (Fin.ext (by show 64 + i.val = 64 * (l / 64) + i.val; omega))

end Cert.FwdSpec

namespace Cert.MixFwdIdeal.Body

open Cert.MixFwdIdeal Cert.MixFwdIdeal.Gen Idealize.ShloMosaic Idealize.ShloMosaic.TcCoe Idealize.SL.Sem Idealize.ShloMosaic.WordCmp
open Cert.RealNum Cert.FwdSpec

theorem sel64 {α : Type} (l : Fin 128) (x y : α) :
    Scalar.select (IntOp.cmpi .slt (BitVec.ofNat 32 l.val) 64#32) x y = if l.val < 64 then x else y := sel_lt (by omega) (by decide) x y

theorem gelu_at (X : Vec Ideal S32x512 .f32) (r : Fin 32) (j : Fin 512) : k0_pay240 (F := Ideal) X (ix2 r j) = gelu (X (ix2 r j)) := by
  pointwise [k0_pay240]
  rfl

/-- The means over the two groups of 128 lanes, each at the lanes of its group. -/
def chunk (Y : FVec Ideal S32x128 .f32) : FVec Ideal S32x128 .f32 := k0_pay243 k0_pay241 Y (Scalar.ofBits .f32 0x00000000#32)

theorem chunk_at (Y : FVec Ideal S32x128 .f32) (r : Fin 32) (l : Fin 128) :
    chunk Y (ix2 r l) = (∑ d : Fin 64, Y (ix2 r ⟨64 * (l.val / 64) + d.val, by omega⟩)) * Ideal.ofBits .f32 0x3C800000#32 := by
  have e := half_sum (fun k => Y (ix2 r k)) l.val l.isLt
  have e2 : chunk Y (ix2 r l) = (if l.val < 64 then ∑ k : Fin 128, (if k.val < 64 then Y (ix2 r k) else 0)
      else ∑ k : Fin 128, (if k.val < 64 then 0 else Y (ix2 r k))) * Ideal.ofBits .f32 0x3C800000#32 := by
    generalize hR : (if l.val < 64 then ∑ k : Fin 128, (if k.val < 64 then Y (ix2 r k) else 0)
      else ∑ k : Fin 128, (if k.val < 64 then 0 else Y (ix2 r k))) = R
    pointwise [chunk, k0_pay243, k0_pay241]
    simp only [sel64]
    rw [← hR]
  exact e2.trans (congrArg (· * Ideal.ofBits .f32 0x3C800000#32) e)

def means (X : FVec Ideal S32x512 .f32) : FVec Ideal S32x512 .f32 :=
  concatenate S32x512 1 [⟨S32x128, chunk (extractStridedSlice S32x128 ![0, 0] X slices_S32x512_o0_0_S32x128)⟩,
    ⟨S32x128, chunk (extractStridedSlice S32x128 ![0, 128] X slices_S32x512_o0_128_S32x128)⟩,
    ⟨S32x128, chunk (extractStridedSlice S32x128 ![0, 256] X slices_S32x512_o0_256_S32x128)⟩,
    ⟨S32x128, chunk (extractStridedSlice S32x128 ![0, 384] X slices_S32x512_o0_384_S32x128)⟩]
    concatenates_S32x128_S32x128_S32x128_S32x128_S32x512_d1

def groupNorm (X : FVec Ideal S32x512 .f32) : FVec Ideal S32x512 .f32 :=
  mulf (subf X (means X)) (rsqrt (addf (means (mulf (subf X (means X)) (subf X (means X)))) (broadcast S32x512 (Scalar.ofBits .f32 0x3727C5AC#32))))

theorem means_at (X : FVec Ideal S32x512 .f32) (A : ℕ → ℕ → EReal) (h : ∀ (r : Fin 32) (j : Fin 512), X (ix2 r j) = A r.val j.val)
    (r : Fin 32) (j : Fin 512) : means X (ix2 r j) = gmean (A r.val) j.val := by
  have e : ∀ (o : ℕ) (ho : o + 128 ≤ 512) (hs) (l : Fin 128), o % 64 = 0 → j.val = o + l.val →
      chunk (extractStridedSlice S32x128 ![0, o] X hs) (ix2 r l) = gmean (A r.val) j.val := fun o ho hs l h64 hj => by
    rw [chunk_at, gmean]
    refine congrArg (· * _) (Finset.sum_congr rfl fun d _ => ?_)
    rw [show extractStridedSlice S32x128 ![0, o] X hs (ix2 r ⟨64 * (l.val / 64) + d.val, by omega⟩)
      = X (ix2 r ⟨o + (64 * (l.val / 64) + d.val), by omega⟩) from congrArg X (funext fun a => Fin.ext (by
        match a with
        | ⟨0, _⟩ => show 0 + r.val = r.val; omega
        | ⟨1, _⟩ => rfl)), h]
    exact congrArg (A r.val) (by dsimp only; omega)
  have j0 := j.isLt
  generalize hG : gmean (A r.val) j.val = G at e ⊢
  pointwise [means]
  by_cases h0 : j.val < 128
  · rw [dif_pos h0]; exact e 0 (by decide) _ _ rfl (by dsimp only; omega)
  rw [dif_neg h0]
  by_cases h1 : j.val - 128 < 128
  · rw [dif_pos h1]; exact e 128 (by decide) _ _ rfl (by dsimp only; omega)
  rw [dif_neg h1]
  by_cases h2 : j.val - 128 - 128 < 128
  · rw [dif_pos h2]; exact e 256 (by decide) _ _ rfl (by dsimp only; omega)
  rw [dif_neg h2]
  exact e 384 (by decide) _ _ rfl (by dsimp only; omega)

theorem groupNorm_at (X : FVec Ideal S32x512 .f32) (A : ℕ → ℕ → EReal) (h : ∀ (r : Fin 32) (j : Fin 512), X (ix2 r j) = A r.val j.val)
    (r : Fin 32) (j : Fin 512) : groupNorm X (ix2 r j) = gnorm (A r.val) j.val := by
  have e : ∀ (r : Fin 32) (j : Fin 512), subf X (means X) (ix2 r j) = gdev (A r.val) j.val := fun r j => by
    show X (ix2 r j) - means X (ix2 r j) = _
    rw [h, means_at X A h]; rfl
  show subf X (means X) (ix2 r j) * Ideal.rsqrt (means _ (ix2 r j) + _) = _
  rw [e, means_at _ (fun r j => gdev (A r) j * gdev (A r) j) (fun r j => by show subf X (means X) (ix2 r j) * subf X (means X) (ix2 r j) = _; rw [e])]
  rfl

theorem vn_at (g b : FVec Ideal S1x512 .f32) (N : FVec Ideal S32x512 .f32) (r : Fin 32) (j : Fin 512) :
    k0_pay256 (F := Ideal) g b N (ix2 r j) = N (ix2 r j) * g (ix2 0 j) + b (ix2 0 j) := by
  pointwise [k0_pay256]

/-- The mixing of the rows for the two groups of 128 columns. -/
theorem mix_at (w : Vec Ideal S1x128x256 .bf16) (v : Vec Ideal S128x128 .bf16) (b : Vec Ideal S128x128 .f32) (t l : Fin 128) :
    k0_pay272 (F := Ideal) w v b (ix2 t l)
      = (∑ s : Fin 128, w (ix3 0 t ⟨128 * (l.val / 64) + s.val, by omega⟩) * v (ix2 s l)) + b (ix2 t l) := by
  pointwise [k0_pay272]
  simp only [sel64]
  refine congrArg (· + b (ix2 t l)) ?_
  by_cases hl : l.val < 64
  · simp only [if_pos hl, Finset.sum_const_zero, add_zero]
    exact Finset.sum_congr rfl fun s _ => congrArg (· * _) (congrArg (fun k => w (ix3 0 t k)) (Fin.ext (by dsimp only; omega)))
  · simp only [if_neg hl, Finset.sum_const_zero, zero_add]
    exact Finset.sum_congr rfl fun s _ => congrArg (· * _) (congrArg (fun k => w (ix3 0 t k)) (Fin.ext (by dsimp only; omega)))

theorem rms_at (X : Vec Ideal S32x512 .f32) (g : Vec Ideal S1x512 .f32) (f : ℕ → ℕ → EReal)
    (h : ∀ (r : Fin 32) (j : Fin 512), X (ix2 r j) = f r.val j.val) (r : Fin 32) (j : Fin 512) :
    k0_pay280 (F := Ideal) X g (ix2 r j) = rms (f r.val) j.val * g (ix2 0 j) := by
  pointwise [k0_pay280]
  simp only [h]
  rfl

theorem rms2_at (X Y : Vec Ideal S32x512 .f32) (g : Vec Ideal S1x512 .f32) (f : ℕ → ℕ → EReal)
    (h : ∀ (r : Fin 32) (j : Fin 512), X (ix2 r j) * Y (ix2 r j) = f r.val j.val) (r : Fin 32) (j : Fin 512) :
    k0_pay289 (F := Ideal) (k0_pay286 X Y) (k0_pay287 g) (k0_pay288 X Y) (ix2 r j) = rms (f r.val) j.val * g (ix2 0 j) := by
  pointwise [k0_pay289, k0_pay286, k0_pay287, k0_pay288]
  simp only [h]
  rfl

end Cert.MixFwdIdeal.Body
-- ==== Proof.FwdFin.lean ====
/- The four result arrays of the call `mix_fwd` as functions of its arguments, entry by entry. -/
module

public import proofs.«01_k».proof.Proof.FwdGatePay

@[expose] public section

noncomputable section

namespace Cert.FwdSpec

open Idealize.ShloMosaic

variable (P : ℕ → ℕ → EReal) (B : ℕ → ℕ → ℕ → EReal) (K : ℕ → EReal)

/-- The key `s` of the window of block `n` lies behind row `q`, at most 128 rows back, and not before the first row. -/
def seen (n q s : ℕ) : Prop := q < s ∧ s ≤ q + 128 ∧ 128 ≤ 128 * n + s
instance (n q s : ℕ) : Decidable (seen n q s) := by unfold seen; infer_instance

/-- The logits of row `q` of block `n`, the values of its window, and the attention's weights and output. -/
def slog (n h q s : ℕ) : EReal :=
  if seen n q s then qk (fun q j => P (128 * n + q) j) (fun s c => P (128 * n + s - 128) (512 + c)) h q s * Ideal.ofBits .f32 0x3E000000#32 + B h q s else ⊥
def sval (n s c : ℕ) : EReal := if 128 ≤ 128 * n + s then P (128 * n + s - 128) (640 + c) else 0
def fw (h r s : ℕ) : EReal := wt (slog P B (r / 128) h (r % 128)) (K h) s
def fs (r l : ℕ) : EReal := if l < 8 then wts (slog P B (r / 128) l (r % 128)) (K l) else 0
def fa (r j : ℕ) : EReal := attn (fun h q s => wt (slog P B (r / 128) h q) (K h) s) (sval P (r / 128)) (r % 128) j

variable (lg lb : ℕ → EReal) (ws : ℕ → ℕ → ℕ → EReal) (bs : ℕ → ℕ → EReal) (ag gg : ℕ → EReal)

/-- The spatial gate and the mixed rows. -/
def fu (r j : ℕ) : EReal := gelu (P r (768 + j))
def fv (r j : ℕ) : EReal := gnorm (fun k => gelu (P r (1280 + k))) j * lg j + lb j
def fm (r j : ℕ) : EReal :=
  (∑ s : Fin 128, (if s.val ≤ r % 128 then ws (j / 64) (r % 128) s.val else 0) * fv P lg lb (128 * (r / 128) + s.val) j) + bs (j / 64) (r % 128)
def fx (r j : ℕ) : EReal :=
  if j < 512 then rms (fa P B K r) j * ag j else rms (fun k => fu P r k * fm P lg lb ws bs r k) (j - 512) * gg (j - 512)

/-! ## The sum of the weights is not zero -/

theorem exp_nonneg (x : EReal) : 0 ≤ Ideal.exp x := by
  induction x with
  | bot => exact le_rfl
  | top => exact le_top
  | coe r => rw [Ideal.exp_coe]; exact_mod_cast (Real.exp_pos r).le

theorem top_real (L : ℕ → EReal) (s : EReal) (hs : ∃ r : ℝ, s = r) (hL : ∀ k, L k < ⊤) : ∃ r : ℝ, top L s = r := by
  obtain ⟨r, rfl⟩ := hs
  have h1 : top L r < ⊤ := by
    refine max_lt ?_ (EReal.coe_lt_top r)
    rw [Finset.fold_max_lt]
    exact ⟨bot_lt_top, fun k _ => hL k.val⟩
  have h2 : (⊥ : EReal) < top L r := lt_of_lt_of_le (EReal.bot_lt_coe r) (le_max_right _ _)
  exact ⟨(top L r).toReal, (EReal.coe_toReal h1.ne h2.ne').symm⟩

theorem den_ne (L : ℕ → EReal) (s : EReal) (hs : ∃ r : ℝ, s = r) (hL : ∀ k, L k < ⊤) : den L s ≠ 0 := by
  obtain ⟨t, ht⟩ := top_real L s hs hL
  obtain ⟨r, rfl⟩ := hs
  have h1 : 0 < exs L r := by
    rw [exs, ht, ← EReal.coe_sub, Ideal.exp_coe]; exact_mod_cast Real.exp_pos _
  exact (lt_of_lt_of_le h1 (le_add_of_nonneg_left (Finset.sum_nonneg fun k _ => exp_nonneg _))).ne'

theorem wtR_eq (L : ℕ → EReal) (s : EReal) (k : ℕ) (h : den L s ≠ 0) : wtR L s k = wt L s k := by
  rw [wtR, wt, Ideal.div, Ideal.div, if_neg h, if_neg h, one_mul]
theorem wtsR_eq (L : ℕ → EReal) (s : EReal) (h : den L s ≠ 0) : wtsR L s = wts L s := by
  rw [wtsR, wts, Ideal.div, Ideal.div, if_neg h, if_neg h, one_mul]

theorem wt_hidden (L : ℕ → EReal) (s : EReal) (k : ℕ) (hs : ∃ r : ℝ, s = r) (hL : ∀ k, L k < ⊤) (h : L k = ⊥) : wt L s k = 0 := by
  obtain ⟨t, ht⟩ := top_real L s hs hL
  rw [wt, Ideal.div, if_neg (den_ne L s hs hL), ex, h, ht, EReal.bot_sub, show Ideal.exp ⊥ = 0 from rfl, zero_mul]

/-- Finite arguments give logits below infinity. -/
theorem slog_lt (hP : ∀ r j, ∃ x : ℝ, P r j = x) (hB : ∀ h q s, ∃ x : ℝ, B h q s = x) (n h q s : ℕ) : slog P B n h q s < ⊤ := by
  choose p hp using hP
  choose b hb using hB
  rw [slog]
  split
  · rw [qk]
    simp only [hp, hb]
    have l : Ideal.ofBits .f32 0x3E000000#32 = ((1 / 8 : ℝ) : EReal) := by simp [Ideal.ofBits, Ideal.ieee, -EReal.coe_mul]; norm_num
    rw [l]
    simp only [← EReal.coe_mul, ← Cert.RealNum.coe_sum, ← EReal.coe_add]
    exact EReal.coe_lt_top _
  · exact bot_lt_top

end Cert.FwdSpec
-- ==== Proof.FwdWords.lean ====
/- The intermediate arrays of one grid point of the call `mix_fwd`: what each load of a buffer reads that the body filled
   piece by piece. -/
module

public import proofs.«01_k».proof.Proof.Gen.MixFwdIdeal.Frame
public import proofs.«01_k».proof.Proof.FwdPay
public import Idealize.ShloMosaic.Lib.WholeRead
public import Idealize.ShloMosaic.Lib.Pipeline.ValueKit.Acc

@[expose] public section

set_option maxRecDepth 16384

noncomputable section

namespace Cert.MixFwdIdeal.Body

open Cert.MixFwdIdeal Cert.MixFwdIdeal.Gen Idealize.ShloMosaic Idealize.ShloMosaic.TcCoe Idealize.SL.Sem
open Cert.RealNum Cert.FwdSpec

/-! ## Loads and covered loads at natural numbers -/

section loads

variable {κ' : Kind} {sp : Space} {e : EltTy}

theorem ld2 {A B a b : ℕ} {m : Memref sig κ' sp ⟨2, ![A, B]⟩ .f32} (h : m.IsWhole) (X : Vec Ideal ⟨2, ![A, B]⟩ .f32) (o p : ℕ)
    (inb : ∀ k, (![o, p] : Fin 2 → ℕ) k + (![a, b] : Fin 2 → ℕ) k ≤ (![A, B] : Fin 2 → ℕ) k) (i : Fin a) (j : Fin b) :
    View.readAt (Elt Ideal) m.view (Rect.unit (s := ⟨2, ![A, B]⟩) ![o, p] ![a, b] inb).toLoadRect (h.unread X) (ix2 i j)
      = nat2 X (o + i.val) (p + j.val) := by
  have h0 := inb 0; have h1 := inb 1
  change o + a ≤ A at h0; change p + b ≤ B at h1
  rw [h.readAt_unread, nat2_lt X (by omega) (by omega)]
  refine congrArg X (funext fun k => Fin.ext ?_)
  match k with
  | ⟨0, _⟩ => show o + 1 * i.val = o + i.val; omega
  | ⟨1, _⟩ => show p + 1 * j.val = p + j.val; omega

theorem ld3 {A B C a b c : ℕ} {m : Memref sig κ' sp ⟨3, ![A, B, C]⟩ .f32} (h : m.IsWhole) (X : Vec Ideal ⟨3, ![A, B, C]⟩ .f32)
    (o p r : ℕ) (inb : ∀ k, (![o, p, r] : Fin 3 → ℕ) k + (![a, b, c] : Fin 3 → ℕ) k ≤ (![A, B, C] : Fin 3 → ℕ) k)
    (i : Fin a) (j : Fin b) (k : Fin c) :
    View.readAt (Elt Ideal) m.view (Rect.unit (s := ⟨3, ![A, B, C]⟩) ![o, p, r] ![a, b, c] inb).toLoadRect (h.unread X) (ix3 i j k)
      = nat3 X (o + i.val) (p + j.val) (r + k.val) := by
  have h0 := inb 0; have h1 := inb 1; have h2 := inb 2
  change o + a ≤ A at h0; change p + b ≤ B at h1; change r + c ≤ C at h2
  rw [h.readAt_unread, nat3_lt X (by omega) (by omega) (by omega)]
  refine congrArg X (funext fun l => Fin.ext ?_)
  match l with
  | ⟨0, _⟩ => show o + 1 * i.val = o + i.val; omega
  | ⟨1, _⟩ => show p + 1 * j.val = p + j.val; omega
  | ⟨2, _⟩ => show r + 1 * k.val = r + k.val; omega

/-- Pieces that all agree with one function of the numbers of row and column. -/
abbrev Agree2 {A B : ℕ} (L : List (View.Piece (Elt Ideal) ⟨2, ![A, B]⟩ e)) (G : ℕ → ℕ → Elt Ideal e) : Prop :=
  ∀ p ∈ L, ∀ x : p.1.shape.Idx, p.2 x = G (p.1.emb x 0).val (p.1.emb x 1).val
abbrev Agree3 {A B C : ℕ} (L : List (View.Piece (Elt Ideal) ⟨3, ![A, B, C]⟩ e)) (G : ℕ → ℕ → ℕ → Elt Ideal e) : Prop :=
  ∀ p ∈ L, ∀ x : p.1.shape.Idx, p.2 x = G (p.1.emb x 0).val (p.1.emb x 1).val (p.1.emb x 2).val

theorem agree2_nil {A B : ℕ} (G : ℕ → ℕ → Elt Ideal e) : Agree2 (A := A) (B := B) [] G := fun p hp => absurd hp List.not_mem_nil
theorem agree3_nil {A B C : ℕ} (G : ℕ → ℕ → ℕ → Elt Ideal e) : Agree3 (A := A) (B := B) (C := C) [] G := fun p hp => absurd hp List.not_mem_nil

theorem agree2_cons {A B a b : ℕ} {L : List (View.Piece (Elt Ideal) ⟨2, ![A, B]⟩ e)} {G : ℕ → ℕ → Elt Ideal e} (o p : ℕ)
    (inb : ∀ k, (![o, p] : Fin 2 → ℕ) k + (![a, b] : Fin 2 → ℕ) k ≤ (![A, B] : Fin 2 → ℕ) k)
    (w : (⟨2, ![a, b]⟩ : Shape).Idx → Elt Ideal e) (h : ∀ i j, w (ix2 i j) = G (o + i.val) (p + j.val)) (hL : Agree2 L G) :
    Agree2 (⟨Rect.unit (s := ⟨2, ![A, B]⟩) ![o, p] ![a, b] inb, w⟩ :: L) G := by
  intro q hq
  rcases List.mem_cons.mp hq with rfl | hq
  · intro x
    have e : x = ix2 (x 0) (x 1) := funext fun k => match k with | ⟨0, _⟩ => rfl | ⟨1, _⟩ => rfl
    show w x = _
    refine (congrArg w e).trans ((h (x 0) (x 1)).trans (congrArg₂ G ?_ ?_))
    · show o + (x 0).val = o + 1 * (x 0).val; omega
    · show p + (x 1).val = p + 1 * (x 1).val; omega
  · exact hL q hq

theorem agree3_cons {A B C a b c : ℕ} {L : List (View.Piece (Elt Ideal) ⟨3, ![A, B, C]⟩ e)} {G : ℕ → ℕ → ℕ → Elt Ideal e} (o p r : ℕ)
    (inb : ∀ k, (![o, p, r] : Fin 3 → ℕ) k + (![a, b, c] : Fin 3 → ℕ) k ≤ (![A, B, C] : Fin 3 → ℕ) k)
    (w : (⟨3, ![a, b, c]⟩ : Shape).Idx → Elt Ideal e) (h : ∀ i j k, w (ix3 i j k) = G (o + i.val) (p + j.val) (r + k.val))
    (hL : Agree3 L G) :
    Agree3 (⟨Rect.unit (s := ⟨3, ![A, B, C]⟩) ![o, p, r] ![a, b, c] inb, w⟩ :: L) G := by
  intro q hq
  rcases List.mem_cons.mp hq with rfl | hq
  · intro x
    have e : x = ix3 (x 0) (x 1) (x 2) := funext fun k => match k with | ⟨0, _⟩ => rfl | ⟨1, _⟩ => rfl | ⟨2, _⟩ => rfl
    show w x = _
    refine (congrArg w e).trans ((h (x 0) (x 1) (x 2)).trans ?_)
    show G (o + (x 0).val) (p + (x 1).val) (r + (x 2).val) = G (o + 1 * (x 0).val) (p + 1 * (x 1).val) (r + 1 * (x 2).val)
    rw [Nat.one_mul, Nat.one_mul, Nat.one_mul]
  · exact hL q hq

theorem cov2 {A B a b : ℕ} (v : View sig κ' sp ⟨2, ![A, B]⟩ e) {L : List (View.Piece (Elt Ideal) ⟨2, ![A, B]⟩ e)}
    {G : ℕ → ℕ → Elt Ideal e} (hL : Agree2 L G) (hc : ∀ y, ∃ p ∈ L, y ∈ p.1.set) (o p : ℕ)
    (inb : ∀ k, (![o, p] : Fin 2 → ℕ) k + (![a, b] : Fin 2 → ℕ) k ≤ (![A, B] : Fin 2 → ℕ) k) (i : Fin a) (j : Fin b) :
    v.readCov L (Rect.unit (s := ⟨2, ![A, B]⟩) ![o, p] ![a, b] inb).toLoadRect (ix2 i j) = G (o + i.val) (p + j.val) := by
  rw [View.readCov_eq_canon']
  refine (View.canon_apply_of_pieces (fun y => G (y 0).val (y 1).val) L hL _ (hc _)).trans (congrArg₂ G ?_ ?_)
  · show o + 1 * i.val = o + i.val; omega
  · show p + 1 * j.val = p + j.val; omega

theorem cov3 {A B C a b c : ℕ} (v : View sig κ' sp ⟨3, ![A, B, C]⟩ e) {L : List (View.Piece (Elt Ideal) ⟨3, ![A, B, C]⟩ e)}
    {G : ℕ → ℕ → ℕ → Elt Ideal e} (hL : Agree3 L G) (hc : ∀ y, ∃ p ∈ L, y ∈ p.1.set) (o p r : ℕ)
    (inb : ∀ k, (![o, p, r] : Fin 3 → ℕ) k + (![a, b, c] : Fin 3 → ℕ) k ≤ (![A, B, C] : Fin 3 → ℕ) k)
    (i : Fin a) (j : Fin b) (k : Fin c) :
    v.readCov L (Rect.unit (s := ⟨3, ![A, B, C]⟩) ![o, p, r] ![a, b, c] inb).toLoadRect (ix3 i j k)
      = G (o + i.val) (p + j.val) (r + k.val) := by
  rw [View.readCov_eq_canon']
  refine (View.canon_apply_of_pieces (fun y => G (y 0).val (y 1).val (y 2).val) L hL _ (hc _)).trans ?_
  show G (o + 1 * i.val) (p + 1 * j.val) (r + 1 * k.val) = _
  rw [Nat.one_mul, Nat.one_mul, Nat.one_mul]

end loads

/-! ## The buffers of the attention -/

/-- The keys' (values') columns from the previous block's rows and the block's own. -/
def win (x0 : Vec Ideal S128x1792 .f32) (x1 : Vec Ideal S128x256 .f32) (o s c : ℕ) : EReal :=
  if s < 128 then nat2 x1 s (o + c) else nat2 x0 (s - 128) (512 + o + c)

variable (c : Dev nD) (i : grid0.Coords) (arg1 : Memref sig .tc .vmem S128x1792 .f32) (harg1 : arg1.IsWhole)
  (arg2 : Memref sig .tc .vmem S128x256 .f32) (harg2 : arg2.IsWhole) (arg3 : Memref sig .tc .vmem S8x128x256 .f32) (harg3 : arg3.IsWhole)
  (arg4 : Memref sig .tc .smem S8 .f32) (harg4 : arg4.IsWhole)
  (arg15 : Memref sig .tc .vmem S2x256x128 .bf16) (arg18 : Memref sig .tc .vmem S2x512x128 .bf16) (arg19 : Memref sig .tc .vmem S8x128x128 .bf16)
  (arg20 : Memref sig .tc .vmem S2x512x256 .f32) (arg21 : Memref sig .tc .vmem S8x128x256 .bf16)
  (x0 : Vec Ideal S128x1792 .f32) (x1 : Vec Ideal S128x256 .f32) (x2 : Vec Ideal S8x128x256 .f32) (x3 : Vec Ideal S8 .f32)

theorem win_before (o o' : ℕ) (h : o' = o) (a b : Fin 128) : nat2 x1 (0 + a.val) (o' + b.val) = win x0 x1 o a.val b.val := by
  rw [win, if_pos a.isLt, Nat.zero_add, h]
theorem win_own (o o' : ℕ) (h : o' = 512 + o) (a b : Fin 128) : nat2 x0 (0 + a.val) (o' + b.val) = win x0 x1 o (128 + a.val) b.val := by
  rw [win, if_neg (by omega), Nat.zero_add, h, Nat.add_sub_cancel_left]

theorem kd_agree : Agree3 (kernelRun0_A.sl.HS0_2 (F := Ideal) c arg1 harg1 arg2 harg2 x0 x1) (dup (win x0 x1 0)) :=
  agree3_cons 1 0 0 _ _ (fun j s l => (kd1_at _ _ (win x0 x1 0) (fun a b => (ld2 harg2 x1 0 0 _ a b).trans (win_before x0 x1 0 0 rfl a b))
      (fun a b => (ld2 harg1 x0 0 512 _ a b).trans (win_own x0 x1 0 512 rfl a b)) j s l).trans (by simp only [Fin.val_eq_zero, Nat.zero_add, Nat.add_zero]))
    (agree3_cons 0 0 0 _ _ (fun j s l => (kd0_at _ _ (win x0 x1 0) (fun a b => (ld2 harg2 x1 0 0 _ a b).trans (win_before x0 x1 0 0 rfl a b))
      (fun a b => (ld2 harg1 x0 0 512 _ a b).trans (win_own x0 x1 0 512 rfl a b)) j s l).trans (by simp only [Fin.val_eq_zero, Nat.zero_add, Nat.add_zero]))
    (agree3_nil _))

theorem vm_agree : Agree3 (kernelRun0_A.sl.HS3_2 (F := Ideal) c arg1 harg1 arg2 harg2 x0 x1) (split (win x0 x1 128)) :=
  agree3_cons 1 0 0 _ _ (fun j s l => (vm1_at _ _ (win x0 x1 128) (fun a b => (ld2 harg2 x1 0 128 _ a b).trans (win_before x0 x1 128 128 rfl a b))
      (fun a b => (ld2 harg1 x0 0 640 _ a b).trans (win_own x0 x1 128 640 rfl a b)) j s l).trans (by simp only [Fin.val_eq_zero, Nat.zero_add, Nat.add_zero]))
    (agree3_cons 0 0 0 _ _ (fun j s l => (vm0_at _ _ (win x0 x1 128) (fun a b => (ld2 harg2 x1 0 128 _ a b).trans (win_before x0 x1 128 128 rfl a b))
      (fun a b => (ld2 harg1 x0 0 640 _ a b).trans (win_own x0 x1 128 640 rfl a b)) j s l).trans (by simp only [Fin.val_eq_zero, Nat.zero_add, Nat.add_zero]))
    (agree3_nil _))

theorem kd_cover (y : S2x256x128.Idx) : ∃ p ∈ kernelRun0_A.sl.HS0_2 (F := Ideal) c arg1 harg1 arg2 harg2 x0 x1, y ∈ p.1.set :=
  View.cover_of_tiledL (s := S2x256x128) _ S1x256x128.size (by sl_kernel_rfl) y
theorem vm_cover (y : S2x512x128.Idx) : ∃ p ∈ kernelRun0_A.sl.HS3_2 (F := Ideal) c arg1 harg1 arg2 harg2 x0 x1, y ∈ p.1.set :=
  View.cover_of_tiledL (s := S2x512x128) _ S1x512x128.size (by sl_kernel_rfl) y

/-- A head's queries beside zeros. -/
theorem q_lo (h o : ℕ) (e : h % 2 = 0) (ho : o = 128 * (h / 2)) (inb) (j : Fin 1) (s l : Fin 128) :
    k0_pay24 (F := Ideal) (View.readAt (Elt Ideal) arg1.view (Rect.unit (s := S128x1792) ![0, o] S128x128.size inb).toLoadRect (harg1.unread x0)) (ix3 j s l)
      = heads (nat2 x0) (h + j.val) (0 + s.val) (0 + l.val) := by
  simp only [Fin.val_eq_zero, Nat.zero_add, Nat.add_zero]
  exact qlo_at _ (nat2 x0) h o e ho (fun a b => (ld2 harg1 x0 0 o _ a b).trans (by rw [Nat.zero_add])) j s l
theorem q_hi (h o : ℕ) (e : h % 2 = 1) (ho : o = 128 * (h / 2)) (inb) (j : Fin 1) (s l : Fin 128) :
    k0_pay25 (F := Ideal) k0_pay23 (View.readAt (Elt Ideal) arg1.view (Rect.unit (s := S128x1792) ![0, o] S128x128.size inb).toLoadRect (harg1.unread x0)) (ix3 j s l)
      = heads (nat2 x0) (h + j.val) (0 + s.val) (0 + l.val) := by
  simp only [Fin.val_eq_zero, Nat.zero_add, Nat.add_zero]
  exact qhi_at _ (nat2 x0) h o e ho (fun a b => (ld2 harg1 x0 0 o _ a b).trans (by rw [Nat.zero_add])) j s l

theorem qm_agree : Agree3 (kernelRun0_A.sl.HS4_8 (F := Ideal) c arg1 harg1 x0) (heads (nat2 x0)) :=
  agree3_cons 7 0 0 _ _ (q_hi arg1 harg1 x0 7 384 rfl rfl _) <| agree3_cons 6 0 0 _ _ (q_lo arg1 harg1 x0 6 384 rfl rfl _) <|
  agree3_cons 5 0 0 _ _ (q_hi arg1 harg1 x0 5 256 rfl rfl _) <| agree3_cons 4 0 0 _ _ (q_lo arg1 harg1 x0 4 256 rfl rfl _) <|
  agree3_cons 3 0 0 _ _ (q_hi arg1 harg1 x0 3 128 rfl rfl _) <| agree3_cons 2 0 0 _ _ (q_lo arg1 harg1 x0 2 128 rfl rfl _) <|
  agree3_cons 1 0 0 _ _ (q_hi arg1 harg1 x0 1 0 rfl rfl _) <| agree3_cons 0 0 0 _ _ (q_lo arg1 harg1 x0 0 0 rfl rfl _) <| agree3_nil _
theorem qm_cover (y : S8x128x128.Idx) : ∃ p ∈ kernelRun0_A.sl.HS4_8 (F := Ideal) c arg1 harg1 x0, y ∈ p.1.set :=
  View.cover_of_tiledL (s := S8x128x128) _ S1x128x128.size (by sl_kernel_rfl) y

/-- The products of the queries and the keys of a group, one head's rows after another's. -/
def lgs (x0 : Vec Ideal S128x1792 .f32) (x1 : Vec Ideal S128x256 .f32) (g r s : ℕ) : EReal :=
  qk (nat2 x0) (win x0 x1 0) (4 * g + r / 128) (r % 128) s

theorem lg_piece (g : ℕ) (inb) (inb') (j : Fin 1) (r : Fin 512) (s : Fin 256) :
    k0_pay33 (F := Ideal) (arg19.view.readCov (kernelRun0_A.sl.HS4_8 (F := Ideal) c arg1 harg1 x0) (Rect.unit (s := S8x128x128) ![4 * g, 0, 0] S4x128x128.size inb).toLoadRect)
      (arg15.view.readCov (kernelRun0_A.sl.HS0_2 (F := Ideal) c arg1 harg1 arg2 harg2 x0 x1) (Rect.unit (s := S2x256x128) ![g, 0, 0] S1x256x128.size inb').toLoadRect) (ix3 j r s)
      = lgs x0 x1 (g + j.val) (0 + r.val) (0 + s.val) := by
  simp only [Fin.val_eq_zero, Nat.zero_add, Nat.add_zero]
  exact lg_at _ _ (nat2 x0) (win x0 x1 0) g
    (fun a q l => (cov3 arg19.view (qm_agree c arg1 harg1 x0) (qm_cover c arg1 harg1 x0) (4 * g) 0 0 _ a q l).trans (by simp only [Nat.zero_add]))
    (fun q l => (cov3 arg15.view (kd_agree c arg1 harg1 arg2 harg2 x0 x1) (kd_cover c arg1 harg1 arg2 harg2 x0 x1) g 0 0 _ 0 q l).trans
      (by simp only [Fin.val_zero, Nat.zero_add, Nat.add_zero])) j r s

theorem lg_agree : Agree3 (kernelRun0_A.sl.HS5_2 (F := Ideal) c arg1 harg1 arg2 harg2 arg15 arg19 x0 x1) (lgs x0 x1) :=
  agree3_cons 1 0 0 _ _ (lg_piece c arg1 harg1 arg2 harg2 arg15 arg19 x0 x1 1 _ _) <|
  agree3_cons 0 0 0 _ _ (lg_piece c arg1 harg1 arg2 harg2 arg15 arg19 x0 x1 0 _ _) <| agree3_nil _
theorem lg_cover (y : S2x512x256.Idx) : ∃ p ∈ kernelRun0_A.sl.HS5_2 (F := Ideal) c arg1 harg1 arg2 harg2 arg15 arg19 x0 x1, y ∈ p.1.set :=
  View.cover_of_tiledL (s := S2x512x256) _ S1x512x256.size (by sl_kernel_rfl) y

end Cert.MixFwdIdeal.Body
-- ==== Proof.FwdWeights.lean ====
/- The attention weights, the sinks' weights and the attention's output of one grid point of the call `mix_fwd`. -/
module

public import proofs.«01_k».proof.Proof.FwdWords

@[expose] public section

set_option maxRecDepth 16384

noncomputable section

namespace Cert.MixFwdIdeal.Body

open Cert.MixFwdIdeal Cert.MixFwdIdeal.Gen Idealize.ShloMosaic Idealize.ShloMosaic.TcCoe Idealize.SL.Sem Idealize.ShloMosaic.WordCmp
open Cert.RealNum Cert.FwdSpec

variable (c : Dev nD) (i : grid0.Coords) (arg1 : Memref sig .tc .vmem S128x1792 .f32) (harg1 : arg1.IsWhole)
  (arg2 : Memref sig .tc .vmem S128x256 .f32) (harg2 : arg2.IsWhole) (arg3 : Memref sig .tc .vmem S8x128x256 .f32) (harg3 : arg3.IsWhole)
  (arg4 : Memref sig .tc .smem S8 .f32) (harg4 : arg4.IsWhole) (arg15 : Memref sig .tc .vmem S2x256x128 .bf16)
  (arg18 : Memref sig .tc .vmem S2x512x128 .bf16) (arg19 : Memref sig .tc .vmem S8x128x128 .bf16)
  (arg20 : Memref sig .tc .vmem S2x512x256 .f32) (arg21 : Memref sig .tc .vmem S8x128x256 .bf16)
  (x0 : Vec Ideal S128x1792 .f32) (x1 : Vec Ideal S128x256 .f32) (x2 : Vec Ideal S8x128x256 .f32) (x3 : Vec Ideal S8 .f32)

theorem ld1 (o : ℕ) (inb : ∀ k, (![o] : Fin 1 → ℕ) k + S1.size k ≤ S8.size k) (hS : 0 < S1.numel) :
    View.readAt (Elt Ideal) arg4.view (Rect.unit (s := S8) ![o] S1.size inb).toLoadRect (harg4.unread x3) (Shape.Idx.first hS) = nat1 x3 o := by
  have h0 := inb 0
  change o + 1 ≤ 8 at h0
  have e : o < 8 := by omega
  rw [harg4.readAt_unread, nat1, dif_pos e]
  refine congrArg x3 (funext fun k => Fin.ext ?_)
  match k with
  | ⟨0, _⟩ => show o + 1 * 0 = o; omega

/-- A head's logits of the block. -/
def bl (h q s : ℕ) : EReal :=
  if first (i 0).val s then ⊥ else lgs x0 x1 (h / 4) (128 * (h % 4) + q) s * Ideal.ofBits .f32 0x3E000000#32 + nat3 x2 h q s

/-- What the weights of 64 rows of a head are computed from: the products and the positions' biases. -/
abbrev pr (g ro : ℕ) (inb : ∀ k, (![g, ro, 0] : Fin 3 → ℕ) k + S1x64x256.size k ≤ S2x512x256.size k) : Vec Ideal S1x64x256 .f32 :=
  arg20.view.readCov (kernelRun0_A.sl.HS5_2 (F := Ideal) c arg1 harg1 arg2 harg2 arg15 arg19 x0 x1) (Rect.unit (s := S2x512x256) ![g, ro, 0] S1x64x256.size inb).toLoadRect
abbrev tb (h o : ℕ) (inb : ∀ k, (![h, o, 0] : Fin 3 → ℕ) k + S1x64x256.size k ≤ S8x128x256.size k) : Vec Ideal S1x64x256 .f32 :=
  View.readAt (Elt Ideal) arg3.view (Rect.unit (s := S8x128x256) ![h, o, 0] S1x64x256.size inb).toLoadRect (harg3.unread x2)
abbrev snk (h : ℕ) (inb : ∀ k, (![h] : Fin 1 → ℕ) k + S1.size k ≤ S8.size k) (hS : 0 < S1.numel) : EReal :=
  View.readAt (Elt Ideal) arg4.view (Rect.unit (s := S8) ![h] S1.size inb).toLoadRect (harg4.unread x3) (Shape.Idx.first hS)
abbrev hid : IVec S64x256 1 := k0_pay36 (BitVec.ofNat 32 ((i 0).val))

theorem bl_eq (h o ro : ℕ) (e : ro = 128 * (h % 4) + o) (inb inb') (r : Fin 64) (s : Fin 256) :
    bl i x0 x1 x2 h (o + r.val) s.val = if first (i 0).val s.val then ⊥ else
      pr c arg1 harg1 arg2 harg2 arg15 arg19 arg20 x0 x1 (h / 4) ro inb (ix3 0 r s) * Ideal.ofBits .f32 0x3E000000#32
        + tb arg3 harg3 x2 h o inb' (ix3 0 r s) := by
  rw [bl, pr, cov3 arg20.view (lg_agree c arg1 harg1 arg2 harg2 arg15 arg19 x0 x1) (lg_cover c arg1 harg1 arg2 harg2 arg15 arg19 x0 x1),
    tb, ld3 harg3 x2, e]
  simp only [Fin.val_zero, Nat.zero_add, Nat.add_zero, Nat.add_assoc]

theorem hid_at (r : Fin 64) (s : Fin 256) : hid i (ix2 r s) = BitVec.ofBool (decide (first (i 0).val s.val)) :=
  mk_at (i 0).val (i 0).isLt r s

theorem w_at (h o ro : ℕ) (e : ro = 128 * (h % 4) + o) (inb inb' inb'' hS) (r : Fin 64) (s : Fin 256) :
    k0_pay88 (F := Ideal) (hid i) (snk arg4 harg4 x3 h inb'' hS) (pr c arg1 harg1 arg2 harg2 arg15 arg19 arg20 x0 x1 (h / 4) ro inb) (tb arg3 harg3 x2 h o inb')
      (ix2 r s) = wtR (bl i x0 x1 x2 h (o + r.val)) (nat1 x3 h) s.val := by
  refine (p_at (hid i) _ _ _ (i 0).val (hid_at i) (fun r => bl i x0 x1 x2 h (o + r)) (fun r s => bl_eq c i arg1 harg1 arg2 harg2 arg3 harg3 arg15 arg19 arg20 x0 x1 x2 h o ro e inb inb' r s) r s).trans ?_
  rw [snk, ld1]

theorem ws_at (h o ro : ℕ) (e : ro = 128 * (h % 4) + o) (inb inb' inb'' hS) (r : Fin 64) (j : Fin 1) :
    mulf (k0_pay86 (F := Ideal) (hid i) (snk arg4 harg4 x3 h inb'' hS) (pr c arg1 harg1 arg2 harg2 arg15 arg19 arg20 x0 x1 (h / 4) ro inb) (tb arg3 harg3 x2 h o inb'))
      (k0_pay87 (F := Ideal) (hid i) (snk arg4 harg4 x3 h inb'' hS) (pr c arg1 harg1 arg2 harg2 arg15 arg19 arg20 x0 x1 (h / 4) ro inb) (tb arg3 harg3 x2 h o inb'))
      (ix2 r j) = wtsR (bl i x0 x1 x2 h (o + r.val)) (nat1 x3 h) := by
  refine (ps_at (hid i) _ _ _ (i 0).val (hid_at i) (fun r => bl i x0 x1 x2 h (o + r)) (fun r s => bl_eq c i arg1 harg1 arg2 harg2 arg3 harg3 arg15 arg19 arg20 x0 x1 x2 h o ro e inb inb' r s) r j).trans ?_
  rw [snk, ld1]

/-- The weights of the block. -/
def bw (h q s : ℕ) : EReal := wtR (bl i x0 x1 x2 h q) (nat1 x3 h) s

theorem w_piece (h o ro : ℕ) (e : ro = 128 * (h % 4) + o) (inb inb' inb'' hS) (j : Fin 1) (r : Fin 64) (s : Fin 256) :
    k0_pay89 (F := Ideal) (k0_pay88 (F := Ideal) (hid i) (snk arg4 harg4 x3 h inb'' hS) (pr c arg1 harg1 arg2 harg2 arg15 arg19 arg20 x0 x1 (h / 4) ro inb) (tb arg3 harg3 x2 h o inb'))
      (ix3 j r s) = bw i x0 x1 x2 x3 (h + j.val) (o + r.val) (0 + s.val) := by
  simp only [Fin.val_eq_zero, Nat.zero_add, Nat.add_zero]
  refine Eq.trans ?_ (w_at c i arg1 harg1 arg2 harg2 arg3 harg3 arg4 harg4 arg15 arg19 arg20 x0 x1 x2 x3 h o ro e inb inb' inb'' hS r s)
  pointwise [k0_pay89]

theorem wb_piece (h o ro : ℕ) (e : ro = 128 * (h % 4) + o) (inb inb' inb'' hS) (j : Fin 1) (r : Fin 64) (s : Fin 256) :
    k0_pay90 (F := Ideal) (k0_pay88 (F := Ideal) (hid i) (snk arg4 harg4 x3 h inb'' hS) (pr c arg1 harg1 arg2 harg2 arg15 arg19 arg20 x0 x1 (h / 4) ro inb) (tb arg3 harg3 x2 h o inb'))
      (ix3 j r s) = bw i x0 x1 x2 x3 (h + j.val) (o + r.val) (0 + s.val) := by
  simp only [Fin.val_eq_zero, Nat.zero_add, Nat.add_zero]
  refine Eq.trans ?_ (w_at c i arg1 harg1 arg2 harg2 arg3 harg3 arg4 harg4 arg15 arg19 arg20 x0 x1 x2 x3 h o ro e inb inb' inb'' hS r s)
  pointwise [k0_pay90]

theorem wb_agree : Agree3 (kernelRun0_A.sl.HS6_16 (F := Ideal) c i arg1 harg1 arg2 harg2 arg3 harg3 arg4 harg4 arg15 arg19 arg20 x0 x1 x2 x3) (bw i x0 x1 x2 x3) := by
  have k := fun h o ro e a a' a'' hS => wb_piece c i arg1 harg1 arg2 harg2 arg3 harg3 arg4 harg4 arg15 arg19 arg20 x0 x1 x2 x3 h o ro e a a' a'' hS
  exact agree3_cons 7 64 0 _ _ (k 7 64 448 rfl _ _ _ (by decide)) <| agree3_cons 6 64 0 _ _ (k 6 64 320 rfl _ _ _ (by decide)) <| agree3_cons 5 64 0 _ _ (k 5 64 192 rfl _ _ _ (by decide)) <|
    agree3_cons 4 64 0 _ _ (k 4 64 64 rfl _ _ _ (by decide)) <| agree3_cons 3 64 0 _ _ (k 3 64 448 rfl _ _ _ (by decide)) <| agree3_cons 2 64 0 _ _ (k 2 64 320 rfl _ _ _ (by decide)) <|
    agree3_cons 1 64 0 _ _ (k 1 64 192 rfl _ _ _ (by decide)) <| agree3_cons 0 64 0 _ _ (k 0 64 64 rfl _ _ _ (by decide)) <| agree3_cons 7 0 0 _ _ (k 7 0 384 rfl _ _ _ (by decide)) <|
    agree3_cons 6 0 0 _ _ (k 6 0 256 rfl _ _ _ (by decide)) <| agree3_cons 5 0 0 _ _ (k 5 0 128 rfl _ _ _ (by decide)) <| agree3_cons 4 0 0 _ _ (k 4 0 0 rfl _ _ _ (by decide)) <|
    agree3_cons 3 0 0 _ _ (k 3 0 384 rfl _ _ _ (by decide)) <| agree3_cons 2 0 0 _ _ (k 2 0 256 rfl _ _ _ (by decide)) <| agree3_cons 1 0 0 _ _ (k 1 0 128 rfl _ _ _ (by decide)) <|
    agree3_cons 0 0 0 _ _ (k 0 0 0 rfl _ _ _ (by decide)) <| agree3_nil _
theorem wb_cover (y : S8x128x256.Idx) : ∃ p ∈ kernelRun0_A.sl.HS6_16 (F := Ideal) c i arg1 harg1 arg2 harg2 arg3 harg3 arg4 harg4 arg15 arg19 arg20 x0 x1 x2 x3, y ∈ p.1.set :=
  View.cover_of_tiledL (s := S8x128x256) _ S1x64x256.size (by sl_kernel_rfl) y

/-! ## The output of the attention -/

theorem w_read (h : ℕ) (inb) (q : Fin 128) (s : Fin 256) :
    arg21.view.readCov (kernelRun0_A.sl.HS6_16 (F := Ideal) c i arg1 harg1 arg2 harg2 arg3 harg3 arg4 harg4 arg15 arg19 arg20 x0 x1 x2 x3)
      (Rect.unit (s := S8x128x256) ![h, 0, 0] S1x128x256.size inb).toLoadRect (ix3 0 q s) = bw i x0 x1 x2 x3 h q.val s.val := by
  rw [cov3 arg21.view (wb_agree c i arg1 harg1 arg2 harg2 arg3 harg3 arg4 harg4 arg15 arg19 arg20 x0 x1 x2 x3) (wb_cover c i arg1 harg1 arg2 harg2 arg3 harg3 arg4 harg4 arg15 arg19 arg20 x0 x1 x2 x3)]
  simp only [Fin.val_zero, Nat.zero_add, Nat.add_zero]

theorem v_read (g : ℕ) (inb) (r : Fin 512) (l : Fin 128) :
    arg18.view.readCov (kernelRun0_A.sl.HS3_2 (F := Ideal) c arg1 harg1 arg2 harg2 x0 x1)
      (Rect.unit (s := S2x512x128) ![g, 0, 0] S1x512x128.size inb).toLoadRect (ix3 0 r l) = split (win x0 x1 128) g r.val l.val := by
  rw [cov3 arg18.view (vm_agree c arg1 harg1 arg2 harg2 x0 x1) (vm_cover c arg1 harg1 arg2 harg2 x0 x1)]
  simp only [Fin.val_zero, Nat.zero_add, Nat.add_zero]

/-- The output of the attention of the block. -/
def bo (q j : ℕ) : EReal := attn (bw i x0 x1 x2 x3) (win x0 x1 128) q j

/-- The weights of a head as the products with the values load them, and the values of a group. -/
abbrev wr (h : ℕ) (inb : ∀ k, (![h, 0, 0] : Fin 3 → ℕ) k + S1x128x256.size k ≤ S8x128x256.size k) : Vec Ideal S1x128x256 .bf16 :=
  arg21.view.readCov (kernelRun0_A.sl.HS6_16 (F := Ideal) c i arg1 harg1 arg2 harg2 arg3 harg3 arg4 harg4 arg15 arg19 arg20 x0 x1 x2 x3) (Rect.unit (s := S8x128x256) ![h, 0, 0] S1x128x256.size inb).toLoadRect
abbrev vr (g : ℕ) (inb : ∀ k, (![g, 0, 0] : Fin 3 → ℕ) k + S1x512x128.size k ≤ S2x512x128.size k) : Vec Ideal S1x512x128 .bf16 :=
  arg18.view.readCov (kernelRun0_A.sl.HS3_2 (F := Ideal) c arg1 harg1 arg2 harg2 x0 x1) (Rect.unit (s := S2x512x128) ![g, 0, 0] S1x512x128.size inb).toLoadRect

theorem lo_piece (g : ℕ) (i0 i1 i2 i3 i4) (q l : Fin 128) :
    k0_pay196 (F := Ideal) (wr c i arg1 harg1 arg2 harg2 arg3 harg3 arg4 harg4 arg15 arg19 arg20 arg21 x0 x1 x2 x3 (4 * g) i0) (wr c i arg1 harg1 arg2 harg2 arg3 harg3 arg4 harg4 arg15 arg19 arg20 arg21 x0 x1 x2 x3 (4 * g + 1) i1) (wr c i arg1 harg1 arg2 harg2 arg3 harg3 arg4 harg4 arg15 arg19 arg20 arg21 x0 x1 x2 x3 (4 * g + 2) i2) (wr c i arg1 harg1 arg2 harg2 arg3 harg3 arg4 harg4 arg15 arg19 arg20 arg21 x0 x1 x2 x3 (4 * g + 3) i3) (vr c arg1 harg1 arg2 harg2 arg18 x0 x1 g i4) (ix2 q l)
      = bo i x0 x1 x2 x3 (0 + q.val) (256 * g + l.val) := by
  rw [Nat.zero_add, bo]
  exact at_lo _ _ _ _ _ (bw i x0 x1 x2 x3) (win x0 x1 128) g (w_read c i arg1 harg1 arg2 harg2 arg3 harg3 arg4 harg4 arg15 arg19 arg20 arg21 x0 x1 x2 x3 _ i0) (w_read c i arg1 harg1 arg2 harg2 arg3 harg3 arg4 harg4 arg15 arg19 arg20 arg21 x0 x1 x2 x3 _ i1) (v_read c arg1 harg1 arg2 harg2 arg18 x0 x1 g i4) q l

theorem hi_piece (g : ℕ) (i0 i1 i2 i3 i4) (q l : Fin 128) :
    k0_pay197 (F := Ideal) (wr c i arg1 harg1 arg2 harg2 arg3 harg3 arg4 harg4 arg15 arg19 arg20 arg21 x0 x1 x2 x3 (4 * g) i0) (wr c i arg1 harg1 arg2 harg2 arg3 harg3 arg4 harg4 arg15 arg19 arg20 arg21 x0 x1 x2 x3 (4 * g + 1) i1) (wr c i arg1 harg1 arg2 harg2 arg3 harg3 arg4 harg4 arg15 arg19 arg20 arg21 x0 x1 x2 x3 (4 * g + 2) i2) (wr c i arg1 harg1 arg2 harg2 arg3 harg3 arg4 harg4 arg15 arg19 arg20 arg21 x0 x1 x2 x3 (4 * g + 3) i3) (vr c arg1 harg1 arg2 harg2 arg18 x0 x1 g i4) (ix2 q l)
      = bo i x0 x1 x2 x3 (0 + q.val) (256 * g + 128 + l.val) := by
  rw [Nat.zero_add, bo]
  exact at_hi _ _ _ _ _ (bw i x0 x1 x2 x3) (win x0 x1 128) g (w_read c i arg1 harg1 arg2 harg2 arg3 harg3 arg4 harg4 arg15 arg19 arg20 arg21 x0 x1 x2 x3 _ i2) (w_read c i arg1 harg1 arg2 harg2 arg3 harg3 arg4 harg4 arg15 arg19 arg20 arg21 x0 x1 x2 x3 _ i3) (v_read c arg1 harg1 arg2 harg2 arg18 x0 x1 g i4) q l

theorem at_agree : Agree2 (kernelRun0_A.sl.H13_4 (F := Ideal) c i arg1 harg1 arg2 harg2 arg3 harg3 arg4 harg4 arg15 arg18 arg19 arg20 arg21 x0 x1 x2 x3) (bo i x0 x1 x2 x3) := by
  exact agree2_cons 0 384 _ _ (hi_piece c i arg1 harg1 arg2 harg2 arg3 harg3 arg4 harg4 arg15 arg18 arg19 arg20 arg21 x0 x1 x2 x3 1 _ _ _ _ _) <| agree2_cons 0 256 _ _ (lo_piece c i arg1 harg1 arg2 harg2 arg3 harg3 arg4 harg4 arg15 arg18 arg19 arg20 arg21 x0 x1 x2 x3 1 _ _ _ _ _) <|
    agree2_cons 0 128 _ _ (hi_piece c i arg1 harg1 arg2 harg2 arg3 harg3 arg4 harg4 arg15 arg18 arg19 arg20 arg21 x0 x1 x2 x3 0 _ _ _ _ _) <| agree2_cons 0 0 _ _ (lo_piece c i arg1 harg1 arg2 harg2 arg3 harg3 arg4 harg4 arg15 arg18 arg19 arg20 arg21 x0 x1 x2 x3 0 _ _ _ _ _) <| agree2_nil _
theorem at_cover (y : S128x512.Idx) : ∃ p ∈ kernelRun0_A.sl.H13_4 (F := Ideal) c i arg1 harg1 arg2 harg2 arg3 harg3 arg4 harg4 arg15 arg18 arg19 arg20 arg21 x0 x1 x2 x3, y ∈ p.1.set :=
  View.cover_of_tiledL (s := S128x512) _ S128x128.size (by sl_kernel_rfl) y

end Cert.MixFwdIdeal.Body
-- ==== Proof.FwdOuts.lean ====
/- What one grid point of the call `mix_fwd` leaves in its blocks of the weights, the sinks' weights and the attention's output. -/
module

public import proofs.«01_k».proof.Proof.FwdWeights

@[expose] public section

set_option maxRecDepth 16384

noncomputable section

namespace Cert.MixFwdIdeal.Body

open Cert.MixFwdIdeal Cert.MixFwdIdeal.Gen Idealize.ShloMosaic Idealize.ShloMosaic.TcCoe Idealize.SL.Sem Idealize.ShloMosaic.WordCmp
open Cert.RealNum Cert.FwdSpec

section columns

variable (i : grid0.Coords) (x0 : Vec Ideal S128x1792 .f32) (x1 : Vec Ideal S128x256 .f32) (x2 : Vec Ideal S8x128x256 .f32) (x3 : Vec Ideal S8 .f32)

/-- The sinks' weights of the block: one column for each head. -/
def bs (q l : ℕ) : EReal := if l < 8 then wtsR (bl i x0 x1 x2 l q) (nat1 x3 l) else 0

/-- One more head's column is put beside those before it. -/
theorem column (h o : ℕ) (hh : h < 8) (W : FVec Ideal S64x1 .f32) (prev : FVec Ideal S64x128 .f32)
    (hW : ∀ (r : Fin 64) (j : Fin 1), W (ix2 r j) = wtsR (bl i x0 x1 x2 h (o + r.val)) (nat1 x3 h))
    (hp : ∀ (r : Fin 64) (l : Fin 128), prev (ix2 r l) = if l.val < h then wtsR (bl i x0 x1 x2 l.val (o + r.val)) (nat1 x3 l.val) else 0)
    (r : Fin 64) (l : Fin 128) :
    select (cmpi .eq (iota Kind.tc S64x128 32 [1] iota_S64x128_d1_w32) (broadcast S64x128 (BitVec.ofNat 32 h)))
      (broadcastTo S64x128 (shapeCast S64x1 W shapeCasts_S64x1_S64x1) broadcasts_S64x1_S64x128) prev (ix2 r l)
      = if l.val < h + 1 then wtsR (bl i x0 x1 x2 l.val (o + r.val)) (nat1 x3 l.val) else 0 := by
  pointwise []
  rw [cmpi_eq_ofNat (by omega) (by omega), select_ofBool]
  simp only [hW, hp]
  by_cases e : l.val = h
  · simp [e]
  · have : (l.val < h + 1) = (l.val < h) := by simp only [eq_iff_iff]; omega
    simp [e, this]

end columns

section outs

variable (c : Dev nD) (i : grid0.Coords)
  (arg1 : Memref sig .tc .vmem S128x1792 .f32) (harg1 : arg1.IsWhole) (arg2 : Memref sig .tc .vmem S128x256 .f32) (harg2 : arg2.IsWhole)
  (arg3 : Memref sig .tc .vmem S8x128x256 .f32) (harg3 : arg3.IsWhole) (arg4 : Memref sig .tc .smem S8 .f32) (harg4 : arg4.IsWhole)
  (arg5 : Memref sig .tc .vmem S1x512 .f32) (harg5 : arg5.IsWhole) (arg6 : Memref sig .tc .vmem S1x512 .f32) (harg6 : arg6.IsWhole)
  (arg7 : Memref sig .tc .vmem S4x128x256 .bf16) (harg7 : arg7.IsWhole) (arg8 : Memref sig .tc .vmem S128x512 .f32) (harg8 : arg8.IsWhole)
  (arg9 : Memref sig .tc .vmem S1x512 .f32) (harg9 : arg9.IsWhole) (arg10 : Memref sig .tc .vmem S1x512 .f32) (harg10 : arg10.IsWhole)
  (arg11 : Memref sig .tc .vmem S128x1024 .bf16) (harg11 : arg11.IsWhole) (arg12 : Memref sig .tc .vmem S8x128x256 .f32) (harg12 : arg12.IsWhole)
  (arg13 : Memref sig .tc .vmem S128x128 .f32) (harg13 : arg13.IsWhole) (arg14 : Memref sig .tc .vmem S128x512 .f32) (harg14 : arg14.IsWhole)
  (arg15 : Memref sig .tc .vmem S2x256x128 .bf16) (harg15 : arg15.IsWhole) (arg16 : Memref sig .tc .vmem S2x256x128 .bf16) (harg16 : arg16.IsWhole)
  (arg17 : Memref sig .tc .vmem S2x512x128 .bf16) (harg17 : arg17.IsWhole) (arg18 : Memref sig .tc .vmem S2x512x128 .bf16) (harg18 : arg18.IsWhole)
  (arg19 : Memref sig .tc .vmem S8x128x128 .bf16) (harg19 : arg19.IsWhole) (arg20 : Memref sig .tc .vmem S2x512x256 .f32) (harg20 : arg20.IsWhole)
  (arg21 : Memref sig .tc .vmem S8x128x256 .bf16) (harg21 : arg21.IsWhole) (arg22 : Memref sig .tc .vmem S128x512 .f32) (harg22 : arg22.IsWhole)
  (arg23 : Memref sig .tc .vmem S128x512 .bf16) (harg23 : arg23.IsWhole) (arg24 : Memref sig .tc .vmem S128x512 .f32) (harg24 : arg24.IsWhole)
  (x0 : Vec Ideal S128x1792 .f32) (x1 : Vec Ideal S128x256 .f32) (x2 : Vec Ideal S8x128x256 .f32) (x3 : Vec Ideal S8 .f32)
  (x4 x5 : Vec Ideal S1x512 .f32) (x6 : Vec Ideal S4x128x256 .bf16) (x7 : Vec Ideal S128x512 .f32) (x8 x9 : Vec Ideal S1x512 .f32)

theorem before0 (r : Fin 64) (l : Fin 128) (o : ℕ) : k0_pay37 (F := Ideal) (ix2 r l) = if l.val < 0 then wtsR (bl i x0 x1 x2 l.val (o + r.val)) (nat1 x3 l.val) else 0 := by
  rw [if_neg (Nat.not_lt_zero _)]
  pointwise [k0_pay37]

theorem columns (o : ℕ) (prev : FVec Ideal S64x128 .f32)
    (hp : ∀ (r : Fin 64) (l : Fin 128), prev (ix2 r l) = if l.val < 7 + 1 then wtsR (bl i x0 x1 x2 l.val (o + r.val)) (nat1 x3 l.val) else 0)
    (r : Fin 64) (l : Fin 128) : prev (ix2 r l) = bs i x0 x1 x2 x3 (o + r.val) (0 + l.val) := by
  rw [hp, Nat.zero_add, bs]

theorem sinks_agree : Agree2 (kernelRun0_A (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 x0 x1 x2 x3 x4 x5 x6 x7 x8 x9).2.2.1 (bs i x0 x1 x2 x3) := by
  have k := fun h o ro e a a' a'' hS => ws_at c i arg1 harg1 arg2 harg2 arg3 harg3 arg4 harg4 arg15 arg19 arg20 x0 x1 x2 x3 h o ro e a a' a'' hS
  have s64_0 : ∀ (r : Fin 64) (l : Fin 128), kernelRun0_A.sl.r_49 (F := Ideal) c i arg1 harg1 arg2 harg2 arg3 harg3 arg4 harg4 arg15 arg19 arg20 x0 x1 x2 x3 (ix2 r l) = if l.val < 0 + 1 then wtsR (bl i x0 x1 x2 l.val (64 + r.val)) (nat1 x3 l.val) else 0 :=
    column i x0 x1 x2 x3 0 64 (by decide) _ _ (k 0 64 64 rfl _ _ _ (by decide)) (fun r l => before0 i x0 x1 x2 x3 r l 64)
  have s64_1 : ∀ (r : Fin 64) (l : Fin 128), kernelRun0_A.sl.r_52 (F := Ideal) c i arg1 harg1 arg2 harg2 arg3 harg3 arg4 harg4 arg15 arg19 arg20 x0 x1 x2 x3 (ix2 r l) = if l.val < 1 + 1 then wtsR (bl i x0 x1 x2 l.val (64 + r.val)) (nat1 x3 l.val) else 0 :=
    column i x0 x1 x2 x3 1 64 (by decide) _ _ (k 1 64 192 rfl _ _ _ (by decide)) s64_0
  have s64_2 : ∀ (r : Fin 64) (l : Fin 128), kernelRun0_A.sl.r_56 (F := Ideal) c i arg1 harg1 arg2 harg2 arg3 harg3 arg4 harg4 arg15 arg19 arg20 x0 x1 x2 x3 (ix2 r l) = if l.val < 2 + 1 then wtsR (bl i x0 x1 x2 l.val (64 + r.val)) (nat1 x3 l.val) else 0 :=
    column i x0 x1 x2 x3 2 64 (by decide) _ _ (k 2 64 320 rfl _ _ _ (by decide)) s64_1
  have s64_3 : ∀ (r : Fin 64) (l : Fin 128), kernelRun0_A.sl.r_59 (F := Ideal) c i arg1 harg1 arg2 harg2 arg3 harg3 arg4 harg4 arg15 arg19 arg20 x0 x1 x2 x3 (ix2 r l) = if l.val < 3 + 1 then wtsR (bl i x0 x1 x2 l.val (64 + r.val)) (nat1 x3 l.val) else 0 :=
    column i x0 x1 x2 x3 3 64 (by decide) _ _ (k 3 64 448 rfl _ _ _ (by decide)) s64_2
  have s64_4 : ∀ (r : Fin 64) (l : Fin 128), kernelRun0_A.sl.r_62 (F := Ideal) c i arg1 harg1 arg2 harg2 arg3 harg3 arg4 harg4 arg15 arg19 arg20 x0 x1 x2 x3 (ix2 r l) = if l.val < 4 + 1 then wtsR (bl i x0 x1 x2 l.val (64 + r.val)) (nat1 x3 l.val) else 0 :=
    column i x0 x1 x2 x3 4 64 (by decide) _ _ (k 4 64 64 rfl _ _ _ (by decide)) s64_3
  have s64_5 : ∀ (r : Fin 64) (l : Fin 128), kernelRun0_A.sl.r_66 (F := Ideal) c i arg1 harg1 arg2 harg2 arg3 harg3 arg4 harg4 arg15 arg19 arg20 x0 x1 x2 x3 (ix2 r l) = if l.val < 5 + 1 then wtsR (bl i x0 x1 x2 l.val (64 + r.val)) (nat1 x3 l.val) else 0 :=
    column i x0 x1 x2 x3 5 64 (by decide) _ _ (k 5 64 192 rfl _ _ _ (by decide)) s64_4
  have s64_6 : ∀ (r : Fin 64) (l : Fin 128), kernelRun0_A.sl.r_69 (F := Ideal) c i arg1 harg1 arg2 harg2 arg3 harg3 arg4 harg4 arg15 arg19 arg20 x0 x1 x2 x3 (ix2 r l) = if l.val < 6 + 1 then wtsR (bl i x0 x1 x2 l.val (64 + r.val)) (nat1 x3 l.val) else 0 :=
    column i x0 x1 x2 x3 6 64 (by decide) _ _ (k 6 64 320 rfl _ _ _ (by decide)) s64_5
  have s0_0 : ∀ (r : Fin 64) (l : Fin 128), kernelRun0_A.sl.r_12 (F := Ideal) c i arg1 harg1 arg2 harg2 arg3 harg3 arg4 harg4 arg15 arg19 arg20 x0 x1 x2 x3 (ix2 r l) = if l.val < 0 + 1 then wtsR (bl i x0 x1 x2 l.val (0 + r.val)) (nat1 x3 l.val) else 0 :=
    column i x0 x1 x2 x3 0 0 (by decide) _ _ (k 0 0 0 rfl _ _ _ (by decide)) (fun r l => before0 i x0 x1 x2 x3 r l 0)
  have s0_1 : ∀ (r : Fin 64) (l : Fin 128), kernelRun0_A.sl.r_17 (F := Ideal) c i arg1 harg1 arg2 harg2 arg3 harg3 arg4 harg4 arg15 arg19 arg20 x0 x1 x2 x3 (ix2 r l) = if l.val < 1 + 1 then wtsR (bl i x0 x1 x2 l.val (0 + r.val)) (nat1 x3 l.val) else 0 :=
    column i x0 x1 x2 x3 1 0 (by decide) _ _ (k 1 0 128 rfl _ _ _ (by decide)) s0_0
  have s0_2 : ∀ (r : Fin 64) (l : Fin 128), kernelRun0_A.sl.r_22 (F := Ideal) c i arg1 harg1 arg2 harg2 arg3 harg3 arg4 harg4 arg15 arg19 arg20 x0 x1 x2 x3 (ix2 r l) = if l.val < 2 + 1 then wtsR (bl i x0 x1 x2 l.val (0 + r.val)) (nat1 x3 l.val) else 0 :=
    column i x0 x1 x2 x3 2 0 (by decide) _ _ (k 2 0 256 rfl _ _ _ (by decide)) s0_1
  have s0_3 : ∀ (r : Fin 64) (l : Fin 128), kernelRun0_A.sl.r_27 (F := Ideal) c i arg1 harg1 arg2 harg2 arg3 harg3 arg4 harg4 arg15 arg19 arg20 x0 x1 x2 x3 (ix2 r l) = if l.val < 3 + 1 then wtsR (bl i x0 x1 x2 l.val (0 + r.val)) (nat1 x3 l.val) else 0 :=
    column i x0 x1 x2 x3 3 0 (by decide) _ _ (k 3 0 384 rfl _ _ _ (by decide)) s0_2
  have s0_4 : ∀ (r : Fin 64) (l : Fin 128), kernelRun0_A.sl.r_32 (F := Ideal) c i arg1 harg1 arg2 harg2 arg3 harg3 arg4 harg4 arg15 arg19 arg20 x0 x1 x2 x3 (ix2 r l) = if l.val < 4 + 1 then wtsR (bl i x0 x1 x2 l.val (0 + r.val)) (nat1 x3 l.val) else 0 :=
    column i x0 x1 x2 x3 4 0 (by decide) _ _ (k 4 0 0 rfl _ _ _ (by decide)) s0_3
  have s0_5 : ∀ (r : Fin 64) (l : Fin 128), kernelRun0_A.sl.r_37 (F := Ideal) c i arg1 harg1 arg2 harg2 arg3 harg3 arg4 harg4 arg15 arg19 arg20 x0 x1 x2 x3 (ix2 r l) = if l.val < 5 + 1 then wtsR (bl i x0 x1 x2 l.val (0 + r.val)) (nat1 x3 l.val) else 0 :=
    column i x0 x1 x2 x3 5 0 (by decide) _ _ (k 5 0 128 rfl _ _ _ (by decide)) s0_4
  have s0_6 : ∀ (r : Fin 64) (l : Fin 128), kernelRun0_A.sl.r_43 (F := Ideal) c i arg1 harg1 arg2 harg2 arg3 harg3 arg4 harg4 arg15 arg19 arg20 x0 x1 x2 x3 (ix2 r l) = if l.val < 6 + 1 then wtsR (bl i x0 x1 x2 l.val (0 + r.val)) (nat1 x3 l.val) else 0 :=
    column i x0 x1 x2 x3 6 0 (by decide) _ _ (k 6 0 256 rfl _ _ _ (by decide)) s0_5
  have e1 : k0_pay184 (F := Ideal) (kernelRun0_A.sl.r_42 (F := Ideal) c arg4 harg4 x3) (kernelRun0_A.sl.r_71 (F := Ideal) c i arg1 harg1 arg2 harg2 arg3 harg3 arg15 arg19 arg20 x0 x1 x2) (kernelRun0_A.sl.r_72 (F := Ideal) c arg4 harg4 x3) = k0_pay86 (F := Ideal) (hid i) (snk arg4 harg4 x3 7 inb_S8_S1_7 (by decide)) (pr c arg1 harg1 arg2 harg2 arg15 arg19 arg20 x0 x1 1 448 inb_S2x512x256_S1x64x256_1_448_0) (tb arg3 harg3 x2 7 64 inb_S8x128x256_S1x64x256_7_64_0) := by sl_kernel_rfl
  have e2 : k0_pay185 (F := Ideal) (kernelRun0_A.sl.r_42 (F := Ideal) c arg4 harg4 x3) (kernelRun0_A.sl.r_70 (F := Ideal) c i arg1 harg1 arg2 harg2 arg3 harg3 arg15 arg19 arg20 x0 x1 x2) (kernelRun0_A.sl.r_71 (F := Ideal) c i arg1 harg1 arg2 harg2 arg3 harg3 arg15 arg19 arg20 x0 x1 x2) (kernelRun0_A.sl.r_72 (F := Ideal) c arg4 harg4 x3) = k0_pay87 (F := Ideal) (hid i) (snk arg4 harg4 x3 7 inb_S8_S1_7 (by decide)) (pr c arg1 harg1 arg2 harg2 arg15 arg19 arg20 x0 x1 1 448 inb_S2x512x256_S1x64x256_1_448_0) (tb arg3 harg3 x2 7 64 inb_S8x128x256_S1x64x256_7_64_0) := by sl_kernel_rfl
  have s64_7 : ∀ (r : Fin 64) (l : Fin 128), k0_pay189 (F := Ideal) kernelRun0_A.sl.v134 (kernelRun0_A.sl.r_69 (F := Ideal) c i arg1 harg1 arg2 harg2 arg3 harg3 arg4 harg4 arg15 arg19 arg20 x0 x1 x2 x3) (kernelRun0_A.sl.r_42 (F := Ideal) c arg4 harg4 x3) (kernelRun0_A.sl.r_70 (F := Ideal) c i arg1 harg1 arg2 harg2 arg3 harg3 arg15 arg19 arg20 x0 x1 x2) (kernelRun0_A.sl.r_71 (F := Ideal) c i arg1 harg1 arg2 harg2 arg3 harg3 arg15 arg19 arg20 x0 x1 x2) (kernelRun0_A.sl.r_72 (F := Ideal) c arg4 harg4 x3) (ix2 r l) = if l.val < 7 + 1 then wtsR (bl i x0 x1 x2 l.val (64 + r.val)) (nat1 x3 l.val) else 0 :=
    column i x0 x1 x2 x3 7 64 (by decide) _ _ (fun r j => (congrFun (congrArg₂ mulf e1 e2) (ix2 r j)).trans (k 7 64 448 rfl _ _ _ (by decide) r j)) s64_6
  unfold kernelRun0_A; dsimp only
  refine agree2_cons 64 0 _ _ ?_ (agree2_cons 0 0 _ _ ?_ (agree2_nil _))
  · exact columns i x0 x1 x2 x3 64 _ s64_7
  · exact columns i x0 x1 x2 x3 0 _ (column i x0 x1 x2 x3 7 0 (by decide) _ _ (k 7 0 384 rfl _ _ _ (by decide)) s0_6)

theorem weights_agree : Agree3 (kernelRun0_A (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 x0 x1 x2 x3 x4 x5 x6 x7 x8 x9).2.1 (bw i x0 x1 x2 x3) := by
  have k := fun h o ro e a a' a'' hS => w_piece c i arg1 harg1 arg2 harg2 arg3 harg3 arg4 harg4 arg15 arg19 arg20 x0 x1 x2 x3 h o ro e a a' a'' hS
  exact agree3_cons 7 64 0 _ _ (k 7 64 448 rfl _ _ _ (by decide)) <| agree3_cons 6 64 0 _ _ (k 6 64 320 rfl _ _ _ (by decide)) <| agree3_cons 5 64 0 _ _ (k 5 64 192 rfl _ _ _ (by decide)) <|
    agree3_cons 4 64 0 _ _ (k 4 64 64 rfl _ _ _ (by decide)) <| agree3_cons 3 64 0 _ _ (k 3 64 448 rfl _ _ _ (by decide)) <| agree3_cons 2 64 0 _ _ (k 2 64 320 rfl _ _ _ (by decide)) <|
    agree3_cons 1 64 0 _ _ (k 1 64 192 rfl _ _ _ (by decide)) <| agree3_cons 0 64 0 _ _ (k 0 64 64 rfl _ _ _ (by decide)) <| agree3_cons 7 0 0 _ _ (k 7 0 384 rfl _ _ _ (by decide)) <| agree3_cons 6 0 0 _ _ (k 6 0 256 rfl _ _ _ (by decide)) <| agree3_cons 5 0 0 _ _ (k 5 0 128 rfl _ _ _ (by decide)) <|
    agree3_cons 4 0 0 _ _ (k 4 0 0 rfl _ _ _ (by decide)) <| agree3_cons 3 0 0 _ _ (k 3 0 384 rfl _ _ _ (by decide)) <| agree3_cons 2 0 0 _ _ (k 2 0 256 rfl _ _ _ (by decide)) <|
    agree3_cons 1 0 0 _ _ (k 1 0 128 rfl _ _ _ (by decide)) <| agree3_cons 0 0 0 _ _ (k 0 0 0 rfl _ _ _ (by decide)) <| agree3_nil _

theorem attn_agree : Agree2 (kernelRun0_A (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 x0 x1 x2 x3 x4 x5 x6 x7 x8 x9).2.2.2.1 (bo i x0 x1 x2 x3) :=
  at_agree c i arg1 harg1 arg2 harg2 arg3 harg3 arg4 harg4 arg15 arg18 arg19 arg20 arg21 x0 x1 x2 x3

theorem out_weights (h : Fin 8) (q : Fin 128) (s : Fin 256) :
    out0_A_11 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 x0 x1 x2 x3 x4 x5 x6 x7 x8 x9 (ix3 h q s) = bw i x0 x1 x2 x3 h.val q.val s.val := by
  have e := View.read_writes_eq_canon VO0_11 VO0_11.junk (kernelRun0_A (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 x0 x1 x2 x3 x4 x5 x6 x7 x8 x9).2.1 (fun y => cover0_A_11 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 x0 x1 x2 x3 x4 x5 x6 x7 x8 x9 y)
  refine (congrFun e (ix3 h q s)).trans ?_
  exact View.canon_apply_of_pieces (fun y => bw i x0 x1 x2 x3 (y 0).val (y 1).val (y 2).val) _ (weights_agree c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 x0 x1 x2 x3 x4 x5 x6 x7 x8 x9) _ (cover0_A_11 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 x0 x1 x2 x3 x4 x5 x6 x7 x8 x9 _)

theorem out_sinks (q l : Fin 128) : out0_A_12 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 x0 x1 x2 x3 x4 x5 x6 x7 x8 x9 (ix2 q l) = bs i x0 x1 x2 x3 q.val l.val := by
  have e := View.read_writes_eq_canon VO0_12 VO0_12.junk (kernelRun0_A (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 x0 x1 x2 x3 x4 x5 x6 x7 x8 x9).2.2.1 (fun y => cover0_A_12 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 x0 x1 x2 x3 x4 x5 x6 x7 x8 x9 y)
  refine (congrFun e (ix2 q l)).trans ?_
  exact View.canon_apply_of_pieces (fun y => bs i x0 x1 x2 x3 (y 0).val (y 1).val) _ (sinks_agree c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 x0 x1 x2 x3 x4 x5 x6 x7 x8 x9) _ (cover0_A_12 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 x0 x1 x2 x3 x4 x5 x6 x7 x8 x9 _)

theorem out_attn (q : Fin 128) (j : Fin 512) : out0_A_13 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 x0 x1 x2 x3 x4 x5 x6 x7 x8 x9 (ix2 q j) = bo i x0 x1 x2 x3 q.val j.val := by
  have e := View.read_writes_eq_canon VO0_13 VO0_13.junk (kernelRun0_A (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 x0 x1 x2 x3 x4 x5 x6 x7 x8 x9).2.2.2.1 (fun y => cover0_A_13 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 x0 x1 x2 x3 x4 x5 x6 x7 x8 x9 y)
  refine (congrFun e (ix2 q j)).trans ?_
  exact View.canon_apply_of_pieces (fun y => bo i x0 x1 x2 x3 (y 0).val (y 1).val) _ (attn_agree c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 x0 x1 x2 x3 x4 x5 x6 x7 x8 x9) _ (cover0_A_13 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 x0 x1 x2 x3 x4 x5 x6 x7 x8 x9 _)

end outs

end Cert.MixFwdIdeal.Body
-- ==== Proof.FwdGate.lean ====
/- What one grid point of the call `mix_fwd` leaves in its block of the mixed rows: the attention's output and the spatial gate, each
   scaled by the root of its mean square. -/
module

public import proofs.«01_k».proof.Proof.FwdOuts
public import proofs.«01_k».proof.Proof.FwdGatePay

@[expose] public section

set_option maxRecDepth 16384

noncomputable section

namespace Cert.MixFwdIdeal.Body

open Cert.MixFwdIdeal Cert.MixFwdIdeal.Gen Idealize.ShloMosaic Idealize.ShloMosaic.TcCoe Idealize.SL.Sem Idealize.ShloMosaic.WordCmp
open Cert.RealNum Cert.FwdSpec

/-- A load of a bf16 array of three axes. -/
theorem ld3b {κ' : Kind} {sp : Space} {A B C a b c : ℕ} {m : Memref sig κ' sp ⟨3, ![A, B, C]⟩ .bf16} (h : m.IsWhole) (X : Vec Ideal ⟨3, ![A, B, C]⟩ .bf16)
    (o p r : ℕ) (inb : ∀ k, (![o, p, r] : Fin 3 → ℕ) k + (![a, b, c] : Fin 3 → ℕ) k ≤ (![A, B, C] : Fin 3 → ℕ) k)
    (i : Fin a) (j : Fin b) (k : Fin c) :
    View.readAt (Elt Ideal) m.view (Rect.unit (s := ⟨3, ![A, B, C]⟩) ![o, p, r] ![a, b, c] inb).toLoadRect (h.unread X) (ix3 i j k)
      = nat3 X (o + i.val) (p + j.val) (r + k.val) := by
  have h0 := inb 0; have h1 := inb 1; have h2 := inb 2
  change o + a ≤ A at h0; change p + b ≤ B at h1; change r + c ≤ C at h2
  rw [h.readAt_unread, nat3_lt X (by omega) (by omega) (by omega)]
  refine congrArg X (funext fun l => Fin.ext ?_)
  match l with
  | ⟨0, _⟩ => show o + 1 * i.val = o + i.val; omega
  | ⟨1, _⟩ => show p + 1 * j.val = p + j.val; omega
  | ⟨2, _⟩ => show r + 1 * k.val = r + k.val; omega

section gate

variable (c : Dev nD) (i : grid0.Coords)
  (arg1 : Memref sig .tc .vmem S128x1792 .f32) (harg1 : arg1.IsWhole) (arg2 : Memref sig .tc .vmem S128x256 .f32) (harg2 : arg2.IsWhole)
  (arg3 : Memref sig .tc .vmem S8x128x256 .f32) (harg3 : arg3.IsWhole) (arg4 : Memref sig .tc .smem S8 .f32) (harg4 : arg4.IsWhole)
  (arg5 : Memref sig .tc .vmem S1x512 .f32) (harg5 : arg5.IsWhole) (arg6 : Memref sig .tc .vmem S1x512 .f32) (harg6 : arg6.IsWhole)
  (arg7 : Memref sig .tc .vmem S4x128x256 .bf16) (harg7 : arg7.IsWhole) (arg8 : Memref sig .tc .vmem S128x512 .f32) (harg8 : arg8.IsWhole)
  (arg9 : Memref sig .tc .vmem S1x512 .f32) (harg9 : arg9.IsWhole) (arg10 : Memref sig .tc .vmem S1x512 .f32) (harg10 : arg10.IsWhole)
  (arg11 : Memref sig .tc .vmem S128x1024 .bf16) (harg11 : arg11.IsWhole) (arg12 : Memref sig .tc .vmem S8x128x256 .f32) (harg12 : arg12.IsWhole)
  (arg13 : Memref sig .tc .vmem S128x128 .f32) (harg13 : arg13.IsWhole) (arg14 : Memref sig .tc .vmem S128x512 .f32) (harg14 : arg14.IsWhole)
  (arg15 : Memref sig .tc .vmem S2x256x128 .bf16) (harg15 : arg15.IsWhole) (arg16 : Memref sig .tc .vmem S2x256x128 .bf16) (harg16 : arg16.IsWhole)
  (arg17 : Memref sig .tc .vmem S2x512x128 .bf16) (harg17 : arg17.IsWhole) (arg18 : Memref sig .tc .vmem S2x512x128 .bf16) (harg18 : arg18.IsWhole)
  (arg19 : Memref sig .tc .vmem S8x128x128 .bf16) (harg19 : arg19.IsWhole) (arg20 : Memref sig .tc .vmem S2x512x256 .f32) (harg20 : arg20.IsWhole)
  (arg21 : Memref sig .tc .vmem S8x128x256 .bf16) (harg21 : arg21.IsWhole) (arg22 : Memref sig .tc .vmem S128x512 .f32) (harg22 : arg22.IsWhole)
  (arg23 : Memref sig .tc .vmem S128x512 .bf16) (harg23 : arg23.IsWhole) (arg24 : Memref sig .tc .vmem S128x512 .f32) (harg24 : arg24.IsWhole)
  (x0 : Vec Ideal S128x1792 .f32) (x1 : Vec Ideal S128x256 .f32) (x2 : Vec Ideal S8x128x256 .f32) (x3 : Vec Ideal S8 .f32)
  (x4 x5 : Vec Ideal S1x512 .f32) (x6 : Vec Ideal S4x128x256 .bf16) (x7 : Vec Ideal S128x512 .f32) (x8 x9 : Vec Ideal S1x512 .f32)

/-- The gelu of the gate's first half, the normalised second half, its mixture of rows, and the mixed rows of the block. -/
def bu (r j : ℕ) : EReal := gelu (nat2 x0 r (768 + j))
def bv (r j : ℕ) : EReal := gnorm (fun k => gelu (nat2 x0 r (1280 + k))) j * nat2 x4 0 j + nat2 x5 0 j
def bm (t j : ℕ) : EReal := (∑ s : Fin 128, nat3 x6 (j / 128) t (128 * (j % 128 / 64) + s.val) * bv x0 x4 x5 s.val j) + nat2 x7 t j
def bx (r j : ℕ) : EReal :=
  if j < 512 then rms (bo i x0 x1 x2 x3 r) j * nat2 x8 0 j
  else rms (fun k => bu x0 r k * bm x0 x4 x5 x6 x7 r k) (j - 512) * nat2 x9 0 (j - 512)

abbrev ga (o p : ℕ) (inb : ∀ k, (![o, p] : Fin 2 → ℕ) k + S32x512.size k ≤ S128x1792.size k) : Vec Ideal S32x512 .f32 :=
  View.readAt (Elt Ideal) arg1.view (Rect.unit (s := S128x1792) ![o, p] S32x512.size inb).toLoadRect (harg1.unread x0)

theorem gelu_piece (o p : ℕ) (inb) (r : Fin 32) (j : Fin 512) :
    k0_pay240 (F := Ideal) (ga arg1 harg1 x0 o p inb) (ix2 r j) = gelu (nat2 x0 (o + r.val) (p + j.val)) := by
  rw [gelu_at]; exact congrArg gelu (ld2 harg1 x0 o p inb r j)

theorem u_piece (o : ℕ) (inb) (r : Fin 32) (j : Fin 512) :
    k0_pay270 (F := Ideal) (k0_pay240 (ga arg1 harg1 x0 o 768 inb)) (ix2 r j) = bu x0 (o + r.val) (0 + j.val) := by
  have e : k0_pay270 (F := Ideal) (k0_pay240 (ga arg1 harg1 x0 o 768 inb)) (ix2 r j) = k0_pay240 (F := Ideal) (ga arg1 harg1 x0 o 768 inb) (ix2 r j) := by
    pointwise [k0_pay270]
  rw [e, gelu_piece, Nat.zero_add]; rfl

theorem u_agree : Agree2 (kernelRun0_A.sl.HS7_4 (F := Ideal) c arg1 harg1 x0) (bu x0) :=
  agree2_cons 96 0 _ _ (u_piece arg1 harg1 x0 96 _) <| agree2_cons 64 0 _ _ (u_piece arg1 harg1 x0 64 _) <|
    agree2_cons 32 0 _ _ (u_piece arg1 harg1 x0 32 _) <| agree2_cons 0 0 _ _ (u_piece arg1 harg1 x0 0 _) <| agree2_nil _
theorem u_cover (y : S128x512.Idx) : ∃ p ∈ kernelRun0_A.sl.HS7_4 (F := Ideal) c arg1 harg1 x0, y ∈ p.1.set :=
  View.cover_of_tiledL (s := S128x512) _ S32x512.size (by sl_kernel_rfl) y

abbrev g5 (inb : ∀ k, (![0, 0] : Fin 2 → ℕ) k + S1x512.size k ≤ S1x512.size k) : Vec Ideal S1x512 .f32 :=
  View.readAt (Elt Ideal) arg5.view (Rect.unit (s := S1x512) ![0, 0] S1x512.size inb).toLoadRect (harg5.unread x4)

theorem one_row1 (v : Vec Ideal S1x512 .f32) (j : Fin 512) : k0_pay198 v (ix2 0 j) = v (ix2 0 j) := by pointwise [k0_pay198]
theorem one_row2 (v : Vec Ideal S1x512 .f32) (j : Fin 512) : k0_pay199 v (ix2 0 j) = v (ix2 0 j) := by pointwise [k0_pay199]

theorem v_piece (o : ℕ) (inb a5 a6) (r : Fin 32) (j : Fin 512) :
    k0_pay256 (F := Ideal) (k0_pay198 (g5 arg5 harg5 x4 a5)) (k0_pay199 (g5 arg6 harg6 x5 a6)) (groupNorm (k0_pay240 (ga arg1 harg1 x0 o 1280 inb))) (ix2 r j)
      = bv x0 x4 x5 (o + r.val) (0 + j.val) := by
  rw [vn_at, groupNorm_at _ (fun r k => gelu (nat2 x0 (o + r) (1280 + k))) (gelu_piece arg1 harg1 x0 o 1280 inb), Nat.zero_add, bv]
  exact congrArg₂ (fun a b => gnorm _ j.val * a + b) ((one_row1 _ j).trans ((ld2 harg5 x4 0 0 a5 0 j).trans (by simp))) ((one_row2 _ j).trans ((ld2 harg6 x5 0 0 a6 0 j).trans (by simp)))

theorem v_agree : Agree2 (kernelRun0_A.sl.HS8_4 (F := Ideal) c arg1 harg1 arg5 harg5 arg6 harg6 x0 x4 x5) (bv x0 x4 x5) :=
  agree2_cons 96 0 _ _ (v_piece arg1 harg1 arg5 harg5 arg6 harg6 x0 x4 x5 96 _ _ _) <| agree2_cons 64 0 _ _ (v_piece arg1 harg1 arg5 harg5 arg6 harg6 x0 x4 x5 64 _ _ _) <|
    agree2_cons 32 0 _ _ (v_piece arg1 harg1 arg5 harg5 arg6 harg6 x0 x4 x5 32 _ _ _) <| agree2_cons 0 0 _ _ (v_piece arg1 harg1 arg5 harg5 arg6 harg6 x0 x4 x5 0 _ _ _) <| agree2_nil _
theorem v_cover (y : S128x512.Idx) : ∃ p ∈ kernelRun0_A.sl.HS8_4 (F := Ideal) c arg1 harg1 arg5 harg5 arg6 harg6 x0 x4 x5, y ∈ p.1.set :=
  View.cover_of_tiledL (s := S128x512) _ S32x512.size (by sl_kernel_rfl) y

abbrev w7 (k : ℕ) (inb : ∀ l, (![k, 0, 0] : Fin 3 → ℕ) l + S1x128x256.size l ≤ S4x128x256.size l) : Vec Ideal S1x128x256 .bf16 :=
  View.readAt (Elt Ideal) arg7.view (Rect.unit (s := S4x128x256) ![k, 0, 0] S1x128x256.size inb).toLoadRect (harg7.unread x6)
abbrev v23 (o : ℕ) (inb : ∀ l, (![0, o] : Fin 2 → ℕ) l + S128x128.size l ≤ S128x512.size l) : Vec Ideal S128x128 .bf16 :=
  arg23.view.readCov (kernelRun0_A.sl.HS8_4 (F := Ideal) c arg1 harg1 arg5 harg5 arg6 harg6 x0 x4 x5) (Rect.unit (s := S128x512) ![0, o] S128x128.size inb).toLoadRect
abbrev b8 (o : ℕ) (inb : ∀ l, (![0, o] : Fin 2 → ℕ) l + S128x128.size l ≤ S128x512.size l) : Vec Ideal S128x128 .f32 :=
  View.readAt (Elt Ideal) arg8.view (Rect.unit (s := S128x512) ![0, o] S128x128.size inb).toLoadRect (harg8.unread x7)

theorem m_piece (k o : ℕ) (ho : o = 128 * k) (i7 i23 i8) (t l : Fin 128) :
    k0_pay272 (F := Ideal) (w7 arg7 harg7 x6 k i7) (v23 c arg1 harg1 arg5 harg5 arg6 harg6 arg23 x0 x4 x5 o i23) (b8 arg8 harg8 x7 o i8) (ix2 t l)
      = bm x0 x4 x5 x6 x7 (0 + t.val) (o + l.val) := by
  rw [mix_at, Nat.zero_add, bm]
  refine congrArg₂ (· + ·) (Finset.sum_congr rfl fun s _ => congrArg₂ (· * ·) ?_ ?_) ((ld2 harg8 x7 0 o i8 t l).trans (by simp))
  · refine (ld3b harg7 x6 k 0 0 i7 0 t ⟨128 * (l.val / 64) + s.val, by omega⟩).trans ?_
    exact congr (congrArg₂ (nat3 x6) (by show k + 0 = _; omega) (by omega)) (by dsimp only; omega)
  · exact (cov2 arg23.view (v_agree c arg1 harg1 arg5 harg5 arg6 harg6 x0 x4 x5) (v_cover c arg1 harg1 arg5 harg5 arg6 harg6 x0 x4 x5) 0 o i23 s l).trans (by rw [Nat.zero_add])

theorem m_agree : Agree2 (kernelRun0_A.sl.HS9_4 (F := Ideal) c arg1 harg1 arg5 harg5 arg6 harg6 arg7 harg7 arg8 harg8 arg23 x0 x4 x5 x6 x7) (bm x0 x4 x5 x6 x7) := by
  have k := fun k o h a b d => m_piece c arg1 harg1 arg5 harg5 arg6 harg6 arg7 harg7 arg8 harg8 arg23 x0 x4 x5 x6 x7 k o h a b d
  exact agree2_cons 0 384 _ _ (k 3 384 rfl _ _ _) <| agree2_cons 0 256 _ _ (k 2 256 rfl _ _ _) <| agree2_cons 0 128 _ _ (k 1 128 rfl _ _ _) <|
    agree2_cons 0 0 _ _ (k 0 0 rfl _ _ _) <| agree2_nil _
theorem m_cover (y : S128x512.Idx) : ∃ p ∈ kernelRun0_A.sl.HS9_4 (F := Ideal) c arg1 harg1 arg5 harg5 arg6 harg6 arg7 harg7 arg8 harg8 arg23 x0 x4 x5 x6 x7, y ∈ p.1.set :=
  View.cover_of_tiledL (s := S128x512) _ S128x128.size (by sl_kernel_rfl) y

/-! ## The mixed rows -/

abbrev o14 (o : ℕ) (inb : ∀ l, (![o, 0] : Fin 2 → ℕ) l + S32x512.size l ≤ S128x512.size l) : Vec Ideal S32x512 .f32 :=
  arg14.view.readCov (kernelRun0_A.sl.H13_4 (F := Ideal) c i arg1 harg1 arg2 harg2 arg3 harg3 arg4 harg4 arg15 arg18 arg19 arg20 arg21 x0 x1 x2 x3) (Rect.unit (s := S128x512) ![o, 0] S32x512.size inb).toLoadRect
abbrev u22 (o : ℕ) (inb : ∀ l, (![o, 0] : Fin 2 → ℕ) l + S32x512.size l ≤ S128x512.size l) : Vec Ideal S32x512 .f32 :=
  arg22.view.readCov (kernelRun0_A.sl.HS7_4 (F := Ideal) c arg1 harg1 x0) (Rect.unit (s := S128x512) ![o, 0] S32x512.size inb).toLoadRect
abbrev m24 (o : ℕ) (inb : ∀ l, (![o, 0] : Fin 2 → ℕ) l + S32x512.size l ≤ S128x512.size l) : Vec Ideal S32x512 .f32 :=
  arg24.view.readCov (kernelRun0_A.sl.HS9_4 (F := Ideal) c arg1 harg1 arg5 harg5 arg6 harg6 arg7 harg7 arg8 harg8 arg23 x0 x4 x5 x6 x7) (Rect.unit (s := S128x512) ![o, 0] S32x512.size inb).toLoadRect

theorem a_rows (o : ℕ) (i14 i9) (r : Fin 32) (j : Fin 512) :
    k0_pay280 (F := Ideal) (o14 c i arg1 harg1 arg2 harg2 arg3 harg3 arg4 harg4 arg14 arg15 arg18 arg19 arg20 arg21 x0 x1 x2 x3 o i14) (g5 arg9 harg9 x8 i9) (ix2 r j)
      = bx i x0 x1 x2 x3 x4 x5 x6 x7 x8 x9 (o + r.val) (0 + j.val) := by
  rw [bx, if_pos (by omega), rms_at _ _ (fun r j => bo i x0 x1 x2 x3 (o + r) j) (fun r j =>
    (cov2 arg14.view (at_agree c i arg1 harg1 arg2 harg2 arg3 harg3 arg4 harg4 arg15 arg18 arg19 arg20 arg21 x0 x1 x2 x3) (at_cover c i arg1 harg1 arg2 harg2 arg3 harg3 arg4 harg4 arg15 arg18 arg19 arg20 arg21 x0 x1 x2 x3) o 0 i14 r j).trans (by rw [Nat.zero_add])), Nat.zero_add]
  exact congrArg _ ((ld2 harg9 x8 0 0 i9 0 j).trans (by simp))

theorem g_rows (o : ℕ) (i22 i24 i10) (r : Fin 32) (j : Fin 512) :
    k0_pay289 (F := Ideal) (k0_pay286 (u22 c arg1 harg1 arg22 x0 o i22) (m24 c arg1 harg1 arg5 harg5 arg6 harg6 arg7 harg7 arg8 harg8 arg23 arg24 x0 x4 x5 x6 x7 o i24))
        (k0_pay287 (g5 arg10 harg10 x9 i10))
        (k0_pay288 (u22 c arg1 harg1 arg22 x0 o i22) (m24 c arg1 harg1 arg5 harg5 arg6 harg6 arg7 harg7 arg8 harg8 arg23 arg24 x0 x4 x5 x6 x7 o i24)) (ix2 r j)
      = bx i x0 x1 x2 x3 x4 x5 x6 x7 x8 x9 (o + r.val) (512 + j.val) := by
  rw [bx, if_neg (by omega), rms2_at _ _ _ (fun r k => bu x0 (o + r) k * bm x0 x4 x5 x6 x7 (o + r) k) (fun r j => congrArg₂ (· * ·)
    ((cov2 arg22.view (u_agree c arg1 harg1 x0) (u_cover c arg1 harg1 x0) o 0 i22 r j).trans (by rw [Nat.zero_add]))
    ((cov2 arg24.view (m_agree c arg1 harg1 arg5 harg5 arg6 harg6 arg7 harg7 arg8 harg8 arg23 x0 x4 x5 x6 x7) (m_cover c arg1 harg1 arg5 harg5 arg6 harg6 arg7 harg7 arg8 harg8 arg23 x0 x4 x5 x6 x7) o 0 i24 r j).trans (by rw [Nat.zero_add]))),
    Nat.add_sub_cancel_left]
  exact congrArg _ ((ld2 harg10 x9 0 0 i10 0 j).trans (by simp))

theorem mixed_agree : Agree2 (kernelRun0_A (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 x0 x1 x2 x3 x4 x5 x6 x7 x8 x9).1 (bx i x0 x1 x2 x3 x4 x5 x6 x7 x8 x9) := by
  have a := fun o k l => a_rows c i arg1 harg1 arg2 harg2 arg3 harg3 arg4 harg4 arg9 harg9 arg14 arg15 arg18 arg19 arg20 arg21 x0 x1 x2 x3 x4 x5 x6 x7 x8 x9 o k l
  have g := fun o k l n => g_rows c i arg1 harg1 arg5 harg5 arg6 harg6 arg7 harg7 arg8 harg8 arg10 harg10 arg22 arg23 arg24 x0 x1 x2 x3 x4 x5 x6 x7 x8 x9 o k l n
  exact agree2_cons 96 512 _ _ (g 96 _ _ _) <| agree2_cons 96 0 _ _ (a 96 _ _) <| agree2_cons 64 512 _ _ (g 64 _ _ _) <| agree2_cons 64 0 _ _ (a 64 _ _) <|
    agree2_cons 32 512 _ _ (g 32 _ _ _) <| agree2_cons 32 0 _ _ (a 32 _ _) <| agree2_cons 0 512 _ _ (g 0 _ _ _) <| agree2_cons 0 0 _ _ (a 0 _ _) <| agree2_nil _
theorem mixed_cover (y : S128x1024.Idx) : ∃ p ∈ (kernelRun0_A (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 x0 x1 x2 x3 x4 x5 x6 x7 x8 x9).1, y ∈ p.1.set :=
  View.cover_of_tiledL (s := S128x1024) _ S32x512.size (by sl_kernel_rfl) y

theorem out_mixed (q : Fin 128) (j : Fin 1024) : out0_A_10 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 x0 x1 x2 x3 x4 x5 x6 x7 x8 x9 (ix2 q j) = bx i x0 x1 x2 x3 x4 x5 x6 x7 x8 x9 q.val j.val := by
  have e := View.read_writes_eq_canon VO0_10 VO0_10.junk (kernelRun0_A (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 x0 x1 x2 x3 x4 x5 x6 x7 x8 x9).1 (fun y => cover0_A_10 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 x0 x1 x2 x3 x4 x5 x6 x7 x8 x9 y)
  refine (congrFun e (ix2 q j)).trans ?_
  exact View.canon_apply_of_pieces (fun y => bx i x0 x1 x2 x3 x4 x5 x6 x7 x8 x9 (y 0).val (y 1).val) _ (mixed_agree c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 x0 x1 x2 x3 x4 x5 x6 x7 x8 x9) _ (cover0_A_10 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 x0 x1 x2 x3 x4 x5 x6 x7 x8 x9 _)
end gate

end Cert.MixFwdIdeal.Body
-- ==== Proof.FwdBlock.lean ====
/- The results of one block of `mix_fwd`, as functions of the whole arguments. -/
module

public import proofs.«01_k».proof.Proof.FwdFin
public import proofs.«01_k».proof.Proof.FwdGate

@[expose] public section

set_option maxRecDepth 16384

noncomputable section

namespace Cert.MixFwdIdeal.Body

open Cert.MixFwdIdeal Cert.MixFwdIdeal.Gen Idealize.ShloMosaic
open Cert.RealNum Cert.FwdSpec

theorem top_congr {L L' : ℕ → EReal} (h : ∀ k, k < 256 → L k = L' k) (s : EReal) : top L s = top L' s := by
  rw [top, top, Finset.fold_congr fun (k : Fin 256) _ => h k.val k.isLt]
theorem den_congr {L L' : ℕ → EReal} (h : ∀ k, k < 256 → L k = L' k) (s : EReal) : den L s = den L' s := by
  rw [den, den, exs, exs, top_congr h]
  refine congrArg (· + _) (Finset.sum_congr rfl fun k _ => ?_)
  rw [ex, ex, top_congr h, h k.val k.isLt]
theorem wtR_congr {L L' : ℕ → EReal} (h : ∀ k, k < 256 → L k = L' k) (s : EReal) {k : ℕ} (hk : k < 256) : wtR L s k = wtR L' s k := by
  rw [wtR, wtR, den_congr h, ex, ex, top_congr h, h k hk]
theorem wtsR_congr {L L' : ℕ → EReal} (h : ∀ k, k < 256 → L k = L' k) (s : EReal) : wtsR L s = wtsR L' s := by
  rw [wtsR, wtsR, den_congr h, exs, exs, top_congr h]

variable (i : grid0.Coords)
variable (x0 : Vec Ideal S128x1792 .f32) (x1 : Vec Ideal S128x256 .f32) (x2 : Vec Ideal S8x128x256 .f32) (x3 : Vec Ideal S8 .f32)
variable (x4 x5 : Vec Ideal S1x512 .f32) (x6 : Vec Ideal S4x128x256 .bf16) (x7 : Vec Ideal S128x512 .f32) (x8 x9 : Vec Ideal S1x512 .f32)
variable (n : ℕ) (P : ℕ → ℕ → EReal) (B : ℕ → ℕ → ℕ → EReal) (K lg lb : ℕ → EReal) (ws : ℕ → ℕ → ℕ → EReal) (sb : ℕ → ℕ → EReal) (ag gg : ℕ → EReal)

/-- What block `n` is given, at finite projections, biases and sinks. -/
structure Blk : Prop where
  n_eq : (i 0).val = n
  n_lt : n < 64
  p : ∀ r j, r < 128 → j < 1792 → nat2 x0 r j = P (128 * n + r) j
  kv : ∀ r j, r < 128 → j < 256 → nat2 x1 r j = P (128 * (n - 1) + r) (512 + j)
  tab : ∀ h q s, h < 8 → q < 128 → s < 256 → nat3 x2 h q s = if q < s ∧ s ≤ q + 128 then B h q s else ⊥
  k : ∀ h, nat1 x3 h = K h
  g : ∀ j, j < 512 → nat2 x4 0 j = lg j
  b : ∀ j, j < 512 → nat2 x5 0 j = lb j
  w : ∀ a t c, a < 4 → t < 128 → c < 256 → nat3 x6 a t c = if c % 128 ≤ t then ws (2 * a + c / 128) t (c % 128) else 0
  s : ∀ t j, t < 128 → j < 512 → nat2 x7 t j = sb (j / 64) t
  a : ∀ j, j < 512 → nat2 x8 0 j = ag j
  o : ∀ j, j < 512 → nat2 x9 0 j = gg j
  p_real : ∀ r j, ∃ x : ℝ, P r j = x
  b_real : ∀ h q s, ∃ x : ℝ, B h q s = x
  k_real : ∀ h, ∃ x : ℝ, K h = x

variable {i x0 x1 x2 x3 x4 x5 x6 x7 x8 x9 n P B K lg lb ws sb ag gg}
variable (A : Blk i x0 x1 x2 x3 x4 x5 x6 x7 x8 x9 n P B K lg lb ws sb ag gg)
include A

theorem win_eq (o s c : ℕ) (ho : o ≤ 128) (hs : s < 256) (hc : c < 128) (hf : ¬first n s) :
    win x0 x1 o s c = P (128 * n + s - 128) (512 + (o + c)) := by
  rw [first] at hf
  rw [win]
  by_cases h : s < 128
  · rw [if_pos h, A.kv _ _ h (by omega), show 128 * (n - 1) + s = 128 * n + s - 128 by omega]
  · rw [if_neg h, A.p _ _ (by omega) (by omega), show 128 * n + (s - 128) = 128 * n + s - 128 by omega, ← Nat.add_assoc]

theorem bl_slog (h q s : ℕ) (hh : h < 8) (hq : q < 128) (hs : s < 256) : bl i x0 x1 x2 h q s = slog P B n h q s := by
  rw [bl, A.n_eq, slog]
  by_cases hf : first n s
  · rw [if_pos hf, if_neg]
    rw [first] at hf; rw [seen]; omega
  · rw [if_neg hf, A.tab h q s hh hq hs]
    by_cases ht : q < s ∧ s ≤ q + 128
    · rw [if_pos ht, if_pos (by rw [first] at hf; rw [seen]; omega), lgs, qk, qk]
      refine congrArg (· * _ + _) (Finset.sum_congr rfl fun d _ => ?_)
      have hd := d.isLt
      rw [show 4 * (h / 4) + (128 * (h % 4) + q) / 128 = h by omega, show (128 * (h % 4) + q) % 128 = q by omega,
        A.p _ _ hq (by omega), win_eq A _ _ _ (by omega) hs (by omega) hf, Nat.zero_add]
    · rw [if_neg ht, if_neg (by rw [seen]; omega), EReal.add_bot]

theorem w_eq (h q s : ℕ) (hh : h < 8) (hq : q < 128) (hs : s < 256) : bw i x0 x1 x2 x3 h q s = wt (slog P B n h q) (K h) s := by
  rw [bw, A.k, wtR_congr (fun k hk => bl_slog A h q k hh hq hk) _ hs, wtR_eq]
  exact den_ne _ _ (A.k_real h) fun k => slog_lt P B A.p_real A.b_real n h q k

theorem out_w (h q s : ℕ) (hh : h < 8) (hq : q < 128) (hs : s < 256) : bw i x0 x1 x2 x3 h q s = fw P B K h (128 * n + q) s := by
  rw [fw, show (128 * n + q) / 128 = n by omega, show (128 * n + q) % 128 = q by omega, w_eq A h q s hh hq hs]

theorem out_s (q l : ℕ) (hq : q < 128) : bs i x0 x1 x2 x3 q l = fs P B K (128 * n + q) l := by
  rw [bs, fs, show (128 * n + q) / 128 = n by omega, show (128 * n + q) % 128 = q by omega]
  by_cases hl : l < 8
  · rw [if_pos hl, if_pos hl, A.k, wtsR_congr (fun k hk => bl_slog A l q k hl hq hk), wtsR_eq]
    exact den_ne _ _ (A.k_real l) fun k => slog_lt P B A.p_real A.b_real n l q k
  · rw [if_neg hl, if_neg hl]

theorem out_a (q j : ℕ) (hq : q < 128) (hj : j < 512) : bo i x0 x1 x2 x3 q j = fa P B K (128 * n + q) j := by
  rw [bo, fa, show (128 * n + q) / 128 = n by omega, show (128 * n + q) % 128 = q by omega, attn, attn]
  refine Finset.sum_congr rfl fun s _ => ?_
  have hs := s.isLt
  rw [w_eq A _ _ _ (by omega) hq hs]
  by_cases hf : first n s.val
  · rw [wt_hidden _ _ _ (A.k_real _) (fun k => slog_lt P B A.p_real A.b_real n _ q k)
      (by rw [slog, if_neg]; rw [first] at hf; rw [seen]; omega), zero_mul, zero_mul]
  · rw [win_eq A _ _ _ (by omega) hs (by omega) hf, sval, if_pos (by rw [first] at hf; omega), ← Nat.add_assoc]

theorem gmean_congr {f f' : ℕ → EReal} (h : ∀ k, k < 512 → f k = f' k) {j : ℕ} (hj : j < 512) : gmean f j = gmean f' j := by
  rw [gmean, gmean]
  refine congrArg (· * _) (Finset.sum_congr rfl fun d _ => h _ ?_)
  have := d.isLt
  omega
theorem gdev_congr {f f' : ℕ → EReal} (h : ∀ k, k < 512 → f k = f' k) {j : ℕ} (hj : j < 512) : gdev f j = gdev f' j := by
  rw [gdev, gdev, gmean_congr A h hj, h j hj]
theorem gnorm_congr {f f' : ℕ → EReal} (h : ∀ k, k < 512 → f k = f' k) {j : ℕ} (hj : j < 512) : gnorm f j = gnorm f' j := by
  rw [gnorm, gnorm, gdev_congr A h hj, gmean_congr A (f := fun k => gdev f k * gdev f k) (f' := fun k => gdev f' k * gdev f' k)
    (fun k hk => by rw [gdev_congr A h hk]) hj]
theorem rms_congr {f f' : ℕ → EReal} (h : ∀ k, k < 512 → f k = f' k) {j : ℕ} (hj : j < 512) : rms f j = rms f' j := by
  rw [rms, rms, h j hj, Finset.sum_congr rfl fun (k : Fin 512) _ => by rw [h k.val k.isLt]]

theorem u_eq (r j : ℕ) (hr : r < 128) (hj : j < 512) : bu x0 r j = fu P (128 * n + r) j := by
  rw [bu, fu, A.p _ _ hr (by omega)]
theorem v_eq (r j : ℕ) (hr : r < 128) (hj : j < 512) : bv x0 x4 x5 r j = fv P lg lb (128 * n + r) j := by
  rw [bv, fv, A.g j hj, A.b j hj, gnorm_congr A (fun k hk => by rw [A.p _ _ hr (by omega)]) hj]
theorem m_eq (t j : ℕ) (ht : t < 128) (hj : j < 512) : bm x0 x4 x5 x6 x7 t j = fm P lg lb ws sb (128 * n + t) j := by
  rw [bm, fm, show (128 * n + t) / 128 = n by omega, show (128 * n + t) % 128 = t by omega, A.s t j ht hj]
  refine congrArg (· + _) (Finset.sum_congr rfl fun s _ => ?_)
  have hs := s.isLt
  rw [v_eq A _ _ hs hj, A.w _ _ _ (by omega) ht (by omega), show (128 * (j % 128 / 64) + s.val) % 128 = s.val by omega,
    show 2 * (j / 128) + (128 * (j % 128 / 64) + s.val) / 128 = j / 64 by omega]

theorem out_x (q j : ℕ) (hq : q < 128) (hj : j < 1024) :
    bx i x0 x1 x2 x3 x4 x5 x6 x7 x8 x9 q j = fx P B K lg lb ws sb ag gg (128 * n + q) j := by
  rw [bx, fx]
  by_cases h : j < 512
  · rw [if_pos h, if_pos h, A.a j h, rms_congr A (fun k hk => out_a A q k hq hk) h]
  · rw [if_neg h, if_neg h, A.o _ (by omega), rms_congr A (fun k hk => by rw [u_eq A q k hq hk, m_eq A q k hq hk]) (by omega)]

end Cert.MixFwdIdeal.Body
-- ==== Proof.FwdArr.lean ====
/- What the call `mix_fwd` leaves in its four result arrays at finite projections, biases and sinks. -/
module

public import proofs.«01_k».proof.Proof.FwdBlock
public import proofs.«01_k».proof.Proof.FwdOuts
public import proofs.«01_k».proof.Proof.Gen.MixFwdIdeal.Value
public import Idealize.ShloMosaic.Lib.Pipeline.ValueKit.Geometry
public import Idealize.ShloMosaic.Lib.Pipeline.ValueKit.Tiles

@[expose] public section

set_option maxRecDepth 16384

noncomputable section

namespace Cert.MixFwdIdeal.Value

open Cert.MixFwdIdeal Cert.MixFwdIdeal.Gen Idealize.ShloMosaic Idealize.ShloMosaic.TcCoe Idealize.SL.Sem Idealize.ShloMosaic.WordCmp
open Idealize.ShloMosaic.Pipeline (Dat)
open Idealize.ShloMosaic.StableHlo Cert.RealNum Cert.FwdSpec Cert.MixFwdIdeal.Body

variable (m : (ℓ : Loc nD τ sig) → Buf (Elt Ideal) ℓ)

/-! ## The arrays the region reads -/

/-- The positions' distances and the biases with the positions outside the window masked. -/
abbrev dist : IVec S128x256 32 := subi (addi (iotaInDim S128x256 32 0) (broadcastInDim S128x256 ![] bcast_S_S128x256 (constantI S_ 32 128#32))) (iotaInDim S128x256 32 1)
abbrev near : IVec S128x256 1 := andi (cmpi .sge dist (broadcastInDim S128x256 ![] bcast_S_S128x256 (constantI S_ 32 0#32)))
  (cmpi .slt dist (broadcastInDim S128x256 ![] bcast_S_S128x256 (constantI S_ 32 128#32)))
abbrev masked (x : FVec Ideal S8x128x256 .f32) : FVec Ideal S8x128x256 .f32 :=
  select (broadcastInDim S8x128x256 ![1, 2] bcast_S128x256_S8x128x256_1_2 near) x
    (broadcastInDim S8x128x256 ![] bcast_S_S8x128x256 (id (constant S_ .f32 0xFF800000#32 : FVec Ideal S_ .f32)))

/-- The mixing weights below the diagonal, two groups side by side, and the biases laid out over the lanes. -/
abbrev tri : IVec S128x128 1 :=
  select (cmpi .sge (addi (iotaInDim S128x128 32 0) (broadcastInDim S128x128 ![] bcast_S_S128x128 (constantI S_ 32 0#32))) (iotaInDim S128x128 32 1))
    (broadcastInDim S128x128 ![] bcast_S_S128x128 (constantI S_ 1 1#1)) (broadcastInDim S128x128 ![] bcast_S_S128x128 (constantI S_ 1 0#1))
abbrev lower (x : FVec Ideal S8x128x128 .f32) : FVec Ideal S8x128x128 .f32 :=
  select (broadcastInDim S8x128x128 ![0, 1, 2] bcast_S1x128x128_S8x128x128_0_1_2 (broadcastInDim S1x128x128 ![1, 2] bcast_S128x128_S1x128x128_1_2 tri)) x
    (broadcastInDim S8x128x128 ![] bcast_S_S8x128x128 (id (constant S_ .f32 0x00000000#32 : FVec Ideal S_ .f32)))
abbrev pairs (x : FVec Ideal S8x128x128 .f32) : FVec Ideal S4x128x256 .bf16 :=
  concatenate S4x128x256 2
    [⟨S4x128x128, Host.slice S4x128x128 ![0, 0, 0] ![2, 1, 1] (truncf .bf16 (lower x) bitsLt_bf16_f32) slicesBy_S8x128x128_S4x128x128_0s2_0s1_0s1⟩,
      ⟨S4x128x128, Host.slice S4x128x128 ![1, 0, 0] ![2, 1, 1] (truncf .bf16 (lower x) bitsLt_bf16_f32) slicesBy_S8x128x128_S4x128x128_1s2_0s1_0s1⟩]
    concatenates_S4x128x128_S4x128x128_S4x128x256_d2
abbrev lanes (x : FVec Ideal S8x128 .f32) : FVec Ideal S128x512 .f32 :=
  shapeCast S128x512 (broadcastInDim S128x8x64 ![0, 1] bcast_S128x8_S128x8x64_0_1 (transpose S128x8 [1, 0] x transposes_S8x128_S128x8_1_0)) shapeCasts_S128x8x64_S128x512

theorem V_table (c : Dev nD) : V m c main_v10 = masked (m ((c : Thread nD τ).loc main_arg1)) := by
  show after (List.flatten [hostOps0, hostOps0_1, hostOps0_2, hostOps0_3, hostOps0_4, hostOps0_5, hostOps0_6]) _ (Proc.devRef .tc main_v10) = _
  simp only [hostOps0, hostOps0_1, hostOps0_2, hostOps0_3, hostOps0_4, hostOps0_5, hostOps0_6, List.flatten_cons, List.flatten_nil, List.append_nil, List.cons_append, List.nil_append]
  after_results
  rfl

theorem V_pairs (c : Dev nD) : V m c main_v18 = pairs (m ((c : Thread nD τ).loc main_arg5)) := by
  show after (List.flatten [hostOps0, hostOps0_1, hostOps0_2, hostOps0_3, hostOps0_4, hostOps0_5, hostOps0_6]) _ (Proc.devRef .tc main_v18) = _
  simp only [hostOps0, hostOps0_1, hostOps0_2, hostOps0_3, hostOps0_4, hostOps0_5, hostOps0_6, List.flatten_cons, List.flatten_nil, List.append_nil, List.cons_append, List.nil_append]
  after_results
  rfl

theorem V_lanes (c : Dev nD) : V m c main_v21 = lanes (m ((c : Thread nD τ).loc main_arg6)) := by
  show after (List.flatten [hostOps0, hostOps0_1, hostOps0_2, hostOps0_3, hostOps0_4, hostOps0_5, hostOps0_6]) _ (Proc.devRef .tc main_v21) = _
  simp only [hostOps0, hostOps0_1, hostOps0_2, hostOps0_3, hostOps0_4, hostOps0_5, hostOps0_6, List.flatten_cons, List.flatten_nil, List.append_nil, List.cons_append, List.nil_append]
  after_results
  rfl

theorem V_rows (c : Dev nD) :
    V m c main_v22 = (broadcastInDim S1x512 ![1] bcast_S512_S1x512_1 (m ((c : Thread nD τ).loc main_arg3)) : FVec Ideal S1x512 .f32)
    ∧ V m c main_v23 = (broadcastInDim S1x512 ![1] bcast_S512_S1x512_1 (m ((c : Thread nD τ).loc main_arg4)) : FVec Ideal S1x512 .f32)
    ∧ V m c main_v24 = (broadcastInDim S1x512 ![1] bcast_S512_S1x512_1 (m ((c : Thread nD τ).loc main_arg7)) : FVec Ideal S1x512 .f32)
    ∧ V m c main_v25 = (broadcastInDim S1x512 ![1] bcast_S512_S1x512_1 (m ((c : Thread nD τ).loc main_arg8)) : FVec Ideal S1x512 .f32) := by
  refine ⟨?_, ?_, ?_, ?_⟩
  · show after (List.flatten [hostOps0, hostOps0_1, hostOps0_2, hostOps0_3, hostOps0_4, hostOps0_5, hostOps0_6]) _ (Proc.devRef .tc main_v22) = _
    simp only [hostOps0, hostOps0_1, hostOps0_2, hostOps0_3, hostOps0_4, hostOps0_5, hostOps0_6, List.flatten_cons, List.flatten_nil, List.append_nil, List.cons_append, List.nil_append]
    after_results
  · show after (List.flatten [hostOps0, hostOps0_1, hostOps0_2, hostOps0_3, hostOps0_4, hostOps0_5, hostOps0_6]) _ (Proc.devRef .tc main_v23) = _
    simp only [hostOps0, hostOps0_1, hostOps0_2, hostOps0_3, hostOps0_4, hostOps0_5, hostOps0_6, List.flatten_cons, List.flatten_nil, List.append_nil, List.cons_append, List.nil_append]
    after_results
  · show after (List.flatten [hostOps0, hostOps0_1, hostOps0_2, hostOps0_3, hostOps0_4, hostOps0_5, hostOps0_6]) _ (Proc.devRef .tc main_v24) = _
    simp only [hostOps0, hostOps0_1, hostOps0_2, hostOps0_3, hostOps0_4, hostOps0_5, hostOps0_6, List.flatten_cons, List.flatten_nil, List.append_nil, List.cons_append, List.nil_append]
    after_results
  · show after (List.flatten [hostOps0, hostOps0_1, hostOps0_2, hostOps0_3, hostOps0_4, hostOps0_5, hostOps0_6]) _ (Proc.devRef .tc main_v25) = _
    simp only [hostOps0, hostOps0_1, hostOps0_2, hostOps0_3, hostOps0_4, hostOps0_5, hostOps0_6, List.flatten_cons, List.flatten_nil, List.append_nil, List.cons_append, List.nil_append]
    after_results

/-! ## Their entries -/

theorem one_row (x : (⟨S512, .f32⟩ : BufTy).Contents (Elt Ideal)) (i : S1x512.Idx) :
    (broadcastInDim S1x512 ![1] bcast_S512_S1x512_1 x : FVec Ideal S1x512 .f32) i = x (ix1 (i 1)) := by
  obtain ⟨a, b, rfl⟩ : ∃ (a : Fin 1) (b : Fin 512), i = ix2 a b := ⟨i 0, i 1, eq_ix2 i⟩
  pointwise

theorem near_at (q : Fin 128) (s : Fin 256) : near (ix2 q s) = BitVec.ofBool (decide (q.val < s.val ∧ s.val ≤ q.val + 128)) := by
  have key : ∀ (q : Fin 128) (s : Fin 256), IntOp.andi
      (IntOp.cmpi .sge (IntOp.subi (IntOp.addi (BitVec.ofNat 32 q.val) 128#32) (BitVec.ofNat 32 s.val)) 0#32)
      (IntOp.cmpi .slt (IntOp.subi (IntOp.addi (BitVec.ofNat 32 q.val) 128#32) (BitVec.ofNat 32 s.val)) 128#32)
        = BitVec.ofBool (decide (q.val < s.val ∧ s.val ≤ q.val + 128)) := by decide +kernel
  exact key q s

theorem masked_at (x : FVec Ideal S8x128x256 .f32) (h : Fin 8) (q : Fin 128) (s : Fin 256) :
    masked x (ix3 h q s) = if q.val < s.val ∧ s.val ≤ q.val + 128 then x (ix3 h q s) else ⊥ := by
  have e : masked x (ix3 h q s) = Scalar.select (near (ix2 q s)) (x (ix3 h q s)) (Ideal.ofBits .f32 0xFF800000#32) := by
    unfold masked
    generalize near = y
    pointwise
    rfl
  rw [e, near_at, select_ofBool, show Ideal.ofBits .f32 0xFF800000#32 = ⊥ by simp [Ideal.ofBits, Ideal.ieee]]
  simp only [decide_eq_true_eq]

theorem tri_at (t s : Fin 128) : tri (ix2 t s) = BitVec.ofBool (decide (s.val ≤ t.val)) := by
  have key : ∀ t s : Fin 128, Scalar.select (IntOp.cmpi .sge (IntOp.addi (BitVec.ofNat 32 t.val) 0#32) (BitVec.ofNat 32 s.val)) 1#1 0#1
      = BitVec.ofBool (decide (s.val ≤ t.val)) := by decide +kernel
  exact key t s

theorem lower_at (x : FVec Ideal S8x128x128 .f32) (g : Fin 8) (t s : Fin 128) :
    lower x (ix3 g t s) = if s.val ≤ t.val then x (ix3 g t s) else 0 := by
  have e : lower x (ix3 g t s) = Scalar.select (tri (ix2 t s)) (x (ix3 g t s)) 0 := by
    unfold lower
    generalize tri = y
    pointwise
    exact congrArg (Scalar.select (y (ix2 t s)) (x (ix3 g t s))) Ideal.ofBits_zero_f32
  rw [e, tri_at, select_ofBool]
  simp only [decide_eq_true_eq]

theorem pairs_at (x : FVec Ideal S8x128x128 .f32) (a : Fin 4) (t : Fin 128) (c : Fin 256) :
    pairs x (ix3 a t c) = lower x (ix3 (⟨2 * a.val + c.val / 128, by omega⟩ : Fin 8) t (⟨c.val % 128, by omega⟩ : Fin 128)) := by
  unfold pairs
  generalize lower x = y
  by_cases h : c.val < 128
  · refine (concatenate_pair_apply_left 2 _ _ concatenates_S4x128x128_S4x128x128_S4x128x256_d2 (ix3 a t c) rfl (ix3 a t (⟨c.val, h⟩ : Fin 128))
      (fun b => by fin_cases b <;> rfl)).trans ?_
    refine (Host.slice_apply _ _ _ _ _).trans (congrArg y ?_)
    refine (eq_ix3 _).trans ?_
    congr 1 <;> refine Fin.ext ?_
    · show 0 + 2 * a.val = 2 * a.val + c.val / 128
      omega
    · show 0 + 1 * t.val = t.val
      omega
    · show 0 + 1 * c.val = c.val % 128
      omega
  · refine (concatenate_pair_apply_right 2 _ _ concatenates_S4x128x128_S4x128x128_S4x128x256_d2 (ix3 a t c) rfl rfl
      (ix3 a t (⟨c.val - 128, by omega⟩ : Fin 128)) (fun b hb => by fin_cases b <;> first | rfl | exact absurd rfl hb)
      (Nat.sub_add_cancel (by omega))).trans ?_
    refine (Host.slice_apply _ _ _ _ _).trans (congrArg y ?_)
    refine (eq_ix3 _).trans ?_
    congr 1 <;> refine Fin.ext ?_
    · show 1 + 2 * a.val = 2 * a.val + c.val / 128
      omega
    · show 0 + 1 * t.val = t.val
      omega
    · show 0 + 1 * (c.val - 128) = c.val % 128
      omega

theorem lanes_at (x : FVec Ideal S8x128 .f32) (t : Fin 128) (j : Fin 512) : lanes x (ix2 t j) = x (ix2 (⟨j.val / 64, by omega⟩ : Fin 8) t) := by
  unfold lanes
  refine (shapeCast_apply _ shapeCasts_S128x8x64_S128x512 (ix2 t j) (ix3 t (⟨j.val / 64, by omega⟩ : Fin 8) (⟨j.val % 64, by omega⟩ : Fin 64))
      (by rewrite [Shape.rowMajor_val_three, Shape.rowMajor_val_two]
          show (t.val * 8 + j.val / 64) * 64 + j.val % 64 = t.val * 512 + j.val
          omega)).trans ?_
  pointwise

/-! ## The windows -/

theorem at_point : ∀ t : Fin grid0.N, (grid0.coords t 0).val = t.val := by decide +kernel
theorem rows_in : ∀ t : Fin grid0.N, win0_0.index t = ![t.val, 0] ∧ win0_1.index t = ![t.val - 1, 2] := by decide +kernel
theorem whole_in : ∀ t : Fin grid0.N, win0_2.index t = ![0, 0, 0] ∧ win0_3.index t = ![0] ∧ win0_4.index t = ![0, 0] ∧ win0_5.index t = ![0, 0]
    ∧ win0_6.index t = ![0, 0, 0] ∧ win0_7.index t = ![0, 0] ∧ win0_8.index t = ![0, 0] ∧ win0_9.index t = ![0, 0] := by decide +kernel
theorem rows_out : ∀ t : Fin grid0.N, win0_10.index t = ![t.val, 0] ∧ win0_11.index t = ![0, t.val, 0]
    ∧ win0_12.index t = ![t.val, 0] ∧ win0_13.index t = ![t.val, 0] := by decide +kernel

theorem blk_own (c : Dev nD) (t : Fin cfg0.N) (ht : t.val < 64) (r : Fin 128) (j : Fin 1792) :
    (iblk m c 0 t : FVec Ideal S128x1792 .f32) (ix2 r j)
      = (m ((c : Thread nD τ).loc main_arg0) : FVec Ideal S8192x1792 .f32) (ix2 (⟨128 * t.val + r.val, by omega⟩ : Fin 8192) j) := by
  blk_simp [iblk]
  rw [V_main_arg0]
  refine congrArg (m ((c : Thread nD τ).loc main_arg0) : FVec Ideal S8192x1792 .f32) ?_
  blk_ext [(rows_in t).1]

theorem blk_prev (c : Dev nD) (t : Fin cfg0.N) (ht : t.val < 64) (r : Fin 128) (j : Fin 256) :
    (iblk m c 1 t : FVec Ideal S128x256 .f32) (ix2 r j)
      = (m ((c : Thread nD τ).loc main_arg0) : FVec Ideal S8192x1792 .f32) (ix2 (⟨128 * (t.val - 1) + r.val, by omega⟩ : Fin 8192) (⟨512 + j.val, by omega⟩ : Fin 1792)) := by
  blk_simp [iblk]
  rw [V_main_arg0]
  refine congrArg (m ((c : Thread nD τ).loc main_arg0) : FVec Ideal S8192x1792 .f32) ?_
  blk_ext [(rows_in t).2]

theorem blk_table (c : Dev nD) (t : Fin cfg0.N) (h : Fin 8) (q : Fin 128) (s : Fin 256) :
    (iblk m c 2 t : FVec Ideal S8x128x256 .f32) (ix3 h q s) = masked (m ((c : Thread nD τ).loc main_arg1)) (ix3 h q s) := by
  blk_simp [iblk]
  rw [V_table]
  refine congrArg (masked (m ((c : Thread nD τ).loc main_arg1))) ?_
  blk_ext [(whole_in t).1]

theorem blk_sink (c : Dev nD) (t : Fin cfg0.N) (h : Fin 8) :
    (iblk m c 3 t : FVec Ideal S8 .f32) (ix1 h) = (m ((c : Thread nD τ).loc main_arg2) : FVec Ideal S8 .f32) (ix1 h) := by
  blk_simp [iblk]
  rw [V_main_arg2]
  refine congrArg (m ((c : Thread nD τ).loc main_arg2) : FVec Ideal S8 .f32) ?_
  blk_ext [(whole_in t).2.1]

theorem blk_pairs (c : Dev nD) (t : Fin cfg0.N) (a : Fin 4) (q : Fin 128) (s : Fin 256) :
    (iblk m c 6 t : FVec Ideal S4x128x256 .bf16) (ix3 a q s) = pairs (m ((c : Thread nD τ).loc main_arg5)) (ix3 a q s) := by
  blk_simp [iblk]
  rw [V_pairs]
  refine congrArg (pairs (m ((c : Thread nD τ).loc main_arg5))) ?_
  blk_ext [(whole_in t).2.2.2.2.1]

theorem blk_lanes (c : Dev nD) (t : Fin cfg0.N) (q : Fin 128) (j : Fin 512) :
    (iblk m c 7 t : FVec Ideal S128x512 .f32) (ix2 q j) = lanes (m ((c : Thread nD τ).loc main_arg6)) (ix2 q j) := by
  blk_simp [iblk]
  rw [V_lanes]
  refine congrArg (lanes (m ((c : Thread nD τ).loc main_arg6))) ?_
  blk_ext [(whole_in t).2.2.2.2.2.1]

theorem blk_rows (c : Dev nD) (t : Fin cfg0.N) (j : Fin 512) :
    (iblk m c 4 t : FVec Ideal S1x512 .f32) (ix2 (0 : Fin 1) j) = (m ((c : Thread nD τ).loc main_arg3) : FVec Ideal S512 .f32) (ix1 j)
    ∧ (iblk m c 5 t : FVec Ideal S1x512 .f32) (ix2 (0 : Fin 1) j) = (m ((c : Thread nD τ).loc main_arg4) : FVec Ideal S512 .f32) (ix1 j)
    ∧ (iblk m c 8 t : FVec Ideal S1x512 .f32) (ix2 (0 : Fin 1) j) = (m ((c : Thread nD τ).loc main_arg7) : FVec Ideal S512 .f32) (ix1 j)
    ∧ (iblk m c 9 t : FVec Ideal S1x512 .f32) (ix2 (0 : Fin 1) j) = (m ((c : Thread nD τ).loc main_arg8) : FVec Ideal S512 .f32) (ix1 j) := by
  refine ⟨?_, ?_, ?_, ?_⟩
  · blk_simp [iblk]
    rw [(V_rows m c).1]
    refine (one_row _ _).trans (congrArg (fun i => (m ((c : Thread nD τ).loc main_arg3) : FVec Ideal S512 .f32) (ix1 i)) (Fin.ext ?_))
    blk_simp [(whole_in t).2.2.1]
  · blk_simp [iblk]
    rw [(V_rows m c).2.1]
    refine (one_row _ _).trans (congrArg (fun i => (m ((c : Thread nD τ).loc main_arg4) : FVec Ideal S512 .f32) (ix1 i)) (Fin.ext ?_))
    blk_simp [(whole_in t).2.2.2.1]
  · blk_simp [iblk]
    rw [(V_rows m c).2.2.1]
    refine (one_row _ _).trans (congrArg (fun i => (m ((c : Thread nD τ).loc main_arg7) : FVec Ideal S512 .f32) (ix1 i)) (Fin.ext ?_))
    blk_simp [(whole_in t).2.2.2.2.2.2.1]
  · blk_simp [iblk]
    rw [(V_rows m c).2.2.2]
    refine (one_row _ _).trans (congrArg (fun i => (m ((c : Thread nD τ).loc main_arg8) : FVec Ideal S512 .f32) (ix1 i)) (Fin.ext ?_))
    blk_simp [(whole_in t).2.2.2.2.2.2.2]

end Cert.MixFwdIdeal.Value
-- ==== Proof.FwdFinal.lean ====
/- The four result arrays of the call `mix_fwd` at finite projections, biases and sinks, number by number. -/
module

public import proofs.«01_k».proof.Proof.FwdArr

@[expose] public section

set_option maxRecDepth 16384

noncomputable section

namespace Cert.MixFwdIdeal.Value

open Cert.MixFwdIdeal Cert.MixFwdIdeal.Gen Idealize.ShloMosaic Idealize.ShloMosaic.TcCoe Idealize.SL.Sem
open Idealize.ShloMosaic.Pipeline (Dat)
open Idealize.ShloMosaic.StableHlo Cert.RealNum Cert.FwdSpec Cert.MixFwdIdeal.Body

variable (m : (ℓ : Loc nD τ sig) → Buf (Elt Ideal) ℓ) (c : Dev nD)

/-! ## The arguments, as functions of natural numbers -/

abbrev proj : FVec Ideal S8192x1792 .f32 := m ((c : Thread nD τ).loc main_arg0)
abbrev bias : FVec Ideal S8x128x256 .f32 := m ((c : Thread nD τ).loc main_arg1)
abbrev sinks : FVec Ideal S8 .f32 := m ((c : Thread nD τ).loc main_arg2)
abbrev P : ℕ → ℕ → EReal := nat2 (proj m c)
abbrev B : ℕ → ℕ → ℕ → EReal := nat3 (bias m c)
abbrev K : ℕ → EReal := nat1 (sinks m c)
abbrev lg : ℕ → EReal := nat1 (m ((c : Thread nD τ).loc main_arg3) : FVec Ideal S512 .f32)
abbrev lb : ℕ → EReal := nat1 (m ((c : Thread nD τ).loc main_arg4) : FVec Ideal S512 .f32)
abbrev mixw : ℕ → ℕ → ℕ → EReal := nat3 (m ((c : Thread nD τ).loc main_arg5) : FVec Ideal S8x128x128 .f32)
abbrev mixb : ℕ → ℕ → EReal := nat2 (m ((c : Thread nD τ).loc main_arg6) : FVec Ideal S8x128 .f32)
abbrev ag : ℕ → EReal := nat1 (m ((c : Thread nD τ).loc main_arg7) : FVec Ideal S512 .f32)
abbrev gg : ℕ → EReal := nat1 (m ((c : Thread nD τ).loc main_arg8) : FVec Ideal S512 .f32)

/-- The three arguments that have to be finite are arrays of reals. -/
structure Reals : Prop where
  p : ∀ i, ∃ x : ℝ, proj m c i = x
  b : ∀ i, ∃ x : ℝ, bias m c i = x
  k : ∀ i, ∃ x : ℝ, sinks m c i = x

theorem real1 {a : ℕ} (X : (⟨1, ![a]⟩ : Shape).Idx → EReal) (h : ∀ i, ∃ x : ℝ, X i = x) (i : ℕ) : ∃ x : ℝ, nat1 X i = x := by
  rw [nat1]; split
  · exact h _
  · exact ⟨0, EReal.coe_zero.symm⟩
theorem real2 {a b : ℕ} (X : (⟨2, ![a, b]⟩ : Shape).Idx → EReal) (h : ∀ i, ∃ x : ℝ, X i = x) (i j : ℕ) : ∃ x : ℝ, nat2 X i j = x := by
  rw [nat2]; split
  · exact h _
  · exact ⟨0, EReal.coe_zero.symm⟩
theorem real3 {a b d : ℕ} (X : (⟨3, ![a, b, d]⟩ : Shape).Idx → EReal) (h : ∀ i, ∃ x : ℝ, X i = x) (i j k : ℕ) : ∃ x : ℝ, nat3 X i j k = x := by
  rw [nat3]; split
  · exact h _
  · exact ⟨0, EReal.coe_zero.symm⟩

theorem nat1_lt {a : ℕ} (X : (⟨1, ![a]⟩ : Shape).Idx → EReal) {i : ℕ} (hi : i < a) : nat1 X i = X (ix1 ⟨i, hi⟩) := nat1_val X ⟨i, hi⟩

variable {m c}
variable (R : Reals m c)
include R

omit R in
theorem hold_p (t : Fin cfg0.N) (ht : t.val < 64) (r j : ℕ) (hr : r < 128) (hj : j < 1792) :
    nat2 (iblk m c 0 t : FVec Ideal S128x1792 .f32) r j = P m c (128 * t.val + r) j := by
  rw [nat2_lt _ hr hj, blk_own m c t ht ⟨r, hr⟩ ⟨j, hj⟩, P, nat2_lt _ (by omega) hj]
omit R in
theorem hold_kv (t : Fin cfg0.N) (ht : t.val < 64) (r j : ℕ) (hr : r < 128) (hj : j < 256) :
    nat2 (iblk m c 1 t : FVec Ideal S128x256 .f32) r j = P m c (128 * (t.val - 1) + r) (512 + j) := by
  rw [nat2_lt _ hr hj, blk_prev m c t ht ⟨r, hr⟩ ⟨j, hj⟩, P, nat2_lt _ (by omega) (by omega)]
omit R in
theorem hold_tab (t : Fin cfg0.N) (h q s : ℕ) (hh : h < 8) (hq : q < 128) (hs : s < 256) :
    nat3 (iblk m c 2 t : FVec Ideal S8x128x256 .f32) h q s = if q < s ∧ s ≤ q + 128 then B m c h q s else ⊥ := by
  rw [nat3_lt _ hh hq hs, blk_table m c t ⟨h, hh⟩ ⟨q, hq⟩ ⟨s, hs⟩, masked_at, B, nat3_lt _ hh hq hs]
omit R in
theorem hold_k (t : Fin cfg0.N) (h : ℕ) : nat1 (iblk m c 3 t : FVec Ideal S8 .f32) h = K m c h := by
  rw [K, nat1, nat1]
  split
  · exact blk_sink m c t _
  · rfl
omit R in
theorem hold_rows (t : Fin cfg0.N) (j : ℕ) (hj : j < 512) :
    nat2 (iblk m c 4 t : FVec Ideal S1x512 .f32) 0 j = lg m c j ∧ nat2 (iblk m c 5 t : FVec Ideal S1x512 .f32) 0 j = lb m c j
    ∧ nat2 (iblk m c 8 t : FVec Ideal S1x512 .f32) 0 j = ag m c j ∧ nat2 (iblk m c 9 t : FVec Ideal S1x512 .f32) 0 j = gg m c j := by
  obtain ⟨h0, h1, h2, h3⟩ := blk_rows m c t ⟨j, hj⟩
  rw [nat2_lt _ (by omega) hj, nat2_lt _ (by omega) hj, nat2_lt _ (by omega) hj, nat2_lt _ (by omega) hj, lg, lb, ag, gg, nat1_lt _ hj, nat1_lt _ hj,
    nat1_lt _ hj, nat1_lt _ hj]
  exact ⟨h0, h1, h2, h3⟩
omit R in
theorem hold_w (t : Fin cfg0.N) (a q s : ℕ) (ha : a < 4) (hq : q < 128) (hs : s < 256) :
    nat3 (iblk m c 6 t : FVec Ideal S4x128x256 .bf16) a q s = if s % 128 ≤ q then mixw m c (2 * a + s / 128) q (s % 128) else 0 := by
  rw [nat3_lt _ ha hq hs, blk_pairs m c t ⟨a, ha⟩ ⟨q, hq⟩ ⟨s, hs⟩, pairs_at, lower_at, mixw, nat3_lt _ (by omega : 2 * a + s / 128 < 8) hq
    (by omega : s % 128 < 128)]
omit R in
theorem hold_s (t : Fin cfg0.N) (q j : ℕ) (hq : q < 128) (hj : j < 512) :
    nat2 (iblk m c 7 t : FVec Ideal S128x512 .f32) q j = mixb m c (j / 64) q := by
  rw [nat2_lt _ hq hj, blk_lanes m c t ⟨q, hq⟩ ⟨j, hj⟩, lanes_at, mixb, nat2_lt _ (by omega) hq]

theorem holds (t : Fin cfg0.N) (ht : t.val < 64) : Blk (grid0.coords t) (iblk m c 0 t : FVec Ideal S128x1792 .f32)
    (iblk m c 1 t : FVec Ideal S128x256 .f32) (iblk m c 2 t : FVec Ideal S8x128x256 .f32) (iblk m c 3 t : FVec Ideal S8 .f32)
    (iblk m c 4 t : FVec Ideal S1x512 .f32) (iblk m c 5 t : FVec Ideal S1x512 .f32) (iblk m c 6 t : FVec Ideal S4x128x256 .bf16)
    (iblk m c 7 t : FVec Ideal S128x512 .f32) (iblk m c 8 t : FVec Ideal S1x512 .f32) (iblk m c 9 t : FVec Ideal S1x512 .f32) t.val
    (P m c) (B m c) (K m c) (lg m c) (lb m c) (mixw m c) (mixb m c) (ag m c) (gg m c) :=
  Blk.mk (at_point t) ht (hold_p t ht) (hold_kv t ht) (hold_tab t) (hold_k t) (fun j hj => (hold_rows t j hj).1) (fun j hj => (hold_rows t j hj).2.1)
    (hold_w t) (hold_s t) (fun j hj => (hold_rows t j hj).2.2.1) (fun j hj => (hold_rows t j hj).2.2.2) (real2 _ R.p) (real3 _ R.b) (real1 _ R.k)

omit R in
theorem point_lt (t : Fin cfg0.N) : t.val < 64 := N_0 ▸ t.isLt

/-! ## What a point leaves -/

theorem mixed_block (t : Fin cfg0.N) (q : Fin 128) (j : Fin 1024) : ((outsAt0 m c t).1 : FVec Ideal S128x1024 .bf16) (ix2 q j)
    = fx (P m c) (B m c) (K m c) (lg m c) (lb m c) (mixw m c) (mixb m c) (ag m c) (gg m c) (128 * t.val + q.val) j.val := by
  rw [← out_x (holds R t (point_lt t)) q.val j.val q.isLt j.isLt]
  simp only [outsAt0]
  rw [out_mixed]

theorem weights_block (t : Fin cfg0.N) (h : Fin 8) (q : Fin 128) (s : Fin 256) :
    ((outsAt0 m c t).2.1 : FVec Ideal S8x128x256 .f32) (ix3 h q s) = fw (P m c) (B m c) (K m c) h.val (128 * t.val + q.val) s.val := by
  rw [← out_w (holds R t (point_lt t)) h.val q.val s.val h.isLt q.isLt s.isLt]
  simp only [outsAt0]
  rw [out_weights]

theorem sinks_block (t : Fin cfg0.N) (q : Fin 128) (l : Fin 128) :
    ((outsAt0 m c t).2.2.1 : FVec Ideal S128x128 .f32) (ix2 q l) = fs (P m c) (B m c) (K m c) (128 * t.val + q.val) l.val := by
  rw [← out_s (holds R t (point_lt t)) q.val l.val q.isLt]
  simp only [outsAt0]
  rw [out_sinks]

theorem attn_block (t : Fin cfg0.N) (q : Fin 128) (j : Fin 512) :
    ((outsAt0 m c t).2.2.2 : FVec Ideal S128x512 .f32) (ix2 q j) = fa (P m c) (B m c) (K m c) (128 * t.val + q.val) j.val := by
  rw [← out_a (holds R t (point_lt t)) q.val j.val q.isLt j.isLt]
  simp only [outsAt0]
  rw [out_attn]

/-! ## The arrays -/

theorem final_mixed : (dats m 0 c).arrAt 10 cfg0.N = fun i : S8192x1024.Idx =>
    fx (P m c) (B m c) (K m c) (lg m c) (lb m c) (mixw m c) (mixb m c) (ag m c) (gg m c) (i 0).val (i 1).val := by
  refine (dats m 0 c).arrAt_eq_of_covers 10 _ (by decide +kernel) fun t hf y => ?_
  have ht := point_lt t
  blk_simp
  rw [after0_10]
  obtain ⟨q, j, rfl⟩ : ∃ (q : Fin 128) (j : Fin 1024), y = ix2 q j := ⟨y 0, y 1, eq_ix2 y⟩
  refine (mixed_block R t q j).trans ?_
  rw [(rows_out t).1]
  exact congrArg₂ (fx (P m c) (B m c) (K m c) (lg m c) (lb m c) (mixw m c) (mixb m c) (ag m c) (gg m c)) (show 128 * t.val + q.val = t.val * 128 + q.val by omega) (show j.val = 0 * 1024 + j.val by omega)

theorem final_weights : (dats m 0 c).arrAt 11 cfg0.N = fun i : S8x8192x256.Idx =>
    fw (P m c) (B m c) (K m c) (i 0).val (i 1).val (i 2).val := by
  refine (dats m 0 c).arrAt_eq_of_covers 11 _ (by decide +kernel) fun t hf y => ?_
  have ht := point_lt t
  blk_simp
  rw [after0_11]
  obtain ⟨h, q, s, rfl⟩ : ∃ (h : Fin 8) (q : Fin 128) (s : Fin 256), y = ix3 h q s := ⟨y 0, y 1, y 2, eq_ix3 y⟩
  refine (weights_block R t h q s).trans ?_
  rw [(rows_out t).2.1]
  show _ = fw (P m c) (B m c) (K m c) (0 * 8 + h.val) (t.val * 128 + q.val) (0 * 256 + s.val)
  rw [show 0 * 8 + h.val = h.val by omega, show 0 * 256 + s.val = s.val by omega, Nat.mul_comm]

theorem final_sinks : (dats m 0 c).arrAt 12 cfg0.N = fun i : S8192x128.Idx => fs (P m c) (B m c) (K m c) (i 0).val (i 1).val := by
  refine (dats m 0 c).arrAt_eq_of_covers 12 _ (by decide +kernel) fun t hf y => ?_
  have ht := point_lt t
  blk_simp
  rw [after0_12]
  obtain ⟨q, l, rfl⟩ : ∃ (q : Fin 128) (l : Fin 128), y = ix2 q l := ⟨y 0, y 1, eq_ix2 y⟩
  refine (sinks_block R t q l).trans ?_
  rw [(rows_out t).2.2.1]
  exact congrArg₂ (fs (P m c) (B m c) (K m c)) (show 128 * t.val + q.val = t.val * 128 + q.val by omega) (show l.val = 0 * 128 + l.val by omega)

theorem final_attn : (dats m 0 c).arrAt 13 cfg0.N = fun i : S8192x512.Idx => fa (P m c) (B m c) (K m c) (i 0).val (i 1).val := by
  refine (dats m 0 c).arrAt_eq_of_covers 13 _ (by decide +kernel) fun t hf y => ?_
  have ht := point_lt t
  blk_simp
  rw [after0_13]
  obtain ⟨q, j, rfl⟩ : ∃ (q : Fin 128) (j : Fin 512), y = ix2 q j := ⟨y 0, y 1, eq_ix2 y⟩
  refine (attn_block R t q j).trans ?_
  rw [(rows_out t).2.2.2]
  exact congrArg₂ (fa (P m c) (B m c) (K m c)) (show 128 * t.val + q.val = t.val * 128 + q.val by omega) (show j.val = 0 * 512 + j.val by omega)

end Cert.MixFwdIdeal.Value

end
-- ==== Proof.FwdRefAttn.lean ====
/- The attention of the plain program, entry by entry. -/
module

public import proofs.«01_k».proof.Proof.FwdFin
public import proofs.«01_k».proof.Proof.Gen.MixFwdRefIdeal.Run
public import proofs.«01_k».proof.Proof.Gen.MixFwdRefIdeal.Read

@[expose] public section

set_option maxRecDepth 16384

noncomputable section

namespace Cert.MixFwdRefIdeal.Value

open Cert.MixFwdRefIdeal Cert.MixFwdRefIdeal.Gen Cert.MixFwdRefIdeal.Read Idealize.ShloMosaic Idealize.ShloMosaic.WordCmp
open Cert.RealNum Cert.FwdSpec

theorem read1 {a : ℕ} (X : (⟨1, ![a]⟩ : Shape).Idx → EReal) (i : (⟨1, ![a]⟩ : Shape).Idx) : X i = nat1 X (i 0).val :=
  (congrArg X (eq_ix1 i)).trans (nat1_val X (i 0)).symm
theorem read2 {a b : ℕ} (X : (⟨2, ![a, b]⟩ : Shape).Idx → EReal) (i : (⟨2, ![a, b]⟩ : Shape).Idx) : X i = nat2 X (i 0).val (i 1).val :=
  (congrArg X (eq_ix2 i)).trans (nat2_val X (i 0) (i 1)).symm
theorem read3 {a b c : ℕ} (X : (⟨3, ![a, b, c]⟩ : Shape).Idx → EReal) (i : (⟨3, ![a, b, c]⟩ : Shape).Idx) : X i = nat3 X (i 0).val (i 1).val (i 2).val :=
  (congrArg X (eq_ix3 i)).trans (nat3_val X (i 0) (i 1) (i 2)).symm

theorem to4 {a b c d : ℕ} {α : Type} (f : (⟨4, ![a, b, c, d]⟩ : Shape).Idx → α) (i : (⟨4, ![a, b, c, d]⟩ : Shape).Idx) :
    f i = f (ix4 (i 0) (i 1) (i 2) (i 3)) := congrArg f (eq_ix4 i)
theorem to5 {a b c d e : ℕ} {α : Type} (f : (⟨5, ![a, b, c, d, e]⟩ : Shape).Idx → α) (i : (⟨5, ![a, b, c, d, e]⟩ : Shape).Idx) :
    f i = f (ix5 (i 0) (i 1) (i 2) (i 3) (i 4)) := congrArg f (eq_ix5 i)

variable (x0 : FVec Ideal S8192x1792 .f32) (x1 : FVec Ideal S8x128x256 .f32) (x2 : FVec Ideal S8 .f32)

/-! ## The windows of keys and values -/

theorem v5_at (n : Fin 64) (t : Fin 128) (g : Fin 2) (d : Fin 64) :
    val_main_v5 (F := Ideal) x0 (ix4 n t g d) = nat2 x0 (128 * n.val + t.val) (512 + (64 * g.val + d.val)) := by
  rw [val_main_v5_apply, val_main_v1_apply, read2 x0]
  refine congrArg₂ (nat2 x0) ?_ ?_
  · show (((n.val * 128 + t.val) * 2 + g.val) * 64 + d.val) / 128 = _; omega
  · show 512 + (((n.val * 128 + t.val) * 2 + g.val) * 64 + d.val) % 128 = _; omega

theorem v6_at (n : Fin 64) (t : Fin 128) (g : Fin 2) (d : Fin 64) :
    val_main_v6 (F := Ideal) x0 (ix4 n t g d) = nat2 x0 (128 * n.val + t.val) (640 + (64 * g.val + d.val)) := by
  rw [val_main_v6_apply, val_main_v2_apply, read2 x0]
  refine congrArg₂ (nat2 x0) ?_ ?_
  · show (((n.val * 128 + t.val) * 2 + g.val) * 64 + d.val) / 128 = _; omega
  · show 640 + (((n.val * 128 + t.val) * 2 + g.val) * 64 + d.val) % 128 = _; omega

/-- A block beside the block before it, zero before the first. -/
theorem window (Y : FVec Ideal S64x128x2x64 .f32) (Z : FVec Ideal S63x128x2x64 .f32) (f : ℕ → ℕ → ℕ → EReal)
    (hY : ∀ n t g d, Y (ix4 n t g d) = f (128 * n.val + t.val) g.val d.val) (hZ : ∀ n t g d, Z (ix4 n t g d) = f (128 * n.val + t.val) g.val d.val)
    (n : Fin 64) (s : Fin 256) (g : Fin 2) (d : Fin 64) :
    concatenate S64x256x2x64 1 [⟨S64x128x2x64, concatenate S64x128x2x64 0 [⟨S1x128x2x64, val_main_v7 (F := Ideal)⟩, ⟨S63x128x2x64, Z⟩]
        concatenates_S1x128x2x64_S63x128x2x64_S64x128x2x64_d0⟩, ⟨S64x128x2x64, Y⟩] concatenates_S64x128x2x64_S64x128x2x64_S64x256x2x64_d1 (ix4 n s g d)
      = if 128 ≤ 128 * n.val + s.val then f (128 * n.val + s.val - 128) g.val d.val else 0 := by
  by_cases hs : s.val < 128
  · refine (concatenate_pair_apply_left 1 _ Y concatenates_S64x128x2x64_S64x128x2x64_S64x256x2x64_d1 (ix4 n s g d) rfl (ix4 n ⟨s.val, hs⟩ g d)
      fun c => by match c with | ⟨0, _⟩ => rfl | ⟨1, _⟩ => rfl | ⟨2, _⟩ => rfl | ⟨3, _⟩ => rfl).trans ?_
    by_cases hn : n.val = 0
    · refine (concatenate_pair_apply_left 0 _ Z concatenates_S1x128x2x64_S63x128x2x64_S64x128x2x64_d0 (ix4 n ⟨s.val, hs⟩ g d) rfl
        (ix4 (0 : Fin 1) ⟨s.val, hs⟩ g d) fun c => by match c with | ⟨0, _⟩ => exact hn.symm | ⟨1, _⟩ => rfl | ⟨2, _⟩ => rfl | ⟨3, _⟩ => rfl).trans ?_
      rw [if_neg (by omega), val_main_v7_apply]
      exact Ideal.ofBits_zero_f32
    · refine (concatenate_pair_apply_right 0 _ Z concatenates_S1x128x2x64_S63x128x2x64_S64x128x2x64_d0 (ix4 n ⟨s.val, hs⟩ g d) rfl rfl
        (ix4 (⟨n.val - 1, by omega⟩ : Fin 63) ⟨s.val, hs⟩ g d)
        (fun c hc => by match c with | ⟨0, _⟩ => exact absurd rfl hc | ⟨1, _⟩ => rfl | ⟨2, _⟩ => rfl | ⟨3, _⟩ => rfl)
        (Nat.sub_add_cancel (by show 1 ≤ n.val; omega))).trans ?_
      rw [hZ, if_pos (by omega)]
      exact congrArg (fun a => f a g.val d.val) (by dsimp only; omega)
  · refine (concatenate_pair_apply_right 1 _ Y concatenates_S64x128x2x64_S64x128x2x64_S64x256x2x64_d1 (ix4 n s g d) rfl rfl
      (ix4 n (⟨s.val - 128, by omega⟩ : Fin 128) g d)
      (fun c hc => by match c with | ⟨0, _⟩ => rfl | ⟨1, _⟩ => exact absurd rfl hc | ⟨2, _⟩ => rfl | ⟨3, _⟩ => rfl)
      (Nat.sub_add_cancel (by show 128 ≤ s.val; omega))).trans ?_
    rw [hY, if_pos (by omega)]
    exact congrArg (fun a => f a g.val d.val) (by dsimp only; omega)

theorem v10_at (n : Fin 64) (s : Fin 256) (g : Fin 2) (d : Fin 64) : val_main_v10 (F := Ideal) x0 (ix4 n s g d)
    = if 128 ≤ 128 * n.val + s.val then nat2 x0 (128 * n.val + s.val - 128) (512 + (64 * g.val + d.val)) else 0 :=
  window _ _ (fun r g d => nat2 x0 r (512 + (64 * g + d))) (v5_at x0)
    (fun n t g d => (val_main_v8_apply (F := Ideal) x0 _).trans ((to4 _ _).trans (v5_at x0 ⟨n.val, by omega⟩ t g d))) n s g d

theorem v13_at (n : Fin 64) (s : Fin 256) (g : Fin 2) (d : Fin 64) : val_main_v13 (F := Ideal) x0 (ix4 n s g d)
    = sval (nat2 x0) n.val s.val (64 * g.val + d.val) :=
  window _ _ (fun r g d => nat2 x0 r (640 + (64 * g + d))) (v6_at x0)
    (fun n t g d => (val_main_v11_apply (F := Ideal) x0 _).trans ((to4 _ _).trans (v6_at x0 ⟨n.val, by omega⟩ t g d))) n s g d

theorem v14_at (n : Fin 64) (q : Fin 128) (g : Fin 2) (h : Fin 4) (d : Fin 64) :
    val_main_v14 (F := Ideal) x0 (ix5 n q g h d) = nat2 x0 (128 * n.val + q.val) (64 * (4 * g.val + h.val) + d.val) := by
  rw [val_main_v14_apply, val_main_v0_apply, read2 x0]
  refine congrArg₂ (nat2 x0) ?_ ?_
  · show ((((n.val * 128 + q.val) * 2 + g.val) * 4 + h.val) * 64 + d.val) / 512 = _; omega
  · show ((((n.val * 128 + q.val) * 2 + g.val) * 4 + h.val) * 64 + d.val) % 512 = _; omega

/-! ## The logits -/

theorem v33_at (n : Fin 64) (g : Fin 2) (h : Fin 4) (q : Fin 128) (s : Fin 256) :
    val_main_v33 (F := Ideal) (ix5 n g h q s) = BitVec.ofBool (decide (seen n.val q.val s.val)) := by
  simp only [val_main_v33_apply, val_main_v29_apply, val_main_v32_apply, val_main_v26_apply, val_main_v28_apply, val_main_v31_apply,
    val_main_v30_apply, val_main_v27_apply, val_main_v22_apply, val_main_v23_apply, val_main_v24_apply, val_main_v25_apply, val_main_c_apply]
  show IntOp.andi (IntOp.andi (IntOp.cmpi .slt (BitVec.ofNat 32 q.val) (BitVec.ofNat 32 s.val))
      (IntOp.cmpi .sle (BitVec.ofNat 32 s.val) (IntOp.addi (BitVec.ofNat 32 q.val) (BitVec.ofNat 32 128))))
    (IntOp.cmpi .sge (IntOp.addi (IntOp.muli (BitVec.ofNat 32 n.val) (BitVec.ofNat 32 128)) (BitVec.ofNat 32 s.val)) (BitVec.ofNat 32 128)) = _
  have hn := n.isLt
  have hq := q.isLt
  have hs := s.isLt
  have e1 : IntOp.addi (BitVec.ofNat 32 q.val) (BitVec.ofNat 32 128) = BitVec.ofNat 32 (q.val + 128) := (BitVec.ofNat_add ..).symm
  have e2 : IntOp.addi (IntOp.muli (BitVec.ofNat 32 n.val) (BitVec.ofNat 32 128)) (BitVec.ofNat 32 s.val) = BitVec.ofNat 32 (n.val * 128 + s.val) := by
    rw [BitVec.ofNat_add, BitVec.ofNat_mul]; rfl
  rw [e1, e2, cmpi_slt_ofNat (by omega) (by omega), cmpi_sle_ofNat (by omega) (by omega), cmpi_sge_ofNat (by omega) (by omega), andi_ofBool, andi_ofBool]
  refine congrArg BitVec.ofBool ?_
  rw [Bool.eq_iff_iff]
  rw [decide_eq_true_iff]
  simp only [seen, Bool.and_eq_true, decide_eq_true_eq]
  omega

theorem v35_at (n : Fin 64) (g : Fin 2) (h : Fin 4) (q : Fin 128) (s : Fin 256) :
    val_main_v35 (F := Ideal) x0 x1 (ix5 n g h q s) = slog (nat2 x0) (nat3 x1) n.val (4 * g.val + h.val) q.val s.val := by
  rw [val_main_v35_apply, v33_at, select_ofBool, slog]
  simp only [decide_eq_true_eq]
  by_cases hse : seen n.val q.val s.val
  · rw [if_pos hse, if_pos hse, val_main_v21_apply, val_main_v18_apply, val_main_v17_apply, val_main_cst_0_apply, val_main_v16_apply, val_main_v15_apply,
      val_main_v20_apply, val_main_v19_apply]
    have eb : idx_main_v19 (idx_main_v20 (ix5 n g h q s)) = ix3 (⟨4 * g.val + h.val, by omega⟩ : Fin 8) q s := by
      refine (eq_ix3 _).trans ?_
      congr 1 <;> refine Fin.ext ?_
      · show (((g.val * 4 + h.val) * 128 + q.val) * 256 + s.val) / 32768 = 4 * g.val + h.val; omega
      · show (((g.val * 4 + h.val) * 128 + q.val) * 256 + s.val) / 256 % 128 = q.val; omega
      · show (((g.val * 4 + h.val) * 128 + q.val) * 256 + s.val) % 256 = s.val; omega
    rw [eb]
    refine congrArg₂ (· + ·) (congrArg (· * _) ?_) (nat3_val x1 _ q s).symm
    refine Finset.sum_congr rfl fun k _ => ?_
    rw [mul_comm]
    refine congrArg₂ (· * ·) ((to5 _ _).trans (v14_at x0 n q g h k)) (((to4 _ _).trans (v10_at x0 n s g k)).trans ?_)
    rw [if_pos hse.2.2]
    exact congrArg (fun a => nat2 x0 (128 * n.val + s.val - 128) (512 + (64 * a + k.val))) (by omega : g.val = (4 * g.val + h.val) / 4)
  · rw [if_neg hse, if_neg hse, val_main_v34_apply]
    simp [val_main_cst_1_apply, Ideal.ofBits, Ideal.ieee]

/-! ## The weights -/

theorem v38_at (n : Fin 64) (g : Fin 2) (h : Fin 4) (q : Fin 128) :
    val_main_v38 (F := Ideal) x0 x1 (ix4 n g h q) = Finset.univ.fold max ⊥ fun k : Fin 256 => slog (nat2 x0) (nat3 x1) n.val (4 * g.val + h.val) q.val k.val := by
  have e := fun s => v35_at x0 x1 n g h q s
  unfold val_main_v38
  generalize val_main_v35 (F := Ideal) x0 x1 = y at e ⊢
  pointwise [val_main_cst_2]
  simp only [e]
  rw [show Ideal.ofBits .f32 4286578688#32 = ⊥ by simp [Ideal.ofBits, Ideal.ieee]]

theorem v37_at (n : Fin 64) (g : Fin 2) (h : Fin 4) (q : Fin 128) : val_main_v37 (F := Ideal) x2 (ix5 n g h q (0 : Fin 1)) = nat1 x2 (4 * g.val + h.val) := by
  rw [val_main_v37_apply, val_main_v36_apply, read1 x2]
  exact congrArg (nat1 x2) (by show g.val * 4 + h.val = _; omega)

theorem v40_at (n : Fin 64) (g : Fin 2) (h : Fin 4) (q : Fin 128) : val_main_v40 (F := Ideal) x0 x1 x2 (ix5 n g h q (0 : Fin 1))
    = top (slog (nat2 x0) (nat3 x1) n.val (4 * g.val + h.val) q.val) (nat1 x2 (4 * g.val + h.val)) := by
  rw [val_main_v40_apply, val_main_v39_apply, v37_at, show idx_main_v39 (ix5 n g h q (0 : Fin 1)) = ix4 n g h q from eq_ix4 _, v38_at]
  rfl

theorem v43_at (n : Fin 64) (g : Fin 2) (h : Fin 4) (q : Fin 128) (s : Fin 256) : val_main_v43 (F := Ideal) x0 x1 x2 (ix5 n g h q s)
    = ex (slog (nat2 x0) (nat3 x1) n.val (4 * g.val + h.val) q.val) (nat1 x2 (4 * g.val + h.val)) s.val := by
  rw [val_main_v43_apply, val_main_v42_apply, val_main_v41_apply, v35_at, show idx_main_v41 (ix5 n g h q s) = ix5 n g h q (0 : Fin 1) from eq_ix5 _, v40_at]
  rfl

theorem v45_at (n : Fin 64) (g : Fin 2) (h : Fin 4) (q : Fin 128) : val_main_v45 (F := Ideal) x0 x1 x2 (ix5 n g h q (0 : Fin 1))
    = exs (slog (nat2 x0) (nat3 x1) n.val (4 * g.val + h.val) q.val) (nat1 x2 (4 * g.val + h.val)) := by
  rw [val_main_v45_apply, val_main_v44_apply, v37_at, v40_at]
  rfl

theorem v48_at (n : Fin 64) (g : Fin 2) (h : Fin 4) (q : Fin 128) : val_main_v48 (F := Ideal) x0 x1 x2 (ix5 n g h q (0 : Fin 1))
    = den (slog (nat2 x0) (nat3 x1) n.val (4 * g.val + h.val) q.val) (nat1 x2 (4 * g.val + h.val)) := by
  rw [val_main_v48_apply, v45_at, val_main_v47_apply, val_main_v46_apply]
  refine congrArg (· + _) (?_ : _ = ∑ k : Fin 256, _)
  rw [show (val_main_cst_3 (F := Ideal)) (Shape.Idx.first h_S_) = (0 : EReal) from Ideal.ofBits_zero_f32, zero_add]
  exact Finset.sum_congr rfl fun k _ => (to5 _ _).trans (v43_at x0 x1 x2 n g h q k)

theorem v50_at (n : Fin 64) (g : Fin 2) (h : Fin 4) (q : Fin 128) (s : Fin 256) : val_main_v50 (F := Ideal) x0 x1 x2 (ix5 n g h q s)
    = wt (slog (nat2 x0) (nat3 x1) n.val (4 * g.val + h.val) q.val) (nat1 x2 (4 * g.val + h.val)) s.val := by
  rw [val_main_v50_apply, v43_at, val_main_v49_apply]
  exact congrArg (Ideal.div _) ((to5 _ _).trans (v48_at x0 x1 x2 n g h q))

theorem v51_at (n : Fin 64) (g : Fin 2) (h : Fin 4) (q : Fin 128) : val_main_v51 (F := Ideal) x0 x1 x2 (ix5 n g h q (0 : Fin 1))
    = wts (slog (nat2 x0) (nat3 x1) n.val (4 * g.val + h.val) q.val) (nat1 x2 (4 * g.val + h.val)) := by
  rw [val_main_v51_apply, v45_at, v48_at]
  rfl

/-! ## The three results of the attention -/

theorem v152_at (h : Fin 8) (r : Fin 8192) (s : Fin 256) :
    val_main_v152 (F := Ideal) x0 x1 x2 (ix3 h r s) = fw (nat2 x0) (nat3 x1) (nat1 x2) h.val r.val s.val := by
  have e1 : idx_main_v151 (idx_main_v152 (ix3 h r s)) = ix4 (⟨r.val / 128, by omega⟩ : Fin 64) h (⟨r.val % 128, by omega⟩ : Fin 128) s := by
    refine (eq_ix4 _).trans ?_
    congr 1 <;> refine Fin.ext ?_
    · show ((h.val * 8192 + r.val) * 256 + s.val) / 32768 % 64 = r.val / 128; omega
    · show ((h.val * 8192 + r.val) * 256 + s.val) / 2097152 = h.val; omega
    · show ((h.val * 8192 + r.val) * 256 + s.val) / 256 % 128 = r.val % 128; omega
    · show ((h.val * 8192 + r.val) * 256 + s.val) % 256 = s.val; omega
  have e2 : idx_main_v150 (ix4 (⟨r.val / 128, by omega⟩ : Fin 64) h (⟨r.val % 128, by omega⟩ : Fin 128) s)
      = ix5 (⟨r.val / 128, by omega⟩ : Fin 64) (⟨h.val / 4, by omega⟩ : Fin 2) (⟨h.val % 4, by omega⟩ : Fin 4) (⟨r.val % 128, by omega⟩ : Fin 128) s := by
    refine (eq_ix5 _).trans ?_
    congr 1 <;> refine Fin.ext ?_
    · show (((r.val / 128 * 8 + h.val) * 128 + r.val % 128) * 256 + s.val) / 262144 = r.val / 128; omega
    · show (((r.val / 128 * 8 + h.val) * 128 + r.val % 128) * 256 + s.val) / 131072 % 2 = h.val / 4; omega
    · show (((r.val / 128 * 8 + h.val) * 128 + r.val % 128) * 256 + s.val) / 32768 % 4 = h.val % 4; omega
    · show (((r.val / 128 * 8 + h.val) * 128 + r.val % 128) * 256 + s.val) / 256 % 128 = r.val % 128; omega
    · show (((r.val / 128 * 8 + h.val) * 128 + r.val % 128) * 256 + s.val) % 256 = s.val; omega
  rw [val_main_v152_apply, val_main_v151_apply, e1, val_main_v150_apply, e2, v50_at, fw]
  dsimp only
  rw [show 4 * (h.val / 4) + h.val % 4 = h.val by omega]

theorem v158_at (r : Fin 8192) (l : Fin 128) :
    val_main_v158 (F := Ideal) x0 x1 x2 (ix2 r l) = fs (nat2 x0) (nat3 x1) (nat1 x2) r.val l.val := by
  rw [fs]
  by_cases hl : l.val < 8
  · rw [if_pos hl]
    refine (concatenate_pair_apply_left 1 _ _ concatenates_S8192x8_S8192x120_S8192x128_d1 (ix2 r l) rfl (ix2 r (⟨l.val, hl⟩ : Fin 8))
      fun c => by match c with | ⟨0, _⟩ => rfl | ⟨1, _⟩ => rfl).trans ?_
    have e1 : idx_main_v154 (idx_main_v155 (ix2 r (⟨l.val, hl⟩ : Fin 8)))
        = ix3 (⟨r.val / 128, by omega⟩ : Fin 64) (⟨l.val, hl⟩ : Fin 8) (⟨r.val % 128, by omega⟩ : Fin 128) := by
      refine (eq_ix3 _).trans ?_
      congr 1 <;> refine Fin.ext ?_
      · show (r.val * 8 + l.val) / 1024 = r.val / 128; omega
      · show (r.val * 8 + l.val) % 8 = l.val; omega
      · show (r.val * 8 + l.val) / 8 % 128 = r.val % 128; omega
    have e2 : idx_main_v153 (ix3 (⟨r.val / 128, by omega⟩ : Fin 64) (⟨l.val, hl⟩ : Fin 8) (⟨r.val % 128, by omega⟩ : Fin 128))
        = ix5 (⟨r.val / 128, by omega⟩ : Fin 64) (⟨l.val / 4, by omega⟩ : Fin 2) (⟨l.val % 4, by omega⟩ : Fin 4) (⟨r.val % 128, by omega⟩ : Fin 128) (0 : Fin 1) := by
      refine (eq_ix5 _).trans ?_
      congr 1 <;> refine Fin.ext ?_
      · show ((r.val / 128 * 8 + l.val) * 128 + r.val % 128) / 1024 = r.val / 128; omega
      · show ((r.val / 128 * 8 + l.val) * 128 + r.val % 128) / 512 % 2 = l.val / 4; omega
      · show ((r.val / 128 * 8 + l.val) * 128 + r.val % 128) / 128 % 4 = l.val % 4; omega
      · show ((r.val / 128 * 8 + l.val) * 128 + r.val % 128) / 1 % 128 = r.val % 128; omega
    rw [val_main_v155_apply, val_main_v154_apply, e1, val_main_v153_apply, e2, v51_at]
    dsimp only
    rw [show 4 * (l.val / 4) + l.val % 4 = l.val by omega]
  · rw [if_neg hl]
    refine (concatenate_pair_apply_right 1 _ _ concatenates_S8192x8_S8192x120_S8192x128_d1 (ix2 r l) rfl rfl (ix2 r (⟨l.val - 8, by omega⟩ : Fin 120))
      (fun c hc => by match c with | ⟨0, _⟩ => rfl | ⟨1, _⟩ => exact absurd rfl hc) (Nat.sub_add_cancel (by show 8 ≤ l.val; omega))).trans ?_
    rw [val_main_v156_apply]
    exact Ideal.ofBits_zero_f32

theorem v54_at (r : Fin 8192) (j : Fin 512) :
    val_main_v54 (F := Ideal) x0 x1 x2 (ix2 r j) = fa (nat2 x0) (nat3 x1) (nat1 x2) r.val j.val := by
  have e1 : idx_main_v53 (idx_main_v54 (ix2 r j))
      = ix5 (⟨r.val / 128, by omega⟩ : Fin 64) (⟨j.val / 256, by omega⟩ : Fin 2) (⟨j.val % 64, by omega⟩ : Fin 64) (⟨j.val / 64 % 4, by omega⟩ : Fin 4)
          (⟨r.val % 128, by omega⟩ : Fin 128) := by
    refine (eq_ix5 _).trans ?_
    congr 1 <;> refine Fin.ext ?_
    · show (r.val * 512 + j.val) / 65536 = r.val / 128; omega
    · show (r.val * 512 + j.val) / 256 % 2 = j.val / 256; omega
    · show (r.val * 512 + j.val) % 64 = j.val % 64; omega
    · show (r.val * 512 + j.val) / 64 % 4 = j.val / 64 % 4; omega
    · show (r.val * 512 + j.val) / 512 % 128 = r.val % 128; omega
  rw [val_main_v54_apply, val_main_v53_apply, e1, val_main_v52_apply, fa, attn]
  refine Finset.sum_congr rfl fun k _ => ?_
  rw [mul_comm]
  refine congrArg₂ (· * ·) (((to5 _ _).trans (v50_at x0 x1 x2 _ _ _ _ k)).trans ?_) ((to4 _ _).trans (v13_at x0 _ k _ _))
  show wt (slog _ _ (r.val / 128) (4 * (j.val / 256) + j.val / 64 % 4) (r.val % 128)) (nat1 x2 (4 * (j.val / 256) + j.val / 64 % 4)) k.val = _
  rw [show 4 * (j.val / 256) + j.val / 64 % 4 = j.val / 64 by omega]

end Cert.MixFwdRefIdeal.Value
-- ==== Proof.FwdRefGate.lean ====
/- The spatial gate of the plain program, entry by entry, and the mixed rows. -/
module

public import proofs.«01_k».proof.Proof.FwdRefAttn

@[expose] public section

set_option maxRecDepth 16384

noncomputable section

namespace Cert.MixFwdRefIdeal.Value

open Cert.MixFwdRefIdeal Cert.MixFwdRefIdeal.Gen Cert.MixFwdRefIdeal.Read Idealize.ShloMosaic Idealize.ShloMosaic.WordCmp
open Cert.RealNum Cert.FwdSpec

theorem div_64 (x : EReal) : Ideal.div x (Ideal.ofBits .f32 0x42800000#32) = x * Ideal.ofBits .f32 0x3C800000#32 := by
  have h1 : Ideal.ofBits .f32 0x42800000#32 = ((64 : ℝ) : EReal) := by simp [Ideal.ofBits, Ideal.ieee, -EReal.coe_mul]; norm_num
  have h2 : Ideal.ofBits .f32 0x3C800000#32 = (((64 : ℝ)⁻¹ : ℝ) : EReal) := by simp [Ideal.ofBits, Ideal.ieee, -EReal.coe_mul]; norm_num
  rw [h1, h2, Ideal.div, if_neg (by norm_num), EReal.coe_inv]

theorem gelu_at (x : EReal) : x * (Ideal.ofBits .f32 0x3F000000#32 * (Ideal.ofBits .f32 0x3F800000#32
      + Ideal.tanh (Ideal.ofBits .f32 0x3F4C422A#32 * (x + Ideal.ofBits .f32 0x3D372713#32 * (x * x * x))))) = gelu x := by
  rw [gelu, Ideal.ofBits_one_f32, ← mul_assoc x, mul_comm x (Ideal.ofBits .f32 0x3F000000#32), mul_comm (x * x) x, mul_assoc (Ideal.ofBits .f32 0x3D372713#32)]

theorem to1 {a : ℕ} {α : Type} (f : (⟨1, ![a]⟩ : Shape).Idx → α) (i : (⟨1, ![a]⟩ : Shape).Idx) : f i = f (ix1 (i 0)) := congrArg f (eq_ix1 i)
theorem to2 {a b : ℕ} {α : Type} (f : (⟨2, ![a, b]⟩ : Shape).Idx → α) (i : (⟨2, ![a, b]⟩ : Shape).Idx) : f i = f (ix2 (i 0) (i 1)) := congrArg f (eq_ix2 i)
theorem to3 {a b c : ℕ} {α : Type} (f : (⟨3, ![a, b, c]⟩ : Shape).Idx → α) (i : (⟨3, ![a, b, c]⟩ : Shape).Idx) :
    f i = f (ix3 (i 0) (i 1) (i 2)) := congrArg f (eq_ix3 i)

variable (x0 : FVec Ideal S8192x1792 .f32) (x1 : FVec Ideal S8x128x256 .f32) (x2 : FVec Ideal S8 .f32)
variable (x3 x4 : FVec Ideal S512 .f32) (x5 : FVec Ideal S8x128x128 .f32) (x6 : FVec Ideal S8x128 .f32) (x7 x8 : FVec Ideal S512 .f32)

/-! ## The two halves under the gelu -/

theorem v67_at (r : Fin 8192) (j : Fin 512) : val_main_v67 (F := Ideal) x0 (ix2 r j) = fu (nat2 x0) r.val j.val := by
  have e : val_main_v3 (F := Ideal) x0 (ix2 r j) = nat2 x0 r.val (768 + j.val) := by
    rw [val_main_v3_apply, read2 x0]; rfl
  simp only [val_main_v67_apply, val_main_v66_apply, val_main_v65_apply, val_main_v64_apply, val_main_v63_apply, val_main_v62_apply, val_main_v61_apply,
    val_main_v60_apply, val_main_v59_apply, val_main_v58_apply, val_main_v57_apply, val_main_v56_apply, val_main_v55_apply, e,
    val_main_cst_4_apply, val_main_cst_5_apply, val_main_cst_6_apply, val_main_cst_7_apply]
  exact gelu_at _

theorem v81_at (r : Fin 8192) (j : Fin 512) : val_main_v81 (F := Ideal) x0 (ix2 r j) = gelu (nat2 x0 r.val (1280 + j.val)) := by
  have e : val_main_v4 (F := Ideal) x0 (ix2 r j) = nat2 x0 r.val (1280 + j.val) := by
    rw [val_main_v4_apply, read2 x0]; rfl
  simp only [val_main_v81_apply, val_main_v80_apply, val_main_v79_apply, val_main_v78_apply, val_main_v77_apply, val_main_v76_apply, val_main_v75_apply,
    val_main_v74_apply, val_main_v73_apply, val_main_v72_apply, val_main_v71_apply, val_main_v70_apply, val_main_v69_apply, e,
    val_main_cst_8_apply, val_main_cst_9_apply, val_main_cst_10_apply, val_main_cst_11_apply]
  exact gelu_at _

/-! ## The norm of a group -/

theorem v82_at (r : Fin 8192) (g : Fin 8) (d : Fin 64) : val_main_v82 (F := Ideal) x0 (ix3 r g d) = gelu (nat2 x0 r.val (1280 + (64 * g.val + d.val))) := by
  have e1 : idx_main_v82 (ix3 r g d) = ix2 r (⟨64 * g.val + d.val, by omega⟩ : Fin 512) := by
    refine (eq_ix2 _).trans ?_
    congr 1 <;> refine Fin.ext ?_
    · show ((r.val * 8 + g.val) * 64 + d.val) / 512 = r.val; omega
    · show ((r.val * 8 + g.val) * 64 + d.val) % 512 = 64 * g.val + d.val; omega
  rw [val_main_v82_apply, e1, v81_at]

theorem v88_at (r : Fin 8192) (g : Fin 8) (d : Fin 64) :
    val_main_v88 (F := Ideal) x0 (ix3 r g (0 : Fin 1)) = gmean (fun k => gelu (nat2 x0 r.val (1280 + k))) (64 * g.val + d.val) := by
  rw [val_main_v88_apply, val_main_v87_apply, val_main_cst_13_apply, val_main_v86_apply, val_main_v85_apply, gmean, ← div_64]
  refine congrArg (Ideal.div · _) ?_
  rw [show (val_main_cst_12 (F := Ideal)) (Shape.Idx.first h_S_) = (0 : EReal) from Ideal.ofBits_zero_f32, zero_add]
  refine Finset.sum_congr rfl fun k _ => ((to3 _ _).trans (v82_at x0 r g k)).trans ?_
  rw [show (64 * g.val + d.val) / 64 = g.val by omega]

theorem v90_at (r : Fin 8192) (g : Fin 8) (d : Fin 64) :
    val_main_v90 (F := Ideal) x0 (ix3 r g d) = gdev (fun k => gelu (nat2 x0 r.val (1280 + k))) (64 * g.val + d.val) := by
  rw [val_main_v90_apply, val_main_v89_apply, v82_at, show idx_main_v89 (ix3 r g d) = ix3 r g (0 : Fin 1) from eq_ix3 _, v88_at x0 r g d]
  rfl

theorem v97_at (r : Fin 8192) (g : Fin 8) (d : Fin 64) :
    val_main_v97 (F := Ideal) x0 (ix3 r g d) = gdev (fun k => gelu (nat2 x0 r.val (1280 + k))) (64 * g.val + d.val) := by
  rw [val_main_v97_apply, val_main_v96_apply, v82_at, show idx_main_v96 (ix3 r g d) = ix3 r g (0 : Fin 1) from eq_ix3 _, v88_at x0 r g d]
  rfl

theorem v95_at (r : Fin 8192) (g : Fin 8) (d : Fin 64) : val_main_v95 (F := Ideal) x0 (ix3 r g (0 : Fin 1))
    = gmean (fun k => gdev (fun k => gelu (nat2 x0 r.val (1280 + k))) k * gdev (fun k => gelu (nat2 x0 r.val (1280 + k))) k) (64 * g.val + d.val) := by
  rw [val_main_v95_apply, val_main_v94_apply, val_main_cst_15_apply, val_main_v93_apply, val_main_v92_apply, gmean, ← div_64]
  refine congrArg (Ideal.div · _) ?_
  rw [show (val_main_cst_14 (F := Ideal)) (Shape.Idx.first h_S_) = (0 : EReal) from Ideal.ofBits_zero_f32, zero_add]
  refine Finset.sum_congr rfl fun k _ => ?_
  rw [to3 (val_main_v91 (F := Ideal) x0), val_main_v91_apply, show (64 * g.val + d.val) / 64 = g.val by omega]
  exact congrArg₂ (· * ·) (v90_at x0 r g k) (v90_at x0 r g k)

theorem v102_at (r : Fin 8192) (g : Fin 8) (d : Fin 64) :
    val_main_v102 (F := Ideal) x0 (ix3 r g d) = gnorm (fun k => gelu (nat2 x0 r.val (1280 + k))) (64 * g.val + d.val) := by
  rw [val_main_v102_apply, v97_at, val_main_v101_apply, show idx_main_v101 (ix3 r g d) = ix3 r g (0 : Fin 1) from eq_ix3 _, val_main_v100_apply,
    val_main_v99_apply, v95_at x0 r g d, val_main_v98_apply, val_main_cst_16_apply]
  rfl

theorem v108_at (r : Fin 8192) (g : Fin 8) (d : Fin 64) :
    val_main_v108 (F := Ideal) x0 x3 x4 (ix3 r g d) = fv (nat2 x0) (nat1 x3) (nat1 x4) r.val (64 * g.val + d.val) := by
  rw [val_main_v108_apply, val_main_v105_apply, v102_at, val_main_v104_apply, val_main_v103_apply, val_main_v83_apply, val_main_v107_apply,
    val_main_v106_apply, val_main_v84_apply, read1 x3, read1 x4, fv]
  refine congrArg₂ (· + ·) (congrArg (_ * ·) (congrArg (nat1 x3) ?_)) (congrArg (nat1 x4) ?_)
  · show g.val * 64 + d.val = _; omega
  · show g.val * 64 + d.val = _; omega

/-! ## The mixing of the rows -/

theorem v109_at (n : Fin 64) (t : Fin 128) (g : Fin 8) (d : Fin 64) :
    val_main_v109 (F := Ideal) x0 x3 x4 (ix4 n t g d) = fv (nat2 x0) (nat1 x3) (nat1 x4) (128 * n.val + t.val) (64 * g.val + d.val) := by
  have e1 : idx_main_v109 (ix4 n t g d) = ix3 (⟨128 * n.val + t.val, by omega⟩ : Fin 8192) g d := by
    refine (eq_ix3 _).trans ?_
    congr 1 <;> refine Fin.ext ?_
    · show (((n.val * 128 + t.val) * 8 + g.val) * 64 + d.val) / 512 = 128 * n.val + t.val; omega
    · show (((n.val * 128 + t.val) * 8 + g.val) * 64 + d.val) / 64 % 8 = g.val; omega
    · show (((n.val * 128 + t.val) * 8 + g.val) * 64 + d.val) % 64 = d.val; omega
  rw [val_main_v109_apply, e1, v108_at]

theorem v114_at (g : Fin 8) (t s : Fin 128) : val_main_v114 (F := Ideal) x5 (ix3 g t s) = if s.val ≤ t.val then nat3 x5 g.val t.val s.val else 0 := by
  have ht := t.isLt
  have hs := s.isLt
  have e : val_main_v112 (F := Ideal) (ix3 g t s) = BitVec.ofBool (decide (s.val ≤ t.val)) := by
    rw [val_main_v112_apply, val_main_v110_apply, val_main_v111_apply]
    show IntOp.cmpi .sge (BitVec.ofNat 32 t.val) (BitVec.ofNat 32 s.val) = _
    rw [cmpi_sge_ofNat (by omega) (by omega)]
  rw [val_main_v114_apply, e, select_ofBool, nat3_val, val_main_v113_apply, val_main_cst_17_apply, Ideal.ofBits_def, Ideal.ofBits_zero_f32]
  simp only [decide_eq_true_eq]

theorem v122_at (r : Fin 8192) (j : Fin 512) : val_main_v122 (F := Ideal) x0 x3 x4 x5 x6 (ix2 r j)
    = fu (nat2 x0) r.val j.val * fm (nat2 x0) (nat1 x3) (nat1 x4) (nat3 x5) (nat2 x6) r.val j.val := by
  have e1 : idx_main_v122 (ix2 r j) = ix4 (⟨r.val / 128, by omega⟩ : Fin 64) (⟨r.val % 128, by omega⟩ : Fin 128) (⟨j.val / 64, by omega⟩ : Fin 8)
      (⟨j.val % 64, by omega⟩ : Fin 64) := by
    refine (eq_ix4 _).trans ?_
    congr 1 <;> refine Fin.ext ?_
    · show (r.val * 512 + j.val) / 65536 = r.val / 128; omega
    · show (r.val * 512 + j.val) / 512 % 128 = r.val % 128; omega
    · show (r.val * 512 + j.val) / 64 % 8 = j.val / 64; omega
    · show (r.val * 512 + j.val) % 64 = j.val % 64; omega
  have e2 : idx_main_v68 (ix4 (⟨r.val / 128, by omega⟩ : Fin 64) (⟨r.val % 128, by omega⟩ : Fin 128) (⟨j.val / 64, by omega⟩ : Fin 8)
      (⟨j.val % 64, by omega⟩ : Fin 64)) = ix2 r j := by
    refine (eq_ix2 _).trans ?_
    congr 1 <;> refine Fin.ext ?_
    · show (((r.val / 128 * 128 + r.val % 128) * 8 + j.val / 64) * 64 + j.val % 64) / 512 = r.val; omega
    · show (((r.val / 128 * 128 + r.val % 128) * 8 + j.val / 64) * 64 + j.val % 64) % 512 = j.val; omega
  rw [val_main_v122_apply, e1, val_main_v121_apply, val_main_v68_apply, e2, v67_at, val_main_v120_apply, val_main_v116_apply, val_main_v115_apply,
    val_main_v119_apply, val_main_v118_apply, val_main_v117_apply, read2 x6, fm]
  refine congrArg (_ * ·) (congrArg (· + nat2 x6 (j.val / 64) (r.val % 128)) (Finset.sum_congr rfl fun k _ => ?_))
  rw [mul_comm]
  refine congrArg₂ (· * ·) ((to3 _ _).trans (v114_at x5 _ _ k)) (((to4 _ _).trans (v109_at x0 x3 x4 _ k _ _)).trans ?_)
  show fv _ _ _ (128 * (r.val / 128) + k.val) (64 * (j.val / 64) + j.val % 64) = _
  rw [show 64 * (j.val / 64) + j.val % 64 = j.val by omega]

/-! ## The mixed rows -/

theorem v135_at (r : Fin 8192) (j : Fin 512) : val_main_v135 (F := Ideal) x0 x1 x2 x7 (ix2 r j)
    = rms (fa (nat2 x0) (nat3 x1) (nat1 x2) r.val) j.val * nat1 x7 j.val := by
  have es : val_main_v124 (F := Ideal) x0 x1 x2 (ix1 r)
      = ∑ k : Fin 512, fa (nat2 x0) (nat3 x1) (nat1 x2) r.val k.val * fa (nat2 x0) (nat3 x1) (nat1 x2) r.val k.val := by
    rw [val_main_v124_apply, show (val_main_cst_18 (F := Ideal)) (Shape.Idx.first h_S_) = (0 : EReal) from Ideal.ofBits_zero_f32, zero_add]
    refine Finset.sum_congr rfl fun k _ => ?_
    rw [to2 (val_main_v123 (F := Ideal) x0 x1 x2), val_main_v123_apply]
    exact congrArg₂ (· * ·) (v54_at x0 x1 x2 r k) (v54_at x0 x1 x2 r k)
  have e1 : idx_main_v125 (idx_main_v131 (ix2 r j)) = ix1 r := eq_ix1 _
  rw [val_main_v135_apply, val_main_v132_apply, v54_at, val_main_v131_apply, val_main_v130_apply, val_main_v129_apply, val_main_v127_apply,
    val_main_v125_apply, e1, es, val_main_v126_apply, val_main_cst_19_apply, val_main_v128_apply, val_main_cst_20_apply, val_main_v134_apply,
    val_main_v133_apply, read1 x7]
  rfl

theorem v148_at (r : Fin 8192) (j : Fin 512) : val_main_v148 (F := Ideal) x0 x3 x4 x5 x6 x8 (ix2 r j)
    = rms (fun k => fu (nat2 x0) r.val k * fm (nat2 x0) (nat1 x3) (nat1 x4) (nat3 x5) (nat2 x6) r.val k) j.val * nat1 x8 j.val := by
  have es : val_main_v137 (F := Ideal) x0 x3 x4 x5 x6 (ix1 r)
      = ∑ k : Fin 512, (fu (nat2 x0) r.val k.val * fm (nat2 x0) (nat1 x3) (nat1 x4) (nat3 x5) (nat2 x6) r.val k.val)
        * (fu (nat2 x0) r.val k.val * fm (nat2 x0) (nat1 x3) (nat1 x4) (nat3 x5) (nat2 x6) r.val k.val) := by
    rw [val_main_v137_apply, show (val_main_cst_21 (F := Ideal)) (Shape.Idx.first h_S_) = (0 : EReal) from Ideal.ofBits_zero_f32, zero_add]
    refine Finset.sum_congr rfl fun k _ => ?_
    rw [to2 (val_main_v136 (F := Ideal) x0 x3 x4 x5 x6), val_main_v136_apply]
    exact congrArg₂ (· * ·) (v122_at x0 x3 x4 x5 x6 r k) (v122_at x0 x3 x4 x5 x6 r k)
  have e1 : idx_main_v138 (idx_main_v144 (ix2 r j)) = ix1 r := eq_ix1 _
  rw [val_main_v148_apply, val_main_v145_apply, v122_at, val_main_v144_apply, val_main_v143_apply, val_main_v142_apply, val_main_v140_apply,
    val_main_v138_apply, e1, es, val_main_v139_apply, val_main_cst_22_apply, val_main_v141_apply, val_main_cst_23_apply, val_main_v147_apply,
    val_main_v146_apply, read1 x8]
  rfl

theorem v157_at (r : Fin 8192) (j : Fin 1024) : val_main_v157 (F := Ideal) x0 x1 x2 x3 x4 x5 x6 x7 x8 (ix2 r j)
    = fx (nat2 x0) (nat3 x1) (nat1 x2) (nat1 x3) (nat1 x4) (nat3 x5) (nat2 x6) (nat1 x7) (nat1 x8) r.val j.val := by
  rw [fx]
  by_cases hj : j.val < 512
  · rw [if_pos hj]
    exact (concatenate_pair_apply_left 1 _ _ concatenates_S8192x512_S8192x512_S8192x1024_d1 (ix2 r j) rfl (ix2 r (⟨j.val, hj⟩ : Fin 512))
      fun c => by match c with | ⟨0, _⟩ => rfl | ⟨1, _⟩ => rfl).trans (v135_at x0 x1 x2 x7 r ⟨j.val, hj⟩)
  · rw [if_neg hj]
    exact (concatenate_pair_apply_right 1 _ _ concatenates_S8192x512_S8192x512_S8192x1024_d1 (ix2 r j) rfl rfl (ix2 r (⟨j.val - 512, by omega⟩ : Fin 512))
      (fun c hc => by match c with | ⟨0, _⟩ => rfl | ⟨1, _⟩ => exact absurd rfl hc) (Nat.sub_add_cancel (by show 512 ≤ j.val; omega))).trans
      (v148_at x0 x3 x4 x5 x6 x8 r ⟨j.val - 512, by omega⟩)

end Cert.MixFwdRefIdeal.Value
-- ==== Proof.FwdValue.lean ====
/- The call `mix_fwd` and the forward lines of attention, spatial gate and norms leave the same four arrays. -/
module

public import proofs.«01_k».proof.Proof.FwdFinal
public import proofs.«01_k».proof.Proof.FwdRefGate
public import proofs.«01_k».proof.Proof.RealNum
public import proofs.«01_k».proof.Proof.Gen.MixFwd.Frame
public import proofs.«01_k».proof.Proof.Gen.Pre_mix_finite
public import proofs.«01_k».proof.Defs

@[expose] public section

set_option maxRecDepth 16384

noncomputable section

namespace Cert.MixFwdIdeal.Value

open Cert.MixFwdIdeal Cert.MixFwdIdeal.Gen Idealize.ShloMosaic Idealize.ShloMosaic.TcCoe Idealize.SL.Sem
open Idealize.ShloMosaic.StableHlo Cert.FwdSpec Cert.RealNum

variable (m : (ℓ : Loc nD τ sig) → Buf (Elt Ideal) ℓ)

/-- What the precondition says of one argument. -/
theorem real_of_test {S : Shape} (x : FVec Ideal S .f32) (hb : Pre_mix_finite.S_.BroadcastsInDim S (![] : Fin 0 → Fin S.rank))
    (h : cmpf .olt (Host.absf x) (broadcastInDim S ![] hb (constant Pre_mix_finite.S_ .f32 0x7F800000#32)) = fun _ => 1#1) (i : S.Idx) :
    ∃ r : ℝ, x i = r := by
  refine real_of_abs_lt (x i) ?_
  have e : BitVec.ofBool (decide (max (x i) (-x i) < Ideal.ofBits .f32 0x7F800000#32)) = 1#1 := congrFun h i
  rw [show Ideal.ofBits .f32 0x7F800000#32 = ⊤ by simp [Ideal.ofBits, Ideal.ieee]] at e
  by_contra n
  simp only [n, decide_false] at e
  exact absurd e (by decide)

theorem reals (hp : Cert.Pre_MixFwdIdeal_mix_finite (hPre_mix_finite := Pre_mix_finite.Gen.facts) m) (c : Dev nD) : Reals m c :=
  ⟨real_of_test _ _ (hp c).1, real_of_test _ _ (hp c).2.1, real_of_test _ _ (hp c).2.2⟩

end Cert.MixFwdIdeal.Value

namespace Cert.MixFwdRefIdeal.Value

open Cert.MixFwdRefIdeal Idealize.ShloMosaic Cert.MixFwdRefIdeal.Read Cert.FwdSpec

/-! ## The forward lines' arrays -/

variable (x0 : FVec Ideal S8192x1792 .f32) (x1 : FVec Ideal S8x128x256 .f32) (x2 : FVec Ideal S8 .f32) (x3 x4 : FVec Ideal S512 .f32)
variable (x5 : FVec Ideal S8x128x128 .f32) (x6 : FVec Ideal S8x128 .f32) (x7 x8 : FVec Ideal S512 .f32)

theorem mixed_eq : val_main_v157 (F := Ideal) x0 x1 x2 x3 x4 x5 x6 x7 x8 = fun i : S8192x1024.Idx =>
    fx (nat2 x0) (nat3 x1) (nat1 x2) (nat1 x3) (nat1 x4) (nat3 x5) (nat2 x6) (nat1 x7) (nat1 x8) (i 0).val (i 1).val := by
  funext i
  obtain ⟨r, j, rfl⟩ : ∃ (r : Fin 8192) (j : Fin 1024), i = ix2 r j := ⟨i 0, i 1, eq_ix2 i⟩
  exact v157_at x0 x1 x2 x3 x4 x5 x6 x7 x8 r j
theorem weights_eq : val_main_v152 (F := Ideal) x0 x1 x2 = fun i : S8x8192x256.Idx =>
    fw (nat2 x0) (nat3 x1) (nat1 x2) (i 0).val (i 1).val (i 2).val := by
  funext i
  obtain ⟨h, r, s, rfl⟩ : ∃ (h : Fin 8) (r : Fin 8192) (s : Fin 256), i = ix3 h r s := ⟨i 0, i 1, i 2, eq_ix3 i⟩
  exact v152_at x0 x1 x2 h r s
theorem sinks_eq : val_main_v158 (F := Ideal) x0 x1 x2 = fun i : S8192x128.Idx => fs (nat2 x0) (nat3 x1) (nat1 x2) (i 0).val (i 1).val := by
  funext i
  obtain ⟨r, l, rfl⟩ : ∃ (r : Fin 8192) (l : Fin 128), i = ix2 r l := ⟨i 0, i 1, eq_ix2 i⟩
  exact v158_at x0 x1 x2 r l
theorem attn_eq : val_main_v54 (F := Ideal) x0 x1 x2 = fun i : S8192x512.Idx => fa (nat2 x0) (nat3 x1) (nat1 x2) (i 0).val (i 1).val := by
  funext i
  obtain ⟨r, j, rfl⟩ : ∃ (r : Fin 8192) (j : Fin 512), i = ix2 r j := ⟨i 0, i 1, eq_ix2 i⟩
  exact v54_at x0 x1 x2 r j

end Cert.MixFwdRefIdeal.Value

namespace Cert.MixFwdIdeal

open Idealize.ShloMosaic Idealize.ShloMosaic.TcCoe Idealize.SL.Sem Cert.MixFwdIdeal.Value
open Cert.MixFwdRefIdeal.Read Cert.MixFwdRefIdeal.Value Cert.FwdSpec

/-- Over the extended reals the call and the forward lines leave the same four arrays at finite projections, biases and sinks. -/
theorem algebraic : Cert.algebraic_MixFwdIdeal_MixFwdRefIdeal_pre_mix_finite (hMixFwdIdeal := Gen.facts)
    (hMixFwdRefIdeal := MixFwdRefIdeal.Gen.facts) (hPre_mix_finite := Pre_mix_finite.Gen.facts) := by
  intro m g m' g' hp h
  refine ⟨fun c => (Gen.dats m 0 c).arrAt 10 cfg0.N, fun c => (Gen.dats m 0 c).arrAt 11 cfg0.N,
    fun c => (Gen.dats m 0 c).arrAt 12 cfg0.N, fun c => (Gen.dats m 0 c).arrAt 13 cfg0.N, Value.run_blocks m g, ?_⟩
  refine (MixFwdRefIdeal.Value.run m' g').mono fun r hr c => ?_
  obtain ⟨k0, k1, k2, k3, hargs⟩ := hr c
  have R := reals m hp c
  obtain ⟨e0, e1, e2, e3, e4, e5, e6, e7, e8⟩ := h c
  rw [val_main_v157_eq] at k0
  rw [val_main_v152_eq] at k1
  rw [val_main_v158_eq] at k2
  rw [val_main_v54_eq] at k3
  simp only [StableHlo.launchContents_devRef, e0, e1, e2, e3, e4, e5, e6, e7, e8] at k0 k1 k2 k3
  rw [mixed_eq] at k0
  rw [weights_eq] at k1
  rw [sinks_eq] at k2
  rw [attn_eq] at k3
  exact ⟨k0.trans (final_mixed R).symm, k1.trans (final_weights R).symm, k2.trans (final_sinks R).symm, k3.trans (final_attn R).symm, hargs⟩

/-- The mask the call writes is the number the certificate names. -/
theorem preserves : Cert.preserves_MixFwd_MixFwdIdeal := IdealRules.named_const.statement κ "mask" .f32 0xF149F2CA#32 ⊥ rfl

end Cert.MixFwdIdeal

namespace Cert.MixFwdRefIdeal.Value

open Idealize.ShloMosaic Idealize.ShloMosaic.TcCoe Idealize.SL.Sem

/-- The forward lines' program terminates and leaves its arguments as they were. -/
theorem frame : Cert.quiescent_MixFwdRefIdeal (hMixFwdRefIdeal := MixFwdRefIdeal.Gen.facts) := fun m ρ _ =>
  (θ_run MixFwdRefIdeal.defs _ _).mono (fun r hr => ⟨fun c => (hr c).2.2.2.2, sem_eq_zero_of_no_sems (by decide) r.2⟩) (run m ρ)

end Cert.MixFwdRefIdeal.Value

end
-- ==== Proof.OutpSpec.lean ====
/- The output projection with its residual, layer norm and modulation, written once over the extended reals. -/
module

public import Idealize.ShloMosaic.Lib.Pointwise

@[expose] public section

noncomputable section

namespace Cert.OutpSpec

open Idealize.ShloMosaic

/-! ## One row -/

/-- The row divided by its length and summed, as a mean. -/
def mean (f : Fin 1024 → EReal) : EReal := Ideal.div (∑ k, f k) (Ideal.ofBits .f32 0x44800000#32)
def dev (f : Fin 1024 → EReal) (l : Fin 1024) : EReal := f l - mean f
def hat (f : Fin 1024 → EReal) (l : Fin 1024) : EReal :=
  dev f l * Ideal.rsqrt (mean (fun k => dev f k * dev f k) + Ideal.ofBits .f32 0x3727C5AC#32)

/-- The product of a row with the weight. -/
def prod (a : Fin 1024 → EReal) (w : Fin 1024 → Fin 1024 → EReal) (l : Fin 1024) : EReal := ∑ k, a k * w k l

/-- The residual row before the norm, the normalised row, and the modulated one. -/
def sum (a x : Fin 1024 → EReal) (w : Fin 1024 → Fin 1024 → EReal) (g : Fin 1024 → EReal) (l : Fin 1024) : EReal :=
  Ideal.ofBits .f32 0x3F9837F0#32 * x l + g l * prod a w l
def normed (a x : Fin 1024 → EReal) (w : Fin 1024 → Fin 1024 → EReal) (g lg lb : Fin 1024 → EReal) (l : Fin 1024) : EReal :=
  hat (sum a x w g) l * lg l + lb l
def moved (a x : Fin 1024 → EReal) (w : Fin 1024 → Fin 1024 → EReal) (g lg lb sc sh : Fin 1024 → EReal) (l : Fin 1024) : EReal :=
  normed a x w g lg lb l * (1 + sc l) + sh l

/-! ## The arrays, row by row -/

abbrev Tok : Shape := ⟨2, ![8192, 1024]⟩
abbrev Row : Shape := ⟨1, ![1024]⟩

/-- Row `r` of an array, and the entries of a vector and of a square array. -/
abbrev row {n : ℕ} (x : (⟨2, ![n, 1024]⟩ : Shape).Idx → EReal) (r : Fin n) (k : Fin 1024) : EReal := x (ix2 r k)
abbrev vec (x : Row.Idx → EReal) (k : Fin 1024) : EReal := x (ix1 k)

variable (a x : Tok.Idx → EReal) (w : (⟨2, ![1024, 1024]⟩ : Shape).Idx → EReal) (g lg lb sc sh : Row.Idx → EReal)

def projected (i : Tok.Idx) : EReal := prod (row a (i 0)) (row w) (i 1)
def norms (i : Tok.Idx) : EReal := normed (row a (i 0)) (row x (i 0)) (row w) (vec g) (vec lg) (vec lb) (i 1)
def moves (i : Tok.Idx) : EReal := moved (row a (i 0)) (row x (i 0)) (row w) (vec g) (vec lg) (vec lb) (vec sc) (vec sh) (i 1)

end Cert.OutpSpec

end
-- ==== Proof.OutpArr.lean ====
/- What the call `outproj` leaves in its three result arrays, over the extended reals, as functions of the arguments. -/
module

public import proofs.«01_k».proof.Proof.OutpSpec
public import proofs.«01_k».proof.Proof.Gen.OutpIdeal.Value
public import Idealize.ShloMosaic.Lib.Pointwise
public import Idealize.ShloMosaic.Lib.Pipeline.ValueKit.Geometry

@[expose] public section

set_option maxRecDepth 16384

noncomputable section

namespace Cert.OutpIdeal.Value

open Cert.OutpIdeal Cert.OutpIdeal.Gen Idealize.ShloMosaic Idealize.ShloMosaic.TcCoe Idealize.SL.Sem
open Idealize.ShloMosaic.Pipeline (Dat)
open Idealize.ShloMosaic.StableHlo Cert.OutpSpec

/-! ## One block -/

theorem z2 : (![0, 0] : Fin 2 → ℕ) = fun _ => 0 := by decide

variable (a : Vec Ideal S512x1024 .bf16) (w : Vec Ideal S1024x1024 .bf16) (x : Vec Ideal S512x1024 .f32) (g lg lb sc sh : Vec Ideal S1x1024 .f32)

theorem pay2_at (r : Fin 512) (l : Fin 1024) : k0_pay2 (F := Ideal) a w (ix2 r l) = prod (row a r) (row w) l := by
  pointwise [k0_pay2, prod]

theorem pay3_at (r : Fin 512) (l : Fin 1024) : k0_pay3 (F := Ideal) a w x g lg lb (ix2 r l)
    = normed (row a r) (row x r) (row w) (row g 0) (row lg 0) (row lb 0) l := by
  pointwise [k0_pay3]
  simp only [pay2_at]
  rfl

theorem pay1_at (y : FVec Ideal S512x1024 .f32) (r : Fin 512) (l : Fin 1024) :
    k0_pay1 (F := Ideal) y sc sh (ix2 r l) = y (ix2 r l) * (1 + sc (ix2 0 l)) + sh (ix2 0 l) := by
  pointwise [k0_pay1]

theorem block8 : out0_8 a w x g lg lb sc sh = (k0_pay2 a w : Vec Ideal S512x1024 .f32) := by
  unfold out0_8
  simp only [View.canon_cons_unit_zero (S := S512x1024) z2, View.ld_unit_zero (S := S512x1024) z2, View.ld_unit_zero (S := S1024x1024) z2,
    View.ld_unit_zero (S := S1x1024) z2]

theorem block9 : out0_9 a w x g lg lb sc sh = (k0_pay3 a w x g lg lb : Vec Ideal S512x1024 .f32) := by
  unfold_out out0_9
  simp only [View.canon_cons_unit_zero (S := S512x1024) z2, View.ld_unit_zero (S := S512x1024) z2, View.ld_unit_zero (S := S1024x1024) z2,
    View.ld_unit_zero (S := S1x1024) z2]

theorem block10 : out0_10 a w x g lg lb sc sh = (k0_pay1 (k0_pay3 a w x g lg lb) sc sh : Vec Ideal S512x1024 .bf16) := by
  unfold_out out0_10
  simp only [View.canon_cons_unit_zero (S := S512x1024) z2, View.ld_unit_zero (S := S512x1024) z2, View.ld_unit_zero (S := S1024x1024) z2,
    View.ld_unit_zero (S := S1x1024) z2]

/-! ## The arrays the region reads -/

variable (m : (ℓ : Loc nD τ sig) → Buf (Elt Ideal) ℓ)

theorem V_mixed (c : Dev nD) : V m c main_v0 = (truncf .bf16 (m ((c : Thread nD τ).loc main_arg0)) bitsLt_bf16_f32 : FVec Ideal S8192x1024 .bf16) := by
  show after (List.flatten [hostOps0]) _ (Proc.devRef .tc main_v0) = _
  simp only [hostOps0, List.flatten_cons, List.flatten_nil, List.append_nil, List.cons_append, List.nil_append]
  after_results

theorem V_w (c : Dev nD) : V m c main_v1 = (truncf .bf16 (m ((c : Thread nD τ).loc main_arg1)) bitsLt_bf16_f32 : FVec Ideal S1024x1024 .bf16) := by
  show after (List.flatten [hostOps0]) _ (Proc.devRef .tc main_v1) = _
  simp only [hostOps0, List.flatten_cons, List.flatten_nil, List.append_nil, List.cons_append, List.nil_append]
  after_results

abbrev one (x : FVec Ideal S1024 .f32) : FVec Ideal S1x1024 .f32 := broadcastInDim S1x1024 ![1] bcast_S1024_S1x1024_1 x

theorem one_at (x : FVec Ideal S1024 .f32) (k : Fin 1024) : one x (ix2 (0 : Fin 1) k) = x (ix1 k) := by
  unfold one
  pointwise

theorem V_rows (c : Dev nD) : V m c main_v2 = one (m ((c : Thread nD τ).loc main_arg3)) ∧ V m c main_v3 = one (m ((c : Thread nD τ).loc main_arg4))
    ∧ V m c main_v4 = one (m ((c : Thread nD τ).loc main_arg5)) ∧ V m c main_v5 = one (m ((c : Thread nD τ).loc main_arg6))
    ∧ V m c main_v6 = one (m ((c : Thread nD τ).loc main_arg7)) := by
  refine ⟨?_, ?_, ?_, ?_, ?_⟩
  · show after (List.flatten [hostOps0]) _ (Proc.devRef .tc main_v2) = _
    simp only [hostOps0, List.flatten_cons, List.flatten_nil, List.append_nil, List.cons_append, List.nil_append]
    after_results
  · show after (List.flatten [hostOps0]) _ (Proc.devRef .tc main_v3) = _
    simp only [hostOps0, List.flatten_cons, List.flatten_nil, List.append_nil, List.cons_append, List.nil_append]
    after_results
  · show after (List.flatten [hostOps0]) _ (Proc.devRef .tc main_v4) = _
    simp only [hostOps0, List.flatten_cons, List.flatten_nil, List.append_nil, List.cons_append, List.nil_append]
    after_results
  · show after (List.flatten [hostOps0]) _ (Proc.devRef .tc main_v5) = _
    simp only [hostOps0, List.flatten_cons, List.flatten_nil, List.append_nil, List.cons_append, List.nil_append]
    after_results
  · show after (List.flatten [hostOps0]) _ (Proc.devRef .tc main_v6) = _
    simp only [hostOps0, List.flatten_cons, List.flatten_nil, List.append_nil, List.cons_append, List.nil_append]
    after_results

/-! ## The blocks of a point -/

theorem rows_at : ∀ t : Fin grid0.N, win0_0.index t = ![t.val, 0] ∧ win0_2.index t = ![t.val, 0] ∧ win0_8.index t = ![t.val, 0]
    ∧ win0_9.index t = ![t.val, 0] ∧ win0_10.index t = ![t.val, 0] := by decide +kernel
theorem whole_at : ∀ t : Fin grid0.N, win0_1.index t = ![0, 0] ∧ win0_3.index t = ![0, 0] ∧ win0_4.index t = ![0, 0] ∧ win0_5.index t = ![0, 0]
    ∧ win0_6.index t = ![0, 0] ∧ win0_7.index t = ![0, 0] := by decide +kernel

/-- The row of an array that row `r` of point `t`'s tile is. -/
abbrev tileRow (t : Fin cfg0.N) (r : Fin 512) : Fin 8192 :=
  ⟨t.val * 512 + r.val, by have := t.isLt; have : cfg0.N = 16 := N_0; omega⟩

theorem blk_a (c : Dev nD) (t : Fin cfg0.N) (r : Fin 512) : row (iblk m c 0 t : FVec Ideal S512x1024 .bf16) r
    = row (m ((c : Thread nD τ).loc main_arg0) : FVec Ideal S8192x1024 .f32) (tileRow t r) := by
  funext k
  blk_simp [iblk]
  rw [V_mixed]
  refine congrArg (m ((c : Thread nD τ).loc main_arg0) : FVec Ideal S8192x1024 .f32) ?_
  blk_ext [(rows_at t).1]

theorem blk_x (c : Dev nD) (t : Fin cfg0.N) (r : Fin 512) : row (iblk m c 2 t : FVec Ideal S512x1024 .f32) r
    = row (m ((c : Thread nD τ).loc main_arg2) : FVec Ideal S8192x1024 .f32) (tileRow t r) := by
  funext k
  blk_simp [iblk]
  rw [V_main_arg2]
  refine congrArg (m ((c : Thread nD τ).loc main_arg2) : FVec Ideal S8192x1024 .f32) ?_
  blk_ext [(rows_at t).2.1]

theorem blk_w (c : Dev nD) (t : Fin cfg0.N) : row (iblk m c 1 t : FVec Ideal S1024x1024 .bf16)
    = row (m ((c : Thread nD τ).loc main_arg1) : FVec Ideal S1024x1024 .f32) := by
  funext r k
  blk_simp [iblk]
  rw [V_w]
  refine congrArg (m ((c : Thread nD τ).loc main_arg1) : FVec Ideal S1024x1024 .f32) ?_
  blk_ext [(whole_at t).1]

theorem blk_rows (c : Dev nD) (t : Fin cfg0.N) :
    row (iblk m c 3 t : FVec Ideal S1x1024 .f32) 0 = vec (m ((c : Thread nD τ).loc main_arg3) : FVec Ideal S1024 .f32)
    ∧ row (iblk m c 4 t : FVec Ideal S1x1024 .f32) 0 = vec (m ((c : Thread nD τ).loc main_arg4) : FVec Ideal S1024 .f32)
    ∧ row (iblk m c 5 t : FVec Ideal S1x1024 .f32) 0 = vec (m ((c : Thread nD τ).loc main_arg5) : FVec Ideal S1024 .f32)
    ∧ row (iblk m c 6 t : FVec Ideal S1x1024 .f32) 0 = vec (m ((c : Thread nD τ).loc main_arg6) : FVec Ideal S1024 .f32)
    ∧ row (iblk m c 7 t : FVec Ideal S1x1024 .f32) 0 = vec (m ((c : Thread nD τ).loc main_arg7) : FVec Ideal S1024 .f32) := by
  refine ⟨?_, ?_, ?_, ?_, ?_⟩ <;> funext k
  · blk_simp [iblk]
    rw [(V_rows m c).1]
    refine Eq.trans (congrArg (one (m ((c : Thread nD τ).loc main_arg3))) ?_) (one_at _ k)
    blk_ext [(whole_at t).2.1]
  · blk_simp [iblk]
    rw [(V_rows m c).2.1]
    refine Eq.trans (congrArg (one (m ((c : Thread nD τ).loc main_arg4))) ?_) (one_at _ k)
    blk_ext [(whole_at t).2.2.1]
  · blk_simp [iblk]
    rw [(V_rows m c).2.2.1]
    refine Eq.trans (congrArg (one (m ((c : Thread nD τ).loc main_arg5))) ?_) (one_at _ k)
    blk_ext [(whole_at t).2.2.2.1]
  · blk_simp [iblk]
    rw [(V_rows m c).2.2.2.1]
    refine Eq.trans (congrArg (one (m ((c : Thread nD τ).loc main_arg6))) ?_) (one_at _ k)
    blk_ext [(whole_at t).2.2.2.2.1]
  · blk_simp [iblk]
    rw [(V_rows m c).2.2.2.2]
    refine Eq.trans (congrArg (one (m ((c : Thread nD τ).loc main_arg7))) ?_) (one_at _ k)
    blk_ext [(whole_at t).2.2.2.2.2]

/-! ## The arrays -/

variable (c : Dev nD)

abbrev A0 : FVec Ideal S8192x1024 .f32 := m ((c : Thread nD τ).loc main_arg0)
abbrev A1 : FVec Ideal S1024x1024 .f32 := m ((c : Thread nD τ).loc main_arg1)
abbrev A2 : FVec Ideal S8192x1024 .f32 := m ((c : Thread nD τ).loc main_arg2)
abbrev A3 : FVec Ideal S1024 .f32 := m ((c : Thread nD τ).loc main_arg3)
abbrev A4 : FVec Ideal S1024 .f32 := m ((c : Thread nD τ).loc main_arg4)
abbrev A5 : FVec Ideal S1024 .f32 := m ((c : Thread nD τ).loc main_arg5)
abbrev A6 : FVec Ideal S1024 .f32 := m ((c : Thread nD τ).loc main_arg6)
abbrev A7 : FVec Ideal S1024 .f32 := m ((c : Thread nD τ).loc main_arg7)

theorem point_y (t : Fin cfg0.N) (r : Fin 512) (l : Fin 1024) :
    (k0_pay2 (iblk m c 0 t) (iblk m c 1 t) : FVec Ideal S512x1024 .f32) (ix2 r l) = projected (A0 m c) (A1 m c) (ix2 (tileRow t r) l) := by
  rw [pay2_at, blk_a, blk_w]
  rfl

theorem point_n (t : Fin cfg0.N) (r : Fin 512) (l : Fin 1024) :
    (k0_pay3 (iblk m c 0 t) (iblk m c 1 t) (iblk m c 2 t) (iblk m c 3 t) (iblk m c 4 t) (iblk m c 5 t) : FVec Ideal S512x1024 .f32) (ix2 r l)
      = norms (A0 m c) (A2 m c) (A1 m c) (A3 m c) (A4 m c) (A5 m c) (ix2 (tileRow t r) l) := by
  obtain ⟨h3, h4, h5, -, -⟩ := blk_rows m c t
  rw [pay3_at, blk_a, blk_w, blk_x, h3, h4, h5]
  rfl

theorem point_m (t : Fin cfg0.N) (r : Fin 512) (l : Fin 1024) :
    (k0_pay1 (k0_pay3 (iblk m c 0 t) (iblk m c 1 t) (iblk m c 2 t) (iblk m c 3 t) (iblk m c 4 t) (iblk m c 5 t)) (iblk m c 6 t) (iblk m c 7 t) :
      FVec Ideal S512x1024 .bf16) (ix2 r l)
      = moves (A0 m c) (A2 m c) (A1 m c) (A3 m c) (A4 m c) (A5 m c) (A6 m c) (A7 m c) (ix2 (tileRow t r) l) := by
  obtain ⟨-, -, -, h6, h7⟩ := blk_rows m c t
  rw [pay1_at, point_n]
  exact congrArg₂ (fun p q : EReal => norms (A0 m c) (A2 m c) (A1 m c) (A3 m c) (A4 m c) (A5 m c) (ix2 (tileRow t r) l) * (1 + p) + q)
    (congrFun h6 l) (congrFun h7 l)

theorem final_y : (dats m 0 c).arrAt 8 cfg0.N = projected (A0 m c) (A1 m c) := by
  refine (dats m 0 c).arrAt_eq_of_covers 8 _ (by decide +kernel) fun t hf y => ?_
  blk_simp
  rw [after0_8, block8]
  obtain ⟨r, l, rfl⟩ : ∃ (r : Fin 512) (l : Fin 1024), y = ix2 r l := ⟨y 0, y 1, eq_ix2 y⟩
  refine (point_y m c t r l).trans (congrArg (projected (A0 m c) (A1 m c)) ?_)
  blk_ext [(rows_at t).2.2.1]

theorem final_n : (dats m 0 c).arrAt 9 cfg0.N = norms (A0 m c) (A2 m c) (A1 m c) (A3 m c) (A4 m c) (A5 m c) := by
  refine (dats m 0 c).arrAt_eq_of_covers 9 _ (by decide +kernel) fun t hf y => ?_
  blk_simp
  rw [after0_9, block9]
  obtain ⟨r, l, rfl⟩ : ∃ (r : Fin 512) (l : Fin 1024), y = ix2 r l := ⟨y 0, y 1, eq_ix2 y⟩
  refine (point_n m c t r l).trans (congrArg (norms (A0 m c) (A2 m c) (A1 m c) (A3 m c) (A4 m c) (A5 m c)) ?_)
  blk_ext [(rows_at t).2.2.2.1]

theorem final_m : (dats m 0 c).arrAt 10 cfg0.N = moves (A0 m c) (A2 m c) (A1 m c) (A3 m c) (A4 m c) (A5 m c) (A6 m c) (A7 m c) := by
  refine (dats m 0 c).arrAt_eq_of_covers 10 _ (by decide +kernel) fun t hf y => ?_
  blk_simp
  rw [after0_10, block10]
  obtain ⟨r, l, rfl⟩ : ∃ (r : Fin 512) (l : Fin 1024), y = ix2 r l := ⟨y 0, y 1, eq_ix2 y⟩
  refine (point_m m c t r l).trans (congrArg (moves (A0 m c) (A2 m c) (A1 m c) (A3 m c) (A4 m c) (A5 m c) (A6 m c) (A7 m c)) ?_)
  blk_ext [(rows_at t).2.2.2.2]

end Cert.OutpIdeal.Value

end
-- ==== Proof.OutpValue.lean ====
/- The call `outproj` and the forward lines of the output projection, its norm and its modulation leave the same arrays. -/
module

public import proofs.«01_k».proof.Proof.OutpArr
public import proofs.«01_k».proof.Proof.Gen.Outp.Frame
public import proofs.«01_k».proof.Proof.Gen.OutpRefIdeal.Run
public import proofs.«01_k».proof.Proof.Gen.OutpRefIdeal.Read
public import proofs.«01_k».proof.Defs

@[expose] public section

set_option maxRecDepth 16384

noncomputable section

namespace Cert.OutpRefIdeal.Value

open Cert.OutpRefIdeal Idealize.ShloMosaic Cert.OutpRefIdeal.Read Cert.OutpSpec

variable (x0 : FVec Ideal S8192x1024 .f32) (x1 : FVec Ideal S1024x1024 .f32) (x2 : FVec Ideal S8192x1024 .f32) (x3 x4 x5 x6 x7 : FVec Ideal S1024 .f32)

theorem y_at (r : Fin 8192) (l : Fin 1024) : val_main_v0 (F := Ideal) x0 x1 (ix2 r l) = prod (row x0 r) (row x1) l := by
  rw [val_main_v0_apply]
  exact Finset.sum_congr rfl fun k _ => congrArg₂ (fun i j => x0 i * x1 j) (eq_ix2 _) (eq_ix2 _)

theorem sum_at (r : Fin 8192) (l : Fin 1024) : val_main_v6 (F := Ideal) x0 x1 x2 x3 (ix2 r l) = OutpSpec.sum (row x0 r) (row x2 r) (row x1) (vec x3) l := by
  pointwise [val_main_v6, val_main_v5, val_main_v4, val_main_v3, val_main_v2, val_main_v1, val_main_cst]
  rw [y_at]
  rfl

theorem mean_at (r : Fin 8192) : val_main_v10 (F := Ideal) x0 x1 x2 x3 (ix2 r (0 : Fin 1)) = mean (OutpSpec.sum (row x0 r) (row x2 r) (row x1) (vec x3)) := by
  pointwise [val_main_v10, val_main_v9, val_main_v8, val_main_v7, val_main_cst_0, val_main_cst_1]
  simp only [sum_at]
  rfl

theorem dev_at (r : Fin 8192) (l : Fin 1024) : val_main_v12 (F := Ideal) x0 x1 x2 x3 (ix2 r l) = dev (OutpSpec.sum (row x0 r) (row x2 r) (row x1) (vec x3)) l := by
  pointwise [val_main_v12, val_main_v11]
  rw [sum_at, mean_at]
  rfl

theorem dev_at' (r : Fin 8192) (l : Fin 1024) : val_main_v19 (F := Ideal) x0 x1 x2 x3 (ix2 r l) = dev (OutpSpec.sum (row x0 r) (row x2 r) (row x1) (vec x3)) l := by
  pointwise [val_main_v19, val_main_v18]
  rw [sum_at, mean_at]
  rfl

theorem spread_at (r : Fin 8192) : val_main_v21 (F := Ideal) x0 x1 x2 x3 (ix2 r (0 : Fin 1))
    = mean (fun k => dev (OutpSpec.sum (row x0 r) (row x2 r) (row x1) (vec x3)) k * dev (OutpSpec.sum (row x0 r) (row x2 r) (row x1) (vec x3)) k)
      + Ideal.ofBits .f32 0x3727C5AC#32 := by
  pointwise [val_main_v21, val_main_v20, val_main_v17, val_main_v16, val_main_v15, val_main_v14, val_main_v13, val_main_cst_2, val_main_cst_3, val_main_cst_4]
  simp only [dev_at]
  rfl

theorem hat_at (r : Fin 8192) (l : Fin 1024) : val_main_v24 (F := Ideal) x0 x1 x2 x3 (ix2 r l) = hat (OutpSpec.sum (row x0 r) (row x2 r) (row x1) (vec x3)) l := by
  pointwise [val_main_v24, val_main_v23, val_main_v22]
  rw [dev_at', spread_at]
  rfl

theorem norm_at (r : Fin 8192) (l : Fin 1024) : val_main_v30 (F := Ideal) x0 x1 x2 x3 x4 x5 (ix2 r l)
    = normed (row x0 r) (row x2 r) (row x1) (vec x3) (vec x4) (vec x5) l := by
  pointwise [val_main_v30, val_main_v29, val_main_v28, val_main_v27, val_main_v26, val_main_v25]
  rw [hat_at]
  rfl

theorem y_eq : val_main_v0 (F := Ideal) x0 x1 = projected x0 x1 := by
  funext i
  obtain ⟨r, l, rfl⟩ : ∃ (r : Fin 8192) (l : Fin 1024), i = ix2 r l := ⟨i 0, i 1, eq_ix2 i⟩
  exact y_at x0 x1 r l
theorem n_eq : val_main_v30 (F := Ideal) x0 x1 x2 x3 x4 x5 = norms x0 x2 x1 x3 x4 x5 := by
  funext i
  obtain ⟨r, l, rfl⟩ : ∃ (r : Fin 8192) (l : Fin 1024), i = ix2 r l := ⟨i 0, i 1, eq_ix2 i⟩
  exact norm_at x0 x1 x2 x3 x4 x5 r l
theorem m_eq : val_main_v39 (F := Ideal) x0 x1 x2 x3 x4 x5 x6 x7 = moves x0 x2 x1 x3 x4 x5 x6 x7 := by
  funext i
  obtain ⟨r, l, rfl⟩ : ∃ (r : Fin 8192) (l : Fin 1024), i = ix2 r l := ⟨i 0, i 1, eq_ix2 i⟩
  pointwise [val_main_v39, val_main_v38, val_main_v37, val_main_v36, val_main_v35, val_main_v34, val_main_v33, val_main_v32, val_main_v31, val_main_cst_5]
  rw [norm_at]
  rfl

end Cert.OutpRefIdeal.Value

namespace Cert.OutpIdeal

open Idealize.ShloMosaic Idealize.ShloMosaic.TcCoe Idealize.SL.Sem Cert.OutpIdeal.Value
open Cert.OutpRefIdeal.Read Cert.OutpRefIdeal.Value

/-- Over the extended reals the call and the forward lines leave the same three arrays. -/
theorem algebraic : Cert.algebraic_OutpIdeal_OutpRefIdeal (hOutpIdeal := Gen.facts) (hOutpRefIdeal := OutpRefIdeal.Gen.facts) := by
  intro m g m' g' _ h
  refine ⟨fun c => (Gen.dats m 0 c).arrAt 8 cfg0.N, fun c => (Gen.dats m 0 c).arrAt 9 cfg0.N, fun c => (Gen.dats m 0 c).arrAt 10 cfg0.N,
    Value.run_blocks m g, ?_⟩
  refine (OutpRefIdeal.Value.run m' g').mono fun r hr c => ?_
  obtain ⟨k0, k1, k2, hargs⟩ := hr c
  obtain ⟨e0, e1, e2, e3, e4, e5, e6, e7⟩ := h c
  rw [val_main_v0_eq] at k0
  rw [val_main_v30_eq] at k1
  rw [val_main_v39_eq] at k2
  simp only [StableHlo.launchContents_devRef, e0, e1, e2, e3, e4, e5, e6, e7] at k0 k1 k2
  rw [y_eq] at k0
  rw [n_eq] at k1
  rw [m_eq] at k2
  exact ⟨k0.trans (final_y m c).symm, k1.trans (final_n m c).symm, k2.trans (final_m m c).symm, hargs⟩

end Cert.OutpIdeal

namespace Cert.OutpRefIdeal.Value

open Idealize.ShloMosaic Idealize.ShloMosaic.TcCoe Idealize.SL.Sem

/-- The forward lines' program terminates and leaves its arguments as they were. -/
theorem frame : Cert.quiescent_OutpRefIdeal (hOutpRefIdeal := OutpRefIdeal.Gen.facts) := fun m ρ _ =>
  (θ_run OutpRefIdeal.defs _ _).mono (fun r hr => ⟨fun c => (hr c).2.2.2, sem_eq_zero_of_no_sems (by decide) r.2⟩) (run m ρ)

end Cert.OutpRefIdeal.Value

end
-- ==== Proof.InpArr.lean ====
/- What the call `inproj` leaves in its two result arrays, over the extended reals, as functions of the arguments. -/
module

public import proofs.«01_k».proof.Proof.Gen.InpIdeal.Value
public import Idealize.ShloMosaic.Lib.Pointwise
public import Idealize.ShloMosaic.Lib.Pipeline.ValueKit.Geometry

@[expose] public section

set_option maxRecDepth 16384

noncomputable section

namespace Cert.InpSpec

open Idealize.ShloMosaic

/-- The modulated row, and the projected one. -/
def moved (x : (⟨2, ![8192, 1024]⟩ : Shape).Idx → EReal) (sc sh : (⟨1, ![1024]⟩ : Shape).Idx → EReal) (i : (⟨2, ![8192, 1024]⟩ : Shape).Idx) : EReal :=
  x i * (1 + sc (ix1 (i 1))) + sh (ix1 (i 1))
def projected (x : (⟨2, ![8192, 1024]⟩ : Shape).Idx → EReal) (sc sh : (⟨1, ![1024]⟩ : Shape).Idx → EReal)
    (w : (⟨2, ![1024, 1792]⟩ : Shape).Idx → EReal) (b : (⟨1, ![1792]⟩ : Shape).Idx → EReal) (i : (⟨2, ![8192, 1792]⟩ : Shape).Idx) : EReal :=
  ∑ k : Fin 1024, moved x sc sh (ix2 (i 0) k) * w (ix2 k (i 1)) + b (ix1 (i 1))

end Cert.InpSpec

namespace Cert.InpIdeal.Value

open Cert.InpIdeal Cert.InpIdeal.Gen Idealize.ShloMosaic Idealize.ShloMosaic.TcCoe Idealize.SL.Sem
open Idealize.ShloMosaic.Pipeline (Dat)
open Idealize.ShloMosaic.StableHlo Cert.InpSpec

/-! ## One block -/

theorem z2 : (![0, 0] : Fin 2 → ℕ) = fun _ => 0 := by decide

variable (x : Vec Ideal S512x1024 .f32) (sc sh : Vec Ideal S1x1024 .f32) (w : Vec Ideal S1792x1024 .bf16) (b : Vec Ideal S1x1792 .f32)

theorem pay1_at (r : Fin 512) (l : Fin 1024) : k0_pay1 (F := Ideal) x sc sh (ix2 r l) = x (ix2 r l) * (1 + sc (ix2 0 l)) + sh (ix2 0 l) := by
  pointwise [k0_pay1]

theorem pay2_at (r : Fin 512) (l : Fin 1792) : k0_pay2 (F := Ideal) x sc sh w b (ix2 r l)
    = ∑ k : Fin 1024, k0_pay1 (F := Ideal) x sc sh (ix2 r k) * w (ix2 l k) + b (ix2 0 l) := by
  pointwise [k0_pay2]

theorem block5 : out0_5 x sc sh w b = (k0_pay2 x sc sh w b : Vec Ideal S512x1792 .f32) := by
  unfold out0_5
  simp only [View.canon_cons_unit_zero (S := S512x1792) z2, View.ld_unit_zero (S := S512x1024) z2, View.ld_unit_zero (S := S1792x1024) z2,
    View.ld_unit_zero (S := S1x1024) z2, View.ld_unit_zero (S := S1x1792) z2]

theorem block6 : out0_6 x sc sh w b = (k0_pay1 x sc sh : Vec Ideal S512x1024 .bf16) := by
  unfold out0_6
  simp only [View.canon_cons_unit_zero (S := S512x1024) z2, View.ld_unit_zero (S := S512x1024) z2, View.ld_unit_zero (S := S1x1024) z2]

/-! ## The arrays the region reads -/

variable (m : (ℓ : Loc nD τ sig) → Buf (Elt Ideal) ℓ)

abbrev one (x : FVec Ideal S1024 .f32) : FVec Ideal S1x1024 .f32 := broadcastInDim S1x1024 ![1] bcast_S1024_S1x1024_1 x
abbrev oneB (x : FVec Ideal S1792 .f32) : FVec Ideal S1x1792 .f32 := broadcastInDim S1x1792 ![1] bcast_S1792_S1x1792_1 x
abbrev turned (x : FVec Ideal S1024x1792 .f32) : FVec Ideal S1792x1024 .bf16 :=
  truncf .bf16 (transpose S1792x1024 [1, 0] x transposes_S1024x1792_S1792x1024_1_0) bitsLt_bf16_f32

theorem one_at (x : FVec Ideal S1024 .f32) (k : Fin 1024) : one x (ix2 (0 : Fin 1) k) = x (ix1 k) := by
  unfold one
  pointwise
theorem oneB_at (x : FVec Ideal S1792 .f32) (k : Fin 1792) : oneB x (ix2 (0 : Fin 1) k) = x (ix1 k) := by
  unfold oneB
  pointwise
theorem turned_at (x : FVec Ideal S1024x1792 .f32) (l : Fin 1792) (k : Fin 1024) : turned x (ix2 l k) = x (ix2 k l) := by
  unfold turned
  pointwise

theorem V_all (c : Dev nD) : V m c main_v0 = one (m ((c : Thread nD τ).loc main_arg1)) ∧ V m c main_v1 = one (m ((c : Thread nD τ).loc main_arg2))
    ∧ V m c main_v3 = turned (m ((c : Thread nD τ).loc main_arg3)) ∧ V m c main_v4 = oneB (m ((c : Thread nD τ).loc main_arg4)) := by
  refine ⟨?_, ?_, ?_, ?_⟩
  · show after (List.flatten [hostOps0]) _ (Proc.devRef .tc main_v0) = _
    simp only [hostOps0, List.flatten_cons, List.flatten_nil, List.append_nil, List.cons_append, List.nil_append]
    after_results
  · show after (List.flatten [hostOps0]) _ (Proc.devRef .tc main_v1) = _
    simp only [hostOps0, List.flatten_cons, List.flatten_nil, List.append_nil, List.cons_append, List.nil_append]
    after_results
  · show after (List.flatten [hostOps0]) _ (Proc.devRef .tc main_v3) = _
    simp only [hostOps0, List.flatten_cons, List.flatten_nil, List.append_nil, List.cons_append, List.nil_append]
    after_results
  · show after (List.flatten [hostOps0]) _ (Proc.devRef .tc main_v4) = _
    simp only [hostOps0, List.flatten_cons, List.flatten_nil, List.append_nil, List.cons_append, List.nil_append]
    after_results

/-! ## The blocks of a point -/

theorem rows_at : ∀ t : Fin grid0.N, win0_0.index t = ![t.val, 0] ∧ win0_5.index t = ![t.val, 0] ∧ win0_6.index t = ![t.val, 0] := by decide +kernel
theorem whole_at : ∀ t : Fin grid0.N, win0_1.index t = ![0, 0] ∧ win0_2.index t = ![0, 0] ∧ win0_3.index t = ![0, 0] ∧ win0_4.index t = ![0, 0] := by
  decide +kernel

/-- The row of an array that row `r` of point `t`'s tile is. -/
abbrev tileRow (t : Fin cfg0.N) (r : Fin 512) : Fin 8192 :=
  ⟨t.val * 512 + r.val, by have := t.isLt; have : cfg0.N = 16 := N_0; omega⟩

theorem blk_x (c : Dev nD) (t : Fin cfg0.N) (r : Fin 512) (k : Fin 1024) : (iblk m c 0 t : FVec Ideal S512x1024 .f32) (ix2 r k)
    = (m ((c : Thread nD τ).loc main_arg0) : FVec Ideal S8192x1024 .f32) (ix2 (tileRow t r) k) := by
  blk_simp [iblk]
  rw [V_main_arg0]
  refine congrArg (m ((c : Thread nD τ).loc main_arg0) : FVec Ideal S8192x1024 .f32) ?_
  blk_ext [(rows_at t).1]

theorem blk_sc (c : Dev nD) (t : Fin cfg0.N) (k : Fin 1024) : (iblk m c 1 t : FVec Ideal S1x1024 .f32) (ix2 (0 : Fin 1) k)
    = (m ((c : Thread nD τ).loc main_arg1) : FVec Ideal S1024 .f32) (ix1 k) := by
  blk_simp [iblk]
  rw [(V_all m c).1]
  refine Eq.trans (congrArg (one (m ((c : Thread nD τ).loc main_arg1))) ?_) (one_at _ k)
  blk_ext [(whole_at t).1]

theorem blk_sh (c : Dev nD) (t : Fin cfg0.N) (k : Fin 1024) : (iblk m c 2 t : FVec Ideal S1x1024 .f32) (ix2 (0 : Fin 1) k)
    = (m ((c : Thread nD τ).loc main_arg2) : FVec Ideal S1024 .f32) (ix1 k) := by
  blk_simp [iblk]
  rw [(V_all m c).2.1]
  refine Eq.trans (congrArg (one (m ((c : Thread nD τ).loc main_arg2))) ?_) (one_at _ k)
  blk_ext [(whole_at t).2.1]

theorem blk_w (c : Dev nD) (t : Fin cfg0.N) (l : Fin 1792) (k : Fin 1024) : (iblk m c 3 t : FVec Ideal S1792x1024 .bf16) (ix2 l k)
    = (m ((c : Thread nD τ).loc main_arg3) : FVec Ideal S1024x1792 .f32) (ix2 k l) := by
  blk_simp [iblk]
  rw [(V_all m c).2.2.1]
  refine Eq.trans (congrArg (turned (m ((c : Thread nD τ).loc main_arg3))) ?_) (turned_at _ l k)
  blk_ext [(whole_at t).2.2.1]

theorem blk_b (c : Dev nD) (t : Fin cfg0.N) (l : Fin 1792) : (iblk m c 4 t : FVec Ideal S1x1792 .f32) (ix2 (0 : Fin 1) l)
    = (m ((c : Thread nD τ).loc main_arg4) : FVec Ideal S1792 .f32) (ix1 l) := by
  blk_simp [iblk]
  rw [(V_all m c).2.2.2]
  refine Eq.trans (congrArg (oneB (m ((c : Thread nD τ).loc main_arg4))) ?_) (oneB_at _ l)
  blk_ext [(whole_at t).2.2.2]

/-! ## The arrays -/

variable (c : Dev nD)

abbrev A0 : FVec Ideal S8192x1024 .f32 := m ((c : Thread nD τ).loc main_arg0)
abbrev A1 : FVec Ideal S1024 .f32 := m ((c : Thread nD τ).loc main_arg1)
abbrev A2 : FVec Ideal S1024 .f32 := m ((c : Thread nD τ).loc main_arg2)
abbrev A3 : FVec Ideal S1024x1792 .f32 := m ((c : Thread nD τ).loc main_arg3)
abbrev A4 : FVec Ideal S1792 .f32 := m ((c : Thread nD τ).loc main_arg4)

theorem point_h (t : Fin cfg0.N) (r : Fin 512) (l : Fin 1024) :
    (k0_pay1 (iblk m c 0 t) (iblk m c 1 t) (iblk m c 2 t) : FVec Ideal S512x1024 .bf16) (ix2 r l)
      = moved (A0 m c) (A1 m c) (A2 m c) (ix2 (tileRow t r) l) := by
  rw [pay1_at, blk_x, blk_sc, blk_sh]
  rfl

theorem point_p (t : Fin cfg0.N) (r : Fin 512) (l : Fin 1792) :
    (k0_pay2 (iblk m c 0 t) (iblk m c 1 t) (iblk m c 2 t) (iblk m c 3 t) (iblk m c 4 t) : FVec Ideal S512x1792 .f32) (ix2 r l)
      = projected (A0 m c) (A1 m c) (A2 m c) (A3 m c) (A4 m c) (ix2 (tileRow t r) l) := by
  rw [pay2_at, blk_b]
  exact congrArg (· + (A4 m c) (ix1 l)) (Finset.sum_congr rfl fun k _ => congrArg₂ (fun p q : EReal => p * q) (point_h m c t r k) (blk_w m c t l k))

theorem final_p : (dats m 0 c).arrAt 5 cfg0.N = projected (A0 m c) (A1 m c) (A2 m c) (A3 m c) (A4 m c) := by
  refine (dats m 0 c).arrAt_eq_of_covers 5 _ (by decide +kernel) fun t hf y => ?_
  blk_simp
  rw [after0_5, block5]
  obtain ⟨r, l, rfl⟩ : ∃ (r : Fin 512) (l : Fin 1792), y = ix2 r l := ⟨y 0, y 1, eq_ix2 y⟩
  refine (point_p m c t r l).trans (congrArg (projected (A0 m c) (A1 m c) (A2 m c) (A3 m c) (A4 m c)) ?_)
  blk_ext [(rows_at t).2.1]

theorem final_h : (dats m 0 c).arrAt 6 cfg0.N = moved (A0 m c) (A1 m c) (A2 m c) := by
  refine (dats m 0 c).arrAt_eq_of_covers 6 _ (by decide +kernel) fun t hf y => ?_
  blk_simp
  rw [after0_6, block6]
  obtain ⟨r, l, rfl⟩ : ∃ (r : Fin 512) (l : Fin 1024), y = ix2 r l := ⟨y 0, y 1, eq_ix2 y⟩
  refine (point_h m c t r l).trans (congrArg (moved (A0 m c) (A1 m c) (A2 m c)) ?_)
  blk_ext [(rows_at t).2.2]

end Cert.InpIdeal.Value

end
-- ==== Proof.InpValue.lean ====
/- The call `inproj` and the forward lines of the modulated input projection leave the same arrays. -/
module

public import proofs.«01_k».proof.Proof.InpArr
public import proofs.«01_k».proof.Proof.Gen.Inp.Frame
public import proofs.«01_k».proof.Proof.Gen.InpRefIdeal.Run
public import proofs.«01_k».proof.Proof.Gen.InpRefIdeal.Read
public import proofs.«01_k».proof.Defs

@[expose] public section

set_option maxRecDepth 16384

noncomputable section

namespace Cert.InpRefIdeal.Value

open Cert.InpRefIdeal Idealize.ShloMosaic Cert.InpRefIdeal.Read Cert.InpSpec

variable (x0 : FVec Ideal S8192x1024 .f32) (x1 x2 : FVec Ideal S1024 .f32) (x3 : FVec Ideal S1024x1792 .f32) (x4 : FVec Ideal S1792 .f32)

theorem h_at (r : Fin 8192) (l : Fin 1024) : val_main_v7 (F := Ideal) x0 x1 x2 (ix2 r l) = moved x0 x1 x2 (ix2 r l) := by
  pointwise [val_main_v7, val_main_v6, val_main_v5, val_main_v4, val_main_v3, val_main_v2, val_main_v1, val_main_v0, val_main_cst]
  rfl

theorem h_eq : val_main_v12 (F := Ideal) x0 x1 x2 = moved x0 x1 x2 := by
  funext i
  obtain ⟨r, l, rfl⟩ : ∃ (r : Fin 8192) (l : Fin 1024), i = ix2 r l := ⟨i 0, i 1, eq_ix2 i⟩
  exact h_at x0 x1 x2 r l

theorem p_eq : val_main_v11 (F := Ideal) x0 x1 x2 x3 x4 = projected x0 x1 x2 x3 x4 := by
  funext i
  obtain ⟨r, l, rfl⟩ : ∃ (r : Fin 8192) (l : Fin 1792), i = ix2 r l := ⟨i 0, i 1, eq_ix2 i⟩
  pointwise [val_main_v11, val_main_v10, val_main_v9]
  rw [val_main_v8_apply]
  refine congrArg (· + x4 (ix1 l)) (Finset.sum_congr rfl fun k _ => ?_)
  exact congrArg₂ (fun p q : EReal => p * q) ((congrArg (val_main_v7 (F := Ideal) x0 x1 x2) (eq_ix2 _)).trans (h_at x0 x1 x2 r k)) (congrArg x3 (eq_ix2 _))

end Cert.InpRefIdeal.Value

namespace Cert.InpIdeal

open Idealize.ShloMosaic Idealize.ShloMosaic.TcCoe Idealize.SL.Sem Cert.InpIdeal.Value
open Cert.InpRefIdeal.Read Cert.InpRefIdeal.Value

/-- Over the extended reals the call and the forward lines leave the same two arrays. -/
theorem algebraic : Cert.algebraic_InpIdeal_InpRefIdeal (hInpIdeal := Gen.facts) (hInpRefIdeal := InpRefIdeal.Gen.facts) := by
  intro m g m' g' _ h
  refine ⟨fun c => (Gen.dats m 0 c).arrAt 5 cfg0.N, fun c => (Gen.dats m 0 c).arrAt 6 cfg0.N, Value.run_blocks m g, ?_⟩
  refine (InpRefIdeal.Value.run m' g').mono fun r hr c => ?_
  obtain ⟨k0, k1, hargs⟩ := hr c
  obtain ⟨e0, e1, e2, e3, e4⟩ := h c
  rw [val_main_v11_eq] at k0
  rw [val_main_v12_eq] at k1
  simp only [StableHlo.launchContents_devRef, e0, e1, e2, e3, e4] at k0 k1
  rw [p_eq] at k0
  rw [h_eq] at k1
  exact ⟨k0.trans (final_p m c).symm, k1.trans (final_h m c).symm, hargs⟩

end Cert.InpIdeal

namespace Cert.InpRefIdeal.Value

open Idealize.ShloMosaic Idealize.ShloMosaic.TcCoe Idealize.SL.Sem

/-- The forward lines' program terminates and leaves its arguments as they were. -/
theorem frame : Cert.quiescent_InpRefIdeal (hInpRefIdeal := InpRefIdeal.Gen.facts) := fun m ρ _ =>
  (θ_run InpRefIdeal.defs _ _).mono (fun r hr => ⟨fun c => (hr c).2.2, sem_eq_zero_of_no_sems (by decide) r.2⟩) (run m ρ)

end Cert.InpRefIdeal.Value

end
-- ==== Proof.BiasArr.lean ====
/- What the call `bias_table` leaves, over the extended reals: the table's entry of each distance's bucket inside the window, the mask outside. -/
module

public import proofs.«01_k».proof.Proof.Gen.BiasIdeal.Value
public import proofs.«01_k».proof.Proof.TableValue
public import Idealize.ShloMosaic.Lib.WholeRead

@[expose] public section

set_option maxRecDepth 16384

noncomputable section

namespace Cert.BiasIdeal.Value

open Cert.BiasIdeal Cert.BiasIdeal.Gen Idealize.ShloMosaic Idealize.ShloMosaic.TcCoe Idealize.SL.Sem
open Idealize.ShloMosaic.StableHlo
open Idealize.ShloMosaic.Pipeline (Dat)

/-! ## One head -/

/-- The kernel's step for bucket `k`: the entries of that bucket get the table's word. -/
def pick (v1 : IVec S128x256 32) (k : BitVec 32) (s : EReal) (v : FVec Ideal S128x256 .f32) : FVec Ideal S128x256 .f32 :=
  select (cmpi .eq v1 (broadcast S128x256 k)) (broadcast S128x256 (s : Elt Ideal .f32)) v

theorem pick_apply (v1 : IVec S128x256 32) (k : BitVec 32) (s : EReal) (v : FVec Ideal S128x256 .f32) (y : S128x256.Idx) :
    pick v1 k s v y = if v1 y = k then s else v y := by
  show Scalar.select (IntOp.cmpi .eq (v1 y) k) s (v y) = _
  exact Cert.TableIdeal.Value.sel _ _ _ _

/-- All thirty-two buckets in turn. -/
abbrev picks (v1 : IVec S128x256 32) (word : ℕ → EReal) (n : ℕ) : FVec Ideal S128x256 .f32 :=
  (List.range n).foldl (fun v k => pick v1 (BitVec.ofNat 32 k) (word k) v) (broadcast S128x256 (Scalar.ofBits .f32 0x00000000#32) : FVec Ideal S128x256 .f32)

/-- An entry gets the word of its own bucket. -/
theorem picks_apply (v1 : IVec S128x256 32) (word : ℕ → EReal) (y : S128x256.Idx) : ∀ n : ℕ, n ≤ 32 → (v1 y).toNat < n →
    picks v1 word n y = word (v1 y).toNat
  | 0, _, h => absurd h (Nat.not_lt_zero _)
  | n + 1, hn, h => by
    unfold picks
    rw [List.range_succ, List.foldl_append, List.foldl_cons, List.foldl_nil, pick_apply]
    have e : v1 y = BitVec.ofNat 32 n ↔ (v1 y).toNat = n := by
      rw [← BitVec.toNat_inj, BitVec.toNat_ofNat, Nat.mod_eq_of_lt (by omega)]
    by_cases k : (v1 y).toNat = n
    · rw [if_pos (e.2 k), k]
    · rw [if_neg fun q => k (e.1 q)]
      exact picks_apply v1 word y n (by omega) (by omega)

/-- Distance of entry `(a, b)` as a word, and whether it lies in the window. -/
def distance (a : Fin 128) (b : Fin 256) : BitVec 32 := IntOp.subi (IntOp.addi (BitVec.ofNat 32 a.val) 128#32) (BitVec.ofNat 32 b.val)
def inside (a : Fin 128) (b : Fin 256) : BitVec 1 := IntOp.andi (IntOp.cmpi .sge (distance a b) 0#32) (IntOp.cmpi .slt (distance a b) 128#32)

/-- The mask over a block. -/
def masked (v : FVec Ideal S128x256 .f32) : FVec Ideal S1x128x256 .f32 :=
  shapeCast S1x128x256 (select
    (andi (cmpi .sge (subi (addi (iota .tc S128x256 32 [0] iota_S128x256_d0_w32) (broadcast S128x256 128#32)) (iota .tc S128x256 32 [1] iota_S128x256_d1_w32))
        (broadcast S128x256 0#32))
      (cmpi .slt (subi (addi (iota .tc S128x256 32 [0] iota_S128x256_d0_w32) (broadcast S128x256 128#32)) (iota .tc S128x256 32 [1] iota_S128x256_d1_w32))
        (broadcast S128x256 128#32)))
    v (broadcast S128x256 (Scalar.ofBits .f32 0xF149F2CA#32) : FVec Ideal S128x256 .f32)) shapeCasts_S128x256_S1x128x256

theorem masked_apply (v : FVec Ideal S128x256 .f32) (a : Fin 128) (b : Fin 256) :
    masked v (ix3 (0 : Fin 1) a b) = Scalar.select (inside a b) (v (ix2 a b)) (Ideal.ofBits .f32 0xF149F2CA#32) := by
  unfold masked
  refine (shapeCast_apply _ _ _ (ix2 a b) (by rw [Shape.rowMajor_val_three, Shape.rowMajor_val_two]; show a.val * 256 + b.val = (0 * 128 + a.val) * 256 + b.val; omega)).trans ?_
  show Scalar.select (IntOp.andi (IntOp.cmpi .sge (IntOp.subi (IntOp.addi (iota .tc S128x256 32 [0] iota_S128x256_d0_w32 (ix2 a b)) 128#32)
    (iota .tc S128x256 32 [1] iota_S128x256_d1_w32 (ix2 a b))) 0#32) (IntOp.cmpi .slt (IntOp.subi (IntOp.addi (iota .tc S128x256 32 [0] iota_S128x256_d0_w32 (ix2 a b)) 128#32)
    (iota .tc S128x256 32 [1] iota_S128x256_d1_w32 (ix2 a b))) 128#32)) _ _ = _
  have i0 : iota .tc S128x256 32 [0] iota_S128x256_d0_w32 (ix2 a b) = BitVec.ofNat 32 a.val := by pointwise
  have i1 : iota .tc S128x256 32 [1] iota_S128x256_d1_w32 (ix2 a b) = BitVec.ofNat 32 b.val := by pointwise
  rw [i0, i1]
  rfl

/-- The head of a point, as the kernel computes it. -/
abbrev headWord (i : grid0.Coords) : ℕ := (Scalar.indexCast (BitVec.ofNat 32 (i 0).val) : Index).toNat

theorem headWord_eq (i : grid0.Coords) : headWord i = (i 0).val := congrFun (k0_off1_eq i) 1

theorem inBounds (i : grid0.Coords) (k : ℕ) (hk : k < 32) : ∀ a, (![k, headWord i] : Fin 2 → ℕ) a + S1x1.size a ≤ S32x8.size a := fun a => by
  have h := (i 0).isLt
  rw [headWord_eq]
  match a with
  | ⟨0, _⟩ => exact Nat.succ_le_of_lt hk
  | ⟨1, _⟩ => exact Nat.succ_le_of_lt h

/-- The table's word of a bucket, as the kernel reads it. -/
def read (i : grid0.Coords) (arg1 : Memref sig .tc .smem S32x8 .f32) (harg1 : arg1.IsWhole) (x0 : Vec Ideal S32x8 .f32) (k : ℕ) : EReal :=
  if hk : k < 32 then View.readAt (Elt Ideal) arg1.view (Rect.unit (s := S32x8) ![k, headWord i] S1x1.size (inBounds i k hk)).toLoadRect (harg1.unread x0)
    (Shape.Idx.first (numel1_S1x1.symm ▸ Nat.one_pos)) else 0

theorem read_eq (i : grid0.Coords) (arg1 : Memref sig .tc .smem S32x8 .f32) (harg1 : arg1.IsWhole) (x0 : Vec Ideal S32x8 .f32) (k : ℕ) (hk : k < 32) :
    read i arg1 harg1 x0 k = x0 (ix2 (⟨k, hk⟩ : Fin 32) (⟨(i 0).val, (i 0).isLt⟩ : Fin 8)) := by
  unfold read
  rw [dif_pos hk, harg1.readAt_unread]
  refine congrArg x0 (funext fun a => Fin.ext ?_)
  match a with
  | ⟨0, _⟩ => rfl
  | ⟨1, _⟩ => exact headWord_eq i

set_option maxHeartbeats 4000000 in
/-- The block a point leaves. -/
theorem block_eq (c : Dev nD) (i : grid0.Coords) (arg1 : Memref sig .tc .smem S32x8 .f32) (harg1 : arg1.IsWhole) (arg2 : Memref sig .tc .vmem S128x256 .i32)
    (harg2 : arg2.IsWhole) (arg3 : Memref sig .tc .vmem S1x128x256 .f32) (harg3 : arg3.IsWhole) (x0 : Vec Ideal S32x8 .f32) (x1 : Vec Ideal S128x256 .i32) :
    out0_A_2 c i arg1 harg1 arg2 harg2 arg3 harg3 x0 x1 = masked (picks (shapeCast S128x256
      (View.readAt (Elt Ideal) arg2.view (Rect.unit (s := S128x256) ![0, 0] S128x256.size inb_S128x256_S128x256_0_0).toLoadRect (harg2.unread x1))
        shapeCasts_S128x256_S128x256) (read i arg1 harg1 x0) 32) := by
  have z3 : (![0, 0, 0] : Fin 3 → ℕ) = fun _ => 0 := by decide
  unfold out0_A_2
  refine (View.read_writes_eq_canon _ _ _ (cover0_A_2 c i arg1 harg1 arg2 harg2 arg3 harg3 x0 x1)).trans ?_
  refine (View.canon_cons_unit_zero (S := S1x128x256) z3 _ _ _).trans ?_
  unfold picks
  simp only [show List.range 32 = [0, 1, 2, 3, 4, 5, 6, 7, 8, 9, 10, 11, 12, 13, 14, 15, 16, 17, 18, 19, 20, 21, 22, 23, 24, 25, 26, 27, 28, 29, 30, 31] from rfl,
    List.foldl_cons, List.foldl_nil]
  rfl

theorem block_apply (c : Dev nD) (i : grid0.Coords) (arg1 : Memref sig .tc .smem S32x8 .f32) (harg1 : arg1.IsWhole) (arg2 : Memref sig .tc .vmem S128x256 .i32)
    (harg2 : arg2.IsWhole) (arg3 : Memref sig .tc .vmem S1x128x256 .f32) (harg3 : arg3.IsWhole) (x0 : Vec Ideal S32x8 .f32) (x1 : Vec Ideal S128x256 .i32)
    (a : Fin 128) (b : Fin 256) (n : Fin 32) (hn : (x1 (ix2 a b)).toNat = n.val) (h : Fin 8) (hh : (i 0).val = h.val) :
    out0_A_2 c i arg1 harg1 arg2 harg2 arg3 harg3 x0 x1 (ix3 (0 : Fin 1) a b)
      = Scalar.select (inside a b) (x0 (ix2 n h)) (Ideal.ofBits .f32 0xF149F2CA#32) := by
  have e : (shapeCast S128x256 (View.readAt (Elt Ideal) arg2.view (Rect.unit (s := S128x256) ![0, 0] S128x256.size inb_S128x256_S128x256_0_0).toLoadRect
      (harg2.unread x1)) shapeCasts_S128x256_S128x256 : IVec S128x256 32) (ix2 a b) = x1 (ix2 a b) := by
    refine (shapeCast_apply _ _ _ (ix2 a b) rfl).trans ((harg2.readAt_unread x1 _ _).trans (congrArg x1 (funext fun q => Fin.ext ?_)))
    match q with
    | ⟨0, _⟩ => show 0 + 1 * a.val = a.val; omega
    | ⟨1, _⟩ => show 0 + 1 * b.val = b.val; omega
  rw [block_eq, masked_apply, picks_apply _ _ _ 32 (le_refl _) (by rw [e, hn]; exact n.isLt), e, hn, read_eq _ _ _ _ _ n.isLt]
  exact congrArg (fun q : Fin 8 => Scalar.select (inside a b) (x0 (ix2 n q)) (Ideal.ofBits .f32 0xF149F2CA#32)) (Fin.ext hh)

end Cert.BiasIdeal.Value

end
-- ==== Proof.BiasValue.lean ====
/- The call `bias_table` and the lookup of the relative-position table by distance leave the same array. -/
module

public import proofs.«01_k».proof.Proof.BiasArr
public import proofs.«01_k».proof.Proof.Gen.Bias.Frame
public import proofs.«01_k».proof.Proof.Gen.BiasRefIdeal.Run
public import proofs.«01_k».proof.Proof.Gen.BiasRefIdeal.Read

@[expose] public section

set_option maxRecDepth 16384

noncomputable section

/-! ## The call's array -/

namespace Cert.BiasIdeal.Value

open Cert.BiasIdeal Cert.BiasIdeal.Gen Idealize.ShloMosaic Idealize.ShloMosaic.TcCoe Idealize.SL.Sem
open Idealize.ShloMosaic.StableHlo
open Idealize.ShloMosaic.Pipeline (Dat)

variable (m : (ℓ : Loc nD τ sig) → Buf (Elt Ideal) ℓ)

theorem bucket_lt (y : S128x256.Idx) : (Cert.TableRefIdeal.Read.val_main_v28 (F := Ideal) y).toNat < 32 := by
  have h := Cert.TableRefIdeal.Value.bucket_range y
  generalize Cert.TableRefIdeal.Read.val_main_v28 (F := Ideal) y = w at h
  have e := BitVec.toInt_eq_toNat_cond w
  have l := w.isLt
  norm_num at l
  split_ifs at e <;> omega

/-- The bucket of an entry, as a row of the table. -/
@[irreducible] def bucketAt (a : Fin 128) (b : Fin 256) : Fin 32 := ⟨(Cert.TableRefIdeal.Read.val_main_v28 (F := Ideal) (ix2 a b)).toNat, bucket_lt _⟩

theorem bucketAt_val (a : Fin 128) (b : Fin 256) : (bucketAt a b).val = (Cert.TableRefIdeal.Read.val_main_v28 (F := Ideal) (ix2 a b)).toNat := by
  unfold bucketAt
  rfl

/-- The looked-up and masked position bias. -/
def lookup (x : S32x8.Idx → EReal) : S8x128x256.Idx → EReal := fun i =>
  Scalar.select (inside (i 1) (i 2)) (x (ix2 (bucketAt (i 1) (i 2)) (i 0))) (Ideal.ofBits .f32 0xF149F2CA#32)

/-- The buckets that the call is given are those of the lookup. -/
theorem V_bucket (c : Dev nD) : V m c main_v28 = (Cert.TableRefIdeal.Read.val_main_v28 (F := Ideal) : IVec S128x256 32) := by
  show after (List.flatten [hostOps0, hostOps0_1]) _ (Proc.devRef .tc main_v28) = _
  simp only [hostOps0, hostOps0_1, List.flatten_cons, List.flatten_nil, List.append_nil, List.cons_append, List.nil_append,
    TRef.ternary, TRef.toBuf, TRef.ofBuf, cast_eq]
  after_results_simp <;> rfl

theorem heads : ∀ t : Fin grid0.N, win0_0.index t = ![0, 0] ∧ win0_1.index t = ![0, 0] ∧ win0_2.index t = ![t.val, 0, 0] ∧ (grid0.coords t 0).val = t.val := by
  decide +kernel

theorem blk_bucket (c : Dev nD) (t : Fin cfg0.N) (a : Fin 128) (b : Fin 256) :
    (iblk m c 1 t : IVec S128x256 32) (ix2 a b) = Cert.TableRefIdeal.Read.val_main_v28 (F := Ideal) (ix2 a b) := by
  blk_simp [iblk]
  rw [V_bucket]
  generalize (Cert.TableRefIdeal.Read.val_main_v28 (F := Ideal) : IVec S128x256 32) = w
  refine congrArg w ?_
  blk_ext [(heads t).2.1]

theorem blk_table (c : Dev nD) (t : Fin cfg0.N) (k : Fin 32) (h : Fin 8) :
    (iblk m c 0 t : FVec Ideal S32x8 .f32) (ix2 k h) = (m ((c : Thread nD τ).loc main_arg0) : S32x8.Idx → EReal) (ix2 k h) := by
  blk_simp [iblk]
  rw [V_main_arg0]
  refine congrArg (m ((c : Thread nD τ).loc main_arg0)) ?_
  blk_ext [(heads t).1]

theorem point (c : Dev nD) (t : Fin cfg0.N) (ht : t.val < 8) (a : Fin 128) (b : Fin 256) :
    (outsAt0 m c t : FVec Ideal S1x128x256 .f32) (ix3 (0 : Fin 1) a b) = lookup (m ((c : Thread nD τ).loc main_arg0)) (ix3 (⟨t.val, ht⟩ : Fin 8) a b) := by
  have hn : ((iblk m c 1 t : IVec S128x256 32) (ix2 a b)).toNat = (bucketAt a b).val :=
    (congrArg BitVec.toNat (blk_bucket m c t a b)).trans (bucketAt_val a b).symm
  have hx := blk_table m c t (bucketAt a b) ⟨t.val, ht⟩
  unfold outsAt0 lookup
  generalize iblk m c 1 t = x1 at hn
  generalize iblk m c 0 t = x0 at hx
  refine (block_apply c (grid0.coords t) (ms0_0 t) (hs0_0 t) (ms0_1 t) (hs0_1 t) (ms0_2 t) (hs0_2 t) x0 x1 a b _ hn ⟨t.val, ht⟩ (heads t).2.2.2).trans ?_
  exact congrArg (fun q : EReal => Scalar.select (inside a b) q (Ideal.ofBits .f32 0xF149F2CA#32)) hx

theorem final (c : Dev nD) : (dats m 0 c).arrAt 2 cfg0.N = lookup (m ((c : Thread nD τ).loc main_arg0)) := by
  refine (dats m 0 c).arrAt_eq_of_covers 2 _ (by decide +kernel) fun t hf y => ?_
  obtain ⟨p, a, b, rfl⟩ : ∃ (p : Fin 1) (a : Fin 128) (b : Fin 256), y = ix3 p a b := ⟨y 0, y 1, y 2, eq_ix3 y⟩
  obtain rfl : p = 0 := Subsingleton.elim _ _
  have ht : t.val < 8 := lt_of_lt_of_eq t.isLt (show cfg0.N = 8 from N_0)
  blk_simp
  rw [after0_2]
  refine (point m c t ht a b).trans (congrArg (lookup (m ((c : Thread nD τ).loc main_arg0))) ?_)
  blk_ext [(heads t).2.2.1]

end Cert.BiasIdeal.Value

/-! ## The lookup -/

namespace Cert.BiasRefIdeal.Value

open Cert.BiasRefIdeal Cert.BiasRefIdeal.Gen Cert.BiasRefIdeal.Read Idealize.ShloMosaic Idealize.ShloMosaic.TcCoe Idealize.SL.Sem
open Cert.BiasIdeal.Value (bucketAt bucketAt_val bucket_lt lookup inside distance)

/-- A row of the table by its number. -/
theorem gather_at (x : S32x8.Idx → EReal) (idx : IVec S128x256x1 32) (a : Fin 128) (b : Fin 256) (h : Fin 8) (k : Fin 32)
    (hk : (idx (ix3 a b (0 : Fin 1))).toInt = k.val) :
    Host.gather gather_S32x8_S128x256x1_S128x256x8_2_0_n_n_0_2_18 x idx (ix3 a b h) = x (ix2 k h) := by
  unfold Host.gather
  refine congrArg x (funext fun q => Fin.ext ?_)
  match q with
  | ⟨0, _⟩ =>
    show gather_S32x8_S128x256x1_S128x256x8_2_0_n_n_0_2_18.start (ix3 a b h) idx 0 + gather_S32x8_S128x256x1_S128x256x8_2_0_n_n_0_2_18.batchCoord (ix3 a b h) 0
      + gather_S32x8_S128x256x1_S128x256x8_2_0_n_n_0_2_18.offCoord (ix3 a b h) 0 = k.val
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 2) ∈ gather_S32x8_S128x256x1_S128x256x8_2_0_n_n_0_2_18.startIndexMap from List.mem_singleton.mpr rfl)]
    have hsi : gather_S32x8_S128x256x1_S128x256x8_2_0_n_n_0_2_18.siIdx (ix3 a b h) ⟨List.idxOf (0 : Fin 2)
        gather_S32x8_S128x256x1_S128x256x8_2_0_n_n_0_2_18.startIndexMap, List.idxOf_lt_length_iff.2 (List.mem_singleton.mpr rfl)⟩ = ix3 a b (0 : Fin 1) := by
      funext q; refine Fin.ext ?_
      match q with
      | ⟨0, _⟩ => rfl
      | ⟨1, _⟩ => rfl
      | ⟨2, _⟩ => rfl
    rw [hsi, hk]
    have := k.isLt
    show min (k.val : ℤ).toNat (32 - 1) = k.val
    omega
  | ⟨1, _⟩ =>
    show gather_S32x8_S128x256x1_S128x256x8_2_0_n_n_0_2_18.start (ix3 a b h) idx 1 + gather_S32x8_S128x256x1_S128x256x8_2_0_n_n_0_2_18.batchCoord (ix3 a b h) 1
      + gather_S32x8_S128x256x1_S128x256x8_2_0_n_n_0_2_18.offCoord (ix3 a b h) 1 = h.val
    rw [GatherDims.batchCoord_eq_zero _ _ _ List.not_mem_nil]
    unfold GatherDims.start
    rw [dif_neg (show ¬ (1 : Fin 2) ∈ gather_S32x8_S128x256x1_S128x256x8_2_0_n_n_0_2_18.startIndexMap from
      fun k => absurd (List.mem_singleton.1 k) (by decide : (1 : Fin 2) ≠ 0))]
    simp only [Nat.zero_add, Nat.add_zero]
    rfl

theorem start_at (a : Fin 128) (b : Fin 256) : (val_main_v34 (F := Ideal) (ix3 a b (0 : Fin 1))).toInt = (bucketAt a b).val := by
  refine (show _ = (Cert.TableRefIdeal.Read.val_main_v34 (F := Ideal) (ix3 a b (0 : Fin 1))).toInt from rfl).trans ?_
  rw [Cert.TableRefIdeal.Value.start_word, bucketAt_val]
  have l := bucket_lt (ix2 a b)
  generalize Cert.TableRefIdeal.Read.val_main_v28 (F := Ideal) (ix2 a b) = w at l
  exact BitVec.toInt_eq_toNat_of_lt (by omega)

theorem lookup_eq (x : FVec Ideal S32x8 .f32) : val_main_v42 (F := Ideal) x = lookup x := by
  funext i
  obtain ⟨h, a, b, rfl⟩ : ∃ (h : Fin 8) (a : Fin 128) (b : Fin 256), i = ix3 h a b := ⟨i 0, i 1, i 2, eq_ix3 i⟩
  rw [val_main_v42_apply, val_main_call1_v1_apply, val_main_call1_v2_apply, val_main_v36_apply]
  have ei : idx_main_v36 (ix3 h a b) = ix3 a b h := by
    refine funext fun q => ?_
    match q with
    | ⟨0, _⟩ => rfl
    | ⟨1, _⟩ => rfl
    | ⟨2, _⟩ => rfl
  have ej : idx_main_call1_v1 (ix3 h a b) = ix2 a b := by
    refine funext fun q => ?_
    match q with
    | ⟨0, _⟩ => rfl
    | ⟨1, _⟩ => rfl
  have d : val_main_v8 (F := Ideal) (ix2 a b) = distance a b := by
    rw [val_main_v8_apply, val_main_v6_apply, val_main_v7_apply, val_main_v3_apply, val_main_v2_apply, val_main_v5_apply, val_main_v4_apply,
      val_main_v1_apply]
    rfl
  have w : val_main_v41 (F := Ideal) (ix2 a b) = inside a b := by
    rw [val_main_v41_apply, val_main_v38_apply, val_main_v40_apply, d, val_main_v37_apply, val_main_v39_apply]
    rfl
  have g : val_main_v35 (F := Ideal) x (ix3 a b h) = x (ix2 (bucketAt a b) h) :=
    gather_at x (val_main_v34 (F := Ideal)) a b h _ (start_at a b)
  rw [ei, ej, w, g]
  rfl

/-- The lookup's program terminates and leaves its argument as it was. -/
theorem frame : Cert.quiescent_BiasRefIdeal (hBiasRefIdeal := BiasRefIdeal.Gen.facts) := fun m ρ _ =>
  (θ_run BiasRefIdeal.defs _ _).mono (fun r hr => ⟨fun c => (hr c).2, sem_eq_zero_of_no_sems (by decide) r.2⟩) (run m ρ)

end Cert.BiasRefIdeal.Value

namespace Cert.BiasIdeal

open Idealize.ShloMosaic Idealize.ShloMosaic.TcCoe Idealize.SL.Sem Cert.BiasIdeal.Value

/-- Over the extended reals the call and the lookup leave the same array. -/
theorem algebraic : Cert.algebraic_BiasIdeal_BiasRefIdeal (hBiasIdeal := Gen.facts) (hBiasRefIdeal := BiasRefIdeal.Gen.facts) := by
  intro m g m' g' _ h
  refine ⟨fun c => (Gen.dats m 0 c).arrAt 2 cfg0.N, Value.run_blocks m g, ?_⟩
  refine (BiasRefIdeal.Value.run m' g').mono fun r hr c => ?_
  obtain ⟨hx, hargs⟩ := hr c
  refine ⟨hx.trans ?_, hargs⟩
  refine Eq.trans ?_ (final m c).symm
  refine (Cert.BiasRefIdeal.Read.val_main_v42_eq m' c).trans ?_
  rw [h c]
  exact BiasRefIdeal.Value.lookup_eq _

end Cert.BiasIdeal

end
-- ==== Proof.ModuValue.lean ====
/- The call `mod_partial` and the modulation's forward line leave the same array. -/
module

public import proofs.«01_k».proof.Proof.Gen.ModuIdeal.Value
public import proofs.«01_k».proof.Proof.Gen.Modu.Frame
public import proofs.«01_k».proof.Proof.Gen.ModuRefIdeal.Run
public import proofs.«01_k».proof.Proof.Gen.ModuRefIdeal.Read
public import Idealize.ShloMosaic.Lib.Pointwise
public import Idealize.ShloMosaic.Lib.Pipeline.ValueKit.Geometry
public import proofs.«01_k».proof.Defs

@[expose] public section

set_option maxRecDepth 16384

noncomputable section

namespace Cert.ModuSpec

open Idealize.ShloMosaic

/-- The condition through its gate `x / (1 + exp (-x))`, and its product with the weight. -/
def silu (x : EReal) : EReal := x * Ideal.div 1 (1 + Ideal.exp (-x))
def modulation (x : (⟨2, ![8, 1024]⟩ : Shape).Idx → EReal) (w : (⟨2, ![1024, 768]⟩ : Shape).Idx → EReal) (b : (⟨1, ![768]⟩ : Shape).Idx → EReal)
    (i : (⟨2, ![8, 768]⟩ : Shape).Idx) : EReal :=
  ∑ k : Fin 1024, silu (x (ix2 (i 0) k)) * w (ix2 k (i 1)) + b (ix1 (i 1))

end Cert.ModuSpec

/-! ## The call -/

namespace Cert.ModuIdeal.Value

open Cert.ModuIdeal Cert.ModuIdeal.Gen Idealize.ShloMosaic Idealize.ShloMosaic.TcCoe Idealize.SL.Sem
open Idealize.ShloMosaic.Pipeline (Dat)
open Idealize.ShloMosaic.StableHlo Cert.ModuSpec

theorem z2 : (![0, 0] : Fin 2 → ℕ) = fun _ => 0 := by decide

theorem pay_at (x : Vec Ideal S8x1024 .f32) (w : Vec Ideal S1024x768 .f32) (b : Vec Ideal S1x768 .f32) (r : Fin 8) (l : Fin 768) :
    k0_pay1 (F := Ideal) x w b (ix2 r l) = ∑ k : Fin 1024, silu (x (ix2 r k)) * w (ix2 k l) + b (ix2 0 l) := by
  pointwise [k0_pay1]
  refine congrArg (· + b (ix2 0 l)) (Finset.sum_congr rfl fun k _ => ?_)
  unfold silu
  simp only [sub_eq_add_neg, zero_add]

theorem block (x : Vec Ideal S8x1024 .f32) (w : Vec Ideal S1024x768 .f32) (b : Vec Ideal S1x768 .f32) :
    out0_3 x w b = (k0_pay1 x w b : Vec Ideal S8x768 .f32) := by
  unfold out0_3
  simp only [View.canon_cons_unit_zero (S := S8x768) z2, View.ld_unit_zero (S := S8x1024) z2, View.ld_unit_zero (S := S1024x768) z2,
    View.ld_unit_zero (S := S1x768) z2]

variable (m : (ℓ : Loc nD τ sig) → Buf (Elt Ideal) ℓ) (c : Dev nD)

abbrev A0 : FVec Ideal S8x1024 .f32 := m ((c : Thread nD τ).loc main_arg0)
abbrev A1 : FVec Ideal S1024x768 .f32 := m ((c : Thread nD τ).loc main_arg1)
abbrev A2 : FVec Ideal S768 .f32 := m ((c : Thread nD τ).loc main_arg2)

abbrev one (x : FVec Ideal S768 .f32) : FVec Ideal S1x768 .f32 := broadcastInDim S1x768 ![1] bcast_S768_S1x768_1 x

theorem one_at (x : FVec Ideal S768 .f32) (k : Fin 768) : one x (ix2 (0 : Fin 1) k) = x (ix1 k) := by
  unfold one
  pointwise

theorem V_b : V m c main_v0 = one (A2 m c) := by
  show after (List.flatten [hostOps0]) _ (Proc.devRef .tc main_v0) = _
  simp only [hostOps0, List.flatten_cons, List.flatten_nil, List.append_nil, List.cons_append, List.nil_append]
  after_results

theorem whole_at : ∀ t : Fin grid0.N, win0_0.index t = ![0, 0] ∧ win0_1.index t = ![0, 0] ∧ win0_2.index t = ![0, 0] ∧ win0_3.index t = ![0, 0] := by
  decide +kernel

theorem blk_x (t : Fin cfg0.N) (r : Fin 8) (k : Fin 1024) : (iblk m c 0 t : FVec Ideal S8x1024 .f32) (ix2 r k) = A0 m c (ix2 r k) := by
  blk_simp [iblk]
  rw [V_main_arg0]
  refine congrArg (A0 m c) ?_
  blk_ext [(whole_at t).1]

theorem blk_w (t : Fin cfg0.N) (k : Fin 1024) (l : Fin 768) : (iblk m c 1 t : FVec Ideal S1024x768 .f32) (ix2 k l) = A1 m c (ix2 k l) := by
  blk_simp [iblk]
  rw [V_main_arg1]
  refine congrArg (A1 m c) ?_
  blk_ext [(whole_at t).2.1]

theorem blk_b (t : Fin cfg0.N) (l : Fin 768) : (iblk m c 2 t : FVec Ideal S1x768 .f32) (ix2 (0 : Fin 1) l) = A2 m c (ix1 l) := by
  blk_simp [iblk]
  rw [V_b]
  refine Eq.trans (congrArg (one (A2 m c)) ?_) (one_at _ l)
  blk_ext [(whole_at t).2.2.1]

theorem final : (dats m 0 c).arrAt 3 cfg0.N = modulation (A0 m c) (A1 m c) (A2 m c) := by
  refine (dats m 0 c).arrAt_eq_of_covers 3 _ (by decide +kernel) fun t hf y => ?_
  blk_simp
  rw [after0_3, block]
  obtain ⟨r, l, rfl⟩ : ∃ (r : Fin 8) (l : Fin 768), y = ix2 r l := ⟨y 0, y 1, eq_ix2 y⟩
  have e : (k0_pay1 (iblk m c 0 t) (iblk m c 1 t) (iblk m c 2 t) : FVec Ideal S8x768 .f32) (ix2 r l)
      = modulation (A0 m c) (A1 m c) (A2 m c) (ix2 r l) := by
    rw [pay_at, blk_b]
    refine congrArg (· + A2 m c (ix1 l)) (Finset.sum_congr rfl fun k _ => ?_)
    rw [blk_x, blk_w]
    rfl
  refine e.trans (congrArg (modulation (A0 m c) (A1 m c) (A2 m c)) ?_)
  blk_ext [(whole_at t).2.2.2]

end Cert.ModuIdeal.Value

/-! ## The forward line -/

namespace Cert.ModuRefIdeal.Value

open Cert.ModuRefIdeal Idealize.ShloMosaic Cert.ModuRefIdeal.Read Cert.ModuSpec

theorem gate_at (x : FVec Ideal S8x1024 .f32) (r : Fin 8) (k : Fin 1024) : val_main_v0 (F := Ideal) x (ix2 r k) = silu (x (ix2 r k)) := by
  pointwise [val_main_v0, val_main_call0_v5, val_main_call0_v4, val_main_call0_cst_0, val_main_call0_v3, val_main_call0_v2, val_main_call0_cst,
    val_main_call0_v1, val_main_call0_v0]
  rfl

theorem modulation_eq (x : FVec Ideal S8x1024 .f32) (w : FVec Ideal S1024x768 .f32) (b : FVec Ideal S768 .f32) :
    val_main_v4 (F := Ideal) x w b = modulation x w b := by
  funext i
  obtain ⟨r, l, rfl⟩ : ∃ (r : Fin 8) (l : Fin 768), i = ix2 r l := ⟨i 0, i 1, eq_ix2 i⟩
  pointwise [val_main_v4, val_main_v3, val_main_v2]
  rw [val_main_v1_apply]
  refine congrArg (· + b (ix1 l)) (Finset.sum_congr rfl fun k _ => ?_)
  exact congrArg₂ (fun p q : EReal => p * q) ((congrArg (val_main_v0 (F := Ideal) x) (eq_ix2 _)).trans (gate_at x r k)) (congrArg w (eq_ix2 _))

end Cert.ModuRefIdeal.Value

namespace Cert.ModuIdeal

open Idealize.ShloMosaic Idealize.ShloMosaic.TcCoe Idealize.SL.Sem Cert.ModuIdeal.Value
open Cert.ModuRefIdeal.Read Cert.ModuRefIdeal.Value

/-- Over the extended reals the call and the forward line leave the same array. -/
theorem algebraic : Cert.algebraic_ModuIdeal_ModuRefIdeal (hModuIdeal := Gen.facts) (hModuRefIdeal := ModuRefIdeal.Gen.facts) := by
  intro m g m' g' _ h
  refine ⟨fun c => (Gen.dats m 0 c).arrAt 3 cfg0.N, Value.run_blocks m g, ?_⟩
  refine (ModuRefIdeal.Value.run m' g').mono fun r hr c => ?_
  obtain ⟨k0, hargs⟩ := hr c
  obtain ⟨e0, e1, e2⟩ := h c
  rw [val_main_v4_eq] at k0
  simp only [StableHlo.launchContents_devRef, e0, e1, e2] at k0
  rw [modulation_eq] at k0
  exact ⟨k0.trans (final m c).symm, hargs⟩

end Cert.ModuIdeal

namespace Cert.ModuRefIdeal.Value

open Idealize.ShloMosaic Idealize.ShloMosaic.TcCoe Idealize.SL.Sem

/-- The forward line's program terminates and leaves its arguments as they were. -/
theorem frame : Cert.quiescent_ModuRefIdeal (hModuRefIdeal := ModuRefIdeal.Gen.facts) := fun m ρ _ =>
  (θ_run ModuRefIdeal.defs _ _).mono (fun r hr => ⟨fun c => (hr c).2, sem_eq_zero_of_no_sems (by decide) r.2⟩) (run m ρ)

end Cert.ModuRefIdeal.Value

end
-- ==== Proof.AdaValue.lean ====
/- The call `adam_w_ada` leaves the gradient of the modulation's weight and the optimiser's step that its reference computes. -/
module

public import proofs.«01_k».proof.Proof.Gen.AdaIdeal.Value
public import proofs.«01_k».proof.Proof.Gen.Ada.Frame
public import proofs.«01_k».proof.Proof.Gen.AdaRefIdeal.Run
public import proofs.«01_k».proof.Proof.Gen.AdaRefIdeal.Read
public import Idealize.ShloMosaic.Lib.Pointwise
public import Idealize.ShloMosaic.Lib.Pipeline.ValueKit.Geometry
public import proofs.«01_k».proof.Defs

@[expose] public section

set_option maxRecDepth 16384

noncomputable section

namespace Cert.AdaSpec

open Idealize.ShloMosaic

abbrev Wide : Shape := ⟨2, ![1024, 768]⟩

/-- The condition through its gate, and the weight's gradient: its product with the modulation's gradient, over the devices' rows. -/
def silu (x : EReal) : EReal := x * Ideal.div 1 (1 + Ideal.exp (-x))
def grad (x : (⟨2, ![8, 1024]⟩ : Shape).Idx → EReal) (d : (⟨2, ![8, 768]⟩ : Shape).Idx → EReal) (i : Wide.Idx) : EReal :=
  ∑ k : Fin 8, silu (x (ix2 k (i 0))) * d (ix2 k (i 1))

/-- The optimiser's moments and its change of the weight, with the constants as the words they are rounded to. -/
def first (g m : EReal) : EReal := Ideal.ofBits .f32 0x3F666666#32 * m + Ideal.ofBits .f32 0x3DCCCCCD#32 * g
def second (g v : EReal) : EReal := Ideal.ofBits .f32 0x3F7FBE77#32 * v + Ideal.ofBits .f32 0x3A83126F#32 * (g * g)
def change (g w m v : EReal) : EReal := Ideal.ofBits .f32 0xBA83126F#32
  * (Ideal.div (Ideal.div (first g m) (Ideal.ofBits .f32 0x3F26BD02#32))
      (Ideal.sqrt (Ideal.div (second g v) (Ideal.ofBits .f32 0x3C231ACC#32)) + Ideal.ofBits .f32 0x322BCC77#32)
    + Ideal.ofBits .f32 0x3C23D70A#32 * w)

end Cert.AdaSpec

/-! ## The call -/

namespace Cert.AdaIdeal.Value

open Cert.AdaIdeal Cert.AdaIdeal.Gen Idealize.ShloMosaic Idealize.ShloMosaic.TcCoe Idealize.SL.Sem
open Idealize.ShloMosaic.Pipeline (Dat)
open Idealize.ShloMosaic.StableHlo Cert.AdaSpec

theorem z2 : (![0, 0] : Fin 2 → ℕ) = fun _ => 0 := by decide

section Block

variable (x : Vec Ideal S1024x128 .f32) (d : Vec Ideal S128x768 .f32) (w mo vo : Vec Ideal S1024x768 .f32)

theorem pay2_at (r : Fin 1024) (l : Fin 768) :
    k0_pay2 (F := Ideal) x d (ix2 r l) = ∑ k : Fin 128, silu (x (ix2 r k)) * d (ix2 k l) := by
  pointwise [k0_pay2]
  refine Finset.sum_congr rfl fun k _ => ?_
  unfold silu
  simp only [sub_eq_add_neg, zero_add]

theorem pay3_at (i : S1024x768.Idx) : k0_pay3 (F := Ideal) x d mo i = first (k0_pay2 (F := Ideal) x d i) (mo i) := rfl
theorem pay4_at (i : S1024x768.Idx) : k0_pay4 (F := Ideal) x d vo i = second (k0_pay2 (F := Ideal) x d i) (vo i) := rfl
theorem pay1_at (i : S1024x768.Idx) : k0_pay1 (F := Ideal) w (k0_pay5 x d mo vo) (Scalar.ofBits .f32 0x3C23D70A#32) i
    = change (k0_pay2 (F := Ideal) x d i) (w i) (mo i) (vo i) := rfl

theorem block5 : out0_5 x d w mo vo = (k0_pay2 x d : Vec Ideal S1024x768 .f32) := by
  unfold out0_5
  simp only [View.canon_cons_unit_zero (S := S1024x768) z2, View.ld_unit_zero (S := S1024x128) z2, View.ld_unit_zero (S := S128x768) z2]

theorem block6 : out0_6 x d w mo vo
    = (k0_pay1 w (k0_pay5 x d mo vo) (Scalar.ofBits .f32 0x3C23D70A#32) : Vec Ideal S1024x768 .f32) := by
  unfold out0_6
  simp only [View.canon_cons_unit_zero (S := S1024x768) z2, View.ld_unit_zero (S := S1024x128) z2, View.ld_unit_zero (S := S128x768) z2,
    View.ld_unit_zero (S := S1024x768) z2]

theorem block7 : out0_7 x d w mo vo = (k0_pay3 x d mo : Vec Ideal S1024x768 .f32) := by
  unfold out0_7
  simp only [View.canon_cons_unit_zero (S := S1024x768) z2, View.ld_unit_zero (S := S1024x128) z2, View.ld_unit_zero (S := S128x768) z2,
    View.ld_unit_zero (S := S1024x768) z2]

theorem block8 : out0_8 x d w mo vo = (k0_pay4 x d vo : Vec Ideal S1024x768 .f32) := by
  unfold out0_8
  simp only [View.canon_cons_unit_zero (S := S1024x768) z2, View.ld_unit_zero (S := S1024x128) z2, View.ld_unit_zero (S := S128x768) z2,
    View.ld_unit_zero (S := S1024x768) z2]

end Block

variable (m : (ℓ : Loc nD τ sig) → Buf (Elt Ideal) ℓ) (c : Dev nD)

abbrev A0 : FVec Ideal S8x1024 .f32 := m ((c : Thread nD τ).loc main_arg0)
abbrev A1 : FVec Ideal S8x768 .f32 := m ((c : Thread nD τ).loc main_arg1)
abbrev A2 : FVec Ideal S1024x768 .f32 := m ((c : Thread nD τ).loc main_arg2)
abbrev A3 : FVec Ideal S1024x768 .f32 := m ((c : Thread nD τ).loc main_arg3)
abbrev A4 : FVec Ideal S1024x768 .f32 := m ((c : Thread nD τ).loc main_arg4)

/-! The rows of the eight devices, padded with zeros to 128. -/

abbrev wideC (x : FVec Ideal S8x1024 .f32) : FVec Ideal S1024x128 .f32 :=
  pad S1024x128 ![0, 0] ![0, 120] ![0, 0] (transpose S1024x8 [1, 0] x transposes_S8x1024_S1024x8_1_0) (sitofp .f32 (constantI S_ 32 0#32))
    pads_S1024x8_S1024x128_000_01200 h_S_
abbrev tallD (x : FVec Ideal S8x768 .f32) : FVec Ideal S128x768 .f32 :=
  pad S128x768 ![0, 0] ![120, 0] ![0, 0] x (sitofp .f32 (constantI S_ 32 0#32)) pads_S8x768_S128x768_01200_000 h_S_

theorem wideC_at (x : FVec Ideal S8x1024 .f32) (r : Fin 1024) (k : Fin 8) : wideC x (ix2 r (Fin.castAdd 120 k)) = x (ix2 k r) := by
  unfold wideC
  rw [pad_apply, dif_pos]
  · refine congrArg x (funext fun a => Fin.ext ?_)
    match a with
    | ⟨0, _⟩ => show (k.val - 0) / (0 + 1) = k.val; omega
    | ⟨1, _⟩ => show (r.val - 0) / (0 + 1) = r.val; omega
  · intro a
    match a with
    | ⟨0, _⟩ => exact ⟨Nat.zero_le _, Nat.mod_one _, by show (r.val - 0) / (0 + 1) < 1024; have := r.isLt; omega⟩
    | ⟨1, _⟩ => exact ⟨Nat.zero_le _, Nat.mod_one _, by show (k.val - 0) / (0 + 1) < 8; have := k.isLt; omega⟩

theorem tallD_at (x : FVec Ideal S8x768 .f32) (k : Fin 8) (l : Fin 768) : tallD x (ix2 (Fin.castAdd 120 k) l) = x (ix2 k l) := by
  unfold tallD
  rw [pad_apply, dif_pos]
  · refine congrArg x (funext fun a => Fin.ext ?_)
    match a with
    | ⟨0, _⟩ => show (k.val - 0) / (0 + 1) = k.val; omega
    | ⟨1, _⟩ => show (l.val - 0) / (0 + 1) = l.val; omega
  · intro a
    match a with
    | ⟨0, _⟩ => exact ⟨Nat.zero_le _, Nat.mod_one _, by show (k.val - 0) / (0 + 1) < 8; have := k.isLt; omega⟩
    | ⟨1, _⟩ => exact ⟨Nat.zero_le _, Nat.mod_one _, by show (l.val - 0) / (0 + 1) < 768; have := l.isLt; omega⟩

theorem tallD_zero (x : FVec Ideal S8x768 .f32) (k : Fin 120) (l : Fin 768) : tallD x (ix2 (Fin.natAdd 8 k) l) = 0 := by
  unfold tallD
  rw [pad_apply, dif_neg]
  · show ((((0#32 : BitVec 32).toInt : ℝ)) : EReal) = 0
    norm_num
  · intro h
    have h0 : (8 + k.val - 0) / (0 + 1) < 8 := (h 0).2.2
    omega

/-- The padding adds nothing to the product. -/
theorem product (x : FVec Ideal S8x1024 .f32) (d : FVec Ideal S8x768 .f32) (r : Fin 1024) (l : Fin 768) :
    ∑ k : Fin 128, silu (wideC x (ix2 r k)) * tallD d (ix2 k l) = grad x d (ix2 r l) := by
  refine (Fin.sum_univ_add (a := 8) (b := 120) fun k => silu (wideC x (ix2 r k)) * tallD d (ix2 k l)).trans ?_
  rw [Finset.sum_eq_zero (f := fun k : Fin 120 => silu (wideC x (ix2 r (Fin.natAdd 8 k))) * tallD d (ix2 (Fin.natAdd 8 k) l)) fun k _ => by
    rw [tallD_zero, mul_zero], add_zero]
  refine Finset.sum_congr rfl fun k _ => ?_
  rw [wideC_at, tallD_at]
  rfl

theorem V_c : V m c main_v1 = wideC (A0 m c) := by
  show after (List.flatten [hostOps0, hostOps0_1, hostOps0_2, hostOps0_3]) _ (Proc.devRef .tc main_v1) = _
  simp only [hostOps0, hostOps0_1, hostOps0_2, hostOps0_3, List.flatten_cons, List.flatten_nil, List.append_nil, List.cons_append, List.nil_append,
    TRef.unary, TRef.binary, TRef.toBuf, TRef.ofBuf, cast_eq]
  after_results_simp

theorem V_d : V m c main_v2 = tallD (A1 m c) := by
  show after (List.flatten [hostOps0, hostOps0_1, hostOps0_2, hostOps0_3]) _ (Proc.devRef .tc main_v2) = _
  simp only [hostOps0, hostOps0_1, hostOps0_2, hostOps0_3, List.flatten_cons, List.flatten_nil, List.append_nil, List.cons_append, List.nil_append,
    TRef.unary, TRef.binary, TRef.toBuf, TRef.ofBuf, cast_eq]
  after_results_simp

theorem whole_at : ∀ t : Fin grid0.N, win0_0.index t = ![0, 0] ∧ win0_1.index t = ![0, 0] ∧ win0_2.index t = ![0, 0] ∧ win0_3.index t = ![0, 0]
    ∧ win0_4.index t = ![0, 0] ∧ win0_5.index t = ![0, 0] ∧ win0_6.index t = ![0, 0] ∧ win0_7.index t = ![0, 0] ∧ win0_8.index t = ![0, 0] := by
  decide +kernel

theorem blk_c (t : Fin cfg0.N) (r : Fin 1024) (k : Fin 128) : (iblk m c 0 t : FVec Ideal S1024x128 .f32) (ix2 r k) = wideC (A0 m c) (ix2 r k) := by
  blk_simp [iblk]
  rw [V_c]
  generalize wideC (A0 m c) = a
  refine congrArg a ?_
  blk_ext [(whole_at t).1]

theorem blk_d (t : Fin cfg0.N) (k : Fin 128) (l : Fin 768) : (iblk m c 1 t : FVec Ideal S128x768 .f32) (ix2 k l) = tallD (A1 m c) (ix2 k l) := by
  blk_simp [iblk]
  rw [V_d]
  generalize tallD (A1 m c) = a
  refine congrArg a ?_
  blk_ext [(whole_at t).2.1]

theorem blk_w (t : Fin cfg0.N) (r : Fin 1024) (l : Fin 768) : (iblk m c 2 t : FVec Ideal S1024x768 .f32) (ix2 r l) = A2 m c (ix2 r l) := by
  blk_simp [iblk]
  rw [V_main_arg2]
  refine congrArg (A2 m c) ?_
  blk_ext [(whole_at t).2.2.1]

theorem blk_m (t : Fin cfg0.N) (r : Fin 1024) (l : Fin 768) : (iblk m c 3 t : FVec Ideal S1024x768 .f32) (ix2 r l) = A3 m c (ix2 r l) := by
  blk_simp [iblk]
  rw [V_main_arg3]
  refine congrArg (A3 m c) ?_
  blk_ext [(whole_at t).2.2.2.1]

theorem blk_v (t : Fin cfg0.N) (r : Fin 1024) (l : Fin 768) : (iblk m c 4 t : FVec Ideal S1024x768 .f32) (ix2 r l) = A4 m c (ix2 r l) := by
  blk_simp [iblk]
  rw [V_main_arg4]
  refine congrArg (A4 m c) ?_
  blk_ext [(whole_at t).2.2.2.2.1]

theorem point_g (t : Fin cfg0.N) (r : Fin 1024) (l : Fin 768) :
    (k0_pay2 (iblk m c 0 t) (iblk m c 1 t) : FVec Ideal S1024x768 .f32) (ix2 r l) = grad (A0 m c) (A1 m c) (ix2 r l) := by
  rw [pay2_at, ← product]
  refine Finset.sum_congr rfl fun k _ => ?_
  rw [blk_c, blk_d]

/-- The four arrays. -/
def stepped (g w mo vo : Wide.Idx → EReal) (i : Wide.Idx) : EReal := change (g i) (w i) (mo i) (vo i)
def firsts (g mo : Wide.Idx → EReal) (i : Wide.Idx) : EReal := first (g i) (mo i)
def seconds (g vo : Wide.Idx → EReal) (i : Wide.Idx) : EReal := second (g i) (vo i)

theorem final_g : (dats m 0 c).arrAt 5 cfg0.N = grad (A0 m c) (A1 m c) := by
  refine (dats m 0 c).arrAt_eq_of_covers 5 _ (by decide +kernel) fun t hf y => ?_
  blk_simp
  rw [after0_5, block5]
  obtain ⟨r, l, rfl⟩ : ∃ (r : Fin 1024) (l : Fin 768), y = ix2 r l := ⟨y 0, y 1, eq_ix2 y⟩
  refine (point_g m c t r l).trans (congrArg (grad (A0 m c) (A1 m c)) ?_)
  blk_ext [(whole_at t).2.2.2.2.2.1]

theorem final_d : (dats m 0 c).arrAt 6 cfg0.N = stepped (grad (A0 m c) (A1 m c)) (A2 m c) (A3 m c) (A4 m c) := by
  refine (dats m 0 c).arrAt_eq_of_covers 6 _ (by decide +kernel) fun t hf y => ?_
  blk_simp
  rw [after0_6, block6]
  obtain ⟨r, l, rfl⟩ : ∃ (r : Fin 1024) (l : Fin 768), y = ix2 r l := ⟨y 0, y 1, eq_ix2 y⟩
  have e : stepped (grad (A0 m c) (A1 m c)) (A2 m c) (A3 m c) (A4 m c) (ix2 r l)
      = (k0_pay1 (iblk m c 2 t) (k0_pay5 (iblk m c 0 t) (iblk m c 1 t) (iblk m c 3 t) (iblk m c 4 t)) (Scalar.ofBits .f32 0x3C23D70A#32)
          : FVec Ideal S1024x768 .f32) (ix2 r l) := by
    rw [pay1_at, point_g, blk_w, blk_m, blk_v]
    rfl
  refine e.symm.trans (congrArg (stepped (grad (A0 m c) (A1 m c)) (A2 m c) (A3 m c) (A4 m c)) ?_)
  blk_ext [(whole_at t).2.2.2.2.2.2.1]

theorem final_m : (dats m 0 c).arrAt 7 cfg0.N = firsts (grad (A0 m c) (A1 m c)) (A3 m c) := by
  refine (dats m 0 c).arrAt_eq_of_covers 7 _ (by decide +kernel) fun t hf y => ?_
  blk_simp
  rw [after0_7, block7]
  obtain ⟨r, l, rfl⟩ : ∃ (r : Fin 1024) (l : Fin 768), y = ix2 r l := ⟨y 0, y 1, eq_ix2 y⟩
  have e : firsts (grad (A0 m c) (A1 m c)) (A3 m c) (ix2 r l)
      = (k0_pay3 (iblk m c 0 t) (iblk m c 1 t) (iblk m c 3 t) : FVec Ideal S1024x768 .f32) (ix2 r l) := by
    rw [pay3_at, point_g, blk_m]
    rfl
  refine e.symm.trans (congrArg (firsts (grad (A0 m c) (A1 m c)) (A3 m c)) ?_)
  blk_ext [(whole_at t).2.2.2.2.2.2.2.1]

theorem final_v : (dats m 0 c).arrAt 8 cfg0.N = seconds (grad (A0 m c) (A1 m c)) (A4 m c) := by
  refine (dats m 0 c).arrAt_eq_of_covers 8 _ (by decide +kernel) fun t hf y => ?_
  blk_simp
  rw [after0_8, block8]
  obtain ⟨r, l, rfl⟩ : ∃ (r : Fin 1024) (l : Fin 768), y = ix2 r l := ⟨y 0, y 1, eq_ix2 y⟩
  have e : seconds (grad (A0 m c) (A1 m c)) (A4 m c) (ix2 r l)
      = (k0_pay4 (iblk m c 0 t) (iblk m c 1 t) (iblk m c 4 t) : FVec Ideal S1024x768 .f32) (ix2 r l) := by
    rw [pay4_at, point_g, blk_v]
    rfl
  refine e.symm.trans (congrArg (seconds (grad (A0 m c) (A1 m c)) (A4 m c)) ?_)
  blk_ext [(whole_at t).2.2.2.2.2.2.2.2]

end Cert.AdaIdeal.Value

/-! ## The reference -/

namespace Cert.AdaRefIdeal.Value

open Cert.AdaRefIdeal Idealize.ShloMosaic Cert.AdaRefIdeal.Read Cert.AdaSpec
open Cert.AdaIdeal.Value (stepped firsts seconds)

variable (x : FVec Ideal S8x1024 .f32) (d : FVec Ideal S8x768 .f32) (w mo vo : FVec Ideal S1024x768 .f32)

theorem gate_at (r : Fin 8) (k : Fin 1024) : val_main_v0 (F := Ideal) x (ix2 r k) = silu (x (ix2 r k)) := by
  pointwise [val_main_v0, val_main_call0_v5, val_main_call0_v4, val_main_call0_cst_0, val_main_call0_v3, val_main_call0_v2, val_main_call0_cst,
    val_main_call0_v1, val_main_call0_v0]
  rfl

theorem grad_eq : val_main_v3 (F := Ideal) x d = grad x d := by
  funext i
  obtain ⟨r, l, rfl⟩ : ∃ (r : Fin 1024) (l : Fin 768), i = ix2 r l := ⟨i 0, i 1, eq_ix2 i⟩
  rw [val_main_v3_apply, val_main_v2_apply]
  refine Finset.sum_congr rfl fun k _ => ?_
  rw [mul_comm]
  exact congrArg₂ (fun p q : EReal => p * q) ((congrArg (val_main_v0 (F := Ideal) x) (eq_ix2 _)).trans (gate_at x k r)) (congrArg d (eq_ix2 _))

theorem first_eq : val_main_v8 (F := Ideal) x d mo = firsts (grad x d) mo := by
  funext i
  rw [← grad_eq, val_main_v8_apply, val_main_v7_apply, val_main_v6_apply, val_main_v5_apply, val_main_v4_apply]
  rfl

theorem second_eq : val_main_v14 (F := Ideal) x d vo = seconds (grad x d) vo := by
  funext i
  rw [← grad_eq, val_main_v14_apply, val_main_v13_apply, val_main_v12_apply, val_main_v11_apply, val_main_v10_apply, val_main_v9_apply]
  rfl

theorem change_eq : val_main_v27 (F := Ideal) x d w mo vo = stepped (grad x d) w mo vo := by
  funext i
  rw [val_main_v27_apply, val_main_v26_apply, val_main_v25_apply, val_main_v24_apply, val_main_v23_apply, val_main_v22_apply, val_main_v21_apply,
    val_main_v20_apply, val_main_v19_apply, val_main_v18_apply, val_main_v17_apply, val_main_v16_apply, val_main_v15_apply, first_eq, second_eq]
  rfl

end Cert.AdaRefIdeal.Value

namespace Cert.AdaIdeal

open Idealize.ShloMosaic Idealize.ShloMosaic.TcCoe Idealize.SL.Sem Cert.AdaIdeal.Value
open Cert.AdaRefIdeal.Read Cert.AdaRefIdeal.Value

/-- Over the extended reals the call and its reference leave the same four arrays. -/
theorem algebraic : Cert.algebraic_AdaIdeal_AdaRefIdeal (hAdaIdeal := Gen.facts) (hAdaRefIdeal := AdaRefIdeal.Gen.facts) := by
  intro m g m' g' _ h
  refine ⟨fun c => (Gen.dats m 0 c).arrAt 5 cfg0.N, fun c => (Gen.dats m 0 c).arrAt 6 cfg0.N, fun c => (Gen.dats m 0 c).arrAt 7 cfg0.N,
    fun c => (Gen.dats m 0 c).arrAt 8 cfg0.N, Value.run_blocks m g, ?_⟩
  refine (AdaRefIdeal.Value.run m' g').mono fun r hr c => ?_
  obtain ⟨k0, k1, k2, k3, hargs⟩ := hr c
  obtain ⟨e0, e1, e2, e3, e4⟩ := h c
  rw [val_main_v3_eq, e0, e1, grad_eq] at k0
  rw [val_main_v27_eq, e0, e1, e2, e3, e4, change_eq] at k1
  rw [val_main_v8_eq, e0, e1, e3, first_eq] at k2
  rw [val_main_v14_eq, e0, e1, e4, second_eq] at k3
  exact ⟨k0.trans (final_g m c).symm, k1.trans (final_d m c).symm, k2.trans (final_m m c).symm, k3.trans (final_v m c).symm, hargs⟩

end Cert.AdaIdeal

namespace Cert.AdaRefIdeal.Value

open Idealize.ShloMosaic Idealize.ShloMosaic.TcCoe Idealize.SL.Sem

/-- The reference terminates and leaves its arguments as they were. -/
theorem frame : Cert.quiescent_AdaRefIdeal (hAdaRefIdeal := AdaRefIdeal.Gen.facts) := fun m ρ _ =>
  (θ_run AdaRefIdeal.defs _ _).mono (fun r hr => ⟨fun c => (hr c).2.2.2.2, sem_eq_zero_of_no_sems (by decide) r.2⟩) (run m ρ)

end Cert.AdaRefIdeal.Value

end
-- ==== Proof.WgradValue.lean ====
/- The call `wgrad_gate_up`, the largest plain product of the step, leaves the product its reference computes: four tiles of
   the result, each a running sum over four tiles of the rows. -/
module

public import proofs.«01_k».proof.Proof.Gen.WgradIdeal.Frame
public import proofs.«01_k».proof.Proof.Gen.Wgrad.Frame
public import proofs.«01_k».proof.Proof.Gen.WgradRefIdeal.Run
public import proofs.«01_k».proof.Proof.Gen.WgradRefIdeal.Read
public import Idealize.ShloMosaic.Lib.Pointwise
public import Idealize.ShloMosaic.Lib.Pipeline.Value
public import Idealize.ShloMosaic.Lib.Pipeline.ValueKit.Acc
public import Idealize.ShloMosaic.Lib.Pipeline.ValueKit.Geometry
public import proofs.«01_k».proof.Defs

@[expose] public section

set_option maxRecDepth 16384

noncomputable section

namespace Cert.WgradSpec

open Idealize.ShloMosaic

/-- The two gradients side by side, and the product over the rows. -/
def both (g u : (⟨2, ![8192, 2816]⟩ : Shape).Idx → EReal) (k : Fin 8192) (o : Fin 5632) : EReal :=
  if h : o.val < 2816 then g (ix2 k ⟨o.val, h⟩) else u (ix2 k ⟨o.val - 2816, by omega⟩)
def prod (x : (⟨2, ![8192, 1024]⟩ : Shape).Idx → EReal) (g u : (⟨2, ![8192, 2816]⟩ : Shape).Idx → EReal)
    (i : (⟨2, ![5632, 1024]⟩ : Shape).Idx) : EReal :=
  ∑ k : Fin 8192, both g u k (i 0) * x (ix2 k (i 1))

end Cert.WgradSpec

/-! ## The call -/

namespace Cert.WgradIdeal.Value

open Cert.WgradIdeal Cert.WgradIdeal.Gen Idealize.ShloMosaic Idealize.ShloMosaic.TcCoe Idealize.SL.Sem
open Idealize.ShloMosaic.Pipeline (Dat)
open Idealize.ShloMosaic.StableHlo Cert.WgradSpec

variable (m : (ℓ : Loc nD τ sig) → Buf (Elt Ideal) ℓ) (c : Dev nD)

abbrev A0 : FVec Ideal S8192x1024 .f32 := m ((c : Thread nD τ).loc main_arg0)
abbrev A1 : FVec Ideal S8192x2816 .f32 := m ((c : Thread nD τ).loc main_arg1)
abbrev A2 : FVec Ideal S8192x2816 .f32 := m ((c : Thread nD τ).loc main_arg2)

theorem V_g : V m c main_v0 = (A1 m c : S8192x2816.Idx → EReal) := by
  show after hostOps0 _ (Proc.devRef .tc main_v0) = _
  after_results
  rfl

theorem V_x : V m c main_v1 = (A0 m c : S8192x1024.Idx → EReal) := by
  show after hostOps0 _ (Proc.devRef .tc main_v1) = _
  after_results
  rfl

theorem V_u : V m c main_v2 = (A2 m c : S8192x2816.Idx → EReal) := by
  show after hostOps0 _ (Proc.devRef .tc main_v2) = _
  after_results
  rfl

/-- Which tiles a point reads: the row tile `t % 4`, and of the result's four tiles `t / 4` two from each gradient. -/
theorem half_at : ∀ t : Fin grid0.N, Scalar.cmpi .slt (BitVec.ofNat 32 (grid0.coords t 0).val) 2#32 = BitVec.ofBool (decide (t.val / 4 < 2)) := by
  decide +kernel
theorem gate_at : ∀ t : Fin grid0.N, t.val / 4 < 2 → win0_0.index t = ![t.val % 4, t.val / 4] := by decide +kernel
theorem up_at : ∀ t : Fin grid0.N, ¬t.val / 4 < 2 → win0_1.index t = ![t.val % 4, t.val / 4 - 2] := by decide +kernel
theorem rows_at : ∀ t : Fin grid0.N, win0_2.index t = ![t.val % 4, 0] := by decide +kernel
theorem tile_at : ∀ t : Fin grid0.N, win0_3.index t = ![t.val / 4, 0] := by decide +kernel

/-- What a point adds. -/
def row (t : Fin cfg0.N) (k : Fin 2048) : Fin 8192 := ⟨t.val % 4 * 2048 + k.val, by omega⟩
def lane (t : Fin cfg0.N) (r : Fin 1408) : Fin 5632 :=
  ⟨t.val / 4 * 1408 + r.val, by have := lt_of_lt_of_eq t.isLt (show cfg0.N = 16 from N_0); omega⟩
def term (t : Fin cfg0.N) (j : S1408x1024.Idx) : EReal :=
  ∑ k : Fin 2048, both (A1 m c) (A2 m c) (row t k) (lane t (j 0)) * A0 m c (ix2 (row t k) (j 1))

/-- The point's input blocks, by name. -/
abbrev bG (t : Fin cfg0.N) : S2048x1408.Idx → EReal := iblk m c 0 t
abbrev bU (t : Fin cfg0.N) : S2048x1408.Idx → EReal := iblk m c 1 t
abbrev bX (t : Fin cfg0.N) : S2048x1024.Idx → EReal := iblk m c 2 t

theorem blk_x (t : Fin cfg0.N) (k : Fin 2048) (l : Fin 1024) :
    bX m c t (ix2 k l) = A0 m c (ix2 (row t k) l) := by
  blk_simp [iblk]
  rw [V_x]
  generalize A0 m c = a
  refine congrArg a ?_
  blk_ext [rows_at t, row]

theorem blk_g (t : Fin cfg0.N) (h : t.val / 4 < 2) (k : Fin 2048) (r : Fin 1408) :
    bG m c t (ix2 k r) = both (A1 m c) (A2 m c) (row t k) (lane t r) := by
  have hl : (lane t r).val < 2816 := by show t.val / 4 * 1408 + r.val < 2816; have := r.isLt; omega
  unfold both
  rw [dif_pos hl]
  blk_simp [iblk]
  rw [V_g]
  generalize A1 m c = a
  refine congrArg a ?_
  blk_ext [gate_at t h, row, lane]

theorem blk_u (t : Fin cfg0.N) (h : ¬t.val / 4 < 2) (k : Fin 2048) (r : Fin 1408) :
    bU m c t (ix2 k r) = both (A1 m c) (A2 m c) (row t k) (lane t r) := by
  have hl : ¬(lane t r).val < 2816 := by show ¬t.val / 4 * 1408 + r.val < 2816; omega
  unfold both
  rw [dif_neg hl]
  blk_simp [iblk]
  rw [V_u]
  generalize A2 m c = a
  refine congrArg a ?_
  blk_ext [up_at t h, row, lane]
  all_goals omega

theorem pay1_at (j : S1408x1024.Idx) : k0_pay1 (F := Ideal) j = 0 := by
  pointwise [k0_pay1]

theorem pay2_at (t : Fin cfg0.N) (acc : Vec Ideal S1408x1024 .f32) (j : S1408x1024.Idx) :
    k0_pay2 (grid0.coords t) (iblk m c 0 t) (iblk m c 1 t) acc (iblk m c 2 t) j = acc j + term m c t j := by
  obtain ⟨r, l, rfl⟩ : ∃ (r : Fin 1408) (l : Fin 1024), j = ix2 r l := ⟨j 0, j 1, eq_ix2 j⟩
  unfold k0_pay2
  dsimp only
  rw [half_at]
  by_cases h : t.val / 4 < 2
  · rw [decide_eq_true h]
    have e : ∀ k : Fin 2048, both (A1 m c) (A2 m c) (row t k) (lane t r) * A0 m c (ix2 (row t k) l)
        = bG m c t (ix2 k r) * bX m c t (ix2 k l) := fun k => by
      rw [blk_g m c t h, blk_x]
    refine Eq.trans ?_ (congrArg (fun s : EReal => acc (ix2 r l) + s) (Finset.sum_congr rfl fun k _ => (e k).symm))
    pointwise
  · rw [decide_eq_false h]
    have e : ∀ k : Fin 2048, both (A1 m c) (A2 m c) (row t k) (lane t r) * A0 m c (ix2 (row t k) l)
        = bU m c t (ix2 k r) * bX m c t (ix2 k l) := fun k => by
      rw [blk_u m c t h, blk_x]
    refine Eq.trans ?_ (congrArg (fun s : EReal => acc (ix2 r l) + s) (Finset.sum_congr rfl fun k _ => (e k).symm))
    pointwise
    simp only [Bool.false_eq_true, if_false]

/-- What is written whole is read back. -/
theorem back (h : (Memref.whole cc0_scratch0).IsWhole) (x : S1408x1024.Idx → EReal) :
    View.read (Elt Ideal) (View.whole cc0_scratch0) (h.unread x) = x :=
  Memref.IsWhole.read_unread (m := Memref.whole cc0_scratch0) (Val := Elt Ideal) h x

/-- The running sum starts at zero with each tile of the result, and each point adds its rows. -/
theorem sum_first (t : Fin cfg0.N) (h : t.val % 4 = 0) (j : S1408x1024.Idx) :
    (outsAt0 m c t.val t.isLt).2 j = 0 + term m c t j := by
  rw [outsAt0_A m c t h (by omega)]
  frame_out
  rw [pay2_at, pay1_at]

theorem sum_later (t : Fin cfg0.N) (h : ¬t.val % 4 = 0) (j : S1408x1024.Idx) :
    (outsAt0 m c t.val t.isLt).2 j
      = (outsAt0 m c (t.val - 1) (Nat.lt_of_le_of_lt (Nat.sub_le _ _) t.isLt)).2 j + term m c t j := by
  by_cases h3 : t.val % 4 = 3
  · rw [outsAt0_C m c t h h3]
    frame_out
    rw [pay2_at, back]
  · rw [outsAt0_B m c t h h3]
    frame_out
    rw [pay2_at, back]

/-- The last point of a tile stores the running sum. -/
theorem stored (t : Fin cfg0.N) (h3 : t.val % 4 = 3) (j : S1408x1024.Idx) :
    ((outsAt0 m c t.val t.isLt).1 : S1408x1024.Idx → EReal) j = (outsAt0 m c t.val t.isLt).2 j := by
  have e2 := sum_later m c t (by omega) j
  rw [e2, outsAt0_C m c t (by omega) h3]
  frame_out
  rw [back]
  exact pay2_at m c t _ j

theorem tile_sum (t : Fin cfg0.N) (h3 : t.val % 4 = 3) (r : Fin 1408) (l : Fin 1024) :
    ((outsAt0 m c t.val t.isLt).1 : S1408x1024.Idx → EReal) (ix2 r l) = prod (A0 m c) (A1 m c) (A2 m c) (ix2 (lane t r) l) := by
  rw [stored m c t h3, Pipeline.eq_sum_fin_of_reset_step_apply_of_flush (fun n h => (outsAt0 m c n h).2) 4 (fun _ => (0 : EReal)) (term m c)
    (sum_first m c) (sum_later m c) t h3 (ix2 r l), zero_add]
  refine Fin.sum_mul_add_congr (L := 8192) fun s k hl => ?_
  have hr : row ⟨4 * (t.val / 4) + s.val, Pipeline.run_point_lt_of_flush t h3 s⟩ k = ⟨s.val * 2048 + k.val, hl⟩ :=
    Fin.ext (by show (4 * (t.val / 4) + s.val) % 4 * 2048 + k.val = s.val * 2048 + k.val; have := s.isLt; omega)
  have hq : lane ⟨4 * (t.val / 4) + s.val, Pipeline.run_point_lt_of_flush t h3 s⟩ r = lane t r :=
    Fin.ext (by show (4 * (t.val / 4) + s.val) / 4 * 1408 + r.val = t.val / 4 * 1408 + r.val; have := s.isLt; omega)
  show both _ _ (row _ k) (lane _ r) * A0 m c (ix2 (row _ k) l) = _
  rw [hr, hq]
  rfl

theorem final : (dats m 0 c).arrAt 3 cfg0.N = prod (A0 m c) (A1 m c) (A2 m c) := by
  refine (dats m 0 c).arrAt_eq_of_covers 3 _ (by decide +kernel) fun t hf y => ?_
  blk_simp
  rw [after0_3]
  obtain ⟨r, l, rfl⟩ : ∃ (r : Fin 1408) (l : Fin 1024), y = ix2 r l := ⟨y 0, y 1, eq_ix2 y⟩
  refine (tile_sum m c t ((flush0_3 t).mp hf) r l).trans (congrArg (prod (A0 m c) (A1 m c) (A2 m c)) ?_)
  blk_ext [tile_at t, lane]

/-- An argument no window stages stays as launched. -/
theorem kept (r : PUnit × MemSt nD τ sig (Elt Ideal)) (h : Pipeline.FramePost cfgs (dats m) 0 (V m) r) :
    r.2.mem ((c : Thread nD τ).loc main_arg0) = m ((c : Thread nD τ).loc main_arg0)
    ∧ r.2.mem ((c : Thread nD τ).loc main_arg1) = m ((c : Thread nD τ).loc main_arg1)
    ∧ r.2.mem ((c : Thread nD τ).loc main_arg2) = m ((c : Thread nD τ).loc main_arg2) :=
  ⟨((h c).2 main_arg0 (Pipeline.mem_restRefs_of main_arg0 (by decide) (by decide))).trans (V_main_arg0 m c),
    ((h c).2 main_arg1 (Pipeline.mem_restRefs_of main_arg1 (by decide) (by decide))).trans (V_main_arg1 m c),
    ((h c).2 main_arg2 (Pipeline.mem_restRefs_of main_arg2 (by decide) (by decide))).trans (V_main_arg2 m c)⟩

end Cert.WgradIdeal.Value

/-! ## The reference -/

namespace Cert.WgradRefIdeal.Value

open Cert.WgradRefIdeal Cert.WgradRefIdeal.Gen Idealize.ShloMosaic Cert.WgradRefIdeal.Read Cert.WgradSpec

variable (x : FVec Ideal S8192x1024 .f32) (g u : FVec Ideal S8192x2816 .f32)

theorem both_at (k : Fin 8192) (o : Fin 5632) : val_main_v0 (F := Ideal) g u (ix2 k o) = both g u k o := by
  unfold val_main_v0 both
  by_cases h : o.val < 2816
  · rw [dif_pos h]
    exact concatenate_pair_apply_left (1 : Fin 2) g u concatenates_S8192x2816_S8192x2816_S8192x5632_d1 (ix2 k o) rfl (ix2 k (⟨o.val, h⟩ : Fin 2816))
      fun b => by match b with | ⟨0, _⟩ => rfl | ⟨1, _⟩ => rfl
  · rw [dif_neg h]
    exact concatenate_pair_apply_right (1 : Fin 2) g u concatenates_S8192x2816_S8192x2816_S8192x5632_d1 (ix2 k o) rfl rfl
      (ix2 k (⟨o.val - 2816, by omega⟩ : Fin 2816))
      (fun b hb => by match b with | ⟨0, _⟩ => rfl | ⟨1, _⟩ => exact absurd rfl hb) (by show o.val - 2816 + 2816 = o.val; omega)

theorem prod_eq : (val_main_v6 (F := Ideal) x g u : S5632x1024.Idx → EReal) = prod x g u := by
  funext i
  obtain ⟨r, l, rfl⟩ : ∃ (r : Fin 5632) (l : Fin 1024), i = ix2 r l := ⟨i 0, i 1, eq_ix2 i⟩
  rw [val_main_v6_apply, val_main_v5_apply, val_main_v4_apply]
  show val_main_v3 (F := Ideal) x g u _ = _
  rw [val_main_v3_apply]
  refine Finset.sum_congr rfl fun k _ => ?_
  exact congrArg₂ (fun p q : EReal => p * q) ((congrArg (val_main_v0 (F := Ideal) g u) (eq_ix2 _)).trans (both_at g u k r)) (congrArg x (eq_ix2 _))

end Cert.WgradRefIdeal.Value

namespace Cert.WgradIdeal

open Idealize.ShloMosaic Idealize.ShloMosaic.TcCoe Idealize.SL.Sem Cert.WgradIdeal.Value
open Cert.WgradRefIdeal.Read Cert.WgradRefIdeal.Value

/-- Over the extended reals the call and its reference leave the same array. -/
theorem algebraic : Cert.algebraic_WgradIdeal_WgradRefIdeal (hWgradIdeal := Gen.facts) (hWgradRefIdeal := WgradRefIdeal.Gen.facts) := by
  intro m g m' g' _ h
  refine ⟨fun c => (Gen.dats m 0 c).arrAt 3 cfg0.N, (θ_run defs _ _).mono (fun r h c => ⟨(h c).1 3, kept m c r h⟩) (Gen.run_main m g), ?_⟩
  refine (WgradRefIdeal.Value.run m' g').mono fun r hr c => ?_
  obtain ⟨k, hargs⟩ := hr c
  obtain ⟨e0, e1, e2⟩ := h c
  rw [val_main_v6_eq, e0, e1, e2] at k
  exact ⟨k.trans ((prod_eq _ _ _).trans (final m c).symm), hargs⟩

end Cert.WgradIdeal

namespace Cert.WgradRefIdeal.Value

open Idealize.ShloMosaic Idealize.ShloMosaic.TcCoe Idealize.SL.Sem

/-- The reference terminates and leaves its arguments as they were. -/
theorem frame : Cert.quiescent_WgradRefIdeal (hWgradRefIdeal := WgradRefIdeal.Gen.facts) := fun m ρ _ =>
  (θ_run WgradRefIdeal.defs _ _).mono (fun r hr => ⟨fun c => (hr c).2, sem_eq_zero_of_no_sems (by decide) r.2⟩) (run m ρ)

end Cert.WgradRefIdeal.Value

end
-- ==== Proof.DownValue.lean ====
/- The call `adam_w_down` leaves the sum of the devices' parts of the gradient and the optimiser's step that its reference computes. -/
module

public import proofs.«01_k».proof.Proof.Gen.DownIdeal.Value
public import proofs.«01_k».proof.Proof.Gen.Down.Frame
public import proofs.«01_k».proof.Proof.Gen.DownRefIdeal.Run
public import proofs.«01_k».proof.Proof.Gen.DownRefIdeal.Read
public import proofs.«01_k».proof.Proof.AdaValue

@[expose] public section

set_option maxRecDepth 16384

noncomputable section

namespace Cert.DownSpec

open Idealize.ShloMosaic Cert.AdaSpec

abbrev Tall : Shape := ⟨2, ![352, 1024]⟩

/-- The gradient from its parts, and the three arrays of the step. -/
def total (p : (⟨3, ![8, 352, 1024]⟩ : Shape).Idx → EReal) (i : Tall.Idx) : EReal := ∑ k : Fin 8, p (ix3 k (i 0) (i 1))
def stepped (g w mo vo : Tall.Idx → EReal) (i : Tall.Idx) : EReal := change (g i) (w i) (mo i) (vo i)
def firsts (g mo : Tall.Idx → EReal) (i : Tall.Idx) : EReal := first (g i) (mo i)
def seconds (g vo : Tall.Idx → EReal) (i : Tall.Idx) : EReal := second (g i) (vo i)

end Cert.DownSpec

/-! ## The call -/

namespace Cert.DownIdeal.Value

open Cert.DownIdeal Cert.DownIdeal.Gen Idealize.ShloMosaic Idealize.ShloMosaic.TcCoe Idealize.SL.Sem
open Idealize.ShloMosaic.Pipeline (Dat)
open Idealize.ShloMosaic.StableHlo Cert.AdaSpec Cert.DownSpec

theorem z2 : (![0, 0] : Fin 2 → ℕ) = fun _ => 0 := by decide

section Block

variable (p : Vec Ideal S8x176x1024 .bf16) (w mo vo : Vec Ideal S176x1024 .f32)

/-- One device's part, as it is loaded. -/
theorem slot (n : ℕ) (hn : n < 8) (inb : ∀ a, (![n, 0, 0] : Fin 3 → ℕ) a + S1x176x1024.size a ≤ S8x176x1024.size a) (r : Fin 176) (l : Fin 1024) :
    shapeCast S176x1024 (View.ld p (Rect.unit (s := S8x176x1024) ![n, 0, 0] S1x176x1024.size inb)) shapeCasts_S1x176x1024_S176x1024 (ix2 r l)
      = p (ix3 (⟨n, hn⟩ : Fin 8) r l) := by
  refine (shapeCast_apply _ _ _ (ix3 (0 : Fin 1) r l) (by rw [Shape.rowMajor_val_three, Shape.rowMajor_val_two]; simp)).trans ?_
  refine congrArg p (funext fun a => Fin.ext ?_)
  match a with
  | ⟨0, _⟩ => show n + 0 * 1 = n; omega
  | ⟨1, _⟩ => show 0 + 1 * r.val = r.val; omega
  | ⟨2, _⟩ => show 0 + 1 * l.val = l.val; omega

theorem parts_at (r : Fin 176) (l : Fin 1024) : k0_pay5 (F := Ideal) p w mo vo (ix2 r l) = ∑ k : Fin 8, p (ix3 k r l) := by
  rw [Fin.sum_univ_eight]
  unfold k0_pay5 k0_pay4
  have add {a b e f : EReal} (h : a = b) (k : e = f) : a + e = b + f := congrArg₂ (· + ·) h k
  exact add (add (add (add (add (add (add (slot p 0 (by decide) inb_S8x176x1024_S1x176x1024_0_0_0 r l) (slot p 1 (by decide) inb_S8x176x1024_S1x176x1024_1_0_0 r l))
    (slot p 2 (by decide) inb_S8x176x1024_S1x176x1024_2_0_0 r l)) (slot p 3 (by decide) inb_S8x176x1024_S1x176x1024_3_0_0 r l))
    (slot p 4 (by decide) inb_S8x176x1024_S1x176x1024_4_0_0 r l)) (slot p 5 (by decide) inb_S8x176x1024_S1x176x1024_5_0_0 r l))
    (slot p 6 (by decide) inb_S8x176x1024_S1x176x1024_6_0_0 r l)) (slot p 7 (by decide) inb_S8x176x1024_S1x176x1024_7_0_0 r l)

theorem pay1_at (g : FVec Ideal S176x1024 .f32) (i : S176x1024.Idx) : k0_pay1 (F := Ideal) g mo i = first (g i) (mo i) := rfl
theorem pay2_at (g : FVec Ideal S176x1024 .f32) (i : S176x1024.Idx) : k0_pay2 (F := Ideal) g vo i = second (g i) (vo i) := rfl
theorem pay3_at (g : FVec Ideal S176x1024 .f32) (i : S176x1024.Idx) : k0_pay3 (F := Ideal) g w mo vo i = change (g i) (w i) (mo i) (vo i) := rfl

theorem block4 : out0_4 p w mo vo = (k0_pay5 p w mo vo : Vec Ideal S176x1024 .f32) := by
  unfold out0_4
  simp only [View.canon_cons_unit_zero (S := S176x1024) z2]

theorem block5 : out0_5 p w mo vo = (k0_pay3 (k0_pay5 p w mo vo) w mo vo : Vec Ideal S176x1024 .f32) := by
  unfold out0_5
  simp only [View.canon_cons_unit_zero (S := S176x1024) z2, View.ld_unit_zero (S := S176x1024) z2]

theorem block6 : out0_6 p w mo vo = (k0_pay1 (k0_pay5 p w mo vo) mo : Vec Ideal S176x1024 .f32) := by
  unfold out0_6
  simp only [View.canon_cons_unit_zero (S := S176x1024) z2, View.ld_unit_zero (S := S176x1024) z2]

theorem block7 : out0_7 p w mo vo = (k0_pay2 (k0_pay5 p w mo vo) vo : Vec Ideal S176x1024 .f32) := by
  unfold out0_7
  simp only [View.canon_cons_unit_zero (S := S176x1024) z2, View.ld_unit_zero (S := S176x1024) z2]

end Block

variable (m : (ℓ : Loc nD τ sig) → Buf (Elt Ideal) ℓ) (c : Dev nD)

abbrev A0 : FVec Ideal S8x352x1024 .f32 := m ((c : Thread nD τ).loc main_arg0)
abbrev A1 : FVec Ideal S352x1024 .f32 := m ((c : Thread nD τ).loc main_arg1)
abbrev A2 : FVec Ideal S352x1024 .f32 := m ((c : Thread nD τ).loc main_arg2)
abbrev A3 : FVec Ideal S352x1024 .f32 := m ((c : Thread nD τ).loc main_arg3)

theorem V_p : V m c main_v0 = (A0 m c : S8x352x1024.Idx → EReal) := by
  show after hostOps0 _ (Proc.devRef .tc main_v0) = _
  after_results
  rfl

theorem parts_index : ∀ t : Fin grid0.N, win0_0.index t = ![0, t.val, 0] := by decide +kernel
theorem tile_index : ∀ t : Fin grid0.N, win0_1.index t = ![t.val, 0] ∧ win0_2.index t = ![t.val, 0] ∧ win0_3.index t = ![t.val, 0]
    ∧ win0_4.index t = ![t.val, 0] ∧ win0_5.index t = ![t.val, 0] ∧ win0_6.index t = ![t.val, 0] ∧ win0_7.index t = ![t.val, 0] := by
  decide +kernel

/-- A tile's row in the whole array. -/
def row (t : Fin cfg0.N) (r : Fin 176) : Fin 352 := ⟨t.val * 176 + r.val, by have := lt_of_lt_of_eq t.isLt (show cfg0.N = 2 from N_0); omega⟩

theorem blk_p (t : Fin cfg0.N) (k : Fin 8) (r : Fin 176) (l : Fin 1024) :
    (iblk m c 0 t : S8x176x1024.Idx → EReal) (ix3 k r l) = A0 m c (ix3 k (row t r) l) := by
  blk_simp [iblk]
  rw [V_p]
  generalize A0 m c = a
  refine congrArg a ?_
  blk_ext [parts_index t, row]

theorem blk_w (t : Fin cfg0.N) (r : Fin 176) (l : Fin 1024) : (iblk m c 1 t : S176x1024.Idx → EReal) (ix2 r l) = A1 m c (ix2 (row t r) l) := by
  blk_simp [iblk]
  rw [V_main_arg1]
  refine congrArg (A1 m c) ?_
  blk_ext [(tile_index t).1, row]

theorem blk_m (t : Fin cfg0.N) (r : Fin 176) (l : Fin 1024) : (iblk m c 2 t : S176x1024.Idx → EReal) (ix2 r l) = A2 m c (ix2 (row t r) l) := by
  blk_simp [iblk]
  rw [V_main_arg2]
  refine congrArg (A2 m c) ?_
  blk_ext [(tile_index t).2.1, row]

theorem blk_v (t : Fin cfg0.N) (r : Fin 176) (l : Fin 1024) : (iblk m c 3 t : S176x1024.Idx → EReal) (ix2 r l) = A3 m c (ix2 (row t r) l) := by
  blk_simp [iblk]
  rw [V_main_arg3]
  refine congrArg (A3 m c) ?_
  blk_ext [(tile_index t).2.2.1, row]

theorem point_g (t : Fin cfg0.N) (r : Fin 176) (l : Fin 1024) :
    (k0_pay5 (iblk m c 0 t) (iblk m c 1 t) (iblk m c 2 t) (iblk m c 3 t) : FVec Ideal S176x1024 .f32) (ix2 r l) = total (A0 m c) (ix2 (row t r) l) := by
  rw [parts_at]
  refine Finset.sum_congr rfl fun k _ => ?_
  rw [blk_p]
  rfl

theorem final_g : (dats m 0 c).arrAt 4 cfg0.N = total (A0 m c) := by
  refine (dats m 0 c).arrAt_eq_of_covers 4 _ (by decide +kernel) fun t hf y => ?_
  blk_simp
  rw [after0_4, block4]
  obtain ⟨r, l, rfl⟩ : ∃ (r : Fin 176) (l : Fin 1024), y = ix2 r l := ⟨y 0, y 1, eq_ix2 y⟩
  refine (point_g m c t r l).trans (congrArg (total (A0 m c)) ?_)
  blk_ext [(tile_index t).2.2.2.1, row]

theorem final_d : (dats m 0 c).arrAt 5 cfg0.N = stepped (total (A0 m c)) (A1 m c) (A2 m c) (A3 m c) := by
  refine (dats m 0 c).arrAt_eq_of_covers 5 _ (by decide +kernel) fun t hf y => ?_
  blk_simp
  rw [after0_5, block5]
  obtain ⟨r, l, rfl⟩ : ∃ (r : Fin 176) (l : Fin 1024), y = ix2 r l := ⟨y 0, y 1, eq_ix2 y⟩
  have e : stepped (total (A0 m c)) (A1 m c) (A2 m c) (A3 m c) (ix2 (row t r) l)
      = (k0_pay3 (k0_pay5 (iblk m c 0 t) (iblk m c 1 t) (iblk m c 2 t) (iblk m c 3 t)) (iblk m c 1 t) (iblk m c 2 t) (iblk m c 3 t)
          : FVec Ideal S176x1024 .f32) (ix2 r l) := by
    rw [pay3_at, point_g, blk_w, blk_m, blk_v]
    rfl
  refine e.symm.trans (congrArg (stepped (total (A0 m c)) (A1 m c) (A2 m c) (A3 m c)) ?_)
  blk_ext [(tile_index t).2.2.2.2.1, row]

theorem final_m : (dats m 0 c).arrAt 6 cfg0.N = firsts (total (A0 m c)) (A2 m c) := by
  refine (dats m 0 c).arrAt_eq_of_covers 6 _ (by decide +kernel) fun t hf y => ?_
  blk_simp
  rw [after0_6, block6]
  obtain ⟨r, l, rfl⟩ : ∃ (r : Fin 176) (l : Fin 1024), y = ix2 r l := ⟨y 0, y 1, eq_ix2 y⟩
  have e : firsts (total (A0 m c)) (A2 m c) (ix2 (row t r) l)
      = (k0_pay1 (k0_pay5 (iblk m c 0 t) (iblk m c 1 t) (iblk m c 2 t) (iblk m c 3 t)) (iblk m c 2 t) : FVec Ideal S176x1024 .f32) (ix2 r l) := by
    rw [pay1_at, point_g, blk_m]
    rfl
  refine e.symm.trans (congrArg (firsts (total (A0 m c)) (A2 m c)) ?_)
  blk_ext [(tile_index t).2.2.2.2.2.1, row]

theorem final_v : (dats m 0 c).arrAt 7 cfg0.N = seconds (total (A0 m c)) (A3 m c) := by
  refine (dats m 0 c).arrAt_eq_of_covers 7 _ (by decide +kernel) fun t hf y => ?_
  blk_simp
  rw [after0_7, block7]
  obtain ⟨r, l, rfl⟩ : ∃ (r : Fin 176) (l : Fin 1024), y = ix2 r l := ⟨y 0, y 1, eq_ix2 y⟩
  have e : seconds (total (A0 m c)) (A3 m c) (ix2 (row t r) l)
      = (k0_pay2 (k0_pay5 (iblk m c 0 t) (iblk m c 1 t) (iblk m c 2 t) (iblk m c 3 t)) (iblk m c 3 t) : FVec Ideal S176x1024 .f32) (ix2 r l) := by
    rw [pay2_at, point_g, blk_v]
    rfl
  refine e.symm.trans (congrArg (seconds (total (A0 m c)) (A3 m c)) ?_)
  blk_ext [(tile_index t).2.2.2.2.2.2, row]

end Cert.DownIdeal.Value

/-! ## The reference -/

namespace Cert.DownRefIdeal.Value

open Cert.DownRefIdeal Cert.DownRefIdeal.Gen Idealize.ShloMosaic Cert.DownRefIdeal.Read Cert.AdaSpec Cert.DownSpec

variable (p : FVec Ideal S8x352x1024 .f32) (w mo vo : FVec Ideal S352x1024 .f32)

theorem total_eq : val_main_v0 (F := Ideal) p = total p := by
  funext i
  rw [val_main_v0_apply, val_main_cst_apply]
  refine (congrArg (· + _) (Ideal.ofBits_zero_f32 : Ideal.ofBits .f32 0x00000000#32 = (0 : EReal))).trans ((zero_add _).trans ?_)
  exact Finset.sum_congr rfl fun k _ => congrArg p (eq_ix3 _)

theorem first_eq : val_main_v5 (F := Ideal) p mo = firsts (total p) mo := by
  funext i
  rw [← total_eq, val_main_v5_apply, val_main_v4_apply, val_main_v3_apply, val_main_v2_apply, val_main_v1_apply]
  rfl

theorem second_eq : val_main_v11 (F := Ideal) p vo = seconds (total p) vo := by
  funext i
  rw [← total_eq, val_main_v11_apply, val_main_v10_apply, val_main_v9_apply, val_main_v8_apply, val_main_v7_apply, val_main_v6_apply]
  rfl

theorem change_eq : val_main_v24 (F := Ideal) p w mo vo = stepped (total p) w mo vo := by
  funext i
  rw [val_main_v24_apply, val_main_v23_apply, val_main_v22_apply, val_main_v21_apply, val_main_v20_apply, val_main_v19_apply, val_main_v18_apply,
    val_main_v17_apply, val_main_v16_apply, val_main_v15_apply, val_main_v14_apply, val_main_v13_apply, val_main_v12_apply, first_eq, second_eq]
  rfl

end Cert.DownRefIdeal.Value

namespace Cert.DownIdeal

open Idealize.ShloMosaic Idealize.ShloMosaic.TcCoe Idealize.SL.Sem Cert.DownIdeal.Value
open Cert.DownRefIdeal.Read Cert.DownRefIdeal.Value

/-- Over the extended reals the call and its reference leave the same four arrays. -/
theorem algebraic : Cert.algebraic_DownIdeal_DownRefIdeal (hDownIdeal := Gen.facts) (hDownRefIdeal := DownRefIdeal.Gen.facts) := by
  intro m g m' g' _ h
  refine ⟨fun c => (Gen.dats m 0 c).arrAt 4 cfg0.N, fun c => (Gen.dats m 0 c).arrAt 5 cfg0.N, fun c => (Gen.dats m 0 c).arrAt 6 cfg0.N,
    fun c => (Gen.dats m 0 c).arrAt 7 cfg0.N, Value.run_blocks m g, ?_⟩
  refine (DownRefIdeal.Value.run m' g').mono fun r hr c => ?_
  obtain ⟨k0, k1, k2, k3, hargs⟩ := hr c
  obtain ⟨e0, e1, e2, e3⟩ := h c
  rw [val_main_v0_eq, e0, total_eq] at k0
  rw [val_main_v24_eq, e0, e1, e2, e3, change_eq] at k1
  rw [val_main_v5_eq, e0, e2, first_eq] at k2
  rw [val_main_v11_eq, e0, e3, second_eq] at k3
  exact ⟨k0.trans (final_g m c).symm, k1.trans (final_d m c).symm, k2.trans (final_m m c).symm, k3.trans (final_v m c).symm, hargs⟩

end Cert.DownIdeal

namespace Cert.DownRefIdeal.Value

open Idealize.ShloMosaic Idealize.ShloMosaic.TcCoe Idealize.SL.Sem

/-- The reference terminates and leaves its arguments as they were. -/
theorem frame : Cert.quiescent_DownRefIdeal (hDownRefIdeal := DownRefIdeal.Gen.facts) := fun m ρ _ =>
  (θ_run DownRefIdeal.defs _ _).mono (fun r hr => ⟨fun c => (hr c).2.2.2.2, sem_eq_zero_of_no_sems (by decide) r.2⟩) (run m ρ)

end Cert.DownRefIdeal.Value

end
-- ==== Proof.lean ====
module

public import proofs.«01_k».proof.Defs
public import proofs.«01_k».proof.Proof.Gen.Din
public import proofs.«01_k».proof.Proof.Gen.Din.Skeleton
public import proofs.«01_k».proof.Proof.Gen.Din.Launch
public import proofs.«01_k».proof.Proof.Gen.Din.Points
public import proofs.«01_k».proof.Proof.Gen.Din.Frame
public import proofs.«01_k».proof.Proof.Gen.DinIdeal
public import proofs.«01_k».proof.Proof.Gen.DinIdeal.Skeleton
public import proofs.«01_k».proof.Proof.Gen.DinIdeal.Launch
public import proofs.«01_k».proof.Proof.Gen.DinIdeal.Points
public import proofs.«01_k».proof.Proof.Gen.DinIdeal.Frame
public import proofs.«01_k».proof.Proof.Gen.DinRefIdeal
public import proofs.«01_k».proof.Proof.DinValue
public import proofs.«01_k».proof.Proof.FfnValue
public import proofs.«01_k».proof.Proof.TableValue
public import proofs.«01_k».proof.Proof.BackValue
public import proofs.«01_k».proof.Proof.FwdValue
public import proofs.«01_k».proof.Proof.OutpValue
public import proofs.«01_k».proof.Proof.InpValue
public import proofs.«01_k».proof.Proof.BiasValue
public import proofs.«01_k».proof.Proof.ModuValue
public import proofs.«01_k».proof.Proof.AdaValue
public import proofs.«01_k».proof.Proof.WgradValue
public import proofs.«01_k».proof.Proof.DownValue
public import Idealize.ShloMosaic.Adequacy
public import Idealize.ShloMosaic.Init

@[expose] public section

noncomputable section

namespace Cert.Proof

open Idealize.ShloMosaic Idealize.SL.Sem Cert.Din

theorem claim : Cert.Claim := ⟨Cert.Din.Gen.facts, Cert.DinIdeal.Gen.facts, Cert.DinRefIdeal.Gen.facts, Cert.Ffn.Gen.facts,
  Cert.FfnIdeal.Gen.facts, Cert.FfnRefIdeal.Gen.facts, Cert.Table.Gen.facts, Cert.TableIdeal.Gen.facts, Cert.TableRefIdeal.Gen.facts,
  Cert.Back.Gen.facts, Cert.BackIdeal.Gen.facts, Cert.BackRefIdeal.Gen.facts,
  Cert.MixFwd.Gen.facts, Cert.MixFwdIdeal.Gen.facts, Cert.MixFwdRefIdeal.Gen.facts,
  Cert.Outp.Gen.facts, Cert.OutpIdeal.Gen.facts, Cert.OutpRefIdeal.Gen.facts,
  Cert.Inp.Gen.facts, Cert.InpIdeal.Gen.facts, Cert.InpRefIdeal.Gen.facts,
  Cert.Bias.Gen.facts, Cert.BiasIdeal.Gen.facts, Cert.BiasRefIdeal.Gen.facts,
  Cert.Modu.Gen.facts, Cert.ModuIdeal.Gen.facts, Cert.ModuRefIdeal.Gen.facts,
  Cert.Ada.Gen.facts, Cert.AdaIdeal.Gen.facts, Cert.AdaRefIdeal.Gen.facts,
  Cert.Wgrad.Gen.facts, Cert.WgradIdeal.Gen.facts, Cert.WgradRefIdeal.Gen.facts,
  Cert.Down.Gen.facts, Cert.DownIdeal.Gen.facts, Cert.DownRefIdeal.Gen.facts,
  Cert.Pre_ffn_finite.Gen.facts, Cert.Pre_back_finite.Gen.facts, Cert.Pre_mix_finite.Gen.facts,
  fun m ρ _ => Cert.Din.Gen.frame m ρ, fun m ρ _ => Cert.DinIdeal.Gen.frame m ρ, Cert.DinRefIdeal.Value.frame,
  fun m ρ _ => Cert.Ffn.Gen.frame m ρ, fun m ρ _ => Cert.FfnIdeal.Gen.frame m ρ, fun m ρ _ => Cert.FfnIdeal.Gen.frame m ρ,
  Cert.FfnRefIdeal.Value.frame, fun m ρ _ => Cert.FfnRefIdeal.Value.frame m ρ trivial,
  fun m ρ _ => Cert.Table.Gen.frame m ρ, fun m ρ _ => Cert.TableIdeal.Gen.frame m ρ, Cert.TableRefIdeal.Value.frame,
  Cert.BackIdeal.frame_kernel, Cert.BackIdeal.frame, fun m ρ _ => Cert.BackIdeal.frame m ρ trivial,
  Cert.BackRefIdeal.Value.frame, fun m ρ _ => Cert.BackRefIdeal.Value.frame m ρ trivial,
  fun m ρ _ => Cert.MixFwd.Gen.frame m ρ, fun m ρ _ => Cert.MixFwdIdeal.Gen.frame m ρ, fun m ρ _ => Cert.MixFwdIdeal.Gen.frame m ρ,
  Cert.MixFwdRefIdeal.Value.frame, fun m ρ _ => Cert.MixFwdRefIdeal.Value.frame m ρ trivial,
  fun m ρ _ => Cert.Outp.Gen.frame m ρ, fun m ρ _ => Cert.OutpIdeal.Gen.frame m ρ, Cert.OutpRefIdeal.Value.frame,
  fun m ρ _ => Cert.Inp.Gen.frame m ρ, fun m ρ _ => Cert.InpIdeal.Gen.frame m ρ, Cert.InpRefIdeal.Value.frame,
  fun m ρ _ => Cert.Bias.Gen.frame m ρ, fun m ρ _ => Cert.BiasIdeal.Gen.frame m ρ, Cert.BiasRefIdeal.Value.frame,
  fun m ρ _ => Cert.Modu.Gen.frame m ρ, fun m ρ _ => Cert.ModuIdeal.Gen.frame m ρ, Cert.ModuRefIdeal.Value.frame,
  fun m ρ _ => Cert.Ada.Gen.frame m ρ, fun m ρ _ => Cert.AdaIdeal.Gen.frame m ρ, Cert.AdaRefIdeal.Value.frame,
  fun m ρ _ => Cert.Wgrad.Gen.frame m ρ, fun m ρ _ => Cert.WgradIdeal.Gen.frame m ρ, Cert.WgradRefIdeal.Value.frame,
  fun m ρ _ => Cert.Down.Gen.frame m ρ, fun m ρ _ => Cert.DownIdeal.Gen.frame m ρ, Cert.DownRefIdeal.Value.frame,
  trivial, Cert.DinIdeal.algebraic, trivial, Cert.FfnIdeal.algebraic, trivial, Cert.TableIdeal.algebraic,
  trivial, Cert.BackIdeal.algebraic, Cert.MixFwdIdeal.preserves, Cert.MixFwdIdeal.algebraic,
  trivial, Cert.OutpIdeal.algebraic, trivial, Cert.InpIdeal.algebraic, trivial, Cert.BiasIdeal.algebraic,
  trivial, Cert.ModuIdeal.algebraic,
  trivial, Cert.AdaIdeal.algebraic,
  trivial, Cert.WgradIdeal.algebraic,
  trivial, Cert.DownIdeal.algebraic⟩

end Cert.Proof

end
